-- ==== Defs.lean ====
def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_sb_finite [hPre_sb_finite : Cert.Pre_sb_finite.Facts] (m : (ℓ : Loc Cert.StickIdeal.nD Cert.StickIdeal.τ Cert.StickIdeal.sig) → Buf (Elt Ideal) ℓ) : Prop :=
  ∀ c : Dev Cert.StickIdeal.nD,
    (Cert.Pre_sb_finite.fn (F := Ideal) (m ((c.tc : Thread Cert.StickIdeal.nD Cert.StickIdeal.τ).loc Cert.StickIdeal.main_arg0))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_sb_finite [hPre_sb_finite : Cert.Pre_sb_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_sb_finite.fn (F := Ideal) (m ((c.tc : Thread Cert.StickRefIdeal.nD Cert.StickRefIdeal.τ).loc Cert.StickRefIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyRefIdeal (m : (ℓ : Loc Cert.KeyRefIdeal.nD Cert.KeyRefIdeal.τ Cert.KeyRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Recall (m : (ℓ : Loc Cert.Recall.nD Cert.Recall.τ Cert.Recall.sig) → Buf (Elt Bits) ℓ) : Prop :=
  True

def Pre_RecallIdeal (m : (ℓ : Loc Cert.RecallIdeal.nD Cert.RecallIdeal.τ Cert.RecallIdeal.sig) → Buf (Elt Ideal) ℓ) : Prop :=
  True

def Pre_RecallIdeal_mem_finite [hPre_mem_finite : Cert.Pre_mem_finite.Facts] (m : (ℓ : Loc Cert.RecallIdeal.nD Cert.RecallIdeal.τ Cert.RecallIdeal.sig) → Buf (Elt Ideal) ℓ) : Prop :=
  ∀ c : Dev Cert.RecallIdeal.nD,
    (Cert.Pre_mem_finite.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1))) = (fun _ => 1#1)

def Pre_RecallRefIdeal (m : (ℓ : Loc Cert.RecallRefIdeal.nD Cert.RecallRefIdeal.τ Cert.RecallRefIdeal.sig) → Buf (Elt Ideal) ℓ) : Prop :=
  True

def Pre_RecallRefIdeal_mem_finite [hPre_mem_finite : Cert.Pre_mem_finite.Facts] (m : (ℓ : Loc Cert.RecallRefIdeal.nD Cert.RecallRefIdeal.τ Cert.RecallRefIdeal.sig) → Buf (Elt Ideal) ℓ) : Prop :=
  ∀ c : Dev Cert.RecallRefIdeal.nD,
    (Cert.Pre_mem_finite.fn (F := Ideal) (m ((c.tc : Thread Cert.RecallRefIdeal.nD Cert.RecallRefIdeal.τ).loc Cert.RecallRefIdeal.main_arg0)) (m ((c.tc : Thread Cert.RecallRefIdeal.nD Cert.RecallRefIdeal.τ).loc Cert.RecallRefIdeal.main_arg1))) = (fun _ => 1#1)

def Pre_RecallW (m : (ℓ : Loc Cert.RecallW.nD Cert.RecallW.τ Cert.RecallW.sig) → Buf (Elt Bits) ℓ) : Prop :=
  True

def Pre_RecallWIdeal (m : (ℓ : Loc Cert.RecallWIdeal.nD Cert.RecallWIdeal.τ Cert.RecallWIdeal.sig) → Buf (Elt Ideal) ℓ) : Prop :=
  True

def Pre_RecallWIdeal_mem_w_finite [hPre_mem_w_finite : Cert.Pre_mem_w_finite.Facts] (m : (ℓ : Loc Cert.RecallWIdeal.nD Cert.RecallWIdeal.τ Cert.RecallWIdeal.sig) → Buf (Elt Ideal) ℓ) : Prop :=
  ∀ c : Dev Cert.RecallWIdeal.nD,
    (Cert.Pre_mem_w_finite.fn (F := Ideal) (m ((c.tc : Thread Cert.RecallWIdeal.nD Cert.RecallWIdeal.τ).loc Cert.RecallWIdeal.main_arg0)) (m ((c.tc : Thread Cert.RecallWIdeal.nD Cert.RecallWIdeal.τ).loc Cert.RecallWIdeal.main_arg1))) = (fun _ => 1#1)

def Pre_RecallWRefIdeal (m : (ℓ : Loc Cert.RecallWRefIdeal.nD Cert.RecallWRefIdeal.τ Cert.RecallWRefIdeal.sig) → Buf (Elt Ideal) ℓ) : Prop :=
  True

def Pre_RecallWRefIdeal_mem_w_finite [hPre_mem_w_finite : Cert.Pre_mem_w_finite.Facts] (m : (ℓ : Loc Cert.RecallWRefIdeal.nD Cert.RecallWRefIdeal.τ Cert.RecallWRefIdeal.sig) → Buf (Elt Ideal) ℓ) : Prop :=
  ∀ c : Dev Cert.RecallWRefIdeal.nD,
    (Cert.Pre_mem_w_finite.fn (F := Ideal) (m ((c.tc : Thread Cert.RecallWRefIdeal.nD Cert.RecallWRefIdeal.τ).loc Cert.RecallWRefIdeal.main_arg0)) (m ((c.tc : Thread Cert.RecallWRefIdeal.nD Cert.RecallWRefIdeal.τ).loc Cert.RecallWRefIdeal.main_arg1))) = (fun _ => 1#1)

def Pre_RecallL (m : (ℓ : Loc Cert.RecallL.nD Cert.RecallL.τ Cert.RecallL.sig) → Buf (Elt Bits) ℓ) : Prop :=
  True

def Pre_RecallLIdeal (m : (ℓ : Loc Cert.RecallLIdeal.nD Cert.RecallLIdeal.τ Cert.RecallLIdeal.sig) → Buf (Elt Ideal) ℓ) : Prop :=
  True

def Pre_RecallLIdeal_mem_l_finite [hPre_mem_l_finite : Cert.Pre_mem_l_finite.Facts] (m : (ℓ : Loc Cert.RecallLIdeal.nD Cert.RecallLIdeal.τ Cert.RecallLIdeal.sig) → Buf (Elt Ideal) ℓ) : Prop :=
  ∀ c : Dev Cert.RecallLIdeal.nD,
    (Cert.Pre_mem_l_finite.fn (F := Ideal) (m ((c.tc : Thread Cert.RecallLIdeal.nD Cert.RecallLIdeal.τ).loc Cert.RecallLIdeal.main_arg0)) (m ((c.tc : Thread Cert.RecallLIdeal.nD Cert.RecallLIdeal.τ).loc Cert.RecallLIdeal.main_arg1))) = (fun _ => 1#1)

def Pre_RecallLRefIdeal (m : (ℓ : Loc Cert.RecallLRefIdeal.nD Cert.RecallLRefIdeal.τ Cert.RecallLRefIdeal.sig) → Buf (Elt Ideal) ℓ) : Prop :=
  True

def Pre_RecallLRefIdeal_mem_l_finite [hPre_mem_l_finite : Cert.Pre_mem_l_finite.Facts] (m : (ℓ : Loc Cert.RecallLRefIdeal.nD Cert.RecallLRefIdeal.τ Cert.RecallLRefIdeal.sig) → Buf (Elt Ideal) ℓ) : Prop :=
  ∀ c : Dev Cert.RecallLRefIdeal.nD,
    (Cert.Pre_mem_l_finite.fn (F := Ideal) (m ((c.tc : Thread Cert.RecallLRefIdeal.nD Cert.RecallLRefIdeal.τ).loc Cert.RecallLRefIdeal.main_arg0)) (m ((c.tc : Thread Cert.RecallLRefIdeal.nD Cert.RecallLRefIdeal.τ).loc Cert.RecallLRefIdeal.main_arg1))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickIdeal_pre_sb_finite [hStickIdeal : Cert.StickIdeal.Facts] [hPre_sb_finite : Cert.Pre_sb_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_sb_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_StickRefIdeal_pre_sb_finite [hStickRefIdeal : Cert.StickRefIdeal.Facts] [hPre_sb_finite : Cert.Pre_sb_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_sb_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1)
      ∧ r.2.mem ((c.tc : Thread Cert.Key.nD Cert.Key.τ).loc Cert.Key.main_arg2) = m ((c.tc : Thread Cert.Key.nD Cert.Key.τ).loc Cert.Key.main_arg2))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
      ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1)
      ∧ r.2.mem ((c.tc : Thread Cert.KeyRefIdeal.nD Cert.KeyRefIdeal.τ).loc Cert.KeyRefIdeal.main_arg2) = m ((c.tc : Thread Cert.KeyRefIdeal.nD Cert.KeyRefIdeal.τ).loc Cert.KeyRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_Recall [hRecall : Cert.Recall.Facts] : Prop :=
  ∀ (m : (ℓ : Loc Cert.Recall.nD Cert.Recall.τ Cert.Recall.sig) → Buf (Elt Bits) ℓ) (g : Dev Cert.Recall.nD → PrngReg), Pre_Recall m →
    θ_run (Cert.Recall.defs (F := Bits)) (onTc (τ := Cert.Recall.τ) (Cert.Recall.main (F := Bits))) ⟨m, fun _ => 0, g⟩ (fun r => (∀ c : Dev Cert.Recall.nD,
      r.2.mem ((c.tc : Thread Cert.Recall.nD Cert.Recall.τ).loc Cert.Recall.main_arg0) = m ((c.tc : Thread Cert.Recall.nD Cert.Recall.τ).loc Cert.Recall.main_arg0)
      ∧ r.2.mem ((c.tc : Thread Cert.Recall.nD Cert.Recall.τ).loc Cert.Recall.main_arg1) = m ((c.tc : Thread Cert.Recall.nD Cert.Recall.τ).loc Cert.Recall.main_arg1))
      ∧ r.2.sem = fun _ => 0)

def quiescent_RecallIdeal [hRecallIdeal : Cert.RecallIdeal.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ r.2.sem = fun _ => 0)

def quiescent_RecallIdeal_pre_mem_finite [hRecallIdeal : Cert.RecallIdeal.Facts] [hPre_mem_finite : Cert.Pre_mem_finite.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal_mem_finite m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ r.2.sem = fun _ => 0)

def quiescent_RecallRefIdeal [hRecallRefIdeal : Cert.RecallRefIdeal.Facts] : Prop :=
  ∀ (m : (ℓ : Loc Cert.RecallRefIdeal.nD Cert.RecallRefIdeal.τ Cert.RecallRefIdeal.sig) → Buf (Elt Ideal) ℓ) (g : Dev Cert.RecallRefIdeal.nD → PrngReg), Pre_RecallRefIdeal m →
    θ_run (Cert.RecallRefIdeal.defs (F := Ideal)) (onTc (τ := Cert.RecallRefIdeal.τ) (Cert.RecallRefIdeal.main (F := Ideal))) ⟨m, fun _ => 0, g⟩ (fun r => (∀ c : Dev Cert.RecallRefIdeal.nD,
      r.2.mem ((c.tc : Thread Cert.RecallRefIdeal.nD Cert.RecallRefIdeal.τ).loc Cert.RecallRefIdeal.main_arg0) = m ((c.tc : Thread Cert.RecallRefIdeal.nD Cert.RecallRefIdeal.τ).loc Cert.RecallRefIdeal.main_arg0)
      ∧ r.2.mem ((c.tc : Thread Cert.RecallRefIdeal.nD Cert.RecallRefIdeal.τ).loc Cert.RecallRefIdeal.main_arg1) = m ((c.tc : Thread Cert.RecallRefIdeal.nD Cert.RecallRefIdeal.τ).loc Cert.RecallRefIdeal.main_arg1))
      ∧ r.2.sem = fun _ => 0)

def quiescent_RecallRefIdeal_pre_mem_finite [hRecallRefIdeal : Cert.RecallRefIdeal.Facts] [hPre_mem_finite : Cert.Pre_mem_finite.Facts] : Prop :=
  ∀ (m : (ℓ : Loc Cert.RecallRefIdeal.nD Cert.RecallRefIdeal.τ Cert.RecallRefIdeal.sig) → Buf (Elt Ideal) ℓ) (g : Dev Cert.RecallRefIdeal.nD → PrngReg), Pre_RecallRefIdeal_mem_finite m →
    θ_run (Cert.RecallRefIdeal.defs (F := Ideal)) (onTc (τ := Cert.RecallRefIdeal.τ) (Cert.RecallRefIdeal.main (F := Ideal))) ⟨m, fun _ => 0, g⟩ (fun r => (∀ c : Dev Cert.RecallRefIdeal.nD,
      r.2.mem ((c.tc : Thread Cert.RecallRefIdeal.nD Cert.RecallRefIdeal.τ).loc Cert.RecallRefIdeal.main_arg0) = m ((c.tc : Thread Cert.RecallRefIdeal.nD Cert.RecallRefIdeal.τ).loc Cert.RecallRefIdeal.main_arg0)
      ∧ r.2.mem ((c.tc : Thread Cert.RecallRefIdeal.nD Cert.RecallRefIdeal.τ).loc Cert.RecallRefIdeal.main_arg1) = m ((c.tc : Thread Cert.RecallRefIdeal.nD Cert.RecallRefIdeal.τ).loc Cert.RecallRefIdeal.main_arg1))
      ∧ r.2.sem = fun _ => 0)

def quiescent_RecallW [hRecallW : Cert.RecallW.Facts] : Prop :=
  ∀ (m : (ℓ : Loc Cert.RecallW.nD Cert.RecallW.τ Cert.RecallW.sig) → Buf (Elt Bits) ℓ) (g : Dev Cert.RecallW.nD → PrngReg), Pre_RecallW m →
    θ_run (Cert.RecallW.defs (F := Bits)) (onTc (τ := Cert.RecallW.τ) (Cert.RecallW.main (F := Bits))) ⟨m, fun _ => 0, g⟩ (fun r => (∀ c : Dev Cert.RecallW.nD,
      r.2.mem ((c.tc : Thread Cert.RecallW.nD Cert.RecallW.τ).loc Cert.RecallW.main_arg0) = m ((c.tc : Thread Cert.RecallW.nD Cert.RecallW.τ).loc Cert.RecallW.main_arg0)
      ∧ r.2.mem ((c.tc : Thread Cert.RecallW.nD Cert.RecallW.τ).loc Cert.RecallW.main_arg1) = m ((c.tc : Thread Cert.RecallW.nD Cert.RecallW.τ).loc Cert.RecallW.main_arg1))
      ∧ r.2.sem = fun _ => 0)

def quiescent_RecallWIdeal [hRecallWIdeal : Cert.RecallWIdeal.Facts] : Prop :=
  ∀ (m : (ℓ : Loc Cert.RecallWIdeal.nD Cert.RecallWIdeal.τ Cert.RecallWIdeal.sig) → Buf (Elt Ideal) ℓ) (g : Dev Cert.RecallWIdeal.nD → PrngReg), Pre_RecallWIdeal m →
    θ_run (Cert.RecallWIdeal.defs (F := Ideal)) (onTc (τ := Cert.RecallWIdeal.τ) (Cert.RecallWIdeal.main (F := Ideal))) ⟨m, fun _ => 0, g⟩ (fun r => (∀ c : Dev Cert.RecallWIdeal.nD,
      r.2.mem ((c.tc : Thread Cert.RecallWIdeal.nD Cert.RecallWIdeal.τ).loc Cert.RecallWIdeal.main_arg0) = m ((c.tc : Thread Cert.RecallWIdeal.nD Cert.RecallWIdeal.τ).loc Cert.RecallWIdeal.main_arg0)
      ∧ r.2.mem ((c.tc : Thread Cert.RecallWIdeal.nD Cert.RecallWIdeal.τ).loc Cert.RecallWIdeal.main_arg1) = m ((c.tc : Thread Cert.RecallWIdeal.nD Cert.RecallWIdeal.τ).loc Cert.RecallWIdeal.main_arg1))
      ∧ r.2.sem = fun _ => 0)

def quiescent_RecallWIdeal_pre_mem_w_finite [hRecallWIdeal : Cert.RecallWIdeal.Facts] [hPre_mem_w_finite : Cert.Pre_mem_w_finite.Facts] : Prop :=
  ∀ (m : (ℓ : Loc Cert.RecallWIdeal.nD Cert.RecallWIdeal.τ Cert.RecallWIdeal.sig) → Buf (Elt Ideal) ℓ) (g : Dev Cert.RecallWIdeal.nD → PrngReg), Pre_RecallWIdeal_mem_w_finite m →
    θ_run (Cert.RecallWIdeal.defs (F := Ideal)) (onTc (τ := Cert.RecallWIdeal.τ) (Cert.RecallWIdeal.main (F := Ideal))) ⟨m, fun _ => 0, g⟩ (fun r => (∀ c : Dev Cert.RecallWIdeal.nD,
      r.2.mem ((c.tc : Thread Cert.RecallWIdeal.nD Cert.RecallWIdeal.τ).loc Cert.RecallWIdeal.main_arg0) = m ((c.tc : Thread Cert.RecallWIdeal.nD Cert.RecallWIdeal.τ).loc Cert.RecallWIdeal.main_arg0)
      ∧ r.2.mem ((c.tc : Thread Cert.RecallWIdeal.nD Cert.RecallWIdeal.τ).loc Cert.RecallWIdeal.main_arg1) = m ((c.tc : Thread Cert.RecallWIdeal.nD Cert.RecallWIdeal.τ).loc Cert.RecallWIdeal.main_arg1))
      ∧ r.2.sem = fun _ => 0)

def quiescent_RecallWRefIdeal [hRecallWRefIdeal : Cert.RecallWRefIdeal.Facts] : Prop :=
  ∀ (m : (ℓ : Loc Cert.RecallWRefIdeal.nD Cert.RecallWRefIdeal.τ Cert.RecallWRefIdeal.sig) → Buf (Elt Ideal) ℓ) (g : Dev Cert.RecallWRefIdeal.nD → PrngReg), Pre_RecallWRefIdeal m →
    θ_run (Cert.RecallWRefIdeal.defs (F := Ideal)) (onTc (τ := Cert.RecallWRefIdeal.τ) (Cert.RecallWRefIdeal.main (F := Ideal))) ⟨m, fun _ => 0, g⟩ (fun r => (∀ c : Dev Cert.RecallWRefIdeal.nD,
      r.2.mem ((c.tc : Thread Cert.RecallWRefIdeal.nD Cert.RecallWRefIdeal.τ).loc Cert.RecallWRefIdeal.main_arg0) = m ((c.tc : Thread Cert.RecallWRefIdeal.nD Cert.RecallWRefIdeal.τ).loc Cert.RecallWRefIdeal.main_arg0)
      ∧ r.2.mem ((c.tc : Thread Cert.RecallWRefIdeal.nD Cert.RecallWRefIdeal.τ).loc Cert.RecallWRefIdeal.main_arg1) = m ((c.tc : Thread Cert.RecallWRefIdeal.nD Cert.RecallWRefIdeal.τ).loc Cert.RecallWRefIdeal.main_arg1))
      ∧ r.2.sem = fun _ => 0)

def quiescent_RecallWRefIdeal_pre_mem_w_finite [hRecallWRefIdeal : Cert.RecallWRefIdeal.Facts] [hPre_mem_w_finite : Cert.Pre_mem_w_finite.Facts] : Prop :=
  ∀ (m : (ℓ : Loc Cert.RecallWRefIdeal.nD Cert.RecallWRefIdeal.τ Cert.RecallWRefIdeal.sig) → Buf (Elt Ideal) ℓ) (g : Dev Cert.RecallWRefIdeal.nD → PrngReg), Pre_RecallWRefIdeal_mem_w_finite m →
    θ_run (Cert.RecallWRefIdeal.defs (F := Ideal)) (onTc (τ := Cert.RecallWRefIdeal.τ) (Cert.RecallWRefIdeal.main (F := Ideal))) ⟨m, fun _ => 0, g⟩ (fun r => (∀ c : Dev Cert.RecallWRefIdeal.nD,
      r.2.mem ((c.tc : Thread Cert.RecallWRefIdeal.nD Cert.RecallWRefIdeal.τ).loc Cert.RecallWRefIdeal.main_arg0) = m ((c.tc : Thread Cert.RecallWRefIdeal.nD Cert.RecallWRefIdeal.τ).loc Cert.RecallWRefIdeal.main_arg0)
      ∧ r.2.mem ((c.tc : Thread Cert.RecallWRefIdeal.nD Cert.RecallWRefIdeal.τ).loc Cert.RecallWRefIdeal.main_arg1) = m ((c.tc : Thread Cert.RecallWRefIdeal.nD Cert.RecallWRefIdeal.τ).loc Cert.RecallWRefIdeal.main_arg1))
      ∧ r.2.sem = fun _ => 0)

def quiescent_RecallL [hRecallL : Cert.RecallL.Facts] : Prop :=
  ∀ (m : (ℓ : Loc Cert.RecallL.nD Cert.RecallL.τ Cert.RecallL.sig) → Buf (Elt Bits) ℓ) (g : Dev Cert.RecallL.nD → PrngReg), Pre_RecallL m →
    θ_run (Cert.RecallL.defs (F := Bits)) (onTc (τ := Cert.RecallL.τ) (Cert.RecallL.main (F := Bits))) ⟨m, fun _ => 0, g⟩ (fun r => (∀ c : Dev Cert.RecallL.nD,
      r.2.mem ((c.tc : Thread Cert.RecallL.nD Cert.RecallL.τ).loc Cert.RecallL.main_arg0) = m ((c.tc : Thread Cert.RecallL.nD Cert.RecallL.τ).loc Cert.RecallL.main_arg0)
      ∧ r.2.mem ((c.tc : Thread Cert.RecallL.nD Cert.RecallL.τ).loc Cert.RecallL.main_arg1) = m ((c.tc : Thread Cert.RecallL.nD Cert.RecallL.τ).loc Cert.RecallL.main_arg1))
      ∧ r.2.sem = fun _ => 0)

def quiescent_RecallLIdeal [hRecallLIdeal : Cert.RecallLIdeal.Facts] : Prop :=
  ∀ (m : (ℓ : Loc Cert.RecallLIdeal.nD Cert.RecallLIdeal.τ Cert.RecallLIdeal.sig) → Buf (Elt Ideal) ℓ) (g : Dev Cert.RecallLIdeal.nD → PrngReg), Pre_RecallLIdeal m →
    θ_run (Cert.RecallLIdeal.defs (F := Ideal)) (onTc (τ := Cert.RecallLIdeal.τ) (Cert.RecallLIdeal.main (F := Ideal))) ⟨m, fun _ => 0, g⟩ (fun r => (∀ c : Dev Cert.RecallLIdeal.nD,
      r.2.mem ((c.tc : Thread Cert.RecallLIdeal.nD Cert.RecallLIdeal.τ).loc Cert.RecallLIdeal.main_arg0) = m ((c.tc : Thread Cert.RecallLIdeal.nD Cert.RecallLIdeal.τ).loc Cert.RecallLIdeal.main_arg0)
      ∧ r.2.mem ((c.tc : Thread Cert.RecallLIdeal.nD Cert.RecallLIdeal.τ).loc Cert.RecallLIdeal.main_arg1) = m ((c.tc : Thread Cert.RecallLIdeal.nD Cert.RecallLIdeal.τ).loc Cert.RecallLIdeal.main_arg1))
      ∧ r.2.sem = fun _ => 0)

def quiescent_RecallLIdeal_pre_mem_l_finite [hRecallLIdeal : Cert.RecallLIdeal.Facts] [hPre_mem_l_finite : Cert.Pre_mem_l_finite.Facts] : Prop :=
  ∀ (m : (ℓ : Loc Cert.RecallLIdeal.nD Cert.RecallLIdeal.τ Cert.RecallLIdeal.sig) → Buf (Elt Ideal) ℓ) (g : Dev Cert.RecallLIdeal.nD → PrngReg), Pre_RecallLIdeal_mem_l_finite m →
    θ_run (Cert.RecallLIdeal.defs (F := Ideal)) (onTc (τ := Cert.RecallLIdeal.τ) (Cert.RecallLIdeal.main (F := Ideal))) ⟨m, fun _ => 0, g⟩ (fun r => (∀ c : Dev Cert.RecallLIdeal.nD,
      r.2.mem ((c.tc : Thread Cert.RecallLIdeal.nD Cert.RecallLIdeal.τ).loc Cert.RecallLIdeal.main_arg0) = m ((c.tc : Thread Cert.RecallLIdeal.nD Cert.RecallLIdeal.τ).loc Cert.RecallLIdeal.main_arg0)
      ∧ r.2.mem ((c.tc : Thread Cert.RecallLIdeal.nD Cert.RecallLIdeal.τ).loc Cert.RecallLIdeal.main_arg1) = m ((c.tc : Thread Cert.RecallLIdeal.nD Cert.RecallLIdeal.τ).loc Cert.RecallLIdeal.main_arg1))
      ∧ r.2.sem = fun _ => 0)

def quiescent_RecallLRefIdeal [hRecallLRefIdeal : Cert.RecallLRefIdeal.Facts] : Prop :=
  ∀ (m : (ℓ : Loc Cert.RecallLRefIdeal.nD Cert.RecallLRefIdeal.τ Cert.RecallLRefIdeal.sig) → Buf (Elt Ideal) ℓ) (g : Dev Cert.RecallLRefIdeal.nD → PrngReg), Pre_RecallLRefIdeal m →
    θ_run (Cert.RecallLRefIdeal.defs (F := Ideal)) (onTc (τ := Cert.RecallLRefIdeal.τ) (Cert.RecallLRefIdeal.main (F := Ideal))) ⟨m, fun _ => 0, g⟩ (fun r => (∀ c : Dev Cert.RecallLRefIdeal.nD,
      r.2.mem ((c.tc : Thread Cert.RecallLRefIdeal.nD Cert.RecallLRefIdeal.τ).loc Cert.RecallLRefIdeal.main_arg0) = m ((c.tc : Thread Cert.RecallLRefIdeal.nD Cert.RecallLRefIdeal.τ).loc Cert.RecallLRefIdeal.main_arg0)
      ∧ r.2.mem ((c.tc : Thread Cert.RecallLRefIdeal.nD Cert.RecallLRefIdeal.τ).loc Cert.RecallLRefIdeal.main_arg1) = m ((c.tc : Thread Cert.RecallLRefIdeal.nD Cert.RecallLRefIdeal.τ).loc Cert.RecallLRefIdeal.main_arg1))
      ∧ r.2.sem = fun _ => 0)

def quiescent_RecallLRefIdeal_pre_mem_l_finite [hRecallLRefIdeal : Cert.RecallLRefIdeal.Facts] [hPre_mem_l_finite : Cert.Pre_mem_l_finite.Facts] : Prop :=
  ∀ (m : (ℓ : Loc Cert.RecallLRefIdeal.nD Cert.RecallLRefIdeal.τ Cert.RecallLRefIdeal.sig) → Buf (Elt Ideal) ℓ) (g : Dev Cert.RecallLRefIdeal.nD → PrngReg), Pre_RecallLRefIdeal_mem_l_finite m →
    θ_run (Cert.RecallLRefIdeal.defs (F := Ideal)) (onTc (τ := Cert.RecallLRefIdeal.τ) (Cert.RecallLRefIdeal.main (F := Ideal))) ⟨m, fun _ => 0, g⟩ (fun r => (∀ c : Dev Cert.RecallLRefIdeal.nD,
      r.2.mem ((c.tc : Thread Cert.RecallLRefIdeal.nD Cert.RecallLRefIdeal.τ).loc Cert.RecallLRefIdeal.main_arg0) = m ((c.tc : Thread Cert.RecallLRefIdeal.nD Cert.RecallLRefIdeal.τ).loc Cert.RecallLRefIdeal.main_arg0)
      ∧ r.2.mem ((c.tc : Thread Cert.RecallLRefIdeal.nD Cert.RecallLRefIdeal.τ).loc Cert.RecallLRefIdeal.main_arg1) = m ((c.tc : Thread Cert.RecallLRefIdeal.nD Cert.RecallLRefIdeal.τ).loc Cert.RecallLRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Stick_StickIdeal : Prop :=
  True

def algebraic_StickIdeal_StickRefIdeal_pre_sb_finite [hStickIdeal : Cert.StickIdeal.Facts] [hStickRefIdeal : Cert.StickRefIdeal.Facts] [hPre_sb_finite : Cert.Pre_sb_finite.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_sb_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v31) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v44) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Swa_SwaIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v2)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v2) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v14) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)) →
    ∃ (v0 : (c : Dev Cert.LatIdeal.nD) → Buf (Elt Ideal) ((c.tc : Thread Cert.LatIdeal.nD Cert.LatIdeal.τ).loc Cert.LatIdeal.main_v2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v2) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v13) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v33) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v1) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v40) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Key_KeyIdeal : Prop :=
  True

def algebraic_KeyIdeal_KeyRefIdeal [hKeyIdeal : Cert.KeyIdeal.Facts] [hKeyRefIdeal : Cert.KeyRefIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)
      ∧ m' ((c.tc : Thread Cert.KeyRefIdeal.nD Cert.KeyRefIdeal.τ).loc Cert.KeyRefIdeal.main_arg2) = m ((c.tc : Thread Cert.KeyIdeal.nD Cert.KeyIdeal.τ).loc Cert.KeyIdeal.main_arg2)) →
    ∃ (v0 : (c : Dev Cert.KeyIdeal.nD) → Buf (Elt Ideal) ((c.tc : Thread Cert.KeyIdeal.nD Cert.KeyIdeal.τ).loc Cert.KeyIdeal.main_v2)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v2) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
          ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v14) = v0 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1)
          ∧ r.2.mem ((c.tc : Thread Cert.KeyRefIdeal.nD Cert.KeyRefIdeal.τ).loc Cert.KeyRefIdeal.main_arg2) = m' ((c.tc : Thread Cert.KeyRefIdeal.nD Cert.KeyRefIdeal.τ).loc Cert.KeyRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v12) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_Recall_RecallIdeal : Prop :=
  True

def algebraic_RecallIdeal_RecallRefIdeal_pre_mem_finite [hRecallIdeal : Cert.RecallIdeal.Facts] [hRecallRefIdeal : Cert.RecallRefIdeal.Facts] [hPre_mem_finite : Cert.Pre_mem_finite.Facts] : Prop :=
  ∀ (m : (ℓ : Loc Cert.RecallIdeal.nD Cert.RecallIdeal.τ Cert.RecallIdeal.sig) → Buf (Elt Ideal) ℓ) (g : Dev Cert.RecallIdeal.nD → PrngReg)
    (m' : (ℓ : Loc Cert.RecallRefIdeal.nD Cert.RecallRefIdeal.τ Cert.RecallRefIdeal.sig) → Buf (Elt Ideal) ℓ) (g' : Dev Cert.RecallRefIdeal.nD → PrngReg), Pre_RecallIdeal_mem_finite m →
    (∀ c : Dev Cert.RecallIdeal.nD,
      m' ((c.tc : Thread Cert.RecallRefIdeal.nD Cert.RecallRefIdeal.τ).loc Cert.RecallRefIdeal.main_arg0) = m ((c.tc : Thread Cert.RecallIdeal.nD Cert.RecallIdeal.τ).loc Cert.RecallIdeal.main_arg0)
      ∧ m' ((c.tc : Thread Cert.RecallRefIdeal.nD Cert.RecallRefIdeal.τ).loc Cert.RecallRefIdeal.main_arg1) = m ((c.tc : Thread Cert.RecallIdeal.nD Cert.RecallIdeal.τ).loc Cert.RecallIdeal.main_arg1)) →
    ∃ (v0 : (c : Dev Cert.RecallIdeal.nD) → Buf (Elt Ideal) ((c.tc : Thread Cert.RecallIdeal.nD Cert.RecallIdeal.τ).loc Cert.RecallIdeal.main_v0)),
      θ_run (Cert.RecallIdeal.defs (F := Ideal)) (onTc (τ := Cert.RecallIdeal.τ) (Cert.RecallIdeal.main (F := Ideal))) ⟨m, fun _ => 0, g⟩ (fun r => ∀ c : Dev Cert.RecallIdeal.nD,
          r.2.mem ((c.tc : Thread Cert.RecallIdeal.nD Cert.RecallIdeal.τ).loc Cert.RecallIdeal.main_v0) = v0 c
          ∧ r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
          ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ θ_run (Cert.RecallRefIdeal.defs (F := Ideal)) (onTc (τ := Cert.RecallRefIdeal.τ) (Cert.RecallRefIdeal.main (F := Ideal))) ⟨m', fun _ => 0, g'⟩ (fun r => ∀ c : Dev Cert.RecallRefIdeal.nD,
          r.2.mem ((c.tc : Thread Cert.RecallRefIdeal.nD Cert.RecallRefIdeal.τ).loc Cert.RecallRefIdeal.main_v26) = v0 c
          ∧ r.2.mem ((c.tc : Thread Cert.RecallRefIdeal.nD Cert.RecallRefIdeal.τ).loc Cert.RecallRefIdeal.main_arg0) = m' ((c.tc : Thread Cert.RecallRefIdeal.nD Cert.RecallRefIdeal.τ).loc Cert.RecallRefIdeal.main_arg0)
          ∧ r.2.mem ((c.tc : Thread Cert.RecallRefIdeal.nD Cert.RecallRefIdeal.τ).loc Cert.RecallRefIdeal.main_arg1) = m' ((c.tc : Thread Cert.RecallRefIdeal.nD Cert.RecallRefIdeal.τ).loc Cert.RecallRefIdeal.main_arg1))

def preserves_RecallW_RecallWIdeal : Prop :=
  True

def algebraic_RecallWIdeal_RecallWRefIdeal_pre_mem_w_finite [hRecallWIdeal : Cert.RecallWIdeal.Facts] [hRecallWRefIdeal : Cert.RecallWRefIdeal.Facts] [hPre_mem_w_finite : Cert.Pre_mem_w_finite.Facts] : Prop :=
  ∀ (m : (ℓ : Loc Cert.RecallWIdeal.nD Cert.RecallWIdeal.τ Cert.RecallWIdeal.sig) → Buf (Elt Ideal) ℓ) (g : Dev Cert.RecallWIdeal.nD → PrngReg)
    (m' : (ℓ : Loc Cert.RecallWRefIdeal.nD Cert.RecallWRefIdeal.τ Cert.RecallWRefIdeal.sig) → Buf (Elt Ideal) ℓ) (g' : Dev Cert.RecallWRefIdeal.nD → PrngReg), Pre_RecallWIdeal_mem_w_finite m →
    (∀ c : Dev Cert.RecallWIdeal.nD,
      m' ((c.tc : Thread Cert.RecallWRefIdeal.nD Cert.RecallWRefIdeal.τ).loc Cert.RecallWRefIdeal.main_arg0) = m ((c.tc : Thread Cert.RecallWIdeal.nD Cert.RecallWIdeal.τ).loc Cert.RecallWIdeal.main_arg0)
      ∧ m' ((c.tc : Thread Cert.RecallWRefIdeal.nD Cert.RecallWRefIdeal.τ).loc Cert.RecallWRefIdeal.main_arg1) = m ((c.tc : Thread Cert.RecallWIdeal.nD Cert.RecallWIdeal.τ).loc Cert.RecallWIdeal.main_arg1)) →
    ∃ (v0 : (c : Dev Cert.RecallWIdeal.nD) → Buf (Elt Ideal) ((c.tc : Thread Cert.RecallWIdeal.nD Cert.RecallWIdeal.τ).loc Cert.RecallWIdeal.main_v0)),
      θ_run (Cert.RecallWIdeal.defs (F := Ideal)) (onTc (τ := Cert.RecallWIdeal.τ) (Cert.RecallWIdeal.main (F := Ideal))) ⟨m, fun _ => 0, g⟩ (fun r => ∀ c : Dev Cert.RecallWIdeal.nD,
          r.2.mem ((c.tc : Thread Cert.RecallWIdeal.nD Cert.RecallWIdeal.τ).loc Cert.RecallWIdeal.main_v0) = v0 c
          ∧ r.2.mem ((c.tc : Thread Cert.RecallWIdeal.nD Cert.RecallWIdeal.τ).loc Cert.RecallWIdeal.main_arg0) = m ((c.tc : Thread Cert.RecallWIdeal.nD Cert.RecallWIdeal.τ).loc Cert.RecallWIdeal.main_arg0)
          ∧ r.2.mem ((c.tc : Thread Cert.RecallWIdeal.nD Cert.RecallWIdeal.τ).loc Cert.RecallWIdeal.main_arg1) = m ((c.tc : Thread Cert.RecallWIdeal.nD Cert.RecallWIdeal.τ).loc Cert.RecallWIdeal.main_arg1))
      ∧ θ_run (Cert.RecallWRefIdeal.defs (F := Ideal)) (onTc (τ := Cert.RecallWRefIdeal.τ) (Cert.RecallWRefIdeal.main (F := Ideal))) ⟨m', fun _ => 0, g'⟩ (fun r => ∀ c : Dev Cert.RecallWRefIdeal.nD,
          r.2.mem ((c.tc : Thread Cert.RecallWRefIdeal.nD Cert.RecallWRefIdeal.τ).loc Cert.RecallWRefIdeal.main_v26) = v0 c
          ∧ r.2.mem ((c.tc : Thread Cert.RecallWRefIdeal.nD Cert.RecallWRefIdeal.τ).loc Cert.RecallWRefIdeal.main_arg0) = m' ((c.tc : Thread Cert.RecallWRefIdeal.nD Cert.RecallWRefIdeal.τ).loc Cert.RecallWRefIdeal.main_arg0)
          ∧ r.2.mem ((c.tc : Thread Cert.RecallWRefIdeal.nD Cert.RecallWRefIdeal.τ).loc Cert.RecallWRefIdeal.main_arg1) = m' ((c.tc : Thread Cert.RecallWRefIdeal.nD Cert.RecallWRefIdeal.τ).loc Cert.RecallWRefIdeal.main_arg1))

def preserves_RecallL_RecallLIdeal : Prop :=
  True

def algebraic_RecallLIdeal_RecallLRefIdeal_pre_mem_l_finite [hRecallLIdeal : Cert.RecallLIdeal.Facts] [hRecallLRefIdeal : Cert.RecallLRefIdeal.Facts] [hPre_mem_l_finite : Cert.Pre_mem_l_finite.Facts] : Prop :=
  ∀ (m : (ℓ : Loc Cert.RecallLIdeal.nD Cert.RecallLIdeal.τ Cert.RecallLIdeal.sig) → Buf (Elt Ideal) ℓ) (g : Dev Cert.RecallLIdeal.nD → PrngReg)
    (m' : (ℓ : Loc Cert.RecallLRefIdeal.nD Cert.RecallLRefIdeal.τ Cert.RecallLRefIdeal.sig) → Buf (Elt Ideal) ℓ) (g' : Dev Cert.RecallLRefIdeal.nD → PrngReg), Pre_RecallLIdeal_mem_l_finite m →
    (∀ c : Dev Cert.RecallLIdeal.nD,
      m' ((c.tc : Thread Cert.RecallLRefIdeal.nD Cert.RecallLRefIdeal.τ).loc Cert.RecallLRefIdeal.main_arg0) = m ((c.tc : Thread Cert.RecallLIdeal.nD Cert.RecallLIdeal.τ).loc Cert.RecallLIdeal.main_arg0)
      ∧ m' ((c.tc : Thread Cert.RecallLRefIdeal.nD Cert.RecallLRefIdeal.τ).loc Cert.RecallLRefIdeal.main_arg1) = m ((c.tc : Thread Cert.RecallLIdeal.nD Cert.RecallLIdeal.τ).loc Cert.RecallLIdeal.main_arg1)) →
    ∃ (v0 : (c : Dev Cert.RecallLIdeal.nD) → Buf (Elt Ideal) ((c.tc : Thread Cert.RecallLIdeal.nD Cert.RecallLIdeal.τ).loc Cert.RecallLIdeal.main_v0)),
      θ_run (Cert.RecallLIdeal.defs (F := Ideal)) (onTc (τ := Cert.RecallLIdeal.τ) (Cert.RecallLIdeal.main (F := Ideal))) ⟨m, fun _ => 0, g⟩ (fun r => ∀ c : Dev Cert.RecallLIdeal.nD,
          r.2.mem ((c.tc : Thread Cert.RecallLIdeal.nD Cert.RecallLIdeal.τ).loc Cert.RecallLIdeal.main_v0) = v0 c
          ∧ r.2.mem ((c.tc : Thread Cert.RecallLIdeal.nD Cert.RecallLIdeal.τ).loc Cert.RecallLIdeal.main_arg0) = m ((c.tc : Thread Cert.RecallLIdeal.nD Cert.RecallLIdeal.τ).loc Cert.RecallLIdeal.main_arg0)
          ∧ r.2.mem ((c.tc : Thread Cert.RecallLIdeal.nD Cert.RecallLIdeal.τ).loc Cert.RecallLIdeal.main_arg1) = m ((c.tc : Thread Cert.RecallLIdeal.nD Cert.RecallLIdeal.τ).loc Cert.RecallLIdeal.main_arg1))
      ∧ θ_run (Cert.RecallLRefIdeal.defs (F := Ideal)) (onTc (τ := Cert.RecallLRefIdeal.τ) (Cert.RecallLRefIdeal.main (F := Ideal))) ⟨m', fun _ => 0, g'⟩ (fun r => ∀ c : Dev Cert.RecallLRefIdeal.nD,
          r.2.mem ((c.tc : Thread Cert.RecallLRefIdeal.nD Cert.RecallLRefIdeal.τ).loc Cert.RecallLRefIdeal.main_v25) = v0 c
          ∧ r.2.mem ((c.tc : Thread Cert.RecallLRefIdeal.nD Cert.RecallLRefIdeal.τ).loc Cert.RecallLRefIdeal.main_arg0) = m' ((c.tc : Thread Cert.RecallLRefIdeal.nD Cert.RecallLRefIdeal.τ).loc Cert.RecallLRefIdeal.main_arg0)
          ∧ r.2.mem ((c.tc : Thread Cert.RecallLRefIdeal.nD Cert.RecallLRefIdeal.τ).loc Cert.RecallLRefIdeal.main_arg1) = m' ((c.tc : Thread Cert.RecallLRefIdeal.nD Cert.RecallLRefIdeal.τ).loc Cert.RecallLRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v9)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v9) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v33) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)
      ∧ m' ((c.tc : Thread Cert.PairRefIdeal.nD Cert.PairRefIdeal.τ).loc Cert.PairRefIdeal.main_arg2) = m ((c.tc : Thread Cert.PairIdeal.nD Cert.PairIdeal.τ).loc Cert.PairIdeal.main_arg2)
      ∧ m' ((c.tc : Thread Cert.PairRefIdeal.nD Cert.PairRefIdeal.τ).loc Cert.PairRefIdeal.main_arg3) = m ((c.tc : Thread Cert.PairIdeal.nD Cert.PairIdeal.τ).loc Cert.PairIdeal.main_arg3)) →
    ∃ (v0 : (c : Dev Cert.PairIdeal.nD) → Buf (Elt Ideal) ((c.tc : Thread Cert.PairIdeal.nD Cert.PairIdeal.τ).loc Cert.PairIdeal.main_v2_0)) (v1 : (c : Dev Cert.PairIdeal.nD) → Buf (Elt Ideal) ((c.tc : Thread Cert.PairIdeal.nD Cert.PairIdeal.τ).loc Cert.PairIdeal.main_v2_1)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v2_0) = v0 c
          ∧ r.2.mem ((c.tc : Thread Cert.PairIdeal.nD Cert.PairIdeal.τ).loc Cert.PairIdeal.main_v2_1) = v1 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v31) = v0 c
          ∧ r.2.mem ((c.tc : Thread Cert.PairRefIdeal.nD Cert.PairRefIdeal.τ).loc Cert.PairRefIdeal.main_v33) = v1 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2)
          ∧ r.2.mem ((c.tc : Thread Cert.PairRefIdeal.nD Cert.PairRefIdeal.τ).loc Cert.PairRefIdeal.main_arg3) = m' ((c.tc : Thread Cert.PairRefIdeal.nD Cert.PairRefIdeal.τ).loc Cert.PairRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v11)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v11) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v16) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hStick : Cert.Stick.Facts) (hStickIdeal : Cert.StickIdeal.Facts) (hStickRefIdeal : Cert.StickRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hSwa : Cert.Swa.Facts) (hSwaIdeal : Cert.SwaIdeal.Facts) (hSwaRefIdeal : Cert.SwaRefIdeal.Facts) (hLat : Cert.Lat.Facts) (hLatIdeal : Cert.LatIdeal.Facts) (hLatRefIdeal : Cert.LatRefIdeal.Facts) (hMla : Cert.Mla.Facts) (hMlaIdeal : Cert.MlaIdeal.Facts) (hMlaRefIdeal : Cert.MlaRefIdeal.Facts) (hFox : Cert.Fox.Facts) (hFoxIdeal : Cert.FoxIdeal.Facts) (hFoxRefIdeal : Cert.FoxRefIdeal.Facts) (hKey : Cert.Key.Facts) (hKeyIdeal : Cert.KeyIdeal.Facts) (hKeyRefIdeal : Cert.KeyRefIdeal.Facts) (hGate : Cert.Gate.Facts) (hGateIdeal : Cert.GateIdeal.Facts) (hGateRefIdeal : Cert.GateRefIdeal.Facts) (hFin : Cert.Fin.Facts) (hFinIdeal : Cert.FinIdeal.Facts) (hFinRefIdeal : Cert.FinRefIdeal.Facts) (hRecall : Cert.Recall.Facts) (hRecallIdeal : Cert.RecallIdeal.Facts) (hRecallRefIdeal : Cert.RecallRefIdeal.Facts) (hRecallW : Cert.RecallW.Facts) (hRecallWIdeal : Cert.RecallWIdeal.Facts) (hRecallWRefIdeal : Cert.RecallWRefIdeal.Facts) (hRecallL : Cert.RecallL.Facts) (hRecallLIdeal : Cert.RecallLIdeal.Facts) (hRecallLRefIdeal : Cert.RecallLRefIdeal.Facts) (hQuery : Cert.Query.Facts) (hQueryIdeal : Cert.QueryIdeal.Facts) (hQueryRefIdeal : Cert.QueryRefIdeal.Facts) (hPair : Cert.Pair.Facts) (hPairIdeal : Cert.PairIdeal.Facts) (hPairRefIdeal : Cert.PairRefIdeal.Facts) (hRope : Cert.Rope.Facts) (hRopeIdeal : Cert.RopeIdeal.Facts) (hRopeRefIdeal : Cert.RopeRefIdeal.Facts) (hPre_sb_finite : Cert.Pre_sb_finite.Facts) (hPre_mla_finite : Cert.Pre_mla_finite.Facts) (hPre_fox_finite : Cert.Pre_fox_finite.Facts) (hPre_mem_finite : Cert.Pre_mem_finite.Facts) (hPre_mem_w_finite : Cert.Pre_mem_w_finite.Facts) (hPre_mem_l_finite : Cert.Pre_mem_l_finite.Facts),
    quiescent_Stick (hStick := hStick)
    ∧ quiescent_StickIdeal (hStickIdeal := hStickIdeal)
    ∧ quiescent_StickIdeal_pre_sb_finite (hStickIdeal := hStickIdeal) (hPre_sb_finite := hPre_sb_finite)
    ∧ quiescent_StickRefIdeal (hStickRefIdeal := hStickRefIdeal)
    ∧ quiescent_StickRefIdeal_pre_sb_finite (hStickRefIdeal := hStickRefIdeal) (hPre_sb_finite := hPre_sb_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_Swa (hSwa := hSwa)
    ∧ quiescent_SwaIdeal (hSwaIdeal := hSwaIdeal)
    ∧ quiescent_SwaRefIdeal (hSwaRefIdeal := hSwaRefIdeal)
    ∧ quiescent_Lat (hLat := hLat)
    ∧ quiescent_LatIdeal (hLatIdeal := hLatIdeal)
    ∧ quiescent_LatRefIdeal (hLatRefIdeal := hLatRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Key (hKey := hKey)
    ∧ quiescent_KeyIdeal (hKeyIdeal := hKeyIdeal)
    ∧ quiescent_KeyRefIdeal (hKeyRefIdeal := hKeyRefIdeal)
    ∧ quiescent_Gate (hGate := hGate)
    ∧ quiescent_GateIdeal (hGateIdeal := hGateIdeal)
    ∧ quiescent_GateRefIdeal (hGateRefIdeal := hGateRefIdeal)
    ∧ quiescent_Fin (hFin := hFin)
    ∧ quiescent_FinIdeal (hFinIdeal := hFinIdeal)
    ∧ quiescent_FinRefIdeal (hFinRefIdeal := hFinRefIdeal)
    ∧ quiescent_Recall (hRecall := hRecall)
    ∧ quiescent_RecallIdeal (hRecallIdeal := hRecallIdeal)
    ∧ quiescent_RecallIdeal_pre_mem_finite (hRecallIdeal := hRecallIdeal) (hPre_mem_finite := hPre_mem_finite)
    ∧ quiescent_RecallRefIdeal (hRecallRefIdeal := hRecallRefIdeal)
    ∧ quiescent_RecallRefIdeal_pre_mem_finite (hRecallRefIdeal := hRecallRefIdeal) (hPre_mem_finite := hPre_mem_finite)
    ∧ quiescent_RecallW (hRecallW := hRecallW)
    ∧ quiescent_RecallWIdeal (hRecallWIdeal := hRecallWIdeal)
    ∧ quiescent_RecallWIdeal_pre_mem_w_finite (hRecallWIdeal := hRecallWIdeal) (hPre_mem_w_finite := hPre_mem_w_finite)
    ∧ quiescent_RecallWRefIdeal (hRecallWRefIdeal := hRecallWRefIdeal)
    ∧ quiescent_RecallWRefIdeal_pre_mem_w_finite (hRecallWRefIdeal := hRecallWRefIdeal) (hPre_mem_w_finite := hPre_mem_w_finite)
    ∧ quiescent_RecallL (hRecallL := hRecallL)
    ∧ quiescent_RecallLIdeal (hRecallLIdeal := hRecallLIdeal)
    ∧ quiescent_RecallLIdeal_pre_mem_l_finite (hRecallLIdeal := hRecallLIdeal) (hPre_mem_l_finite := hPre_mem_l_finite)
    ∧ quiescent_RecallLRefIdeal (hRecallLRefIdeal := hRecallLRefIdeal)
    ∧ quiescent_RecallLRefIdeal_pre_mem_l_finite (hRecallLRefIdeal := hRecallLRefIdeal) (hPre_mem_l_finite := hPre_mem_l_finite)
    ∧ quiescent_Query (hQuery := hQuery)
    ∧ quiescent_QueryIdeal (hQueryIdeal := hQueryIdeal)
    ∧ quiescent_QueryRefIdeal (hQueryRefIdeal := hQueryRefIdeal)
    ∧ quiescent_Pair (hPair := hPair)
    ∧ quiescent_PairIdeal (hPairIdeal := hPairIdeal)
    ∧ quiescent_PairRefIdeal (hPairRefIdeal := hPairRefIdeal)
    ∧ quiescent_Rope (hRope := hRope)
    ∧ quiescent_RopeIdeal (hRopeIdeal := hRopeIdeal)
    ∧ quiescent_RopeRefIdeal (hRopeRefIdeal := hRopeRefIdeal)
    ∧ preserves_Stick_StickIdeal
    ∧ algebraic_StickIdeal_StickRefIdeal_pre_sb_finite (hStickIdeal := hStickIdeal) (hStickRefIdeal := hStickRefIdeal) (hPre_sb_finite := hPre_sb_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_Swa_SwaIdeal
    ∧ algebraic_SwaIdeal_SwaRefIdeal (hSwaIdeal := hSwaIdeal) (hSwaRefIdeal := hSwaRefIdeal)
    ∧ preserves_Lat_LatIdeal
    ∧ algebraic_LatIdeal_LatRefIdeal (hLatIdeal := hLatIdeal) (hLatRefIdeal := hLatRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Key_KeyIdeal
    ∧ algebraic_KeyIdeal_KeyRefIdeal (hKeyIdeal := hKeyIdeal) (hKeyRefIdeal := hKeyRefIdeal)
    ∧ preserves_Gate_GateIdeal
    ∧ algebraic_GateIdeal_GateRefIdeal (hGateIdeal := hGateIdeal) (hGateRefIdeal := hGateRefIdeal)
    ∧ preserves_Fin_FinIdeal
    ∧ algebraic_FinIdeal_FinRefIdeal (hFinIdeal := hFinIdeal) (hFinRefIdeal := hFinRefIdeal)
    ∧ preserves_Recall_RecallIdeal
    ∧ algebraic_RecallIdeal_RecallRefIdeal_pre_mem_finite (hRecallIdeal := hRecallIdeal) (hRecallRefIdeal := hRecallRefIdeal) (hPre_mem_finite := hPre_mem_finite)
    ∧ preserves_RecallW_RecallWIdeal
    ∧ algebraic_RecallWIdeal_RecallWRefIdeal_pre_mem_w_finite (hRecallWIdeal := hRecallWIdeal) (hRecallWRefIdeal := hRecallWRefIdeal) (hPre_mem_w_finite := hPre_mem_w_finite)
    ∧ preserves_RecallL_RecallLIdeal
    ∧ algebraic_RecallLIdeal_RecallLRefIdeal_pre_mem_l_finite (hRecallLIdeal := hRecallLIdeal) (hRecallLRefIdeal := hRecallLRefIdeal) (hPre_mem_l_finite := hPre_mem_l_finite)
    ∧ preserves_Query_QueryIdeal
    ∧ algebraic_QueryIdeal_QueryRefIdeal (hQueryIdeal := hQueryIdeal) (hQueryRefIdeal := hQueryRefIdeal)
    ∧ preserves_Pair_PairIdeal
    ∧ algebraic_PairIdeal_PairRefIdeal (hPairIdeal := hPairIdeal) (hPairRefIdeal := hPairRefIdeal)
    ∧ preserves_Rope_RopeIdeal
    ∧ algebraic_RopeIdeal_RopeRefIdeal (hRopeIdeal := hRopeIdeal) (hRopeRefIdeal := hRopeRefIdeal)
-- ==== Pre_fox_finite.lean ====
abbrev S2x4096x6656 : Shape := ⟨3, ![2, 4096, 6656]⟩
abbrev S2x16x4096 : Shape := ⟨3, ![2, 16, 4096]⟩
abbrev S2x4096x4096 : Shape := ⟨3, ![2, 4096, 4096]⟩
abbrev S_ : Shape := ⟨0, ![]⟩

class Facts : Prop where
  slices_S2x4096x6656_S2x4096x4096_0_0_0 : S2x4096x6656.Slices ![0, 0, 0] S2x4096x4096
  bitsLt_bf16_f32 : FTy.bits .bf16 < FTy.bits .f32
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x16x4096 : S_.BroadcastsInDim S2x16x4096 (![] : Fin 0 → Fin S2x16x4096.rank)
  reducesTo_S2x16x4096_S_d0_1_2 : S2x16x4096.ReducesTo [0, 1, 2] S_

variable [Facts]

def fn {F : FTy → Type} [FloatOps F] (main_arg0 : FVec F S2x4096x6656 .bf16) (main_arg1 : FVec F S2x16x4096 .f32) : IVec S_ 1 :=
  let main_v0 : FVec F S2x4096x4096 .bf16 := (extractStridedSlice S2x4096x4096 ![0, 0, 0] · slices_S2x4096x6656_S2x4096x4096_0_0_0) main_arg0
  let main_v1 : FVec F S2x4096x4096 .f32 := (extf .f32 · bitsLt_bf16_f32) main_v0
  let main_v2 : FVec F S2x4096x4096 .f32 := Host.absf main_v1
  let main_cst : FVec F S_ .f32 := constant S_ .f32 0x7F800000#32
  let main_v3 : FVec F S2x4096x4096 .f32 := broadcastInDim S2x4096x4096 ![] bcast_S_S2x4096x4096 main_cst
  let main_v4 : IVec S2x4096x4096 1 := cmpf .olt main_v2 main_v3
  let main_c : IVec S_ 1 := constantI S_ 1 1#1
  let main_v5 : IVec S_ 1 := (fun x v => Host.reduce IntOp.andi x v reducesTo_S2x4096x4096_S_d0_1_2 h_S_) main_v4 main_c
  let main_v6 : FVec F S2x16x4096 .f32 := Host.absf main_arg1
  let main_cst_0 : FVec F S_ .f32 := constant S_ .f32 0x7F800000#32
  let main_v7 : FVec F S2x16x4096 .f32 := broadcastInDim S2x16x4096 ![] bcast_S_S2x16x4096 main_cst_0
  let main_v8 : IVec S2x16x4096 1 := cmpf .olt main_v6 main_v7
  let main_c_1 : IVec S_ 1 := constantI S_ 1 1#1
  let main_v9 : IVec S_ 1 := (fun x v => Host.reduce IntOp.andi x v reducesTo_S2x16x4096_S_d0_1_2 h_S_) main_v8 main_c_1
  let main_v10 : IVec S_ 1 := andi main_v5 main_v9
  main_v10
-- ==== Pre_mem_finite.lean ====
abbrev S2x4096x6656 : Shape := ⟨3, ![2, 4096, 6656]⟩
abbrev S2x256x1024 : Shape := ⟨3, ![2, 256, 1024]⟩
abbrev S2x4096x512 : Shape := ⟨3, ![2, 4096, 512]⟩
abbrev S_ : Shape := ⟨0, ![]⟩
abbrev S2x256x512 : Shape := ⟨3, ![2, 256, 512]⟩

class Facts : Prop where
  slices_S2x4096x6656_S2x4096x512_0_0_6144 : S2x4096x6656.Slices ![0, 0, 6144] S2x4096x512
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  slices_S2x256x1024_S2x256x512_0_0_0 : S2x256x1024.Slices ![0, 0, 0] S2x256x512
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x4096x6656 .bf16) (main_arg1 : FVec F S2x256x1024 .bf16) : IVec S_ 1 :=
  let main_v0 : FVec F S2x4096x512 .bf16 := (extractStridedSlice S2x4096x512 ![0, 0, 6144] · slices_S2x4096x6656_S2x4096x512_0_0_6144) main_arg0
  let main_v1 : FVec F S2x4096x512 .f32 := (extf .f32 · bitsLt_bf16_f32) main_v0
  let main_v2 : FVec F S2x4096x512 .f32 := Host.absf main_v1
  let main_cst : FVec F S_ .f32 := constant S_ .f32 0x7F800000#32
  let main_v3 : FVec F S2x4096x512 .f32 := broadcastInDim S2x4096x512 ![] bcast_S_S2x4096x512 main_cst
  let main_v4 : IVec S2x4096x512 1 := cmpf .olt main_v2 main_v3
  let main_c : IVec S_ 1 := constantI S_ 1 1#1
  let main_v5 : IVec S_ 1 := (fun x v => Host.reduce IntOp.andi x v reducesTo_S2x4096x512_S_d0_1_2 h_S_) main_v4 main_c
  let main_v6 : FVec F S2x256x512 .bf16 := (extractStridedSlice S2x256x512 ![0, 0, 0] · slices_S2x256x1024_S2x256x512_0_0_0) main_arg1
  let main_v7 : FVec F S2x256x512 .f32 := (extf .f32 · bitsLt_bf16_f32) main_v6
  let main_v8 : FVec F S2x256x512 .f32 := Host.absf main_v7
  let main_cst_0 : FVec F S_ .f32 := constant S_ .f32 0x7F800000#32
  let main_v9 : FVec F S2x256x512 .f32 := broadcastInDim S2x256x512 ![] bcast_S_S2x256x512 main_cst_0
  let main_v10 : IVec S2x256x512 1 := cmpf .olt main_v8 main_v9
  let main_c_1 : IVec S_ 1 := constantI S_ 1 1#1
  let main_v11 : IVec S_ 1 := (fun x v => Host.reduce IntOp.andi x v reducesTo_S2x256x512_S_d0_1_2 h_S_) main_v10 main_c_1
  let main_v12 : IVec S_ 1 := andi main_v5 main_v11
  main_v12
-- ==== Pre_mem_l_finite.lean ====
abbrev S2x4096x1408 : Shape := ⟨3, ![2, 4096, 1408]⟩
abbrev S2x256x1024 : Shape := ⟨3, ![2, 256, 1024]⟩
abbrev S2x4096x512 : Shape := ⟨3, ![2, 4096, 512]⟩
abbrev S_ : Shape := ⟨0, ![]⟩
abbrev S2x256x512 : Shape := ⟨3, ![2, 256, 512]⟩

class Facts : Prop where
  slices_S2x4096x1408_S2x4096x512_0_0_0 : S2x4096x1408.Slices ![0, 0, 0] S2x4096x512
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  slices_S2x256x1024_S2x256x512_0_0_0 : S2x256x1024.Slices ![0, 0, 0] S2x256x512
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x4096x1408 .f32) (main_arg1 : FVec F S2x256x1024 .bf16) : IVec S_ 1 :=
  let main_v0 : FVec F S2x4096x512 .f32 := (extractStridedSlice S2x4096x512 ![0, 0, 0] · slices_S2x4096x1408_S2x4096x512_0_0_0) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_c : IVec S_ 1 := constantI S_ 1 1#1
  let main_v4 : IVec S_ 1 := (fun x v => Host.reduce IntOp.andi x v reducesTo_S2x4096x512_S_d0_1_2 h_S_) main_v3 main_c
  let main_v5 : FVec F S2x256x512 .bf16 := (extractStridedSlice S2x256x512 ![0, 0, 0] · slices_S2x256x1024_S2x256x512_0_0_0) main_arg1
  let main_v6 : FVec F S2x256x512 .f32 := (extf .f32 · bitsLt_bf16_f32) main_v5
  let main_v7 : FVec F S2x256x512 .f32 := Host.absf main_v6
  let main_cst_0 : FVec F S_ .f32 := constant S_ .f32 0x7F800000#32
  let main_v8 : FVec F S2x256x512 .f32 := broadcastInDim S2x256x512 ![] bcast_S_S2x256x512 main_cst_0
  let main_v9 : IVec S2x256x512 1 := cmpf .olt main_v7 main_v8
  let main_c_1 : IVec S_ 1 := constantI S_ 1 1#1
  let main_v10 : IVec S_ 1 := (fun x v => Host.reduce IntOp.andi x v reducesTo_S2x256x512_S_d0_1_2 h_S_) main_v9 main_c_1
  let main_v11 : IVec S_ 1 := andi main_v4 main_v10
  main_v11
-- ==== Pre_mem_w_finite.lean ====
abbrev S2x4096x3072 : Shape := ⟨3, ![2, 4096, 3072]⟩
abbrev S2x256x1024 : Shape := ⟨3, ![2, 256, 1024]⟩
abbrev S2x4096x512 : Shape := ⟨3, ![2, 4096, 512]⟩
abbrev S_ : Shape := ⟨0, ![]⟩
abbrev S2x256x512 : Shape := ⟨3, ![2, 256, 512]⟩

class Facts : Prop where
  slices_S2x4096x3072_S2x4096x512_0_0_2560 : S2x4096x3072.Slices ![0, 0, 2560] S2x4096x512
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  slices_S2x256x1024_S2x256x512_0_0_0 : S2x256x1024.Slices ![0, 0, 0] S2x256x512
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x4096x3072 .bf16) (main_arg1 : FVec F S2x256x1024 .bf16) : IVec S_ 1 :=
  let main_v0 : FVec F S2x4096x512 .bf16 := (extractStridedSlice S2x4096x512 ![0, 0, 2560] · slices_S2x4096x3072_S2x4096x512_0_0_2560) main_arg0
  let main_v1 : FVec F S2x4096x512 .f32 := (extf .f32 · bitsLt_bf16_f32) main_v0
  let main_v2 : FVec F S2x4096x512 .f32 := Host.absf main_v1
  let main_cst : FVec F S_ .f32 := constant S_ .f32 0x7F800000#32
  let main_v3 : FVec F S2x4096x512 .f32 := broadcastInDim S2x4096x512 ![] bcast_S_S2x4096x512 main_cst
  let main_v4 : IVec S2x4096x512 1 := cmpf .olt main_v2 main_v3
  let main_c : IVec S_ 1 := constantI S_ 1 1#1
  let main_v5 : IVec S_ 1 := (fun x v => Host.reduce IntOp.andi x v reducesTo_S2x4096x512_S_d0_1_2 h_S_) main_v4 main_c
  let main_v6 : FVec F S2x256x512 .bf16 := (extractStridedSlice S2x256x512 ![0, 0, 0] · slices_S2x256x1024_S2x256x512_0_0_0) main_arg1
  let main_v7 : FVec F S2x256x512 .f32 := (extf .f32 · bitsLt_bf16_f32) main_v6
  let main_v8 : FVec F S2x256x512 .f32 := Host.absf main_v7
  let main_cst_0 : FVec F S_ .f32 := constant S_ .f32 0x7F800000#32
  let main_v9 : FVec F S2x256x512 .f32 := broadcastInDim S2x256x512 ![] bcast_S_S2x256x512 main_cst_0
  let main_v10 : IVec S2x256x512 1 := cmpf .olt main_v8 main_v9
  let main_c_1 : IVec S_ 1 := constantI S_ 1 1#1
  let main_v11 : IVec S_ 1 := (fun x v => Host.reduce IntOp.andi x v reducesTo_S2x256x512_S_d0_1_2 h_S_) main_v10 main_c_1
  let main_v12 : IVec S_ 1 := andi main_v5 main_v11
  main_v12
-- ==== Pre_mla_finite.lean ====
abbrev S2x4096x4096 : Shape := ⟨3, ![2, 4096, 4096]⟩
abbrev S2x4096x2048 : Shape := ⟨3, ![2, 4096, 2048]⟩
abbrev S_ : Shape := ⟨0, ![]⟩

class Facts : Prop where
  bitsLt_bf16_f32 : FTy.bits .bf16 < FTy.bits .f32
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel

variable [Facts]

def fn {F : FTy → Type} [FloatOps F] (main_arg0 : FVec F S2x4096x4096 .bf16) (main_arg1 : FVec F S2x4096x4096 .bf16) (main_arg2 : FVec F S2x4096x2048 .bf16) : IVec S_ 1 :=
  let main_v0 : FVec F S2x4096x4096 .f32 := (extf .f32 · bitsLt_bf16_f32) main_arg0
  let main_v1 : FVec F S2x4096x4096 .f32 := Host.absf main_v0
  let main_cst : FVec F S_ .f32 := constant S_ .f32 0x7F800000#32
  let main_v2 : FVec F S2x4096x4096 .f32 := broadcastInDim S2x4096x4096 ![] bcast_S_S2x4096x4096 main_cst
  let main_v3 : IVec S2x4096x4096 1 := cmpf .olt main_v1 main_v2
  let main_c : IVec S_ 1 := constantI S_ 1 1#1
  let main_v4 : IVec S_ 1 := (fun x v => Host.reduce IntOp.andi x v reducesTo_S2x4096x4096_S_d0_1_2 h_S_) main_v3 main_c
  let main_v5 : FVec F S2x4096x4096 .f32 := (extf .f32 · bitsLt_bf16_f32) main_arg1
  let main_v6 : FVec F S2x4096x4096 .f32 := Host.absf main_v5
  let main_cst_0 : FVec F S_ .f32 := constant S_ .f32 0x7F800000#32
  let main_v7 : FVec F S2x4096x4096 .f32 := broadcastInDim S2x4096x4096 ![] bcast_S_S2x4096x4096 main_cst_0
  let main_v8 : IVec S2x4096x4096 1 := cmpf .olt main_v6 main_v7
  let main_c_1 : IVec S_ 1 := constantI S_ 1 1#1
  let main_v9 : IVec S_ 1 := (fun x v => Host.reduce IntOp.andi x v reducesTo_S2x4096x4096_S_d0_1_2 h_S_) main_v8 main_c_1
  let main_v10 : IVec S_ 1 := andi main_v4 main_v9
  main_v10
-- ==== Pre_sb_finite.lean ====
abbrev S2x4096x6656 : Shape := ⟨3, ![2, 4096, 6656]⟩
abbrev S2x4096x4096 : Shape := ⟨3, ![2, 4096, 4096]⟩
abbrev S_ : Shape := ⟨0, ![]⟩

class Facts : Prop where
  slices_S2x4096x6656_S2x4096x4096_0_0_0 : S2x4096x6656.Slices ![0, 0, 0] S2x4096x4096
  bitsLt_bf16_f32 : FTy.bits .bf16 < FTy.bits .f32
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel

variable [Facts]

def fn {F : FTy → Type} [FloatOps F] (main_arg0 : FVec F S2x4096x6656 .bf16) : IVec S_ 1 :=
  let main_v0 : FVec F S2x4096x4096 .bf16 := (extractStridedSlice S2x4096x4096 ![0, 0, 0] · slices_S2x4096x6656_S2x4096x4096_0_0_0) main_arg0
  let main_v1 : FVec F S2x4096x4096 .f32 := (extf .f32 · bitsLt_bf16_f32) main_v0
  let main_v2 : FVec F S2x4096x4096 .f32 := Host.absf main_v1
  let main_cst : FVec F S_ .f32 := constant S_ .f32 0x7F800000#32
  let main_v3 : FVec F S2x4096x4096 .f32 := broadcastInDim S2x4096x4096 ![] bcast_S_S2x4096x4096 main_cst
  let main_v4 : IVec S2x4096x4096 1 := cmpf .olt main_v2 main_v3
  let main_c : IVec S_ 1 := constantI S_ 1 1#1
  let main_v5 : IVec S_ 1 := (fun x v => Host.reduce IntOp.andi x v reducesTo_S2x4096x4096_S_d0_1_2 h_S_) main_v4 main_c
  main_v5
-- ==== Stick.lean ====
abbrev S2x4096x6656 : Shape := ⟨3, ![2, 4096, 6656]⟩
abbrev S2x4096x2048 : Shape := ⟨3, ![2, 4096, 2048]⟩
abbrev S1x256x128 : Shape := ⟨3, ![1, 256, 128]⟩
abbrev S1x4096x128 : Shape := ⟨3, ![1, 4096, 128]⟩
abbrev S256x1 : Shape := ⟨2, ![256, 1]⟩
abbrev S256x128 : Shape := ⟨2, ![256, 128]⟩
abbrev S256x256 : Shape := ⟨2, ![256, 256]⟩
abbrev S256 : Shape := ⟨1, ![256]⟩

abbrev nBuf : Space → Nat
  | .hbm => 2
  | .vmem => 10
  | .smem => 0
  | _ => 0

abbrev bufTy : (tb : Table) → Fin (tcTables nBuf tb) → BufTy
  | .hbm, ⟨0, _⟩ => ⟨S2x4096x6656, .bf16⟩
  | .hbm, ⟨1, _⟩ => ⟨S2x4096x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x1, .f32⟩
  | .local _ .vmem, ⟨9, _⟩ => ⟨S256x128, .f32⟩
  | _, _ => ⟨S2x4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 16], ![false, false, false]⟩

def k0_mult1 (i : grid0.Coords) : BitVec 32 :=
  let arg2 : BitVec 32 := BitVec.ofNat 32 (i 2).val
  let c256_i32 : BitVec 32 := 256#32
  let v17 : BitVec 32 := Scalar.muli arg2 c256_i32
  v17
def k0_off1 (i : grid0.Coords) : Fin 3 → Nat :=
  let c0_9 : Index := 0#32
  let arg2 : BitVec 32 := BitVec.ofNat 32 (i 2).val
  let c256_i32 : BitVec 32 := 256#32
  let v17 : BitVec 32 := Scalar.muli arg2 c256_i32
  let v18 : BitVec 32 := v17
  let v19 : Index := Scalar.indexCast v18
  let c0_10 : Index := 0#32
  ![0, v19.toNat, 0]
@[reducible] def k0_t1_loop (i : grid0.Coords) : Scf.Loop 32 :=
  let c0_i32_34 : BitVec 32 := 0#32
  let arg2 : BitVec 32 := BitVec.ofNat 32 (i 2).val
  let v70 : BitVec 32 := Scalar.subi arg2 c0_i32_34
  let c1_i32 : BitVec 32 := 1#32
  let v72 : BitVec 32 := Scalar.divsi v70 c1_i32
  let v73 : BitVec 32 := Scalar.muli v72 c1_i32
  let v74 : BitVec 32 := Scalar.addi c0_i32_34 v73
  let c1_i32_35 : BitVec 32 := 1#32
  ⟨c0_i32_34, v74, c1_i32_35⟩
def k0_mult2 (i : grid0.Coords) (k0_t1 : Fin (k0_t1_loop i).trips) : BitVec 32 :=
  let arg2 : BitVec 32 := BitVec.ofNat 32 (i 2).val
  let c1_i32_42 : BitVec 32 := 1#32
  let v80 : BitVec 32 := Scalar.subi arg2 c1_i32_42
  let c0_i32_34 : BitVec 32 := 0#32
  let c1_i32_35 : BitVec 32 := 1#32
  let arg9 : BitVec 32 := Scf.iv c0_i32_34 c1_i32_35 k0_t1
  let v81 : BitVec 32 := Scalar.subi v80 arg9
  let c256_i32_43 : BitVec 32 := 256#32
  let v82 : BitVec 32 := Scalar.muli v81 c256_i32_43
  v82
def k0_off2 (i : grid0.Coords) (k0_t1 : Fin (k0_t1_loop i).trips) : Fin 3 → Nat :=
  let c0_44 : Index := 0#32
  let arg2 : BitVec 32 := BitVec.ofNat 32 (i 2).val
  let c1_i32_42 : BitVec 32 := 1#32
  let v80 : BitVec 32 := Scalar.subi arg2 c1_i32_42
  let c0_i32_34 : BitVec 32 := 0#32
  let c1_i32_35 : BitVec 32 := 1#32
  let arg9 : BitVec 32 := Scf.iv c0_i32_34 c1_i32_35 k0_t1
  let v81 : BitVec 32 := Scalar.subi v80 arg9
  let c256_i32_43 : BitVec 32 := 256#32
  let v82 : BitVec 32 := Scalar.muli v81 c256_i32_43
  let v83 : BitVec 32 := v82
  let v84 : Index := Scalar.indexCast v83
  let c0_45 : Index := 0#32
  ![0, v84.toNat, 0]
@[reducible] def k0_t2_loop (i : grid0.Coords) : Scf.Loop 32 :=
  let c0_i32_34 : BitVec 32 := 0#32
  let arg2 : BitVec 32 := BitVec.ofNat 32 (i 2).val
  let v70 : BitVec 32 := Scalar.subi arg2 c0_i32_34
  let c1_i32 : BitVec 32 := 1#32
  let v72 : BitVec 32 := Scalar.divsi v70 c1_i32
  let v73 : BitVec 32 := Scalar.muli v72 c1_i32
  let v74 : BitVec 32 := Scalar.addi c0_i32_34 v73
  let v71 : BitVec 32 := Scalar.addi c0_i32_34 v70
  let c1_i32_36 : BitVec 32 := 1#32
  ⟨v74, v71, c1_i32_36⟩
def k0_mult3 (i : grid0.Coords) (k0_t2 : Fin (k0_t2_loop i).trips) : BitVec 32 :=
  let arg2 : BitVec 32 := BitVec.ofNat 32 (i 2).val
  let c1_i32_42 : BitVec 32 := 1#32
  let v80 : BitVec 32 := Scalar.subi arg2 c1_i32_42
  let c0_i32_34 : BitVec 32 := 0#32
  let v70 : BitVec 32 := Scalar.subi arg2 c0_i32_34
  let c1_i32 : BitVec 32 := 1#32
  let v72 : BitVec 32 := Scalar.divsi v70 c1_i32
  let v73 : BitVec 32 := Scalar.muli v72 c1_i32
  let v74 : BitVec 32 := Scalar.addi c0_i32_34 v73
  let c1_i32_36 : BitVec 32 := 1#32
  let arg9 : BitVec 32 := Scf.iv v74 c1_i32_36 k0_t2
  let v81 : BitVec 32 := Scalar.subi v80 arg9
  let c256_i32_43 : BitVec 32 := 256#32
  let v82 : BitVec 32 := Scalar.muli v81 c256_i32_43
  v82
def k0_off3 (i : grid0.Coords) (k0_t2 : Fin (k0_t2_loop i).trips) : Fin 3 → Nat :=
  let c0_44 : Index := 0#32
  let arg2 : BitVec 32 := BitVec.ofNat 32 (i 2).val
  let c1_i32_42 : BitVec 32 := 1#32
  let v80 : BitVec 32 := Scalar.subi arg2 c1_i32_42
  let c0_i32_34 : BitVec 32 := 0#32
  let v70 : BitVec 32 := Scalar.subi arg2 c0_i32_34
  let c1_i32 : BitVec 32 := 1#32
  let v72 : BitVec 32 := Scalar.divsi v70 c1_i32
  let v73 : BitVec 32 := Scalar.muli v72 c1_i32
  let v74 : BitVec 32 := Scalar.addi c0_i32_34 v73
  let c1_i32_36 : BitVec 32 := 1#32
  let arg9 : BitVec 32 := Scf.iv v74 c1_i32_36 k0_t2
  let v81 : BitVec 32 := Scalar.subi v80 arg9
  let c256_i32_43 : BitVec 32 := 256#32
  let v82 : BitVec 32 := Scalar.muli v81 c256_i32_43
  let v83 : BitVec 32 := v82
  let v84 : Index := Scalar.indexCast v83
  let c0_45 : Index := 0#32
  ![0, v84.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== StickRefIdeal.lean ====
abbrev S2x4096x6656 : Shape := ⟨3, ![2, 4096, 6656]⟩
abbrev S2x4096x2048 : Shape := ⟨3, ![2, 4096, 2048]⟩
abbrev S2x4096x16x128 : Shape := ⟨4, ![2, 4096, 16, 128]⟩
abbrev S2x16x4096x128 : Shape := ⟨4, ![2, 16, 4096, 128]⟩
abbrev S4096 : Shape := ⟨1, ![4096]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x6656, .bf16⟩
  | .hbm, ⟨1, _⟩ => ⟨S2x4096x6656, .f32⟩
  | .hbm, ⟨2, _⟩ => ⟨S2x4096x2048, .f32⟩
  | .hbm, ⟨3, _⟩ => ⟨S2x4096x16x128, .f32⟩
  | .hbm, ⟨4, _⟩ => ⟨S2x16x4096x128, .f32⟩
  | .hbm, ⟨5, _⟩ => ⟨S2x4096x2048, .f32⟩
  | .hbm, ⟨6, _⟩ => ⟨S2x4096x16x128, .f32⟩
  | .hbm, ⟨7, _⟩ => ⟨S2x16x4096x128, .f32⟩
  | .hbm, ⟨8, _⟩ => ⟨S2x4096x2048, .f32⟩
  | .hbm, ⟨9, _⟩ => ⟨S2x4096x16x128, .f32⟩
  | .hbm, ⟨10, _⟩ => ⟨S2x16x4096x128, .f32⟩
  | .hbm, ⟨11, _⟩ => ⟨S4096, .i32⟩
  | .hbm, ⟨12, _⟩ => ⟨S2x16x4096x4096, .f32⟩
  | .hbm, ⟨13, _⟩ => ⟨S_, .f32⟩
  | .hbm, ⟨14, _⟩ => ⟨S2x16x4096x4096, .f32⟩
  | .hbm, ⟨15, _⟩ => ⟨S2x16x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S2x16x4096x4096, .f32⟩
  | .hbm, ⟨22, _⟩ => ⟨S2x16x4096x4096, .f32⟩
  | .hbm, ⟨23, _⟩ => ⟨S_, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S_, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S_, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .i1⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S_, .f32⟩
  | .hbm, ⟨66, _⟩ => ⟨S_, .f32⟩
  | .hbm, ⟨67, _⟩ => ⟨S2x16x4096x4096, .i1⟩
  | .hbm, ⟨68, _⟩ => ⟨S2x16x4096x4096, .f32⟩
  | .hbm, ⟨69, _⟩ => ⟨S2x16x4096x4096, .f32⟩
  | .hbm, ⟨70, _⟩ => ⟨S2x16x4096x128, .f32⟩
  | .hbm, ⟨71, _⟩ => ⟨S2x4096x16x128, .f32⟩
  | .hbm, ⟨72, _⟩ => ⟨S2x4096x2048, .f32⟩
  | .hbm, ⟨73, _⟩ => ⟨S2x4096x2048, .bf16⟩
  | _, _ => ⟨S2x4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Up.lean ====
abbrev S8192x2048 : Shape := ⟨2, ![8192, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S1x2048 : Shape := ⟨2, ![1, 2048]⟩
abbrev S1x11264 : Shape := ⟨2, ![1, 11264]⟩
abbrev S8192x5632 : Shape := ⟨2, ![8192, 5632]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S528x2048 : Shape := ⟨2, ![528, 2048]⟩
abbrev S528x512 : Shape := ⟨2, ![528, 512]⟩
abbrev S16 : Shape := ⟨1, ![16]⟩
abbrev S16x1 : Shape := ⟨2, ![16, 1]⟩
abbrev S512 : Shape := ⟨1, ![512]⟩
abbrev S512x1 : Shape := ⟨2, ![512, 1]⟩
abbrev S16x512 : Shape := ⟨2, ![16, 512]⟩

abbrev nBuf : Space → Nat
  | .hbm => 10
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S2048x11264, .bf16⟩
  | .hbm, ⟨6, _⟩ => ⟨S1x2048, .f32⟩
  | .hbm, ⟨7, _⟩ => ⟨S1x11264, .f32⟩
  | .hbm, ⟨8, _⟩ => ⟨S1x11264, .f32⟩
  | .hbm, ⟨9, _⟩ => ⟨S8192x5632, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S512x512, .bf16⟩
  | .local _ .vmem, ⟨19, _⟩ => ⟨S528x2048, .bf16⟩
  | .local _ .vmem, ⟨20, _⟩ => ⟨S528x512, .f32⟩
  | .local _ .vmem, ⟨21, _⟩ => ⟨S528x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpRefIdeal.lean ====
abbrev S8192x2048 : Shape := ⟨2, ![8192, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4098x11264 : Shape := ⟨3, ![2, 4098, 11264]⟩
abbrev S1x11264 : Shape := ⟨2, ![1, 11264]⟩
abbrev S1x1x11264 : Shape := ⟨3, ![1, 1, 11264]⟩
abbrev S2x4096x5632 : Shape := ⟨3, ![2, 4096, 5632]⟩
abbrev S8192x5632 : Shape := ⟨2, ![8192, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x11264, .f32⟩
  | .hbm, ⟨23, _⟩ => ⟨S_, .i32⟩
  | .hbm, ⟨24, _⟩ => ⟨S_, .f32⟩
  | .hbm, ⟨25, _⟩ => ⟨S2x4098x11264, .f32⟩
  | .hbm, ⟨26, _⟩ => ⟨S1x11264, .f32⟩
  | .hbm, ⟨27, _⟩ => ⟨S11264, .f32⟩
  | .hbm, ⟨28, _⟩ => ⟨S2x4096x11264, .f32⟩
  | .hbm, ⟨29, _⟩ => ⟨S1x1x11264, .f32⟩
  | .hbm, ⟨30, _⟩ => ⟨S2x4096x11264, .f32⟩
  | .hbm, ⟨31, _⟩ => ⟨S2x4096x11264, .f32⟩
  | .hbm, ⟨32, _⟩ => ⟨S1x1x11264, .f32⟩
  | .hbm, ⟨33, _⟩ => ⟨S2x4096x11264, .f32⟩
  | .hbm, ⟨34, _⟩ => ⟨S2x4096x11264, .f32⟩
  | .hbm, ⟨35, _⟩ => ⟨S1x11264, .f32⟩
  | .hbm, ⟨36, _⟩ => ⟨S11264, .f32⟩
  | .hbm, ⟨37, _⟩ => ⟨S2x4096x11264, .f32⟩
  | .hbm, ⟨38, _⟩ => ⟨S1x1x11264, .f32⟩
  | .hbm, ⟨39, _⟩ => ⟨S2x4096x11264, .f32⟩
  | .hbm, ⟨40, _⟩ => ⟨S2x4096x11264, .f32⟩
  | .hbm, ⟨41, _⟩ => ⟨S2x4096x11264, .f32⟩
  | .hbm, ⟨42, _⟩ => ⟨S1x11264, .f32⟩
  | .hbm, ⟨43, _⟩ => ⟨S11264, .f32⟩
  | .hbm, ⟨44, _⟩ => ⟨S2x4096x11264, .f32⟩
  | .hbm, ⟨45, _⟩ => ⟨S1x1x11264, .f32⟩
  | .hbm, ⟨46, _⟩ => ⟨S2x4096x11264, .f32⟩
  | .hbm, ⟨47, _⟩ => ⟨S2x4096x11264, .f32⟩
  | .hbm, ⟨48, _⟩ => ⟨S2x4096x11264, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S_, .f32⟩
  | .hbm, ⟨54, _⟩ => ⟨S2x4096x5632, .f32⟩
  | .hbm, ⟨55, _⟩ => ⟨S2x4096x5632, .f32⟩
  | .hbm, ⟨56, _⟩ => ⟨S_, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S8192x5632, .f32⟩
  | .hbm, ⟨62, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2x4096x2048 : Shape := ⟨3, ![2, 4096, 2048]⟩
abbrev S2x4096x512 : Shape := ⟨3, ![2, 4096, 512]⟩
abbrev S2560x2048 : Shape := ⟨2, ![2560, 2048]⟩
abbrev S8192x512 : Shape := ⟨2, ![8192, 512]⟩
abbrev S2048x2048 : Shape := ⟨2, ![2048, 2048]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x4096x2048, .bf16⟩
  | .hbm, ⟨2, _⟩ => ⟨S2x4096x512, .bf16⟩
  | .hbm, ⟨3, _⟩ => ⟨S2560x2048, .f32⟩
  | .hbm, ⟨4, _⟩ => ⟨S2560x2048, .bf16⟩
  | .hbm, ⟨5, _⟩ => ⟨S8192x2048, .bf16⟩
  | .hbm, ⟨6, _⟩ => ⟨S8192x512, .bf16⟩
  | .hbm, ⟨7, _⟩ => ⟨S2048x2048, .bf16⟩
  | .hbm, ⟨8, _⟩ => ⟨S512x2048, .bf16⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8192x2048 : Shape := ⟨2, ![8192, 2048]⟩
abbrev S2x4096x2048 : Shape := ⟨3, ![2, 4096, 2048]⟩
abbrev S2x4096x512 : Shape := ⟨3, ![2, 4096, 512]⟩
abbrev S2560x2048 : Shape := ⟨2, ![2560, 2048]⟩
abbrev S2x4096x2560 : Shape := ⟨3, ![2, 4096, 2560]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x4096x2048, .bf16⟩
  | .hbm, ⟨2, _⟩ => ⟨S2x4096x512, .bf16⟩
  | .hbm, ⟨3, _⟩ => ⟨S2560x2048, .f32⟩
  | .hbm, ⟨4, _⟩ => ⟨S2x4096x2048, .f32⟩
  | .hbm, ⟨5, _⟩ => ⟨S2x4096x512, .f32⟩
  | .hbm, ⟨6, _⟩ => ⟨S2x4096x2560, .f32⟩
  | .hbm, ⟨7, _⟩ => ⟨S2x4096x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proj.lean ====
abbrev S8192x2048 : Shape := ⟨2, ![8192, 2048]⟩
abbrev S2048 : Shape := ⟨1, ![2048]⟩
abbrev S2048x6656 : Shape := ⟨2, ![2048, 6656]⟩
abbrev S1x2048 : Shape := ⟨2, ![1, 2048]⟩
abbrev S8192x6656 : Shape := ⟨2, ![8192, 6656]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .f32⟩
  | .hbm, ⟨3, _⟩ => ⟨S2048x6656, .bf16⟩
  | .hbm, ⟨4, _⟩ => ⟨S1x2048, .f32⟩
  | .hbm, ⟨5, _⟩ => ⟨S8192x6656, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8192x2048 : Shape := ⟨2, ![8192, 2048]⟩
abbrev S2048 : Shape := ⟨1, ![2048]⟩
abbrev S2048x6656 : Shape := ⟨2, ![2048, 6656]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6656 : Shape := ⟨2, ![8192, 6656]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6656, .f32⟩
  | .hbm, ⟨20, _⟩ => ⟨S8192x6656, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Swa.lean ====
abbrev S8192x2048 : Shape := ⟨2, ![8192, 2048]⟩
abbrev S2048 : Shape := ⟨1, ![2048]⟩
abbrev S2048x3072 : Shape := ⟨2, ![2048, 3072]⟩
abbrev S1x2048 : Shape := ⟨2, ![1, 2048]⟩
abbrev S8192x3072 : Shape := ⟨2, ![8192, 3072]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S8192x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwaRefIdeal.lean ====
abbrev S8192x2048 : Shape := ⟨2, ![8192, 2048]⟩
abbrev S2048 : Shape := ⟨1, ![2048]⟩
abbrev S2048x3072 : Shape := ⟨2, ![2048, 3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x3072, .f32⟩
  | .hbm, ⟨20, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Lat.lean ====
abbrev S8192x2048 : Shape := ⟨2, ![8192, 2048]⟩
abbrev S2048 : Shape := ⟨1, ![2048]⟩
abbrev S2048x1408 : Shape := ⟨2, ![2048, 1408]⟩
abbrev S1x2048 : Shape := ⟨2, ![1, 2048]⟩
abbrev S8192x1408 : Shape := ⟨2, ![8192, 1408]⟩
abbrev S512x2048 : Shape := ⟨2, ![512, 2048]⟩
abbrev S512x1408 : Shape := ⟨2, ![512, 1408]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1408, .f32⟩
  | .hbm, ⟨3, _⟩ => ⟨S2048x1408, .bf16⟩
  | .hbm, ⟨4, _⟩ => ⟨S1x2048, .f32⟩
  | .hbm, ⟨5, _⟩ => ⟨S8192x1408, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LatRefIdeal.lean ====
abbrev S8192x2048 : Shape := ⟨2, ![8192, 2048]⟩
abbrev S2048 : Shape := ⟨1, ![2048]⟩
abbrev S2048x1408 : Shape := ⟨2, ![2048, 1408]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x1408 : Shape := ⟨2, ![8192, 1408]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1408, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x1408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Mla.lean ====
abbrev S2x4096x4096 : Shape := ⟨3, ![2, 4096, 4096]⟩
abbrev S2x4096x2048 : Shape := ⟨3, ![2, 4096, 2048]⟩
abbrev S1x256x256 : Shape := ⟨3, ![1, 256, 256]⟩
abbrev S1x4096x256 : Shape := ⟨3, ![1, 4096, 256]⟩
abbrev S1x4096x128 : Shape := ⟨3, ![1, 4096, 128]⟩
abbrev S1x256x128 : Shape := ⟨3, ![1, 256, 128]⟩
abbrev S256x1 : Shape := ⟨2, ![256, 1]⟩
abbrev S256x128 : Shape := ⟨2, ![256, 128]⟩
abbrev S256x256 : Shape := ⟨2, ![256, 256]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x4096, .bf16⟩
  | .hbm, ⟨2, _⟩ => ⟨S2x4096x2048, .bf16⟩
  | .hbm, ⟨3, _⟩ => ⟨S2x4096x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x1, .f32⟩
  | .local _ .vmem, ⟨9, _⟩ => ⟨S256x1, .f32⟩
  | .local _ .vmem, ⟨10, _⟩ => ⟨S256x128, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 16], ![false, false, false]⟩

@[reducible] def k0_t1_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c256_i32_42 : BitVec 32 := 256#32
  let v72 : BitVec 32 := Scalar.muli arg10 c256_i32_42
  v72
def k0_off1 (i : grid0.Coords) (k0_t1 : Fin (k0_t1_loop i).trips) : Fin 3 → Nat :=
  let c0_43 : Index := 0#32
  let c0_i32_10 : BitVec 32 := 0#32
  let c1_i32_11 : BitVec 32 := 1#32
  let arg10 : BitVec 32 := Scf.iv c0_i32_10 c1_i32_11 k0_t1
  let c256_i32_42 : BitVec 32 := 256#32
  let v72 : BitVec 32 := Scalar.muli arg10 c256_i32_42
  let v73 : BitVec 32 := v72
  let v74 : Index := Scalar.indexCast v73
  let c0_44 : Index := 0#32
  ![0, v74.toNat, 0]
def k0_off2 (i : grid0.Coords) (k0_t1 : Fin (k0_t1_loop i).trips) : Fin 3 → Nat :=
  let c0_57 : Index := 0#32
  let c0_i32_10 : BitVec 32 := 0#32
  let c1_i32_11 : BitVec 32 := 1#32
  let arg10 : BitVec 32 := Scf.iv c0_i32_10 c1_i32_11 k0_t1
  let c256_i32_42 : BitVec 32 := 256#32
  let v72 : BitVec 32 := Scalar.muli arg10 c256_i32_42
  let v73 : BitVec 32 := v72
  let v101 : Index := Scalar.indexCast v73
  let c0_58 : Index := 0#32
  ![0, v101.toNat, 0]
@[reducible] def k0_t2_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c256_i32_42 : BitVec 32 := 256#32
  let v72 : BitVec 32 := Scalar.muli arg10 c256_i32_42
  v72
def k0_off3 (i : grid0.Coords) (k0_t2 : Fin (k0_t2_loop i).trips) : Fin 3 → Nat :=
  let c0_43 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c256_i32_42 : BitVec 32 := 256#32
  let v72 : BitVec 32 := Scalar.muli arg10 c256_i32_42
  let v73 : BitVec 32 := v72
  let v74 : Index := Scalar.indexCast v73
  let c0_44 : Index := 0#32
  ![0, v74.toNat, 0]
def k0_off4 (i : grid0.Coords) (k0_t2 : Fin (k0_t2_loop i).trips) : Fin 3 → Nat :=
  let c0_57 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c256_i32_42 : BitVec 32 := 256#32
  let v72 : BitVec 32 := Scalar.muli arg10 c256_i32_42
  let v73 : BitVec 32 := v72
  let v101 : Index := Scalar.indexCast v73
  let c0_58 : Index := 0#32
  ![0, v101.toNat, 0]
def k0_mult3 (i : grid0.Coords) : BitVec 32 :=
  let arg2 : BitVec 32 := BitVec.ofNat 32 (i 2).val
  let c256_i32 : BitVec 32 := 256#32
  let v19 : BitVec 32 := Scalar.muli arg2 c256_i32
  v19
def k0_off5 (i : grid0.Coords) : Fin 3 → Nat :=
  let c0_13 : Index := 0#32
  let arg2 : BitVec 32 := BitVec.ofNat 32 (i 2).val
  let c256_i32 : BitVec 32 := 256#32
  let v19 : BitVec 32 := Scalar.muli arg2 c256_i32
  let v20 : BitVec 32 := v19
  let v21 : Index := Scalar.indexCast v20
  let c0_14 : Index := 0#32
  ![0, v21.toNat, 0]
def k0_off6 (i : grid0.Coords) : Fin 3 → Nat :=
  let c0_28 : Index := 0#32
  let arg2 : BitVec 32 := BitVec.ofNat 32 (i 2).val
  let c256_i32 : BitVec 32 := 256#32
  let v19 : BitVec 32 := Scalar.muli arg2 c256_i32
  let v20 : BitVec 32 := v19
  let v53 : Index := Scalar.indexCast v20
  let c0_29 : Index := 0#32
  ![0, v53.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S2x4096x4096 : Shape := ⟨3, ![2, 4096, 4096]⟩
abbrev S2x4096x2048 : Shape := ⟨3, ![2, 4096, 2048]⟩
abbrev S2x4096x16x256 : Shape := ⟨4, ![2, 4096, 16, 256]⟩
abbrev S2x16x4096x256 : Shape := ⟨4, ![2, 16, 4096, 256]⟩
abbrev S2x4096x16x128 : Shape := ⟨4, ![2, 4096, 16, 128]⟩
abbrev S2x16x4096x128 : Shape := ⟨4, ![2, 16, 4096, 128]⟩
abbrev S4096 : Shape := ⟨1, ![4096]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x4096, .bf16⟩
  | .hbm, ⟨2, _⟩ => ⟨S2x4096x2048, .bf16⟩
  | .hbm, ⟨3, _⟩ => ⟨S2x4096x4096, .f32⟩
  | .hbm, ⟨4, _⟩ => ⟨S2x4096x16x256, .f32⟩
  | .hbm, ⟨5, _⟩ => ⟨S2x16x4096x256, .f32⟩
  | .hbm, ⟨6, _⟩ => ⟨S2x4096x4096, .f32⟩
  | .hbm, ⟨7, _⟩ => ⟨S2x4096x16x256, .f32⟩
  | .hbm, ⟨8, _⟩ => ⟨S2x16x4096x256, .f32⟩
  | .hbm, ⟨9, _⟩ => ⟨S2x4096x2048, .f32⟩
  | .hbm, ⟨10, _⟩ => ⟨S2x4096x16x128, .f32⟩
  | .hbm, ⟨11, _⟩ => ⟨S2x16x4096x128, .f32⟩
  | .hbm, ⟨12, _⟩ => ⟨S4096, .i32⟩
  | .hbm, ⟨13, _⟩ => ⟨S2x16x4096x4096, .f32⟩
  | .hbm, ⟨14, _⟩ => ⟨S_, .f32⟩
  | .hbm, ⟨15, _⟩ => ⟨S2x16x4096x4096, .f32⟩
  | .hbm, ⟨16, _⟩ => ⟨S2x16x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S2x16x4096x4096, .i1⟩
  | .hbm, ⟨25, _⟩ => ⟨S2x16x4096x4096, .f32⟩
  | .hbm, ⟨26, _⟩ => ⟨S2x16x4096x4096, .f32⟩
  | .hbm, ⟨27, _⟩ => ⟨S_, .f32⟩
  | .hbm, ⟨28, _⟩ => ⟨S2x16x4096, .f32⟩
  | .hbm, ⟨29, _⟩ => ⟨S_, .f32⟩
  | .hbm, ⟨30, _⟩ => ⟨S2x16x4096, .f32⟩
  | .hbm, ⟨31, _⟩ => ⟨S2x16x4096, .f32⟩
  | .hbm, ⟨32, _⟩ => ⟨S2x16x4096x1, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S_, .f32⟩
  | .hbm, ⟨37, _⟩ => ⟨S2x16x4096, .f32⟩
  | .hbm, ⟨38, _⟩ => ⟨S2x16x4096x1, .f32⟩
  | .hbm, ⟨39, _⟩ => ⟨S2x16x4096x4096, .f32⟩
  | .hbm, ⟨40, _⟩ => ⟨S2x16x4096x4096, .f32⟩
  | .hbm, ⟨41, _⟩ => ⟨S2x16x4096x128, .f32⟩
  | .hbm, ⟨42, _⟩ => ⟨S2x4096x16x128, .f32⟩
  | .hbm, ⟨43, _⟩ => ⟨S2x4096x2048, .f32⟩
  | .hbm, ⟨44, _⟩ => ⟨S2x4096x2048, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Fox.lean ====
abbrev S2x4096x6656 : Shape := ⟨3, ![2, 4096, 6656]⟩
abbrev S2x16x4096 : Shape := ⟨3, ![2, 16, 4096]⟩
abbrev S2x16x16x1x256 : Shape := ⟨5, ![2, 16, 16, 1, 256]⟩
abbrev S2x4096x2048 : Shape := ⟨3, ![2, 4096, 2048]⟩
abbrev S1x256x128 : Shape := ⟨3, ![1, 256, 128]⟩
abbrev S1x4096x128 : Shape := ⟨3, ![1, 4096, 128]⟩
abbrev S1x1x1x1x256 : Shape := ⟨5, ![1, 1, 1, 1, 256]⟩
abbrev S1x1x16x1x256 : Shape := ⟨5, ![1, 1, 16, 1, 256]⟩
abbrev S256x1 : Shape := ⟨2, ![256, 1]⟩
abbrev S256x128 : Shape := ⟨2, ![256, 128]⟩
abbrev S1x256 : Shape := ⟨2, ![1, 256]⟩
abbrev S256x256 : Shape := ⟨2, ![256, 256]⟩
abbrev S256 : Shape := ⟨1, ![256]⟩

abbrev nBuf : Space → Nat
  | .hbm => 4
  | .vmem => 15
  | .smem => 0
  | _ => 0

abbrev bufTy : (tb : Table) → Fin (tcTables nBuf tb) → BufTy
  | .hbm, ⟨0, _⟩ => ⟨S2x4096x6656, .bf16⟩
  | .hbm, ⟨1, _⟩ => ⟨S2x16x4096, .f32⟩
  | .hbm, ⟨2, _⟩ => ⟨S2x16x16x1x256, .f32⟩
  | .hbm, ⟨3, _⟩ => ⟨S2x4096x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x1x1x256, .f32⟩
  | .local _ .vmem, ⟨7, _⟩ => ⟨S1x1x1x1x256, .f32⟩
  | .local _ .vmem, ⟨8, _⟩ => ⟨S1x1x16x1x256, .f32⟩
  | .local _ .vmem, ⟨9, _⟩ => ⟨S1x1x16x1x256, .f32⟩
  | .local _ .vmem, ⟨10, _⟩ => ⟨S1x256x128, .bf16⟩
  | .local _ .vmem, ⟨11, _⟩ => ⟨S1x256x128, .bf16⟩
  | .local _ .vmem, ⟨12, _⟩ => ⟨S256x1, .f32⟩
  | .local _ .vmem, ⟨13, _⟩ => ⟨S256x1, .f32⟩
  | .local _ .vmem, ⟨14, _⟩ => ⟨S256x128, .f32⟩
  | _, _ => ⟨S2x4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 16], ![false, false, false]⟩

@[reducible] def k0_t1_loop (i : grid0.Coords) : Scf.Loop 32 :=
  let c0_i32_17 : BitVec 32 := 0#32
  let arg2 : BitVec 32 := BitVec.ofNat 32 (i 2).val
  let v25 : BitVec 32 := Scalar.subi arg2 c0_i32_17
  let c1_i32 : BitVec 32 := 1#32
  let v27 : BitVec 32 := Scalar.divsi v25 c1_i32
  let v28 : BitVec 32 := Scalar.muli v27 c1_i32
  let v29 : BitVec 32 := Scalar.addi c0_i32_17 v28
  let c1_i32_18 : BitVec 32 := 1#32
  ⟨c0_i32_17, v29, c1_i32_18⟩
def k0_mult1 (i : grid0.Coords) (k0_t1 : Fin (k0_t1_loop i).trips) : BitVec 32 :=
  let c0_i32_17 : BitVec 32 := 0#32
  let c1_i32_18 : BitVec 32 := 1#32
  let arg12 : BitVec 32 := Scf.iv c0_i32_17 c1_i32_18 k0_t1
  let c256_i32_53 : BitVec 32 := 256#32
  let v90 : BitVec 32 := Scalar.muli arg12 c256_i32_53
  v90
def k0_off1 (i : grid0.Coords) (k0_t1 : Fin (k0_t1_loop i).trips) : Fin 3 → Nat :=
  let c0_54 : Index := 0#32
  let c0_i32_17 : BitVec 32 := 0#32
  let c1_i32_18 : BitVec 32 := 1#32
  let arg12 : BitVec 32 := Scf.iv c0_i32_17 c1_i32_18 k0_t1
  let c256_i32_53 : BitVec 32 := 256#32
  let v90 : BitVec 32 := Scalar.muli arg12 c256_i32_53
  let v91 : BitVec 32 := v90
  let v92 : Index := Scalar.indexCast v91
  let c0_55 : Index := 0#32
  ![0, v92.toNat, 0]
def k0_off2 (i : grid0.Coords) (k0_t1 : Fin (k0_t1_loop i).trips) : Fin 5 → Nat :=
  let c0_58 : Index := 0#32
  let c0_59 : Index := 0#32
  let c0_i32_17 : BitVec 32 := 0#32
  let c1_i32_18 : BitVec 32 := 1#32
  let arg12 : BitVec 32 := Scf.iv c0_i32_17 c1_i32_18 k0_t1
  let v98 : Index := Scalar.indexCast arg12
  let c0_60 : Index := 0#32
  let c0_61 : Index := 0#32
  ![0, 0, v98.toNat, 0, 0]
@[reducible] def k0_t2_loop (i : grid0.Coords) : Scf.Loop 32 :=
  let c0_i32_17 : BitVec 32 := 0#32
  let arg2 : BitVec 32 := BitVec.ofNat 32 (i 2).val
  let v25 : BitVec 32 := Scalar.subi arg2 c0_i32_17
  let c1_i32 : BitVec 32 := 1#32
  let v27 : BitVec 32 := Scalar.divsi v25 c1_i32
  let v28 : BitVec 32 := Scalar.muli v27 c1_i32
  let v29 : BitVec 32 := Scalar.addi c0_i32_17 v28
  let v26 : BitVec 32 := Scalar.addi c0_i32_17 v25
  let c1_i32_19 : BitVec 32 := 1#32
  ⟨v29, v26, c1_i32_19⟩
def k0_mult2 (i : grid0.Coords) (k0_t2 : Fin (k0_t2_loop i).trips) : BitVec 32 :=
  let c0_i32_17 : BitVec 32 := 0#32
  let arg2 : BitVec 32 := BitVec.ofNat 32 (i 2).val
  let v25 : BitVec 32 := Scalar.subi arg2 c0_i32_17
  let c1_i32 : BitVec 32 := 1#32
  let v27 : BitVec 32 := Scalar.divsi v25 c1_i32
  let v28 : BitVec 32 := Scalar.muli v27 c1_i32
  let v29 : BitVec 32 := Scalar.addi c0_i32_17 v28
  let c1_i32_19 : BitVec 32 := 1#32
  let arg12 : BitVec 32 := Scf.iv v29 c1_i32_19 k0_t2
  let c256_i32_53 : BitVec 32 := 256#32
  let v90 : BitVec 32 := Scalar.muli arg12 c256_i32_53
  v90
def k0_off3 (i : grid0.Coords) (k0_t2 : Fin (k0_t2_loop i).trips) : Fin 3 → Nat :=
  let c0_54 : Index := 0#32
  let c0_i32_17 : BitVec 32 := 0#32
  let arg2 : BitVec 32 := BitVec.ofNat 32 (i 2).val
  let v25 : BitVec 32 := Scalar.subi arg2 c0_i32_17
  let c1_i32 : BitVec 32 := 1#32
  let v27 : BitVec 32 := Scalar.divsi v25 c1_i32
  let v28 : BitVec 32 := Scalar.muli v27 c1_i32
  let v29 : BitVec 32 := Scalar.addi c0_i32_17 v28
  let c1_i32_19 : BitVec 32 := 1#32
  let arg12 : BitVec 32 := Scf.iv v29 c1_i32_19 k0_t2
  let c256_i32_53 : BitVec 32 := 256#32
  let v90 : BitVec 32 := Scalar.muli arg12 c256_i32_53
  let v91 : BitVec 32 := v90
  let v92 : Index := Scalar.indexCast v91
  let c0_55 : Index := 0#32
  ![0, v92.toNat, 0]
def k0_off4 (i : grid0.Coords) (k0_t2 : Fin (k0_t2_loop i).trips) : Fin 5 → Nat :=
  let c0_58 : Index := 0#32
  let c0_59 : Index := 0#32
  let c0_i32_17 : BitVec 32 := 0#32
  let arg2 : BitVec 32 := BitVec.ofNat 32 (i 2).val
  let v25 : BitVec 32 := Scalar.subi arg2 c0_i32_17
  let c1_i32 : BitVec 32 := 1#32
  let v27 : BitVec 32 := Scalar.divsi v25 c1_i32
  let v28 : BitVec 32 := Scalar.muli v27 c1_i32
  let v29 : BitVec 32 := Scalar.addi c0_i32_17 v28
  let c1_i32_19 : BitVec 32 := 1#32
  let arg12 : BitVec 32 := Scf.iv v29 c1_i32_19 k0_t2
  let v98 : Index := Scalar.indexCast arg12
  let c0_60 : Index := 0#32
  let c0_61 : Index := 0#32
  ![0, 0, v98.toNat, 0, 0]
def k0_mult3 (i : grid0.Coords) : BitVec 32 :=
  let arg2 : BitVec 32 := BitVec.ofNat 32 (i 2).val
  let c256_i32 : BitVec 32 := 256#32
  let v30 : BitVec 32 := Scalar.muli arg2 c256_i32
  v30
def k0_off5 (i : grid0.Coords) : Fin 3 → Nat :=
  let c0_20 : Index := 0#32
  let arg2 : BitVec 32 := BitVec.ofNat 32 (i 2).val
  let c256_i32 : BitVec 32 := 256#32
  let v30 : BitVec 32 := Scalar.muli arg2 c256_i32
  let v31 : BitVec 32 := v30
  let v32 : Index := Scalar.indexCast v31
  let c0_21 : Index := 0#32
  ![0, v32.toNat, 0]
def k0_off6 (i : grid0.Coords) : Fin 5 → Nat :=
  let c0_24 : Index := 0#32
  let c0_25 : Index := 0#32
  let arg2 : BitVec 32 := BitVec.ofNat 32 (i 2).val
  let v38 : Index := Scalar.indexCast arg2
  let c0_26 : Index := 0#32
  let c0_27 : Index := 0#32
  ![0, 0, v38.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x16x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxRefIdeal.lean ====
abbrev S2x4096x6656 : Shape := ⟨3, ![2, 4096, 6656]⟩
abbrev S2x16x4096 : Shape := ⟨3, ![2, 16, 4096]⟩
abbrev S2x4096x2048 : Shape := ⟨3, ![2, 4096, 2048]⟩
abbrev S2x4096x16x128 : Shape := ⟨4, ![2, 4096, 16, 128]⟩
abbrev S2x16x4096x128 : Shape := ⟨4, ![2, 16, 4096, 128]⟩
abbrev S4096 : Shape := ⟨1, ![4096]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x6656, .bf16⟩
  | .hbm, ⟨1, _⟩ => ⟨S2x16x4096, .f32⟩
  | .hbm, ⟨2, _⟩ => ⟨S2x4096x6656, .f32⟩
  | .hbm, ⟨3, _⟩ => ⟨S2x4096x2048, .f32⟩
  | .hbm, ⟨4, _⟩ => ⟨S2x4096x16x128, .f32⟩
  | .hbm, ⟨5, _⟩ => ⟨S2x16x4096x128, .f32⟩
  | .hbm, ⟨6, _⟩ => ⟨S2x4096x2048, .f32⟩
  | .hbm, ⟨7, _⟩ => ⟨S2x4096x16x128, .f32⟩
  | .hbm, ⟨8, _⟩ => ⟨S2x16x4096x128, .f32⟩
  | .hbm, ⟨9, _⟩ => ⟨S2x4096x2048, .f32⟩
  | .hbm, ⟨10, _⟩ => ⟨S2x4096x16x128, .f32⟩
  | .hbm, ⟨11, _⟩ => ⟨S2x16x4096x128, .f32⟩
  | .hbm, ⟨12, _⟩ => ⟨S4096, .i32⟩
  | .hbm, ⟨13, _⟩ => ⟨S2x16x4096x4096, .f32⟩
  | .hbm, ⟨14, _⟩ => ⟨S_, .f32⟩
  | .hbm, ⟨15, _⟩ => ⟨S2x16x4096x4096, .f32⟩
  | .hbm, ⟨16, _⟩ => ⟨S2x16x4096x4096, .f32⟩
  | .hbm, ⟨17, _⟩ => ⟨S2x16x4096x1, .f32⟩
  | .hbm, ⟨18, _⟩ => ⟨S2x16x1x4096, .f32⟩
  | .hbm, ⟨19, _⟩ => ⟨S2x16x4096x4096, .f32⟩
  | .hbm, ⟨20, _⟩ => ⟨S2x16x4096x4096, .f32⟩
  | .hbm, ⟨21, _⟩ => ⟨S2x16x4096x4096, .f32⟩
  | .hbm, ⟨22, _⟩ => ⟨S2x16x4096x4096, .f32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S_, .f32⟩
  | .hbm, ⟨36, _⟩ => ⟨S2x16x4096, .f32⟩
  | .hbm, ⟨37, _⟩ => ⟨S2x16x4096, .f32⟩
  | .hbm, ⟨38, _⟩ => ⟨S2x16x4096x1, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .f32⟩
  | .hbm, ⟨42, _⟩ => ⟨S_, .f32⟩
  | .hbm, ⟨43, _⟩ => ⟨S2x16x4096, .f32⟩
  | .hbm, ⟨44, _⟩ => ⟨S2x16x4096x1, .f32⟩
  | .hbm, ⟨45, _⟩ => ⟨S2x16x4096x4096, .f32⟩
  | .hbm, ⟨46, _⟩ => ⟨S2x16x4096x4096, .f32⟩
  | .hbm, ⟨47, _⟩ => ⟨S2x16x4096x128, .f32⟩
  | .hbm, ⟨48, _⟩ => ⟨S2x4096x16x128, .f32⟩
  | .hbm, ⟨49, _⟩ => ⟨S2x4096x2048, .f32⟩
  | .hbm, ⟨50, _⟩ => ⟨S2x4096x2048, .bf16⟩
  | _, _ => ⟨S2x4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Key.lean ====
abbrev S512x2048 : Shape := ⟨2, ![512, 2048]⟩
abbrev S2048 : Shape := ⟨1, ![2048]⟩
abbrev S2048x1024 : Shape := ⟨2, ![2048, 1024]⟩
abbrev S1x2048 : Shape := ⟨2, ![1, 2048]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S512x1024, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S512x1024, .bf16⟩
  | .local _ .vmem, ⟨4, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KeyRefIdeal.lean ====
abbrev S512x2048 : Shape := ⟨2, ![512, 2048]⟩
abbrev S2048 : Shape := ⟨1, ![2048]⟩
abbrev S2048x1024 : Shape := ⟨2, ![2048, 1024]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x1024, .f32⟩
  | .hbm, ⟨20, _⟩ => ⟨S512x1024, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gate.lean ====
abbrev S8192x2048 : Shape := ⟨2, ![8192, 2048]⟩
abbrev S2048 : Shape := ⟨1, ![2048]⟩
abbrev S2048x128 : Shape := ⟨2, ![2048, 128]⟩
abbrev S1x2048 : Shape := ⟨2, ![1, 2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S2048x128, .bf16⟩
  | .hbm, ⟨4, _⟩ => ⟨S1x2048, .f32⟩
  | .hbm, ⟨5, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x128, .f32⟩
  | .local _ .vmem, ⟨5, _⟩ => ⟨S512x128, .f32⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S8192x2048 : Shape := ⟨2, ![8192, 2048]⟩
abbrev S2048 : Shape := ⟨1, ![2048]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Fin.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Recall.lean ====
abbrev S2x4096x6656 : Shape := ⟨3, ![2, 4096, 6656]⟩
abbrev S2x256x1024 : Shape := ⟨3, ![2, 256, 1024]⟩
abbrev S2x4096x512 : Shape := ⟨3, ![2, 4096, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x6656, .bf16⟩
  | .hbm, ⟨1, _⟩ => ⟨S2x256x1024, .bf16⟩
  | .hbm, ⟨2, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S2x4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecallRefIdeal.lean ====
abbrev S2x4096x6656 : Shape := ⟨3, ![2, 4096, 6656]⟩
abbrev S2x256x1024 : Shape := ⟨3, ![2, 256, 1024]⟩
abbrev S2x4096x512 : Shape := ⟨3, ![2, 4096, 512]⟩
abbrev S2x4096x4x128 : Shape := ⟨4, ![2, 4096, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x6656, .bf16⟩
  | .hbm, ⟨1, _⟩ => ⟨S2x256x1024, .bf16⟩
  | .hbm, ⟨2, _⟩ => ⟨S2x4096x512, .bf16⟩
  | .hbm, ⟨3, _⟩ => ⟨S2x4096x512, .f32⟩
  | .hbm, ⟨4, _⟩ => ⟨S2x4096x4x128, .f32⟩
  | .hbm, ⟨5, _⟩ => ⟨S2x256x1024, .f32⟩
  | .hbm, ⟨6, _⟩ => ⟨S2x256x2x4x128, .f32⟩
  | .hbm, ⟨7, _⟩ => ⟨S2x256x1x4x128, .f32⟩
  | .hbm, ⟨8, _⟩ => ⟨S2x256x4x128, .f32⟩
  | .hbm, ⟨9, _⟩ => ⟨S2x4x4096x256, .f32⟩
  | .hbm, ⟨10, _⟩ => ⟨S_, .f32⟩
  | .hbm, ⟨11, _⟩ => ⟨S2x4x4096x256, .f32⟩
  | .hbm, ⟨12, _⟩ => ⟨S2x4x4096x256, .f32⟩
  | .hbm, ⟨13, _⟩ => ⟨S_, .f32⟩
  | .hbm, ⟨14, _⟩ => ⟨S2x4x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096x1, .f32⟩
  | .hbm, ⟨19, _⟩ => ⟨S2x4x4096x256, .f32⟩
  | .hbm, ⟨20, _⟩ => ⟨S2x4x4096x256, .f32⟩
  | .hbm, ⟨21, _⟩ => ⟨S2x4x4096x256, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x256, .f32⟩
  | .hbm, ⟨26, _⟩ => ⟨S2x4x4096x256, .f32⟩
  | .hbm, ⟨27, _⟩ => ⟨S2x256x1x4x128, .f32⟩
  | .hbm, ⟨28, _⟩ => ⟨S2x256x4x128, .f32⟩
  | .hbm, ⟨29, _⟩ => ⟨S2x4x128x4096, .f32⟩
  | .hbm, ⟨30, _⟩ => ⟨S2x4096x4x128, .f32⟩
  | .hbm, ⟨31, _⟩ => ⟨S2x4096x512, .f32⟩
  | .hbm, ⟨32, _⟩ => ⟨S2x4096x512, .bf16⟩
  | _, _ => ⟨S2x4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== RecallW.lean ====
abbrev S2x4096x3072 : Shape := ⟨3, ![2, 4096, 3072]⟩
abbrev S2x256x1024 : Shape := ⟨3, ![2, 256, 1024]⟩
abbrev S2x4096x512 : Shape := ⟨3, ![2, 4096, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x3072, .bf16⟩
  | .hbm, ⟨1, _⟩ => ⟨S2x256x1024, .bf16⟩
  | .hbm, ⟨2, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecallWRefIdeal.lean ====
abbrev S2x4096x3072 : Shape := ⟨3, ![2, 4096, 3072]⟩
abbrev S2x256x1024 : Shape := ⟨3, ![2, 256, 1024]⟩
abbrev S2x4096x512 : Shape := ⟨3, ![2, 4096, 512]⟩
abbrev S2x4096x4x128 : Shape := ⟨4, ![2, 4096, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x256x1024, .bf16⟩
  | .hbm, ⟨2, _⟩ => ⟨S2x4096x512, .bf16⟩
  | .hbm, ⟨3, _⟩ => ⟨S2x4096x512, .f32⟩
  | .hbm, ⟨4, _⟩ => ⟨S2x4096x4x128, .f32⟩
  | .hbm, ⟨5, _⟩ => ⟨S2x256x1024, .f32⟩
  | .hbm, ⟨6, _⟩ => ⟨S2x256x2x4x128, .f32⟩
  | .hbm, ⟨7, _⟩ => ⟨S2x256x1x4x128, .f32⟩
  | .hbm, ⟨8, _⟩ => ⟨S2x256x4x128, .f32⟩
  | .hbm, ⟨9, _⟩ => ⟨S2x4x4096x256, .f32⟩
  | .hbm, ⟨10, _⟩ => ⟨S_, .f32⟩
  | .hbm, ⟨11, _⟩ => ⟨S2x4x4096x256, .f32⟩
  | .hbm, ⟨12, _⟩ => ⟨S2x4x4096x256, .f32⟩
  | .hbm, ⟨13, _⟩ => ⟨S_, .f32⟩
  | .hbm, ⟨14, _⟩ => ⟨S2x4x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096x1, .f32⟩
  | .hbm, ⟨19, _⟩ => ⟨S2x4x4096x256, .f32⟩
  | .hbm, ⟨20, _⟩ => ⟨S2x4x4096x256, .f32⟩
  | .hbm, ⟨21, _⟩ => ⟨S2x4x4096x256, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x256, .f32⟩
  | .hbm, ⟨26, _⟩ => ⟨S2x4x4096x256, .f32⟩
  | .hbm, ⟨27, _⟩ => ⟨S2x256x1x4x128, .f32⟩
  | .hbm, ⟨28, _⟩ => ⟨S2x256x4x128, .f32⟩
  | .hbm, ⟨29, _⟩ => ⟨S2x4x128x4096, .f32⟩
  | .hbm, ⟨30, _⟩ => ⟨S2x4096x4x128, .f32⟩
  | .hbm, ⟨31, _⟩ => ⟨S2x4096x512, .f32⟩
  | .hbm, ⟨32, _⟩ => ⟨S2x4096x512, .bf16⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== RecallL.lean ====
abbrev S2x4096x1408 : Shape := ⟨3, ![2, 4096, 1408]⟩
abbrev S2x256x1024 : Shape := ⟨3, ![2, 256, 1024]⟩
abbrev S2x4096x512 : Shape := ⟨3, ![2, 4096, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x1408, .f32⟩
  | .hbm, ⟨1, _⟩ => ⟨S2x256x1024, .bf16⟩
  | .hbm, ⟨2, _⟩ => ⟨S2x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S2x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecallLRefIdeal.lean ====
abbrev S2x4096x1408 : Shape := ⟨3, ![2, 4096, 1408]⟩
abbrev S2x256x1024 : Shape := ⟨3, ![2, 256, 1024]⟩
abbrev S2x4096x512 : Shape := ⟨3, ![2, 4096, 512]⟩
abbrev S2x4096x4x128 : Shape := ⟨4, ![2, 4096, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x1408, .f32⟩
  | .hbm, ⟨1, _⟩ => ⟨S2x256x1024, .bf16⟩
  | .hbm, ⟨2, _⟩ => ⟨S2x4096x512, .f32⟩
  | .hbm, ⟨3, _⟩ => ⟨S2x4096x4x128, .f32⟩
  | .hbm, ⟨4, _⟩ => ⟨S2x256x1024, .f32⟩
  | .hbm, ⟨5, _⟩ => ⟨S2x256x2x4x128, .f32⟩
  | .hbm, ⟨6, _⟩ => ⟨S2x256x1x4x128, .f32⟩
  | .hbm, ⟨7, _⟩ => ⟨S2x256x4x128, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x256x1x4x128, .f32⟩
  | .hbm, ⟨27, _⟩ => ⟨S2x256x4x128, .f32⟩
  | .hbm, ⟨28, _⟩ => ⟨S2x4x128x4096, .f32⟩
  | .hbm, ⟨29, _⟩ => ⟨S2x4096x4x128, .f32⟩
  | .hbm, ⟨30, _⟩ => ⟨S2x4096x512, .f32⟩
  | .hbm, ⟨31, _⟩ => ⟨S2x4096x512, .bf16⟩
  | _, _ => ⟨S2x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Query.lean ====
abbrev S8192x1408 : Shape := ⟨2, ![8192, 1408]⟩
abbrev S512 : Shape := ⟨1, ![512]⟩
abbrev S512x3072 : Shape := ⟨2, ![512, 3072]⟩
abbrev S8192x128 : Shape := ⟨2, ![8192, 128]⟩
abbrev S512x16x192 : Shape := ⟨3, ![512, 16, 192]⟩
abbrev S512x16x64 : Shape := ⟨3, ![512, 16, 64]⟩
abbrev S512x16x32 : Shape := ⟨3, ![512, 16, 32]⟩
abbrev S512x16x256 : Shape := ⟨3, ![512, 16, 256]⟩
abbrev S512x4096 : Shape := ⟨2, ![512, 4096]⟩
abbrev S1x512 : Shape := ⟨2, ![1, 512]⟩
abbrev S8192x4096 : Shape := ⟨2, ![8192, 4096]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S8192x1408, .f32⟩
  | .hbm, ⟨1, _⟩ => ⟨S512, .f32⟩
  | .hbm, ⟨2, _⟩ => ⟨S512x3072, .f32⟩
  | .hbm, ⟨3, _⟩ => ⟨S8192x128, .f32⟩
  | .hbm, ⟨4, _⟩ => ⟨S512x16x192, .f32⟩
  | .hbm, ⟨5, _⟩ => ⟨S512x16x64, .f32⟩
  | .hbm, ⟨6, _⟩ => ⟨S512x16x32, .f32⟩
  | .hbm, ⟨7, _⟩ => ⟨S512x16x32, .f32⟩
  | .hbm, ⟨8, _⟩ => ⟨S512x16x64, .f32⟩
  | .hbm, ⟨9, _⟩ => ⟨S512x16x256, .f32⟩
  | .hbm, ⟨10, _⟩ => ⟨S512x4096, .f32⟩
  | .hbm, ⟨11, _⟩ => ⟨S512x4096, .bf16⟩
  | .hbm, ⟨12, _⟩ => ⟨S1x512, .f32⟩
  | .hbm, ⟨13, _⟩ => ⟨S8192x4096, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x256, .bf16⟩
  | .local _ .vmem, ⟨4, _⟩ => ⟨S512x256, .bf16⟩
  | .local _ .vmem, ⟨5, _⟩ => ⟨S512x128, .f32⟩
  | .local _ .vmem, ⟨6, _⟩ => ⟨S512x128, .f32⟩
  | .local _ .vmem, ⟨7, _⟩ => ⟨S512x256, .bf16⟩
  | .local _ .vmem, ⟨8, _⟩ => ⟨S512x256, .bf16⟩
  | .local _ .vmem, ⟨9, _⟩ => ⟨S512x512, .bf16⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryRefIdeal.lean ====
abbrev S8192x1408 : Shape := ⟨2, ![8192, 1408]⟩
abbrev S512 : Shape := ⟨1, ![512]⟩
abbrev S512x3072 : Shape := ⟨2, ![512, 3072]⟩
abbrev S8192x128 : Shape := ⟨2, ![8192, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x3072 : Shape := ⟨2, ![8192, 3072]⟩
abbrev S8192x16x192 : Shape := ⟨3, ![8192, 16, 192]⟩
abbrev S8192x16x128 : Shape := ⟨3, ![8192, 16, 128]⟩
abbrev S8192x16x64 : Shape := ⟨3, ![8192, 16, 64]⟩
abbrev S8192x16x32 : Shape := ⟨3, ![8192, 16, 32]⟩
abbrev S8192x64 : Shape := ⟨2, ![8192, 64]⟩
abbrev S8192x1x64 : Shape := ⟨3, ![8192, 1, 64]⟩
abbrev S8192x16x256 : Shape := ⟨3, ![8192, 16, 256]⟩
abbrev S8192x4096 : Shape := ⟨2, ![8192, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S512, .f32⟩
  | .hbm, ⟨2, _⟩ => ⟨S512x3072, .f32⟩
  | .hbm, ⟨3, _⟩ => ⟨S8192x128, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x3072, .f32⟩
  | .hbm, ⟨22, _⟩ => ⟨S8192x16x192, .f32⟩
  | .hbm, ⟨23, _⟩ => ⟨S8192x16x128, .f32⟩
  | .hbm, ⟨24, _⟩ => ⟨S8192x16x64, .f32⟩
  | .hbm, ⟨25, _⟩ => ⟨S8192x16x32, .f32⟩
  | .hbm, ⟨26, _⟩ => ⟨S8192x16x32, .f32⟩
  | .hbm, ⟨27, _⟩ => ⟨S8192x16x64, .f32⟩
  | .hbm, ⟨28, _⟩ => ⟨S8192x64, .f32⟩
  | .hbm, ⟨29, _⟩ => ⟨S8192x1x64, .f32⟩
  | .hbm, ⟨30, _⟩ => ⟨S8192x16x64, .f32⟩
  | .hbm, ⟨31, _⟩ => ⟨S8192x16x64, .f32⟩
  | .hbm, ⟨32, _⟩ => ⟨S8192x64, .f32⟩
  | .hbm, ⟨33, _⟩ => ⟨S8192x1x64, .f32⟩
  | .hbm, ⟨34, _⟩ => ⟨S8192x16x64, .f32⟩
  | .hbm, ⟨35, _⟩ => ⟨S8192x16x64, .f32⟩
  | .hbm, ⟨36, _⟩ => ⟨S8192x16x64, .f32⟩
  | .hbm, ⟨37, _⟩ => ⟨S_, .f32⟩
  | .hbm, ⟨38, _⟩ => ⟨S8192x16x64, .f32⟩
  | .hbm, ⟨39, _⟩ => ⟨S8192x16x256, .f32⟩
  | .hbm, ⟨40, _⟩ => ⟨S8192x4096, .f32⟩
  | .hbm, ⟨41, _⟩ => ⟨S8192x4096, .bf16⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Pair.lean ====
abbrev S8192x1408 : Shape := ⟨2, ![8192, 1408]⟩
abbrev S256 : Shape := ⟨1, ![256]⟩
abbrev S256x4096 : Shape := ⟨2, ![256, 4096]⟩
abbrev S8192x128 : Shape := ⟨2, ![8192, 128]⟩
abbrev S1x256 : Shape := ⟨2, ![1, 256]⟩
abbrev S8192x4096 : Shape := ⟨2, ![8192, 4096]⟩
abbrev S8192x2048 : Shape := ⟨2, ![8192, 2048]⟩
abbrev S512x256 : Shape := ⟨2, ![512, 256]⟩
abbrev S256x256 : Shape := ⟨2, ![256, 256]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x1408, .f32⟩
  | .hbm, ⟨1, _⟩ => ⟨S256, .f32⟩
  | .hbm, ⟨2, _⟩ => ⟨S256x4096, .f32⟩
  | .hbm, ⟨3, _⟩ => ⟨S8192x128, .f32⟩
  | .hbm, ⟨4, _⟩ => ⟨S256x4096, .bf16⟩
  | .hbm, ⟨5, _⟩ => ⟨S1x256, .f32⟩
  | .hbm, ⟨6, _⟩ => ⟨S8192x4096, .bf16⟩
  | .hbm, ⟨7, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S256x256, .bf16⟩
  | .local _ .vmem, ⟨4, _⟩ => ⟨S256x256, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x256, .bf16⟩
  | .local _ .vmem, ⟨10, _⟩ => ⟨S512x256, .bf16⟩
  | .local _ .vmem, ⟨11, _⟩ => ⟨S512x128, .bf16⟩
  | .local _ .vmem, ⟨12, _⟩ => ⟨S512x128, .bf16⟩
  | .local _ .vmem, ⟨13, _⟩ => ⟨S512x256, .bf16⟩
  | .local _ .vmem, ⟨14, _⟩ => ⟨S512x128, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PairRefIdeal.lean ====
abbrev S8192x1408 : Shape := ⟨2, ![8192, 1408]⟩
abbrev S256 : Shape := ⟨1, ![256]⟩
abbrev S256x4096 : Shape := ⟨2, ![256, 4096]⟩
abbrev S8192x128 : Shape := ⟨2, ![8192, 128]⟩
abbrev S8192x384 : Shape := ⟨2, ![8192, 384]⟩
abbrev S8192x256 : Shape := ⟨2, ![8192, 256]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x4096 : Shape := ⟨2, ![8192, 4096]⟩
abbrev S8192x16x256 : Shape := ⟨3, ![8192, 16, 256]⟩
abbrev S8192x16x128 : Shape := ⟨3, ![8192, 16, 128]⟩
abbrev S8192x1x64 : Shape := ⟨3, ![8192, 1, 64]⟩
abbrev S8192x16x64 : Shape := ⟨3, ![8192, 16, 64]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S256, .f32⟩
  | .hbm, ⟨2, _⟩ => ⟨S256x4096, .f32⟩
  | .hbm, ⟨3, _⟩ => ⟨S8192x128, .f32⟩
  | .hbm, ⟨4, _⟩ => ⟨S8192x384, .f32⟩
  | .hbm, ⟨5, _⟩ => ⟨S8192x256, .f32⟩
  | .hbm, ⟨6, _⟩ => ⟨S8192x64, .f32⟩
  | .hbm, ⟨7, _⟩ => ⟨S8192x64, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x4096, .f32⟩
  | .hbm, ⟨25, _⟩ => ⟨S8192x16x256, .f32⟩
  | .hbm, ⟨26, _⟩ => ⟨S8192x16x128, .f32⟩
  | .hbm, ⟨27, _⟩ => ⟨S8192x16x128, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x1x64, .f32⟩
  | .hbm, ⟨34, _⟩ => ⟨S8192x16x64, .f32⟩
  | .hbm, ⟨35, _⟩ => ⟨S_, .f32⟩
  | .hbm, ⟨36, _⟩ => ⟨S8192x16x64, .f32⟩
  | .hbm, ⟨37, _⟩ => ⟨S8192x16x256, .f32⟩
  | .hbm, ⟨38, _⟩ => ⟨S8192x4096, .f32⟩
  | .hbm, ⟨39, _⟩ => ⟨S8192x4096, .bf16⟩
  | .hbm, ⟨40, _⟩ => ⟨S8192x2048, .f32⟩
  | .hbm, ⟨41, _⟩ => ⟨S8192x2048, .bf16⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Rope.lean ====
abbrev S2x4096 : Shape := ⟨2, ![2, 4096]⟩
abbrev S8192x1 : Shape := ⟨2, ![8192, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 15
  | .vmem => 5
  | .smem => 0
  | _ => 0

abbrev bufTy : (tb : Table) → Fin (tcTables nBuf tb) → BufTy
  | .hbm, ⟨0, _⟩ => ⟨S2x4096, .i32⟩
  | .hbm, ⟨1, _⟩ => ⟨S8192x1, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S1x32, .f32⟩
  | .hbm, ⟨11, _⟩ => ⟨S4x32, .f32⟩
  | .hbm, ⟨12, _⟩ => ⟨S128, .f32⟩
  | .hbm, ⟨13, _⟩ => ⟨S1x128, .f32⟩
  | .hbm, ⟨14, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeRefIdeal.lean ====
abbrev S2x4096 : Shape := ⟨2, ![2, 4096]⟩
abbrev S32 : Shape := ⟨1, ![32]⟩
abbrev S_ : Shape := ⟨0, ![]⟩
abbrev S2x4096x1 : Shape := ⟨3, ![2, 4096, 1]⟩
abbrev S1x1x32 : Shape := ⟨3, ![1, 1, 32]⟩
abbrev S2x4096x32 : Shape := ⟨3, ![2, 4096, 32]⟩
abbrev S2x4096x128 : Shape := ⟨3, ![2, 4096, 128]⟩
abbrev S8192x128 : Shape := ⟨2, ![8192, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S2x4096, .f32⟩
  | .hbm, ⟨10, _⟩ => ⟨S2x4096x1, .f32⟩
  | .hbm, ⟨11, _⟩ => ⟨S1x1x32, .f32⟩
  | .hbm, ⟨12, _⟩ => ⟨S2x4096x32, .f32⟩
  | .hbm, ⟨13, _⟩ => ⟨S2x4096x32, .f32⟩
  | .hbm, ⟨14, _⟩ => ⟨S2x4096x32, .f32⟩
  | .hbm, ⟨15, _⟩ => ⟨S2x4096x32, .f32⟩
  | .hbm, ⟨16, _⟩ => ⟨S2x4096x32, .f32⟩
  | .hbm, ⟨17, _⟩ => ⟨S2x4096x32, .f32⟩
  | .hbm, ⟨18, _⟩ => ⟨S2x4096x128, .f32⟩
  | .hbm, ⟨19, _⟩ => ⟨S8192x128, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.StickBlock.lean ====
/- What one point of the stick-breaking launch leaves in its output block, as a recursion over the key blocks:
   the block on the diagonal first, then the blocks before it, one per trip, last to first. -/
module

public import proofs.«01_k».proof.Proof.Gen.StickIdeal.Value
public import Idealize.ShloMosaic.Lib.Pointwise
public import Idealize.ShloMosaic.Lib.VecWindow

@[expose] public section

set_option maxRecDepth 16384

noncomputable section

namespace Cert.StickIdeal.Block

open Cert.StickIdeal Cert.StickIdeal.Gen Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

theorem ld7 (x : Vec F S256x1 .f32) : View.ld x (Rect.unit (s := S256x1) ![0, 0] ![256, 1] inb_S256x1_S256x1_0_0) = x :=
  View.ld_unit_zero off2 _ x

theorem ld8 (x : Vec F S256x128 .f32) :
    View.ld x (Rect.unit (s := S256x128) ![0, 0] ![256, 128] inb_S256x128_S256x128_0_0) = x :=
  View.ld_unit_zero off2 _ x

theorem ld3 (x : Vec F S1x256x128 .bf16) :
    View.ld x (Rect.unit (s := S1x256x128) ![0, 0, 0] ![1, 256, 128] inb_S1x256x128_S1x256x128_0_0_0) = x :=
  View.ld_unit_zero off3 _ x

/-- The key block (or value block) that a trip reads. -/
def blk (x : Vec F S1x4096x128 .bf16) (i : grid0.Coords) (k : Fin (k0_t1_loop i).trips) : Vec F S1x256x128 .bf16 :=
  View.ld x (Rect.unit (s := S1x4096x128) (k0_off2 i k) S1x256x128.size (k0_off2_inb i k))

/-- The key block (or value block) on the diagonal. -/
def blkD (x : Vec F S1x4096x128 .bf16) (i : grid0.Coords) : Vec F S1x256x128 .bf16 :=
  View.ld x (Rect.unit (s := S1x4096x128) (k0_off1 i) S1x256x128.size (k0_off1_inb i))

/-- One trip: from the carried row sums and the accumulated values to the next ones. -/
def step (q : FVec F S256x128 .bf16) (w : FVec F S256x256 .bf16) (kb vb : Vec F S1x256x128 .bf16)
    (s : Vec F S256x1 .f32 × Vec F S256x128 .f32) : Vec F S256x1 .f32 × Vec F S256x128 .f32 :=
  (k0_pay2 (k0_pay8 q kb) s.1, k0_pay1 (k0_pay9 q w kb s.1 s.2 vb))

/-- The state after the diagonal block. -/
def start (x0 kb vb : Vec F S1x256x128 .bf16) : Vec F S256x1 .f32 × Vec F S256x128 .f32 :=
  (k0_pay24 (iota .tc S256x256 32 [0] iota_S256x256_d0_w32) (iota .tc S256x256 32 [1] iota_S256x256_d1_w32) (k0_pay20 x0 kb) k0_pay14,
    k0_pay23 (iota .tc S256x256 32 [0] iota_S256x256_d0_w32) (iota .tc S256x256 32 [1] iota_S256x256_d1_w32) k0_pay17
      (k0_pay19 x0 kb) (k0_pay20 x0 kb) k0_pay14 k0_pay15 vb)

/-- The state before trip `k`, from the state `s` at the loop's entry. -/
def St (q : FVec F S256x128 .bf16) (w : FVec F S256x256 .bf16) (i : grid0.Coords) (x1 x2 : Vec F S1x4096x128 .bf16)
    (s : Vec F S256x1 .f32 × Vec F S256x128 .f32) : ℕ → Vec F S256x1 .f32 × Vec F S256x128 .f32
  | 0 => s
  | k + 1 => if h : k < (k0_t1_loop i).trips then step q w (blk x1 i ⟨k, h⟩) (blk x2 i ⟨k, h⟩) (St q w i x1 x2 s k)
      else St q w i x1 x2 s k

/-- The pieces one trip stores. -/
theorem trip_eq (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S256x1 .f32) (harg7 : arg7.IsWhole) (arg8 : Memref sig .tc .vmem S256x128 .f32) (harg8 : arg8.IsWhole) (arg2 : BitVec 32) (v9 : FVec F S256x128 .bf16) (v16 : FVec F S256x256 .bf16) (c0 : BitVec 32)
    (x1 x2 : Vec F S1x4096x128 .bf16) (k : Fin (k0_t1_loop i).trips)
    (f7 : BufTy.Contents (Elt F) arg7.view.ty) (f8 : BufTy.Contents (Elt F) arg8.view.ty) :
    tripL_k0_t1 (F := F) 𝒱 c bd i arg3 harg3 arg4 harg4 arg5 harg5 arg6 harg6 arg7 harg7 arg8 harg8 arg2 v9 v16 c0 (harg4.unread x1) (harg5.unread x2) k f7 f8
      = ([⟨Rect.unit ![0, 0] ![256, 1] inb_S256x1_S256x1_0_0, (step v9 v16 (blk x1 i k) (blk x2 i k) (arg7.view.read (Elt F) f7, arg8.view.read (Elt F) f8)).1⟩],
         [⟨Rect.unit ![0, 0] ![256, 128] inb_S256x128_S256x128_0_0, (step v9 v16 (blk x1 i k) (blk x2 i k) (arg7.view.read (Elt F) f7, arg8.view.read (Elt F) f8)).2⟩]) := by
  unfold tripL_k0_t1 trip_k0_t1
  dsimp only
  sl_unfold_words
  simp only [View.readAt_eq_ld, harg4.read_unread, harg5.read_unread, ld7, ld8]
  rfl

/-- What the two scratch buffers hold before trip `k`. -/
theorem loop_eq (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S256x1 .f32) (harg7 : arg7.IsWhole) (arg8 : Memref sig .tc .vmem S256x128 .f32) (harg8 : arg8.IsWhole) (arg2 : BitVec 32) (v9 : FVec F S256x128 .bf16) (v16 : FVec F S256x256 .bf16) (c0 : BitVec 32)
    (x1 x2 : Vec F S1x4096x128 .bf16)
    (G7 : BufTy.Contents (Elt F) arg7.view.ty) (G8 : BufTy.Contents (Elt F) arg8.view.ty) (k : ℕ) :
    (arg7.view.read (Elt F) (arg7.view.writes (Elt F) G7 (pb_k0_t1 (F := F) 𝒱 c bd i arg3 harg3 arg4 harg4 arg5 harg5 arg6 harg6 arg7 harg7 arg8 harg8 arg2 v9 v16 c0 (harg4.unread x1) (harg5.unread x2) G7 G8 k).1),
      arg8.view.read (Elt F) (arg8.view.writes (Elt F) G8 (pb_k0_t1 (F := F) 𝒱 c bd i arg3 harg3 arg4 harg4 arg5 harg5 arg6 harg6 arg7 harg7 arg8 harg8 arg2 v9 v16 c0 (harg4.unread x1) (harg5.unread x2) G7 G8 k).2))
      = St v9 v16 i x1 x2 (arg7.view.read (Elt F) G7, arg8.view.read (Elt F) G8) k := by
  induction k with
  | zero => rfl
  | succ k ih =>
    by_cases h : k < (k0_t1_loop i).trips
    · have e := pb_k0_t1_succ (F := F) 𝒱 c bd i arg3 harg3 arg4 harg4 arg5 harg5 arg6 harg6 arg7 harg7 arg8 harg8 arg2 v9 v16 c0 (harg4.unread x1) (harg5.unread x2) G7 G8 ⟨k, h⟩
      have t := trip_eq 𝒱 c bd i arg3 harg3 arg4 harg4 arg5 harg5 arg6 harg6 arg7 harg7 arg8 harg8 arg2 v9 v16 c0 x1 x2 ⟨k, h⟩
        (arg7.view.writes (Elt F) G7 (pb_k0_t1 (F := F) 𝒱 c bd i arg3 harg3 arg4 harg4 arg5 harg5 arg6 harg6 arg7 harg7 arg8 harg8 arg2 v9 v16 c0 (harg4.unread x1) (harg5.unread x2) G7 G8 k).1)
        (arg8.view.writes (Elt F) G8 (pb_k0_t1 (F := F) 𝒱 c bd i arg3 harg3 arg4 harg4 arg5 harg5 arg6 harg6 arg7 harg7 arg8 harg8 arg2 v9 v16 c0 (harg4.unread x1) (harg5.unread x2) G7 G8 k).2)
      rw [ih] at t
      have t1 := congrArg Prod.fst t
      have t2 := congrArg Prod.snd t
      simp only at e t1 t2
      rw [e, St, dif_pos h]
      refine Prod.ext ?_ ?_
      · simp only
        rw [t1, List.singleton_append, View.read_writes_full arg7.view]
      · simp only
        rw [t2, List.singleton_append, View.read_writes_full arg8.view]
    · rw [St, dif_neg h, ← ih, pb_k0_t1.eq_2]; unfold pb_k0_t1Step; rw [dif_neg h]

/-- A load of the whole second scratch buffer after some stores and a list of earlier ones. -/
theorem readCov8 (v : View sig .tc .vmem S256x128 .f32) (L L' : List (View.Piece (Elt F) S256x128 .f32)) :
    v.readCov (L ++ L') (Rect.unit (s := S256x128) ![0, 0] ![256, 128] inb_S256x128_S256x128_0_0).toLoadRect
      = v.read (Elt F) (v.writes (Elt F) (v.writes (Elt F) v.junk L') L) := by
  rw [View.readCov, View.readAt_eq_ld, ld8, View.writes_append]

/-- What a point's body leaves in its output block. -/
theorem out_eq (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S256x1 .f32) (harg7 : arg7.IsWhole) (arg8 : Memref sig .tc .vmem S256x128 .f32) (harg8 : arg8.IsWhole)
    (x0 : Vec F S1x256x128 .bf16) (x1 : Vec F S1x4096x128 .bf16) (x2 : Vec F S1x4096x128 .bf16) :
    out0_A_3 c i arg3 harg3 arg4 harg4 arg5 harg5 arg6 harg6 arg7 harg7 arg8 harg8 x0 x1 x2 = k0_pay5 (St (k0_pay16 x0) k0_pay17 i x1 x2 (start x0 (blkD x1 i) (blkD x2 i)) (k0_t1_loop i).trips).2 := by
  have cov := cover0_A_3 c i arg3 harg3 arg4 harg4 arg5 harg5 arg6 harg6 arg7 harg7 arg8 harg8 x0 x1 x2
  unfold out0_A_3
  rw [View.read_writes_eq_canon _ _ _ cov]
  unfold kernelRun0_A
  dsimp only
  rw [View.canon_unit_zero off3]
  sl_unfold_words
  have h2 : Scf.trips
                      (Scalar.addi (0#32)
                        (Scalar.muli (Scalar.divsi (Scalar.subi (BitVec.ofNat 32 ↑(i 2)) 0#32) 1#32) 1#32))
                      (Scalar.addi (0#32) (Scalar.subi (BitVec.ofNat 32 ↑(i 2)) 0#32)) 1#32 = 0 :=
    Nat.le_zero.mp (k0_t2_abs i).2.1
  rw [h2, pb_k0_t2.eq_1, List.nil_append]
  simp only [View.readAt_eq_ld, harg3.read_unread, harg4.read_unread, harg5.read_unread, ld3]
  rw [readCov8]
  have r7 : arg7.view.readCov [(⟨Rect.unit (s := S256x1) ![0, 0] ![256, 1] inb_S256x1_S256x1_0_0, k0_pay14⟩ : View.Piece (Elt F) S256x1 .f32)]
      (Rect.unit (s := S256x1) ![0, 0] ![256, 1] inb_S256x1_S256x1_0_0).toLoadRect = k0_pay14 := View.readCov_full ..
  have r8 : arg8.view.readCov [(⟨Rect.unit (s := S256x128) ![0, 0] ![256, 128] inb_S256x128_S256x128_0_0, k0_pay15⟩ : View.Piece (Elt F) S256x128 .f32)]
      (Rect.unit (s := S256x128) ![0, 0] ![256, 128] inb_S256x128_S256x128_0_0).toLoadRect = k0_pay15 := View.readCov_full ..
  rw [r7, r8]
  refine congrArg k0_pay5 ((congrArg Prod.snd (loop_eq Variants.none c none i arg3 harg3 arg4 harg4 arg5 harg5 arg6 harg6 arg7 harg7 arg8 harg8
    _ (k0_pay16 x0) k0_pay17 _ x1 x2 _ _ _)).trans ?_)
  rw [View.read_writes_full arg7.view, View.read_writes_full arg8.view]
  rfl

end Cert.StickIdeal.Block
-- ==== Proof.StickMath.lean ====
/- The mathematics of stick-breaking attention for one row: the weights as functions of the row's scores, and
   the scalar identities that both programs' log-sigmoids satisfy. -/
module

public import Idealize.ShloMosaic.Lib.Pointwise

@[expose] public section

set_option maxRecDepth 16384

noncomputable section

namespace Cert.Proof.Stick

open Idealize.ShloMosaic

/-- The logarithm of the sigmoid, in the form that does not overflow. -/
def lsig (t : ℝ) : ℝ := min t 0 - Real.log (1 + Real.exp (-|t|))

/-- The logarithm of one minus the sigmoid: what a key leaves of the stick. -/
def keep (t : ℝ) : ℝ := lsig t - t

/-- The weight of key `s` for row `r` with scores `Z`: the key's own share times what the later keys leave. -/
def wt (Z : ℕ → ℝ) (r s : ℕ) : EReal :=
  if s < r then ((Real.exp (lsig (Z s) + ∑ j ∈ Finset.Ico (s + 1) r, keep (Z j)) : ℝ) : EReal) else 0

theorem lsig_neg (t : ℝ) : lsig (-t) = keep t := by
  unfold keep lsig
  rw [abs_neg]
  rcases le_total t 0 with h | h
  · rw [min_eq_right (by linarith), min_eq_left h]; ring
  · rw [min_eq_left (by linarith), min_eq_right h]; ring

theorem coe_sum {ι : Type*} (S : Finset ι) (f : ι → ℝ) : ((∑ i ∈ S, f i : ℝ) : EReal) = ∑ i ∈ S, (f i : EReal) :=
  map_sum (⟨⟨fun x : ℝ => (x : EReal), EReal.coe_zero⟩, EReal.coe_add⟩ : ℝ →+ EReal) f S

theorem log_pos (t : ℝ) : (1 : EReal) + Ideal.exp (0 - (|t| : ℝ)) = ((1 + Real.exp (-|t|) : ℝ) : EReal) := by
  have : (0 : EReal) - ((|t| : ℝ) : EReal) = ((-|t| : ℝ) : EReal) := by rw [zero_sub, EReal.coe_neg]
  rw [this]
  rfl

theorem log_coe {t : ℝ} (h : 0 < t) : Ideal.log (t : EReal) = ((Real.log t : ℝ) : EReal) := by
  rw [Ideal.log_coe, if_neg (not_le.2 h)]

theorem max_coe (s t : ℝ) : max (s : EReal) t = ((max s t : ℝ) : EReal) :=
  (EReal.coe_strictMono.monotone.map_max (a := s) (b := t)).symm

theorem min_coe (s t : ℝ) : min (s : EReal) t = ((min s t : ℝ) : EReal) :=
  (EReal.coe_strictMono.monotone.map_min (a := s) (b := t)).symm

theorem absf_coe (t : ℝ) : (FloatOps.absf (F := Ideal) (φ := .f32) (t : EReal) : EReal) = ((|t| : ℝ) : EReal) := by
  show max (t : EReal) (-(t : EReal)) = _
  rw [← EReal.coe_neg, max_coe, abs_eq_max_neg]

/-- The logarithm of the sigmoid as the blocked program writes it. -/
theorem lsig_blocked (t : ℝ) :
    min (t : EReal) 0 - Ideal.log (1 + Ideal.exp (0 - FloatOps.absf (F := Ideal) (φ := .f32) (t : EReal))) = (lsig t : EReal) := by
  rw [absf_coe, log_pos, log_coe (by positivity)]
  unfold lsig
  rw [EReal.coe_sub, ← min_coe, EReal.coe_zero]

theorem sub_coe (s t : ℝ) : (s : EReal) - (t : EReal) = ((s - t : ℝ) : EReal) := (EReal.coe_sub s t).symm

/-- A sum over one block's later keys, as a product with a triangle of ones. -/
theorem suffix_sum (L : ℕ → ℝ) (o : ℕ) (t : Fin 256) :
    ∑ t' : Fin 256, ((L (o + t'.val) : ℝ) : EReal) * (if t.val < t'.val then 1 else 0)
      = ((∑ j ∈ Finset.Ico (o + t.val + 1) (o + 256), L j : ℝ) : EReal) := by
  have e : ∀ t' : Fin 256, ((L (o + t'.val) : ℝ) : EReal) * (if t.val < t'.val then 1 else 0)
      = ((if t.val < t'.val then L (o + t'.val) else 0 : ℝ) : EReal) := by
    intro t'; split <;> simp
  rw [Finset.sum_congr rfl fun t' _ => e t', ← coe_sum]
  congr 1
  rw [Fin.sum_univ_eq_sum_range (fun n => if t.val < n then L (o + n) else 0) 256, ← Finset.sum_filter]
  have f : (Finset.range 256).filter (fun n => t.val < n) = Finset.Ico (t.val + 1) 256 := by
    ext n; simp only [Finset.mem_filter, Finset.mem_range, Finset.mem_Ico]; omega
  have g := Finset.sum_Ico_add' L (t.val + 1) 256 o
  rw [f, Finset.sum_congr rfl fun n _ => by rw [Nat.add_comm o n], g]
  congr 2 <;> omega

/-- A sum over the keys of one block, as a sum over an interval. -/
theorem block_sum {M : Type*} [AddCommMonoid M] (f : ℕ → M) (o : ℕ) :
    ∑ t : Fin 256, f (o + t.val) = ∑ s ∈ Finset.Ico o (o + 256), f s := by
  rw [Fin.sum_univ_eq_sum_range (fun n => f (o + n)) 256, Finset.sum_Ico_eq_sum_range]
  simp

/-- The weight of a key, from the sum over the keys after it. -/
theorem wt_pos (Z : ℕ → ℝ) {r s : ℕ} (h : s < r) {x : EReal}
    (hx : x = ((∑ j ∈ Finset.Ico (s + 1) r, keep (Z j) : ℝ) : EReal)) :
    Ideal.exp ((lsig (Z s) : EReal) + x) = wt Z r s := by
  rw [hx, wt, if_pos h, ← EReal.coe_add]
  rfl

/-- Keys at or after the row weigh nothing, so a sum that stops after the row is the whole sum. -/
theorem sum_wt_stop (Z : ℕ → ℝ) (V : ℕ → EReal) {r n N : ℕ} (h : r ≤ n) (hN : n ≤ N) :
    ∑ s ∈ Finset.Ico 0 n, wt Z r s * V s = ∑ s ∈ Finset.range N, wt Z r s * V s := by
  rw [Finset.range_eq_Ico]
  refine Finset.sum_subset (Finset.Ico_subset_Ico_right hN) fun s _ hs => ?_
  rw [wt, if_neg (by simp only [Finset.mem_Ico] at hs; omega), zero_mul]

/-! ## The attention -/

/-- The scaled score of query `r` and key `s` in batch `b` and head `h`, from the projection `x`. -/
def score (x : (⟨3, ![2, 4096, 6656]⟩ : Shape).Idx → EReal) (b : Fin 2) (h : Fin 16) (r s : Fin 4096) : EReal :=
  (∑ d : Fin 128, x (ix3 b r ⟨128 * h.val + d.val, by omega⟩) * x (ix3 b s ⟨2048 + (128 * h.val + d.val), by omega⟩))
    * Ideal.ofBits FTy.f32 1035273459#32

/-- A row of scores, as real numbers. -/
def scores (x : (⟨3, ![2, 4096, 6656]⟩ : Shape).Idx → EReal) (b : Fin 2) (h : Fin 16) (r : Fin 4096) (s : ℕ) : ℝ :=
  if hs : s < 4096 then (score x b h r ⟨s, hs⟩).toReal else 0

/-- A column of values. -/
def vals (x : (⟨3, ![2, 4096, 6656]⟩ : Shape).Idx → EReal) (b : Fin 2) (h : Fin 16) (d : Fin 128) (s : ℕ) : EReal :=
  if hs : s < 4096 then x (ix3 b ⟨s, hs⟩ ⟨4096 + (128 * h.val + d.val), by omega⟩) else 0

/-- Every score is a real number. -/
def RealScores (x : (⟨3, ![2, 4096, 6656]⟩ : Shape).Idx → EReal) : Prop :=
  ∀ b h r s, score x b h r s = ((score x b h r s).toReal : EReal)

/-- One entry of the attention. -/
def attnAt (x : (⟨3, ![2, 4096, 6656]⟩ : Shape).Idx → EReal) (b : Fin 2) (r : Fin 4096) (h : Fin 16) (d : Fin 128) : EReal :=
  ∑ s ∈ Finset.range 4096, wt (scores x b h r) r.val s * vals x b h d s

/-- The attention's result, the heads side by side. -/
def attn (x : (⟨3, ![2, 4096, 6656]⟩ : Shape).Idx → EReal) (j : (⟨3, ![2, 4096, 2048]⟩ : Shape).Idx) : EReal :=
  attnAt x (j 0) (j 1) ⟨(j 2).val / 128, by have : (j 2).val < 2048 := (j 2).isLt; omega⟩ ⟨(j 2).val % 128, by omega⟩

theorem attn_ix3 (x : (⟨3, ![2, 4096, 6656]⟩ : Shape).Idx → EReal) (b : Fin 2) (r : Fin 4096) (h : Fin 16) (d : Fin 128)
    (n : Fin 2048) (hn : n.val = 128 * h.val + d.val) : attn x (ix3 b r n) = attnAt x b r h d := by
  show attnAt x b r ⟨n.val / 128, _⟩ ⟨n.val % 128, _⟩ = _
  congr 1 <;> apply Fin.ext <;> simp only [hn] <;> omega

end Cert.Proof.Stick
-- ==== Proof.StickStep.lean ====
/- One key block of the stick-breaking launch, entry by entry: the block's weights and sums in the row's terms. -/
module

public import proofs.«01_k».proof.Proof.StickBlock
public import proofs.«01_k».proof.Proof.StickMath
public import Idealize.ShloMosaic.Lib.WordCmp

@[expose] public section

set_option maxRecDepth 16384

noncomputable section

namespace Cert.StickIdeal.Step

open Cert.StickIdeal Cert.StickIdeal.Gen Cert.StickIdeal.Block Cert.Proof.Stick Idealize.ShloMosaic

/-- The triangle of ones: entry `(s, t)` is one where key `s` comes after key `t`. -/
theorem tri_apply (s t : Fin 256) : k0_pay17 (F := Ideal) (ix2 s t) = if t.val < s.val then 1 else 0 := by
  pointwise [k0_pay17]
  rw [WordCmp.cmpi_sgt_ofNat (by omega) (by omega), WordCmp.select_ofBool]
  simp

section
variable (q : FVec Ideal S256x128 .bf16) (kb vb : Vec Ideal S1x256x128 .bf16) (a : Fin 256) (o r : ℕ) (Z : ℕ → ℝ)
  (hz : ∀ t : Fin 256, (∑ x, q (ix2 a x) * kb (ix3 0 t x)) * Ideal.ofBits FTy.f32 1035273459#32 = ((Z (o + t.val) : ℝ) : EReal))
include hz

theorem score_apply (t : Fin 256) : k0_pay6 q kb (ix2 a t) = ((Z (o + t.val) : ℝ) : EReal) := by
  rw [← hz t]
  pointwise [k0_pay6]

theorem lsig_apply (t : Fin 256) : k0_pay7 q kb (ix2 a t) = ((lsig (Z (o + t.val)) : ℝ) : EReal) := by
  rw [← lsig_blocked, ← hz t]
  pointwise [k0_pay7, k0_pay6]

theorem keep_apply (t : Fin 256) : k0_pay8 q kb (ix2 a t) = ((keep (Z (o + t.val)) : ℝ) : EReal) := by
  pointwise [k0_pay8]
  rw [score_apply q kb a o Z hz, lsig_apply q kb a o Z hz, sub_coe]
  rfl

/-- The next carried sum: one more block's share. -/
theorem carry_step (u : Vec Ideal S256x1 .f32) (p : Vec Ideal S256x128 .f32) (hr : o + 256 ≤ r)
    (hu : u (ix2 a 0) = ((∑ j ∈ Finset.Ico (o + 256) r, keep (Z j) : ℝ) : EReal)) :
    (step q k0_pay17 kb vb (u, p)).1 (ix2 a 0) = ((∑ j ∈ Finset.Ico o r, keep (Z j) : ℝ) : EReal) := by
  unfold step
  pointwise [k0_pay2]
  rw [hu, Finset.sum_congr rfl fun t _ => keep_apply q kb a o Z hz t, ← coe_sum, ← EReal.coe_add,
    block_sum (fun s => keep (Z s)) o, add_comm, Finset.sum_Ico_consecutive _ (by omega) hr]

/-- The next accumulated values: one more block's weighted values. -/
theorem acc_step (u : Vec Ideal S256x1 .f32) (p : Vec Ideal S256x128 .f32) (hr : o + 256 ≤ r)
    (hu : u (ix2 a 0) = ((∑ j ∈ Finset.Ico (o + 256) r, keep (Z j) : ℝ) : EReal))
    (d : Fin 128) (V : ℕ → EReal) (hv : ∀ t : Fin 256, vb (ix3 0 t d) = V (o + t.val)) :
    (step q k0_pay17 kb vb (u, p)).2 (ix2 a d) = p (ix2 a d) + ∑ s ∈ Finset.Ico o (o + 256), wt Z r s * V s := by
  unfold step
  pointwise [k0_pay1, k0_pay9]
  rw [← block_sum (fun s => wt Z r s * V s) o]
  refine congrArg _ (Finset.sum_congr rfl fun t _ => ?_)
  rw [hv t, lsig_apply q kb a o Z hz, wt_pos Z (r := r) (by omega)]
  rw [hu]
  simp only [keep_apply q kb a o Z hz, tri_apply]
  rw [suffix_sum (fun s => keep (Z s)) o t]
  simp only [sub_coe, sub_self, EReal.coe_zero, zero_mul, Finset.sum_const_zero, add_zero]
  rw [← EReal.coe_add, Finset.sum_Ico_consecutive _ (by omega) (by omega)]

end

section
variable (x0 kb vb : Vec Ideal S1x256x128 .bf16) (a : Fin 256) (o : ℕ) (Z : ℕ → ℝ)
  (hz : ∀ t : Fin 256, (∑ x, x0 (ix3 0 a x) * kb (ix3 0 t x)) * Ideal.ofBits FTy.f32 1035273459#32 = ((Z (o + t.val) : ℝ) : EReal))
include hz

theorem scoreD_apply (t : Fin 256) : k0_pay18 x0 kb (ix2 a t) = ((Z (o + t.val) : ℝ) : EReal) := by
  rw [← hz t]
  pointwise [k0_pay18, k0_pay16]

theorem lsigD_apply (t : Fin 256) : k0_pay19 x0 kb (ix2 a t) = ((lsig (Z (o + t.val)) : ℝ) : EReal) := by
  rw [← lsig_blocked, ← hz t]
  pointwise [k0_pay19, k0_pay18, k0_pay16]

theorem keepD_apply (t : Fin 256) : k0_pay20 x0 kb (ix2 a t) = ((keep (Z (o + t.val)) : ℝ) : EReal) := by
  pointwise [k0_pay20]
  rw [scoreD_apply x0 kb a o Z hz, lsigD_apply x0 kb a o Z hz, sub_coe]
  rfl

/-- The diagonal block's shares, those at or after the row put to zero. -/
theorem maskD_apply (t : Fin 256) :
    k0_pay22 (F := Ideal) (iota .tc S256x256 32 [0] iota_S256x256_d0_w32) (iota .tc S256x256 32 [1] iota_S256x256_d1_w32)
      (k0_pay20 x0 kb) (ix2 a t) = (((if o + t.val < o + a.val then keep (Z (o + t.val)) else 0 : ℝ)) : EReal) := by
  pointwise [k0_pay22, k0_pay21]
  rw [WordCmp.cmpi_slt_ofNat (by omega) (by omega), WordCmp.select_ofBool, keepD_apply x0 kb a o Z hz]
  by_cases h : t.val < a.val
  · simp [h]
  · simp [h]

theorem carry_start :
    (start x0 kb vb).1 (ix2 a 0) = ((∑ j ∈ Finset.Ico o (o + a.val), keep (Z j) : ℝ) : EReal) := by
  unfold start
  pointwise [k0_pay24, k0_pay14]
  simp only [maskD_apply x0 kb a o Z hz]
  rw [← coe_sum, block_sum (fun s => if s < o + a.val then keep (Z s) else 0) o, ← Finset.sum_filter]
  congr 2
  ext s; simp only [Finset.mem_filter, Finset.mem_Ico]; omega

theorem acc_start (d : Fin 128) (V : ℕ → EReal) (hv : ∀ t : Fin 256, vb (ix3 0 t d) = V (o + t.val)) :
    (start x0 kb vb).2 (ix2 a d) = ∑ s ∈ Finset.Ico o (o + 256), wt Z (o + a.val) s * V s := by
  unfold start
  pointwise [k0_pay23, k0_pay14, k0_pay15, k0_pay21]
  rw [← block_sum (fun s => wt Z (o + a.val) s * V s) o]
  refine Finset.sum_congr rfl fun t _ => ?_
  rw [hv t, lsigD_apply x0 kb a o Z hz, WordCmp.cmpi_slt_ofNat (by omega) (by omega), WordCmp.select_ofBool]
  by_cases h : t.val < a.val
  · rw [if_pos (by simpa using h), wt_pos Z (r := o + a.val) (by omega)]
    simp only [maskD_apply x0 kb a o Z hz, tri_apply]
    rw [suffix_sum (fun s => if s < o + a.val then keep (Z s) else 0) o t]
    simp only [sub_coe, sub_self, EReal.coe_zero, zero_mul, Finset.sum_const_zero, add_zero]
    rw [← Finset.sum_filter]
    congr 2
    ext s; simp only [Finset.mem_filter, Finset.mem_Ico]; omega
  · rw [if_neg (by simpa using h), wt, if_neg (by omega), zero_mul]

end

end Cert.StickIdeal.Step
-- ==== Proof.StickOut.lean ====
/- What a point of the stick-breaking launch leaves in its output block, entry by entry: the row's weighted values. -/
module

public import proofs.«01_k».proof.Proof.StickStep

@[expose] public section

set_option maxRecDepth 16384

noncomputable section

namespace Cert.StickIdeal.Out

open Cert.StickIdeal Cert.StickIdeal.Gen Cert.StickIdeal.Block Cert.StickIdeal.Step Cert.Proof.Stick Idealize.ShloMosaic

theorem trips_eq : ∀ i : grid0.Coords, (k0_t1_loop i).trips = (i 2).val := by decide +kernel

theorem off2_eq : ∀ (i : grid0.Coords) (k : Fin (k0_t1_loop i).trips),
    k0_off2 i k = ![0, 256 * ((i 2).val - 1 - k.val), 0] := by decide +kernel

theorem ld_block (x : Vec Ideal S1x4096x128 .bf16) (o n : ℕ) (ho : o = n) (off : Fin 3 → ℕ) (hoff : off = ![0, o, 0])
    (inb : ∀ a, off a + S1x256x128.size a ≤ S1x4096x128.size a) (t : Fin 256) (d : Fin 128) (hn : n + t.val < 4096) :
    View.ld x (Rect.unit (s := S1x4096x128) off S1x256x128.size inb) (ix3 0 t d) = x (ix3 0 ⟨n + t.val, hn⟩ d) := by
  subst hoff ho
  pointwise

theorem blk_apply (x : Vec Ideal S1x4096x128 .bf16) (i : grid0.Coords) (k : Fin (k0_t1_loop i).trips) (o : ℕ)
    (ho : 256 * ((i 2).val - 1 - k.val) = o) (t : Fin 256) (d : Fin 128) (hn : o + t.val < 4096) :
    blk x i k (ix3 0 t d) = x (ix3 0 ⟨o + t.val, hn⟩ d) :=
  ld_block x _ o ho _ (off2_eq i k) _ t d hn

theorem blkD_apply (x : Vec Ideal S1x4096x128 .bf16) (i : grid0.Coords) (t : Fin 256) (d : Fin 128)
    (hn : 256 * (i 2).val + t.val < 4096) : blkD x i (ix3 0 t d) = x (ix3 0 ⟨256 * (i 2).val + t.val, hn⟩ d) :=
  ld_block x _ _ rfl _ (k0_off1_eq i) _ t d hn

section
variable (i : grid0.Coords) (x0 : Vec Ideal S1x256x128 .bf16) (x1 x2 : Vec Ideal S1x4096x128 .bf16) (a : Fin 256) (Z : ℕ → ℝ)
  (hz : ∀ s : Fin 4096, (∑ x, x0 (ix3 0 a x) * x1 (ix3 0 s x)) * Ideal.ofBits FTy.f32 1035273459#32 = ((Z s.val : ℝ) : EReal))
  (d : Fin 128) (V : ℕ → EReal) (hv : ∀ s : Fin 4096, x2 (ix3 0 s d) = V s.val)
include hz hv

/-- The state before trip `k`: the keys from the `k`-th block before the diagonal on. -/
theorem st_apply (k : ℕ) (hk : k ≤ (i 2).val) :
    (St (k0_pay16 x0) k0_pay17 i x1 x2 (start x0 (blkD x1 i) (blkD x2 i)) k).1 (ix2 a 0)
        = ((∑ j ∈ Finset.Ico (256 * ((i 2).val - k)) (256 * (i 2).val + a.val), keep (Z j) : ℝ) : EReal)
      ∧ (St (k0_pay16 x0) k0_pay17 i x1 x2 (start x0 (blkD x1 i) (blkD x2 i)) k).2 (ix2 a d)
        = ∑ s ∈ Finset.Ico (256 * ((i 2).val - k)) (256 * (i 2).val + 256), wt Z (256 * (i 2).val + a.val) s * V s := by
  have hi : (i 2).val < 16 := (i 2).isLt
  induction k with
  | zero =>
    have hz' : ∀ t : Fin 256, (∑ x, x0 (ix3 0 a x) * blkD x1 i (ix3 0 t x)) * Ideal.ofBits FTy.f32 1035273459#32
        = ((Z (256 * (i 2).val + t.val) : ℝ) : EReal) := fun t => by
      rw [Finset.sum_congr rfl fun x _ => by rw [blkD_apply x1 i t x (by omega)]]
      exact hz ⟨_, _⟩
    refine ⟨carry_start x0 _ _ a _ Z hz', acc_start x0 _ _ a _ Z hz' d V fun t => ?_⟩
    rw [blkD_apply x2 i t d (by omega)]
    exact hv ⟨_, _⟩
  | succ k ih =>
    obtain ⟨ih1, ih2⟩ := ih (by omega)
    have h : k < (k0_t1_loop i).trips := by rw [trips_eq]; omega
    have ho : 256 * ((i 2).val - 1 - k) = 256 * ((i 2).val - (k + 1)) := by omega
    have e : 256 * ((i 2).val - (k + 1)) + 256 = 256 * ((i 2).val - k) := by omega
    have hz' : ∀ t : Fin 256, (∑ x, k0_pay16 x0 (ix2 a x) * blk x1 i ⟨k, h⟩ (ix3 0 t x)) * Ideal.ofBits FTy.f32 1035273459#32
        = ((Z (256 * ((i 2).val - (k + 1)) + t.val) : ℝ) : EReal) := fun t => by
      rw [Finset.sum_congr rfl fun x _ => by rw [blk_apply x1 i ⟨k, h⟩ _ ho t x (by omega)]]
      pointwise [k0_pay16]
      exact hz ⟨_, _⟩
    have hv' : ∀ t : Fin 256, blk x2 i ⟨k, h⟩ (ix3 0 t d) = V (256 * ((i 2).val - (k + 1)) + t.val) := fun t => by
      rw [blk_apply x2 i ⟨k, h⟩ _ ho t d (by omega)]
      exact hv ⟨_, _⟩
    rw [← e] at ih1 ih2
    rw [St, dif_pos h]
    refine ⟨carry_step _ _ _ a _ _ Z hz' _ _ (by omega) ih1, (acc_step _ _ _ a _ _ Z hz' _ _ (by omega) ih1 d V hv').trans ?_⟩
    rw [ih2, add_comm, Finset.sum_Ico_consecutive _ (by omega) (by omega)]

/-- The output block's entry: every key's value by the key's weight. -/
theorem out_apply :
    k0_pay5 (St (k0_pay16 x0) k0_pay17 i x1 x2 (start x0 (blkD x1 i) (blkD x2 i)) (k0_t1_loop i).trips).2 (ix3 0 a d)
      = ∑ s ∈ Finset.range 4096, wt Z (256 * (i 2).val + a.val) s * V s := by
  have hi : (i 2).val < 16 := (i 2).isLt
  pointwise [k0_pay5]
  rw [trips_eq, (st_apply i x0 x1 x2 a Z hz d V hv (i 2).val le_rfl).2, Nat.sub_self, Nat.mul_zero]
  exact sum_wt_stop Z V (by omega) (by omega)

end

end Cert.StickIdeal.Out
-- ==== Proof.StickGrid.lean ====
/- The blocks that the stick-breaking launch's windows take at each point. -/
module

public import proofs.«01_k».proof.Proof.Gen.StickIdeal.Value

@[expose] public section

set_option maxRecDepth 16384

noncomputable section

namespace Cert.StickIdeal.Array

open Cert.StickIdeal Cert.StickIdeal.Gen Idealize.ShloMosaic

theorem index0 : ∀ t : Fin grid0.N, win0_0.index t = ![(grid0.coords t 0).val, (grid0.coords t 2).val, (grid0.coords t 1).val] := by
  decide +kernel
theorem index1 : ∀ t : Fin grid0.N, win0_1.index t = ![(grid0.coords t 0).val, 0, 16 + (grid0.coords t 1).val] := by
  decide +kernel
theorem index2 : ∀ t : Fin grid0.N, win0_2.index t = ![(grid0.coords t 0).val, 0, 32 + (grid0.coords t 1).val] := by
  decide +kernel
theorem index3 : ∀ t : Fin grid0.N, win0_3.index t = ![(grid0.coords t 0).val, (grid0.coords t 2).val, (grid0.coords t 1).val] := by
  decide +kernel

/-- The point that writes head `h`'s block of rows `q` in batch `b`. -/
def pt (b : Fin 2) (q h : Fin 16) : Fin grid0.N := ⟨256 * b.val + 16 * h.val + q.val, by rw [N_0]; omega⟩

theorem point_of : ∀ (b : Fin 2) (q h : Fin 16), win0_3.index (pt b q h) = ![b.val, q.val, h.val] := by
  decide +kernel

end Cert.StickIdeal.Array
-- ==== Proof.StickArray.lean ====
/- The result array of the stick-breaking launch: each point writes one head's block of rows, and together the
   blocks are the whole array. -/
module

public import proofs.«01_k».proof.Proof.StickOut
public import proofs.«01_k».proof.Proof.StickGrid
public import Idealize.ShloMosaic.Lib.Pipeline.Value

@[expose] public section

set_option maxRecDepth 16384

noncomputable section

namespace Cert.StickIdeal.Array

open Cert.StickIdeal Cert.StickIdeal.Gen Cert.StickIdeal.Block Cert.StickIdeal.Out Cert.Proof.Stick Idealize.ShloMosaic
  Idealize.ShloMosaic.TcCoe Idealize.SL.Sem

variable (m : (ℓ : Loc nD τ sig) → Buf (Elt Ideal) ℓ)

/-- The projection. -/
abbrev proj (c : Dev nD) : (⟨3, ![2, 4096, 6656]⟩ : Shape).Idx → EReal := m ((c : Thread nD τ).loc main_arg0)

theorem iblk0_apply (c : Dev nD) (t : Fin cfg0.N) (b : Fin 2) (q h : Fin 16) (hb : (grid0.coords t 0).val = b.val)
    (hh : (grid0.coords t 1).val = h.val) (hq : (grid0.coords t 2).val = q.val) (a : Fin 256) (d : Fin 128) :
    (iblk m c 0 t : Vec Ideal S1x256x128 .bf16) (ix3 0 a d)
      = proj m c (ix3 b ⟨256 * q.val + a.val, by omega⟩ ⟨128 * h.val + d.val, by omega⟩) := by
  unfold iblk
  rw [View.read_apply]
  show V m c main_arg0 _ = m (c.tc.loc main_arg0) _
  unfold V
  congr 1
  funext x
  apply Fin.ext
  have e := index0 t
  match x with
  | ⟨0, _⟩ => show win0_0.index t 0 * 1 + 1 * 0 = b.val; rw [e]; show (grid0.coords t 0).val * 1 + 1 * 0 = _; omega
  | ⟨1, _⟩ => show win0_0.index t 1 * 256 + 1 * a.val = _; rw [e]; show (grid0.coords t 2).val * 256 + 1 * a.val = 256 * q.val + a.val; omega
  | ⟨2, _⟩ => show win0_0.index t 2 * 128 + 1 * d.val = _; rw [e]; show (grid0.coords t 1).val * 128 + 1 * d.val = 128 * h.val + d.val; omega

theorem iblk1_apply (c : Dev nD) (t : Fin cfg0.N) (b : Fin 2) (h : Fin 16) (hb : (grid0.coords t 0).val = b.val)
    (hh : (grid0.coords t 1).val = h.val) (s : Fin 4096) (d : Fin 128) :
    (iblk m c 1 t : Vec Ideal S1x4096x128 .bf16) (ix3 0 s d)
      = proj m c (ix3 b s ⟨2048 + (128 * h.val + d.val), by omega⟩) := by
  unfold iblk
  rw [View.read_apply]
  show V m c main_arg0 _ = m (c.tc.loc main_arg0) _
  unfold V
  congr 1
  funext x
  apply Fin.ext
  have e := index1 t
  match x with
  | ⟨0, _⟩ => show win0_1.index t 0 * 1 + 1 * 0 = b.val; rw [e]; show (grid0.coords t 0).val * 1 + 1 * 0 = _; omega
  | ⟨1, _⟩ => show win0_1.index t 1 * 4096 + 1 * s.val = s.val; rw [e]; show 0 * 4096 + 1 * s.val = s.val; omega
  | ⟨2, _⟩ => show win0_1.index t 2 * 128 + 1 * d.val = _; rw [e]; show (16 + (grid0.coords t 1).val) * 128 + 1 * d.val = 2048 + (128 * h.val + d.val); omega

theorem iblk2_apply (c : Dev nD) (t : Fin cfg0.N) (b : Fin 2) (h : Fin 16) (hb : (grid0.coords t 0).val = b.val)
    (hh : (grid0.coords t 1).val = h.val) (s : Fin 4096) (d : Fin 128) :
    (iblk m c 2 t : Vec Ideal S1x4096x128 .bf16) (ix3 0 s d)
      = proj m c (ix3 b s ⟨4096 + (128 * h.val + d.val), by omega⟩) := by
  unfold iblk
  rw [View.read_apply]
  show V m c main_arg0 _ = m (c.tc.loc main_arg0) _
  unfold V
  congr 1
  funext x
  apply Fin.ext
  have e := index2 t
  match x with
  | ⟨0, _⟩ => show win0_2.index t 0 * 1 + 1 * 0 = b.val; rw [e]; show (grid0.coords t 0).val * 1 + 1 * 0 = _; omega
  | ⟨1, _⟩ => show win0_2.index t 1 * 4096 + 1 * s.val = s.val; rw [e]; show 0 * 4096 + 1 * s.val = s.val; omega
  | ⟨2, _⟩ => show win0_2.index t 2 * 128 + 1 * d.val = _; rw [e]; show (32 + (grid0.coords t 1).val) * 128 + 1 * d.val = 4096 + (128 * h.val + d.val); omega

/-- What a point writes back is the attention's block. -/
theorem flushed_eq (c : Dev nD) (hx : RealScores (proj m c)) (t : Fin cfg0.N) (hf : (cfg0.win 3).flush t = true) :
    (dats m 0 c).flushed 3 t = ((cfg0.win 3).blk t).view.read (Elt Ideal) (attn (proj m c)) := by
  rw [Value.flushed3_A, out_eq]
  obtain ⟨b, hb⟩ : ∃ b : Fin 2, (grid0.coords t 0).val = b.val := ⟨grid0.coords t 0, rfl⟩
  obtain ⟨h, hh⟩ : ∃ h : Fin 16, (grid0.coords t 1).val = h.val := ⟨grid0.coords t 1, rfl⟩
  obtain ⟨q, hq⟩ : ∃ q : Fin 16, (grid0.coords t 2).val = q.val := ⟨grid0.coords t 2, rfl⟩
  show (fun j : S1x256x128.Idx => _) = _
  funext j
  obtain ⟨u, a, d, rfl⟩ : ∃ (u : Fin 1) (a : Fin 256) (d : Fin 128), j = ix3 u a d := ⟨j 0, j 1, j 2, eq_ix3 j⟩
  obtain rfl : u = 0 := Subsingleton.elim _ _
  rw [View.read_apply]
  have key := out_apply (grid0.coords t) (iblk m c 0 t) (iblk m c 1 t) (iblk m c 2 t) a
    (scores (proj m c) b h ⟨256 * q.val + a.val, by omega⟩) (fun s => by
      rw [Finset.sum_congr rfl fun x _ => by rw [iblk0_apply m c t b q h hb hh hq, iblk1_apply m c t b h hb hh]]
      exact (hx b h _ s).trans (by rw [scores, dif_pos s.isLt])) d (vals (proj m c) b h d) (fun s => by
      rw [iblk2_apply m c t b h hb hh, vals, dif_pos s.isLt])
  refine key.trans ?_
  have e := index3 t
  have ij : ((cfg0.win 3).blk t).view.emb (ix3 0 a d)
      = ix3 b ⟨256 * q.val + a.val, by omega⟩ ⟨128 * h.val + d.val, by omega⟩ := by
    funext x
    apply Fin.ext
    match x with
    | ⟨0, _⟩ => show win0_3.index t 0 * 1 + 1 * 0 = b.val; rw [e]; show (grid0.coords t 0).val * 1 + 1 * 0 = _; omega
    | ⟨1, _⟩ => show win0_3.index t 1 * 256 + 1 * a.val = _; rw [e]; show (grid0.coords t 2).val * 256 + 1 * a.val = 256 * q.val + a.val; omega
    | ⟨2, _⟩ => show win0_3.index t 2 * 128 + 1 * d.val = _; rw [e]; show (grid0.coords t 1).val * 128 + 1 * d.val = 128 * h.val + d.val; omega
  rw [ij, attn_ix3 (proj m c) b _ h d _ rfl, hq]
  rfl

/-- The result array. -/
theorem final_eq (c : Dev nD) (hx : RealScores (proj m c)) : (dats m 0 c).arrAt 3 cfg0.N = attn (proj m c) :=
  (dats m 0 c).arrAt_eq_of_cover 3 (attn (proj m c)) (flushed_eq m c hx) fun i => by
    have h0 : (i 0 : Nat) < 2 := (i 0).isLt
    have h1 : (i 1 : Nat) < 4096 := (i 1).isLt
    have h2 : (i 2 : Nat) < 2048 := (i 2).isLt
    have ht := point_of ⟨i 0, h0⟩ ⟨i 1 / 256, by omega⟩ ⟨i 2 / 128, by omega⟩
    generalize pt ⟨i 0, h0⟩ ⟨i 1 / 256, by omega⟩ ⟨i 2 / 128, by omega⟩ = t at ht
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [ht]; show (i 0 : Nat) * 1 ≤ (i 0 : Nat) ∧ (i 0 : Nat) < (i 0 : Nat) * 1 + 1; omega
    | ⟨1, _⟩ => show win0_3.index t 1 * 256 ≤ (i 1 : Nat) ∧ (i 1 : Nat) < win0_3.index t 1 * 256 + 256
                rw [ht]; show (i 1 : Nat) / 256 * 256 ≤ (i 1 : Nat) ∧ (i 1 : Nat) < (i 1 : Nat) / 256 * 256 + 256; omega
    | ⟨2, _⟩ => show win0_3.index t 2 * 128 ≤ (i 2 : Nat) ∧ (i 2 : Nat) < win0_3.index t 2 * 128 + 128
                rw [ht]; show (i 2 : Nat) / 128 * 128 ≤ (i 2 : Nat) ∧ (i 2 : Nat) < (i 2 : Nat) / 128 * 128 + 128; omega

end Cert.StickIdeal.Array
-- ==== Proof.StickRef.lean ====
/- The reference of stick-breaking attention, entry by entry: the whole matrix of scores, its running sums from the
   right, and the weighted values. -/
module

public import proofs.«01_k».proof.Proof.Gen.StickRefIdeal.Run
public import proofs.«01_k».proof.Proof.StickMath
public import Idealize.ShloMosaic.Lib.WordCmp

@[expose] public section

set_option maxRecDepth 16384

noncomputable section

namespace Cert.StickRefIdeal.Ref

open Cert.StickRefIdeal Cert.StickRefIdeal.Gen Cert.Proof.Stick Idealize.ShloMosaic Idealize.ShloMosaic.TcCoe Idealize.SL.Sem

abbrev Sq : Type := FVec Ideal S2x16x4096x4096 .f32

/-- A third of the projection, split into heads. -/
def headsT (off : Fin 3 → ℕ) (h : S2x4096x6656.Slices off S2x4096x2048) (x : FVec Ideal S2x4096x6656 .bf16) :
    FVec Ideal S2x16x4096x128 .f32 :=
  transpose S2x16x4096x128 [0, 2, 1, 3] (shapeCast S2x4096x16x128 (extractStridedSlice S2x4096x2048 off
    (extf .f32 x bitsLt_bf16_f32) h) shapeCasts_S2x4096x2048_S2x4096x16x128) transposes_S2x4096x16x128_S2x16x4096x128_0_2_1_3

/-- The scores. -/
def scoreT (x : FVec Ideal S2x4096x6656 .bf16) : Sq :=
  mulf (Host.dotGeneral dot_S2x16x4096x128_S2x16x4096x128_S2x16x4096x4096_3_3_2_2_01_01 none
      (headsT ![0, 0, 0] slices_S2x4096x6656_S2x4096x2048_0_0_0 x) (headsT ![0, 0, 2048] slices_S2x4096x6656_S2x4096x2048_0_0_2048 x))
    (broadcastInDim S2x16x4096x4096 ![] bcast_S_S2x16x4096x4096 (constant S_ .f32 0x3DB504F3#32))

/-- Zero everywhere. -/
def zeroT : Sq := broadcastInDim S2x16x4096x4096 ![] bcast_S_S2x16x4096x4096 (constant (F := Ideal) S_ .f32 0x00000000#32)

/-- The logarithm of the sigmoid of every entry. -/
def lsigT (z : Sq) : Sq :=
  Host.negf (select (cmpf .une (subf (Host.negf z) zeroT) (subf (Host.negf z) zeroT)) (addf (Host.negf z) zeroT)
    (addf (maximumf (Host.negf z) zeroT) (Host.log1p (Host.exp (Host.negf (Host.absf (subf (Host.negf z) zeroT)))))))

/-- Which keys come before the row. -/
def strictT : IVec S2x16x4096x4096 1 :=
  broadcastInDim S2x16x4096x4096 ![2, 3] bcast_S4096x4096_S2x16x4096x4096_2_3 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- What each key leaves of the stick, nothing taken by keys at or after the row. -/
def keepT (x : FVec Ideal S2x4096x6656 .bf16) : Sq := select strictT (lsigT (Host.negf (scoreT x))) zeroT

/-- Sums from the right. -/
def sumT (k : Sq) : Sq :=
  Host.reduceWindowAdd ![1, 1, 1, 4096] ![1, 1, 1, 1] ![0, 0, 0, 0] ![0, 0, 0, 4095] k
    (broadcastInDim S_ ![] bcast_S_S_ (constant (F := Ideal) S_ .f32 0x00000000#32))
    reduceWindows_S2x16x4096x4096_S2x16x4096x4096_w1s1p0_0_w1s1p0_0_w1s1p0_0_w4096s1p0_4095 h_S_

/-- The weights. -/
def wtT (x : FVec Ideal S2x4096x6656 .bf16) : Sq :=
  select strictT (Host.exp (addf (lsigT (scoreT x)) (subf (sumT (keepT x)) (keepT x)))) zeroT

/-- The result. -/
def outT (x : FVec Ideal S2x4096x6656 .bf16) : FVec Ideal S2x4096x2048 .bf16 :=
  truncf .bf16 (shapeCast S2x4096x2048 (transpose S2x4096x16x128 [0, 2, 1, 3]
    (Host.dotGeneral dot_S2x16x4096x4096_S2x16x4096x128_S2x16x4096x128_3_2_2_3_01_01 none (wtT x)
      (headsT ![0, 0, 4096] slices_S2x4096x6656_S2x4096x2048_0_0_4096 x)) transposes_S2x16x4096x128_S2x4096x16x128_0_2_1_3)
    shapeCasts_S2x4096x16x128_S2x4096x2048) bitsLt_bf16_f32

theorem res_eq (m : (ℓ : Loc nD τ sig) → Buf (Elt Ideal) ℓ) (c : Dev nD) :
    Value.res_main_v31 m c = outT (m ((c.tc : Thread nD τ).loc main_arg0)) := by
  unfold Value.res_main_v31
  rfl

theorem headsT_apply (off : ℕ) (h : S2x4096x6656.Slices ![0, 0, off] S2x4096x2048) (x : FVec Ideal S2x4096x6656 .bf16)
    (b : Fin 2) (g : Fin 16) (r : Fin 4096) (d : Fin 128) (ho : off ≤ 4096) :
    headsT ![0, 0, off] h x (ix4 b g r d) = x (ix3 b r ⟨off + (128 * g.val + d.val), by omega⟩) := by
  pointwise [headsT]
  rw [show (⟨off + (g.val * 128 + d.val), by omega⟩ : Fin 6656) = ⟨off + (128 * g.val + d.val), by omega⟩ from
    Fin.ext (by show off + (g.val * 128 + d.val) = off + (128 * g.val + d.val); omega)]

theorem scoreT_apply (x : FVec Ideal S2x4096x6656 .bf16) (b : Fin 2) (g : Fin 16) (r s : Fin 4096) :
    scoreT x (ix4 b g r s) = score x b g r s := by
  pointwise [scoreT]
  simp only [headsT_apply _ _ _ _ _ _ _ (Nat.zero_le _), headsT_apply _ _ _ _ _ _ _ (show 2048 ≤ 4096 by omega)]
  unfold score
  simp only [Nat.zero_add]

theorem strictT_apply (b : Fin 2) (g : Fin 16) (r s : Fin 4096) :
    strictT (ix4 b g r s) = BitVec.ofBool (decide (s.val < r.val)) := by
  pointwise [strictT]
  rw [WordCmp.cmpi_slt_ofNat (by omega) (by omega)]

theorem lsigT_apply (z : Sq) (j : S2x16x4096x4096.Idx) (t : ℝ) (h : z j = (t : EReal)) : lsigT z j = (lsig t : EReal) := by
  pointwise [lsigT, zeroT]
  rw [h, if_neg (by simp), ← EReal.coe_neg, absf_coe, ← EReal.coe_neg, Ideal.exp_coe, Ideal.log1p,
    show (1 : EReal) = ((1 : ℝ) : EReal) from rfl, ← EReal.coe_add, log_coe (by positivity),
    show (0 : EReal) = ((0 : ℝ) : EReal) from rfl, max_coe, ← EReal.coe_add, ← EReal.coe_neg, abs_neg]
  congr 1
  unfold lsig
  rcases le_total 0 t with h0 | h0
  · rw [max_eq_right (by linarith), min_eq_right h0]; ring
  · rw [max_eq_left (by linarith), min_eq_left h0]; ring

theorem foldl_fin {N : ℕ} (g : Fin N → EReal) : (List.finRange N).foldl (fun r n => r + g n) 0 = ∑ n, g n := by
  rw [Fin.sum_univ_def, List.sum_eq_foldl, List.foldl_map]

theorem sumT_apply (k : Sq) (b : Fin 2) (g : Fin 16) (r s : Fin 4096) :
    sumT k (ix4 b g r s) = ∑ w : Fin 4096, if h : s.val + w.val < 4096 then k (ix4 b g r ⟨s.val + w.val, h⟩) else 0 := by
  have hz : broadcastInDim S_ ![] bcast_S_S_ (constant (F := Ideal) S_ .f32 0#32) (Shape.Idx.first h_S_) = (0 : EReal) := by
    show Ideal.ofBits .f32 0#32 = 0
    simp
  unfold sumT Host.reduceWindowAdd
  rw [hz, Ideal.hostReduceWindowAdd_def]
  unfold Ideal.hostReduceWindowAdd Host.reduceWindow
  dsimp only
  rw [foldl_fin, ← Equiv.sum_comp (Shape.rowMajor _)]
  simp only [Equiv.symm_apply_apply]
  rw [sum_idx4]
  simp only [Fin.sum_univ_one]
  refine Finset.sum_congr rfl fun w _ => ?_
  by_cases hw : s.val + w.val < 4096
  · rw [dif_pos hw, dif_pos]
    · congr 1
      funext a
      apply Fin.ext
      match a with
      | 0 => show b.val * 1 + 0 - 0 = b.val; omega
      | 1 => show g.val * 1 + 0 - 0 = g.val; omega
      | 2 => show r.val * 1 + 0 - 0 = r.val; omega
      | 3 => show s.val * 1 + w.val - 0 = s.val + w.val; omega
    · intro a
      match a with
      | 0 => exact ⟨Nat.zero_le _, show b.val * 1 + 0 - 0 < 2 by omega⟩
      | 1 => exact ⟨Nat.zero_le _, show g.val * 1 + 0 - 0 < 16 by omega⟩
      | 2 => exact ⟨Nat.zero_le _, show r.val * 1 + 0 - 0 < 4096 by omega⟩
      | 3 => exact ⟨Nat.zero_le _, show s.val * 1 + w.val - 0 < 4096 by omega⟩
  · rw [dif_neg hw, dif_neg]
    intro hc
    have h3 : s.val * 1 + w.val - 0 < 4096 := (hc 3).2
    omega

/-- Sums from the right of real numbers. -/
theorem sumT_real (k : Sq) (K : ℕ → ℝ) (b : Fin 2) (g : Fin 16) (r s : Fin 4096)
    (hk : ∀ j : Fin 4096, k (ix4 b g r j) = (K j.val : EReal)) :
    sumT k (ix4 b g r s) = ((∑ j ∈ Finset.Ico s.val 4096, K j : ℝ) : EReal) := by
  rw [sumT_apply, Finset.sum_Ico_eq_sum_range, coe_sum]
  have e : ∀ w : Fin 4096, (if h : s.val + w.val < 4096 then k (ix4 b g r ⟨s.val + w.val, h⟩) else 0)
      = (fun n : ℕ => if s.val + n < 4096 then (K (s.val + n) : EReal) else 0) w.val := by
    intro w
    by_cases h : s.val + w.val < 4096
    · simp only [dif_pos h, if_pos h, hk]
    · simp only [dif_neg h, if_neg h]
  rw [Finset.sum_congr rfl fun w _ => e w,
    Fin.sum_univ_eq_sum_range (fun n : ℕ => if s.val + n < 4096 then (K (s.val + n) : EReal) else 0) 4096, ← Finset.sum_filter]
  refine Finset.sum_congr ?_ fun _ _ => rfl
  ext n
  simp only [Finset.mem_filter, Finset.mem_range]
  omega

theorem score_real (x : FVec Ideal S2x4096x6656 .bf16) (hx : RealScores x) (b : Fin 2) (g : Fin 16) (r s : Fin 4096) :
    scoreT x (ix4 b g r s) = (scores x b g r s.val : EReal) := by
  rw [scoreT_apply, hx b g r s]
  unfold scores
  rw [dif_pos s.isLt]

theorem zeroT_apply (j : S2x16x4096x4096.Idx) : zeroT j = 0 := by
  pointwise [zeroT]

theorem keepT_real (x : FVec Ideal S2x4096x6656 .bf16) (hx : RealScores x) (b : Fin 2) (g : Fin 16) (r s : Fin 4096) :
    keepT x (ix4 b g r s) = ((if s.val < r.val then keep (scores x b g r s.val) else 0 : ℝ) : EReal) := by
  have e : lsigT (Host.negf (scoreT x)) (ix4 b g r s) = (lsig (-(scores x b g r s.val)) : EReal) :=
    lsigT_apply _ _ _ (by show -(scoreT x (ix4 b g r s)) = _; rw [score_real x hx, EReal.coe_neg])
  show Scalar.select (strictT (ix4 b g r s)) (lsigT (Host.negf (scoreT x)) (ix4 b g r s)) (zeroT (ix4 b g r s)) = _
  rw [strictT_apply, WordCmp.select_ofBool, e, lsig_neg, zeroT_apply]
  by_cases h : s.val < r.val
  · simp only [h, decide_true, if_true]
  · simp only [h, decide_false, if_false, Bool.false_eq_true, EReal.coe_zero]

/-- The sum from one key on, less that key, is the sum over the keys after it that come before the row. -/
theorem tail_sum (K : ℕ → ℝ) (s r N : ℕ) (h : s < r) (hr : r ≤ N) :
    (∑ j ∈ Finset.Ico s N, if j < r then K j else 0) - (if s < r then K s else 0) = ∑ j ∈ Finset.Ico (s + 1) r, K j := by
  rw [Finset.sum_eq_sum_Ico_succ_bot (by omega), add_sub_cancel_left, ← Finset.sum_filter]
  refine Finset.sum_congr ?_ fun _ _ => rfl
  ext n
  simp only [Finset.mem_filter, Finset.mem_Ico]
  omega

theorem wtT_apply (x : FVec Ideal S2x4096x6656 .bf16) (hx : RealScores x) (b : Fin 2) (g : Fin 16) (r s : Fin 4096) :
    wtT x (ix4 b g r s) = wt (scores x b g r) r.val s.val := by
  have e := lsigT_apply (scoreT x) (ix4 b g r s) _ (score_real x hx b g r s)
  have e2 := sumT_real (keepT x) (fun j => if j < r.val then keep (scores x b g r j) else 0) b g r s
    (fun j => keepT_real x hx b g r j)
  show Scalar.select (strictT (ix4 b g r s)) (Ideal.exp (lsigT (scoreT x) (ix4 b g r s)
    + (sumT (keepT x) (ix4 b g r s) - keepT x (ix4 b g r s)))) (zeroT (ix4 b g r s)) = _
  rw [strictT_apply, WordCmp.select_ofBool, e, e2, keepT_real x hx, zeroT_apply, sub_coe, ← EReal.coe_add, Ideal.exp_coe]
  unfold wt
  by_cases h : s.val < r.val
  · rw [tail_sum (fun j => keep (scores x b g r j)) s.val r.val 4096 h (by omega), decide_eq_true h, if_pos rfl, if_pos h]
  · simp only [h, decide_false, if_false, Bool.false_eq_true]

theorem outT_apply (x : FVec Ideal S2x4096x6656 .bf16) (hx : RealScores x) (b : Fin 2) (r : Fin 4096) (g : Fin 16) (d : Fin 128) :
    outT x (ix3 b r ⟨128 * g.val + d.val, by omega⟩) = attnAt x b r g d := by
  pointwise [outT]
  unfold attnAt
  rw [← Fin.sum_univ_eq_sum_range (fun s => wt (scores x b g r) r.val s * vals x b g d s) 4096]
  refine Finset.sum_congr rfl fun s _ => ?_
  rw [wtT_apply x hx, headsT_apply 4096 _ x b g s d (le_refl _)]
  unfold vals
  rw [dif_pos s.isLt]

theorem outT_eq (x : FVec Ideal S2x4096x6656 .bf16) (hx : RealScores x) : outT x = attn x := by
  funext j
  obtain ⟨b, r, c, rfl⟩ : ∃ (b : Fin 2) (r : Fin 4096) (c : Fin 2048), j = ix3 b r c := ⟨j 0, j 1, j 2, eq_ix3 j⟩
  obtain ⟨g, d, rfl⟩ : ∃ (g : Fin 16) (d : Fin 128), c = ⟨128 * g.val + d.val, by omega⟩ :=
    ⟨⟨c.val / 128, by omega⟩, ⟨c.val % 128, by omega⟩, Fin.ext (by show c.val = 128 * (c.val / 128) + c.val % 128; omega)⟩
  rw [attn_ix3 x b r g d _ rfl]
  exact outT_apply x hx b r g d

end Cert.StickRefIdeal.Ref
-- ==== Proof.StickPre.lean ====
/- What the precondition of stick-breaking attention gives: queries and keys are real numbers, so every score is. -/
module

public import proofs.«01_k».proof.Proof.Gen.Pre_sb_finite
public import proofs.«01_k».proof.Proof.StickMath
public import Idealize.ShloMosaic.Lib.WordCmp
public import Idealize.ShloMosaic.Lib.ReduceAll

@[expose] public section

set_option maxRecDepth 16384

noncomputable section

namespace Cert.Pre_sb_finite.Read

open Cert.Pre_sb_finite Cert.Proof.Stick Idealize.ShloMosaic

theorem entry_real (hF : Facts) (x : FVec Ideal S2x4096x6656 .bf16) (h : fn x = fun _ => 1#1) (b : Fin 2) (s : Fin 4096) (c : Fin 4096) :
    ∃ t : ℝ, x (ix3 b s ⟨c.val, by omega⟩) = (t : EReal) := by
  have h0 := congrFun h (fun a => a.elim0)
  unfold fn at h0
  haveI : Subsingleton S_.Idx := ⟨fun a b => funext fun i => i.elim0⟩
  have h1 := Host.reduce_andi_all _ _ _ _ _ h0 (ix3 b s c)
  revert h1
  pointwise []
  intro h1
  generalize x (ix3 b s ⟨c.val, by omega⟩) = y at h1 ⊢
  have h2 : max y (-y) < Ideal.ofBits .f32 2139095040#32 := by
    by_contra hn
    rw [show decide (FloatOps.absf (F := Ideal) (φ := .f32) y < Ideal.ofBits .f32 2139095040#32) = false from decide_eq_false hn] at h1
    exact absurd h1 (by decide)
  induction y using EReal.rec with
  | bot => exact absurd h2 (by simp)
  | coe t => exact ⟨t, rfl⟩
  | top => exact absurd h2 (by simp)

theorem scores_real (hF : Facts) (x : FVec Ideal S2x4096x6656 .bf16) (h : fn x = fun _ => 1#1) : RealScores x := by
  have e := entry_real hF x h
  intro b g r s
  have hq : ∀ d : Fin 128, ∃ t : ℝ, x (ix3 b r ⟨128 * g.val + d.val, by omega⟩) = (t : EReal) := fun d =>
    e b r ⟨128 * g.val + d.val, by omega⟩
  have hk : ∀ d : Fin 128, ∃ t : ℝ, x (ix3 b s ⟨2048 + (128 * g.val + d.val), by omega⟩) = (t : EReal) := fun d =>
    e b s ⟨2048 + (128 * g.val + d.val), by omega⟩
  choose q hq using hq
  choose k hk using hk
  obtain ⟨y, hy⟩ : ∃ y : ℝ, Ideal.ofBits .f32 1035273459#32 = (y : EReal) :=
    ⟨_, (EReal.coe_toReal (by simp [Ideal.ofBits, Ideal.ieee, -EReal.coe_mul]) (by simp [Ideal.ofBits, Ideal.ieee, -EReal.coe_mul])).symm⟩
  unfold score
  simp only [hq, hk, hy, ← EReal.coe_mul, ← coe_sum, EReal.toReal_coe]

end Cert.Pre_sb_finite.Read
-- ==== Proof.UpBlock.lean ====
/- What the body of the launch leaves in its output block and in the rows it carries, in each of its four cases. -/
module

public import proofs.«01_k».proof.Proof.Gen.UpIdeal.Value
public import Idealize.ShloMosaic.Lib.Pipeline.Value
public import Idealize.ShloMosaic.Lib.VecWindow

@[expose] public section

set_option maxRecDepth 16384

noncomputable section

namespace Cert.UpIdeal.Block

open Cert.UpIdeal Cert.UpIdeal.Gen Idealize.ShloMosaic Idealize.ShloMosaic.TcCoe Idealize.SL.Sem

variable {F : FTy → Type} [FloatOps F]

theorem off2 : (![0, 0] : Fin 2 → ℕ) = fun _ => 0 := by decide

/-- The normalised rows: the sixteen before the tile, then the tile's. -/
def rows (x0 : Vec F S512x2048 .f32) (x1 : Vec F S16x2048 .f32) (x2 : Vec F S1x2048 .f32) : Vec F S528x2048 .bf16 :=
  View.canon [⟨Rect.unit (s := S528x2048) ![16, 0] S512x2048.size inb_S528x2048_S512x2048_16_0, k0_pay3 x0 x2⟩,
    ⟨Rect.unit (s := S528x2048) ![0, 0] S16x2048.size inb_S528x2048_S16x2048_0_0, k0_pay2 x1 x2⟩]

/-- The rows' product with a block of columns where a sequence starts: nothing comes before it. -/
def first (n : Vec F S528x2048 .bf16) (w : Vec F S2048x512 .bf16) : Vec F S528x512 .f32 :=
  View.canon [⟨Rect.unit (s := S528x512) ![0, 0] S16x512.size inb_S528x512_S16x512_0_0, k0_pay5⟩,
    ⟨Rect.unit (s := S528x512) ![0, 0] S528x512.size inb_S528x512_S528x512_0_0, k0_pay4 n w⟩]

/-- A product seen from two rows back, one row back, and from the row itself. -/
def back2 (u : Vec F S528x512 .f32) : Vec F S512x512 .f32 :=
  View.ld u (Rect.unit (s := S528x512) ![14, 0] S512x512.size inb_S528x512_S512x512_14_0)
def back1 (u : Vec F S528x512 .f32) : Vec F S512x512 .f32 :=
  View.ld u (Rect.unit (s := S528x512) ![15, 0] S512x512.size inb_S528x512_S512x512_15_0)
def back0 (u : Vec F S528x512 .f32) : Vec F S512x512 .f32 :=
  View.ld u (Rect.unit (s := S528x512) ![16, 0] S512x512.size inb_S528x512_S512x512_16_0)

/-- The three rows of a block of the convolution's weights. -/
def tap0 (x : Vec F S3x512 .f32) : Vec F S1x512 .f32 := View.ld x (Rect.unit (s := S3x512) ![0, 0] S1x512.size inb_S3x512_S1x512_0_0)
def tap1 (x : Vec F S3x512 .f32) : Vec F S1x512 .f32 := View.ld x (Rect.unit (s := S3x512) ![1, 0] S1x512.size inb_S3x512_S1x512_1_0)
def tap2 (x : Vec F S3x512 .f32) : Vec F S1x512 .f32 := View.ld x (Rect.unit (s := S3x512) ![2, 0] S1x512.size inb_S3x512_S1x512_2_0)

/-- The output block from the two products. -/
def block (u v : Vec F S528x512 .f32) (x5 x6 : Vec F S3x512 .f32) (x7 x8 : Vec F S1x512 .f32) : Vec F S512x512 .bf16 :=
  k0_pay1 (k0_pay7 (k0_pay6 x7 (tap0 x5) (back2 u)) (tap1 x5) (back1 u) (tap2 x5) (back0 u)) (k0_pay10 x8)
    (tap0 x6) (back2 v) (tap1 x6) (back1 v) (tap2 x6) (back0 v)

theorem pay8_eq : (k0_pay8 : Vec F S528x2048 .bf16 → Vec F S2048x512 .bf16 → FVec F S528x512 .f32) = k0_pay4 := rfl
theorem pay9_eq : (k0_pay9 : FVec F S16x512 .f32) = k0_pay5 := rfl

/- A read of the whole of an array is the array; one write of the whole leaves what it wrote. -/
theorem ld_tile (x : Vec F S512x2048 .f32) : View.ld x (Rect.unit (s := S512x2048) ![0, 0] ![512, 2048] inb_S512x2048_S512x2048_0_0) = x :=
  View.ld_unit_zero off2 _ x
theorem ld_halo (x : Vec F S16x2048 .f32) : View.ld x (Rect.unit (s := S16x2048) ![0, 0] ![16, 2048] inb_S16x2048_S16x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem ld_wts (x : Vec F S2048x512 .bf16) : View.ld x (Rect.unit (s := S2048x512) ![0, 0] ![2048, 512] inb_S2048x512_S2048x512_0_0) = x :=
  View.ld_unit_zero off2 _ x
theorem ld_cb (x : Vec F S1x512 .f32) : View.ld x (Rect.unit (s := S1x512) ![0, 0] ![1, 512] inb_S1x512_S1x512_0_0) = x :=
  View.ld_unit_zero off2 _ x
theorem ld_xs (x : Vec F S528x2048 .bf16) : View.ld x (Rect.unit (s := S528x2048) ![0, 0] ![528, 2048] inb_S528x2048_S528x2048_0_0) = x :=
  View.ld_unit_zero off2 _ x
theorem canon_prod (x : Vec F S528x512 .f32) :
    (View.canon [⟨Rect.unit (s := S528x512) ![0, 0] ![528, 512] inb_S528x512_S528x512_0_0, x⟩] : Vec F S528x512 .f32) = x :=
  View.canon_unit_zero off2 _ x
theorem idx_xs (x : Vec F S528x2048 .bf16) :
    (fun j => x ((Rect.unit (s := S528x2048) ![0, 0] ![528, 2048] inb_S528x2048_S528x2048_0_0).idx j)) = x :=
  View.ld_unit_zero off2 _ x
theorem canon_rows (x0 : Vec F S512x2048 .f32) (x1 : Vec F S16x2048 .f32) (x2 : Vec F S1x2048 .f32) :
    (View.canon [⟨Rect.unit (s := S528x2048) ![16, 0] ![512, 2048] inb_S528x2048_S512x2048_16_0, k0_pay3 x0 x2⟩,
      ⟨Rect.unit (s := S528x2048) ![0, 0] ![16, 2048] inb_S528x2048_S16x2048_0_0, k0_pay2 x1 x2⟩] : Vec F S528x2048 .bf16)
      = rows x0 x1 x2 := rfl
theorem canon_first (n : Vec F S528x2048 .bf16) (w : Vec F S2048x512 .bf16) :
    (View.canon [⟨Rect.unit (s := S528x512) ![0, 0] ![16, 512] inb_S528x512_S16x512_0_0, k0_pay5⟩,
      ⟨Rect.unit (s := S528x512) ![0, 0] ![528, 512] inb_S528x512_S528x512_0_0, k0_pay4 n w⟩] : Vec F S528x512 .f32)
      = first n w := rfl
theorem block_eq (u v : Vec F S528x512 .f32) (x5 x6 : Vec F S3x512 .f32) (x7 x8 : Vec F S1x512 .f32) :
    k0_pay1 (k0_pay7 (k0_pay6 x7 (View.ld x5 (Rect.unit (s := S3x512) ![0, 0] ![1, 512] inb_S3x512_S1x512_0_0)) (fun j => u ((Rect.unit (s := S528x512) ![14, 0] ![512, 512] inb_S528x512_S512x512_14_0).idx j)))
        (View.ld x5 (Rect.unit (s := S3x512) ![1, 0] ![1, 512] inb_S3x512_S1x512_1_0)) (fun j => u ((Rect.unit (s := S528x512) ![15, 0] ![512, 512] inb_S528x512_S512x512_15_0).idx j))
        (View.ld x5 (Rect.unit (s := S3x512) ![2, 0] ![1, 512] inb_S3x512_S1x512_2_0)) (fun j => u ((Rect.unit (s := S528x512) ![16, 0] ![512, 512] inb_S528x512_S512x512_16_0).idx j))) (k0_pay10 x8)
      (View.ld x6 (Rect.unit (s := S3x512) ![0, 0] ![1, 512] inb_S3x512_S1x512_0_0)) (fun j => v ((Rect.unit (s := S528x512) ![14, 0] ![512, 512] inb_S528x512_S512x512_14_0).idx j))
      (View.ld x6 (Rect.unit (s := S3x512) ![1, 0] ![1, 512] inb_S3x512_S1x512_1_0)) (fun j => v ((Rect.unit (s := S528x512) ![15, 0] ![512, 512] inb_S528x512_S512x512_15_0).idx j))
      (View.ld x6 (Rect.unit (s := S3x512) ![2, 0] ![1, 512] inb_S3x512_S1x512_2_0)) (fun j => v ((Rect.unit (s := S528x512) ![16, 0] ![512, 512] inb_S528x512_S512x512_16_0).idx j))
      = block u v x5 x6 x7 x8 := rfl

variable (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S528x2048 .bf16) (harg12 : arg12.IsWhole) (arg13 : Memref sig .tc .vmem S528x512 .f32) (harg13 : arg13.IsWhole) (arg14 : Memref sig .tc .vmem S528x512 .f32) (harg14 : arg14.IsWhole)
  (x0 : Vec F S512x2048 .f32) (x1 : Vec F S16x2048 .f32) (x2 : Vec F S1x2048 .f32) (x3 x4 : Vec F S2048x512 .bf16)
  (x5 x6 : Vec F S3x512 .f32) (x7 x8 : Vec F S1x512 .f32) (xs : Vec F S528x2048 .bf16)

theorem rows_A (hc0 : cond0_0 i) (hc1 : cond0_1 i) (hc2 : cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 = rows x0 x1 x2 := by
  unfold sout0_A_0
  rw [View.read_writes_junk_eq_canon]
  unfold kernelRun0_A
  dsimp only
  sl_unfold_words
  simp only [View.readAt_eq_ld, harg2.read_unread, harg3.read_unread, harg4.read_unread, ld_tile, ld_halo, ld_gain]
  rfl

theorem out_A (hc0 : cond0_0 i) (hc1 : cond0_1 i) (hc2 : cond0_2 i) :
    out0_A_9 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8
      = block (first (rows x0 x1 x2) x3) (first (rows x0 x1 x2) x4) x5 x6 x7 x8 := by
  unfold out0_A_9
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, harg5.read_unread,
    harg6.read_unread, harg7.read_unread, harg8.read_unread, harg9.read_unread, harg10.read_unread, harg12.read_unread,
    ld_tile, ld_halo, ld_gain, ld_wts, ld_cb, ld_xs, canon_prod,
    pay8_eq, pay9_eq, canon_rows, idx_xs, canon_first]
  exact block_eq (first (rows x0 x1 x2) x3) (first (rows x0 x1 x2) x4) x5 x6 x7 x8

theorem rows_B (hc0 : ¬cond0_0 i) (hc1 : cond0_1 i) (hc2 : cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs = xs := rfl

theorem out_B (hc0 : ¬cond0_0 i) (hc1 : cond0_1 i) (hc2 : cond0_2 i) :
    out0_B_9 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs
      = block (first xs x3) (first xs x4) x5 x6 x7 x8 := by
  unfold out0_B_9
  rw [View.read_writes_junk_eq_canon]
  unfold kernelRun0_B
  dsimp only
  sl_unfold_words
  rw [View.canon_unit_zero off2]
  simp only [View.readCov_eq_canon', View.readAt_eq_ld, harg2.read_unread, harg3.read_unread, harg4.read_unread, harg5.read_unread,
    harg6.read_unread, harg7.read_unread, harg8.read_unread, harg9.read_unread, harg10.read_unread, harg12.read_unread,
    ld_tile, ld_halo, ld_gain, ld_wts, ld_cb, ld_xs, canon_prod,
    pay8_eq, pay9_eq, canon_rows, idx_xs, canon_first]
  exact block_eq (first xs x3) (first xs x4) x5 x6 x7 x8

theorem rows_C (hc0 : cond0_0 i) (hc1 : ¬cond0_1 i) (hc2 : ¬cond0_2 i) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 = rows x0 x1 x2 := by
  unfold sout0_C_0
  rw [View.read_writes_junk_eq_canon]
  unfold kernelRun0_C
  dsimp only
  sl_unfold_words
  simp only [View.readAt_eq_ld, harg2.read_unread, harg3.read_unread, harg4.read_unread, ld_tile, ld_halo, ld_gain]
  rfl

theorem out_C (hc0 : cond0_0 i) (hc1 : ¬cond0_1 i) (hc2 : ¬cond0_2 i) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8
      = block (k0_pay4 (rows x0 x1 x2) x3) (k0_pay4 (rows x0 x1 x2) x4) x5 x6 x7 x8 := by
  unfold out0_C_9
  rw [View.read_writes_junk_eq_canon]
  unfold kernelRun0_C
  dsimp only
  sl_unfold_words
  rw [View.canon_unit_zero off2]
  simp only [View.readCov_eq_canon', View.readAt_eq_ld, harg2.read_unread, harg3.read_unread, harg4.read_unread, harg5.read_unread,
    harg6.read_unread, harg7.read_unread, harg8.read_unread, harg9.read_unread, harg10.read_unread, harg12.read_unread,
    ld_tile, ld_halo, ld_gain, ld_wts, ld_cb, ld_xs, canon_prod,
    pay8_eq, pay9_eq, canon_rows, idx_xs, canon_first]
  exact block_eq (k0_pay4 (rows x0 x1 x2) x3) (k0_pay4 (rows x0 x1 x2) x4) x5 x6 x7 x8

theorem rows_D (hc0 : ¬cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs = xs := rfl

theorem out_D (hc0 : ¬cond0_0 i) (hc1 : ¬cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 xs
      = block (k0_pay4 xs x3) (k0_pay4 xs x4) x5 x6 x7 x8 := by
  unfold out0_D_9
  rw [View.read_writes_junk_eq_canon]
  unfold kernelRun0_D
  dsimp only
  sl_unfold_words
  rw [View.canon_unit_zero off2]
  simp only [View.readCov_eq_canon', View.readAt_eq_ld, harg2.read_unread, harg3.read_unread, harg4.read_unread, harg5.read_unread,
    harg6.read_unread, harg7.read_unread, harg8.read_unread, harg9.read_unread, harg10.read_unread, harg12.read_unread,
    ld_tile, ld_halo, ld_gain, ld_wts, ld_cb, ld_xs, canon_prod,
    pay8_eq, pay9_eq, canon_rows, idx_xs, canon_first]
  exact block_eq (k0_pay4 xs x3) (k0_pay4 xs x4) x5 x6 x7 x8

end Cert.UpIdeal.Block
-- ==== Proof.UpMath.lean ====
/- The first product of the gated network as mathematics: the normalised rows, their product with the weights, the
   convolution over each row and the two before it, and the gate. -/
module

public import Idealize.ShloMosaic.Lib.Pointwise

@[expose] public section

noncomputable section

namespace Cert.Proof.Up

open Idealize.ShloMosaic

/-- A row's normalising factor: the mean of its squares, plus a small number, to the power of minus one half. -/
def factor (row : Fin 2048 → EReal) : EReal :=
  Ideal.rsqrt (Ideal.div (∑ k : Fin 2048, row k * row k) (Ideal.ofBits .f32 0x45000000#32) + Ideal.ofBits .f32 0x358637BD#32)

/-- The gate: a sigmoid-weighted number times the other. -/
def gated (s v : EReal) : EReal := s * Ideal.div 1 (1 + Ideal.exp (-s)) * v

section
variable (x : (⟨2, ![8192, 2048]⟩ : Shape).Idx → EReal) (g : (⟨1, ![2048]⟩ : Shape).Idx → EReal)
  (w : (⟨2, ![2048, 11264]⟩ : Shape).Idx → EReal) (cw : (⟨2, ![3, 11264]⟩ : Shape).Idx → EReal)
  (cb : (⟨1, ![11264]⟩ : Shape).Idx → EReal)

/-- An entry of a normalised row. -/
def normed (r : Fin 8192) (k : Fin 2048) : EReal := x (ix2 r k) * factor (fun k => x (ix2 r k)) * g (ix1 k)

/-- An entry of the product. -/
def prod (r : Fin 8192) (n : Fin 11264) : EReal := ∑ k : Fin 2048, normed x g r k * w (ix2 k n)

/-- The product `d` rows back in the same sequence, zero where the sequence has not begun. -/
def before (d : ℕ) (r : Fin 8192) (n : Fin 11264) : EReal :=
  if d ≤ r.val % 4096 then prod x g w ⟨r.val - d, by omega⟩ n else 0

/-- The convolution. -/
def conv (r : Fin 8192) (n : Fin 11264) : EReal :=
  cb (ix1 n) + cw (ix2 0 n) * before x g w 2 r n + cw (ix2 1 n) * before x g w 1 r n + cw (ix2 2 n) * before x g w 0 r n

/-- An entry of the result: the first half of the columns gates the second. -/
def entry (r : Fin 8192) (n : Fin 5632) : EReal :=
  gated (conv x g w cw cb r ⟨n.val, by omega⟩) (conv x g w cw cb r ⟨5632 + n.val, by omega⟩)

end

end Cert.Proof.Up
-- ==== Proof.UpPay.lean ====
/- The parts of a point's block, entry by entry. -/
module

public import proofs.«01_k».proof.Proof.UpBlock
public import proofs.«01_k».proof.Proof.UpMath

@[expose] public section

set_option maxRecDepth 16384

noncomputable section

namespace Cert.UpIdeal.Pay

open Cert.UpIdeal Cert.UpIdeal.Gen Cert.UpIdeal.Block Cert.Proof.Up Idealize.ShloMosaic

theorem rows_before (x0 : Vec Ideal S512x2048 .f32) (x1 : Vec Ideal S16x2048 .f32) (x2 : Vec Ideal S1x2048 .f32)
    (a : Fin 16) (k : Fin 2048) :
    k0_pay2 x1 x2 (ix2 a k) = x1 (ix2 a k) * factor (fun k => x1 (ix2 a k)) * x2 (ix2 0 k) := by
  pointwise [k0_pay2, factor]

theorem rows_tile (x0 : Vec Ideal S512x2048 .f32) (x2 : Vec Ideal S1x2048 .f32) (a : Fin 512) (k : Fin 2048) :
    k0_pay3 x0 x2 (ix2 a k) = x0 (ix2 a k) * factor (fun k => x0 (ix2 a k)) * x2 (ix2 0 k) := by
  pointwise [k0_pay3, factor]

theorem prod_apply (n : Vec Ideal S528x2048 .bf16) (w : Vec Ideal S2048x512 .bf16) (r : Fin 528) (b : Fin 512) :
    k0_pay4 n w (ix2 r b) = ∑ k : Fin 2048, n (ix2 r k) * w (ix2 k b) := by
  pointwise [k0_pay4]

theorem zero_apply (a : Fin 16) (b : Fin 512) : (k0_pay5 : FVec Ideal S16x512 .f32) (ix2 a b) = 0 := by
  pointwise [k0_pay5]

theorem back2_apply (u : Vec Ideal S528x512 .f32) (a b : Fin 512) : back2 u (ix2 a b) = u (ix2 ⟨14 + a.val, by omega⟩ b) := by
  pointwise [back2]
theorem back1_apply (u : Vec Ideal S528x512 .f32) (a b : Fin 512) : back1 u (ix2 a b) = u (ix2 ⟨15 + a.val, by omega⟩ b) := by
  pointwise [back1]
theorem back0_apply (u : Vec Ideal S528x512 .f32) (a b : Fin 512) : back0 u (ix2 a b) = u (ix2 ⟨16 + a.val, by omega⟩ b) := by
  pointwise [back0]
theorem tap0_apply (x : Vec Ideal S3x512 .f32) (b : Fin 512) : tap0 x (ix2 0 b) = x (ix2 0 b) := by pointwise [tap0]
theorem tap1_apply (x : Vec Ideal S3x512 .f32) (b : Fin 512) : tap1 x (ix2 0 b) = x (ix2 1 b) := by pointwise [tap1]
theorem tap2_apply (x : Vec Ideal S3x512 .f32) (b : Fin 512) : tap2 x (ix2 0 b) = x (ix2 2 b) := by pointwise [tap2]

theorem rows_at_tile (x0 : Vec Ideal S512x2048 .f32) (x1 : Vec Ideal S16x2048 .f32) (x2 : Vec Ideal S1x2048 .f32)
    (a : Fin 512) (k : Fin 2048) : rows x0 x1 x2 (ix2 ⟨16 + a.val, by omega⟩ k) = k0_pay3 x0 x2 (ix2 a k) := by
  have e : (Rect.unit (s := S528x2048) ![16, 0] S512x2048.size inb_S528x2048_S512x2048_16_0).emb (ix2 a k)
      = ix2 ⟨16 + a.val, by omega⟩ k := by
    funext y
    apply Fin.ext
    match y with
    | ⟨0, _⟩ => show 16 + 1 * a.val = 16 + a.val; omega
    | ⟨1, _⟩ => show 0 + 1 * k.val = k.val; omega
  rw [rows, ← e]
  exact View.canon_cons_emb _ _ _ _

theorem rows_at_before (x0 : Vec Ideal S512x2048 .f32) (x1 : Vec Ideal S16x2048 .f32) (x2 : Vec Ideal S1x2048 .f32)
    (a : Fin 16) (k : Fin 2048) : rows x0 x1 x2 (ix2 ⟨a.val, by omega⟩ k) = k0_pay2 x1 x2 (ix2 a k) := by
  have e : (Rect.unit (s := S528x2048) ![0, 0] S16x2048.size inb_S528x2048_S16x2048_0_0).emb (ix2 a k)
      = ix2 ⟨a.val, by omega⟩ k := by
    funext y
    apply Fin.ext
    match y with
    | ⟨0, _⟩ => show 0 + 1 * a.val = a.val; omega
    | ⟨1, _⟩ => show 0 + 1 * k.val = k.val; omega
  rw [rows, View.canon_cons_of_not_mem, ← e]
  · exact View.canon_cons_emb _ _ _ _
  · rw [Rect.mem_set_unit]
    intro h
    have h0 : 16 ≤ a.val := (h 0).1
    omega

theorem first_zero (n : Vec Ideal S528x2048 .bf16) (w : Vec Ideal S2048x512 .bf16) (a : Fin 16) (b : Fin 512) :
    first n w (ix2 ⟨a.val, by omega⟩ b) = 0 := by
  have e : (Rect.unit (s := S528x512) ![0, 0] S16x512.size inb_S528x512_S16x512_0_0).emb (ix2 a b)
      = ix2 ⟨a.val, by omega⟩ b := by
    funext y
    apply Fin.ext
    match y with
    | ⟨0, _⟩ => show 0 + 1 * a.val = a.val; omega
    | ⟨1, _⟩ => show 0 + 1 * b.val = b.val; omega
  rw [first, ← e]
  exact (View.canon_cons_emb _ _ _ _).trans (zero_apply a b)

theorem first_prod (n : Vec Ideal S528x2048 .bf16) (w : Vec Ideal S2048x512 .bf16) (r : Fin 528) (hr : 16 ≤ r.val) (b : Fin 512) :
    first n w (ix2 r b) = ∑ k : Fin 2048, n (ix2 r k) * w (ix2 k b) := by
  rw [first, View.canon_cons_of_not_mem, View.canon_unit_zero off2]
  · exact prod_apply n w r b
  · rw [Rect.mem_set_unit]
    intro h
    have h0 : r.val < 0 + 16 := (h 0).2
    omega

/-- The convolution of a block's product at an entry. -/
def convAt (u : Vec Ideal S528x512 .f32) (x : Vec Ideal S3x512 .f32) (z : Vec Ideal S1x512 .f32) (a b : Fin 512) : EReal :=
  z (ix2 0 b) + x (ix2 0 b) * u (ix2 ⟨14 + a.val, by omega⟩ b) + x (ix2 1 b) * u (ix2 ⟨15 + a.val, by omega⟩ b)
    + x (ix2 2 b) * u (ix2 ⟨16 + a.val, by omega⟩ b)

theorem block_apply (u v : Vec Ideal S528x512 .f32) (x5 x6 : Vec Ideal S3x512 .f32) (x7 x8 : Vec Ideal S1x512 .f32) (a b : Fin 512) :
    block u v x5 x6 x7 x8 (ix2 a b) = gated (convAt u x5 x7 a b) (convAt v x6 x8 a b) := by
  have e6 : ∀ p q r, k0_pay6 (F := Ideal) p q r (ix2 a b) = p (ix2 0 b) + q (ix2 0 b) * r (ix2 a b) := fun p q r => by
    pointwise [k0_pay6]
  have e7 : ∀ o p q r s, k0_pay7 (F := Ideal) o p q r s (ix2 a b)
      = o (ix2 a b) + p (ix2 0 b) * q (ix2 a b) + r (ix2 0 b) * s (ix2 a b) := fun o p q r s => by
    pointwise [k0_pay7]
  have e1 : ∀ o z p q r s t y, k0_pay1 (F := Ideal) o z p q r s t y (ix2 a b)
      = gated (o (ix2 a b)) (z (ix2 0 b) + p (ix2 0 b) * q (ix2 a b) + r (ix2 0 b) * s (ix2 a b) + t (ix2 0 b) * y (ix2 a b)) :=
    fun o z p q r s t y => by
      pointwise [k0_pay1, gated]
      simp [Ideal.ofBits, Ideal.ieee, -EReal.coe_mul]
  have e10 : ∀ z, k0_pay10 (F := Ideal) z (ix2 0 b) = z (ix2 0 b) := fun z => by pointwise [k0_pay10]
  rw [block, e1, e7, e6, e10]
  simp only [tap0_apply, tap1_apply, tap2_apply, back0_apply, back1_apply, back2_apply]
  rfl

end Cert.UpIdeal.Pay
-- ==== Proof.UpRead.lean ====
/- The arrays a point's windows show, entry by entry, in terms of the arguments. -/
module

public import proofs.«01_k».proof.Proof.Gen.UpIdeal.Value
public import Idealize.ShloMosaic.Lib.Pipeline.Value
public import Idealize.ShloMosaic.Lib.Claim
public import Idealize.ShloMosaic.Lib.Pointwise
public import Idealize.ShloMosaic.Lib.StableHlo.ReadAt

@[expose] public section

set_option maxRecDepth 16384

noncomputable section

namespace Cert.UpIdeal.Read

open Cert.UpIdeal Cert.UpIdeal.Gen Idealize.ShloMosaic Idealize.ShloMosaic.TcCoe Idealize.SL.Sem

theorem index0 : ∀ t : Fin grid0.N, win0_0.index t = ![t.val / 11, 0] := by decide +kernel
theorem index1 : ∀ t : Fin grid0.N, win0_1.index t = ![32 * (t.val / 11) - 1, 0] := by decide +kernel
theorem index2 : ∀ t : Fin grid0.N, win0_2.index t = ![0, 0] := by decide +kernel
theorem index3 : ∀ t : Fin grid0.N, win0_3.index t = ![0, t.val % 11] := by decide +kernel
theorem index4 : ∀ t : Fin grid0.N, win0_4.index t = ![0, 11 + t.val % 11] := by decide +kernel
theorem index5 : ∀ t : Fin grid0.N, win0_5.index t = ![0, t.val % 11] := by decide +kernel
theorem index6 : ∀ t : Fin grid0.N, win0_6.index t = ![0, 11 + t.val % 11] := by decide +kernel
theorem index7 : ∀ t : Fin grid0.N, win0_7.index t = ![0, t.val % 11] := by decide +kernel
theorem index8 : ∀ t : Fin grid0.N, win0_8.index t = ![0, 11 + t.val % 11] := by decide +kernel
theorem index9 : ∀ t : Fin grid0.N, win0_9.index t = ![t.val / 11, t.val % 11] := by decide +kernel

variable (m : (ℓ : Loc nD τ sig) → Buf (Elt Ideal) ℓ)

abbrev res (c : Dev nD) : (⟨2, ![8192, 2048]⟩ : Shape).Idx → EReal := m ((c : Thread nD τ).loc main_arg0)
abbrev gain (c : Dev nD) : (⟨1, ![2048]⟩ : Shape).Idx → EReal := m ((c : Thread nD τ).loc main_arg1)
abbrev wts (c : Dev nD) : (⟨2, ![2048, 11264]⟩ : Shape).Idx → EReal := m ((c : Thread nD τ).loc main_arg2)
abbrev taps (c : Dev nD) : (⟨2, ![3, 11264]⟩ : Shape).Idx → EReal := m ((c : Thread nD τ).loc main_arg3)
abbrev bias (c : Dev nD) : (⟨1, ![11264]⟩ : Shape).Idx → EReal := m ((c : Thread nD τ).loc main_arg4)

/-- A column among the first half, and its fellow in the second. -/
def colG (q : Fin 11) (b : Fin 512) : Fin 11264 := ⟨512 * q.val + b.val, by omega⟩
def colV (q : Fin 11) (b : Fin 512) : Fin 11264 := ⟨5632 + (512 * q.val + b.val), by omega⟩

theorem V_v0 (c : Dev nD) (k : Fin 2048) (n : Fin 11264) :
    (V m c main_v0 : Vec Ideal S2048x11264 .bf16) (ix2 k n) = wts m c (ix2 k n) := by
  entry_read
  pointwise []

theorem V_v1 (c : Dev nD) (k : Fin 2048) : (V m c main_v1 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem V_v2 (c : Dev nD) (n : Fin 11264) : (V m c main_v2 : Vec Ideal S1x11264 .f32) (ix2 0 n) = bias m c (ix1 n) := by
  entry_read
  refine shapeCast_apply (bias m c) _ (ix2 0 n) (ix1 n) ?_
  rw [Shape.rowMajor_val_one, Shape.rowMajor_val_two]
  show n.val = 0 * 11264 + n.val
  omega

theorem V_v3 (c : Dev nD) (n : Fin 11264) : (V m c main_v3 : Vec Ideal S1x11264 .f32) (ix2 0 n) = bias m c (ix1 n) := by
  entry_read
  refine shapeCast_apply (bias m c) _ (ix2 0 n) (ix1 n) ?_
  rw [Shape.rowMajor_val_one, Shape.rowMajor_val_two]
  show n.val = 0 * 11264 + n.val
  omega

theorem iblk0_apply (c : Dev nD) (t : Fin cfg0.N) (p : Fin 16) (hp : t.val / 11 = p.val) (a : Fin 512) (b : Fin 2048) :
    (iblk m c 0 t : Vec Ideal S512x2048 .f32) (ix2 a b) = res m c (ix2 ⟨512 * p.val + a.val, by omega⟩ b) := by
  rw [iblk, View.read_apply]
  refine Eq.trans (b := V m c main_arg0 (ix2 ⟨512 * p.val + a.val, by omega⟩ b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val / 11) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (p : Fin 16) (hp : t.val / 11 = p.val) (h : 0 < p.val) (a : Fin 16) (b : Fin 2048) (r : Fin 8192) (hr : r.val + 16 = 512 * p.val + a.val) :
    (iblk m c 1 t : Vec Ideal S16x2048 .f32) (ix2 a b) = res m c (ix2 r b) := by
  rw [iblk, View.read_apply]
  refine Eq.trans (b := V m c main_arg0 (ix2 r b)) ?_ (congrFun (V_main_arg0 m c) _)
  refine congrArg (V m c main_arg0) ?_
  funext x
  apply Fin.ext
  have e := index1 t
  match x with
  | ⟨0, _⟩ => show win0_1.index t 0 * 16 + 1 * a.val = r.val; rw [e]; show (32 * (t.val / 11) - 1) * 16 + 1 * a.val = r.val; omega
  | ⟨1, _⟩ => show win0_1.index t 1 * 2048 + 1 * b.val = b.val; rw [e]; show 0 * 2048 + 1 * b.val = b.val; omega

theorem iblk2_apply (c : Dev nD) (t : Fin cfg0.N) (b : Fin 2048) :
    (iblk m c 2 t : Vec Ideal S1x2048 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index2 t
  match x with
  | ⟨0, _⟩ => show win0_2.index t 0 * 1 + 1 * 0 = 0; rw [e]; rfl
  | ⟨1, _⟩ => show win0_2.index t 1 * 2048 + 1 * b.val = b.val; rw [e]; show 0 * 2048 + 1 * b.val = b.val; omega

theorem iblk3_apply (c : Dev nD) (t : Fin cfg0.N) (q : Fin 11) (hq : t.val % 11 = q.val) (a : Fin 2048) (b : Fin 512) :
    (iblk m c 3 t : Vec Ideal S2048x512 .bf16) (ix2 a b) = wts m c (ix2 a (colG q b)) := by
  rw [iblk, View.read_apply]
  refine Eq.trans (b := V m c main_v0 (ix2 a (colG q b))) ?_ (V_v0 m c _ _)
  refine congrArg (V m c main_v0) ?_
  funext x
  apply Fin.ext
  have e := index3 t
  match x with
  | ⟨0, _⟩ => show win0_3.index t 0 * 2048 + 1 * a.val = a.val; rw [e]; show 0 * 2048 + 1 * a.val = a.val; omega
  | ⟨1, _⟩ => show win0_3.index t 1 * 512 + 1 * b.val = 512 * q.val + b.val; rw [e]; show (t.val % 11) * 512 + 1 * b.val = 512 * q.val + b.val; omega

theorem iblk5_apply (c : Dev nD) (t : Fin cfg0.N) (q : Fin 11) (hq : t.val % 11 = q.val) (a : Fin 3) (b : Fin 512) :
    (iblk m c 5 t : Vec Ideal S3x512 .f32) (ix2 a b) = taps m c (ix2 a (colG q b)) := by
  rw [iblk, View.read_apply]
  refine Eq.trans (b := V m c main_arg3 (ix2 a (colG q b))) ?_ (congrFun (V_main_arg3 m c) _)
  refine congrArg (V m c main_arg3) ?_
  funext x
  apply Fin.ext
  have e := index5 t
  match x with
  | ⟨0, _⟩ => show win0_5.index t 0 * 3 + 1 * a.val = a.val; rw [e]; show 0 * 3 + 1 * a.val = a.val; omega
  | ⟨1, _⟩ => show win0_5.index t 1 * 512 + 1 * b.val = 512 * q.val + b.val; rw [e]; show (t.val % 11) * 512 + 1 * b.val = 512 * q.val + b.val; omega

theorem iblk7_apply (c : Dev nD) (t : Fin cfg0.N) (q : Fin 11) (hq : t.val % 11 = q.val) (b : Fin 512) :
    (iblk m c 7 t : Vec Ideal S1x512 .f32) (ix2 0 b) = bias m c (ix1 (colG q b)) := by
  rw [iblk, View.read_apply]
  refine Eq.trans (b := V m c main_v2 (ix2 0 (colG q b))) ?_ (V_v2 m c _)
  refine congrArg (V m c main_v2) ?_
  funext x
  apply Fin.ext
  have e := index7 t
  match x with
  | ⟨0, _⟩ => show win0_7.index t 0 * 1 + 1 * 0 = 0; rw [e]; rfl
  | ⟨1, _⟩ => show win0_7.index t 1 * 512 + 1 * b.val = 512 * q.val + b.val; rw [e]; show (t.val % 11) * 512 + 1 * b.val = 512 * q.val + b.val; omega

theorem iblk4_apply (c : Dev nD) (t : Fin cfg0.N) (q : Fin 11) (hq : t.val % 11 = q.val) (a : Fin 2048) (b : Fin 512) :
    (iblk m c 4 t : Vec Ideal S2048x512 .bf16) (ix2 a b) = wts m c (ix2 a (colV q b)) := by
  rw [iblk, View.read_apply]
  refine Eq.trans (b := V m c main_v0 (ix2 a (colV q b))) ?_ (V_v0 m c _ _)
  refine congrArg (V m c main_v0) ?_
  funext x
  apply Fin.ext
  have e := index4 t
  match x with
  | ⟨0, _⟩ => show win0_4.index t 0 * 2048 + 1 * a.val = a.val; rw [e]; show 0 * 2048 + 1 * a.val = a.val; omega
  | ⟨1, _⟩ => show win0_4.index t 1 * 512 + 1 * b.val = 5632 + (512 * q.val + b.val); rw [e]; show (11 + t.val % 11) * 512 + 1 * b.val = 5632 + (512 * q.val + b.val); omega

theorem iblk6_apply (c : Dev nD) (t : Fin cfg0.N) (q : Fin 11) (hq : t.val % 11 = q.val) (a : Fin 3) (b : Fin 512) :
    (iblk m c 6 t : Vec Ideal S3x512 .f32) (ix2 a b) = taps m c (ix2 a (colV q b)) := by
  rw [iblk, View.read_apply]
  refine Eq.trans (b := V m c main_arg3 (ix2 a (colV q b))) ?_ (congrFun (V_main_arg3 m c) _)
  refine congrArg (V m c main_arg3) ?_
  funext x
  apply Fin.ext
  have e := index6 t
  match x with
  | ⟨0, _⟩ => show win0_6.index t 0 * 3 + 1 * a.val = a.val; rw [e]; show 0 * 3 + 1 * a.val = a.val; omega
  | ⟨1, _⟩ => show win0_6.index t 1 * 512 + 1 * b.val = 5632 + (512 * q.val + b.val); rw [e]; show (11 + t.val % 11) * 512 + 1 * b.val = 5632 + (512 * q.val + b.val); omega

theorem iblk8_apply (c : Dev nD) (t : Fin cfg0.N) (q : Fin 11) (hq : t.val % 11 = q.val) (b : Fin 512) :
    (iblk m c 8 t : Vec Ideal S1x512 .f32) (ix2 0 b) = bias m c (ix1 (colV q b)) := by
  rw [iblk, View.read_apply]
  refine Eq.trans (b := V m c main_v3 (ix2 0 (colV q b))) ?_ (V_v3 m c _)
  refine congrArg (V m c main_v3) ?_
  funext x
  apply Fin.ext
  have e := index8 t
  match x with
  | ⟨0, _⟩ => show win0_8.index t 0 * 1 + 1 * 0 = 0; rw [e]; rfl
  | ⟨1, _⟩ => show win0_8.index t 1 * 512 + 1 * b.val = 5632 + (512 * q.val + b.val); rw [e]; show (11 + t.val % 11) * 512 + 1 * b.val = 5632 + (512 * q.val + b.val); omega

end Cert.UpIdeal.Read
-- ==== Proof.UpArray.lean ====
/- What the array holds after the launch: the rows carried along a tile's points, the two products of a point, and the block
   each point leaves. -/
module

public import proofs.«01_k».proof.Proof.UpPay
public import proofs.«01_k».proof.Proof.UpRead

@[expose] public section

set_option maxRecDepth 16384

noncomputable section

namespace Cert.UpIdeal.Array

open Cert.UpIdeal Cert.UpIdeal.Gen Cert.UpIdeal.Block Cert.UpIdeal.Pay Cert.UpIdeal.Read Cert.Proof.Up
open Idealize.ShloMosaic Idealize.ShloMosaic.TcCoe Idealize.SL.Sem

/-- Row `a` of tile `p`. -/
def rowOf (p : Fin 16) (a : Fin 512) : Fin 8192 := ⟨512 * p.val + a.val, by omega⟩

section
variable (x : (⟨2, ![8192, 2048]⟩ : Shape).Idx → EReal) (g : (⟨1, ![2048]⟩ : Shape).Idx → EReal)
  (w : (⟨2, ![2048, 11264]⟩ : Shape).Idx → EReal) (cw : (⟨2, ![3, 11264]⟩ : Shape).Idx → EReal)
  (cb : (⟨1, ![11264]⟩ : Shape).Idx → EReal)

/-- The carried rows hold tile `p`'s normalised rows, and, unless a sequence starts there, the sixteen before them. -/
def Rows (p : Fin 16) (n : Vec Ideal S528x2048 .bf16) : Prop :=
  (∀ (a : Fin 512) (k : Fin 2048), n (ix2 ⟨16 + a.val, by omega⟩ k) = normed x g (rowOf p a) k)
    ∧ (p.val % 8 ≠ 0 → ∀ (a : Fin 16) (k : Fin 2048) (r : Fin 8192), r.val + 16 = 512 * p.val + a.val →
        n (ix2 ⟨a.val, by omega⟩ k) = normed x g r k)

/-- A product of a point: tile `p`'s rows, and before them the sixteen earlier ones, or zeros where a sequence starts. -/
def Prods (p : Fin 16) (col : Fin 512 → Fin 11264) (u : Vec Ideal S528x512 .f32) : Prop :=
  (∀ a b : Fin 512, u (ix2 ⟨16 + a.val, by omega⟩ b) = prod x g w (rowOf p a) (col b))
    ∧ (p.val % 8 = 0 → ∀ (a : Fin 16) (b : Fin 512), u (ix2 ⟨a.val, by omega⟩ b) = 0)
    ∧ (p.val % 8 ≠ 0 → ∀ (a : Fin 16) (b : Fin 512) (r : Fin 8192), r.val + 16 = 512 * p.val + a.val →
        u (ix2 ⟨a.val, by omega⟩ b) = prod x g w r (col b))

variable {x g w cw cb}

theorem rows_good {p : Fin 16} {x0 : Vec Ideal S512x2048 .f32} {x1 : Vec Ideal S16x2048 .f32} {x2 : Vec Ideal S1x2048 .f32}
    (h0 : ∀ (a : Fin 512) (k : Fin 2048), x0 (ix2 a k) = x (ix2 (rowOf p a) k))
    (h1 : p.val % 8 ≠ 0 → ∀ (a : Fin 16) (k : Fin 2048) (r : Fin 8192), r.val + 16 = 512 * p.val + a.val → x1 (ix2 a k) = x (ix2 r k))
    (h2 : ∀ k : Fin 2048, x2 (ix2 0 k) = g (ix1 k)) : Rows x g p (rows x0 x1 x2) := by
  refine ⟨fun a k => ?_, fun hp a k r hr => ?_⟩
  · rw [rows_at_tile, rows_tile, normed]
    simp only [h0, h2]
  · rw [rows_at_before, rows_before x0, normed]
    simp only [h1 hp a _ r hr, h2]

theorem first_good {p : Fin 16} {col : Fin 512 → Fin 11264} {n : Vec Ideal S528x2048 .bf16} {v : Vec Ideal S2048x512 .bf16}
    (hp : p.val % 8 = 0) (hn : Rows x g p n) (hv : ∀ (k : Fin 2048) (b : Fin 512), v (ix2 k b) = w (ix2 k (col b))) :
    Prods x g w p col (first n v) := by
  refine ⟨fun a b => ?_, fun _ a b => first_zero n v a b, fun h => absurd hp h⟩
  rw [first_prod n v _ (Nat.le_add_right 16 a.val) b, prod]
  simp only [hn.1, hv]

theorem later_good {p : Fin 16} {col : Fin 512 → Fin 11264} {n : Vec Ideal S528x2048 .bf16} {v : Vec Ideal S2048x512 .bf16}
    (hp : p.val % 8 ≠ 0) (hn : Rows x g p n) (hv : ∀ (k : Fin 2048) (b : Fin 512), v (ix2 k b) = w (ix2 k (col b))) :
    Prods x g w p col (k0_pay4 n v) := by
  refine ⟨fun a b => ?_, fun h => absurd h hp, fun _ a b r hr => ?_⟩
  · rw [prod_apply, prod]
    simp only [hn.1, hv]
  · rw [prod_apply, prod]
    simp only [hn.2 hp a _ r hr, hv]

/-- Read `d` rows back, a point's product is the product `d` rows back in the sequence. -/
theorem back_good {p : Fin 16} {col : Fin 512 → Fin 11264} {u : Vec Ideal S528x512 .f32} (hu : Prods x g w p col u)
    (d : ℕ) (hd : d ≤ 16) (a b : Fin 512) : u (ix2 ⟨16 - d + a.val, by omega⟩ b) = before x g w d (rowOf p a) (col b) := by
  unfold before
  by_cases h : d ≤ (rowOf p a).val % 4096
  · rw [if_pos h]
    by_cases ha : d ≤ a.val
    · refine Eq.trans (congrArg (fun r => u (ix2 r b)) (Fin.ext ?_)) ((hu.1 ⟨a.val - d, by omega⟩ b).trans
        (congrArg (fun r => prod x g w r (col b)) (Fin.ext ?_)))
      · show 16 - d + a.val = 16 + (a.val - d); omega
      · show 512 * p.val + (a.val - d) = 512 * p.val + a.val - d; omega
    · have h' : d ≤ (512 * p.val + a.val) % 4096 := h
      have hp : p.val % 8 ≠ 0 := by omega
      refine hu.2.2 hp ⟨16 - d + a.val, by omega⟩ b _ ?_
      show 512 * p.val + a.val - d + 16 = 512 * p.val + (16 - d + a.val)
      omega
  · have h' : ¬ d ≤ (512 * p.val + a.val) % 4096 := h
    rw [if_neg h]
    exact hu.2.1 (by omega) ⟨16 - d + a.val, by omega⟩ b

theorem conv_good {p : Fin 16} {col : Fin 512 → Fin 11264} {u : Vec Ideal S528x512 .f32} {y : Vec Ideal S3x512 .f32}
    {z : Vec Ideal S1x512 .f32} (hu : Prods x g w p col u) (hy : ∀ (j : Fin 3) (b : Fin 512), y (ix2 j b) = cw (ix2 j (col b)))
    (hz : ∀ b : Fin 512, z (ix2 0 b) = cb (ix1 (col b))) (a b : Fin 512) :
    convAt u y z a b = conv x g w cw cb (rowOf p a) (col b) := by
  have e2 := back_good hu 2 (by omega) a b
  have e1 := back_good hu 1 (by omega) a b
  have e0 := back_good hu 0 (by omega) a b
  unfold convAt conv
  rw [hy, hy, hy, hz, ← e2, ← e1, ← e0]

end

/-! ## The launch -/

/-- The points of the tiles where a sequence starts. -/
abbrev Starts (t : ℕ) : Prop :=
  t % 88 = 0 ∨ t % 88 = 1 ∨ t % 88 = 2 ∨ t % 88 = 3 ∨ t % 88 = 4 ∨ t % 88 = 5 ∨ t % 88 = 6 ∨ t % 88 = 7 ∨ t % 88 = 8 ∨ t % 88 = 9 ∨ t % 88 = 10

variable (m : (ℓ : Loc nD τ sig) → Buf (Elt Ideal) ℓ)

theorem rows_point (c : Dev nD) (t : Fin cfg0.N) (p : Fin 16) (hp : t.val / 11 = p.val) :
    Rows (res m c) (gain m c) p (rows (iblk m c 0 t) (iblk m c 1 t) (iblk m c 2 t)) :=
  rows_good (fun a k => iblk0_apply m c t p hp a k) (fun h a k r hr => iblk1_apply m c t p hp (by omega) a k r hr)
    (fun k => iblk2_apply m c t k)

/-- The first point of a tile writes the rows, the later ones keep them. -/
theorem rows_new (c : Dev nD) (t : Fin cfg0.N) (h0 : t.val % 11 = 0) :
    (outsAt0 m c t.val t.isLt).2 = rows (iblk m c 0 t) (iblk m c 1 t) (iblk m c 2 t) := by
  by_cases h1 : Starts t.val
  · rw [outsAt0_A m c t h0 h1 h1]
    dsimp only
    rw [rows_A]
  · rw [outsAt0_C m c t h0 h1 h1]
    dsimp only
    rw [rows_C]

theorem rows_old (c : Dev nD) (t : Fin cfg0.N) (h0 : ¬t.val % 11 = 0) (hn : t.val - 1 < cfg0.N) :
    (outsAt0 m c t.val t.isLt).2 = (outsAt0 m c (t.val - 1) hn).2 := by
  by_cases h1 : Starts t.val
  · rw [outsAt0_B m c t h0 h1 h1]
    dsimp only
    rw [rows_B]
  · rw [outsAt0_D m c t h0 h1 h1]
    dsimp only
    rw [rows_D]

theorem carried (c : Dev nD) (p : Fin 16) : ∀ (n : ℕ) (hn : n < cfg0.N), n / 11 = p.val →
    Rows (res m c) (gain m c) p (outsAt0 m c n hn).2
  | 0, hn, hp => by
    have e := rows_new m c ⟨0, hn⟩ rfl
    exact e ▸ rows_point m c ⟨0, hn⟩ p hp
  | n + 1, hn, hp => by
    by_cases h0 : (n + 1) % 11 = 0
    · have e := rows_new m c ⟨n + 1, hn⟩ h0
      exact e ▸ rows_point m c ⟨n + 1, hn⟩ p hp
    · have e : (outsAt0 m c (n + 1) hn).2 = (outsAt0 m c n (Nat.lt_of_succ_lt hn)).2 :=
        rows_old m c ⟨n + 1, hn⟩ h0 (Nat.lt_of_succ_lt hn)
      rw [e]
      exact carried c p n (Nat.lt_of_succ_lt hn) (by omega)

/-- A point's block from the rows it has, in each of the two kinds of tile. -/
theorem out_start (c : Dev nD) (t : Fin cfg0.N) (h1 : Starts t.val) :
    (outsAt0 m c t.val t.isLt).1 = block (first (outsAt0 m c t.val t.isLt).2 (iblk m c 3 t))
      (first (outsAt0 m c t.val t.isLt).2 (iblk m c 4 t)) (iblk m c 5 t) (iblk m c 6 t) (iblk m c 7 t) (iblk m c 8 t) := by
  by_cases h0 : t.val % 11 = 0
  · rw [outsAt0_A m c t h0 h1 h1]
    dsimp only
    rw [rows_A, out_A]
  · rw [outsAt0_B m c t h0 h1 h1]
    dsimp only
    rw [rows_B, out_B]

theorem out_later (c : Dev nD) (t : Fin cfg0.N) (h1 : ¬Starts t.val) :
    (outsAt0 m c t.val t.isLt).1 = block (k0_pay4 (outsAt0 m c t.val t.isLt).2 (iblk m c 3 t))
      (k0_pay4 (outsAt0 m c t.val t.isLt).2 (iblk m c 4 t)) (iblk m c 5 t) (iblk m c 6 t) (iblk m c 7 t) (iblk m c 8 t) := by
  by_cases h0 : t.val % 11 = 0
  · rw [outsAt0_C m c t h0 h1 h1]
    dsimp only
    rw [rows_C, out_C]
  · rw [outsAt0_D m c t h0 h1 h1]
    dsimp only
    rw [rows_D, out_D]

/-- A point's block from its two products. -/
theorem block_good (c : Dev nD) (t : Fin cfg0.N) (p : Fin 16) (q : Fin 11) (hq : t.val % 11 = q.val)
    (u v : Vec Ideal S528x512 .f32) (hu : Prods (res m c) (gain m c) (wts m c) p (colG q) u)
    (hv : Prods (res m c) (gain m c) (wts m c) p (colV q) v) (a b : Fin 512) :
    block u v (iblk m c 5 t) (iblk m c 6 t) (iblk m c 7 t) (iblk m c 8 t) (ix2 a b)
      = entry (res m c) (gain m c) (wts m c) (taps m c) (bias m c) (rowOf p a) ⟨512 * q.val + b.val, by omega⟩ := by
  refine (block_apply u v (iblk m c 5 t) (iblk m c 6 t) (iblk m c 7 t) (iblk m c 8 t) a b).trans ?_
  exact congrArg₂ gated
    (conv_good hu (fun j b => iblk5_apply m c t q hq j b) (fun b => iblk7_apply m c t q hq b) a b)
    (conv_good hv (fun j b => iblk6_apply m c t q hq j b) (fun b => iblk8_apply m c t q hq b) a b)

theorem out_point (c : Dev nD) (t : Fin cfg0.N) (p : Fin 16) (hp : t.val / 11 = p.val) (q : Fin 11) (hq : t.val % 11 = q.val)
    (a b : Fin 512) :
    (outsAt0 m c t.val t.isLt).1 (ix2 a b)
      = entry (res m c) (gain m c) (wts m c) (taps m c) (bias m c) (rowOf p a) ⟨512 * q.val + b.val, by omega⟩ := by
  have hr := carried m c p t.val t.isLt hp
  by_cases h1 : Starts t.val
  · have hs : p.val % 8 = 0 := by unfold Starts at h1; omega
    rw [out_start m c t h1]
    exact block_good m c t p q hq _ _ (first_good hs hr fun k b => iblk3_apply m c t q hq k b)
      (first_good hs hr fun k b => iblk4_apply m c t q hq k b) a b
  · have hs : p.val % 8 ≠ 0 := by unfold Starts at h1; omega
    rw [out_later m c t h1]
    exact block_good m c t p q hq _ _ (later_good hs hr fun k b => iblk3_apply m c t q hq k b)
      (later_good hs hr fun k b => iblk4_apply m c t q hq k b) a b

/-- What the array holds: every entry the gated convolution. -/
def total (c : Dev nD) (j : (⟨2, ![8192, 5632]⟩ : Shape).Idx) : EReal :=
  entry (res m c) (gain m c) (wts m c) (taps m c) (bias m c) (j 0) (j 1)

theorem flushed_eq (c : Dev nD) (t : Fin cfg0.N) (hf : (cfg0.win 9).flush t = true) :
    (dats m 0 c).flushed 9 t = ((cfg0.win 9).blk t).view.read (Elt Ideal) (total m c) := by
  rw [Value.flushed9]
  have hN : t.val < 176 := lt_of_lt_of_eq t.isLt (show cfg0.N = 176 from N_0)
  obtain ⟨p, hp⟩ : ∃ p : Fin 16, t.val / 11 = p.val := ⟨⟨t.val / 11, by omega⟩, rfl⟩
  obtain ⟨q, hq⟩ : ∃ q : Fin 11, t.val % 11 = q.val := ⟨⟨t.val % 11, by omega⟩, rfl⟩
  show (fun j : S512x512.Idx => _) = _
  funext j
  obtain ⟨a, b, rfl⟩ : ∃ (a b : Fin 512), j = ix2 a b := ⟨j 0, j 1, eq_ix2 j⟩
  rw [View.read_apply]
  refine (out_point m c t p hp q hq a b).trans ?_
  have e := index9 t
  have ij : ((cfg0.win 9).blk t).view.emb (ix2 a b) = ix2 (rowOf p a) ⟨512 * q.val + b.val, by omega⟩ := by
    funext x
    apply Fin.ext
    match x with
    | ⟨0, _⟩ => show win0_9.index t 0 * 512 + 1 * a.val = 512 * p.val + a.val; rw [e]; show t.val / 11 * 512 + 1 * a.val = 512 * p.val + a.val; omega
    | ⟨1, _⟩ => show win0_9.index t 1 * 512 + 1 * b.val = 512 * q.val + b.val; rw [e]; show t.val % 11 * 512 + 1 * b.val = 512 * q.val + b.val; omega
  rw [ij]
  rfl

theorem final_eq (c : Dev nD) : (dats m 0 c).arrAt 9 cfg0.N = total m c :=
  (dats m 0 c).arrAt_eq_of_cover 9 (total m c) (flushed_eq m c) fun i => by
    have h0 : (i 0 : Nat) < 8192 := (i 0).isLt
    have h1 : (i 1 : Nat) < 5632 := (i 1).isLt
    have ht := index9 ⟨11 * (i 0 / 512) + i 1 / 512, by rw [N_0]; omega⟩
    generalize hs : (⟨11 * (i 0 / 512) + i 1 / 512, by rw [N_0]; omega⟩ : Fin grid0.N) = t at ht
    have hv : t.val = 11 * (i 0 / 512) + i 1 / 512 := by rw [← hs]
    refine ⟨t, flush0_9 t, ?_⟩
    show i ∈ ((View.whole main_v4).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [ht]; show t.val / 11 * 512 ≤ (i 0 : Nat) ∧ (i 0 : Nat) < t.val / 11 * 512 + 512; omega
    | ⟨1, _⟩ => show win0_9.index t 1 * 512 ≤ (i 1 : Nat) ∧ (i 1 : Nat) < win0_9.index t 1 * 512 + 512
                rw [ht]; show t.val % 11 * 512 ≤ (i 1 : Nat) ∧ (i 1 : Nat) < t.val % 11 * 512 + 512; omega

end Cert.UpIdeal.Array
-- ==== Proof.UpRef.lean ====
/- What the reference computes: its rows in two sequences, its product, the product moved down the rows with zeros above, the
   convolution and the gate. -/
module

public import proofs.«01_k».proof.Proof.UpArray
public import proofs.«01_k».proof.Proof.Gen.UpRefIdeal.Run
public import Idealize.ShloMosaic.Lib.StableHlo.ReadAt

@[expose] public section

set_option maxRecDepth 16384

noncomputable section

namespace Cert.UpRefIdeal.Ref

open Cert.UpRefIdeal Cert.UpRefIdeal.Gen Cert.Proof.Up Idealize.ShloMosaic

/-- The normalised rows. -/
def hidden (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2
      (Host.rsqrt (addf (Host.divf (broadcastInDim S2x4096x1 ![0, 1] bcast_S2x4096_S2x4096x1_0_1
          (Host.reduceAdd (mulf x x) (constant S_ .f32 0x00000000#32) reducesTo_S2x4096x2048_S2x4096_d2 h_S_))
        (broadcastInDim S2x4096x1 ![] bcast_S_S2x4096x1 (constant S_ .f32 0x45000000#32)))
        (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))

/-- The product, and the product with two rows of zeros before each sequence. -/
def product (h : FVec Ideal S2x4096x2048 .f32) (w : FVec Ideal S2048x11264 .f32) : FVec Ideal S2x4096x11264 .f32 :=
  Host.dotGeneral dot_S2x4096x2048_S2048x11264_S2x4096x11264_2_0_01_1_n_n none h w

def padded (u : FVec Ideal S2x4096x11264 .f32) : FVec Ideal S2x4098x11264 .f32 :=
  pad S2x4098x11264 ![0, 2, 0] ![0, 0, 0] ![0, 0, 0] u (sitofp .f32 (constantI S_ 32 0#32))
    pads_S2x4096x11264_S2x4098x11264_000_200_000 h_S_

/-- A row of the convolution's weights, or its bias, under every row of the product. -/
def spread (y : FVec Ideal S11264 .f32) : FVec Ideal S2x4096x11264 .f32 :=
  broadcastInDim S2x4096x11264 ![0, 1, 2] bcast_S1x1x11264_S2x4096x11264_0_1_2 (broadcastInDim S1x1x11264 ![2] bcast_S11264_S1x1x11264_2 y)

/-- The convolution. -/
def convolved (cb : FVec Ideal S11264 .f32) (cw : FVec Ideal S3x11264 .f32) (p : FVec Ideal S2x4098x11264 .f32) :
    FVec Ideal S2x4096x11264 .f32 :=
  addf (addf (addf (spread cb)
      (mulf (spread (shapeCast _ (extractStridedSlice S1x11264 ![0, 0] cw slices_S3x11264_S1x11264_0_0) shapeCasts_S1x11264_S11264))
        (extractStridedSlice S2x4096x11264 ![0, 0, 0] p slices_S2x4098x11264_S2x4096x11264_0_0_0)))
      (mulf (spread (shapeCast _ (extractStridedSlice S1x11264 ![1, 0] cw slices_S3x11264_S1x11264_1_0) shapeCasts_S1x11264_S11264))
        (extractStridedSlice S2x4096x11264 ![0, 1, 0] p slices_S2x4098x11264_S2x4096x11264_0_1_0)))
      (mulf (spread (shapeCast _ (extractStridedSlice S1x11264 ![2, 0] cw slices_S3x11264_S1x11264_2_0) shapeCasts_S1x11264_S11264))
        (extractStridedSlice S2x4096x11264 ![0, 2, 0] p slices_S2x4098x11264_S2x4096x11264_0_2_0))

/-- The gate. -/
def gates (v : FVec Ideal S2x4096x11264 .f32) : FVec Ideal S2x4096x5632 .f32 :=
  mulf (mulf (extractStridedSlice S2x4096x5632 ![0, 0, 0] v slices_S2x4096x11264_S2x4096x5632_0_0_0)
      (Host.divf (broadcastInDim S2x4096x5632 ![] bcast_S_S2x4096x5632 (constant S_ .f32 0x3F800000#32))
        (addf (broadcastInDim S2x4096x5632 ![] bcast_S_S2x4096x5632 (constant S_ .f32 0x3F800000#32))
          (Host.exp (Host.negf (extractStridedSlice S2x4096x5632 ![0, 0, 0] v slices_S2x4096x11264_S2x4096x5632_0_0_0))))))
    (extractStridedSlice S2x4096x5632 ![0, 0, 5632] v slices_S2x4096x11264_S2x4096x5632_0_0_5632)

/-- The whole. -/
def whole (x : FVec Ideal S8192x2048 .f32) (g : FVec Ideal S2048 .f32) (w : FVec Ideal S2048x11264 .f32)
    (cw : FVec Ideal S3x11264 .f32) (cb : FVec Ideal S11264 .f32) : FVec Ideal S8192x5632 .bf16 :=
  truncf .bf16 (shapeCast _ (gates (convolved cb cw (padded (product (hidden (shapeCast _ x shapeCasts_S8192x2048_S2x4096x2048) g) w))))
    shapeCasts_S2x4096x5632_S8192x5632) bitsLt_bf16_f32

/-! ## Entry by entry -/

theorem hidden_apply (x : FVec Ideal S2x4096x2048 .f32) (g : FVec Ideal S2048 .f32) (b : Fin 2) (s : Fin 4096) (k : Fin 2048) :
    hidden x g (ix3 b s k) = x (ix3 b s k) * factor (fun k => x (ix3 b s k)) * g (ix1 k) := by
  pointwise [hidden, factor]

theorem product_apply (h : FVec Ideal S2x4096x2048 .f32) (w : FVec Ideal S2048x11264 .f32) (b : Fin 2) (s : Fin 4096) (n : Fin 11264) :
    product h w (ix3 b s n) = ∑ k : Fin 2048, h (ix3 b s k) * w (ix2 k n) := by
  pointwise [product]

theorem padded_apply (u : FVec Ideal S2x4096x11264 .f32) (b : Fin 2) (s : Fin 4098) (n : Fin 11264) :
    padded u (ix3 b s n) = if h : 2 ≤ s.val then u (ix3 b ⟨s.val - 2, by omega⟩ n) else 0 := by
  pointwise [padded]
  by_cases h : 2 ≤ s.val
  · rw [dif_pos ⟨h, by omega⟩, dif_pos h]
  · rw [dif_neg fun q => h q.1, dif_neg h]
    show (((0#32 : BitVec 32).toInt : ℝ) : EReal) = 0
    simp

theorem convolved_apply (cb : FVec Ideal S11264 .f32) (cw : FVec Ideal S3x11264 .f32) (p : FVec Ideal S2x4098x11264 .f32)
    (b : Fin 2) (s : Fin 4096) (n : Fin 11264) :
    convolved cb cw p (ix3 b s n) = cb (ix1 n) + cw (ix2 0 n) * p (ix3 b ⟨s.val, by omega⟩ n)
      + cw (ix2 1 n) * p (ix3 b ⟨1 + s.val, by omega⟩ n) + cw (ix2 2 n) * p (ix3 b ⟨2 + s.val, by omega⟩ n) := by
  pointwise [convolved, spread]

theorem gates_apply (v : FVec Ideal S2x4096x11264 .f32) (b : Fin 2) (s : Fin 4096) (n : Fin 5632) :
    gates v (ix3 b s n) = gated (v (ix3 b s ⟨n.val, by omega⟩)) (v (ix3 b s ⟨5632 + n.val, by omega⟩)) := by
  pointwise [gates, gated]

/-! ## The rows of one sequence after those of the other -/

section
variable (x : FVec Ideal S8192x2048 .f32) (g : FVec Ideal S2048 .f32) (w : FVec Ideal S2048x11264 .f32)
  (cw : FVec Ideal S3x11264 .f32) (cb : FVec Ideal S11264 .f32)

theorem cut_apply (b : Fin 2) (s : Fin 4096) (k : Fin 2048) (r : Fin 8192) (hr : b.val * 4096 + s.val = r.val) :
    shapeCast S2x4096x2048 x shapeCasts_S8192x2048_S2x4096x2048 (ix3 b s k) = x (ix2 r k) := by
  refine shapeCast_apply x _ (ix3 b s k) (ix2 r k) ?_
  rw [Shape.rowMajor_val_three, Shape.rowMajor_val_two]
  show r.val * 2048 + k.val = (b.val * 4096 + s.val) * 2048 + k.val
  rw [hr]

theorem hidden_row (b : Fin 2) (s : Fin 4096) (k : Fin 2048) (r : Fin 8192) (hr : b.val * 4096 + s.val = r.val) :
    hidden (shapeCast S2x4096x2048 x shapeCasts_S8192x2048_S2x4096x2048) g (ix3 b s k) = normed x g r k := by
  rw [hidden_apply, normed]
  simp only [cut_apply x b s _ r hr]

theorem padded_row (d : ℕ) (hd : d ≤ 2) (b : Fin 2) (s : Fin 4096) (n : Fin 11264) (r : Fin 8192) (hr : b.val * 4096 + s.val = r.val) :
    padded (product (hidden (shapeCast S2x4096x2048 x shapeCasts_S8192x2048_S2x4096x2048) g) w) (ix3 b ⟨2 - d + s.val, by omega⟩ n)
      = before x g w d r n := by
  have hs : r.val % 4096 = s.val := by omega
  rw [padded_apply, before, hs]
  by_cases h : d ≤ s.val
  · rw [dif_pos (show 2 ≤ 2 - d + s.val by omega), if_pos h, product_apply, prod]
    refine Finset.sum_congr rfl fun k _ => ?_
    rw [hidden_row x g b _ k ⟨r.val - d, by omega⟩ (by show b.val * 4096 + (2 - d + s.val - 2) = r.val - d; omega)]
  · rw [dif_neg (show ¬2 ≤ 2 - d + s.val by omega), if_neg h]

theorem convolved_row (b : Fin 2) (s : Fin 4096) (n : Fin 11264) (r : Fin 8192) (hr : b.val * 4096 + s.val = r.val) :
    convolved cb cw (padded (product (hidden (shapeCast S2x4096x2048 x shapeCasts_S8192x2048_S2x4096x2048) g) w)) (ix3 b s n)
      = conv x g w cw cb r n := by
  have e2 := padded_row x g w 2 (by omega) b s n r hr
  have e1 := padded_row x g w 1 (by omega) b s n r hr
  have e0 := padded_row x g w 0 (by omega) b s n r hr
  have z2 : (⟨s.val, by omega⟩ : Fin 4098) = ⟨2 - 2 + s.val, by omega⟩ := Fin.ext (by show s.val = 2 - 2 + s.val; omega)
  rw [convolved_apply, conv, ← e2, ← e1, ← e0, z2]

theorem whole_apply (r : Fin 8192) (n : Fin 5632) : whole x g w cw cb (ix2 r n) = entry x g w cw cb r n := by
  have hr : (⟨r.val / 4096, by omega⟩ : Fin 2).val * 4096 + (⟨r.val % 4096, by omega⟩ : Fin 4096).val = r.val := Nat.div_add_mod' _ _
  refine Eq.trans (shapeCast_apply (gates _) _ (ix2 r n) (ix3 ⟨r.val / 4096, by omega⟩ ⟨r.val % 4096, by omega⟩ n) ?_) ?_
  · rw [Shape.rowMajor_val_three, Shape.rowMajor_val_two]
    show (r.val / 4096 * 4096 + r.val % 4096) * 5632 + n.val = r.val * 5632 + n.val
    rw [Nat.div_add_mod']
  · rw [gates_apply, convolved_row x g w cw cb _ _ _ r hr, convolved_row x g w cw cb _ _ _ r hr]
    rfl

end

/-- The reference's result is the whole at its arguments. -/
theorem res_eq (m' : (ℓ : Loc nD τ sig) → Buf (Elt Ideal) ℓ) (c : Dev nD) :
    Value.res_main_v44 m' c = whole (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4)) := by
  unfold Value.res_main_v44
  rfl

end Cert.UpRefIdeal.Ref
-- ==== Proof.DownValue.lean ====
/- The second product of the gated network: each point adds one block of the product to the block of the residual, and
   together the blocks are the whole array. -/
module

public import proofs.«01_k».proof.Proof.Gen.DownIdeal.Value
public import proofs.«01_k».proof.Proof.Gen.DownRefIdeal.Run
public import Idealize.ShloMosaic.Lib.Pipeline.Value
public import Idealize.ShloMosaic.Lib.Claim
public import Idealize.ShloMosaic.Lib.Pointwise

@[expose] public section

set_option maxRecDepth 16384

noncomputable section

/-! ## The sum -/

namespace Cert.Proof.Down

open Idealize.ShloMosaic

/-- One entry: the residual and the row's product with the column. -/
def entry (a : (⟨2, ![8192, 5632]⟩ : Shape).Idx → EReal) (w : (⟨2, ![5632, 2048]⟩ : Shape).Idx → EReal)
    (x : (⟨2, ![8192, 2048]⟩ : Shape).Idx → EReal) (j : (⟨2, ![8192, 2048]⟩ : Shape).Idx) : EReal :=
  x j + ∑ k : Fin 5632, a (ix2 (j 0) k) * w (ix2 k (j 1))

end Cert.Proof.Down

/-! ## The kernel -/

namespace Cert.DownIdeal.Array

open Cert.DownIdeal Cert.DownIdeal.Gen Cert.Proof.Down Idealize.ShloMosaic Idealize.ShloMosaic.TcCoe Idealize.SL.Sem

theorem off2 : (![0, 0] : Fin 2 → ℕ) = fun _ => 0 := by decide

theorem out_eq (x0 : Vec Ideal S512x5632 .bf16) (x1 : Vec Ideal S5632x512 .bf16) (x2 : Vec Ideal S512x512 .f32) :
    out0_3 x0 x1 x2 = k0_pay1 x2 x0 x1 := by
  unfold out0_3
  rw [View.canon_unit_zero off2, View.ld_unit_zero off2, View.ld_unit_zero off2, View.ld_unit_zero off2]

theorem pay_apply (x0 : Vec Ideal S512x5632 .bf16) (x1 : Vec Ideal S5632x512 .bf16) (x2 : Vec Ideal S512x512 .f32)
    (a b : Fin 512) : k0_pay1 x2 x0 x1 (ix2 a b) = x2 (ix2 a b) + ∑ k : Fin 5632, x0 (ix2 a k) * x1 (ix2 k b) := by
  pointwise [k0_pay1]

theorem index0 : ∀ t : Fin grid0.N, win0_0.index t = ![(grid0.coords t 0).val, 0] := by decide +kernel
theorem index1 : ∀ t : Fin grid0.N, win0_1.index t = ![0, (grid0.coords t 1).val] := by decide +kernel
theorem index2 : ∀ t : Fin grid0.N, win0_2.index t = ![(grid0.coords t 0).val, (grid0.coords t 1).val] := by decide +kernel
theorem index3 : ∀ t : Fin grid0.N, win0_3.index t = ![(grid0.coords t 0).val, (grid0.coords t 1).val] := by decide +kernel

/-- The point that writes the block of rows `p` and columns `q`. -/
def pt (p : Fin 16) (q : Fin 4) : Fin grid0.N := ⟨4 * p.val + q.val, by rw [N_0]; omega⟩

theorem point_of : ∀ (p : Fin 16) (q : Fin 4), win0_3.index (pt p q) = ![p.val, q.val] := by decide +kernel

variable (m : (ℓ : Loc nD τ sig) → Buf (Elt Ideal) ℓ)

abbrev lhs (c : Dev nD) : (⟨2, ![8192, 5632]⟩ : Shape).Idx → EReal := m ((c : Thread nD τ).loc main_arg0)
abbrev rhs (c : Dev nD) : (⟨2, ![5632, 2048]⟩ : Shape).Idx → EReal := m ((c : Thread nD τ).loc main_arg1)
abbrev res (c : Dev nD) : (⟨2, ![8192, 2048]⟩ : Shape).Idx → EReal := m ((c : Thread nD τ).loc main_arg2)

theorem V_v0 (c : Dev nD) : (V m c main_v0 : (⟨2, ![5632, 2048]⟩ : Shape).Idx → EReal) = rhs m c := by
  entry_read
  rfl

theorem iblk0_apply (c : Dev nD) (t : Fin cfg0.N) (p : Fin 16) (hp : (grid0.coords t 0).val = p.val) (a : Fin 512) (k : Fin 5632) :
    (iblk m c 0 t : Vec Ideal S512x5632 .bf16) (ix2 a k) = lhs m c (ix2 ⟨512 * p.val + a.val, by omega⟩ k) := by
  unfold iblk
  rw [View.read_apply]
  show V m c main_arg0 _ = m (c.tc.loc main_arg0) _
  rw [V_main_arg0]
  congr 1
  funext x
  apply Fin.ext
  have e := index0 t
  match x with
  | ⟨0, _⟩ => show win0_0.index t 0 * 512 + 1 * a.val = _; rw [e]; show (grid0.coords t 0).val * 512 + 1 * a.val = 512 * p.val + a.val; omega
  | ⟨1, _⟩ => show win0_0.index t 1 * 5632 + 1 * k.val = k.val; rw [e]; show 0 * 5632 + 1 * k.val = k.val; omega

theorem iblk1_apply (c : Dev nD) (t : Fin cfg0.N) (q : Fin 4) (hq : (grid0.coords t 1).val = q.val) (k : Fin 5632) (b : Fin 512) :
    (iblk m c 1 t : Vec Ideal S5632x512 .bf16) (ix2 k b) = rhs m c (ix2 k ⟨512 * q.val + b.val, by omega⟩) := by
  rw [← V_v0]
  unfold iblk
  rw [View.read_apply]
  show V m c main_v0 _ = V m c main_v0 _
  congr 1
  funext x
  apply Fin.ext
  have e := index1 t
  match x with
  | ⟨0, _⟩ => show win0_1.index t 0 * 5632 + 1 * k.val = k.val; rw [e]; show 0 * 5632 + 1 * k.val = k.val; omega
  | ⟨1, _⟩ => show win0_1.index t 1 * 512 + 1 * b.val = _; rw [e]; show (grid0.coords t 1).val * 512 + 1 * b.val = 512 * q.val + b.val; omega

theorem iblk2_apply (c : Dev nD) (t : Fin cfg0.N) (p : Fin 16) (q : Fin 4) (hp : (grid0.coords t 0).val = p.val)
    (hq : (grid0.coords t 1).val = q.val) (a b : Fin 512) :
    (iblk m c 2 t : Vec Ideal S512x512 .f32) (ix2 a b) = res m c (ix2 ⟨512 * p.val + a.val, by omega⟩ ⟨512 * q.val + b.val, by omega⟩) := by
  unfold iblk
  rw [View.read_apply]
  show V m c main_arg2 _ = m (c.tc.loc main_arg2) _
  rw [V_main_arg2]
  congr 1
  funext x
  apply Fin.ext
  have e := index2 t
  match x with
  | ⟨0, _⟩ => show win0_2.index t 0 * 512 + 1 * a.val = _; rw [e]; show (grid0.coords t 0).val * 512 + 1 * a.val = 512 * p.val + a.val; omega
  | ⟨1, _⟩ => show win0_2.index t 1 * 512 + 1 * b.val = _; rw [e]; show (grid0.coords t 1).val * 512 + 1 * b.val = 512 * q.val + b.val; omega

theorem flushed_eq (c : Dev nD) (t : Fin cfg0.N) (hf : (cfg0.win 3).flush t = true) :
    (dats m 0 c).flushed 3 t = ((cfg0.win 3).blk t).view.read (Elt Ideal) (entry (lhs m c) (rhs m c) (res m c)) := by
  rw [Value.flushed3, out_eq]
  obtain ⟨p, hp⟩ : ∃ p : Fin 16, (grid0.coords t 0).val = p.val := ⟨grid0.coords t 0, rfl⟩
  obtain ⟨q, hq⟩ : ∃ q : Fin 4, (grid0.coords t 1).val = q.val := ⟨grid0.coords t 1, rfl⟩
  show (fun j : S512x512.Idx => _) = _
  funext j
  obtain ⟨a, b, rfl⟩ : ∃ (a b : Fin 512), j = ix2 a b := ⟨j 0, j 1, eq_ix2 j⟩
  rw [View.read_apply]
  refine (pay_apply (iblk m c 0 t) (iblk m c 1 t) (iblk m c 2 t) a b).trans ?_
  rw [iblk2_apply m c t p q hp hq, Finset.sum_congr rfl fun k _ => by rw [iblk0_apply m c t p hp, iblk1_apply m c t q hq]]
  have e := index3 t
  have ij : ((cfg0.win 3).blk t).view.emb (ix2 a b) = ix2 ⟨512 * p.val + a.val, by omega⟩ ⟨512 * q.val + b.val, by omega⟩ := by
    funext x
    apply Fin.ext
    match x with
    | ⟨0, _⟩ => show win0_3.index t 0 * 512 + 1 * a.val = _; rw [e]; show (grid0.coords t 0).val * 512 + 1 * a.val = 512 * p.val + a.val; omega
    | ⟨1, _⟩ => show win0_3.index t 1 * 512 + 1 * b.val = _; rw [e]; show (grid0.coords t 1).val * 512 + 1 * b.val = 512 * q.val + b.val; omega
  rw [ij]
  rfl

theorem final_eq (c : Dev nD) : (dats m 0 c).arrAt 3 cfg0.N = entry (lhs m c) (rhs m c) (res m c) :=
  (dats m 0 c).arrAt_eq_of_cover 3 (entry (lhs m c) (rhs m c) (res m c)) (flushed_eq m c) fun i => by
    have h0 : (i 0 : Nat) < 8192 := (i 0).isLt
    have h1 : (i 1 : Nat) < 2048 := (i 1).isLt
    have ht := point_of ⟨i 0 / 512, by omega⟩ ⟨i 1 / 512, by omega⟩
    generalize pt ⟨i 0 / 512, by omega⟩ ⟨i 1 / 512, by omega⟩ = t at ht
    refine ⟨t, flush0_3 t, ?_⟩
    show i ∈ ((View.whole main_v1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ht]; show (i 0 : Nat) / 512 * 512 ≤ (i 0 : Nat) ∧ (i 0 : Nat) < (i 0 : Nat) / 512 * 512 + 512; omega
    | ⟨1, _⟩ => show win0_3.index t 1 * 512 ≤ (i 1 : Nat) ∧ (i 1 : Nat) < win0_3.index t 1 * 512 + 512
                rw [ht]; show (i 1 : Nat) / 512 * 512 ≤ (i 1 : Nat) ∧ (i 1 : Nat) < (i 1 : Nat) / 512 * 512 + 512; omega

end Cert.DownIdeal.Array

/-! ## The reference -/

namespace Cert.DownRefIdeal.Ref

open Cert.DownRefIdeal Cert.DownRefIdeal.Gen Cert.Proof.Down Idealize.ShloMosaic

theorem out_eq (a : FVec Ideal S8192x5632 .bf16) (w : FVec Ideal S5632x2048 .f32) (x : FVec Ideal S8192x2048 .f32) :
    addf x (Host.dotGeneral dot_S8192x5632_S5632x2048_S8192x2048_1_0_0_1_n_n none (extf .f32 a bitsLt_bf16_f32) w) = entry a w x := by
  funext j
  obtain ⟨r, n, rfl⟩ : ∃ (r : Fin 8192) (n : Fin 2048), j = ix2 r n := ⟨j 0, j 1, eq_ix2 j⟩
  pointwise []
  rfl

end Cert.DownRefIdeal.Ref
-- ==== Proof.OutValue.lean ====
/- The product that leaves the token mixer: each point adds to the block of the residual the block's rows of the heads' output
   times the upper part of the weights, and the memory's output times the lower part. -/
module

public import proofs.«01_k».proof.Proof.Gen.OutIdeal.Value
public import proofs.«01_k».proof.Proof.Gen.OutRefIdeal.Run
public import Idealize.ShloMosaic.Lib.Pipeline.Value
public import Idealize.ShloMosaic.Lib.Claim
public import Idealize.ShloMosaic.Lib.Pointwise
public import Idealize.ShloMosaic.Lib.StableHlo.ReadAt

@[expose] public section

set_option maxRecDepth 16384

noncomputable section

/-! ## The sum -/

namespace Cert.Proof.Out

open Idealize.ShloMosaic

/-- A token's row number split into its sequence and its place there. -/
def seqOf (r : Fin 8192) : Fin 2 := ⟨r.val / 4096, by omega⟩
def posOf (r : Fin 8192) : Fin 4096 := ⟨r.val % 4096, by omega⟩

/-- The `k`-th row of the weights under the heads' output, and under the memory's. -/
def upper (k : Fin 2048) : Fin 2560 := ⟨k.val, by omega⟩
def lower (k : Fin 512) : Fin 2560 := ⟨2048 + k.val, by omega⟩

/-- One entry: the residual, the heads' product and the memory's. -/
def entry (x : (⟨2, ![8192, 2048]⟩ : Shape).Idx → EReal) (o : (⟨3, ![2, 4096, 2048]⟩ : Shape).Idx → EReal)
    (u : (⟨3, ![2, 4096, 512]⟩ : Shape).Idx → EReal) (w : (⟨2, ![2560, 2048]⟩ : Shape).Idx → EReal)
    (r : Fin 8192) (n : Fin 2048) : EReal :=
  x (ix2 r n) + ∑ k : Fin 2048, o (ix3 (seqOf r) (posOf r) k) * w (ix2 (upper k) n)
    + ∑ k : Fin 512, u (ix3 (seqOf r) (posOf r) k) * w (ix2 (lower k) n)

end Cert.Proof.Out

/-! ## The kernel -/

namespace Cert.OutIdeal.Array

open Cert.OutIdeal Cert.OutIdeal.Gen Cert.Proof.Out Idealize.ShloMosaic Idealize.ShloMosaic.TcCoe Idealize.SL.Sem

theorem off2 : (![0, 0] : Fin 2 → ℕ) = fun _ => 0 := by decide

theorem out_eq (x0 : Vec Ideal S512x2048 .bf16) (x1 : Vec Ideal S512x512 .bf16) (x2 : Vec Ideal S2048x512 .bf16)
    (x3 : Vec Ideal S512x512 .bf16) (x4 : Vec Ideal S512x512 .f32) : out0_5 x0 x1 x2 x3 x4 = k0_pay1 x4 x0 x2 x1 x3 := by
  unfold out0_5
  rw [View.canon_unit_zero off2, View.ld_unit_zero off2, View.ld_unit_zero off2, View.ld_unit_zero off2, View.ld_unit_zero off2,
    View.ld_unit_zero off2]

theorem pay_apply (x0 : Vec Ideal S512x2048 .bf16) (x1 : Vec Ideal S512x512 .bf16) (x2 : Vec Ideal S2048x512 .bf16)
    (x3 : Vec Ideal S512x512 .bf16) (x4 : Vec Ideal S512x512 .f32) (a b : Fin 512) :
    k0_pay1 x4 x0 x2 x1 x3 (ix2 a b)
      = x4 (ix2 a b) + ∑ k : Fin 2048, x0 (ix2 a k) * x2 (ix2 k b) + ∑ k : Fin 512, x1 (ix2 a k) * x3 (ix2 k b) := by
  pointwise [k0_pay1]

theorem index0 : ∀ t : Fin grid0.N, win0_0.index t = ![(grid0.coords t 0).val, 0] := by decide +kernel
theorem index1 : ∀ t : Fin grid0.N, win0_1.index t = ![(grid0.coords t 0).val, 0] := by decide +kernel
theorem index2 : ∀ t : Fin grid0.N, win0_2.index t = ![0, (grid0.coords t 1).val] := by decide +kernel
theorem index3 : ∀ t : Fin grid0.N, win0_3.index t = ![0, (grid0.coords t 1).val] := by decide +kernel
theorem index4 : ∀ t : Fin grid0.N, win0_4.index t = ![(grid0.coords t 0).val, (grid0.coords t 1).val] := by decide +kernel
theorem index5 : ∀ t : Fin grid0.N, win0_5.index t = ![(grid0.coords t 0).val, (grid0.coords t 1).val] := by decide +kernel

/-- The point that writes the block of rows `p` and columns `q`. -/
def pt (p : Fin 16) (q : Fin 4) : Fin grid0.N := ⟨4 * p.val + q.val, by rw [N_0]; omega⟩

theorem point_of : ∀ (p : Fin 16) (q : Fin 4), win0_5.index (pt p q) = ![p.val, q.val] := by decide +kernel

variable (m : (ℓ : Loc nD τ sig) → Buf (Elt Ideal) ℓ)

abbrev res (c : Dev nD) : (⟨2, ![8192, 2048]⟩ : Shape).Idx → EReal := m ((c : Thread nD τ).loc main_arg0)
abbrev heads (c : Dev nD) : (⟨3, ![2, 4096, 2048]⟩ : Shape).Idx → EReal := m ((c : Thread nD τ).loc main_arg1)
abbrev mems (c : Dev nD) : (⟨3, ![2, 4096, 512]⟩ : Shape).Idx → EReal := m ((c : Thread nD τ).loc main_arg2)
abbrev wts (c : Dev nD) : (⟨2, ![2560, 2048]⟩ : Shape).Idx → EReal := m ((c : Thread nD τ).loc main_arg3)

theorem split_row (r : Fin 8192) (w k : ℕ) : ((seqOf r).val * 4096 + (posOf r).val) * w + k = r.val * w + k := by
  show (r.val / 4096 * 4096 + r.val % 4096) * w + k = r.val * w + k
  rw [Nat.div_add_mod']

theorem V_v1 (c : Dev nD) (r : Fin 8192) (k : Fin 2048) :
    (V m c main_v1 : Vec Ideal S8192x2048 .bf16) (ix2 r k) = heads m c (ix3 (seqOf r) (posOf r) k) := by
  entry_read
  refine shapeCast_apply (heads m c) _ (ix2 r k) (ix3 (seqOf r) (posOf r) k) ?_
  rw [Shape.rowMajor_val_three, Shape.rowMajor_val_two]
  exact split_row r 2048 k.val

theorem V_v2 (c : Dev nD) (r : Fin 8192) (k : Fin 512) :
    (V m c main_v2 : Vec Ideal S8192x512 .bf16) (ix2 r k) = mems m c (ix3 (seqOf r) (posOf r) k) := by
  entry_read
  refine shapeCast_apply (mems m c) _ (ix2 r k) (ix3 (seqOf r) (posOf r) k) ?_
  rw [Shape.rowMajor_val_three, Shape.rowMajor_val_two]
  exact split_row r 512 k.val

theorem V_v3 (c : Dev nD) (k : Fin 2048) (n : Fin 2048) :
    (V m c main_v3 : Vec Ideal S2048x2048 .bf16) (ix2 k n) = wts m c (ix2 (upper k) n) := by
  entry_read
  pointwise []
  rfl

theorem V_v4 (c : Dev nD) (k : Fin 512) (n : Fin 2048) :
    (V m c main_v4 : Vec Ideal S512x2048 .bf16) (ix2 k n) = wts m c (ix2 (lower k) n) := by
  entry_read
  pointwise []
  rfl

theorem iblk0_apply (c : Dev nD) (t : Fin cfg0.N) (p : Fin 16) (hp : (grid0.coords t 0).val = p.val) (a : Fin 512) (b : Fin 2048) :
    (iblk m c 0 t : Vec Ideal S512x2048 .bf16) (ix2 a b) = heads m c (ix3 (seqOf ⟨512 * p.val + a.val, by omega⟩) (posOf ⟨512 * p.val + a.val, by omega⟩) b) := by
  rw [iblk, View.read_apply]
  refine Eq.trans (b := V m c main_v1 (ix2 ⟨512 * p.val + a.val, by omega⟩ b)) ?_ (V_v1 m c _ _)
  refine congrArg (V m c main_v1) ?_
  funext x
  apply Fin.ext
  have e := index0 t
  match x with
  | ⟨0, _⟩ => show win0_0.index t 0 * 512 + 1 * a.val = _; rw [e]; show (grid0.coords t 0).val * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (p : Fin 16) (hp : (grid0.coords t 0).val = p.val) (a : Fin 512) (b : Fin 512) :
    (iblk m c 1 t : Vec Ideal S512x512 .bf16) (ix2 a b) = mems m c (ix3 (seqOf ⟨512 * p.val + a.val, by omega⟩) (posOf ⟨512 * p.val + a.val, by omega⟩) b) := by
  rw [iblk, View.read_apply]
  refine Eq.trans (b := V m c main_v2 (ix2 ⟨512 * p.val + a.val, by omega⟩ b)) ?_ (V_v2 m c _ _)
  refine congrArg (V m c main_v2) ?_
  funext x
  apply Fin.ext
  have e := index1 t
  match x with
  | ⟨0, _⟩ => show win0_1.index t 0 * 512 + 1 * a.val = _; rw [e]; show (grid0.coords t 0).val * 512 + 1 * a.val = 512 * p.val + a.val; omega
  | ⟨1, _⟩ => show win0_1.index t 1 * 512 + 1 * b.val = b.val; rw [e]; show 0 * 512 + 1 * b.val = b.val; omega

theorem iblk2_apply (c : Dev nD) (t : Fin cfg0.N) (q : Fin 4) (hq : (grid0.coords t 1).val = q.val) (a : Fin 2048) (b : Fin 512) :
    (iblk m c 2 t : Vec Ideal S2048x512 .bf16) (ix2 a b) = wts m c (ix2 (upper a) ⟨512 * q.val + b.val, by omega⟩) := by
  rw [iblk, View.read_apply]
  refine Eq.trans (b := V m c main_v3 (ix2 a ⟨512 * q.val + b.val, by omega⟩)) ?_ (V_v3 m c _ _)
  refine congrArg (V m c main_v3) ?_
  funext x
  apply Fin.ext
  have e := index2 t
  match x with
  | ⟨0, _⟩ => show win0_2.index t 0 * 2048 + 1 * a.val = a.val; rw [e]; show 0 * 2048 + 1 * a.val = a.val; omega
  | ⟨1, _⟩ => show win0_2.index t 1 * 512 + 1 * b.val = _; rw [e]; show (grid0.coords t 1).val * 512 + 1 * b.val = 512 * q.val + b.val; omega

theorem iblk3_apply (c : Dev nD) (t : Fin cfg0.N) (q : Fin 4) (hq : (grid0.coords t 1).val = q.val) (a : Fin 512) (b : Fin 512) :
    (iblk m c 3 t : Vec Ideal S512x512 .bf16) (ix2 a b) = wts m c (ix2 (lower a) ⟨512 * q.val + b.val, by omega⟩) := by
  rw [iblk, View.read_apply]
  refine Eq.trans (b := V m c main_v4 (ix2 a ⟨512 * q.val + b.val, by omega⟩)) ?_ (V_v4 m c _ _)
  refine congrArg (V m c main_v4) ?_
  funext x
  apply Fin.ext
  have e := index3 t
  match x with
  | ⟨0, _⟩ => show win0_3.index t 0 * 512 + 1 * a.val = a.val; rw [e]; show 0 * 512 + 1 * a.val = a.val; omega
  | ⟨1, _⟩ => show win0_3.index t 1 * 512 + 1 * b.val = _; rw [e]; show (grid0.coords t 1).val * 512 + 1 * b.val = 512 * q.val + b.val; omega

theorem iblk4_apply (c : Dev nD) (t : Fin cfg0.N) (p : Fin 16) (hp : (grid0.coords t 0).val = p.val) (q : Fin 4) (hq : (grid0.coords t 1).val = q.val) (a : Fin 512) (b : Fin 512) :
    (iblk m c 4 t : Vec Ideal S512x512 .f32) (ix2 a b) = res m c (ix2 ⟨512 * p.val + a.val, by omega⟩ ⟨512 * q.val + b.val, by omega⟩) := by
  rw [iblk, View.read_apply]
  refine Eq.trans (b := V m c main_arg0 (ix2 ⟨512 * p.val + a.val, by omega⟩ ⟨512 * q.val + b.val, by omega⟩)) ?_ (congrFun (V_main_arg0 m c) _)
  refine congrArg (V m c main_arg0) ?_
  funext x
  apply Fin.ext
  have e := index4 t
  match x with
  | ⟨0, _⟩ => show win0_4.index t 0 * 512 + 1 * a.val = _; rw [e]; show (grid0.coords t 0).val * 512 + 1 * a.val = 512 * p.val + a.val; omega
  | ⟨1, _⟩ => show win0_4.index t 1 * 512 + 1 * b.val = _; rw [e]; show (grid0.coords t 1).val * 512 + 1 * b.val = 512 * q.val + b.val; omega

/-- What the array holds: every entry the sum. -/
def total (c : Dev nD) (j : (⟨2, ![8192, 2048]⟩ : Shape).Idx) : EReal := entry (res m c) (heads m c) (mems m c) (wts m c) (j 0) (j 1)

theorem flushed_eq (c : Dev nD) (t : Fin cfg0.N) (hf : (cfg0.win 5).flush t = true) :
    (dats m 0 c).flushed 5 t = ((cfg0.win 5).blk t).view.read (Elt Ideal) (total m c) := by
  rw [Value.flushed5, out_eq]
  obtain ⟨p, hp⟩ : ∃ p : Fin 16, (grid0.coords t 0).val = p.val := ⟨grid0.coords t 0, rfl⟩
  obtain ⟨q, hq⟩ : ∃ q : Fin 4, (grid0.coords t 1).val = q.val := ⟨grid0.coords t 1, rfl⟩
  show (fun j : S512x512.Idx => _) = _
  funext j
  obtain ⟨a, b, rfl⟩ : ∃ (a b : Fin 512), j = ix2 a b := ⟨j 0, j 1, eq_ix2 j⟩
  rw [View.read_apply]
  refine (pay_apply (iblk m c 0 t) (iblk m c 1 t) (iblk m c 2 t) (iblk m c 3 t) (iblk m c 4 t) a b).trans ?_
  rw [iblk4_apply m c t p hp q hq, Finset.sum_congr rfl fun k _ => by rw [iblk0_apply m c t p hp, iblk2_apply m c t q hq],
    Finset.sum_congr (s₁ := (Finset.univ : Finset (Fin 512))) rfl fun k _ => by rw [iblk1_apply m c t p hp, iblk3_apply m c t q hq]]
  have e := index5 t
  have ij : ((cfg0.win 5).blk t).view.emb (ix2 a b) = ix2 ⟨512 * p.val + a.val, by omega⟩ ⟨512 * q.val + b.val, by omega⟩ := by
    funext x
    apply Fin.ext
    match x with
    | ⟨0, _⟩ => show win0_5.index t 0 * 512 + 1 * a.val = _; rw [e]; show (grid0.coords t 0).val * 512 + 1 * a.val = 512 * p.val + a.val; omega
    | ⟨1, _⟩ => show win0_5.index t 1 * 512 + 1 * b.val = _; rw [e]; show (grid0.coords t 1).val * 512 + 1 * b.val = 512 * q.val + b.val; omega
  rw [ij]
  rfl

theorem final_eq (c : Dev nD) : (dats m 0 c).arrAt 5 cfg0.N = total m c :=
  (dats m 0 c).arrAt_eq_of_cover 5 (total m c) (flushed_eq m c) fun i => by
    have h0 : (i 0 : Nat) < 8192 := (i 0).isLt
    have h1 : (i 1 : Nat) < 2048 := (i 1).isLt
    have ht := point_of ⟨i 0 / 512, by omega⟩ ⟨i 1 / 512, by omega⟩
    generalize pt ⟨i 0 / 512, by omega⟩ ⟨i 1 / 512, by omega⟩ = t at ht
    refine ⟨t, flush0_5 t, ?_⟩
    show i ∈ ((View.whole main_v5).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [ht]; show (i 0 : Nat) / 512 * 512 ≤ (i 0 : Nat) ∧ (i 0 : Nat) < (i 0 : Nat) / 512 * 512 + 512; omega
    | ⟨1, _⟩ => show win0_5.index t 1 * 512 ≤ (i 1 : Nat) ∧ (i 1 : Nat) < win0_5.index t 1 * 512 + 512
                rw [ht]; show (i 1 : Nat) / 512 * 512 ≤ (i 1 : Nat) ∧ (i 1 : Nat) < (i 1 : Nat) / 512 * 512 + 512; omega

end Cert.OutIdeal.Array

/-! ## The reference -/

namespace Cert.OutRefIdeal.Ref

open Cert.OutRefIdeal Cert.OutRefIdeal.Gen Cert.Proof.Out Idealize.ShloMosaic

theorem prod_apply (o : FVec Ideal S2x4096x2048 .bf16) (u : FVec Ideal S2x4096x512 .bf16) (w : FVec Ideal S2560x2048 .f32)
    (b : Fin 2) (s : Fin 4096) (n : Fin 2048) :
    Host.dotGeneral dot_S2x4096x2560_S2560x2048_S2x4096x2048_2_0_01_1_n_n none
        (concatenate S2x4096x2560 2 [⟨S2x4096x2048, (extf .f32 o bitsLt_bf16_f32)⟩, ⟨S2x4096x512, (extf .f32 u bitsLt_bf16_f32)⟩]
          concatenates_S2x4096x2048_S2x4096x512_S2x4096x2560_d2) w (ix3 b s n)
      = ∑ k : Fin 2048, o (ix3 b s k) * w (ix2 (upper k) n) + ∑ k : Fin 512, u (ix3 b s k) * w (ix2 (lower k) n) := by
  pointwise []
  rfl

/-- The reference's sum puts the two products together first. -/
theorem res_eq (x : FVec Ideal S8192x2048 .f32) (o : FVec Ideal S2x4096x2048 .bf16) (u : FVec Ideal S2x4096x512 .bf16)
    (w : FVec Ideal S2560x2048 .f32) (r : Fin 8192) (n : Fin 2048) :
    addf x (shapeCast _ (Host.dotGeneral dot_S2x4096x2560_S2560x2048_S2x4096x2048_2_0_01_1_n_n none
        (concatenate S2x4096x2560 2 [⟨S2x4096x2048, (extf .f32 o bitsLt_bf16_f32)⟩, ⟨S2x4096x512, (extf .f32 u bitsLt_bf16_f32)⟩]
          concatenates_S2x4096x2048_S2x4096x512_S2x4096x2560_d2) w) shapeCasts_S2x4096x2048_S8192x2048) (ix2 r n)
      = entry x o u w r n := by
  refine Eq.trans (congrArg (x (ix2 r n) + ·) ((shapeCast_apply _ _ (ix2 r n) (ix3 (seqOf r) (posOf r) n) ?_).trans
    (prod_apply o u w _ _ n))) (add_assoc _ _ _).symm
  rw [Shape.rowMajor_val_three, Shape.rowMajor_val_two]
  show (r.val / 4096 * 4096 + r.val % 4096) * 2048 + n.val = r.val * 2048 + n.val
  rw [Nat.div_add_mod']

end Cert.OutRefIdeal.Ref
-- ==== Proof.ProjValue.lean ====
/- The launch that normalises rows and multiplies them by a weight matrix, and its reference: the rows are normalised once, at a
   tile's first point, and carried along the tile's thirteen blocks of columns. -/
module

public import proofs.«01_k».proof.Proof.Gen.ProjIdeal.Value
public import proofs.«01_k».proof.Proof.Gen.ProjRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.Proof.Proj

open Idealize.ShloMosaic Cert.Proof.Up

/-- An entry of the normalised rows' product with the weights. -/
def entry (x : (⟨2, ![8192, 2048]⟩ : Shape).Idx → EReal) (g : (⟨1, ![2048]⟩ : Shape).Idx → EReal)
    (w : (⟨2, ![2048, 6656]⟩ : Shape).Idx → EReal) (r : Fin 8192) (n : Fin 6656) : EReal :=
  ∑ k : Fin 2048, normed x g r k * w (ix2 k n)

end Cert.Proof.Proj

namespace Cert.ProjIdeal.Array

open Cert.ProjIdeal Cert.ProjIdeal.Gen Cert.Proof.Up Cert.Proof.Proj
open Idealize.ShloMosaic Idealize.ShloMosaic.TcCoe Idealize.SL.Sem

/-! ## One point -/

section
variable {F : FTy → Type} [FloatOps F]

theorem off2 : (![0, 0] : Fin 2 → ℕ) = fun _ => 0 := by decide

theorem ld_tile (x : Vec F S512x2048 .f32) : View.ld x (Rect.unit (s := S512x2048) ![0, 0] ![512, 2048] inb_S512x2048_S512x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem ld_wts (x : Vec F S2048x512 .bf16) : View.ld x (Rect.unit (s := S2048x512) ![0, 0] ![2048, 512] inb_S2048x512_S2048x512_0_0) = x :=
  View.ld_unit_zero off2 _ x
theorem ld_rows (x : Vec F S512x2048 .bf16) : View.ld x (Rect.unit (s := S512x2048) ![0, 0] ![512, 2048] inb_S512x2048_S512x2048_0_0) = x :=
  View.ld_unit_zero off2 _ x
theorem idx_rows (x : Vec F S512x2048 .bf16) :
    (fun j => x ((Rect.unit (s := S512x2048) ![0, 0] ![512, 2048] inb_S512x2048_S512x2048_0_0).idx j)) = x :=
  View.ld_unit_zero off2 _ x
theorem canon_rows (x : Vec F S512x2048 .bf16) :
    (View.canon [⟨Rect.unit (s := S512x2048) ![0, 0] ![512, 2048] inb_S512x2048_S512x2048_0_0, x⟩] : Vec F S512x2048 .bf16) = x :=
  View.canon_unit_zero off2 _ x

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S512x512 .bf16) (harg5 : arg5.IsWhole)
  (arg6 : Memref sig .tc .vmem S512x2048 .bf16) (harg6 : arg6.IsWhole)
  (x0 : Vec F S512x2048 .f32) (x1 : Vec F S1x2048 .f32) (x2 : Vec F S2048x512 .bf16) (xs : Vec F S512x2048 .bf16)

theorem rows_A (h : cond0_0 i) : sout0_A_0 c i arg2 harg2 arg3 harg3 arg4 harg4 arg5 harg5 arg6 harg6 h x0 x1 x2 = k0_pay1 x0 x1 := by
  unfold sout0_A_0
  rw [View.read_writes_junk_eq_canon]
  unfold kernelRun0_A
  dsimp only
  sl_unfold_words
  simp only [View.readAt_eq_ld, harg2.read_unread, harg3.read_unread, ld_tile, ld_gain, canon_rows]

theorem out_A (h : cond0_0 i) : out0_A_3 c i arg2 harg2 arg3 harg3 arg4 harg4 arg5 harg5 arg6 harg6 h x0 x1 x2 = k0_pay2 (k0_pay1 x0 x1) x2 := by
  unfold out0_A_3
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, ld_tile, ld_gain,
    ld_wts, canon_rows, idx_rows]

theorem rows_B (h : ¬cond0_0 i) : sout0_B_0 c i arg2 harg2 arg3 harg3 arg4 harg4 arg5 harg5 arg6 harg6 h x0 x1 x2 xs = xs := rfl

theorem out_B (h : ¬cond0_0 i) : out0_B_3 c i arg2 harg2 arg3 harg3 arg4 harg4 arg5 harg5 arg6 harg6 h x0 x1 x2 xs = k0_pay2 xs x2 := by
  unfold out0_B_3
  rw [View.read_writes_junk_eq_canon]
  unfold kernelRun0_B
  dsimp only
  sl_unfold_words
  rw [View.canon_unit_zero off2]
  simp only [View.readCov_eq_canon', View.readAt_eq_ld, harg4.read_unread, harg6.read_unread, ld_wts, ld_rows]

end

theorem norm_apply (x0 : Vec Ideal S512x2048 .f32) (x1 : Vec Ideal S1x2048 .f32) (a : Fin 512) (k : Fin 2048) :
    k0_pay1 x0 x1 (ix2 a k) = x0 (ix2 a k) * factor (fun k => x0 (ix2 a k)) * x1 (ix2 0 k) := by
  pointwise [k0_pay1, factor]

theorem prod_apply (n : Vec Ideal S512x2048 .bf16) (w : Vec Ideal S2048x512 .bf16) (a b : Fin 512) :
    k0_pay2 n w (ix2 a b) = ∑ k : Fin 2048, n (ix2 a k) * w (ix2 k b) := by
  pointwise [k0_pay2]

/-! ## The windows -/

theorem index0 : ∀ t : Fin grid0.N, win0_0.index t = ![t.val / 13, 0] := by decide +kernel
theorem index1 : ∀ t : Fin grid0.N, win0_1.index t = ![0, 0] := by decide +kernel
theorem index2 : ∀ t : Fin grid0.N, win0_2.index t = ![0, t.val % 13] := by decide +kernel
theorem index3 : ∀ t : Fin grid0.N, win0_3.index t = ![t.val / 13, t.val % 13] := by decide +kernel

variable (m : (ℓ : Loc nD τ sig) → Buf (Elt Ideal) ℓ)

abbrev res (c : Dev nD) : (⟨2, ![8192, 2048]⟩ : Shape).Idx → EReal := m ((c : Thread nD τ).loc main_arg0)
abbrev gain (c : Dev nD) : (⟨1, ![2048]⟩ : Shape).Idx → EReal := m ((c : Thread nD τ).loc main_arg1)
abbrev wts (c : Dev nD) : (⟨2, ![2048, 6656]⟩ : Shape).Idx → EReal := m ((c : Thread nD τ).loc main_arg2)

/-- Row `a` of tile `p`, and column `b` of block `q`. -/
def rowOf (p : Fin 16) (a : Fin 512) : Fin 8192 := ⟨512 * p.val + a.val, by omega⟩
def colOf (q : Fin 13) (b : Fin 512) : Fin 6656 := ⟨512 * q.val + b.val, by omega⟩

theorem V_v0 (c : Dev nD) (k : Fin 2048) (n : Fin 6656) :
    (V m c main_v0 : Vec Ideal S2048x6656 .bf16) (ix2 k n) = wts m c (ix2 k n) := by
  entry_read
  pointwise []

theorem V_v1 (c : Dev nD) (k : Fin 2048) : (V m c main_v1 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem iblk0_apply (c : Dev nD) (t : Fin cfg0.N) (p : Fin 16) (hp : t.val / 13 = p.val) (a : Fin 512) (b : Fin 2048) :
    (iblk m c 0 t : Vec Ideal S512x2048 .f32) (ix2 a b) = res m c (ix2 (rowOf p a) b) := by
  rw [iblk, View.read_apply]
  refine Eq.trans (b := V m c main_arg0 (ix2 (rowOf p a) b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val / 13) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (b : Fin 2048) :
    (iblk m c 1 t : Vec Ideal S1x2048 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 2048 + 1 * b.val = b.val; rw [e]; show 0 * 2048 + 1 * b.val = b.val; omega

theorem iblk2_apply (c : Dev nD) (t : Fin cfg0.N) (q : Fin 13) (hq : t.val % 13 = q.val) (a : Fin 2048) (b : Fin 512) :
    (iblk m c 2 t : Vec Ideal S2048x512 .bf16) (ix2 a b) = wts m c (ix2 a (colOf q b)) := by
  rw [iblk, View.read_apply]
  refine Eq.trans (b := V m c main_v0 (ix2 a (colOf q b))) ?_ (V_v0 m c _ _)
  refine congrArg (V m c main_v0) ?_
  funext x
  apply Fin.ext
  have e := index2 t
  match x with
  | ⟨0, _⟩ => show win0_2.index t 0 * 2048 + 1 * a.val = a.val; rw [e]; show 0 * 2048 + 1 * a.val = a.val; omega
  | ⟨1, _⟩ => show win0_2.index t 1 * 512 + 1 * b.val = 512 * q.val + b.val; rw [e]; show (t.val % 13) * 512 + 1 * b.val = 512 * q.val + b.val; omega

/-! ## The launch -/

/-- The carried rows are tile `p`'s normalised rows. -/
def Rows (c : Dev nD) (p : Fin 16) (n : Vec Ideal S512x2048 .bf16) : Prop :=
  ∀ (a : Fin 512) (k : Fin 2048), n (ix2 a k) = normed (res m c) (gain m c) (rowOf p a) k

theorem rows_point (c : Dev nD) (t : Fin cfg0.N) (p : Fin 16) (hp : t.val / 13 = p.val) :
    Rows m c p (k0_pay1 (iblk m c 0 t) (iblk m c 1 t)) := fun a k => by
  refine (norm_apply (iblk m c 0 t) (iblk m c 1 t) a k).trans ?_
  rw [iblk1_apply m c t k, normed]
  simp only [iblk0_apply m c t p hp]

theorem carried (c : Dev nD) (p : Fin 16) : ∀ (n : ℕ) (hn : n < cfg0.N), n / 13 = p.val → Rows m c p (outsAt0 m c n hn).2
  | 0, hn, hp => by
    have e : (outsAt0 m c 0 hn).2 = k0_pay1 (iblk m c 0 ⟨0, hn⟩) (iblk m c 1 ⟨0, hn⟩) := by
      rw [outsAt0_A m c ⟨0, hn⟩ rfl]
      dsimp only
      rw [rows_A]
    exact e ▸ rows_point m c ⟨0, hn⟩ p hp
  | n + 1, hn, hp => by
    by_cases h0 : (n + 1) % 13 = 0
    · have e : (outsAt0 m c (n + 1) hn).2 = k0_pay1 (iblk m c 0 ⟨n + 1, hn⟩) (iblk m c 1 ⟨n + 1, hn⟩) := by
        rw [outsAt0_A m c ⟨n + 1, hn⟩ h0]
        dsimp only
        rw [rows_A]
      exact e ▸ rows_point m c ⟨n + 1, hn⟩ p hp
    · have e : (outsAt0 m c (n + 1) hn).2 = (outsAt0 m c n (Nat.lt_of_succ_lt hn)).2 := by
        rw [outsAt0_B m c ⟨n + 1, hn⟩ h0]
        rfl
      rw [e]
      exact carried c p n (Nat.lt_of_succ_lt hn) (by omega)

/-- A point's block is the product of the rows it then carries with its columns. -/
theorem out_rows (c : Dev nD) (t : Fin cfg0.N) :
    (outsAt0 m c t.val t.isLt).1 = k0_pay2 (outsAt0 m c t.val t.isLt).2 (iblk m c 2 t) := by
  by_cases h0 : t.val % 13 = 0
  · rw [outsAt0_A m c t h0]
    dsimp only
    rw [rows_A, out_A]
  · rw [outsAt0_B m c t h0]
    dsimp only
    rw [rows_B, out_B]

theorem out_point (c : Dev nD) (t : Fin cfg0.N) (p : Fin 16) (hp : t.val / 13 = p.val) (q : Fin 13) (hq : t.val % 13 = q.val)
    (a b : Fin 512) :
    (outsAt0 m c t.val t.isLt).1 (ix2 a b) = entry (res m c) (gain m c) (wts m c) (rowOf p a) (colOf q b) := by
  have hr := carried m c p t.val t.isLt hp
  rw [out_rows]
  refine (prod_apply _ (iblk m c 2 t) a b).trans (Finset.sum_congr rfl fun k _ => ?_)
  rw [hr a k, iblk2_apply m c t q hq k b]

/-- What the array holds. -/
def total (c : Dev nD) (j : (⟨2, ![8192, 6656]⟩ : Shape).Idx) : EReal := entry (res m c) (gain m c) (wts m c) (j 0) (j 1)

theorem flushed_eq (c : Dev nD) (t : Fin cfg0.N) (hf : (cfg0.win 3).flush t = true) :
    (dats m 0 c).flushed 3 t = ((cfg0.win 3).blk t).view.read (Elt Ideal) (total m c) := by
  rw [Value.flushed3]
  have hN : t.val < 208 := lt_of_lt_of_eq t.isLt (show cfg0.N = 208 from N_0)
  obtain ⟨p, hp⟩ : ∃ p : Fin 16, t.val / 13 = p.val := ⟨⟨t.val / 13, by omega⟩, rfl⟩
  obtain ⟨q, hq⟩ : ∃ q : Fin 13, t.val % 13 = q.val := ⟨⟨t.val % 13, by omega⟩, rfl⟩
  show (fun j : S512x512.Idx => _) = _
  funext j
  obtain ⟨a, b, rfl⟩ : ∃ (a b : Fin 512), j = ix2 a b := ⟨j 0, j 1, eq_ix2 j⟩
  rw [View.read_apply]
  refine (out_point m c t p hp q hq a b).trans ?_
  have e := index3 t
  have ij : ((cfg0.win 3).blk t).view.emb (ix2 a b) = ix2 (rowOf p a) (colOf q b) := by
    funext x
    apply Fin.ext
    match x with
    | ⟨0, _⟩ => show win0_3.index t 0 * 512 + 1 * a.val = 512 * p.val + a.val; rw [e]; show t.val / 13 * 512 + 1 * a.val = 512 * p.val + a.val; omega
    | ⟨1, _⟩ => show win0_3.index t 1 * 512 + 1 * b.val = 512 * q.val + b.val; rw [e]; show t.val % 13 * 512 + 1 * b.val = 512 * q.val + b.val; omega
  rw [ij]
  rfl

theorem final_eq (c : Dev nD) : (dats m 0 c).arrAt 3 cfg0.N = total m c :=
  (dats m 0 c).arrAt_eq_of_cover 3 (total m c) (flushed_eq m c) fun i => by
    have h0 : (i 0 : Nat) < 8192 := (i 0).isLt
    have h1 : (i 1 : Nat) < 6656 := (i 1).isLt
    have ht := index3 ⟨13 * (i 0 / 512) + i 1 / 512, by rw [N_0]; omega⟩
    generalize hs : (⟨13 * (i 0 / 512) + i 1 / 512, by rw [N_0]; omega⟩ : Fin grid0.N) = t at ht
    have hv : t.val = 13 * (i 0 / 512) + i 1 / 512 := by rw [← hs]
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ht]; show t.val / 13 * 512 ≤ (i 0 : Nat) ∧ (i 0 : Nat) < t.val / 13 * 512 + 512; omega
    | ⟨1, _⟩ => show win0_3.index t 1 * 512 ≤ (i 1 : Nat) ∧ (i 1 : Nat) < win0_3.index t 1 * 512 + 512
                rw [ht]; show t.val % 13 * 512 ≤ (i 1 : Nat) ∧ (i 1 : Nat) < t.val % 13 * 512 + 512; omega

end Cert.ProjIdeal.Array

namespace Cert.ProjRefIdeal.Ref

open Cert.ProjRefIdeal Cert.ProjRefIdeal.Gen Cert.Proof.Up Cert.Proof.Proj Idealize.ShloMosaic

/-- The reference's normalised rows. -/
def hidden (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem hidden_apply (x : FVec Ideal S8192x2048 .f32) (g : FVec Ideal S2048 .f32) (r : Fin 8192) (k : Fin 2048) :
    hidden x g (ix2 r k) = normed x g r k := by
  pointwise [hidden, normed, factor]

/-- The reference's result, entry by entry. -/
theorem res_eq (x : FVec Ideal S8192x2048 .f32) (g : FVec Ideal S2048 .f32) (w : FVec Ideal S2048x6656 .f32) (r : Fin 8192) (n : Fin 6656) :
    truncf .bf16 (Host.dotGeneral dot_S8192x2048_S2048x6656_S8192x6656_1_0_0_1_n_n none (hidden x g) w) bitsLt_bf16_f32 (ix2 r n)
      = entry x g w r n := by
  pointwise []
  simp only [hidden_apply]
  rfl

end Cert.ProjRefIdeal.Ref
-- ==== Proof.SwaInValue.lean ====
/- The launch that normalises rows and multiplies them by the windowed mixer's weights, and its reference: the rows are normalised once, at a
   tile's first point, and carried along the tile's six blocks of columns. -/
module

public import proofs.«01_k».proof.Proof.Gen.SwaIdeal.Value
public import proofs.«01_k».proof.Proof.Gen.SwaRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.Proof.Swa

open Idealize.ShloMosaic Cert.Proof.Up

/-- An entry of the normalised rows' product with the weights. -/
def entry (x : (⟨2, ![8192, 2048]⟩ : Shape).Idx → EReal) (g : (⟨1, ![2048]⟩ : Shape).Idx → EReal)
    (w : (⟨2, ![2048, 3072]⟩ : Shape).Idx → EReal) (r : Fin 8192) (n : Fin 3072) : EReal :=
  ∑ k : Fin 2048, normed x g r k * w (ix2 k n)

end Cert.Proof.Swa

namespace Cert.SwaIdeal.Array

open Cert.SwaIdeal Cert.SwaIdeal.Gen Cert.Proof.Up Cert.Proof.Swa
open Idealize.ShloMosaic Idealize.ShloMosaic.TcCoe Idealize.SL.Sem

/-! ## One point -/

section
variable {F : FTy → Type} [FloatOps F]

theorem off2 : (![0, 0] : Fin 2 → ℕ) = fun _ => 0 := by decide

theorem ld_tile (x : Vec F S512x2048 .f32) : View.ld x (Rect.unit (s := S512x2048) ![0, 0] ![512, 2048] inb_S512x2048_S512x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem ld_wts (x : Vec F S2048x512 .bf16) : View.ld x (Rect.unit (s := S2048x512) ![0, 0] ![2048, 512] inb_S2048x512_S2048x512_0_0) = x :=
  View.ld_unit_zero off2 _ x
theorem ld_rows (x : Vec F S512x2048 .bf16) : View.ld x (Rect.unit (s := S512x2048) ![0, 0] ![512, 2048] inb_S512x2048_S512x2048_0_0) = x :=
  View.ld_unit_zero off2 _ x
theorem idx_rows (x : Vec F S512x2048 .bf16) :
    (fun j => x ((Rect.unit (s := S512x2048) ![0, 0] ![512, 2048] inb_S512x2048_S512x2048_0_0).idx j)) = x :=
  View.ld_unit_zero off2 _ x
theorem canon_rows (x : Vec F S512x2048 .bf16) :
    (View.canon [⟨Rect.unit (s := S512x2048) ![0, 0] ![512, 2048] inb_S512x2048_S512x2048_0_0, x⟩] : Vec F S512x2048 .bf16) = x :=
  View.canon_unit_zero off2 _ x

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S512x512 .bf16) (harg5 : arg5.IsWhole)
  (arg6 : Memref sig .tc .vmem S512x2048 .bf16) (harg6 : arg6.IsWhole)
  (x0 : Vec F S512x2048 .f32) (x1 : Vec F S1x2048 .f32) (x2 : Vec F S2048x512 .bf16) (xs : Vec F S512x2048 .bf16)

theorem rows_A (h : cond0_0 i) : sout0_A_0 c i arg2 harg2 arg3 harg3 arg4 harg4 arg5 harg5 arg6 harg6 h x0 x1 x2 = k0_pay1 x0 x1 := by
  unfold sout0_A_0
  rw [View.read_writes_junk_eq_canon]
  unfold kernelRun0_A
  dsimp only
  sl_unfold_words
  simp only [View.readAt_eq_ld, harg2.read_unread, harg3.read_unread, ld_tile, ld_gain, canon_rows]

theorem out_A (h : cond0_0 i) : out0_A_3 c i arg2 harg2 arg3 harg3 arg4 harg4 arg5 harg5 arg6 harg6 h x0 x1 x2 = k0_pay2 (k0_pay1 x0 x1) x2 := by
  unfold out0_A_3
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, ld_tile, ld_gain,
    ld_wts, canon_rows, idx_rows]

theorem rows_B (h : ¬cond0_0 i) : sout0_B_0 c i arg2 harg2 arg3 harg3 arg4 harg4 arg5 harg5 arg6 harg6 h x0 x1 x2 xs = xs := rfl

theorem out_B (h : ¬cond0_0 i) : out0_B_3 c i arg2 harg2 arg3 harg3 arg4 harg4 arg5 harg5 arg6 harg6 h x0 x1 x2 xs = k0_pay2 xs x2 := by
  unfold out0_B_3
  rw [View.read_writes_junk_eq_canon]
  unfold kernelRun0_B
  dsimp only
  sl_unfold_words
  rw [View.canon_unit_zero off2]
  simp only [View.readCov_eq_canon', View.readAt_eq_ld, harg4.read_unread, harg6.read_unread, ld_wts, ld_rows]

end

theorem norm_apply (x0 : Vec Ideal S512x2048 .f32) (x1 : Vec Ideal S1x2048 .f32) (a : Fin 512) (k : Fin 2048) :
    k0_pay1 x0 x1 (ix2 a k) = x0 (ix2 a k) * factor (fun k => x0 (ix2 a k)) * x1 (ix2 0 k) := by
  pointwise [k0_pay1, factor]

theorem prod_apply (n : Vec Ideal S512x2048 .bf16) (w : Vec Ideal S2048x512 .bf16) (a b : Fin 512) :
    k0_pay2 n w (ix2 a b) = ∑ k : Fin 2048, n (ix2 a k) * w (ix2 k b) := by
  pointwise [k0_pay2]

/-! ## The windows -/

theorem index0 : ∀ t : Fin grid0.N, win0_0.index t = ![t.val / 6, 0] := by decide +kernel
theorem index1 : ∀ t : Fin grid0.N, win0_1.index t = ![0, 0] := by decide +kernel
theorem index2 : ∀ t : Fin grid0.N, win0_2.index t = ![0, t.val % 6] := by decide +kernel
theorem index3 : ∀ t : Fin grid0.N, win0_3.index t = ![t.val / 6, t.val % 6] := by decide +kernel

variable (m : (ℓ : Loc nD τ sig) → Buf (Elt Ideal) ℓ)

abbrev res (c : Dev nD) : (⟨2, ![8192, 2048]⟩ : Shape).Idx → EReal := m ((c : Thread nD τ).loc main_arg0)
abbrev gain (c : Dev nD) : (⟨1, ![2048]⟩ : Shape).Idx → EReal := m ((c : Thread nD τ).loc main_arg1)
abbrev wts (c : Dev nD) : (⟨2, ![2048, 3072]⟩ : Shape).Idx → EReal := m ((c : Thread nD τ).loc main_arg2)

/-- Row `a` of tile `p`, and column `b` of block `q`. -/
def rowOf (p : Fin 16) (a : Fin 512) : Fin 8192 := ⟨512 * p.val + a.val, by omega⟩
def colOf (q : Fin 6) (b : Fin 512) : Fin 3072 := ⟨512 * q.val + b.val, by omega⟩

theorem V_v0 (c : Dev nD) (k : Fin 2048) (n : Fin 3072) :
    (V m c main_v0 : Vec Ideal S2048x3072 .bf16) (ix2 k n) = wts m c (ix2 k n) := by
  entry_read
  pointwise []

theorem V_v1 (c : Dev nD) (k : Fin 2048) : (V m c main_v1 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem iblk0_apply (c : Dev nD) (t : Fin cfg0.N) (p : Fin 16) (hp : t.val / 6 = p.val) (a : Fin 512) (b : Fin 2048) :
    (iblk m c 0 t : Vec Ideal S512x2048 .f32) (ix2 a b) = res m c (ix2 (rowOf p a) b) := by
  rw [iblk, View.read_apply]
  refine Eq.trans (b := V m c main_arg0 (ix2 (rowOf p a) b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val / 6) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (b : Fin 2048) :
    (iblk m c 1 t : Vec Ideal S1x2048 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 2048 + 1 * b.val = b.val; rw [e]; show 0 * 2048 + 1 * b.val = b.val; omega

theorem iblk2_apply (c : Dev nD) (t : Fin cfg0.N) (q : Fin 6) (hq : t.val % 6 = q.val) (a : Fin 2048) (b : Fin 512) :
    (iblk m c 2 t : Vec Ideal S2048x512 .bf16) (ix2 a b) = wts m c (ix2 a (colOf q b)) := by
  rw [iblk, View.read_apply]
  refine Eq.trans (b := V m c main_v0 (ix2 a (colOf q b))) ?_ (V_v0 m c _ _)
  refine congrArg (V m c main_v0) ?_
  funext x
  apply Fin.ext
  have e := index2 t
  match x with
  | ⟨0, _⟩ => show win0_2.index t 0 * 2048 + 1 * a.val = a.val; rw [e]; show 0 * 2048 + 1 * a.val = a.val; omega
  | ⟨1, _⟩ => show win0_2.index t 1 * 512 + 1 * b.val = 512 * q.val + b.val; rw [e]; show (t.val % 6) * 512 + 1 * b.val = 512 * q.val + b.val; omega

/-! ## The launch -/

/-- The carried rows are tile `p`'s normalised rows. -/
def Rows (c : Dev nD) (p : Fin 16) (n : Vec Ideal S512x2048 .bf16) : Prop :=
  ∀ (a : Fin 512) (k : Fin 2048), n (ix2 a k) = normed (res m c) (gain m c) (rowOf p a) k

theorem rows_point (c : Dev nD) (t : Fin cfg0.N) (p : Fin 16) (hp : t.val / 6 = p.val) :
    Rows m c p (k0_pay1 (iblk m c 0 t) (iblk m c 1 t)) := fun a k => by
  refine (norm_apply (iblk m c 0 t) (iblk m c 1 t) a k).trans ?_
  rw [iblk1_apply m c t k, normed]
  simp only [iblk0_apply m c t p hp]

theorem carried (c : Dev nD) (p : Fin 16) : ∀ (n : ℕ) (hn : n < cfg0.N), n / 6 = p.val → Rows m c p (outsAt0 m c n hn).2
  | 0, hn, hp => by
    have e : (outsAt0 m c 0 hn).2 = k0_pay1 (iblk m c 0 ⟨0, hn⟩) (iblk m c 1 ⟨0, hn⟩) := by
      rw [outsAt0_A m c ⟨0, hn⟩ rfl]
      dsimp only
      rw [rows_A]
    exact e ▸ rows_point m c ⟨0, hn⟩ p hp
  | n + 1, hn, hp => by
    by_cases h0 : (n + 1) % 6 = 0
    · have e : (outsAt0 m c (n + 1) hn).2 = k0_pay1 (iblk m c 0 ⟨n + 1, hn⟩) (iblk m c 1 ⟨n + 1, hn⟩) := by
        rw [outsAt0_A m c ⟨n + 1, hn⟩ h0]
        dsimp only
        rw [rows_A]
      exact e ▸ rows_point m c ⟨n + 1, hn⟩ p hp
    · have e : (outsAt0 m c (n + 1) hn).2 = (outsAt0 m c n (Nat.lt_of_succ_lt hn)).2 := by
        rw [outsAt0_B m c ⟨n + 1, hn⟩ h0]
        rfl
      rw [e]
      exact carried c p n (Nat.lt_of_succ_lt hn) (by omega)

/-- A point's block is the product of the rows it then carries with its columns. -/
theorem out_rows (c : Dev nD) (t : Fin cfg0.N) :
    (outsAt0 m c t.val t.isLt).1 = k0_pay2 (outsAt0 m c t.val t.isLt).2 (iblk m c 2 t) := by
  by_cases h0 : t.val % 6 = 0
  · rw [outsAt0_A m c t h0]
    dsimp only
    rw [rows_A, out_A]
  · rw [outsAt0_B m c t h0]
    dsimp only
    rw [rows_B, out_B]

theorem out_point (c : Dev nD) (t : Fin cfg0.N) (p : Fin 16) (hp : t.val / 6 = p.val) (q : Fin 6) (hq : t.val % 6 = q.val)
    (a b : Fin 512) :
    (outsAt0 m c t.val t.isLt).1 (ix2 a b) = entry (res m c) (gain m c) (wts m c) (rowOf p a) (colOf q b) := by
  have hr := carried m c p t.val t.isLt hp
  rw [out_rows]
  refine (prod_apply _ (iblk m c 2 t) a b).trans (Finset.sum_congr rfl fun k _ => ?_)
  rw [hr a k, iblk2_apply m c t q hq k b]

/-- What the array holds. -/
def total (c : Dev nD) (j : (⟨2, ![8192, 3072]⟩ : Shape).Idx) : EReal := entry (res m c) (gain m c) (wts m c) (j 0) (j 1)

theorem flushed_eq (c : Dev nD) (t : Fin cfg0.N) (hf : (cfg0.win 3).flush t = true) :
    (dats m 0 c).flushed 3 t = ((cfg0.win 3).blk t).view.read (Elt Ideal) (total m c) := by
  rw [Value.flushed3]
  have hN : t.val < 96 := lt_of_lt_of_eq t.isLt (show cfg0.N = 96 from N_0)
  obtain ⟨p, hp⟩ : ∃ p : Fin 16, t.val / 6 = p.val := ⟨⟨t.val / 6, by omega⟩, rfl⟩
  obtain ⟨q, hq⟩ : ∃ q : Fin 6, t.val % 6 = q.val := ⟨⟨t.val % 6, by omega⟩, rfl⟩
  show (fun j : S512x512.Idx => _) = _
  funext j
  obtain ⟨a, b, rfl⟩ : ∃ (a b : Fin 512), j = ix2 a b := ⟨j 0, j 1, eq_ix2 j⟩
  rw [View.read_apply]
  refine (out_point m c t p hp q hq a b).trans ?_
  have e := index3 t
  have ij : ((cfg0.win 3).blk t).view.emb (ix2 a b) = ix2 (rowOf p a) (colOf q b) := by
    funext x
    apply Fin.ext
    match x with
    | ⟨0, _⟩ => show win0_3.index t 0 * 512 + 1 * a.val = 512 * p.val + a.val; rw [e]; show t.val / 6 * 512 + 1 * a.val = 512 * p.val + a.val; omega
    | ⟨1, _⟩ => show win0_3.index t 1 * 512 + 1 * b.val = 512 * q.val + b.val; rw [e]; show t.val % 6 * 512 + 1 * b.val = 512 * q.val + b.val; omega
  rw [ij]
  rfl

theorem final_eq (c : Dev nD) : (dats m 0 c).arrAt 3 cfg0.N = total m c :=
  (dats m 0 c).arrAt_eq_of_cover 3 (total m c) (flushed_eq m c) fun i => by
    have h0 : (i 0 : Nat) < 8192 := (i 0).isLt
    have h1 : (i 1 : Nat) < 3072 := (i 1).isLt
    have ht := index3 ⟨6 * (i 0 / 512) + i 1 / 512, by rw [N_0]; omega⟩
    generalize hs : (⟨6 * (i 0 / 512) + i 1 / 512, by rw [N_0]; omega⟩ : Fin grid0.N) = t at ht
    have hv : t.val = 6 * (i 0 / 512) + i 1 / 512 := by rw [← hs]
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ht]; show t.val / 6 * 512 ≤ (i 0 : Nat) ∧ (i 0 : Nat) < t.val / 6 * 512 + 512; omega
    | ⟨1, _⟩ => show win0_3.index t 1 * 512 ≤ (i 1 : Nat) ∧ (i 1 : Nat) < win0_3.index t 1 * 512 + 512
                rw [ht]; show t.val % 6 * 512 ≤ (i 1 : Nat) ∧ (i 1 : Nat) < t.val % 6 * 512 + 512; omega

end Cert.SwaIdeal.Array

namespace Cert.SwaRefIdeal.Ref

open Cert.SwaRefIdeal Cert.SwaRefIdeal.Gen Cert.Proof.Up Cert.Proof.Swa Idealize.ShloMosaic

/-- The reference's normalised rows. -/
def hidden (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem hidden_apply (x : FVec Ideal S8192x2048 .f32) (g : FVec Ideal S2048 .f32) (r : Fin 8192) (k : Fin 2048) :
    hidden x g (ix2 r k) = normed x g r k := by
  pointwise [hidden, normed, factor]

/-- The reference's result, entry by entry. -/
theorem res_eq (x : FVec Ideal S8192x2048 .f32) (g : FVec Ideal S2048 .f32) (w : FVec Ideal S2048x3072 .f32) (r : Fin 8192) (n : Fin 3072) :
    truncf .bf16 (Host.dotGeneral dot_S8192x2048_S2048x3072_S8192x3072_1_0_0_1_n_n none (hidden x g) w) bitsLt_bf16_f32 (ix2 r n)
      = entry x g w r n := by
  pointwise []
  simp only [hidden_apply]
  rfl

end Cert.SwaRefIdeal.Ref
-- ==== Proof.LatInValue.lean ====
/- The launch that normalises rows and multiplies them by the latent mixer's weights, and its reference: a tile's rows are
   normalised and multiplied by all columns at one point. -/
module

public import proofs.«01_k».proof.Proof.Gen.LatIdeal.Value
public import proofs.«01_k».proof.Proof.Gen.LatRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.Proof.Lat

open Idealize.ShloMosaic Cert.Proof.Up

/-- An entry of the normalised rows' product with the weights. -/
def entry (x : (⟨2, ![8192, 2048]⟩ : Shape).Idx → EReal) (g : (⟨1, ![2048]⟩ : Shape).Idx → EReal)
    (w : (⟨2, ![2048, 1408]⟩ : Shape).Idx → EReal) (r : Fin 8192) (n : Fin 1408) : EReal :=
  ∑ k : Fin 2048, normed x g r k * w (ix2 k n)

end Cert.Proof.Lat

namespace Cert.LatIdeal.Array

open Cert.LatIdeal Cert.LatIdeal.Gen Cert.Proof.Up Cert.Proof.Lat
open Idealize.ShloMosaic Idealize.ShloMosaic.TcCoe Idealize.SL.Sem

/-! ## One point -/

section
variable {F : FTy → Type} [FloatOps F]

theorem off2 : (![0, 0] : Fin 2 → ℕ) = fun _ => 0 := by decide

theorem ld_tile (x : Vec F S512x2048 .f32) : View.ld x (Rect.unit (s := S512x2048) ![0, 0] ![512, 2048] inb_S512x2048_S512x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem ld_wts (x : Vec F S2048x1408 .bf16) : View.ld x (Rect.unit (s := S2048x1408) ![0, 0] ![2048, 1408] inb_S2048x1408_S2048x1408_0_0) = x :=
  View.ld_unit_zero off2 _ x
theorem idx_rows (x : Vec F S512x2048 .bf16) :
    (fun j => x ((Rect.unit (s := S512x2048) ![0, 0] ![512, 2048] inb_S512x2048_S512x2048_0_0).idx j)) = x :=
  View.ld_unit_zero off2 _ x
theorem canon_rows (x : Vec F S512x2048 .bf16) :
    (View.canon [⟨Rect.unit (s := S512x2048) ![0, 0] ![512, 2048] inb_S512x2048_S512x2048_0_0, x⟩] : Vec F S512x2048 .bf16) = x :=
  View.canon_unit_zero off2 _ x

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x1408 .bf16) (harg4 : arg4.IsWhole) (arg5 : Memref sig .tc .vmem S512x1408 .f32) (harg5 : arg5.IsWhole)
  (arg6 : Memref sig .tc .vmem S512x2048 .bf16) (harg6 : arg6.IsWhole)
  (x0 : Vec F S512x2048 .f32) (x1 : Vec F S1x2048 .f32) (x2 : Vec F S2048x1408 .bf16)

theorem out_A (h : cond0_0 i) : out0_A_3 c i arg2 harg2 arg3 harg3 arg4 harg4 arg5 harg5 arg6 harg6 h x0 x1 x2 = k0_pay2 (k0_pay1 x0 x1) x2 := by
  unfold out0_A_3
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, ld_tile, ld_gain,
    ld_wts, canon_rows, idx_rows]

end

theorem norm_apply (x0 : Vec Ideal S512x2048 .f32) (x1 : Vec Ideal S1x2048 .f32) (a : Fin 512) (k : Fin 2048) :
    k0_pay1 x0 x1 (ix2 a k) = x0 (ix2 a k) * factor (fun k => x0 (ix2 a k)) * x1 (ix2 0 k) := by
  pointwise [k0_pay1, factor]

theorem prod_apply (n : Vec Ideal S512x2048 .bf16) (w : Vec Ideal S2048x1408 .bf16) (a : Fin 512) (b : Fin 1408) :
    k0_pay2 n w (ix2 a b) = ∑ k : Fin 2048, n (ix2 a k) * w (ix2 k b) := by
  pointwise [k0_pay2]

/-! ## The windows -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel

variable (m : (ℓ : Loc nD τ sig) → Buf (Elt Ideal) ℓ)

abbrev res (c : Dev nD) : (⟨2, ![8192, 2048]⟩ : Shape).Idx → EReal := m ((c : Thread nD τ).loc main_arg0)
abbrev gain (c : Dev nD) : (⟨1, ![2048]⟩ : Shape).Idx → EReal := m ((c : Thread nD τ).loc main_arg1)
abbrev wts (c : Dev nD) : (⟨2, ![2048, 1408]⟩ : Shape).Idx → EReal := m ((c : Thread nD τ).loc main_arg2)

/-- Row `a` of tile `p`. -/
def rowOf (p : Fin 16) (a : Fin 512) : Fin 8192 := ⟨512 * p.val + a.val, by omega⟩

theorem V_v0 (c : Dev nD) (k : Fin 2048) (n : Fin 1408) :
    (V m c main_v0 : Vec Ideal S2048x1408 .bf16) (ix2 k n) = wts m c (ix2 k n) := by
  entry_read
  pointwise []

theorem V_v1 (c : Dev nD) (k : Fin 2048) : (V m c main_v1 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem iblk0_apply (c : Dev nD) (t : Fin cfg0.N) (p : Fin 16) (hp : t.val = p.val) (a : Fin 512) (b : Fin 2048) :
    (iblk m c 0 t : Vec Ideal S512x2048 .f32) (ix2 a b) = res m c (ix2 (rowOf p a) b) := by
  rw [iblk, View.read_apply]
  refine Eq.trans (b := V m c main_arg0 (ix2 (rowOf p a) b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (b : Fin 2048) :
    (iblk m c 1 t : Vec Ideal S1x2048 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 2048 + 1 * b.val = b.val; rw [e]; show 0 * 2048 + 1 * b.val = b.val; omega

theorem iblk2_apply (c : Dev nD) (t : Fin cfg0.N) (a : Fin 2048) (b : Fin 1408) :
    (iblk m c 2 t : Vec Ideal S2048x1408 .bf16) (ix2 a b) = wts m c (ix2 a b) := by
  rw [iblk, View.read_apply]
  refine Eq.trans (b := V m c main_v0 (ix2 a b)) ?_ (V_v0 m c _ _)
  refine congrArg (V m c main_v0) ?_
  funext x
  apply Fin.ext
  have e := index2 t
  match x with
  | ⟨0, _⟩ => show win0_2.index t 0 * 2048 + 1 * a.val = a.val; rw [e]; show 0 * 2048 + 1 * a.val = a.val; omega
  | ⟨1, _⟩ => show win0_2.index t 1 * 1408 + 1 * b.val = b.val; rw [e]; show 0 * 1408 + 1 * b.val = b.val; omega

/-! ## The launch -/

theorem point (c : Dev nD) (t : Fin cfg0.N) (p : Fin 16) (hp : t.val = p.val) (a : Fin 512) (b : Fin 1408) :
    outsAt0 m c t (ix2 a b)
      = entry (res m c) (gain m c) (wts m c) (rowOf p a) b := by
  rw [outsAt0, out_A]
  refine (prod_apply _ (iblk m c 2 t) a b).trans (Finset.sum_congr rfl fun k _ => ?_)
  rw [norm_apply (iblk m c 0 t) (iblk m c 1 t) a k, iblk1_apply m c t k, iblk2_apply m c t k b, normed]
  simp only [iblk0_apply m c t p hp]

/-- What the array holds. -/
def total (c : Dev nD) (j : (⟨2, ![8192, 1408]⟩ : Shape).Idx) : EReal := entry (res m c) (gain m c) (wts m c) (j 0) (j 1)

theorem flushed_eq (c : Dev nD) (t : Fin cfg0.N) (hf : (cfg0.win 3).flush t = true) :
    (dats m 0 c).flushed 3 t = ((cfg0.win 3).blk t).view.read (Elt Ideal) (total m c) := by
  rw [Value.flushed3]
  have hN : t.val < 16 := lt_of_lt_of_eq t.isLt (show cfg0.N = 16 from N_0)
  show (fun j : S512x1408.Idx => _) = _
  funext j
  obtain ⟨a, b, rfl⟩ : ∃ (a : Fin 512) (b : Fin 1408), j = ix2 a b := ⟨j 0, j 1, eq_ix2 j⟩
  rw [View.read_apply]
  refine (point m c t ⟨t.val, hN⟩ rfl a b).trans ?_
  have e := index3 t
  have ij : ((cfg0.win 3).blk t).view.emb (ix2 a b) = ix2 (rowOf ⟨t.val, hN⟩ a) b := by
    funext x
    apply Fin.ext
    match x with
    | ⟨0, _⟩ => show win0_3.index t 0 * 512 + 1 * a.val = 512 * t.val + a.val; rw [e]; show t.val * 512 + 1 * a.val = 512 * t.val + a.val; omega
    | ⟨1, _⟩ => show win0_3.index t 1 * 1408 + 1 * b.val = b.val; rw [e]; show 0 * 1408 + 1 * b.val = b.val; omega
  rw [ij]
  rfl

theorem final_eq (c : Dev nD) : (dats m 0 c).arrAt 3 cfg0.N = total m c :=
  (dats m 0 c).arrAt_eq_of_cover 3 (total m c) (flushed_eq m c) fun i => by
    have h0 : (i 0 : Nat) < 8192 := (i 0).isLt
    have h1 : (i 1 : Nat) < 1408 := (i 1).isLt
    have ht := index3 ⟨i 0 / 512, by rw [N_0]; omega⟩
    generalize hs : (⟨i 0 / 512, by rw [N_0]; omega⟩ : Fin grid0.N) = t at ht
    have hv : t.val = i 0 / 512 := by rw [← hs]
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ht]; show t.val * 512 ≤ (i 0 : Nat) ∧ (i 0 : Nat) < t.val * 512 + 512; omega
    | ⟨1, _⟩ => show win0_3.index t 1 * 1408 ≤ (i 1 : Nat) ∧ (i 1 : Nat) < win0_3.index t 1 * 1408 + 1408
                rw [ht]; show 0 * 1408 ≤ (i 1 : Nat) ∧ (i 1 : Nat) < 0 * 1408 + 1408; omega

end Cert.LatIdeal.Array

namespace Cert.LatRefIdeal.Ref

open Cert.LatRefIdeal Cert.LatRefIdeal.Gen Cert.Proof.Up Cert.Proof.Lat Idealize.ShloMosaic

/-- The reference's normalised rows. -/
def hidden (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem hidden_apply (x : FVec Ideal S8192x2048 .f32) (g : FVec Ideal S2048 .f32) (r : Fin 8192) (k : Fin 2048) :
    hidden x g (ix2 r k) = normed x g r k := by
  pointwise [hidden, normed, factor]

/-- The reference's result, entry by entry. -/
theorem res_eq (x : FVec Ideal S8192x2048 .f32) (g : FVec Ideal S2048 .f32) (w : FVec Ideal S2048x1408 .f32) (r : Fin 8192) (n : Fin 1408) :
    (Host.dotGeneral dot_S8192x2048_S2048x1408_S8192x1408_1_0_0_1_n_n none (hidden x g) w) (ix2 r n)
      = entry x g w r n := by
  pointwise []
  simp only [hidden_apply]
  rfl

end Cert.LatRefIdeal.Ref
-- ==== Proof.MlaBlock.lean ====
/- What one point of the latent attention's launch leaves in its output block, as a recursion over the key blocks: the blocks
   before the diagonal first to last, one per trip, then the block on the diagonal. -/
module

public import proofs.«01_k».proof.Proof.Gen.MlaIdeal.Value
public import Idealize.ShloMosaic.Lib.Pointwise
public import Idealize.ShloMosaic.Lib.VecWindow

@[expose] public section

set_option maxRecDepth 16384

noncomputable section

namespace Cert.MlaIdeal.Block

open Cert.MlaIdeal Cert.MlaIdeal.Gen Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

theorem ldCol (x : Vec F S256x1 .f32) : View.ld x (Rect.unit (s := S256x1) ![0, 0] ![256, 1] inb_S256x1_S256x1_0_0) = x :=
  View.ld_unit_zero off2 _ x

theorem ldAcc (x : Vec F S256x128 .f32) :
    View.ld x (Rect.unit (s := S256x128) ![0, 0] ![256, 128] inb_S256x128_S256x128_0_0) = x :=
  View.ld_unit_zero off2 _ x

theorem ldQ (x : Vec F S1x256x256 .bf16) :
    View.ld x (Rect.unit (s := S1x256x256) ![0, 0, 0] ![1, 256, 256] inb_S1x256x256_S1x256x256_0_0_0) = x :=
  View.ld_unit_zero off3 _ x

/-- The running maxima, the running sums of weights and the weighted values of a block of rows. -/
abbrev State (F : FTy → Type) : Type := Vec F S256x1 .f32 × Vec F S256x1 .f32 × Vec F S256x128 .f32

/-- The keys that a trip reads. -/
def blkK (x : Vec F S1x4096x256 .bf16) (i : grid0.Coords) (k : Fin (k0_t1_loop i).trips) : Vec F S1x256x256 .bf16 :=
  View.ld x (Rect.unit (s := S1x4096x256) (k0_off1 i k) S1x256x256.size (k0_off1_inb i k))

/-- The values that a trip reads. -/
def blkV (x : Vec F S1x4096x128 .bf16) (i : grid0.Coords) (k : Fin (k0_t1_loop i).trips) : Vec F S1x256x128 .bf16 :=
  View.ld x (Rect.unit (s := S1x4096x128) (k0_off2 i k) S1x256x128.size (k0_off2_inb i k))

/-- The keys on the diagonal. -/
def diagK (x : Vec F S1x4096x256 .bf16) (i : grid0.Coords) : Vec F S1x256x256 .bf16 :=
  View.ld x (Rect.unit (s := S1x4096x256) (k0_off5 i) S1x256x256.size (k0_off5_inb i))

/-- The values on the diagonal. -/
def diagV (x : Vec F S1x4096x128 .bf16) (i : grid0.Coords) : Vec F S1x256x128 .bf16 :=
  View.ld x (Rect.unit (s := S1x4096x128) (k0_off6 i) S1x256x128.size (k0_off6_inb i))

/-- One trip: one more block of keys. -/
def step (q : Vec F S1x256x256 .bf16) (kb : Vec F S1x256x256 .bf16) (vb : Vec F S1x256x128 .bf16) (s : State F) : State F :=
  (k0_pay18 (k0_pay3 (k0_pay17 q) kb s.1), k0_pay6 (k0_pay17 q) kb s.1 s.2.1, k0_pay7 (k0_pay17 q) kb s.1 s.2.2 vb)

/-- The state before the first block. -/
def start : State F := (k0_pay14, k0_pay15, k0_pay16)

/-- What the diagonal block makes of the state. -/
def fin (q : Vec F S1x256x256 .bf16) (kb : Vec F S1x256x256 .bf16) (vb : Vec F S1x256x128 .bf16) (s : State F) :
    Vec F S1x256x128 .bf16 :=
  k0_pay1 (k0_pay27 (k0_pay20 q kb) k0_pay21 s.1 s.2.2 vb) (k0_pay26 (k0_pay20 q kb) k0_pay21 s.1 s.2.1)

/-- The state before trip `k`, from the state `s` at the loop's entry. -/
def St (q : Vec F S1x256x256 .bf16) (i : grid0.Coords) (x1 : Vec F S1x4096x256 .bf16) (x2 : Vec F S1x4096x128 .bf16) (s : State F) :
    ℕ → State F
  | 0 => s
  | k + 1 => if h : k < (k0_t1_loop i).trips then step q (blkK x1 i ⟨k, h⟩) (blkV x2 i ⟨k, h⟩) (St q i x1 x2 s k)
      else St q i x1 x2 s k

section
variable (𝒱 : Variants) (c : Dev nD) (bd : Option 𝒱.V) (i : grid0.Coords)
  (arg3 : Memref sig .tc .vmem S1x256x256 .bf16) (harg3 : arg3.IsWhole) (arg4 : Memref sig .tc .vmem S1x4096x256 .bf16) (harg4 : arg4.IsWhole)
  (arg5 : Memref sig .tc .vmem S1x4096x128 .bf16) (harg5 : arg5.IsWhole) (arg6 : Memref sig .tc .vmem S1x256x128 .bf16) (harg6 : arg6.IsWhole)
  (arg7 : Memref sig .tc .vmem S256x1 .f32) (harg7 : arg7.IsWhole) (arg8 : Memref sig .tc .vmem S256x1 .f32) (harg8 : arg8.IsWhole)
  (arg9 : Memref sig .tc .vmem S256x128 .f32) (harg9 : arg9.IsWhole) (v12 : Vec F S1x256x256 .bf16)
  (x1 : Vec F S1x4096x256 .bf16) (x2 : Vec F S1x4096x128 .bf16)

/-- The pieces one trip stores. -/
theorem trip_eq (k : Fin (k0_t1_loop i).trips)
    (f7 : BufTy.Contents (Elt F) arg7.view.ty) (f8 : BufTy.Contents (Elt F) arg8.view.ty) (f9 : BufTy.Contents (Elt F) arg9.view.ty) :
    tripL_k0_t1 (F := F) 𝒱 c bd i arg3 harg3 arg4 harg4 arg5 harg5 arg6 harg6 arg7 harg7 arg8 harg8 arg9 harg9 v12 (harg4.unread x1) (harg5.unread x2) k f7 f8 f9
      = ([⟨Rect.unit ![0, 0] ![256, 1] inb_S256x1_S256x1_0_0, (step v12 (blkK x1 i k) (blkV x2 i k) (arg7.view.read (Elt F) f7, arg8.view.read (Elt F) f8, arg9.view.read (Elt F) f9)).1⟩],
         [⟨Rect.unit ![0, 0] ![256, 1] inb_S256x1_S256x1_0_0, (step v12 (blkK x1 i k) (blkV x2 i k) (arg7.view.read (Elt F) f7, arg8.view.read (Elt F) f8, arg9.view.read (Elt F) f9)).2.1⟩],
         [⟨Rect.unit ![0, 0] ![256, 128] inb_S256x128_S256x128_0_0, (step v12 (blkK x1 i k) (blkV x2 i k) (arg7.view.read (Elt F) f7, arg8.view.read (Elt F) f8, arg9.view.read (Elt F) f9)).2.2⟩]) := by
  unfold tripL_k0_t1 trip_k0_t1
  dsimp only
  sl_unfold_words
  simp only [View.readAt_eq_ld, harg4.read_unread, harg5.read_unread, ldCol, ldAcc]
  rfl

/-- What the three scratch buffers hold before trip `k`. -/
theorem loop_eq (G7 : BufTy.Contents (Elt F) arg7.view.ty) (G8 : BufTy.Contents (Elt F) arg8.view.ty) (G9 : BufTy.Contents (Elt F) arg9.view.ty) (k : ℕ) :
    (arg7.view.read (Elt F) (arg7.view.writes (Elt F) G7 (pb_k0_t1 (F := F) 𝒱 c bd i arg3 harg3 arg4 harg4 arg5 harg5 arg6 harg6 arg7 harg7 arg8 harg8 arg9 harg9 v12 (harg4.unread x1) (harg5.unread x2) G7 G8 G9 k).1),
      arg8.view.read (Elt F) (arg8.view.writes (Elt F) G8 (pb_k0_t1 (F := F) 𝒱 c bd i arg3 harg3 arg4 harg4 arg5 harg5 arg6 harg6 arg7 harg7 arg8 harg8 arg9 harg9 v12 (harg4.unread x1) (harg5.unread x2) G7 G8 G9 k).2.1),
      arg9.view.read (Elt F) (arg9.view.writes (Elt F) G9 (pb_k0_t1 (F := F) 𝒱 c bd i arg3 harg3 arg4 harg4 arg5 harg5 arg6 harg6 arg7 harg7 arg8 harg8 arg9 harg9 v12 (harg4.unread x1) (harg5.unread x2) G7 G8 G9 k).2.2))
      = St v12 i x1 x2 (arg7.view.read (Elt F) G7, arg8.view.read (Elt F) G8, arg9.view.read (Elt F) G9) k := by
  induction k with
  | zero => rfl
  | succ k ih =>
    by_cases h : k < (k0_t1_loop i).trips
    · have e := pb_k0_t1_succ (F := F) 𝒱 c bd i arg3 harg3 arg4 harg4 arg5 harg5 arg6 harg6 arg7 harg7 arg8 harg8 arg9 harg9 v12 (harg4.unread x1) (harg5.unread x2) G7 G8 G9 ⟨k, h⟩
      have t := trip_eq 𝒱 c bd i arg3 harg3 arg4 harg4 arg5 harg5 arg6 harg6 arg7 harg7 arg8 harg8 arg9 harg9 v12 x1 x2 ⟨k, h⟩
        (arg7.view.writes (Elt F) G7 (pb_k0_t1 (F := F) 𝒱 c bd i arg3 harg3 arg4 harg4 arg5 harg5 arg6 harg6 arg7 harg7 arg8 harg8 arg9 harg9 v12 (harg4.unread x1) (harg5.unread x2) G7 G8 G9 k).1)
        (arg8.view.writes (Elt F) G8 (pb_k0_t1 (F := F) 𝒱 c bd i arg3 harg3 arg4 harg4 arg5 harg5 arg6 harg6 arg7 harg7 arg8 harg8 arg9 harg9 v12 (harg4.unread x1) (harg5.unread x2) G7 G8 G9 k).2.1)
        (arg9.view.writes (Elt F) G9 (pb_k0_t1 (F := F) 𝒱 c bd i arg3 harg3 arg4 harg4 arg5 harg5 arg6 harg6 arg7 harg7 arg8 harg8 arg9 harg9 v12 (harg4.unread x1) (harg5.unread x2) G7 G8 G9 k).2.2)
      rw [ih] at t
      have t1 := congrArg Prod.fst t
      have t2 := congrArg (fun p => p.2.1) t
      have t3 := congrArg (fun p => p.2.2) t
      simp only at e t1 t2 t3
      rw [e, St, dif_pos h]
      refine Prod.ext ?_ (Prod.ext ?_ ?_)
      · simp only
        rw [t1, List.singleton_append, View.read_writes_full arg7.view]
      · simp only
        rw [t2, List.singleton_append, View.read_writes_full arg8.view]
      · simp only
        rw [t3, List.singleton_append, View.read_writes_full arg9.view]
    · rw [St, dif_neg h, ← ih, pb_k0_t1.eq_2]; unfold pb_k0_t1Step; rw [dif_neg h]

end

/-- A load of a whole scratch column after some stores and a list of earlier ones. -/
theorem readCovCol (v : View sig .tc .vmem S256x1 .f32) (L L' : List (View.Piece (Elt F) S256x1 .f32)) :
    v.readCov (L ++ L') (Rect.unit (s := S256x1) ![0, 0] ![256, 1] inb_S256x1_S256x1_0_0).toLoadRect
      = v.read (Elt F) (v.writes (Elt F) (v.writes (Elt F) v.junk L') L) := by
  rw [View.readCov, View.readAt_eq_ld, ldCol, View.writes_append]

/-- The same of the weighted values. -/
theorem readCovAcc (v : View sig .tc .vmem S256x128 .f32) (L L' : List (View.Piece (Elt F) S256x128 .f32)) :
    v.readCov (L ++ L') (Rect.unit (s := S256x128) ![0, 0] ![256, 128] inb_S256x128_S256x128_0_0).toLoadRect
      = v.read (Elt F) (v.writes (Elt F) (v.writes (Elt F) v.junk L') L) := by
  rw [View.readCov, View.readAt_eq_ld, ldAcc, View.writes_append]

/-- A load of a whole scratch column after a store of it. -/
theorem covCol (v : View sig .tc .vmem S256x1 .f32) (w : Vec F S256x1 .f32) (L : List (View.Piece (Elt F) S256x1 .f32)) :
    v.readCov (⟨Rect.unit (s := S256x1) ![0, 0] ![256, 1] inb_S256x1_S256x1_0_0, w⟩ :: L)
      (Rect.unit (s := S256x1) ![0, 0] ![256, 1] inb_S256x1_S256x1_0_0).toLoadRect = w :=
  View.readCov_full ..

/-- The same of the weighted values. -/
theorem covAcc (v : View sig .tc .vmem S256x128 .f32) (w : Vec F S256x128 .f32) (L : List (View.Piece (Elt F) S256x128 .f32)) :
    v.readCov (⟨Rect.unit (s := S256x128) ![0, 0] ![256, 128] inb_S256x128_S256x128_0_0, w⟩ :: L)
      (Rect.unit (s := S256x128) ![0, 0] ![256, 128] inb_S256x128_S256x128_0_0).toLoadRect = w :=
  View.readCov_full ..

/-- What a point's body leaves in its output block. -/
theorem out_eq (c : Dev nD) (i : grid0.Coords)
  (arg3 : Memref sig .tc .vmem S1x256x256 .bf16) (harg3 : arg3.IsWhole) (arg4 : Memref sig .tc .vmem S1x4096x256 .bf16) (harg4 : arg4.IsWhole)
  (arg5 : Memref sig .tc .vmem S1x4096x128 .bf16) (harg5 : arg5.IsWhole) (arg6 : Memref sig .tc .vmem S1x256x128 .bf16) (harg6 : arg6.IsWhole)
  (arg7 : Memref sig .tc .vmem S256x1 .f32) (harg7 : arg7.IsWhole) (arg8 : Memref sig .tc .vmem S256x1 .f32) (harg8 : arg8.IsWhole)
  (arg9 : Memref sig .tc .vmem S256x128 .f32) (harg9 : arg9.IsWhole)
    (x0 : Vec F S1x256x256 .bf16) (x1 : Vec F S1x4096x256 .bf16) (x2 : Vec F S1x4096x128 .bf16) :
    out0_A_3 c i arg3 harg3 arg4 harg4 arg5 harg5 arg6 harg6 arg7 harg7 arg8 harg8 arg9 harg9 x0 x1 x2
      = fin x0 (diagK x1 i) (diagV x2 i) (St x0 i x1 x2 start (k0_t1_loop i).trips) := by
  have cov := cover0_A_3 c i arg3 harg3 arg4 harg4 arg5 harg5 arg6 harg6 arg7 harg7 arg8 harg8 arg9 harg9 x0 x1 x2
  unfold out0_A_3
  rw [View.read_writes_eq_canon _ _ _ cov]
  unfold kernelRun0_A
  dsimp only
  rw [View.canon_unit_zero off3]
  sl_unfold_words
  have h2 : Scf.trips (k0_t2_loop i).lb (k0_t2_loop i).ub (k0_t2_loop i).st = 0 := Nat.le_zero.mp (k0_t2_abs i).2.1
  rw [h2, pb_k0_t2.eq_1]
  simp only [List.nil_append, View.readAt_eq_ld, harg3.read_unread, harg4.read_unread, harg5.read_unread, ldQ, covCol, covAcc,
    readCovCol, readCovAcc]
  have e := loop_eq Variants.none c none i arg3 harg3 arg4 harg4 arg5 harg5 arg6 harg6 arg7 harg7 arg8 harg8 arg9 harg9 x0 x1 x2
    (arg7.view.writes (Elt F) arg7.view.junk [⟨Rect.unit ![0, 0] ![256, 1] inb_S256x1_S256x1_0_0, k0_pay14⟩])
    (arg8.view.writes (Elt F) arg8.view.junk [⟨Rect.unit ![0, 0] ![256, 1] inb_S256x1_S256x1_0_0, k0_pay15⟩])
    (arg9.view.writes (Elt F) arg9.view.junk [⟨Rect.unit ![0, 0] ![256, 128] inb_S256x128_S256x128_0_0, k0_pay16⟩])
    (k0_t1_loop i).trips
  rw [View.read_writes_full arg7.view, View.read_writes_full arg8.view, View.read_writes_full arg9.view] at e
  have ht : Scf.trips (0#32) (Scalar.addi (0#32) (Scalar.muli (Scalar.divsi (Scalar.subi (BitVec.ofNat 32 ↑(i 2)) 0#32) 1#32) 1#32)) 1#32
      = (k0_t1_loop i).trips := rfl
  rw [ht]
  have e1 := congrArg Prod.fst e
  have e2 := congrArg (fun p => p.2.1) e
  have e3 := congrArg (fun p => p.2.2) e
  simp only at e1 e2 e3
  rw [e1, e2, e3]
  rfl

end Cert.MlaIdeal.Block
-- ==== Proof.FlashMath.lean ====
/- The mathematics of softmax attention for one row: the running maximum, the sum of the weights and the weighted values over
   the first keys, how a block of further keys changes them, and that keys of score minus infinity weigh nothing. -/
module

public import Idealize.ShloMosaic.Lib.Pointwise

@[expose] public section

set_option maxRecDepth 16384

noncomputable section

namespace Cert.Proof.Flash

open Idealize.ShloMosaic

/-- The largest of the first `n` scores. -/
def top (z : ℕ → EReal) (n : ℕ) : EReal := (Finset.range n).sup z

/-- The weight of key `s` when the largest of the first `n` scores is taken off. -/
def wt (z : ℕ → EReal) (n s : ℕ) : EReal := Ideal.exp (z s - top z n)

/-- The sum of the first `n` weights. -/
def den (z : ℕ → EReal) (n : ℕ) : EReal := ∑ s ∈ Finset.range n, wt z n s

/-- The first `n` values by their weights. -/
def num (z v : ℕ → EReal) (n : ℕ) : EReal := ∑ s ∈ Finset.range n, wt z n s * v s

/-- One entry of the attention: the weighted values over the sum of the weights, over the first `n` keys. -/
def att (z v : ℕ → EReal) (n : ℕ) : EReal := Ideal.div (num z v n) (den z n)

/-- Scores as a masked row has them: the first key's is a real number, each is a real number or minus infinity. -/
structure Row (z : ℕ → EReal) : Prop where
  first : ∃ x : ℝ, z 0 = (x : EReal)
  each : ∀ s, z s = ⊥ ∨ ∃ x : ℝ, z s = (x : EReal)

theorem sub_coe (s t : ℝ) : (s : EReal) - (t : EReal) = ((s - t : ℝ) : EReal) := (EReal.coe_sub s t).symm

theorem exp_coe (t : ℝ) : Ideal.exp (t : EReal) = ((Real.exp t : ℝ) : EReal) := rfl

theorem exp_bot_sub (t : ℝ) : Ideal.exp (⊥ - (t : EReal)) = 0 := by
  rw [EReal.bot_sub]; rfl

theorem fold_sup {ι : Type*} (S : Finset ι) (f : ι → EReal) : S.fold max ⊥ f = S.sup f := rfl

variable {z : ℕ → EReal}

theorem top_real (h : Row z) {n : ℕ} (hn : 0 < n) : ∃ x : ℝ, top z n = (x : EReal) := by
  obtain ⟨x, hx⟩ := h.first
  have hlo : (x : EReal) ≤ top z n := hx ▸ Finset.le_sup (f := z) (Finset.mem_range.2 hn)
  obtain ⟨s, _, hs⟩ := Finset.exists_mem_eq_sup (Finset.range n) ⟨0, Finset.mem_range.2 hn⟩ z
  rcases h.each s with h' | ⟨y, hy⟩
  · exact absurd (hlo.trans_eq (hs.trans h')) (by simp)
  · exact ⟨y, hs.trans hy⟩

/-- The largest score after one more block. -/
theorem top_block (z : ℕ → EReal) (o : ℕ) :
    max (top z o) (Finset.univ.fold max ⊥ fun t : Fin 256 => z (o + t.val)) = top z (o + 256) := by
  rw [fold_sup]
  apply le_antisymm
  · refine max_le (Finset.sup_mono fun s hs => ?_) (Finset.sup_le fun t _ => ?_)
    · simp only [Finset.mem_range] at hs ⊢; omega
    · exact Finset.le_sup (f := z) (Finset.mem_range.2 (by omega))
  · refine Finset.sup_le fun s hs => ?_
    rw [Finset.mem_range] at hs
    by_cases h : s < o
    · exact le_max_of_le_left (Finset.le_sup (f := z) (Finset.mem_range.2 h))
    · refine le_max_of_le_right ?_
      have := Finset.le_sup (f := fun t : Fin 256 => z (o + t.val)) (Finset.mem_univ ⟨s - o, by omega⟩)
      simpa [show o + (s - o) = s by omega] using this

/-- The largest score of a full row. -/
theorem top_full (z : ℕ → EReal) (n : ℕ) : (Finset.univ.fold max ⊥ fun t : Fin n => z t.val) = top z n := by
  rw [fold_sup]
  apply le_antisymm
  · exact Finset.sup_le fun t _ => Finset.le_sup (f := z) (Finset.mem_range.2 t.isLt)
  · refine Finset.sup_le fun s hs => ?_
    exact Finset.le_sup (f := fun t : Fin n => z t.val) (Finset.mem_univ ⟨s, Finset.mem_range.1 hs⟩)

/-- A weight against the old maximum, brought to the new one. -/
theorem wt_shift (h : Row z) {o n s : ℕ} (ho : 0 < o) (hn : o ≤ n) :
    Ideal.exp (top z o - top z n) * wt z o s = wt z n s := by
  obtain ⟨a, ha⟩ := top_real h ho
  obtain ⟨b, hb⟩ := top_real h (n := n) (by omega)
  unfold wt
  rw [ha, hb]
  rcases h.each s with h' | ⟨y, hy⟩
  · rw [h', exp_bot_sub, exp_bot_sub, mul_zero]
  · rw [hy, sub_coe, sub_coe, sub_coe, exp_coe, exp_coe, exp_coe, ← EReal.coe_mul, ← Real.exp_add]
    congr 2; ring

theorem mul_sum_real {ι : Type*} (S : Finset ι) (f : ι → EReal) {c : ℝ} (hc : 0 ≤ c) :
    (c : EReal) * ∑ s ∈ S, f s = ∑ s ∈ S, (c : EReal) * f s := by
  classical
  induction S using Finset.induction_on with
  | empty => simp
  | insert a S ha ih =>
    rw [Finset.sum_insert ha, Finset.sum_insert ha, EReal.left_distrib_of_nonneg_of_ne_top (by exact_mod_cast hc) (EReal.coe_ne_top _), ih]

/-- The sum over the first keys, brought to a new maximum. -/
theorem scale_sum (h : Row z) (o n : ℕ) (hn : o ≤ n) (v : ℕ → EReal) :
    Ideal.exp (top z o - top z n) * num z v o = ∑ s ∈ Finset.range o, wt z n s * v s := by
  rcases Nat.eq_zero_or_pos o with rfl | ho
  · simp [num]
  · obtain ⟨a, ha⟩ := top_real h ho
    obtain ⟨b, hb⟩ := top_real h (n := n) (by omega)
    have e : Ideal.exp (top z o - top z n) = ((Real.exp (a - b) : ℝ) : EReal) := by rw [ha, hb, sub_coe, exp_coe]
    unfold num
    rw [e, mul_sum_real _ _ (Real.exp_pos _).le, ← e]
    refine Finset.sum_congr rfl fun s _ => ?_
    rw [← mul_assoc, wt_shift h ho hn]

theorem block_sum (f : ℕ → EReal) (o : ℕ) :
    ∑ s ∈ Finset.range o, f s + ∑ t : Fin 256, f (o + t.val) = ∑ s ∈ Finset.range (o + 256), f s := by
  rw [Fin.sum_univ_eq_sum_range (fun n => f (o + n)) 256, Finset.sum_range_add]

/-- The weighted values after one more block. -/
theorem num_block (h : Row z) (v : ℕ → EReal) (o : ℕ) :
    Ideal.exp (top z o - top z (o + 256)) * num z v o
      + ∑ t : Fin 256, Ideal.exp (z (o + t.val) - top z (o + 256)) * v (o + t.val) = num z v (o + 256) := by
  rw [scale_sum h o (o + 256) (by omega)]
  exact block_sum (fun s => wt z (o + 256) s * v s) o

theorem den_eq_num (z : ℕ → EReal) (n : ℕ) : den z n = num z (fun _ => 1) n := by
  unfold den num; simp only [mul_one]

/-- The sum of the weights after one more block. -/
theorem den_block (h : Row z) (o : ℕ) :
    Ideal.exp (top z o - top z (o + 256)) * den z o + ∑ t : Fin 256, Ideal.exp (z (o + t.val) - top z (o + 256))
      = den z (o + 256) := by
  have := num_block h (fun _ => 1) o
  simpa only [den_eq_num, mul_one] using this

/-- Keys of score minus infinity weigh nothing, so a row that ends before them is the whole row. -/
theorem att_stop (h : Row z) (v : ℕ → EReal) {n N : ℕ} (hn : 0 < n) (hN : n ≤ N) (hz : ∀ s, n ≤ s → z s = ⊥) :
    att z v n = att z v N := by
  have ht : top z n = top z N := by
    refine le_antisymm (Finset.sup_mono fun s hs => ?_) (Finset.sup_le fun s _ => ?_)
    · simp only [Finset.mem_range] at hs ⊢; omega
    · by_cases hs : s < n
      · exact Finset.le_sup (f := z) (Finset.mem_range.2 hs)
      · rw [hz s (by omega)]; exact bot_le
  have e : ∀ v, num z v n = num z v N := fun v => by
    obtain ⟨b, hb⟩ := top_real h hn
    unfold num wt
    rw [← ht, hb]
    refine Finset.sum_subset (fun s hs => ?_) fun s _ hs => ?_
    · simp only [Finset.mem_range] at hs ⊢; omega
    · rw [hz s (by simpa using hs), exp_bot_sub, zero_mul]
  unfold att
  rw [den_eq_num, den_eq_num, e, e]

theorem wt_real (h : Row z) {n : ℕ} (hn : 0 < n) (s : ℕ) : ∃ x : ℝ, 0 ≤ x ∧ wt z n s = (x : EReal) := by
  obtain ⟨b, hb⟩ := top_real h hn
  unfold wt
  rw [hb]
  rcases h.each s with h' | ⟨y, hy⟩
  · exact ⟨0, le_rfl, by rw [h', exp_bot_sub]; rfl⟩
  · exact ⟨Real.exp (y - b), (Real.exp_pos _).le, by rw [hy, sub_coe, exp_coe]⟩

/-- The sum of the weights is a positive real number. -/
theorem den_real (h : Row z) {n : ℕ} (hn : 0 < n) : ∃ x : ℝ, 0 < x ∧ den z n = (x : EReal) := by
  choose w hw0 hw using wt_real h hn
  obtain ⟨y, hy⟩ := h.first
  obtain ⟨b, hb⟩ := top_real h hn
  have hp : 0 < w 0 := by
    have := hw 0
    unfold wt at this
    rw [hy, hb, sub_coe, exp_coe] at this
    rw [← EReal.coe_eq_coe_iff.1 this]
    exact Real.exp_pos _
  refine ⟨∑ s ∈ Finset.range n, w s, Finset.sum_pos' (fun s _ => hw0 s) ⟨0, Finset.mem_range.2 hn, hp⟩, ?_⟩
  unfold den
  rw [Finset.sum_congr rfl fun s _ => hw s]
  exact (map_sum (⟨⟨fun x : ℝ => (x : EReal), EReal.coe_zero⟩, EReal.coe_add⟩ : ℝ →+ EReal) w _).symm

/-- Dividing each weight first gives the same. -/
theorem att_split (h : Row z) (v : ℕ → EReal) {n : ℕ} (hn : 0 < n) :
    ∑ s ∈ Finset.range n, Ideal.div (wt z n s) (den z n) * v s = att z v n := by
  obtain ⟨x, hx, e⟩ := den_real h hn
  have hne : (x : EReal) ≠ 0 := by exact_mod_cast hx.ne'
  unfold att num
  rw [e]
  simp only [Ideal.div, if_neg hne]
  rw [← EReal.coe_inv, mul_comm _ ((x⁻¹ : ℝ) : EReal), mul_sum_real _ _ (inv_nonneg.2 hx.le)]
  refine Finset.sum_congr rfl fun s _ => ?_
  rw [mul_comm (wt z n s), mul_assoc]

/-- The attention of a row depends on the scores and values of its keys only. -/
theorem att_congr {z z' v v' : ℕ → EReal} {n : ℕ} (hz : ∀ s < n, z s = z' s) (hv : ∀ s < n, v s = v' s) : att z v n = att z' v' n := by
  have ht : top z n = top z' n := Finset.sup_congr rfl fun s hs => hz s (Finset.mem_range.1 hs)
  unfold att num den wt
  rw [ht]
  congr 1 <;> refine Finset.sum_congr rfl fun s hs => ?_ <;> rw [Finset.mem_range] at hs
  · rw [hz s hs, hv s hs]
  · rw [hz s hs]

end Cert.Proof.Flash
-- ==== Proof.MlaStep.lean ====
/- The blocks of keys of the latent attention's launch, entry by entry: each brings a row's maximum, its sum of weights and its
   weighted values to the keys up to the block's end, and the diagonal block divides. -/
module

public import proofs.«01_k».proof.Proof.MlaBlock
public import proofs.«01_k».proof.Proof.FlashMath
public import Idealize.ShloMosaic.Lib.WordCmp

@[expose] public section

set_option maxRecDepth 16384

noncomputable section

namespace Cert.MlaIdeal.Step

open Cert.MlaIdeal Cert.MlaIdeal.Gen Cert.MlaIdeal.Block Cert.Proof.Flash Idealize.ShloMosaic

theorem neg_inf : Ideal.ofBits FTy.f32 4286578688#32 = ⊥ := by
  simp [Ideal.ofBits, Ideal.ieee, -EReal.coe_mul]

section
variable (q kb : Vec Ideal S1x256x256 .bf16) (vb : Vec Ideal S1x256x128 .bf16) (a : Fin 256) (d : Fin 128) (o : ℕ)
  {z : ℕ → EReal} (hr : Row z) (v : ℕ → EReal) (s : State Ideal)
  (hm : s.1 (ix2 a 0) = top z o) (hl : s.2.1 (ix2 a 0) = den z o) (ha : s.2.2 (ix2 a d) = num z v o)
  (hv : ∀ t : Fin 256, vb (ix3 0 t d) = v (o + t.val))

section
variable (hz : ∀ t : Fin 256, (∑ x, q (ix3 0 a x) * kb (ix3 0 t x)) * Ideal.ofBits FTy.f32 1033096506#32 = z (o + t.val))
include hz

theorem score_apply (t : Fin 256) : k0_pay2 (k0_pay17 q) kb (ix2 a t) = z (o + t.val) := by
  rw [← hz t]
  pointwise [k0_pay2, k0_pay17]

include hm

theorem top_apply : k0_pay3 (k0_pay17 q) kb s.1 (ix2 a 0) = top z (o + 256) := by
  pointwise [k0_pay3]
  simp only [score_apply q kb a o hz, hm, neg_inf]
  exact top_block z o

theorem top_step : (step q kb vb s).1 (ix2 a 0) = top z (o + 256) := by
  unfold step
  pointwise [k0_pay18]
  exact top_apply q kb a o s hm hz

include hr hl

theorem den_step : (step q kb vb s).2.1 (ix2 a 0) = den z (o + 256) := by
  unfold step
  pointwise [k0_pay6, k0_pay4, k0_pay5]
  simp only [score_apply q kb a o hz, top_apply q kb a o s hm hz, hm, hl]
  exact den_block hr o

omit hl
include ha hv

theorem num_step : (step q kb vb s).2.2 (ix2 a d) = num z v (o + 256) := by
  unfold step
  pointwise [k0_pay7, k0_pay4, k0_pay5]
  simp only [score_apply q kb a o hz, top_apply q kb a o s hm hz, hm, ha, hv]
  exact num_block hr v o

end

section
variable (hz : ∀ t : Fin 256,
  (if t.val ≤ a.val then (∑ x, q (ix3 0 a x) * kb (ix3 0 t x)) * Ideal.ofBits FTy.f32 1033096506#32 else ⊥) = z (o + t.val))
include hz

theorem scoreD_apply (t : Fin 256) : k0_pay22 (k0_pay20 q kb) k0_pay21 (ix2 a t) = z (o + t.val) := by
  rw [← hz t]
  pointwise [k0_pay22, k0_pay21, k0_pay20, k0_pay17]
  rw [WordCmp.cmpi_sle_ofNat (by omega) (by omega), WordCmp.select_ofBool, neg_inf]
  simp only [decide_eq_true_eq]

include hm

theorem topD_apply : k0_pay23 (k0_pay20 q kb) k0_pay21 s.1 (ix2 a 0) = top z (o + 256) := by
  pointwise [k0_pay23]
  simp only [scoreD_apply q kb a o hz, hm, neg_inf]
  exact top_block z o

include hr hl ha hv

/-- The output block's entry. -/
theorem fin_apply : fin q kb vb s (ix3 0 a d) = att z v (o + 256) := by
  unfold fin
  pointwise [k0_pay1, k0_pay26, k0_pay27, k0_pay24, k0_pay25]
  simp only [scoreD_apply q kb a o hz, topD_apply q kb a o s hm hz, hm, hl, ha, hv]
  rw [den_block hr o, num_block hr v o]
  rfl

end
end

theorem start_top (z : ℕ → EReal) (a : Fin 256) : (start (F := Ideal)).1 (ix2 a 0) = top z 0 := by
  unfold start
  pointwise [k0_pay14]
  exact neg_inf

theorem start_den (z : ℕ → EReal) (a : Fin 256) : (start (F := Ideal)).2.1 (ix2 a 0) = den z 0 := by
  unfold start
  pointwise [k0_pay15]
  rfl

theorem start_num (z v : ℕ → EReal) (a : Fin 256) (d : Fin 128) : (start (F := Ideal)).2.2 (ix2 a d) = num z v 0 := by
  unfold start
  pointwise [k0_pay16]
  rfl

end Cert.MlaIdeal.Step
-- ==== Proof.MlaOut.lean ====
/- What a point of the latent attention's launch leaves in its output block, entry by entry: the row's attention. -/
module

public import proofs.«01_k».proof.Proof.MlaStep

@[expose] public section

set_option maxRecDepth 16384

noncomputable section

namespace Cert.MlaIdeal.Out

open Cert.MlaIdeal Cert.MlaIdeal.Gen Cert.MlaIdeal.Block Cert.MlaIdeal.Step Cert.Proof.Flash Idealize.ShloMosaic

theorem trips_eq : ∀ i : grid0.Coords, (k0_t1_loop i).trips = (i 2).val := by decide +kernel

theorem ldBlockK (x : Vec Ideal S1x4096x256 .bf16) (o : ℕ) (off : Fin 3 → ℕ) (hoff : off = ![0, o, 0])
    (inb : ∀ a, off a + S1x256x256.size a ≤ S1x4096x256.size a) (t d : Fin 256) (hn : o + t.val < 4096) :
    View.ld x (Rect.unit (s := S1x4096x256) off S1x256x256.size inb) (ix3 0 t d) = x (ix3 0 ⟨o + t.val, hn⟩ d) := by
  subst hoff
  pointwise

theorem ldBlockV (x : Vec Ideal S1x4096x128 .bf16) (o : ℕ) (off : Fin 3 → ℕ) (hoff : off = ![0, o, 0])
    (inb : ∀ a, off a + S1x256x128.size a ≤ S1x4096x128.size a) (t : Fin 256) (d : Fin 128) (hn : o + t.val < 4096) :
    View.ld x (Rect.unit (s := S1x4096x128) off S1x256x128.size inb) (ix3 0 t d) = x (ix3 0 ⟨o + t.val, hn⟩ d) := by
  subst hoff
  pointwise

section
variable (i : grid0.Coords) (x0 : Vec Ideal S1x256x256 .bf16) (x1 : Vec Ideal S1x4096x256 .bf16) (x2 : Vec Ideal S1x4096x128 .bf16)
  (a : Fin 256) {z : ℕ → EReal} (hr : Row z)
  (hz : ∀ s : Fin 4096, s.val ≤ 256 * (i 2).val + a.val →
    (∑ x, x0 (ix3 0 a x) * x1 (ix3 0 s x)) * Ideal.ofBits FTy.f32 1033096506#32 = z s.val)
  (hz' : ∀ s : ℕ, 256 * (i 2).val + a.val < s → z s = ⊥)
  (d : Fin 128) (v : ℕ → EReal) (hv : ∀ s : Fin 4096, x2 (ix3 0 s d) = v s.val)
include hr hz hv

/-- The state before trip `k`: the keys of the first `k` blocks. -/
theorem st_apply (k : ℕ) (hk : k ≤ (i 2).val) :
    (St x0 i x1 x2 start k).1 (ix2 a 0) = top z (256 * k) ∧ (St x0 i x1 x2 start k).2.1 (ix2 a 0) = den z (256 * k)
      ∧ (St x0 i x1 x2 start k).2.2 (ix2 a d) = num z v (256 * k) := by
  have hi : (i 2).val < 16 := (i 2).isLt
  induction k with
  | zero => exact ⟨start_top z a, start_den z a, start_num z v a d⟩
  | succ k ih =>
    obtain ⟨hm, hl, ha⟩ := ih (by omega)
    have h : k < (k0_t1_loop i).trips := by rw [trips_eq]; omega
    have hzk : ∀ t : Fin 256, (∑ x, x0 (ix3 0 a x) * blkK x1 i ⟨k, h⟩ (ix3 0 t x)) * Ideal.ofBits FTy.f32 1033096506#32
        = z (256 * k + t.val) := fun t => by
      rw [Finset.sum_congr rfl fun x _ => by rw [blkK, ldBlockK x1 _ _ (k0_off1_eq i ⟨k, h⟩) _ t x (by simp only; omega)]]
      exact hz ⟨_, _⟩ (by simp only; omega)
    have hvk : ∀ t : Fin 256, blkV x2 i ⟨k, h⟩ (ix3 0 t d) = v (256 * k + t.val) := fun t => by
      rw [blkV, ldBlockV x2 _ _ (k0_off2_eq i ⟨k, h⟩) _ t d (by simp only; omega)]
      exact hv ⟨_, _⟩
    rw [St, dif_pos h]
    exact ⟨top_step x0 _ _ a _ _ hm hzk, den_step x0 _ _ a _ hr _ hm hl hzk, num_step x0 _ _ a d _ hr v _ hm ha hvk hzk⟩

include hz'

/-- The output block's entry: the row's attention over all keys. -/
theorem out_apply :
    fin x0 (diagK x1 i) (diagV x2 i) (St x0 i x1 x2 start (k0_t1_loop i).trips) (ix3 0 a d) = att z v 4096 := by
  have hi : (i 2).val < 16 := (i 2).isLt
  obtain ⟨hm, hl, ha⟩ := st_apply i x0 x1 x2 a hr hz d v hv (i 2).val le_rfl
  rw [trips_eq]
  have hzk : ∀ t : Fin 256, (if t.val ≤ a.val then (∑ x, x0 (ix3 0 a x) * diagK x1 i (ix3 0 t x)) * Ideal.ofBits FTy.f32 1033096506#32
      else ⊥) = z (256 * (i 2).val + t.val) := fun t => by
    by_cases h : t.val ≤ a.val
    · rw [if_pos h, Finset.sum_congr rfl fun x _ => by rw [diagK, ldBlockK x1 _ _ (k0_off5_eq i) _ t x (by omega)]]
      exact hz ⟨_, _⟩ (by simp only; omega)
    · rw [if_neg h, hz' _ (by omega)]
  have hvk : ∀ t : Fin 256, diagV x2 i (ix3 0 t d) = v (256 * (i 2).val + t.val) := fun t => by
    rw [diagV, ldBlockV x2 _ _ (k0_off6_eq i) _ t d (by omega)]
    exact hv ⟨_, _⟩
  rw [fin_apply x0 _ _ a d _ hr v _ hm hl ha hvk hzk]
  exact att_stop hr v (by omega) (by omega) fun s hs => hz' s (by omega)

end

end Cert.MlaIdeal.Out
-- ==== Proof.MlaMath.lean ====
/- The latent attention as a formula: scores, the masked row of a query, and the result with the heads side by side. -/
module

public import proofs.«01_k».proof.Proof.FlashMath

@[expose] public section

set_option maxRecDepth 16384

noncomputable section

namespace Cert.Proof.Mla

open Idealize.ShloMosaic Cert.Proof.Flash

abbrev Wide : Type := (⟨3, ![2, 4096, 4096]⟩ : Shape).Idx → EReal
abbrev Slim : Type := (⟨3, ![2, 4096, 2048]⟩ : Shape).Idx → EReal

/-- The scaled score of query `r` and key `s` in batch `b` and head `h`. -/
def score (q k : Wide) (b : Fin 2) (h : Fin 16) (r s : Fin 4096) : EReal :=
  (∑ d : Fin 256, q (ix3 b r ⟨256 * h.val + d.val, by omega⟩) * k (ix3 b s ⟨256 * h.val + d.val, by omega⟩))
    * Ideal.ofBits FTy.f32 1033096506#32

/-- Query `r`'s scores, minus infinity after the query. -/
def row (q k : Wide) (b : Fin 2) (h : Fin 16) (r : Fin 4096) (s : ℕ) : EReal :=
  if hs : s < 4096 then (if s ≤ r.val then score q k b h r ⟨s, hs⟩ else ⊥) else ⊥

/-- A column of values. -/
def vals (v : Slim) (b : Fin 2) (h : Fin 16) (d : Fin 128) (s : ℕ) : EReal :=
  if hs : s < 4096 then v (ix3 b ⟨s, hs⟩ ⟨128 * h.val + d.val, by omega⟩) else 0

/-- Every score is a real number. -/
def RealScores (q k : Wide) : Prop := ∀ b h r s, ∃ x : ℝ, score q k b h r s = (x : EReal)

theorem row_is (q k : Wide) (hx : RealScores q k) (b : Fin 2) (h : Fin 16) (r : Fin 4096) : Row (row q k b h r) where
  first := by
    obtain ⟨x, e⟩ := hx b h r ⟨0, by omega⟩
    exact ⟨x, by unfold row; rw [dif_pos (by omega), if_pos (by omega)]; exact e⟩
  each s := by
    unfold row
    by_cases hs : s < 4096
    · rw [dif_pos hs]
      by_cases hr : s ≤ r.val
      · rw [if_pos hr]; exact .inr (hx b h r ⟨s, hs⟩)
      · rw [if_neg hr]; exact .inl rfl
    · rw [dif_neg hs]; exact .inl rfl

/-- One entry of the attention. -/
def attnAt (q k : Wide) (v : Slim) (b : Fin 2) (r : Fin 4096) (h : Fin 16) (d : Fin 128) : EReal :=
  att (row q k b h r) (vals v b h d) 4096

/-- The attention's result, the heads side by side. -/
def attn (q k : Wide) (v : Slim) (j : (⟨3, ![2, 4096, 2048]⟩ : Shape).Idx) : EReal :=
  attnAt q k v (j 0) (j 1) ⟨(j 2).val / 128, by have : (j 2).val < 2048 := (j 2).isLt; omega⟩ ⟨(j 2).val % 128, by omega⟩

theorem attn_ix3 (q k : Wide) (v : Slim) (b : Fin 2) (r : Fin 4096) (h : Fin 16) (d : Fin 128)
    (n : Fin 2048) (hn : n.val = 128 * h.val + d.val) : attn q k v (ix3 b r n) = attnAt q k v b r h d := by
  show attnAt q k v b r ⟨n.val / 128, _⟩ ⟨n.val % 128, _⟩ = _
  congr 1 <;> apply Fin.ext <;> simp only [hn] <;> omega

end Cert.Proof.Mla
-- ==== Proof.MlaArray.lean ====
/- The result array of the latent attention's launch: each point writes one head's block of rows, and together the blocks are
   the whole array. -/
module

public import proofs.«01_k».proof.Proof.MlaOut
public import proofs.«01_k».proof.Proof.MlaMath
public import Idealize.ShloMosaic.Lib.Pipeline.Value

@[expose] public section

set_option maxRecDepth 16384

noncomputable section

namespace Cert.MlaIdeal.Array

open Cert.MlaIdeal Cert.MlaIdeal.Gen Cert.MlaIdeal.Block Cert.MlaIdeal.Out Cert.Proof.Mla Idealize.ShloMosaic
  Idealize.ShloMosaic.TcCoe Idealize.SL.Sem

theorem index0 : ∀ t : Fin grid0.N, win0_0.index t = ![(grid0.coords t 0).val, (grid0.coords t 2).val, (grid0.coords t 1).val] := by
  decide +kernel
theorem index1 : ∀ t : Fin grid0.N, win0_1.index t = ![(grid0.coords t 0).val, 0, (grid0.coords t 1).val] := by
  decide +kernel
theorem index2 : ∀ t : Fin grid0.N, win0_2.index t = ![(grid0.coords t 0).val, 0, (grid0.coords t 1).val] := by
  decide +kernel
theorem index3 : ∀ t : Fin grid0.N, win0_3.index t = ![(grid0.coords t 0).val, (grid0.coords t 2).val, (grid0.coords t 1).val] := by
  decide +kernel

/-- The point that writes head `h`'s block of rows `q` in batch `b`. -/
def pt (b : Fin 2) (q h : Fin 16) : Fin grid0.N := ⟨256 * b.val + 16 * h.val + q.val, by rw [N_0]; omega⟩

theorem point_of : ∀ (b : Fin 2) (q h : Fin 16), win0_3.index (pt b q h) = ![b.val, q.val, h.val] := by
  decide +kernel

variable (m : (ℓ : Loc nD τ sig) → Buf (Elt Ideal) ℓ)

/-- The queries. -/
abbrev qs (c : Dev nD) : Wide := m ((c : Thread nD τ).loc main_arg0)
/-- The keys. -/
abbrev ks (c : Dev nD) : Wide := m ((c : Thread nD τ).loc main_arg1)
/-- The values. -/
abbrev vs (c : Dev nD) : Slim := m ((c : Thread nD τ).loc main_arg2)

theorem iblk0_apply (c : Dev nD) (t : Fin cfg0.N) (b : Fin 2) (q h : Fin 16) (hb : (grid0.coords t 0).val = b.val)
    (hh : (grid0.coords t 1).val = h.val) (hq : (grid0.coords t 2).val = q.val) (a d : Fin 256) :
    (iblk m c 0 t : Vec Ideal S1x256x256 .bf16) (ix3 0 a d)
      = qs m c (ix3 b ⟨256 * q.val + a.val, by omega⟩ ⟨256 * h.val + d.val, by omega⟩) := by
  unfold iblk
  rw [View.read_apply]
  show V m c main_arg0 _ = m (c.tc.loc main_arg0) _
  unfold V
  congr 1
  funext x
  apply Fin.ext
  have e := index0 t
  match x with
  | ⟨0, _⟩ => show win0_0.index t 0 * 1 + 1 * 0 = b.val; rw [e]; show (grid0.coords t 0).val * 1 + 1 * 0 = _; omega
  | ⟨1, _⟩ => show win0_0.index t 1 * 256 + 1 * a.val = _; rw [e]; show (grid0.coords t 2).val * 256 + 1 * a.val = 256 * q.val + a.val; omega
  | ⟨2, _⟩ => show win0_0.index t 2 * 256 + 1 * d.val = _; rw [e]; show (grid0.coords t 1).val * 256 + 1 * d.val = 256 * h.val + d.val; omega

theorem iblk1_apply (c : Dev nD) (t : Fin cfg0.N) (b : Fin 2) (h : Fin 16) (hb : (grid0.coords t 0).val = b.val)
    (hh : (grid0.coords t 1).val = h.val) (s : Fin 4096) (d : Fin 256) :
    (iblk m c 1 t : Vec Ideal S1x4096x256 .bf16) (ix3 0 s d) = ks m c (ix3 b s ⟨256 * h.val + d.val, by omega⟩) := by
  unfold iblk
  rw [View.read_apply]
  show V m c main_arg1 _ = m (c.tc.loc main_arg1) _
  unfold V
  congr 1
  funext x
  apply Fin.ext
  have e := index1 t
  match x with
  | ⟨0, _⟩ => show win0_1.index t 0 * 1 + 1 * 0 = b.val; rw [e]; show (grid0.coords t 0).val * 1 + 1 * 0 = _; omega
  | ⟨1, _⟩ => show win0_1.index t 1 * 4096 + 1 * s.val = s.val; rw [e]; show 0 * 4096 + 1 * s.val = s.val; omega
  | ⟨2, _⟩ => show win0_1.index t 2 * 256 + 1 * d.val = _; rw [e]; show (grid0.coords t 1).val * 256 + 1 * d.val = 256 * h.val + d.val; omega

theorem iblk2_apply (c : Dev nD) (t : Fin cfg0.N) (b : Fin 2) (h : Fin 16) (hb : (grid0.coords t 0).val = b.val)
    (hh : (grid0.coords t 1).val = h.val) (s : Fin 4096) (d : Fin 128) :
    (iblk m c 2 t : Vec Ideal S1x4096x128 .bf16) (ix3 0 s d) = vs m c (ix3 b s ⟨128 * h.val + d.val, by omega⟩) := by
  unfold iblk
  rw [View.read_apply]
  show V m c main_arg2 _ = m (c.tc.loc main_arg2) _
  unfold V
  congr 1
  funext x
  apply Fin.ext
  have e := index2 t
  match x with
  | ⟨0, _⟩ => show win0_2.index t 0 * 1 + 1 * 0 = b.val; rw [e]; show (grid0.coords t 0).val * 1 + 1 * 0 = _; omega
  | ⟨1, _⟩ => show win0_2.index t 1 * 4096 + 1 * s.val = s.val; rw [e]; show 0 * 4096 + 1 * s.val = s.val; omega
  | ⟨2, _⟩ => show win0_2.index t 2 * 128 + 1 * d.val = _; rw [e]; show (grid0.coords t 1).val * 128 + 1 * d.val = 128 * h.val + d.val; omega

/-- What a point writes back is the attention's block. -/
theorem flushed_eq (c : Dev nD) (hx : RealScores (qs m c) (ks m c)) (t : Fin cfg0.N) (hf : (cfg0.win 3).flush t = true) :
    (dats m 0 c).flushed 3 t = ((cfg0.win 3).blk t).view.read (Elt Ideal) (attn (qs m c) (ks m c) (vs m c)) := by
  rw [Value.flushed3_A, out_eq]
  obtain ⟨b, hb⟩ : ∃ b : Fin 2, (grid0.coords t 0).val = b.val := ⟨grid0.coords t 0, rfl⟩
  obtain ⟨h, hh⟩ : ∃ h : Fin 16, (grid0.coords t 1).val = h.val := ⟨grid0.coords t 1, rfl⟩
  obtain ⟨q, hq⟩ : ∃ q : Fin 16, (grid0.coords t 2).val = q.val := ⟨grid0.coords t 2, rfl⟩
  show (fun j : S1x256x128.Idx => _) = _
  funext j
  obtain ⟨u, a, d, rfl⟩ : ∃ (u : Fin 1) (a : Fin 256) (d : Fin 128), j = ix3 u a d := ⟨j 0, j 1, j 2, eq_ix3 j⟩
  obtain rfl : u = 0 := Subsingleton.elim _ _
  rw [View.read_apply]
  have key := out_apply (grid0.coords t) (iblk m c 0 t) (iblk m c 1 t) (iblk m c 2 t) a
    (row_is (qs m c) (ks m c) hx b h ⟨256 * q.val + a.val, by omega⟩) (fun s hs => by
      rw [hq] at hs
      rw [Finset.sum_congr rfl fun x _ => by rw [iblk0_apply m c t b q h hb hh hq, iblk1_apply m c t b h hb hh]]
      unfold row
      rw [dif_pos s.isLt, if_pos hs]
      rfl) (fun s hs => by
      rw [hq] at hs
      unfold row
      by_cases h4 : s < 4096
      · rw [dif_pos h4, if_neg (by simp only; omega)]
      · rw [dif_neg h4]) d (vals (vs m c) b h d) (fun s => by
      rw [iblk2_apply m c t b h hb hh, vals, dif_pos s.isLt])
  refine key.trans ?_
  have e := index3 t
  have ij : ((cfg0.win 3).blk t).view.emb (ix3 0 a d)
      = ix3 b ⟨256 * q.val + a.val, by omega⟩ ⟨128 * h.val + d.val, by omega⟩ := by
    funext x
    apply Fin.ext
    match x with
    | ⟨0, _⟩ => show win0_3.index t 0 * 1 + 1 * 0 = b.val; rw [e]; show (grid0.coords t 0).val * 1 + 1 * 0 = _; omega
    | ⟨1, _⟩ => show win0_3.index t 1 * 256 + 1 * a.val = _; rw [e]; show (grid0.coords t 2).val * 256 + 1 * a.val = 256 * q.val + a.val; omega
    | ⟨2, _⟩ => show win0_3.index t 2 * 128 + 1 * d.val = _; rw [e]; show (grid0.coords t 1).val * 128 + 1 * d.val = 128 * h.val + d.val; omega
  rw [ij, attn_ix3 _ _ _ b _ h d _ rfl]
  rfl

/-- The result array. -/
theorem final_eq (c : Dev nD) (hx : RealScores (qs m c) (ks m c)) : (dats m 0 c).arrAt 3 cfg0.N = attn (qs m c) (ks m c) (vs m c) :=
  (dats m 0 c).arrAt_eq_of_cover 3 (attn (qs m c) (ks m c) (vs m c)) (flushed_eq m c hx) fun i => by
    have h0 : (i 0 : Nat) < 2 := (i 0).isLt
    have h1 : (i 1 : Nat) < 4096 := (i 1).isLt
    have h2 : (i 2 : Nat) < 2048 := (i 2).isLt
    have ht := point_of ⟨i 0, h0⟩ ⟨i 1 / 256, by omega⟩ ⟨i 2 / 128, by omega⟩
    generalize pt ⟨i 0, h0⟩ ⟨i 1 / 256, by omega⟩ ⟨i 2 / 128, by omega⟩ = t at ht
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [ht]; show (i 0 : Nat) * 1 ≤ (i 0 : Nat) ∧ (i 0 : Nat) < (i 0 : Nat) * 1 + 1; omega
    | ⟨1, _⟩ => show win0_3.index t 1 * 256 ≤ (i 1 : Nat) ∧ (i 1 : Nat) < win0_3.index t 1 * 256 + 256
                rw [ht]; show (i 1 : Nat) / 256 * 256 ≤ (i 1 : Nat) ∧ (i 1 : Nat) < (i 1 : Nat) / 256 * 256 + 256; omega
    | ⟨2, _⟩ => show win0_3.index t 2 * 128 ≤ (i 2 : Nat) ∧ (i 2 : Nat) < win0_3.index t 2 * 128 + 128
                rw [ht]; show (i 2 : Nat) / 128 * 128 ≤ (i 2 : Nat) ∧ (i 2 : Nat) < (i 2 : Nat) / 128 * 128 + 128; omega

end Cert.MlaIdeal.Array
-- ==== Proof.MlaRef.lean ====
/- The reference of the latent attention, entry by entry: the whole matrix of masked scores, its softmax along the keys, and the
   weighted values. -/
module

public import proofs.«01_k».proof.Proof.Gen.MlaRefIdeal.Run
public import proofs.«01_k».proof.Proof.MlaMath
public import Idealize.ShloMosaic.Lib.WordCmp

@[expose] public section

set_option maxRecDepth 16384

noncomputable section

namespace Cert.MlaRefIdeal.Ref

open Cert.MlaRefIdeal Cert.MlaRefIdeal.Gen Cert.Proof.Flash Cert.Proof.Mla Idealize.ShloMosaic Idealize.ShloMosaic.TcCoe Idealize.SL.Sem

abbrev Sq : Type := FVec Ideal S2x16x4096x4096 .f32

/-- Queries or keys, split into heads. -/
def headsT (x : FVec Ideal S2x4096x4096 .bf16) : FVec Ideal S2x16x4096x256 .f32 :=
  transpose S2x16x4096x256 [0, 2, 1, 3] (shapeCast S2x4096x16x256 (extf .f32 x bitsLt_bf16_f32)
    shapeCasts_S2x4096x4096_S2x4096x16x256) transposes_S2x4096x16x256_S2x16x4096x256_0_2_1_3

/-- The values, split into heads. -/
def headsV (x : FVec Ideal S2x4096x2048 .bf16) : FVec Ideal S2x16x4096x128 .f32 :=
  transpose S2x16x4096x128 [0, 2, 1, 3] (shapeCast S2x4096x16x128 (extf .f32 x bitsLt_bf16_f32)
    shapeCasts_S2x4096x2048_S2x4096x16x128) transposes_S2x4096x16x128_S2x16x4096x128_0_2_1_3

/-- The scores. -/
def scoreT (q k : FVec Ideal S2x4096x4096 .bf16) : Sq :=
  mulf (Host.dotGeneral dot_S2x16x4096x256_S2x16x4096x256_S2x16x4096x4096_3_3_2_2_01_01 none (headsT q) (headsT k))
    (broadcastInDim S2x16x4096x4096 ![] bcast_S_S2x16x4096x4096 (constant S_ .f32 0x3D93CD3A#32))

/-- Which keys come no later than the row. -/
def causalT : IVec S2x16x4096x4096 1 :=
  broadcastInDim S2x16x4096x4096 ![2, 3] bcast_S4096x4096_S2x16x4096x4096_2_3 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The masked scores. -/
def maskT (z : Sq) : Sq :=
  select causalT z (broadcastInDim S2x16x4096x4096 ![] bcast_S_S2x16x4096x4096 (id (constant (F := Ideal) S_ .f32 0xFF800000#32)))

/-- A number per row, along its keys. -/
def alongT (x : FVec Ideal S2x16x4096 .f32) : Sq :=
  broadcastInDim S2x16x4096x4096 ![0, 1, 2, 3] bcast_S2x16x4096x1_S2x16x4096x4096_0_1_2_3
    (broadcastInDim S2x16x4096x1 ![0, 1, 2] bcast_S2x16x4096_S2x16x4096x1_0_1_2 x)

/-- Each row's largest score. -/
def topT (z : Sq) : FVec Ideal S2x16x4096 .f32 :=
  maximumf (broadcastInDim S2x16x4096 ![] bcast_S_S2x16x4096 (constant S_ .f32 0xFF800000#32))
    (Host.reduce FloatOps.maximumf z (constant S_ .f32 0xFF800000#32) reducesTo_S2x16x4096x4096_S2x16x4096_d3 h_S_)

/-- The weights before the division. -/
def wtT (z : Sq) : Sq := Host.exp (subf z (alongT (topT z)))

/-- The softmax along the keys. -/
def softT (z : Sq) : Sq :=
  Host.divf (wtT z) (alongT (Host.reduceAdd (wtT z) (constant S_ .f32 0x00000000#32) reducesTo_S2x16x4096x4096_S2x16x4096_d3 h_S_))

/-- The result. -/
def outT (q k : FVec Ideal S2x4096x4096 .bf16) (v : FVec Ideal S2x4096x2048 .bf16) : FVec Ideal S2x4096x2048 .bf16 :=
  truncf .bf16 (shapeCast S2x4096x2048 (transpose S2x4096x16x128 [0, 2, 1, 3]
    (Host.dotGeneral dot_S2x16x4096x4096_S2x16x4096x128_S2x16x4096x128_3_2_2_3_01_01 none (softT (maskT (scoreT q k))) (headsV v))
    transposes_S2x16x4096x128_S2x4096x16x128_0_2_1_3) shapeCasts_S2x4096x16x128_S2x4096x2048) bitsLt_bf16_f32

theorem res_eq (m : (ℓ : Loc nD τ sig) → Buf (Elt Ideal) ℓ) (c : Dev nD) :
    Value.res_main_v33 m c = outT (m ((c.tc : Thread nD τ).loc main_arg0)) (m ((c.tc : Thread nD τ).loc main_arg1))
      (m ((c.tc : Thread nD τ).loc main_arg2)) := by
  unfold Value.res_main_v33
  rfl

theorem headsT_apply (x : FVec Ideal S2x4096x4096 .bf16) (b : Fin 2) (g : Fin 16) (r : Fin 4096) (d : Fin 256) :
    headsT x (ix4 b g r d) = x (ix3 b r ⟨256 * g.val + d.val, by omega⟩) := by
  pointwise [headsT]
  congr 2
  exact Fin.ext (by show g.val * 256 + d.val = 256 * g.val + d.val; omega)

theorem headsV_apply (x : FVec Ideal S2x4096x2048 .bf16) (b : Fin 2) (g : Fin 16) (r : Fin 4096) (d : Fin 128) :
    headsV x (ix4 b g r d) = x (ix3 b r ⟨128 * g.val + d.val, by omega⟩) := by
  pointwise [headsV]
  congr 2
  exact Fin.ext (by show g.val * 128 + d.val = 128 * g.val + d.val; omega)

theorem scoreT_apply (q k : FVec Ideal S2x4096x4096 .bf16) (b : Fin 2) (g : Fin 16) (r s : Fin 4096) :
    scoreT q k (ix4 b g r s) = score q k b g r s := by
  pointwise [scoreT]
  simp only [headsT_apply]
  rfl

theorem neg_inf : Ideal.ofBits FTy.f32 4286578688#32 = ⊥ := by
  simp [Ideal.ofBits, Ideal.ieee, -EReal.coe_mul]

theorem maskT_apply (z : Sq) (b : Fin 2) (g : Fin 16) (r s : Fin 4096) :
    maskT z (ix4 b g r s) = if s.val ≤ r.val then z (ix4 b g r s) else ⊥ := by
  pointwise [maskT, causalT]
  rw [WordCmp.cmpi_sle_ofNat (by omega) (by omega), WordCmp.select_ofBool]
  simp only [decide_eq_true_eq]
  rw [show id (constant (F := Ideal) S_ FTy.f32 4286578688#32) ix0 = (⊥ : EReal) from neg_inf]

/-- A maximum over a row that starts at minus infinity. -/
theorem fold_top {n : ℕ} (x : EReal) (f : Fin n → EReal) (z : ℕ → EReal) (hx : x = ⊥) (hf : ∀ s : Fin n, f s = z s.val) :
    Finset.univ.fold max x f = top z n := by
  rw [hx, ← top_full z n]
  congr 1
  exact funext hf

/-- The largest entry of a row, read off the reduction. -/
theorem red_apply (Z : Sq) (c : FVec Ideal S_ .f32) (b : Fin 2) (g : Fin 16) (r : Fin 4096) :
    Host.reduce FloatOps.maximumf Z c reducesTo_S2x16x4096x4096_S2x16x4096_d3 h_S_ (ix3 b g r)
      = Finset.univ.fold max (c (Shape.Idx.first h_S_)) fun s : Fin 4096 => Z (ix4 b g r s) := by
  rw [Host.reduce_eq_fold, Shape.ReducesTo.fold_fiber_r4_a3]
  rfl

section
variable (Z : Sq) (b : Fin 2) (g : Fin 16) (r : Fin 4096) (z : ℕ → EReal) (hz : ∀ s : Fin 4096, Z (ix4 b g r s) = z s.val)
include hz

theorem row_top : Finset.univ.fold max ((constant (F := Ideal) S_ .f32 0xFF800000#32) (Shape.Idx.first h_S_))
    (fun s : Fin 4096 => Z (ix4 b g r s)) = top z 4096 :=
  fold_top _ _ z neg_inf hz

theorem red_top : Host.reduce FloatOps.maximumf Z (constant S_ .f32 0xFF800000#32) reducesTo_S2x16x4096x4096_S2x16x4096_d3 h_S_ (ix3 b g r) = top z 4096 := by
  rw [red_apply Z _ b g r]
  exact row_top Z b g r z hz

theorem topT_apply : topT Z (ix3 b g r) = top z 4096 := by
  unfold topT
  rw [maximumf_apply, red_top Z b g r z hz]
  show max (Ideal.ofBits FTy.f32 4286578688#32) _ = _
  rw [neg_inf, max_eq_right bot_le]

theorem wtT_apply (s : Fin 4096) : wtT Z (ix4 b g r s) = wt z 4096 s.val := by
  pointwise [wtT, alongT]
  rw [hz, topT_apply Z b g r z hz]
  rfl

theorem softT_apply (s : Fin 4096) : softT Z (ix4 b g r s) = Ideal.div (wt z 4096 s.val) (den z 4096) := by
  pointwise [softT, alongT]
  simp only [wtT_apply Z b g r z hz]
  unfold den
  rw [Fin.sum_univ_eq_sum_range (fun s => wt z 4096 s) 4096]

end

theorem outT_apply (q k : FVec Ideal S2x4096x4096 .bf16) (v : FVec Ideal S2x4096x2048 .bf16) (hx : RealScores q k)
    (b : Fin 2) (r : Fin 4096) (g : Fin 16) (d : Fin 128) :
    outT q k v (ix3 b r ⟨128 * g.val + d.val, by omega⟩) = attnAt q k v b r g d := by
  have hz : ∀ s : Fin 4096, maskT (scoreT q k) (ix4 b g r s) = row q k b g r s.val := fun s => by
    rw [maskT_apply, scoreT_apply]
    unfold row
    rw [dif_pos s.isLt]
  pointwise [outT]
  unfold attnAt
  rw [← att_split (row_is q k hx b g r) _ (by omega),
    ← Fin.sum_univ_eq_sum_range (fun s => Ideal.div (wt (row q k b g r) 4096 s) (den (row q k b g r) 4096) * vals v b g d s) 4096]
  refine Finset.sum_congr rfl fun s _ => ?_
  rw [softT_apply _ b g r _ hz s, headsV_apply]
  unfold vals
  rw [dif_pos s.isLt]

theorem outT_eq (q k : FVec Ideal S2x4096x4096 .bf16) (v : FVec Ideal S2x4096x2048 .bf16) (hx : RealScores q k) :
    outT q k v = attn q k v := by
  funext j
  obtain ⟨b, r, c, rfl⟩ : ∃ (b : Fin 2) (r : Fin 4096) (c : Fin 2048), j = ix3 b r c := ⟨j 0, j 1, j 2, eq_ix3 j⟩
  obtain ⟨g, d, rfl⟩ : ∃ (g : Fin 16) (d : Fin 128), c = ⟨128 * g.val + d.val, by omega⟩ :=
    ⟨⟨c.val / 128, by omega⟩, ⟨c.val % 128, by omega⟩, Fin.ext (by show c.val = 128 * (c.val / 128) + c.val % 128; omega)⟩
  rw [attn_ix3 q k v b r g d _ rfl]
  exact outT_apply q k v hx b r g d

end Cert.MlaRefIdeal.Ref
-- ==== Proof.MlaPre.lean ====
/- What the precondition of the latent attention gives: queries and keys are real numbers, so every score is. -/
module

public import proofs.«01_k».proof.Proof.Gen.Pre_mla_finite
public import proofs.«01_k».proof.Proof.MlaMath
public import Idealize.ShloMosaic.Lib.WordCmp
public import Idealize.ShloMosaic.Lib.ReduceAll

@[expose] public section

set_option maxRecDepth 16384

noncomputable section

namespace Cert.Pre_mla_finite.Read

open Cert.Pre_mla_finite Cert.Proof.Mla Idealize.ShloMosaic

theorem both_one : ∀ a b : BitVec 1, a &&& b = 1#1 → a = 1#1 ∧ b = 1#1 := by decide

/-- A value whose size is below plus infinity is a real number. -/
theorem real_of_lt (y : EReal)
    (h : BitVec.ofBool (decide (max y (-y) < Ideal.ofBits .f32 2139095040#32)) = 1#1) :
    ∃ t : ℝ, y = (t : EReal) := by
  have h2 : max y (-y) < Ideal.ofBits .f32 2139095040#32 := by
    by_contra hn
    rw [decide_eq_false hn] at h
    exact absurd h (by decide)
  induction y using EReal.rec with
  | bot => exact absurd h2 (by simp [Ideal.ofBits, Ideal.ieee, -EReal.coe_mul])
  | coe t => exact ⟨t, rfl⟩
  | top => exact absurd h2 (by simp [Ideal.ofBits, Ideal.ieee, -EReal.coe_mul])

theorem entry_real (hF : Facts) (x y : FVec Ideal S2x4096x4096 .bf16) (v : FVec Ideal S2x4096x2048 .bf16) (h : fn x y v = fun _ => 1#1)
    (b : Fin 2) (s : Fin 4096) (c : Fin 4096) :
    (∃ t : ℝ, x (ix3 b s c) = (t : EReal)) ∧ ∃ t : ℝ, y (ix3 b s c) = (t : EReal) := by
  have h0 := congrFun h (fun a => a.elim0)
  unfold fn at h0
  haveI : Subsingleton S_.Idx := ⟨fun a b => funext fun i => i.elim0⟩
  obtain ⟨h1, h2⟩ := both_one _ _ h0
  have e1 := Host.reduce_andi_all _ _ _ _ _ h1 (ix3 b s c)
  have e2 := Host.reduce_andi_all _ _ _ _ _ h2 (ix3 b s c)
  exact ⟨real_of_lt _ e1, real_of_lt _ e2⟩

theorem scores_real (hF : Facts) (x y : FVec Ideal S2x4096x4096 .bf16) (v : FVec Ideal S2x4096x2048 .bf16) (h : fn x y v = fun _ => 1#1) :
    RealScores x y := by
  have e := entry_real hF x y v h
  intro b g r s
  have hq : ∀ d : Fin 256, ∃ t : ℝ, x (ix3 b r ⟨256 * g.val + d.val, by omega⟩) = (t : EReal) := fun d => (e b r _).1
  have hk : ∀ d : Fin 256, ∃ t : ℝ, y (ix3 b s ⟨256 * g.val + d.val, by omega⟩) = (t : EReal) := fun d => (e b s _).2
  choose q hq using hq
  choose k hk using hk
  obtain ⟨w, hw⟩ : ∃ w : ℝ, Ideal.ofBits .f32 1033096506#32 = (w : EReal) :=
    ⟨_, (EReal.coe_toReal (by simp [Ideal.ofBits, Ideal.ieee, -EReal.coe_mul]) (by simp [Ideal.ofBits, Ideal.ieee, -EReal.coe_mul])).symm⟩
  refine ⟨(∑ d, q d * k d) * w, ?_⟩
  unfold score
  simp only [hq, hk, hw, ← EReal.coe_mul]
  rw [EReal.coe_mul]
  congr 1

end Cert.Pre_mla_finite.Read
-- ==== Proof.FoxBlock.lean ====
/- What one point of the forgetting attention's launch leaves in its output block, as a recursion over the key blocks: the blocks
   before the diagonal first to last, one per trip, then the block on the diagonal. -/
module

public import proofs.«01_k».proof.Proof.Gen.FoxIdeal.Value
public import Idealize.ShloMosaic.Lib.Pointwise
public import Idealize.ShloMosaic.Lib.VecWindow

@[expose] public section

set_option maxRecDepth 16384

noncomputable section

namespace Cert.FoxIdeal.Block

open Cert.FoxIdeal Cert.FoxIdeal.Gen Idealize.ShloMosaic Idealize.ShloMosaic.TcCoe Idealize.SL.Sem

variable {F : FTy → Type} [FloatOps F]

theorem off2 : (![0, 0] : Fin 2 → Nat) = fun _ => 0 := funext fun a => by fin_cases a <;> rfl
theorem off5 : (![0, 0, 0, 0, 0] : Fin 5 → Nat) = fun _ => 0 := funext fun a => by fin_cases a <;> rfl
theorem off3 : (![0, 0, 0] : Fin 3 → Nat) = fun _ => 0 := funext fun a => by fin_cases a <;> rfl

theorem ldCol (x : Vec F S256x1 .f32) : View.ld x (Rect.unit (s := S256x1) ![0, 0] ![256, 1] inb_S256x1_S256x1_0_0) = x :=
  View.ld_unit_zero off2 _ x

theorem ldAcc (x : Vec F S256x128 .f32) :
    View.ld x (Rect.unit (s := S256x128) ![0, 0] ![256, 128] inb_S256x128_S256x128_0_0) = x :=
  View.ld_unit_zero off2 _ x

theorem ldQ (x : Vec F S1x256x128 .bf16) :
    View.ld x (Rect.unit (s := S1x256x128) ![0, 0, 0] ![1, 256, 128] inb_S1x256x128_S1x256x128_0_0_0) = x :=
  View.ld_unit_zero off3 _ x

theorem ldC (x : Vec F S1x1x1x1x256 .f32) :
    View.ld x (Rect.unit (s := S1x1x1x1x256) ![0, 0, 0, 0, 0] ![1, 1, 1, 1, 256] inb_S1x1x1x1x256_S1x1x1x1x256_0_0_0_0_0) = x :=
  View.ld_unit_zero off5 _ x

/-- The running maxima, the running sums of weights and the weighted values of a block of rows. -/
abbrev State (F : FTy → Type) : Type := Vec F S256x1 .f32 × Vec F S256x1 .f32 × Vec F S256x128 .f32

/-- The keys that a trip reads. -/
def blkK (x : Vec F S1x4096x128 .bf16) (i : grid0.Coords) (k : Fin (k0_t1_loop i).trips) : Vec F S1x256x128 .bf16 :=
  View.ld x (Rect.unit (s := S1x4096x128) (k0_off1 i k) S1x256x128.size (k0_off1_inb i k))

/-- The values that a trip reads. -/
def blkV (x : Vec F S1x4096x128 .bf16) (i : grid0.Coords) (k : Fin (k0_t1_loop i).trips) : Vec F S1x256x128 .bf16 :=
  View.ld x (Rect.unit (s := S1x4096x128) (k0_off1 i k) S1x256x128.size (k0_off1_inb i k))

/-- The gates' sums at the keys that a trip reads. -/
def blkC (x : Vec F S1x1x16x1x256 .f32) (i : grid0.Coords) (k : Fin (k0_t1_loop i).trips) : Vec F S1x1x1x1x256 .f32 :=
  View.ld x (Rect.unit (s := S1x1x16x1x256) (k0_off2 i k) S1x1x1x1x256.size (k0_off2_inb i k))

/-- The keys on the diagonal. -/
def diagK (x : Vec F S1x4096x128 .bf16) (i : grid0.Coords) : Vec F S1x256x128 .bf16 :=
  View.ld x (Rect.unit (s := S1x4096x128) (k0_off5 i) S1x256x128.size (k0_off5_inb i))

/-- The values on the diagonal. -/
def diagV (x : Vec F S1x4096x128 .bf16) (i : grid0.Coords) : Vec F S1x256x128 .bf16 :=
  View.ld x (Rect.unit (s := S1x4096x128) (k0_off5 i) S1x256x128.size (k0_off5_inb i))

/-- The gates' sums at the keys on the diagonal. -/
def diagC (x : Vec F S1x1x16x1x256 .f32) (i : grid0.Coords) : Vec F S1x1x1x1x256 .f32 :=
  View.ld x (Rect.unit (s := S1x1x16x1x256) (k0_off6 i) S1x1x1x1x256.size (k0_off6_inb i))

/-- One trip: one more block of keys. -/
def step (q : Vec F S1x256x128 .bf16) (cq : Vec F S1x1x1x1x256 .f32) (kb vb : Vec F S1x256x128 .bf16) (cb : Vec F S1x1x1x1x256 .f32)
    (s : State F) : State F :=
  (k0_pay24 (k0_pay5 (k0_pay21 q) (k0_pay22 cq) kb cb s.1), k0_pay8 (k0_pay21 q) (k0_pay22 cq) kb cb s.1 s.2.1,
    k0_pay23 (k0_pay9 (k0_pay21 q) (k0_pay22 cq) kb cb s.1 s.2.2) (k0_pay10 (k0_pay21 q) (k0_pay22 cq) kb cb s.1) vb)

/-- The state before the first block. -/
def start : State F := (k0_pay18, k0_pay19, k0_pay20)

/-- What the diagonal block makes of the state. -/
def fin (q : Vec F S1x256x128 .bf16) (cq : Vec F S1x1x1x1x256 .f32) (kb vb : Vec F S1x256x128 .bf16) (cb : Vec F S1x1x1x1x256 .f32)
    (s : State F) : Vec F S1x256x128 .bf16 :=
  k0_pay3 (k0_pay1 (k0_pay29 (k0_pay21 q) (k0_pay22 cq) kb cb s.1) (k0_pay30 (k0_pay21 q) (k0_pay22 cq) kb cb s.1) s.2.2 vb)
    (k0_pay31 (k0_pay21 q) (k0_pay22 cq) kb cb s.1 s.2.1)

/-- The state before trip `k`, from the state `s` at the loop's entry. -/
def St (q : Vec F S1x256x128 .bf16) (cq : Vec F S1x1x1x1x256 .f32) (i : grid0.Coords) (x1 x2 : Vec F S1x4096x128 .bf16)
    (x4 : Vec F S1x1x16x1x256 .f32) (s : State F) : ℕ → State F
  | 0 => s
  | k + 1 => if h : k < (k0_t1_loop i).trips then
      step q cq (blkK x1 i ⟨k, h⟩) (blkV x2 i ⟨k, h⟩) (blkC x4 i ⟨k, h⟩) (St q cq i x1 x2 x4 s k)
      else St q cq i x1 x2 x4 s k

section
variable (𝒱 : Variants) (c : Dev nD) (bd : Option 𝒱.V) (i : grid0.Coords)
  (arg3 : Memref sig .tc .vmem S1x256x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x1x1x256 .f32) (harg6 : arg6.IsWhole) (arg7 : Memref sig .tc .vmem S1x1x16x1x256 .f32) (harg7 : arg7.IsWhole)
  (arg8 : Memref sig .tc .vmem S1x256x128 .bf16) (harg8 : arg8.IsWhole)
  (arg9 : Memref sig .tc .vmem S256x1 .f32) (harg9 : arg9.IsWhole) (arg10 : Memref sig .tc .vmem S256x1 .f32) (harg10 : arg10.IsWhole)
  (arg11 : Memref sig .tc .vmem S256x128 .f32) (harg11 : arg11.IsWhole) (v12 : Vec F S1x256x128 .bf16) (v14 : Vec F S1x1x1x1x256 .f32)
  (x1 : Vec F S1x4096x128 .bf16) (x2 : Vec F S1x4096x128 .bf16) (x4 : Vec F S1x1x16x1x256 .f32)

/-- The pieces one trip stores. -/
theorem trip_eq (k : Fin (k0_t1_loop i).trips)
    (f9 : BufTy.Contents (Elt F) arg9.view.ty) (f10 : BufTy.Contents (Elt F) arg10.view.ty) (f11 : BufTy.Contents (Elt F) arg11.view.ty) :
    tripL_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) k f9 f10 f11
      = ([⟨Rect.unit ![0, 0] ![256, 1] inb_S256x1_S256x1_0_0, (step v12 v14 (blkK x1 i k) (blkV x2 i k) (blkC x4 i k) (arg9.view.read (Elt F) f9, arg10.view.read (Elt F) f10, arg11.view.read (Elt F) f11)).1⟩],
         [⟨Rect.unit ![0, 0] ![256, 1] inb_S256x1_S256x1_0_0, (step v12 v14 (blkK x1 i k) (blkV x2 i k) (blkC x4 i k) (arg9.view.read (Elt F) f9, arg10.view.read (Elt F) f10, arg11.view.read (Elt F) f11)).2.1⟩],
         [⟨Rect.unit ![0, 0] ![256, 128] inb_S256x128_S256x128_0_0, (step v12 v14 (blkK x1 i k) (blkV x2 i k) (blkC x4 i k) (arg9.view.read (Elt F) f9, arg10.view.read (Elt F) f10, arg11.view.read (Elt F) f11)).2.2⟩]) := by
  unfold tripL_k0_t1 trip_k0_t1
  dsimp only
  sl_unfold_words
  simp only [View.readAt_eq_ld, harg4.read_unread, harg5.read_unread, harg7.read_unread, ldCol, ldAcc]
  rfl

/-- What the three scratch buffers hold before trip `k`. -/
theorem loop_eq (G9 : BufTy.Contents (Elt F) arg9.view.ty) (G10 : BufTy.Contents (Elt F) arg10.view.ty) (G11 : BufTy.Contents (Elt F) arg11.view.ty) (k : ℕ) :
    (arg9.view.read (Elt F) (arg9.view.writes (Elt F) G9 (pb_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 k).1),
      arg10.view.read (Elt F) (arg10.view.writes (Elt F) G10 (pb_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 k).2.1),
      arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 k).2.2))
      = St v12 v14 i x1 x2 x4 (arg9.view.read (Elt F) G9, arg10.view.read (Elt F) G10, arg11.view.read (Elt F) G11) k := by
  induction k with
  | zero => rfl
  | succ k ih =>
    by_cases h : k < (k0_t1_loop i).trips
    · have e := pb_k0_t1_succ (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 ⟨k, h⟩
      have t := trip_eq 𝒱 c bd i arg3 harg3 arg4 harg4 arg5 harg5 arg6 harg6 arg7 harg7 arg8 harg8 arg9 harg9 arg10 harg10 arg11 harg11 v12 v14 x1 x2 x4 ⟨k, h⟩
        (arg9.view.writes (Elt F) G9 (pb_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 k).1)
        (arg10.view.writes (Elt F) G10 (pb_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 k).2.1)
        (arg11.view.writes (Elt F) G11 (pb_k0_t1 (F := F) 𝒱 c bd i arg3 harg3 arg4 harg4 arg5 harg5 arg6 harg6 arg7 harg7 arg8 harg8 arg9 harg9 arg10 harg10 arg11 harg11 v12 v14 (harg4.unread x1) (harg5.unread x2) (harg7.unread x4) G9 G10 G11 k).2.2)
      rw [ih] at t
      have t1 := congrArg Prod.fst t
      have t2 := congrArg (fun p => p.2.1) t
      have t3 := congrArg (fun p => p.2.2) t
      simp only at e t1 t2 t3
      rw [e, St, dif_pos h]
      refine Prod.ext ?_ (Prod.ext ?_ ?_)
      · simp only
        rw [t1, List.singleton_append, View.read_writes_full arg9.view]
      · simp only
        rw [t2, List.singleton_append, View.read_writes_full arg10.view]
      · simp only
        rw [t3, List.singleton_append, View.read_writes_full arg11.view]
    · rw [St, dif_neg h, ← ih, pb_k0_t1.eq_2]; unfold pb_k0_t1Step; rw [dif_neg h]

end

/-- A load of a whole scratch column after some stores and a list of earlier ones. -/
theorem readCovCol (v : View sig .tc .vmem S256x1 .f32) (L L' : List (View.Piece (Elt F) S256x1 .f32)) :
    v.readCov (L ++ L') (Rect.unit (s := S256x1) ![0, 0] ![256, 1] inb_S256x1_S256x1_0_0).toLoadRect
      = v.read (Elt F) (v.writes (Elt F) (v.writes (Elt F) v.junk L') L) := by
  rw [View.readCov, View.readAt_eq_ld, ldCol, View.writes_append]

/-- The same of the weighted values. -/
theorem readCovAcc (v : View sig .tc .vmem S256x128 .f32) (L L' : List (View.Piece (Elt F) S256x128 .f32)) :
    v.readCov (L ++ L') (Rect.unit (s := S256x128) ![0, 0] ![256, 128] inb_S256x128_S256x128_0_0).toLoadRect
      = v.read (Elt F) (v.writes (Elt F) (v.writes (Elt F) v.junk L') L) := by
  rw [View.readCov, View.readAt_eq_ld, ldAcc, View.writes_append]

/-- A load of a whole scratch column after a store of it. -/
theorem covCol (v : View sig .tc .vmem S256x1 .f32) (w : Vec F S256x1 .f32) (L : List (View.Piece (Elt F) S256x1 .f32)) :
    v.readCov (⟨Rect.unit (s := S256x1) ![0, 0] ![256, 1] inb_S256x1_S256x1_0_0, w⟩ :: L)
      (Rect.unit (s := S256x1) ![0, 0] ![256, 1] inb_S256x1_S256x1_0_0).toLoadRect = w :=
  View.readCov_full ..

/-- The same of the weighted values. -/
theorem covAcc (v : View sig .tc .vmem S256x128 .f32) (w : Vec F S256x128 .f32) (L : List (View.Piece (Elt F) S256x128 .f32)) :
    v.readCov (⟨Rect.unit (s := S256x128) ![0, 0] ![256, 128] inb_S256x128_S256x128_0_0, w⟩ :: L)
      (Rect.unit (s := S256x128) ![0, 0] ![256, 128] inb_S256x128_S256x128_0_0).toLoadRect = w :=
  View.readCov_full ..

/-- What a point's body leaves in its output block. -/
theorem out_eq (c : Dev nD) (i : grid0.Coords)
  (arg3 : Memref sig .tc .vmem S1x256x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x1x1x256 .f32) (harg6 : arg6.IsWhole) (arg7 : Memref sig .tc .vmem S1x1x16x1x256 .f32) (harg7 : arg7.IsWhole)
  (arg8 : Memref sig .tc .vmem S1x256x128 .bf16) (harg8 : arg8.IsWhole)
  (arg9 : Memref sig .tc .vmem S256x1 .f32) (harg9 : arg9.IsWhole) (arg10 : Memref sig .tc .vmem S256x1 .f32) (harg10 : arg10.IsWhole)
  (arg11 : Memref sig .tc .vmem S256x128 .f32) (harg11 : arg11.IsWhole)
    (x0 : Vec F S1x256x128 .bf16) (x1 : Vec F S1x4096x128 .bf16) (x2 : Vec F S1x4096x128 .bf16)
    (x3 : Vec F S1x1x1x1x256 .f32) (x4 : Vec F S1x1x16x1x256 .f32) :
    out0_A_5 c i arg3 harg3 arg4 harg4 arg5 harg5 arg6 harg6 arg7 harg7 arg8 harg8 arg9 harg9 arg10 harg10 arg11 harg11 x0 x1 x2 x3 x4
      = fin x0 x3 (diagK x1 i) (diagV x2 i) (diagC x4 i) (St x0 x3 i x1 x2 x4 start (k0_t1_loop i).trips) := by
  have cov := cover0_A_5 c i arg3 harg3 arg4 harg4 arg5 harg5 arg6 harg6 arg7 harg7 arg8 harg8 arg9 harg9 arg10 harg10 arg11 harg11 x0 x1 x2 x3 x4
  unfold out0_A_5
  rw [View.read_writes_eq_canon _ _ _ cov]
  unfold kernelRun0_A
  dsimp only
  rw [View.canon_unit_zero off3]
  sl_unfold_words
  have h2 : Scf.trips (k0_t2_loop i).lb (k0_t2_loop i).ub (k0_t2_loop i).st = 0 := Nat.le_zero.mp (k0_t2_abs i).2.1
  rw [h2, pb_k0_t2.eq_1]
  simp only [List.nil_append, View.readAt_eq_ld, harg3.read_unread, harg4.read_unread, harg5.read_unread, harg6.read_unread, harg7.read_unread, ldQ, ldC, covCol, covAcc,
    readCovCol, readCovAcc]
  have e := loop_eq Variants.none c none i arg3 harg3 arg4 harg4 arg5 harg5 arg6 harg6 arg7 harg7 arg8 harg8 arg9 harg9 arg10 harg10 arg11 harg11 x0 x3 x1 x2 x4
    (arg9.view.writes (Elt F) arg9.view.junk [⟨Rect.unit ![0, 0] ![256, 1] inb_S256x1_S256x1_0_0, k0_pay18⟩])
    (arg10.view.writes (Elt F) arg10.view.junk [⟨Rect.unit ![0, 0] ![256, 1] inb_S256x1_S256x1_0_0, k0_pay19⟩])
    (arg11.view.writes (Elt F) arg11.view.junk [⟨Rect.unit ![0, 0] ![256, 128] inb_S256x128_S256x128_0_0, k0_pay20⟩])
    (k0_t1_loop i).trips
  rw [View.read_writes_full arg9.view, View.read_writes_full arg10.view, View.read_writes_full arg11.view] at e
  have ht : Scf.trips (0#32) (Scalar.addi (0#32) (Scalar.muli (Scalar.divsi (Scalar.subi (BitVec.ofNat 32 ↑(i 2)) 0#32) 1#32) 1#32)) 1#32
      = (k0_t1_loop i).trips := rfl
  rw [ht]
  have e1 := congrArg Prod.fst e
  have e2 := congrArg (fun p => p.2.1) e
  have e3 := congrArg (fun p => p.2.2) e
  simp only at e1 e2 e3
  rw [e1, e2, e3]
  rfl

end Cert.FoxIdeal.Block
-- ==== Proof.FoxStep.lean ====
/- The blocks of keys of the forgetting attention's launch, entry by entry: each brings a row's maximum, its sum of weights and its
   weighted values to the keys up to the block's end, and the diagonal block divides. -/
module

public import proofs.«01_k».proof.Proof.FoxBlock
public import proofs.«01_k».proof.Proof.FlashMath
public import Idealize.ShloMosaic.Lib.WordCmp

@[expose] public section

set_option maxRecDepth 16384

noncomputable section

namespace Cert.FoxIdeal.Step

open Cert.FoxIdeal Cert.FoxIdeal.Gen Cert.FoxIdeal.Block Cert.Proof.Flash Idealize.ShloMosaic

theorem neg_inf : Ideal.ofBits FTy.f32 4286578688#32 = ⊥ := by
  simp [Ideal.ofBits, Ideal.ieee, -EReal.coe_mul]

/-- The gates' sum at a row, picked off the diagonal. -/
theorem gate_apply (cq : Vec Ideal S1x1x1x1x256 .f32) (a : Fin 256) : k0_pay22 cq (ix2 a 0) = cq (ix5 0 0 0 0 a) := by
  pointwise [k0_pay22]
  rw [Finset.sum_eq_single a]
  · rw [WordCmp.cmpi_eq_ofNat (by omega) (by omega), WordCmp.select_ofBool, decide_eq_true rfl, if_pos rfl]
  · intro t _ ht
    rw [WordCmp.cmpi_eq_ofNat (by omega) (by omega), WordCmp.select_ofBool, decide_eq_false (fun e => ht (Fin.ext e.symm))]
    simp [Ideal.ofBits, Ideal.ieee, -EReal.coe_mul]
  · exact fun h => absurd (Finset.mem_univ a) h

section
variable (q : Vec Ideal S1x256x128 .bf16) (cq : Vec Ideal S1x1x1x1x256 .f32) (kb vb : Vec Ideal S1x256x128 .bf16)
  (cb : Vec Ideal S1x1x1x1x256 .f32) (a : Fin 256) (d : Fin 128) (o : ℕ)
  {z : ℕ → EReal} (hr : Row z) (v : ℕ → EReal) (s : State Ideal)
  (hm : s.1 (ix2 a 0) = top z o) (hl : s.2.1 (ix2 a 0) = den z o) (ha : s.2.2 (ix2 a d) = num z v o)
  (hv : ∀ t : Fin 256, vb (ix3 0 t d) = v (o + t.val))

section
variable (hz : ∀ t : Fin 256, (∑ x, q (ix3 0 a x) * kb (ix3 0 t x)) * Ideal.ofBits FTy.f32 1035273459#32
    + (cq (ix5 0 0 0 0 a) - cb (ix5 0 0 0 0 t)) = z (o + t.val))
include hz

theorem score_apply (t : Fin 256) : k0_pay4 (k0_pay21 q) (k0_pay22 cq) kb cb (ix2 a t) = z (o + t.val) := by
  rw [← hz t]
  pointwise [k0_pay4, k0_pay21]
  rw [gate_apply]

include hm

theorem top_apply : k0_pay5 (k0_pay21 q) (k0_pay22 cq) kb cb s.1 (ix2 a 0) = top z (o + 256) := by
  pointwise [k0_pay5]
  simp only [score_apply q cq kb cb a o hz, hm, neg_inf]
  exact top_block z o

theorem top_step : (step q cq kb vb cb s).1 (ix2 a 0) = top z (o + 256) := by
  unfold step
  pointwise [k0_pay24]
  exact top_apply q cq kb cb a o s hm hz

include hr hl

theorem den_step : (step q cq kb vb cb s).2.1 (ix2 a 0) = den z (o + 256) := by
  unfold step
  pointwise [k0_pay8, k0_pay6, k0_pay7]
  simp only [score_apply q cq kb cb a o hz, top_apply q cq kb cb a o s hm hz, hm, hl]
  exact den_block hr o

omit hl
include ha hv

theorem num_step : (step q cq kb vb cb s).2.2 (ix2 a d) = num z v (o + 256) := by
  unfold step
  pointwise [k0_pay23, k0_pay9, k0_pay10, k0_pay6, k0_pay7]
  simp only [score_apply q cq kb cb a o hz, top_apply q cq kb cb a o s hm hz, hm, ha, hv]
  exact num_block hr v o

end

section
variable (hz : ∀ t : Fin 256,
  (if t.val ≤ a.val then (∑ x, q (ix3 0 a x) * kb (ix3 0 t x)) * Ideal.ofBits FTy.f32 1035273459#32
    + (cq (ix5 0 0 0 0 a) - cb (ix5 0 0 0 0 t)) else ⊥) = z (o + t.val))
include hz

theorem scoreD_apply (t : Fin 256) : k0_pay27 (k0_pay21 q) (k0_pay22 cq) kb cb (ix2 a t) = z (o + t.val) := by
  rw [← hz t]
  pointwise [k0_pay27, k0_pay21]
  rw [WordCmp.cmpi_sle_ofNat (by omega) (by omega), WordCmp.select_ofBool, neg_inf, gate_apply]
  simp only [decide_eq_true_eq]

include hm

theorem topD_apply : k0_pay28 (k0_pay21 q) (k0_pay22 cq) kb cb s.1 (ix2 a 0) = top z (o + 256) := by
  pointwise [k0_pay28]
  simp only [scoreD_apply q cq kb cb a o hz, hm, neg_inf]
  exact top_block z o

include hr hl ha hv

/-- The output block's entry. -/
theorem fin_apply : fin q cq kb vb cb s (ix3 0 a d) = att z v (o + 256) := by
  unfold fin
  pointwise [k0_pay3, k0_pay1, k0_pay31, k0_pay29, k0_pay30]
  simp only [scoreD_apply q cq kb cb a o hz, topD_apply q cq kb cb a o s hm hz, hm, hl, ha, hv]
  rw [den_block hr o, num_block hr v o]
  rfl

end
end

theorem start_top (z : ℕ → EReal) (a : Fin 256) : (start (F := Ideal)).1 (ix2 a 0) = top z 0 := by
  unfold start
  pointwise [k0_pay18]
  exact neg_inf

theorem start_den (z : ℕ → EReal) (a : Fin 256) : (start (F := Ideal)).2.1 (ix2 a 0) = den z 0 := by
  unfold start
  pointwise [k0_pay19]
  rfl

theorem start_num (z v : ℕ → EReal) (a : Fin 256) (d : Fin 128) : (start (F := Ideal)).2.2 (ix2 a d) = num z v 0 := by
  unfold start
  pointwise [k0_pay20]
  rfl

end Cert.FoxIdeal.Step
-- ==== Proof.FoxOut.lean ====
/- What a point of the forgetting attention's launch leaves in its output block, entry by entry: the row's attention. -/
module

public import proofs.«01_k».proof.Proof.FoxStep

@[expose] public section

set_option maxRecDepth 16384

noncomputable section

namespace Cert.FoxIdeal.Out

open Cert.FoxIdeal Cert.FoxIdeal.Gen Cert.FoxIdeal.Block Cert.FoxIdeal.Step Cert.Proof.Flash Idealize.ShloMosaic

theorem trips_eq : ∀ i : grid0.Coords, (k0_t1_loop i).trips = (i 2).val := by decide +kernel

theorem ldBlock (x : Vec Ideal S1x4096x128 .bf16) (o : ℕ) (off : Fin 3 → ℕ) (hoff : off = ![0, o, 0])
    (inb : ∀ a, off a + S1x256x128.size a ≤ S1x4096x128.size a) (t : Fin 256) (d : Fin 128) (hn : o + t.val < 4096) :
    View.ld x (Rect.unit (s := S1x4096x128) off S1x256x128.size inb) (ix3 0 t d) = x (ix3 0 ⟨o + t.val, hn⟩ d) := by
  subst hoff
  pointwise

theorem ldGates (x : Vec Ideal S1x1x16x1x256 .f32) (o : ℕ) (off : Fin 5 → ℕ) (hoff : off = ![0, 0, o, 0, 0])
    (inb : ∀ a, off a + S1x1x1x1x256.size a ≤ S1x1x16x1x256.size a) (t : Fin 256) (u : Fin 16) (w : Fin 256)
    (hu : u.val = o) (hw : w.val = t.val) :
    View.ld x (Rect.unit (s := S1x1x16x1x256) off S1x1x1x1x256.size inb) (ix5 0 0 0 0 t) = x (ix5 0 0 u 0 w) := by
  obtain rfl := Fin.ext hw
  subst hoff hu
  pointwise

section
variable (i : grid0.Coords) (x0 : Vec Ideal S1x256x128 .bf16) (x1 x2 : Vec Ideal S1x4096x128 .bf16)
  (x3 : Vec Ideal S1x1x1x1x256 .f32) (x4 : Vec Ideal S1x1x16x1x256 .f32)
  (a : Fin 256) {z : ℕ → EReal} (hr : Row z)
  (hz : ∀ (s : Fin 4096) (u : Fin 16) (w : Fin 256), s.val = 256 * u.val + w.val → s.val ≤ 256 * (i 2).val + a.val →
    (∑ x, x0 (ix3 0 a x) * x1 (ix3 0 s x)) * Ideal.ofBits FTy.f32 1035273459#32
      + (x3 (ix5 0 0 0 0 a) - x4 (ix5 0 0 u 0 w)) = z s.val)
  (hz' : ∀ s : ℕ, 256 * (i 2).val + a.val < s → z s = ⊥)
  (d : Fin 128) (v : ℕ → EReal) (hv : ∀ s : Fin 4096, x2 (ix3 0 s d) = v s.val)
include hr hz hv

/-- The state before trip `k`: the keys of the first `k` blocks. -/
theorem st_apply (k : ℕ) (hk : k ≤ (i 2).val) :
    (St x0 x3 i x1 x2 x4 start k).1 (ix2 a 0) = top z (256 * k) ∧ (St x0 x3 i x1 x2 x4 start k).2.1 (ix2 a 0) = den z (256 * k)
      ∧ (St x0 x3 i x1 x2 x4 start k).2.2 (ix2 a d) = num z v (256 * k) := by
  have hi : (i 2).val < 16 := (i 2).isLt
  induction k with
  | zero => exact ⟨start_top z a, start_den z a, start_num z v a d⟩
  | succ k ih =>
    obtain ⟨hm, hl, ha⟩ := ih (by omega)
    have h : k < (k0_t1_loop i).trips := by rw [trips_eq]; omega
    have hzk : ∀ t : Fin 256, (∑ x, x0 (ix3 0 a x) * blkK x1 i ⟨k, h⟩ (ix3 0 t x)) * Ideal.ofBits FTy.f32 1035273459#32
        + (x3 (ix5 0 0 0 0 a) - blkC x4 i ⟨k, h⟩ (ix5 0 0 0 0 t)) = z (256 * k + t.val) := fun t => by
      rw [Finset.sum_congr rfl fun x _ => by rw [blkK, ldBlock x1 _ _ (k0_off1_eq i ⟨k, h⟩) _ t x (by simp only; omega)],
        blkC,
        ldGates x4 _ _ (k0_off2_eq i ⟨k, h⟩) _ t ⟨k, by omega⟩ t rfl rfl]
      exact hz ⟨256 * k + t.val, by omega⟩ ⟨k, by omega⟩ t rfl (by simp only; omega)
    have hvk : ∀ t : Fin 256, blkV x2 i ⟨k, h⟩ (ix3 0 t d) = v (256 * k + t.val) := fun t => by
      rw [blkV, ldBlock x2 _ _ (k0_off1_eq i ⟨k, h⟩) _ t d (by simp only; omega)]
      exact hv ⟨_, _⟩
    rw [St, dif_pos h]
    exact ⟨top_step x0 x3 _ _ _ a _ _ hm hzk, den_step x0 x3 _ _ _ a _ hr _ hm hl hzk, num_step x0 x3 _ _ _ a d _ hr v _ hm ha hvk hzk⟩

include hz'

/-- The output block's entry: the row's attention over all keys. -/
theorem out_apply :
    fin x0 x3 (diagK x1 i) (diagV x2 i) (diagC x4 i) (St x0 x3 i x1 x2 x4 start (k0_t1_loop i).trips) (ix3 0 a d) = att z v 4096 := by
  have hi : (i 2).val < 16 := (i 2).isLt
  obtain ⟨hm, hl, ha⟩ := st_apply i x0 x1 x2 x3 x4 a hr hz d v hv (i 2).val le_rfl
  rw [trips_eq]
  have hzk : ∀ t : Fin 256, (if t.val ≤ a.val then (∑ x, x0 (ix3 0 a x) * diagK x1 i (ix3 0 t x)) * Ideal.ofBits FTy.f32 1035273459#32
      + (x3 (ix5 0 0 0 0 a) - diagC x4 i (ix5 0 0 0 0 t)) else ⊥) = z (256 * (i 2).val + t.val) := fun t => by
    by_cases h : t.val ≤ a.val
    · rw [if_pos h, Finset.sum_congr rfl fun x _ => by rw [diagK, ldBlock x1 _ _ (k0_off5_eq i) _ t x (by omega)],
        diagC,
        ldGates x4 _ _ (k0_off6_eq i) _ t ⟨(i 2).val, by omega⟩ t rfl rfl]
      exact hz ⟨256 * (i 2).val + t.val, by omega⟩ ⟨(i 2).val, by omega⟩ t rfl (by simp only; omega)
    · rw [if_neg h, hz' _ (by omega)]
  have hvk : ∀ t : Fin 256, diagV x2 i (ix3 0 t d) = v (256 * (i 2).val + t.val) := fun t => by
    rw [diagV, ldBlock x2 _ _ (k0_off5_eq i) _ t d (by omega)]
    exact hv ⟨_, _⟩
  rw [fin_apply x0 x3 _ _ _ a d _ hr v _ hm hl ha hvk hzk]
  exact att_stop hr v (by omega) (by omega) fun s hs => hz' s (by omega)

end

end Cert.FoxIdeal.Out
-- ==== Proof.FoxMath.lean ====
/- The forgetting attention as a formula: scores, the masked row of a query, and the result with the heads side by side. -/
module

public import proofs.«01_k».proof.Proof.FlashMath

@[expose] public section

set_option maxRecDepth 16384

noncomputable section

namespace Cert.Proof.Fox

open Idealize.ShloMosaic Cert.Proof.Flash

abbrev Mix : Type := (⟨3, ![2, 4096, 6656]⟩ : Shape).Idx → EReal
abbrev Gates : Type := (⟨3, ![2, 16, 4096]⟩ : Shape).Idx → EReal

/-- The scaled score and the gates between the two, of query `r` and key `s` in batch `b` and head `h`. -/
def score (p : Mix) (c : Gates) (b : Fin 2) (h : Fin 16) (r s : Fin 4096) : EReal :=
  (∑ d : Fin 128, p (ix3 b r ⟨128 * h.val + d.val, by omega⟩) * p (ix3 b s ⟨2048 + (128 * h.val + d.val), by omega⟩))
    * Ideal.ofBits FTy.f32 1035273459#32 + (c (ix3 b h r) - c (ix3 b h s))

/-- Query `r`'s scores, minus infinity after the query. -/
def row (p : Mix) (c : Gates) (b : Fin 2) (h : Fin 16) (r : Fin 4096) (s : ℕ) : EReal :=
  if hs : s < 4096 then (if s ≤ r.val then score p c b h r ⟨s, hs⟩ else ⊥) else ⊥

/-- A column of values. -/
def vals (v : Mix) (b : Fin 2) (h : Fin 16) (d : Fin 128) (s : ℕ) : EReal :=
  if hs : s < 4096 then v (ix3 b ⟨s, hs⟩ ⟨4096 + (128 * h.val + d.val), by omega⟩) else 0

/-- Every score is a real number. -/
def RealScores (p : Mix) (c : Gates) : Prop := ∀ b h r s, ∃ x : ℝ, score p c b h r s = (x : EReal)

theorem row_is (p : Mix) (c : Gates) (hx : RealScores p c) (b : Fin 2) (h : Fin 16) (r : Fin 4096) : Row (row p c b h r) where
  first := by
    obtain ⟨x, e⟩ := hx b h r ⟨0, by omega⟩
    exact ⟨x, by unfold row; rw [dif_pos (by omega), if_pos (by omega)]; exact e⟩
  each s := by
    unfold row
    by_cases hs : s < 4096
    · rw [dif_pos hs]
      by_cases hr : s ≤ r.val
      · rw [if_pos hr]; exact .inr (hx b h r ⟨s, hs⟩)
      · rw [if_neg hr]; exact .inl rfl
    · rw [dif_neg hs]; exact .inl rfl

/-- One entry of the attention. -/
def attnAt (p : Mix) (c : Gates) (b : Fin 2) (r : Fin 4096) (h : Fin 16) (d : Fin 128) : EReal :=
  att (row p c b h r) (vals p b h d) 4096

/-- The attention's result, the heads side by side. -/
def attn (p : Mix) (c : Gates) (j : (⟨3, ![2, 4096, 2048]⟩ : Shape).Idx) : EReal :=
  attnAt p c (j 0) (j 1) ⟨(j 2).val / 128, by have : (j 2).val < 2048 := (j 2).isLt; omega⟩ ⟨(j 2).val % 128, by omega⟩

theorem attn_ix3 (p : Mix) (c : Gates) (b : Fin 2) (r : Fin 4096) (h : Fin 16) (d : Fin 128)
    (n : Fin 2048) (hn : n.val = 128 * h.val + d.val) : attn p c (ix3 b r n) = attnAt p c b r h d := by
  show attnAt p c b r ⟨n.val / 128, _⟩ ⟨n.val % 128, _⟩ = _
  congr 1 <;> apply Fin.ext <;> simp only [hn] <;> omega

end Cert.Proof.Fox
-- ==== Proof.FoxArray.lean ====
/- The result array of the forgetting attention's launch: each point writes one head's block of rows, and together the blocks are
   the whole array. -/
module

public import proofs.«01_k».proof.Proof.FoxOut
public import proofs.«01_k».proof.Proof.FoxMath
public import Idealize.ShloMosaic.Lib.Pipeline.Value

@[expose] public section

set_option maxRecDepth 16384

noncomputable section

namespace Cert.FoxIdeal.Array

open Cert.FoxIdeal Cert.FoxIdeal.Gen Cert.FoxIdeal.Block Cert.FoxIdeal.Out Cert.Proof.Fox Idealize.ShloMosaic
  Idealize.ShloMosaic.TcCoe Idealize.SL.Sem

theorem index0 : ∀ t : Fin grid0.N, win0_0.index t = ![(grid0.coords t 0).val, (grid0.coords t 2).val, (grid0.coords t 1).val] := by
  decide +kernel
theorem index1 : ∀ t : Fin grid0.N, win0_1.index t = ![(grid0.coords t 0).val, 0, 16 + (grid0.coords t 1).val] := by
  decide +kernel
theorem index2 : ∀ t : Fin grid0.N, win0_2.index t = ![(grid0.coords t 0).val, 0, 32 + (grid0.coords t 1).val] := by
  decide +kernel
theorem index3 : ∀ t : Fin grid0.N,
    win0_3.index t = ![(grid0.coords t 0).val, (grid0.coords t 1).val, (grid0.coords t 2).val, 0, 0] := by
  decide +kernel
theorem index4 : ∀ t : Fin grid0.N, win0_4.index t = ![(grid0.coords t 0).val, (grid0.coords t 1).val, 0, 0, 0] := by
  decide +kernel
theorem index5 : ∀ t : Fin grid0.N, win0_5.index t = ![(grid0.coords t 0).val, (grid0.coords t 2).val, (grid0.coords t 1).val] := by
  decide +kernel

/-- The point that writes head `h`'s block of rows `q` in batch `b`. -/
def pt (b : Fin 2) (q h : Fin 16) : Fin grid0.N := ⟨256 * b.val + 16 * h.val + q.val, by rw [N_0]; omega⟩

theorem point_of : ∀ (b : Fin 2) (q h : Fin 16), win0_5.index (pt b q h) = ![b.val, q.val, h.val] := by
  decide +kernel

variable (m : (ℓ : Loc nD τ sig) → Buf (Elt Ideal) ℓ)

/-- The projection. -/
abbrev mix (c : Dev nD) : Mix := m ((c : Thread nD τ).loc main_arg0)
/-- The running sums of the gates' logarithms. -/
abbrev gates (c : Dev nD) : Gates := m ((c : Thread nD τ).loc main_arg1)

theorem V_v0 (c : Dev nD) (b : Fin 2) (h u : Fin 16) (w : Fin 256) :
    (V m c main_v0 : Vec Ideal S2x16x16x1x256 .f32) (ix5 b h u 0 w) = gates m c (ix3 b h ⟨256 * u.val + w.val, by omega⟩) := by
  entry_read
  refine shapeCast_apply (gates m c) _ (ix5 b h u 0 w) (ix3 b h ⟨256 * u.val + w.val, by omega⟩) ?_
  rw [Shape.rowMajor_val_three, Shape.rowMajor_val_five]
  show (b.val * 16 + h.val) * 4096 + (256 * u.val + w.val) = (((b.val * 16 + h.val) * 16 + u.val) * 1 + 0) * 256 + w.val
  omega

theorem iblk0_apply (c : Dev nD) (t : Fin cfg0.N) (b : Fin 2) (q h : Fin 16) (hb : (grid0.coords t 0).val = b.val)
    (hh : (grid0.coords t 1).val = h.val) (hq : (grid0.coords t 2).val = q.val) (a : Fin 256) (d : Fin 128) :
    (iblk m c 0 t : Vec Ideal S1x256x128 .bf16) (ix3 0 a d)
      = mix m c (ix3 b ⟨256 * q.val + a.val, by omega⟩ ⟨128 * h.val + d.val, by omega⟩) := by
  unfold iblk
  rw [View.read_apply]
  refine Eq.trans (b := V m c main_arg0 (ix3 b ⟨256 * q.val + a.val, by omega⟩ ⟨128 * h.val + d.val, by omega⟩)) ?_ (congrFun (V_main_arg0 m c) _)
  refine congrArg (V m c main_arg0) ?_
  funext x
  apply Fin.ext
  have e := index0 t
  match x with
  | ⟨0, _⟩ => show win0_0.index t 0 * 1 + 1 * 0 = b.val; rw [e]; show (grid0.coords t 0).val * 1 + 1 * 0 = _; omega
  | ⟨1, _⟩ => show win0_0.index t 1 * 256 + 1 * a.val = _; rw [e]; show (grid0.coords t 2).val * 256 + 1 * a.val = 256 * q.val + a.val; omega
  | ⟨2, _⟩ => show win0_0.index t 2 * 128 + 1 * d.val = _; rw [e]; show (grid0.coords t 1).val * 128 + 1 * d.val = 128 * h.val + d.val; omega

theorem iblk1_apply (c : Dev nD) (t : Fin cfg0.N) (b : Fin 2) (h : Fin 16) (hb : (grid0.coords t 0).val = b.val)
    (hh : (grid0.coords t 1).val = h.val) (s : Fin 4096) (d : Fin 128) :
    (iblk m c 1 t : Vec Ideal S1x4096x128 .bf16) (ix3 0 s d) = mix m c (ix3 b s ⟨2048 + (128 * h.val + d.val), by omega⟩) := by
  unfold iblk
  rw [View.read_apply]
  refine Eq.trans (b := V m c main_arg0 (ix3 b s ⟨2048 + (128 * h.val + d.val), by omega⟩)) ?_ (congrFun (V_main_arg0 m c) _)
  refine congrArg (V m c main_arg0) ?_
  funext x
  apply Fin.ext
  have e := index1 t
  match x with
  | ⟨0, _⟩ => show win0_1.index t 0 * 1 + 1 * 0 = b.val; rw [e]; show (grid0.coords t 0).val * 1 + 1 * 0 = _; omega
  | ⟨1, _⟩ => show win0_1.index t 1 * 4096 + 1 * s.val = s.val; rw [e]; show 0 * 4096 + 1 * s.val = s.val; omega
  | ⟨2, _⟩ => show win0_1.index t 2 * 128 + 1 * d.val = _; rw [e]; show (16 + (grid0.coords t 1).val) * 128 + 1 * d.val = 2048 + (128 * h.val + d.val); omega

theorem iblk2_apply (c : Dev nD) (t : Fin cfg0.N) (b : Fin 2) (h : Fin 16) (hb : (grid0.coords t 0).val = b.val)
    (hh : (grid0.coords t 1).val = h.val) (s : Fin 4096) (d : Fin 128) :
    (iblk m c 2 t : Vec Ideal S1x4096x128 .bf16) (ix3 0 s d) = mix m c (ix3 b s ⟨4096 + (128 * h.val + d.val), by omega⟩) := by
  unfold iblk
  rw [View.read_apply]
  refine Eq.trans (b := V m c main_arg0 (ix3 b s ⟨4096 + (128 * h.val + d.val), by omega⟩)) ?_ (congrFun (V_main_arg0 m c) _)
  refine congrArg (V m c main_arg0) ?_
  funext x
  apply Fin.ext
  have e := index2 t
  match x with
  | ⟨0, _⟩ => show win0_2.index t 0 * 1 + 1 * 0 = b.val; rw [e]; show (grid0.coords t 0).val * 1 + 1 * 0 = _; omega
  | ⟨1, _⟩ => show win0_2.index t 1 * 4096 + 1 * s.val = s.val; rw [e]; show 0 * 4096 + 1 * s.val = s.val; omega
  | ⟨2, _⟩ => show win0_2.index t 2 * 128 + 1 * d.val = _; rw [e]; show (32 + (grid0.coords t 1).val) * 128 + 1 * d.val = 4096 + (128 * h.val + d.val); omega

theorem iblk3_apply (c : Dev nD) (t : Fin cfg0.N) (b : Fin 2) (q h : Fin 16) (hb : (grid0.coords t 0).val = b.val)
    (hh : (grid0.coords t 1).val = h.val) (hq : (grid0.coords t 2).val = q.val) (a : Fin 256) :
    (iblk m c 3 t : Vec Ideal S1x1x1x1x256 .f32) (ix5 0 0 0 0 a) = gates m c (ix3 b h ⟨256 * q.val + a.val, by omega⟩) := by
  unfold iblk
  rw [View.read_apply]
  refine Eq.trans (b := V m c main_v0 (ix5 b h q 0 a)) ?_ (V_v0 m c b h q a)
  refine congrArg (V m c main_v0) ?_
  funext x
  apply Fin.ext
  have e := index3 t
  match x with
  | ⟨0, _⟩ => show win0_3.index t 0 * 1 + 1 * 0 = b.val; rw [e]; show (grid0.coords t 0).val * 1 + 1 * 0 = _; omega
  | ⟨1, _⟩ => show win0_3.index t 1 * 1 + 1 * 0 = h.val; rw [e]; show (grid0.coords t 1).val * 1 + 1 * 0 = _; omega
  | ⟨2, _⟩ => show win0_3.index t 2 * 1 + 1 * 0 = q.val; rw [e]; show (grid0.coords t 2).val * 1 + 1 * 0 = _; omega
  | ⟨3, _⟩ => show win0_3.index t 3 * 1 + 1 * 0 = 0; rw [e]; rfl
  | ⟨4, _⟩ => show win0_3.index t 4 * 256 + 1 * a.val = a.val; rw [e]; show 0 * 256 + 1 * a.val = _; omega

theorem iblk4_apply (c : Dev nD) (t : Fin cfg0.N) (b : Fin 2) (h : Fin 16) (hb : (grid0.coords t 0).val = b.val)
    (hh : (grid0.coords t 1).val = h.val) (u : Fin 16) (w : Fin 256) :
    (iblk m c 4 t : Vec Ideal S1x1x16x1x256 .f32) (ix5 0 0 u 0 w) = gates m c (ix3 b h ⟨256 * u.val + w.val, by omega⟩) := by
  unfold iblk
  rw [View.read_apply]
  refine Eq.trans (b := V m c main_v0 (ix5 b h u 0 w)) ?_ (V_v0 m c b h u w)
  refine congrArg (V m c main_v0) ?_
  funext x
  apply Fin.ext
  have e := index4 t
  match x with
  | ⟨0, _⟩ => show win0_4.index t 0 * 1 + 1 * 0 = b.val; rw [e]; show (grid0.coords t 0).val * 1 + 1 * 0 = _; omega
  | ⟨1, _⟩ => show win0_4.index t 1 * 1 + 1 * 0 = h.val; rw [e]; show (grid0.coords t 1).val * 1 + 1 * 0 = _; omega
  | ⟨2, _⟩ => show win0_4.index t 2 * 16 + 1 * u.val = u.val; rw [e]; show 0 * 16 + 1 * u.val = _; omega
  | ⟨3, _⟩ => show win0_4.index t 3 * 1 + 1 * 0 = 0; rw [e]; rfl
  | ⟨4, _⟩ => show win0_4.index t 4 * 256 + 1 * w.val = w.val; rw [e]; show 0 * 256 + 1 * w.val = _; omega

/-- What a point writes back is the attention's block. -/
theorem flushed_eq (c : Dev nD) (hx : RealScores (mix m c) (gates m c)) (t : Fin cfg0.N) (hf : (cfg0.win 5).flush t = true) :
    (dats m 0 c).flushed 5 t = ((cfg0.win 5).blk t).view.read (Elt Ideal) (attn (mix m c) (gates m c)) := by
  rw [Value.flushed5_A, out_eq]
  obtain ⟨b, hb⟩ : ∃ b : Fin 2, (grid0.coords t 0).val = b.val := ⟨grid0.coords t 0, rfl⟩
  obtain ⟨h, hh⟩ : ∃ h : Fin 16, (grid0.coords t 1).val = h.val := ⟨grid0.coords t 1, rfl⟩
  obtain ⟨q, hq⟩ : ∃ q : Fin 16, (grid0.coords t 2).val = q.val := ⟨grid0.coords t 2, rfl⟩
  show (fun j : S1x256x128.Idx => _) = _
  funext j
  obtain ⟨u, a, d, rfl⟩ : ∃ (u : Fin 1) (a : Fin 256) (d : Fin 128), j = ix3 u a d := ⟨j 0, j 1, j 2, eq_ix3 j⟩
  obtain rfl : u = 0 := Subsingleton.elim _ _
  rw [View.read_apply]
  have key := out_apply (grid0.coords t) (iblk m c 0 t) (iblk m c 1 t) (iblk m c 2 t) (iblk m c 3 t) (iblk m c 4 t) a
    (row_is (mix m c) (gates m c) hx b h ⟨256 * q.val + a.val, by omega⟩) (fun s u w hu hs => by
      rw [hq] at hs
      rw [Finset.sum_congr rfl fun x _ => by rw [iblk0_apply m c t b q h hb hh hq, iblk1_apply m c t b h hb hh],
        iblk3_apply m c t b q h hb hh hq, iblk4_apply m c t b h hb hh]
      unfold row
      rw [dif_pos s.isLt, if_pos hs]
      unfold score
      rw [show (⟨256 * u.val + w.val, by omega⟩ : Fin 4096) = s from Fin.ext hu.symm]) (fun s hs => by
      rw [hq] at hs
      unfold row
      by_cases h4 : s < 4096
      · rw [dif_pos h4, if_neg (by simp only; omega)]
      · rw [dif_neg h4]) d (vals (mix m c) b h d) (fun s => by
      rw [iblk2_apply m c t b h hb hh, vals, dif_pos s.isLt])
  refine key.trans ?_
  have e := index5 t
  have ij : ((cfg0.win 5).blk t).view.emb (ix3 0 a d)
      = ix3 b ⟨256 * q.val + a.val, by omega⟩ ⟨128 * h.val + d.val, by omega⟩ := by
    funext x
    apply Fin.ext
    match x with
    | ⟨0, _⟩ => show win0_5.index t 0 * 1 + 1 * 0 = b.val; rw [e]; show (grid0.coords t 0).val * 1 + 1 * 0 = _; omega
    | ⟨1, _⟩ => show win0_5.index t 1 * 256 + 1 * a.val = _; rw [e]; show (grid0.coords t 2).val * 256 + 1 * a.val = 256 * q.val + a.val; omega
    | ⟨2, _⟩ => show win0_5.index t 2 * 128 + 1 * d.val = _; rw [e]; show (grid0.coords t 1).val * 128 + 1 * d.val = 128 * h.val + d.val; omega
  rw [ij, attn_ix3 _ _ b _ h d _ rfl]
  rfl

/-- The result array. -/
theorem final_eq (c : Dev nD) (hx : RealScores (mix m c) (gates m c)) : (dats m 0 c).arrAt 5 cfg0.N = attn (mix m c) (gates m c) :=
  (dats m 0 c).arrAt_eq_of_cover 5 (attn (mix m c) (gates m c)) (flushed_eq m c hx) fun i => by
    have h0 : (i 0 : Nat) < 2 := (i 0).isLt
    have h1 : (i 1 : Nat) < 4096 := (i 1).isLt
    have h2 : (i 2 : Nat) < 2048 := (i 2).isLt
    have ht := point_of ⟨i 0, h0⟩ ⟨i 1 / 256, by omega⟩ ⟨i 2 / 128, by omega⟩
    generalize pt ⟨i 0, h0⟩ ⟨i 1 / 256, by omega⟩ ⟨i 2 / 128, by omega⟩ = t at ht
    refine ⟨t, flush0_5 t, ?_⟩
    show i ∈ ((View.whole main_v1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [ht]; show (i 0 : Nat) * 1 ≤ (i 0 : Nat) ∧ (i 0 : Nat) < (i 0 : Nat) * 1 + 1; omega
    | ⟨1, _⟩ => show win0_5.index t 1 * 256 ≤ (i 1 : Nat) ∧ (i 1 : Nat) < win0_5.index t 1 * 256 + 256
                rw [ht]; show (i 1 : Nat) / 256 * 256 ≤ (i 1 : Nat) ∧ (i 1 : Nat) < (i 1 : Nat) / 256 * 256 + 256; omega
    | ⟨2, _⟩ => show win0_5.index t 2 * 128 ≤ (i 2 : Nat) ∧ (i 2 : Nat) < win0_5.index t 2 * 128 + 128
                rw [ht]; show (i 2 : Nat) / 128 * 128 ≤ (i 2 : Nat) ∧ (i 2 : Nat) < (i 2 : Nat) / 128 * 128 + 128; omega

end Cert.FoxIdeal.Array
-- ==== Proof.FoxRef.lean ====
/- The reference of the forgetting attention, entry by entry: the whole matrix of masked scores and gates, its softmax along the keys, and the
   weighted values. -/
module

public import proofs.«01_k».proof.Proof.Gen.FoxRefIdeal.Run
public import proofs.«01_k».proof.Proof.FoxMath
public import Idealize.ShloMosaic.Lib.WordCmp

@[expose] public section

set_option maxRecDepth 16384

noncomputable section

namespace Cert.FoxRefIdeal.Ref

open Cert.FoxRefIdeal Cert.FoxRefIdeal.Gen Cert.Proof.Flash Cert.Proof.Fox Idealize.ShloMosaic Idealize.ShloMosaic.TcCoe Idealize.SL.Sem

abbrev Sq : Type := FVec Ideal S2x16x4096x4096 .f32

/-- The queries, split into heads. -/
def headsQ (x : FVec Ideal S2x4096x6656 .bf16) : FVec Ideal S2x16x4096x128 .f32 :=
  transpose S2x16x4096x128 [0, 2, 1, 3] (shapeCast S2x4096x16x128 (extractStridedSlice S2x4096x2048 ![0, 0, 0]
    (extf .f32 x bitsLt_bf16_f32) slices_S2x4096x6656_S2x4096x2048_0_0_0) shapeCasts_S2x4096x2048_S2x4096x16x128)
    transposes_S2x4096x16x128_S2x16x4096x128_0_2_1_3

/-- The keys, split into heads. -/
def headsK (x : FVec Ideal S2x4096x6656 .bf16) : FVec Ideal S2x16x4096x128 .f32 :=
  transpose S2x16x4096x128 [0, 2, 1, 3] (shapeCast S2x4096x16x128 (extractStridedSlice S2x4096x2048 ![0, 0, 2048]
    (extf .f32 x bitsLt_bf16_f32) slices_S2x4096x6656_S2x4096x2048_0_0_2048) shapeCasts_S2x4096x2048_S2x4096x16x128)
    transposes_S2x4096x16x128_S2x16x4096x128_0_2_1_3

/-- The values, split into heads. -/
def headsV (x : FVec Ideal S2x4096x6656 .bf16) : FVec Ideal S2x16x4096x128 .f32 :=
  transpose S2x16x4096x128 [0, 2, 1, 3] (shapeCast S2x4096x16x128 (extractStridedSlice S2x4096x2048 ![0, 0, 4096]
    (extf .f32 x bitsLt_bf16_f32) slices_S2x4096x6656_S2x4096x2048_0_0_4096) shapeCasts_S2x4096x2048_S2x4096x16x128)
    transposes_S2x4096x16x128_S2x16x4096x128_0_2_1_3

/-- The gates between a query and a key. -/
def gateT (w : FVec Ideal S2x16x4096 .f32) : Sq :=
  subf (broadcastInDim S2x16x4096x4096 ![0, 1, 2, 3] bcast_S2x16x4096x1_S2x16x4096x4096_0_1_2_3
      (broadcastInDim S2x16x4096x1 ![0, 1, 2] bcast_S2x16x4096_S2x16x4096x1_0_1_2 w))
    (broadcastInDim S2x16x4096x4096 ![0, 1, 2, 3] bcast_S2x16x1x4096_S2x16x4096x4096_0_1_2_3
      (broadcastInDim S2x16x1x4096 ![0, 1, 3] bcast_S2x16x4096_S2x16x1x4096_0_1_3 w))

/-- The scores. -/
def scoreT (x : FVec Ideal S2x4096x6656 .bf16) (w : FVec Ideal S2x16x4096 .f32) : Sq :=
  addf (mulf (Host.dotGeneral dot_S2x16x4096x128_S2x16x4096x128_S2x16x4096x4096_3_3_2_2_01_01 none (headsQ x) (headsK x))
    (broadcastInDim S2x16x4096x4096 ![] bcast_S_S2x16x4096x4096 (constant S_ .f32 0x3DB504F3#32))) (gateT w)

/-- Which keys come no later than the row. -/
def causalT : IVec S2x16x4096x4096 1 :=
  broadcastInDim S2x16x4096x4096 ![2, 3] bcast_S4096x4096_S2x16x4096x4096_2_3 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The masked scores. -/
def maskT (z : Sq) : Sq :=
  select causalT z (broadcastInDim S2x16x4096x4096 ![] bcast_S_S2x16x4096x4096 (id (constant (F := Ideal) S_ .f32 0xFF800000#32)))

/-- A number per row, along its keys. -/
def alongT (x : FVec Ideal S2x16x4096 .f32) : Sq :=
  broadcastInDim S2x16x4096x4096 ![0, 1, 2, 3] bcast_S2x16x4096x1_S2x16x4096x4096_0_1_2_3
    (broadcastInDim S2x16x4096x1 ![0, 1, 2] bcast_S2x16x4096_S2x16x4096x1_0_1_2 x)

/-- Each row's largest score. -/
def topT (z : Sq) : FVec Ideal S2x16x4096 .f32 :=
  maximumf (broadcastInDim S2x16x4096 ![] bcast_S_S2x16x4096 (constant S_ .f32 0xFF800000#32))
    (Host.reduce FloatOps.maximumf z (constant S_ .f32 0xFF800000#32) reducesTo_S2x16x4096x4096_S2x16x4096_d3 h_S_)

/-- The weights before the division. -/
def wtT (z : Sq) : Sq := Host.exp (subf z (alongT (topT z)))

/-- The softmax along the keys. -/
def softT (z : Sq) : Sq :=
  Host.divf (wtT z) (alongT (Host.reduceAdd (wtT z) (constant S_ .f32 0x00000000#32) reducesTo_S2x16x4096x4096_S2x16x4096_d3 h_S_))

/-- The result. -/
def outT (x : FVec Ideal S2x4096x6656 .bf16) (w : FVec Ideal S2x16x4096 .f32) : FVec Ideal S2x4096x2048 .bf16 :=
  truncf .bf16 (shapeCast S2x4096x2048 (transpose S2x4096x16x128 [0, 2, 1, 3]
    (Host.dotGeneral dot_S2x16x4096x4096_S2x16x4096x128_S2x16x4096x128_3_2_2_3_01_01 none (softT (maskT (scoreT x w))) (headsV x))
    transposes_S2x16x4096x128_S2x4096x16x128_0_2_1_3) shapeCasts_S2x4096x16x128_S2x4096x2048) bitsLt_bf16_f32

theorem res_eq (m : (ℓ : Loc nD τ sig) → Buf (Elt Ideal) ℓ) (c : Dev nD) :
    Value.res_main_v40 m c = outT (m ((c.tc : Thread nD τ).loc main_arg0)) (m ((c.tc : Thread nD τ).loc main_arg1)) := by
  unfold Value.res_main_v40
  rfl

theorem headsQ_apply (x : FVec Ideal S2x4096x6656 .bf16) (b : Fin 2) (g : Fin 16) (r : Fin 4096) (d : Fin 128) :
    headsQ x (ix4 b g r d) = x (ix3 b r ⟨128 * g.val + d.val, by omega⟩) := by
  pointwise [headsQ]
  refine congrArg x (congrArg (ix3 b r) (Fin.ext ?_))
  simp only
  omega

theorem headsK_apply (x : FVec Ideal S2x4096x6656 .bf16) (b : Fin 2) (g : Fin 16) (r : Fin 4096) (d : Fin 128) :
    headsK x (ix4 b g r d) = x (ix3 b r ⟨2048 + (128 * g.val + d.val), by omega⟩) := by
  pointwise [headsK]
  refine congrArg x (congrArg (ix3 b r) (Fin.ext ?_))
  simp only
  omega

theorem headsV_apply (x : FVec Ideal S2x4096x6656 .bf16) (b : Fin 2) (g : Fin 16) (r : Fin 4096) (d : Fin 128) :
    headsV x (ix4 b g r d) = x (ix3 b r ⟨4096 + (128 * g.val + d.val), by omega⟩) := by
  pointwise [headsV]
  refine congrArg x (congrArg (ix3 b r) (Fin.ext ?_))
  simp only
  omega

theorem scoreT_apply (x : FVec Ideal S2x4096x6656 .bf16) (w : FVec Ideal S2x16x4096 .f32) (b : Fin 2) (g : Fin 16) (r s : Fin 4096) :
    scoreT x w (ix4 b g r s) = score x w b g r s := by
  pointwise [scoreT, gateT]
  simp only [headsQ_apply, headsK_apply]
  rfl

theorem neg_inf : Ideal.ofBits FTy.f32 4286578688#32 = ⊥ := by
  simp [Ideal.ofBits, Ideal.ieee, -EReal.coe_mul]

theorem maskT_apply (z : Sq) (b : Fin 2) (g : Fin 16) (r s : Fin 4096) :
    maskT z (ix4 b g r s) = if s.val ≤ r.val then z (ix4 b g r s) else ⊥ := by
  pointwise [maskT, causalT]
  rw [WordCmp.cmpi_sle_ofNat (by omega) (by omega), WordCmp.select_ofBool]
  simp only [decide_eq_true_eq]
  rw [show id (constant (F := Ideal) S_ FTy.f32 4286578688#32) ix0 = (⊥ : EReal) from neg_inf]

/-- A maximum over a row that starts at minus infinity. -/
theorem fold_top {n : ℕ} (x : EReal) (f : Fin n → EReal) (z : ℕ → EReal) (hx : x = ⊥) (hf : ∀ s : Fin n, f s = z s.val) :
    Finset.univ.fold max x f = top z n := by
  rw [hx, ← top_full z n]
  congr 1
  exact funext hf

/-- The largest entry of a row, read off the reduction. -/
theorem red_apply (Z : Sq) (c : FVec Ideal S_ .f32) (b : Fin 2) (g : Fin 16) (r : Fin 4096) :
    Host.reduce FloatOps.maximumf Z c reducesTo_S2x16x4096x4096_S2x16x4096_d3 h_S_ (ix3 b g r)
      = Finset.univ.fold max (c (Shape.Idx.first h_S_)) fun s : Fin 4096 => Z (ix4 b g r s) := by
  rw [Host.reduce_eq_fold, Shape.ReducesTo.fold_fiber_r4_a3]
  rfl

section
variable (Z : Sq) (b : Fin 2) (g : Fin 16) (r : Fin 4096) (z : ℕ → EReal) (hz : ∀ s : Fin 4096, Z (ix4 b g r s) = z s.val)
include hz

theorem row_top : Finset.univ.fold max ((constant (F := Ideal) S_ .f32 0xFF800000#32) (Shape.Idx.first h_S_))
    (fun s : Fin 4096 => Z (ix4 b g r s)) = top z 4096 :=
  fold_top _ _ z neg_inf hz

theorem red_top : Host.reduce FloatOps.maximumf Z (constant S_ .f32 0xFF800000#32) reducesTo_S2x16x4096x4096_S2x16x4096_d3 h_S_ (ix3 b g r) = top z 4096 := by
  rw [red_apply Z _ b g r]
  exact row_top Z b g r z hz

theorem topT_apply : topT Z (ix3 b g r) = top z 4096 := by
  unfold topT
  rw [maximumf_apply, red_top Z b g r z hz]
  show max (Ideal.ofBits FTy.f32 4286578688#32) _ = _
  rw [neg_inf, max_eq_right bot_le]

theorem wtT_apply (s : Fin 4096) : wtT Z (ix4 b g r s) = wt z 4096 s.val := by
  pointwise [wtT, alongT]
  rw [hz, topT_apply Z b g r z hz]
  rfl

theorem softT_apply (s : Fin 4096) : softT Z (ix4 b g r s) = Ideal.div (wt z 4096 s.val) (den z 4096) := by
  pointwise [softT, alongT]
  simp only [wtT_apply Z b g r z hz]
  unfold den
  rw [Fin.sum_univ_eq_sum_range (fun s => wt z 4096 s) 4096]

end

theorem outT_apply (x : FVec Ideal S2x4096x6656 .bf16) (w : FVec Ideal S2x16x4096 .f32) (hx : RealScores x w)
    (b : Fin 2) (r : Fin 4096) (g : Fin 16) (d : Fin 128) :
    outT x w (ix3 b r ⟨128 * g.val + d.val, by omega⟩) = attnAt x w b r g d := by
  have hz : ∀ s : Fin 4096, maskT (scoreT x w) (ix4 b g r s) = row x w b g r s.val := fun s => by
    rw [maskT_apply, scoreT_apply]
    unfold row
    rw [dif_pos s.isLt]
  pointwise [outT]
  unfold attnAt
  rw [← att_split (row_is x w hx b g r) _ (by omega),
    ← Fin.sum_univ_eq_sum_range (fun s => Ideal.div (wt (row x w b g r) 4096 s) (den (row x w b g r) 4096) * vals x b g d s) 4096]
  refine Finset.sum_congr rfl fun s _ => ?_
  rw [softT_apply _ b g r _ hz s, headsV_apply]
  unfold vals
  rw [dif_pos s.isLt]

theorem outT_eq (x : FVec Ideal S2x4096x6656 .bf16) (w : FVec Ideal S2x16x4096 .f32) (hx : RealScores x w) :
    outT x w = attn x w := by
  funext j
  obtain ⟨b, r, c, rfl⟩ : ∃ (b : Fin 2) (r : Fin 4096) (c : Fin 2048), j = ix3 b r c := ⟨j 0, j 1, j 2, eq_ix3 j⟩
  obtain ⟨g, d, rfl⟩ : ∃ (g : Fin 16) (d : Fin 128), c = ⟨128 * g.val + d.val, by omega⟩ :=
    ⟨⟨c.val / 128, by omega⟩, ⟨c.val % 128, by omega⟩, Fin.ext (by show c.val = 128 * (c.val / 128) + c.val % 128; omega)⟩
  rw [attn_ix3 x w b r g d _ rfl]
  exact outT_apply x w hx b r g d

end Cert.FoxRefIdeal.Ref
-- ==== Proof.FoxPre.lean ====
/- What the precondition of the forgetting attention gives: queries, keys and gates are real numbers, so every score is. -/
module

public import proofs.«01_k».proof.Proof.Gen.Pre_fox_finite
public import proofs.«01_k».proof.Proof.FoxMath
public import Idealize.ShloMosaic.Lib.WordCmp
public import Idealize.ShloMosaic.Lib.ReduceAll

@[expose] public section

set_option maxRecDepth 16384

noncomputable section

namespace Cert.Pre_fox_finite.Read

open Cert.Pre_fox_finite Cert.Proof.Fox Idealize.ShloMosaic

theorem both_one : ∀ a b : BitVec 1, a &&& b = 1#1 → a = 1#1 ∧ b = 1#1 := by decide

/-- A value whose size is below plus infinity is a real number. -/
theorem real_of_lt (y : EReal)
    (h : BitVec.ofBool (decide (max y (-y) < Ideal.ofBits .f32 2139095040#32)) = 1#1) :
    ∃ t : ℝ, y = (t : EReal) := by
  have h2 : max y (-y) < Ideal.ofBits .f32 2139095040#32 := by
    by_contra hn
    rw [decide_eq_false hn] at h
    exact absurd h (by decide)
  induction y using EReal.rec with
  | bot => exact absurd h2 (by simp [Ideal.ofBits, Ideal.ieee, -EReal.coe_mul])
  | coe t => exact ⟨t, rfl⟩
  | top => exact absurd h2 (by simp [Ideal.ofBits, Ideal.ieee, -EReal.coe_mul])

theorem entry_real (hF : Facts) (x : FVec Ideal S2x4096x6656 .bf16) (w : FVec Ideal S2x16x4096 .f32) (h : fn x w = fun _ => 1#1) :
    (∀ (b : Fin 2) (s c : Fin 4096), ∃ t : ℝ, x (ix3 b s ⟨c.val, by omega⟩) = (t : EReal))
      ∧ ∀ (b : Fin 2) (g : Fin 16) (s : Fin 4096), ∃ t : ℝ, w (ix3 b g s) = (t : EReal) := by
  have h0 := congrFun h (fun a => a.elim0)
  unfold fn at h0
  haveI : Subsingleton S_.Idx := ⟨fun a b => funext fun i => i.elim0⟩
  obtain ⟨h1, h2⟩ := both_one _ _ h0
  refine ⟨fun b s c => ?_, fun b g s => ?_⟩
  · have e1 := Host.reduce_andi_all _ _ _ _ _ h1 (ix3 b s c)
    revert e1
    pointwise []
    exact fun e1 => real_of_lt _ e1
  · exact real_of_lt _ (Host.reduce_andi_all _ _ _ _ _ h2 (ix3 b g s))

theorem scores_real (hF : Facts) (x : FVec Ideal S2x4096x6656 .bf16) (w : FVec Ideal S2x16x4096 .f32) (h : fn x w = fun _ => 1#1) :
    RealScores x w := by
  obtain ⟨e, eg⟩ := entry_real hF x w h
  intro b g r s
  have hq : ∀ d : Fin 128, ∃ t : ℝ, x (ix3 b r ⟨128 * g.val + d.val, by omega⟩) = (t : EReal) := fun d =>
    e b r ⟨128 * g.val + d.val, by omega⟩
  have hk : ∀ d : Fin 128, ∃ t : ℝ, x (ix3 b s ⟨2048 + (128 * g.val + d.val), by omega⟩) = (t : EReal) := fun d =>
    e b s ⟨2048 + (128 * g.val + d.val), by omega⟩
  choose q hq using hq
  choose k hk using hk
  obtain ⟨u, hu⟩ := eg b g r
  obtain ⟨v, hv⟩ := eg b g s
  obtain ⟨y, hy⟩ : ∃ y : ℝ, Ideal.ofBits .f32 1035273459#32 = (y : EReal) :=
    ⟨_, (EReal.coe_toReal (by simp [Ideal.ofBits, Ideal.ieee, -EReal.coe_mul]) (by simp [Ideal.ofBits, Ideal.ieee, -EReal.coe_mul])).symm⟩
  refine ⟨(∑ d, q d * k d) * y + (u - v), ?_⟩
  unfold score
  simp only [hq, hk, hy, hu, hv, ← EReal.coe_mul]
  rw [EReal.coe_add, EReal.coe_sub, EReal.coe_mul]
  congr 2

end Cert.Pre_fox_finite.Read
-- ==== Proof.KeyValue.lean ====
/- The launch that normalises rows and multiplies them by the memory's key and value weights, and its reference: a tile's rows are
   normalised and multiplied by all columns at one point. -/
module

public import proofs.«01_k».proof.Proof.Gen.KeyIdeal.Value
public import proofs.«01_k».proof.Proof.Gen.KeyRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.Proof.Key

open Idealize.ShloMosaic Cert.Proof.Up

/-- A normalised row of the memory. -/
def rows (x : (⟨2, ![512, 2048]⟩ : Shape).Idx → EReal) (g : (⟨1, ![2048]⟩ : Shape).Idx → EReal) (r : Fin 512) (k : Fin 2048) : EReal :=
  x (ix2 r k) * factor (fun k => x (ix2 r k)) * g (ix1 k)

/-- An entry of the normalised rows' product with the weights. -/
def entry (x : (⟨2, ![512, 2048]⟩ : Shape).Idx → EReal) (g : (⟨1, ![2048]⟩ : Shape).Idx → EReal)
    (w : (⟨2, ![2048, 1024]⟩ : Shape).Idx → EReal) (r : Fin 512) (n : Fin 1024) : EReal :=
  ∑ k : Fin 2048, rows x g r k * w (ix2 k n)

end Cert.Proof.Key

namespace Cert.KeyIdeal.Array

open Cert.KeyIdeal Cert.KeyIdeal.Gen Cert.Proof.Up Cert.Proof.Key
open Idealize.ShloMosaic Idealize.ShloMosaic.TcCoe Idealize.SL.Sem

/-! ## One point -/

section
variable {F : FTy → Type} [FloatOps F]

theorem off2 : (![0, 0] : Fin 2 → ℕ) = fun _ => 0 := by decide

theorem ld_tile (x : Vec F S512x2048 .f32) : View.ld x (Rect.unit (s := S512x2048) ![0, 0] ![512, 2048] inb_S512x2048_S512x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem ld_wts (x : Vec F S2048x1024 .bf16) : View.ld x (Rect.unit (s := S2048x1024) ![0, 0] ![2048, 1024] inb_S2048x1024_S2048x1024_0_0) = x :=
  View.ld_unit_zero off2 _ x
theorem idx_rows (x : Vec F S512x2048 .bf16) :
    (fun j => x ((Rect.unit (s := S512x2048) ![0, 0] ![512, 2048] inb_S512x2048_S512x2048_0_0).idx j)) = x :=
  View.ld_unit_zero off2 _ x
theorem canon_rows (x : Vec F S512x2048 .bf16) :
    (View.canon [⟨Rect.unit (s := S512x2048) ![0, 0] ![512, 2048] inb_S512x2048_S512x2048_0_0, x⟩] : Vec F S512x2048 .bf16) = x :=
  View.canon_unit_zero off2 _ x

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S512x1024 .bf16) (harg5 : arg5.IsWhole)
  (arg6 : Memref sig .tc .vmem S512x2048 .bf16) (harg6 : arg6.IsWhole)
  (x0 : Vec F S512x2048 .f32) (x1 : Vec F S1x2048 .f32) (x2 : Vec F S2048x1024 .bf16)

theorem out_A (h : cond0_0 i) : out0_A_3 c i arg2 harg2 arg3 harg3 arg4 harg4 arg5 harg5 arg6 harg6 h x0 x1 x2 = k0_pay2 (k0_pay1 x0 x1) x2 := by
  unfold out0_A_3
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, ld_tile, ld_gain,
    ld_wts, canon_rows, idx_rows]

end

theorem norm_apply (x0 : Vec Ideal S512x2048 .f32) (x1 : Vec Ideal S1x2048 .f32) (a : Fin 512) (k : Fin 2048) :
    k0_pay1 x0 x1 (ix2 a k) = x0 (ix2 a k) * factor (fun k => x0 (ix2 a k)) * x1 (ix2 0 k) := by
  pointwise [k0_pay1, factor]

theorem prod_apply (n : Vec Ideal S512x2048 .bf16) (w : Vec Ideal S2048x1024 .bf16) (a : Fin 512) (b : Fin 1024) :
    k0_pay2 n w (ix2 a b) = ∑ k : Fin 2048, n (ix2 a k) * w (ix2 k b) := by
  pointwise [k0_pay2]

/-! ## The windows -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel

variable (m : (ℓ : Loc nD τ sig) → Buf (Elt Ideal) ℓ)

abbrev res (c : Dev nD) : (⟨2, ![512, 2048]⟩ : Shape).Idx → EReal := m ((c : Thread nD τ).loc main_arg0)
abbrev gain (c : Dev nD) : (⟨1, ![2048]⟩ : Shape).Idx → EReal := m ((c : Thread nD τ).loc main_arg1)
abbrev wts (c : Dev nD) : (⟨2, ![2048, 1024]⟩ : Shape).Idx → EReal := m ((c : Thread nD τ).loc main_arg2)

/-- Row `a` of tile `p`. -/
def rowOf (p : Fin 1) (a : Fin 512) : Fin 512 := ⟨512 * p.val + a.val, by omega⟩

theorem V_v0 (c : Dev nD) (k : Fin 2048) (n : Fin 1024) :
    (V m c main_v0 : Vec Ideal S2048x1024 .bf16) (ix2 k n) = wts m c (ix2 k n) := by
  entry_read
  pointwise []

theorem V_v1 (c : Dev nD) (k : Fin 2048) : (V m c main_v1 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem iblk0_apply (c : Dev nD) (t : Fin cfg0.N) (p : Fin 1) (hp : t.val = p.val) (a : Fin 512) (b : Fin 2048) :
    (iblk m c 0 t : Vec Ideal S512x2048 .f32) (ix2 a b) = res m c (ix2 (rowOf p a) b) := by
  rw [iblk, View.read_apply]
  refine Eq.trans (b := V m c main_arg0 (ix2 (rowOf p a) b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (b : Fin 2048) :
    (iblk m c 1 t : Vec Ideal S1x2048 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 2048 + 1 * b.val = b.val; rw [e]; show 0 * 2048 + 1 * b.val = b.val; omega

theorem iblk2_apply (c : Dev nD) (t : Fin cfg0.N) (a : Fin 2048) (b : Fin 1024) :
    (iblk m c 2 t : Vec Ideal S2048x1024 .bf16) (ix2 a b) = wts m c (ix2 a b) := by
  rw [iblk, View.read_apply]
  refine Eq.trans (b := V m c main_v0 (ix2 a b)) ?_ (V_v0 m c _ _)
  refine congrArg (V m c main_v0) ?_
  funext x
  apply Fin.ext
  have e := index2 t
  match x with
  | ⟨0, _⟩ => show win0_2.index t 0 * 2048 + 1 * a.val = a.val; rw [e]; show 0 * 2048 + 1 * a.val = a.val; omega
  | ⟨1, _⟩ => show win0_2.index t 1 * 1024 + 1 * b.val = b.val; rw [e]; show 0 * 1024 + 1 * b.val = b.val; omega

/-! ## The launch -/

theorem point (c : Dev nD) (t : Fin cfg0.N) (p : Fin 1) (hp : t.val = p.val) (a : Fin 512) (b : Fin 1024) :
    outsAt0 m c t (ix2 a b)
      = entry (res m c) (gain m c) (wts m c) (rowOf p a) b := by
  rw [outsAt0, out_A]
  refine (prod_apply _ (iblk m c 2 t) a b).trans (Finset.sum_congr rfl fun k _ => ?_)
  rw [norm_apply (iblk m c 0 t) (iblk m c 1 t) a k, iblk1_apply m c t k, iblk2_apply m c t k b, rows]
  simp only [iblk0_apply m c t p hp]

/-- What the array holds. -/
def total (c : Dev nD) (j : (⟨2, ![512, 1024]⟩ : Shape).Idx) : EReal := entry (res m c) (gain m c) (wts m c) (j 0) (j 1)

theorem flushed_eq (c : Dev nD) (t : Fin cfg0.N) (hf : (cfg0.win 3).flush t = true) :
    (dats m 0 c).flushed 3 t = ((cfg0.win 3).blk t).view.read (Elt Ideal) (total m c) := by
  rw [Value.flushed3]
  have hN : t.val < 1 := lt_of_lt_of_eq t.isLt (show cfg0.N = 1 from N_0)
  show (fun j : S512x1024.Idx => _) = _
  funext j
  obtain ⟨a, b, rfl⟩ : ∃ (a : Fin 512) (b : Fin 1024), j = ix2 a b := ⟨j 0, j 1, eq_ix2 j⟩
  rw [View.read_apply]
  refine (point m c t ⟨t.val, hN⟩ rfl a b).trans ?_
  have e := index3 t
  have ij : ((cfg0.win 3).blk t).view.emb (ix2 a b) = ix2 (rowOf ⟨t.val, hN⟩ a) b := by
    funext x
    apply Fin.ext
    match x with
    | ⟨0, _⟩ => show win0_3.index t 0 * 512 + 1 * a.val = 512 * t.val + a.val; rw [e]; show t.val * 512 + 1 * a.val = 512 * t.val + a.val; omega
    | ⟨1, _⟩ => show win0_3.index t 1 * 1024 + 1 * b.val = b.val; rw [e]; show 0 * 1024 + 1 * b.val = b.val; omega
  rw [ij]
  rfl

theorem final_eq (c : Dev nD) : (dats m 0 c).arrAt 3 cfg0.N = total m c :=
  (dats m 0 c).arrAt_eq_of_cover 3 (total m c) (flushed_eq m c) fun i => by
    have h0 : (i 0 : Nat) < 512 := (i 0).isLt
    have h1 : (i 1 : Nat) < 1024 := (i 1).isLt
    have ht := index3 ⟨i 0 / 512, by rw [N_0]; omega⟩
    generalize hs : (⟨i 0 / 512, by rw [N_0]; omega⟩ : Fin grid0.N) = t at ht
    have hv : t.val = i 0 / 512 := by rw [← hs]
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ht]; show t.val * 512 ≤ (i 0 : Nat) ∧ (i 0 : Nat) < t.val * 512 + 512; omega
    | ⟨1, _⟩ => show win0_3.index t 1 * 1024 ≤ (i 1 : Nat) ∧ (i 1 : Nat) < win0_3.index t 1 * 1024 + 1024
                rw [ht]; show 0 * 1024 ≤ (i 1 : Nat) ∧ (i 1 : Nat) < 0 * 1024 + 1024; omega

end Cert.KeyIdeal.Array

namespace Cert.KeyRefIdeal.Ref

open Cert.KeyRefIdeal Cert.KeyRefIdeal.Gen Cert.Proof.Up Cert.Proof.Key Idealize.ShloMosaic

/-- The reference's normalised rows. -/
def hidden (x : FVec Ideal S512x2048 .f32) (g : FVec Ideal S2048 .f32) : FVec Ideal S512x2048 .f32 :=
  mulf (mulf x (broadcastInDim S512x2048 ![0, 1] bcast_S512x1_S512x2048_0_1
      (Host.rsqrt (addf (Host.divf (broadcastInDim S512x1 ![0] bcast_S512_S512x1_0
          (Host.reduceAdd (mulf x x) (constant S_ .f32 0x00000000#32) reducesTo_S512x2048_S512_d1 h_S_))
        (broadcastInDim S512x1 ![] bcast_S_S512x1 (constant S_ .f32 0x45000000#32)))
        (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 g))

theorem hidden_apply (x : FVec Ideal S512x2048 .f32) (g : FVec Ideal S2048 .f32) (r : Fin 512) (k : Fin 2048) :
    hidden x g (ix2 r k) = rows x g r k := by
  pointwise [hidden, rows, factor]

/-- The reference's result, entry by entry. -/
theorem res_eq (x : FVec Ideal S512x2048 .f32) (g : FVec Ideal S2048 .f32) (w : FVec Ideal S2048x1024 .f32) (r : Fin 512) (n : Fin 1024) :
    truncf .bf16 (Host.dotGeneral dot_S512x2048_S2048x1024_S512x1024_1_0_0_1_n_n none (hidden x g) w) bitsLt_bf16_f32 (ix2 r n)
      = entry x g w r n := by
  pointwise []
  simp only [hidden_apply]
  rfl

end Cert.KeyRefIdeal.Ref
-- ==== Proof.GateInValue.lean ====
/- The launch that normalises rows and multiplies them by the forgetting mixer's gate weights, and its reference: a tile's rows are
   normalised and multiplied by all columns at one point. -/
module

public import proofs.«01_k».proof.Proof.Gen.GateIdeal.Value
public import proofs.«01_k».proof.Proof.Gen.GateRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.Proof.Gate

open Idealize.ShloMosaic Cert.Proof.Up

/-- An entry of the normalised rows' product with the weights. -/
def entry (x : (⟨2, ![8192, 2048]⟩ : Shape).Idx → EReal) (g : (⟨1, ![2048]⟩ : Shape).Idx → EReal)
    (w : (⟨2, ![2048, 128]⟩ : Shape).Idx → EReal) (r : Fin 8192) (n : Fin 128) : EReal :=
  ∑ k : Fin 2048, normed x g r k * w (ix2 k n)

end Cert.Proof.Gate

namespace Cert.GateIdeal.Array

open Cert.GateIdeal Cert.GateIdeal.Gen Cert.Proof.Up Cert.Proof.Gate
open Idealize.ShloMosaic Idealize.ShloMosaic.TcCoe Idealize.SL.Sem

/-! ## One point -/

section
variable {F : FTy → Type} [FloatOps F]

theorem off2 : (![0, 0] : Fin 2 → ℕ) = fun _ => 0 := by decide

theorem ld_tile (x : Vec F S512x2048 .f32) : View.ld x (Rect.unit (s := S512x2048) ![0, 0] ![512, 2048] inb_S512x2048_S512x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem ld_wts (x : Vec F S2048x128 .bf16) : View.ld x (Rect.unit (s := S2048x128) ![0, 0] ![2048, 128] inb_S2048x128_S2048x128_0_0) = x :=
  View.ld_unit_zero off2 _ x
theorem idx_rows (x : Vec F S512x2048 .bf16) :
    (fun j => x ((Rect.unit (s := S512x2048) ![0, 0] ![512, 2048] inb_S512x2048_S512x2048_0_0).idx j)) = x :=
  View.ld_unit_zero off2 _ x
theorem canon_rows (x : Vec F S512x2048 .bf16) :
    (View.canon [⟨Rect.unit (s := S512x2048) ![0, 0] ![512, 2048] inb_S512x2048_S512x2048_0_0, x⟩] : Vec F S512x2048 .bf16) = x :=
  View.canon_unit_zero off2 _ x

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x128 .bf16) (harg4 : arg4.IsWhole) (arg5 : Memref sig .tc .vmem S512x128 .f32) (harg5 : arg5.IsWhole)
  (arg6 : Memref sig .tc .vmem S512x2048 .bf16) (harg6 : arg6.IsWhole)
  (x0 : Vec F S512x2048 .f32) (x1 : Vec F S1x2048 .f32) (x2 : Vec F S2048x128 .bf16)

theorem out_A (h : cond0_0 i) : out0_A_3 c i arg2 harg2 arg3 harg3 arg4 harg4 arg5 harg5 arg6 harg6 h x0 x1 x2 = k0_pay2 (k0_pay1 x0 x1) x2 := by
  unfold out0_A_3
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, ld_tile, ld_gain,
    ld_wts, canon_rows, idx_rows]

end

theorem norm_apply (x0 : Vec Ideal S512x2048 .f32) (x1 : Vec Ideal S1x2048 .f32) (a : Fin 512) (k : Fin 2048) :
    k0_pay1 x0 x1 (ix2 a k) = x0 (ix2 a k) * factor (fun k => x0 (ix2 a k)) * x1 (ix2 0 k) := by
  pointwise [k0_pay1, factor]

theorem prod_apply (n : Vec Ideal S512x2048 .bf16) (w : Vec Ideal S2048x128 .bf16) (a : Fin 512) (b : Fin 128) :
    k0_pay2 n w (ix2 a b) = ∑ k : Fin 2048, n (ix2 a k) * w (ix2 k b) := by
  pointwise [k0_pay2]

/-! ## The windows -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel

variable (m : (ℓ : Loc nD τ sig) → Buf (Elt Ideal) ℓ)

abbrev res (c : Dev nD) : (⟨2, ![8192, 2048]⟩ : Shape).Idx → EReal := m ((c : Thread nD τ).loc main_arg0)
abbrev gain (c : Dev nD) : (⟨1, ![2048]⟩ : Shape).Idx → EReal := m ((c : Thread nD τ).loc main_arg1)
abbrev wts (c : Dev nD) : (⟨2, ![2048, 128]⟩ : Shape).Idx → EReal := m ((c : Thread nD τ).loc main_arg2)

/-- Row `a` of tile `p`. -/
def rowOf (p : Fin 16) (a : Fin 512) : Fin 8192 := ⟨512 * p.val + a.val, by omega⟩

theorem V_v0 (c : Dev nD) (k : Fin 2048) (n : Fin 128) :
    (V m c main_v0 : Vec Ideal S2048x128 .bf16) (ix2 k n) = wts m c (ix2 k n) := by
  entry_read
  pointwise []

theorem V_v1 (c : Dev nD) (k : Fin 2048) : (V m c main_v1 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem iblk0_apply (c : Dev nD) (t : Fin cfg0.N) (p : Fin 16) (hp : t.val = p.val) (a : Fin 512) (b : Fin 2048) :
    (iblk m c 0 t : Vec Ideal S512x2048 .f32) (ix2 a b) = res m c (ix2 (rowOf p a) b) := by
  rw [iblk, View.read_apply]
  refine Eq.trans (b := V m c main_arg0 (ix2 (rowOf p a) b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (b : Fin 2048) :
    (iblk m c 1 t : Vec Ideal S1x2048 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 2048 + 1 * b.val = b.val; rw [e]; show 0 * 2048 + 1 * b.val = b.val; omega

theorem iblk2_apply (c : Dev nD) (t : Fin cfg0.N) (a : Fin 2048) (b : Fin 128) :
    (iblk m c 2 t : Vec Ideal S2048x128 .bf16) (ix2 a b) = wts m c (ix2 a b) := by
  rw [iblk, View.read_apply]
  refine Eq.trans (b := V m c main_v0 (ix2 a b)) ?_ (V_v0 m c _ _)
  refine congrArg (V m c main_v0) ?_
  funext x
  apply Fin.ext
  have e := index2 t
  match x with
  | ⟨0, _⟩ => show win0_2.index t 0 * 2048 + 1 * a.val = a.val; rw [e]; show 0 * 2048 + 1 * a.val = a.val; omega
  | ⟨1, _⟩ => show win0_2.index t 1 * 128 + 1 * b.val = b.val; rw [e]; show 0 * 128 + 1 * b.val = b.val; omega

/-! ## The launch -/

theorem point (c : Dev nD) (t : Fin cfg0.N) (p : Fin 16) (hp : t.val = p.val) (a : Fin 512) (b : Fin 128) :
    outsAt0 m c t (ix2 a b)
      = entry (res m c) (gain m c) (wts m c) (rowOf p a) b := by
  rw [outsAt0, out_A]
  refine (prod_apply _ (iblk m c 2 t) a b).trans (Finset.sum_congr rfl fun k _ => ?_)
  rw [norm_apply (iblk m c 0 t) (iblk m c 1 t) a k, iblk1_apply m c t k, iblk2_apply m c t k b, normed]
  simp only [iblk0_apply m c t p hp]

/-- What the array holds. -/
def total (c : Dev nD) (j : (⟨2, ![8192, 128]⟩ : Shape).Idx) : EReal := entry (res m c) (gain m c) (wts m c) (j 0) (j 1)

theorem flushed_eq (c : Dev nD) (t : Fin cfg0.N) (hf : (cfg0.win 3).flush t = true) :
    (dats m 0 c).flushed 3 t = ((cfg0.win 3).blk t).view.read (Elt Ideal) (total m c) := by
  rw [Value.flushed3]
  have hN : t.val < 16 := lt_of_lt_of_eq t.isLt (show cfg0.N = 16 from N_0)
  show (fun j : S512x128.Idx => _) = _
  funext j
  obtain ⟨a, b, rfl⟩ : ∃ (a : Fin 512) (b : Fin 128), j = ix2 a b := ⟨j 0, j 1, eq_ix2 j⟩
  rw [View.read_apply]
  refine (point m c t ⟨t.val, hN⟩ rfl a b).trans ?_
  have e := index3 t
  have ij : ((cfg0.win 3).blk t).view.emb (ix2 a b) = ix2 (rowOf ⟨t.val, hN⟩ a) b := by
    funext x
    apply Fin.ext
    match x with
    | ⟨0, _⟩ => show win0_3.index t 0 * 512 + 1 * a.val = 512 * t.val + a.val; rw [e]; show t.val * 512 + 1 * a.val = 512 * t.val + a.val; omega
    | ⟨1, _⟩ => show win0_3.index t 1 * 128 + 1 * b.val = b.val; rw [e]; show 0 * 128 + 1 * b.val = b.val; omega
  rw [ij]
  rfl

theorem final_eq (c : Dev nD) : (dats m 0 c).arrAt 3 cfg0.N = total m c :=
  (dats m 0 c).arrAt_eq_of_cover 3 (total m c) (flushed_eq m c) fun i => by
    have h0 : (i 0 : Nat) < 8192 := (i 0).isLt
    have h1 : (i 1 : Nat) < 128 := (i 1).isLt
    have ht := index3 ⟨i 0 / 512, by rw [N_0]; omega⟩
    generalize hs : (⟨i 0 / 512, by rw [N_0]; omega⟩ : Fin grid0.N) = t at ht
    have hv : t.val = i 0 / 512 := by rw [← hs]
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ht]; show t.val * 512 ≤ (i 0 : Nat) ∧ (i 0 : Nat) < t.val * 512 + 512; omega
    | ⟨1, _⟩ => show win0_3.index t 1 * 128 ≤ (i 1 : Nat) ∧ (i 1 : Nat) < win0_3.index t 1 * 128 + 128
                rw [ht]; show 0 * 128 ≤ (i 1 : Nat) ∧ (i 1 : Nat) < 0 * 128 + 128; omega

end Cert.GateIdeal.Array

namespace Cert.GateRefIdeal.Ref

open Cert.GateRefIdeal Cert.GateRefIdeal.Gen Cert.Proof.Up Cert.Proof.Gate Idealize.ShloMosaic

/-- The reference's normalised rows. -/
def hidden (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem hidden_apply (x : FVec Ideal S8192x2048 .f32) (g : FVec Ideal S2048 .f32) (r : Fin 8192) (k : Fin 2048) :
    hidden x g (ix2 r k) = normed x g r k := by
  pointwise [hidden, normed, factor]

/-- The reference's result, entry by entry. -/
theorem res_eq (x : FVec Ideal S8192x2048 .f32) (g : FVec Ideal S2048 .f32) (w : FVec Ideal S2048x128 .f32) (r : Fin 8192) (n : Fin 128) :
    (Host.dotGeneral dot_S8192x2048_S2048x128_S8192x128_1_0_0_1_n_n none (hidden x g) w) (ix2 r n)
      = entry x g w r n := by
  pointwise []
  simp only [hidden_apply]
  rfl

end Cert.GateRefIdeal.Ref
-- ==== Proof.FinValue.lean ====
/- The launch that normalises the last layer's rows, and its reference. -/
module

public import proofs.«01_k».proof.Proof.Gen.FinIdeal.Value
public import proofs.«01_k».proof.Proof.Gen.FinRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.Proof.Fin

open Idealize.ShloMosaic Cert.Proof.Up

/-- A row of the kernel's block, normalised. -/
def scaled (x : (⟨2, ![512, 2048]⟩ : Shape).Idx → EReal) (g : (⟨2, ![1, 2048]⟩ : Shape).Idx → EReal) (a : Fin 512) (k : Fin 2048) : EReal :=
  x (ix2 a k) * factor (fun k => x (ix2 a k)) * g (ix2 0 k)

end Cert.Proof.Fin

namespace Cert.FinIdeal.Array

open Cert.FinIdeal Cert.FinIdeal.Gen Cert.Proof.Up Cert.Proof.Fin
open Idealize.ShloMosaic Idealize.ShloMosaic.TcCoe Idealize.SL.Sem

/-! ## One point -/

section
variable {F : FTy → Type} [FloatOps F]

theorem off2 : (![0, 0] : Fin 2 → ℕ) = fun _ => 0 := by decide

theorem ld_tile (x : Vec F S512x2048 .f32) : View.ld x (Rect.unit (s := S512x2048) ![0, 0] ![512, 2048] inb_S512x2048_S512x2048_0_0) = x :=
  View.ld_unit_zero off2 _ x
theorem ld_gain (x : Vec F S1x2048 .f32) : View.ld x (Rect.unit (s := S1x2048) ![0, 0] ![1, 2048] inb_S1x2048_S1x2048_0_0) = x :=
  View.ld_unit_zero off2 _ x
theorem out_eq (x0 : Vec F S512x2048 .f32) (x1 : Vec F S1x2048 .f32) : out0_2 x0 x1 = k0_pay1 x0 x1 := by
  unfold out0_2
  rw [View.canon_unit_zero off2]
  exact congrArg₂ k0_pay1 (ld_tile x0) (ld_gain x1)

end

theorem norm_apply (x0 : Vec Ideal S512x2048 .f32) (x1 : Vec Ideal S1x2048 .f32) (a : Fin 512) (k : Fin 2048) :
    k0_pay1 x0 x1 (ix2 a k) = scaled x0 x1 a k := by
  pointwise [k0_pay1, scaled, factor]

/-! ## The windows -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

variable (m : (ℓ : Loc nD τ sig) → Buf (Elt Ideal) ℓ)

abbrev res (c : Dev nD) : (⟨2, ![8192, 2048]⟩ : Shape).Idx → EReal := m ((c : Thread nD τ).loc main_arg0)
abbrev gain (c : Dev nD) : (⟨1, ![2048]⟩ : Shape).Idx → EReal := m ((c : Thread nD τ).loc main_arg1)

/-- Row `a` of tile `p`. -/
def rowOf (p : Fin 16) (a : Fin 512) : Fin 8192 := ⟨512 * p.val + a.val, by omega⟩

theorem V_v0 (c : Dev nD) (k : Fin 2048) : (V m c main_v0 : Vec Ideal S1x2048 .f32) (ix2 0 k) = gain m c (ix1 k) := by
  entry_read
  refine shapeCast_apply (gain m c) _ (ix2 0 k) (ix1 k) ?_
  rw [Shape.rowMajor_val_one, Shape.rowMajor_val_two]
  show k.val = 0 * 2048 + k.val
  omega

theorem iblk0_apply (c : Dev nD) (t : Fin cfg0.N) (p : Fin 16) (hp : t.val = p.val) (a : Fin 512) (b : Fin 2048) :
    (iblk m c 0 t : Vec Ideal S512x2048 .f32) (ix2 a b) = res m c (ix2 (rowOf p a) b) := by
  rw [iblk, View.read_apply]
  refine Eq.trans (b := V m c main_arg0 (ix2 (rowOf p a) b)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val) * 512 + 1 * a.val = 512 * p.val + a.val; omega
  | ⟨1, _⟩ => show win0_0.index t 1 * 2048 + 1 * b.val = b.val; rw [e]; show 0 * 2048 + 1 * b.val = b.val; omega

theorem iblk1_apply (c : Dev nD) (t : Fin cfg0.N) (b : Fin 2048) :
    (iblk m c 1 t : Vec Ideal S1x2048 .f32) (ix2 0 b) = gain m c (ix1 b) := by
  rw [iblk, View.read_apply]
  refine Eq.trans (b := V m c main_v0 (ix2 0 b)) ?_ (V_v0 m c _)
  refine congrArg (V m c main_v0) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 2048 + 1 * b.val = b.val; rw [e]; show 0 * 2048 + 1 * b.val = b.val; omega

/-! ## The launch -/

theorem point (c : Dev nD) (t : Fin cfg0.N) (p : Fin 16) (hp : t.val = p.val) (a : Fin 512) (b : Fin 2048) :
    out0_2 (iblk m c 0 t) (iblk m c 1 t) (ix2 a b) = normed (res m c) (gain m c) (rowOf p a) b := by
  rw [out_eq]
  refine (norm_apply (iblk m c 0 t) (iblk m c 1 t) a b).trans ?_
  rw [scaled, iblk1_apply m c t b, normed]
  simp only [iblk0_apply m c t p hp]

/-- What the array holds. -/
def total (c : Dev nD) (j : (⟨2, ![8192, 2048]⟩ : Shape).Idx) : EReal := normed (res m c) (gain m c) (j 0) (j 1)

theorem flushed_eq (c : Dev nD) (t : Fin cfg0.N) (hf : (cfg0.win 2).flush t = true) :
    (dats m 0 c).flushed 2 t = ((cfg0.win 2).blk t).view.read (Elt Ideal) (total m c) := by
  rw [Value.flushed2]
  have hN : t.val < 16 := lt_of_lt_of_eq t.isLt (show cfg0.N = 16 from N_0)
  show (fun j : S512x2048.Idx => _) = _
  funext j
  obtain ⟨a, b, rfl⟩ : ∃ (a : Fin 512) (b : Fin 2048), j = ix2 a b := ⟨j 0, j 1, eq_ix2 j⟩
  rw [View.read_apply]
  refine (point m c t ⟨t.val, hN⟩ rfl a b).trans ?_
  have e := index2 t
  have ij : ((cfg0.win 2).blk t).view.emb (ix2 a b) = ix2 (rowOf ⟨t.val, hN⟩ a) b := by
    funext x
    apply Fin.ext
    match x with
    | ⟨0, _⟩ => show win0_2.index t 0 * 512 + 1 * a.val = 512 * t.val + a.val; rw [e]; show t.val * 512 + 1 * a.val = 512 * t.val + a.val; omega
    | ⟨1, _⟩ => show win0_2.index t 1 * 2048 + 1 * b.val = b.val; rw [e]; show 0 * 2048 + 1 * b.val = b.val; omega
  rw [ij]
  rfl

theorem final_eq (c : Dev nD) : (dats m 0 c).arrAt 2 cfg0.N = total m c :=
  (dats m 0 c).arrAt_eq_of_cover 2 (total m c) (flushed_eq m c) fun i => by
    have h0 : (i 0 : Nat) < 8192 := (i 0).isLt
    have h1 : (i 1 : Nat) < 2048 := (i 1).isLt
    have ht := index2 ⟨i 0 / 512, by rw [N_0]; omega⟩
    generalize hs : (⟨i 0 / 512, by rw [N_0]; omega⟩ : Fin grid0.N) = t at ht
    have hv : t.val = i 0 / 512 := by rw [← hs]
    refine ⟨t, flush0_2 t, ?_⟩
    show i ∈ ((View.whole main_v1).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [ht]; show t.val * 512 ≤ (i 0 : Nat) ∧ (i 0 : Nat) < t.val * 512 + 512; omega
    | ⟨1, _⟩ => show win0_2.index t 1 * 2048 ≤ (i 1 : Nat) ∧ (i 1 : Nat) < win0_2.index t 1 * 2048 + 2048
                rw [ht]; show 0 * 2048 ≤ (i 1 : Nat) ∧ (i 1 : Nat) < 0 * 2048 + 2048; omega

end Cert.FinIdeal.Array

namespace Cert.FinRefIdeal.Ref

open Cert.FinRefIdeal Cert.FinRefIdeal.Gen Cert.Proof.Up Cert.Proof.Fin Idealize.ShloMosaic

/-- The reference's normalised rows. -/
def hidden (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem hidden_apply (x : FVec Ideal S8192x2048 .f32) (g : FVec Ideal S2048 .f32) (r : Fin 8192) (k : Fin 2048) :
    hidden x g (ix2 r k) = normed x g r k := by
  pointwise [hidden, normed, factor]

/-- The reference's result, entry by entry. -/
theorem res_eq (x : FVec Ideal S8192x2048 .f32) (g : FVec Ideal S2048 .f32) (r : Fin 8192) (n : Fin 2048) :
    hidden x g (ix2 r n) = normed x g r n := hidden_apply x g r n

end Cert.FinRefIdeal.Ref
-- ==== Proof.RecallHead.lean ====
/- One head of the memory's attention at one point, and the four heads side by side in the point's block. -/
module

public import proofs.«01_k».proof.Proof.Gen.RecallIdeal.Value
public import proofs.«01_k».proof.Proof.FlashMath
public import Idealize.ShloMosaic.Lib.Pointwise
public import Idealize.ShloMosaic.Lib.VecWindow

@[expose] public section

set_option maxRecDepth 16384

noncomputable section

namespace Cert.RecallIdeal.Head

open Cert.RecallIdeal Cert.RecallIdeal.Gen Cert.Proof.Flash Idealize.ShloMosaic

theorem neg_inf : Ideal.ofBits FTy.f32 4286578688#32 = ⊥ := by
  simp [Ideal.ofBits, Ideal.ieee, -EReal.coe_mul]

/-- One head's entry. -/
theorem head_apply (q : Vec Ideal S1x512x128 .bf16) (k v : Vec Ideal S1x256x128 .bf16) (a : Fin 512) (d : Fin 128) (z y : ℕ → EReal)
    (hz : ∀ s : Fin 256, (∑ x, q (ix3 0 a x) * k (ix3 0 s x)) * Ideal.ofBits FTy.f32 1035273459#32 = z s.val)
    (hv : ∀ s : Fin 256, v (ix3 0 s d) = y s.val) :
    k0_pay2 q k v (ix2 a d) = att z y 256 := by
  pointwise [k0_pay2]
  simp only [hz, hv, neg_inf, top_full z 256]
  rw [Fin.sum_univ_eq_sum_range (fun s => Ideal.exp (z s - top z 256) * y s) 256,
    Fin.sum_univ_eq_sum_range (fun s => Ideal.exp (z s - top z 256)) 256]
  rfl

section
variable {F : FTy → Type} [FloatOps F]

theorem second (q : Vec F S1x512x128 .bf16) (k v : Vec F S1x256x128 .bf16) :
    k0_pay6 (k0_pay3 v) (k0_pay4 q k) (k0_pay5 q k) = k0_pay2 q k v := rfl

theorem third (q : Vec F S1x512x128 .bf16) (k v : Vec F S1x256x128 .bf16) : k0_pay7 q k v = k0_pay2 q k v := rfl

/-- Four heads side by side. -/
def beside (x0 x1 x2 x3 : FVec F S512x128 .bf16) : FVec F S1x512x512 .bf16 :=
  shapeCast S1x512x512 (concatenate S512x512 1 [⟨S512x128, x0⟩, ⟨S512x128, x1⟩, ⟨S512x128, x2⟩, ⟨S512x128, x3⟩]
    concatenates_S512x128_S512x128_S512x128_S512x128_S512x512_d1) shapeCasts_S512x512_S1x512x512

theorem fourth (x0 x1 x2 : FVec F S512x128 .bf16) (q : Vec F S1x512x128 .bf16) (k v : Vec F S1x256x128 .bf16) :
    k0_pay1 x0 x1 x2 (k0_pay8 q) (k0_pay9 k) v = beside x0 x1 x2 (k0_pay2 q k v) := rfl

end

theorem beside_apply (x : Fin 4 → FVec Ideal S512x128 .bf16) (a : Fin 512) (h : Fin 4) (d : Fin 128) :
    beside (x 0) (x 1) (x 2) (x 3) (ix3 0 a ⟨128 * h.val + d.val, by omega⟩) = x h (ix2 a d) := by
  pointwise [beside]
  have hd := d.isLt
  match h with
  | 0 =>
    rw [dif_pos (by simp)]
    exact congrArg (x 0) (congrArg (ix2 a) (Fin.ext (by simp)))
  | 1 =>
    rw [dif_neg (by simp), dif_pos (by simp)]
    exact congrArg (x 1) (congrArg (ix2 a) (Fin.ext (by simp)))
  | 2 =>
    rw [dif_neg (by simp; omega), dif_neg (by simp; omega), dif_pos (by simp; omega)]
    exact congrArg (x 2) (congrArg (ix2 a) (Fin.ext (by simp; omega)))
  | 3 =>
    rw [dif_neg (by simp; omega), dif_neg (by simp; omega), dif_neg (by simp; omega)]
    exact congrArg (x 3) (congrArg (ix2 a) (Fin.ext (by simp; omega)))

section
variable {F : FTy → Type} [FloatOps F]

theorem ldq_apply (x : Vec F S1x512x512 .bf16) (off : Fin 3 → ℕ) (inb : ∀ a, off a + S1x512x128.size a ≤ S1x512x512.size a) (o : ℕ)
    (e0 : off 0 = 0) (e1 : off 1 = 0) (e2 : off 2 = o) (a : Fin 512) (d : Fin 128) (hn : o + d.val < 512) :
    View.ld x (Rect.unit (s := S1x512x512) off S1x512x128.size inb) (ix3 0 a d) = x (ix3 0 a ⟨o + d.val, hn⟩) := by
  refine congrArg x (funext fun y => Fin.ext ?_)
  match y with
  | ⟨0, _⟩ => show off 0 + 1 * 0 = 0; omega
  | ⟨1, _⟩ => show off 1 + 1 * a.val = a.val; omega
  | ⟨2, _⟩ => show off 2 + 1 * d.val = o + d.val; omega

theorem ldk_apply (x : Vec F S1x256x1024 .bf16) (off : Fin 3 → ℕ) (inb : ∀ a, off a + S1x256x128.size a ≤ S1x256x1024.size a) (o : ℕ)
    (e0 : off 0 = 0) (e1 : off 1 = 0) (e2 : off 2 = o) (a : Fin 256) (d : Fin 128) (hn : o + d.val < 1024) :
    View.ld x (Rect.unit (s := S1x256x1024) off S1x256x128.size inb) (ix3 0 a d) = x (ix3 0 a ⟨o + d.val, hn⟩) := by
  refine congrArg x (funext fun y => Fin.ext ?_)
  match y with
  | ⟨0, _⟩ => show off 0 + 1 * 0 = 0; omega
  | ⟨1, _⟩ => show off 1 + 1 * a.val = a.val; omega
  | ⟨2, _⟩ => show off 2 + 1 * d.val = o + d.val; omega

/-- A head's queries in the block, its keys and its values. -/
def qs (x : Vec F S1x512x512 .bf16) : Fin 4 → Vec F S1x512x128 .bf16
  | 0 => View.ld x r0_0 | 1 => View.ld x r0_3 | 2 => View.ld x r0_6 | 3 => View.ld x r0_9
def ks (x : Vec F S1x256x1024 .bf16) : Fin 4 → Vec F S1x256x128 .bf16
  | 0 => View.ld x r0_1 | 1 => View.ld x r0_4 | 2 => View.ld x r0_7 | 3 => View.ld x r0_10
def vs (x : Vec F S1x256x1024 .bf16) : Fin 4 → Vec F S1x256x128 .bf16
  | 0 => View.ld x r0_2 | 1 => View.ld x r0_5 | 2 => View.ld x r0_8 | 3 => View.ld x r0_11

theorem qs_apply (x : Vec F S1x512x512 .bf16) (h : Fin 4) (a : Fin 512) (d : Fin 128) :
    qs x h (ix3 0 a d) = x (ix3 0 a ⟨128 * h.val + d.val, by omega⟩) := by
  match h with
  | 0 => exact ldq_apply x _ _ 0 rfl rfl rfl a d (by omega)
  | 1 => exact ldq_apply x _ _ 128 rfl rfl rfl a d (by omega)
  | 2 => exact ldq_apply x _ _ 256 rfl rfl rfl a d (by omega)
  | 3 => exact ldq_apply x _ _ 384 rfl rfl rfl a d (by omega)

theorem ks_apply (x : Vec F S1x256x1024 .bf16) (h : Fin 4) (a : Fin 256) (d : Fin 128) :
    ks x h (ix3 0 a d) = x (ix3 0 a ⟨128 * h.val + d.val, by omega⟩) := by
  match h with
  | 0 => exact ldk_apply x _ _ 0 rfl rfl rfl a d (by omega)
  | 1 => exact ldk_apply x _ _ 128 rfl rfl rfl a d (by omega)
  | 2 => exact ldk_apply x _ _ 256 rfl rfl rfl a d (by omega)
  | 3 => exact ldk_apply x _ _ 384 rfl rfl rfl a d (by omega)

theorem vs_apply (x : Vec F S1x256x1024 .bf16) (h : Fin 4) (a : Fin 256) (d : Fin 128) :
    vs x h (ix3 0 a d) = x (ix3 0 a ⟨512 + (128 * h.val + d.val), by omega⟩) := by
  match h with
  | 0 => exact (ldk_apply x _ _ 512 rfl rfl rfl a d (by omega)).trans (congrArg x (congrArg (ix3 0 a) (Fin.ext (by simp))))
  | 1 => exact (ldk_apply x _ _ 640 rfl rfl rfl a d (by omega)).trans (congrArg x (congrArg (ix3 0 a) (Fin.ext (by simp; omega))))
  | 2 => exact (ldk_apply x _ _ 768 rfl rfl rfl a d (by omega)).trans (congrArg x (congrArg (ix3 0 a) (Fin.ext (by simp; omega))))
  | 3 => exact (ldk_apply x _ _ 896 rfl rfl rfl a d (by omega)).trans (congrArg x (congrArg (ix3 0 a) (Fin.ext (by simp; omega))))

/-- The heads at a point. -/
def heads (x : Vec F S1x512x512 .bf16) (y : Vec F S1x256x1024 .bf16) (h : Fin 4) : FVec F S512x128 .bf16 :=
  k0_pay2 (qs x h) (ks y h) (vs y h)

theorem off3 : (![0, 0, 0] : Fin 3 → Nat) = fun _ => 0 := funext fun a => by fin_cases a <;> rfl

theorem out_eq (x : Vec F S1x512x512 .bf16) (y : Vec F S1x256x1024 .bf16) :
    out0_2 x y = beside (heads x y 0) (heads x y 1) (heads x y 2) (heads x y 3) := by
  unfold out0_2
  rw [View.canon_unit_zero off3, second, third, fourth]
  rfl

end

/-- An entry of a point's block. -/
theorem out_apply (x : Vec Ideal S1x512x512 .bf16) (y : Vec Ideal S1x256x1024 .bf16) (a : Fin 512) (h : Fin 4) (d : Fin 128) (z u : ℕ → EReal)
    (hz : ∀ s : Fin 256, (∑ e : Fin 128, x (ix3 0 a ⟨128 * h.val + e.val, by omega⟩) * y (ix3 0 s ⟨128 * h.val + e.val, by omega⟩))
      * Ideal.ofBits FTy.f32 1035273459#32 = z s.val)
    (hv : ∀ s : Fin 256, y (ix3 0 s ⟨512 + (128 * h.val + d.val), by omega⟩) = u s.val) :
    out0_2 x y (ix3 0 a ⟨128 * h.val + d.val, by omega⟩) = att z u 256 := by
  rw [out_eq]
  refine (beside_apply (heads x y) a h d).trans (head_apply _ _ _ a d z u (fun s => ?_) fun s => ?_)
  · simp only [qs_apply, ks_apply]
    exact hz s
  · rw [vs_apply]
    exact hv s

end Cert.RecallIdeal.Head
-- ==== Proof.RecallMath.lean ====
/- The memory's attention as a formula: the scores of a query against the memory's 256 keys, and the result with the four heads
   side by side. -/
module

public import proofs.«01_k».proof.Proof.FlashMath

@[expose] public section

set_option maxRecDepth 16384

noncomputable section

namespace Cert.Proof.Recall

open Idealize.ShloMosaic Cert.Proof.Flash

abbrev Mix : Type := (⟨3, ![2, 4096, 6656]⟩ : Shape).Idx → EReal
abbrev Pairs : Type := (⟨3, ![2, 256, 1024]⟩ : Shape).Idx → EReal

/-- The scaled score of query `r` and the memory's key `s` in batch `b` and head `h`. -/
def score (x : Mix) (y : Pairs) (b : Fin 2) (h : Fin 4) (r : Fin 4096) (s : Fin 256) : EReal :=
  (∑ d : Fin 128, x (ix3 b r ⟨6144 + (128 * h.val + d.val), by omega⟩) * y (ix3 b s ⟨128 * h.val + d.val, by omega⟩))
    * Ideal.ofBits FTy.f32 1035273459#32

/-- Query `r`'s scores. -/
def row (x : Mix) (y : Pairs) (b : Fin 2) (h : Fin 4) (r : Fin 4096) (s : ℕ) : EReal :=
  if hs : s < 256 then score x y b h r ⟨s, hs⟩ else ⊥

/-- A column of the memory's values. -/
def vals (y : Pairs) (b : Fin 2) (h : Fin 4) (d : Fin 128) (s : ℕ) : EReal :=
  if hs : s < 256 then y (ix3 b ⟨s, hs⟩ ⟨512 + (128 * h.val + d.val), by omega⟩) else 0

/-- Every score is a real number. -/
def RealScores (x : Mix) (y : Pairs) : Prop := ∀ b h r s, ∃ t : ℝ, score x y b h r s = (t : EReal)

theorem row_is (x : Mix) (y : Pairs) (hx : RealScores x y) (b : Fin 2) (h : Fin 4) (r : Fin 4096) : Row (row x y b h r) where
  first := by
    obtain ⟨t, e⟩ := hx b h r ⟨0, by omega⟩
    exact ⟨t, by unfold row; rw [dif_pos (by omega)]; exact e⟩
  each s := by
    unfold row
    by_cases hs : s < 256
    · rw [dif_pos hs]; exact .inr (hx b h r ⟨s, hs⟩)
    · rw [dif_neg hs]; exact .inl rfl

/-- One entry of the attention. -/
def attnAt (x : Mix) (y : Pairs) (b : Fin 2) (r : Fin 4096) (h : Fin 4) (d : Fin 128) : EReal :=
  att (row x y b h r) (vals y b h d) 256

/-- The attention's result, the heads side by side. -/
def attn (x : Mix) (y : Pairs) (j : (⟨3, ![2, 4096, 512]⟩ : Shape).Idx) : EReal :=
  attnAt x y (j 0) (j 1) ⟨(j 2).val / 128, by have : (j 2).val < 512 := (j 2).isLt; omega⟩ ⟨(j 2).val % 128, by omega⟩

theorem attn_ix3 (x : Mix) (y : Pairs) (b : Fin 2) (r : Fin 4096) (h : Fin 4) (d : Fin 128)
    (n : Fin 512) (hn : n.val = 128 * h.val + d.val) : attn x y (ix3 b r n) = attnAt x y b r h d := by
  show attnAt x y b r ⟨n.val / 128, _⟩ ⟨n.val % 128, _⟩ = _
  congr 1 <;> apply Fin.ext <;> simp only [hn] <;> omega

end Cert.Proof.Recall
-- ==== Proof.RecallArray.lean ====
/- The result array of the memory attention's launch: each point writes a block of rows with its four heads, and together the
   blocks are the whole array. -/
module

public import proofs.«01_k».proof.Proof.RecallHead
public import proofs.«01_k».proof.Proof.RecallMath
public import Idealize.ShloMosaic.Lib.Pipeline.Value

@[expose] public section

set_option maxRecDepth 16384

noncomputable section

namespace Cert.RecallIdeal.Array

open Cert.RecallIdeal Cert.RecallIdeal.Gen Cert.RecallIdeal.Head Cert.Proof.Recall Idealize.ShloMosaic
  Idealize.ShloMosaic.TcCoe Idealize.SL.Sem

theorem index0 : ∀ t : Fin grid0.N, win0_0.index t = ![(grid0.coords t 0).val, (grid0.coords t 1).val, 12] := by decide +kernel
theorem index1 : ∀ t : Fin grid0.N, win0_1.index t = ![(grid0.coords t 0).val, 0, 0] := by decide +kernel
theorem index2 : ∀ t : Fin grid0.N, win0_2.index t = ![(grid0.coords t 0).val, (grid0.coords t 1).val, 0] := by decide +kernel

/-- The point that writes block of rows `q` in batch `b`. -/
def pt (b : Fin 2) (q : Fin 8) : Fin grid0.N := ⟨8 * b.val + q.val, by rw [N_0]; omega⟩

theorem point_of : ∀ (b : Fin 2) (q : Fin 8), win0_2.index (pt b q) = ![b.val, q.val, 0] := by decide +kernel

variable (m : (ℓ : Loc nD τ sig) → Buf (Elt Ideal) ℓ)

/-- The projection. -/
abbrev mix (c : Dev nD) : Mix := m ((c : Thread nD τ).loc main_arg0)
/-- The memory's keys and values. -/
abbrev pairs (c : Dev nD) : Pairs := m ((c : Thread nD τ).loc main_arg1)

theorem iblk0_apply (c : Dev nD) (t : Fin cfg0.N) (b : Fin 2) (q : Fin 8) (hb : (grid0.coords t 0).val = b.val)
    (hq : (grid0.coords t 1).val = q.val) (a n : Fin 512) :
    (iblk m c 0 t : Vec Ideal S1x512x512 .bf16) (ix3 0 a n)
      = mix m c (ix3 b ⟨512 * q.val + a.val, by omega⟩ ⟨6144 + n.val, by omega⟩) := by
  unfold iblk
  rw [View.read_apply]
  refine Eq.trans (b := V m c main_arg0 (ix3 b ⟨512 * q.val + a.val, by omega⟩ ⟨6144 + n.val, by omega⟩)) ?_ (congrFun (V_main_arg0 m c) _)
  refine congrArg (V m c main_arg0) ?_
  funext x
  apply Fin.ext
  have e := index0 t
  match x with
  | ⟨0, _⟩ => show win0_0.index t 0 * 1 + 1 * 0 = b.val; rw [e]; show (grid0.coords t 0).val * 1 + 1 * 0 = _; omega
  | ⟨1, _⟩ => show win0_0.index t 1 * 512 + 1 * a.val = _; rw [e]; show (grid0.coords t 1).val * 512 + 1 * a.val = 512 * q.val + a.val; omega
  | ⟨2, _⟩ => show win0_0.index t 2 * 512 + 1 * n.val = _; rw [e]; show 12 * 512 + 1 * n.val = 6144 + n.val; omega

theorem iblk1_apply (c : Dev nD) (t : Fin cfg0.N) (b : Fin 2) (hb : (grid0.coords t 0).val = b.val) (s : Fin 256) (n : Fin 1024) :
    (iblk m c 1 t : Vec Ideal S1x256x1024 .bf16) (ix3 0 s n) = pairs m c (ix3 b s n) := by
  unfold iblk
  rw [View.read_apply]
  refine Eq.trans (b := V m c main_arg1 (ix3 b s n)) ?_ (congrFun (V_main_arg1 m c) _)
  refine congrArg (V m c main_arg1) ?_
  funext x
  apply Fin.ext
  have e := index1 t
  match x with
  | ⟨0, _⟩ => show win0_1.index t 0 * 1 + 1 * 0 = b.val; rw [e]; show (grid0.coords t 0).val * 1 + 1 * 0 = _; omega
  | ⟨1, _⟩ => show win0_1.index t 1 * 256 + 1 * s.val = s.val; rw [e]; show 0 * 256 + 1 * s.val = s.val; omega
  | ⟨2, _⟩ => show win0_1.index t 2 * 1024 + 1 * n.val = n.val; rw [e]; show 0 * 1024 + 1 * n.val = n.val; omega

/-- What a point writes back is the attention's block. -/
theorem flushed_eq (c : Dev nD) (t : Fin cfg0.N) (hf : (cfg0.win 2).flush t = true) :
    (dats m 0 c).flushed 2 t = ((cfg0.win 2).blk t).view.read (Elt Ideal) (attn (mix m c) (pairs m c)) := by
  rw [Value.flushed2]
  obtain ⟨b, hb⟩ : ∃ b : Fin 2, (grid0.coords t 0).val = b.val := ⟨grid0.coords t 0, rfl⟩
  obtain ⟨q, hq⟩ : ∃ q : Fin 8, (grid0.coords t 1).val = q.val := ⟨grid0.coords t 1, rfl⟩
  show (fun j : S1x512x512.Idx => _) = _
  funext j
  obtain ⟨u, a, n, rfl⟩ : ∃ (u : Fin 1) (a n : Fin 512), j = ix3 u a n := ⟨j 0, j 1, j 2, eq_ix3 j⟩
  obtain rfl : u = 0 := Subsingleton.elim _ _
  obtain ⟨h, d, rfl⟩ : ∃ (h : Fin 4) (d : Fin 128), n = ⟨128 * h.val + d.val, by omega⟩ :=
    ⟨⟨n.val / 128, by omega⟩, ⟨n.val % 128, by omega⟩, Fin.ext (by show n.val = 128 * (n.val / 128) + n.val % 128; omega)⟩
  rw [View.read_apply]
  have key := out_apply (iblk m c 0 t) (iblk m c 1 t) a h d (row (mix m c) (pairs m c) b h ⟨512 * q.val + a.val, by omega⟩)
    (vals (pairs m c) b h d) (fun s => by
      rw [Finset.sum_congr rfl fun x _ => by rw [iblk0_apply m c t b q hb hq, iblk1_apply m c t b hb]]
      unfold row
      rw [dif_pos s.isLt]
      rfl) (fun s => by
      rw [iblk1_apply m c t b hb, vals, dif_pos s.isLt])
  refine Eq.trans ?_ (key.trans ?_)
  · rfl
  have e := index2 t
  have ij : ((cfg0.win 2).blk t).view.emb (ix3 0 a ⟨128 * h.val + d.val, by omega⟩)
      = ix3 b ⟨512 * q.val + a.val, by omega⟩ ⟨128 * h.val + d.val, by omega⟩ := by
    funext x
    apply Fin.ext
    match x with
    | ⟨0, _⟩ => show win0_2.index t 0 * 1 + 1 * 0 = b.val; rw [e]; show (grid0.coords t 0).val * 1 + 1 * 0 = _; omega
    | ⟨1, _⟩ => show win0_2.index t 1 * 512 + 1 * a.val = _; rw [e]; show (grid0.coords t 1).val * 512 + 1 * a.val = 512 * q.val + a.val; omega
    | ⟨2, _⟩ => show win0_2.index t 2 * 512 + 1 * (128 * h.val + d.val) = _; rw [e]; show 0 * 512 + 1 * (128 * h.val + d.val) = 128 * h.val + d.val; omega
  rw [ij, attn_ix3 _ _ b _ h d _ rfl]
  rfl

/-- The result array. -/
theorem final_eq (c : Dev nD) : (dats m 0 c).arrAt 2 cfg0.N = attn (mix m c) (pairs m c) :=
  (dats m 0 c).arrAt_eq_of_cover 2 (attn (mix m c) (pairs m c)) (flushed_eq m c) fun i => by
    have h0 : (i 0 : Nat) < 2 := (i 0).isLt
    have h1 : (i 1 : Nat) < 4096 := (i 1).isLt
    have h2 : (i 2 : Nat) < 512 := (i 2).isLt
    have ht := point_of ⟨i 0, h0⟩ ⟨i 1 / 512, by omega⟩
    generalize pt ⟨i 0, h0⟩ ⟨i 1 / 512, by omega⟩ = t at ht
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [ht]; show (i 0 : Nat) * 1 ≤ (i 0 : Nat) ∧ (i 0 : Nat) < (i 0 : Nat) * 1 + 1; omega
    | ⟨1, _⟩ => show win0_2.index t 1 * 512 ≤ (i 1 : Nat) ∧ (i 1 : Nat) < win0_2.index t 1 * 512 + 512
                rw [ht]; show (i 1 : Nat) / 512 * 512 ≤ (i 1 : Nat) ∧ (i 1 : Nat) < (i 1 : Nat) / 512 * 512 + 512; omega
    | ⟨2, _⟩ => show win0_2.index t 2 * 512 ≤ (i 2 : Nat) ∧ (i 2 : Nat) < win0_2.index t 2 * 512 + 512
                rw [ht]; show 0 * 512 ≤ (i 2 : Nat) ∧ (i 2 : Nat) < 0 * 512 + 512; omega

end Cert.RecallIdeal.Array
-- ==== Proof.RecallRef.lean ====
/- The reference of the memory's attention, entry by entry: the scores against all of the memory's keys, their softmax along the
   keys, and the weighted values. -/
module

public import proofs.«01_k».proof.Proof.Gen.RecallRefIdeal.Run
public import proofs.«01_k».proof.Proof.RecallMath
public import Idealize.ShloMosaic.Lib.Pointwise

@[expose] public section

set_option maxRecDepth 16384

noncomputable section

namespace Cert.RecallRefIdeal.Ref

open Cert.RecallRefIdeal Cert.RecallRefIdeal.Gen Cert.Proof.Flash Cert.Proof.Recall Idealize.ShloMosaic Idealize.ShloMosaic.TcCoe Idealize.SL.Sem

abbrev Sc : Type := FVec Ideal S2x4x4096x256 .f32

/-- The queries, split into heads. -/
def qT (x : FVec Ideal S2x4096x6656 .bf16) : FVec Ideal S2x4096x4x128 .f32 :=
  shapeCast S2x4096x4x128 (extf .f32 (extractStridedSlice S2x4096x512 ![0, 0, 6144] x slices_S2x4096x6656_S2x4096x512_0_0_6144)
    bitsLt_bf16_f32) shapeCasts_S2x4096x512_S2x4096x4x128

/-- Keys and values together, split into heads. -/
def bothT (y : FVec Ideal S2x256x1024 .bf16) : FVec Ideal S2x256x2x4x128 .f32 :=
  shapeCast S2x256x2x4x128 (extf .f32 y bitsLt_bf16_f32) shapeCasts_S2x256x1024_S2x256x2x4x128

/-- The keys. -/
def kT (y : FVec Ideal S2x256x1024 .bf16) : FVec Ideal S2x256x4x128 .f32 :=
  shapeCast S2x256x4x128 (extractStridedSlice S2x256x1x4x128 ![0, 0, 0, 0, 0] (bothT y) slices_S2x256x2x4x128_S2x256x1x4x128_0_0_0_0_0)
    shapeCasts_S2x256x1x4x128_S2x256x4x128

/-- The values. -/
def vT (y : FVec Ideal S2x256x1024 .bf16) : FVec Ideal S2x256x4x128 .f32 :=
  shapeCast S2x256x4x128 (extractStridedSlice S2x256x1x4x128 ![0, 0, 1, 0, 0] (bothT y) slices_S2x256x2x4x128_S2x256x1x4x128_0_0_1_0_0)
    shapeCasts_S2x256x1x4x128_S2x256x4x128

/-- The scores. -/
def scoreT (x : FVec Ideal S2x4096x6656 .bf16) (y : FVec Ideal S2x256x1024 .bf16) : Sc :=
  mulf (Host.dotGeneral dot_S2x4096x4x128_S2x256x4x128_S2x4x4096x256_3_3_1_1_02_02 none (qT x) (kT y))
    (broadcastInDim S2x4x4096x256 ![] bcast_S_S2x4x4096x256 (constant S_ .f32 0x3DB504F3#32))

/-- A number per row, along the memory's keys. -/
def alongT (x : FVec Ideal S2x4x4096 .f32) : Sc :=
  broadcastInDim S2x4x4096x256 ![0, 1, 2, 3] bcast_S2x4x4096x1_S2x4x4096x256_0_1_2_3
    (broadcastInDim S2x4x4096x1 ![0, 1, 2] bcast_S2x4x4096_S2x4x4096x1_0_1_2 x)

/-- Each row's largest score. -/
def topT (z : Sc) : FVec Ideal S2x4x4096 .f32 :=
  maximumf (broadcastInDim S2x4x4096 ![] bcast_S_S2x4x4096 (constant S_ .f32 0xFF800000#32))
    (Host.reduce FloatOps.maximumf z (constant S_ .f32 0xFF800000#32) reducesTo_S2x4x4096x256_S2x4x4096_d3 h_S_)

/-- The weights before the division. -/
def wtT (z : Sc) : Sc := Host.exp (subf z (alongT (topT z)))

/-- The softmax along the keys. -/
def softT (z : Sc) : Sc :=
  Host.divf (wtT z) (alongT (Host.reduceAdd (wtT z) (constant S_ .f32 0x00000000#32) reducesTo_S2x4x4096x256_S2x4x4096_d3 h_S_))

/-- The result. -/
def outT (x : FVec Ideal S2x4096x6656 .bf16) (y : FVec Ideal S2x256x1024 .bf16) : FVec Ideal S2x4096x512 .bf16 :=
  truncf .bf16 (shapeCast S2x4096x512 (transpose S2x4096x4x128 [0, 3, 1, 2]
    (Host.dotGeneral dot_S2x256x4x128_S2x4x4096x256_S2x4x128x4096_1_3_3_2_02_01 none (vT y) (softT (scoreT x y)))
    transposes_S2x4x128x4096_S2x4096x4x128_0_3_1_2) shapeCasts_S2x4096x4x128_S2x4096x512) bitsLt_bf16_f32

theorem res_eq (m : (ℓ : Loc nD τ sig) → Buf (Elt Ideal) ℓ) (c : Dev nD) :
    Value.res_main_v26 m c = outT (m ((c.tc : Thread nD τ).loc main_arg0)) (m ((c.tc : Thread nD τ).loc main_arg1)) := by
  unfold Value.res_main_v26
  rfl

theorem qT_apply (x : FVec Ideal S2x4096x6656 .bf16) (b : Fin 2) (r : Fin 4096) (g : Fin 4) (d : Fin 128) :
    qT x (ix4 b r g d) = x (ix3 b r ⟨6144 + (128 * g.val + d.val), by omega⟩) := by
  pointwise [qT]
  congr 2
  exact Fin.ext (by simp; omega)

theorem bothT_apply (y : FVec Ideal S2x256x1024 .bf16) (b : Fin 2) (s : Fin 256) (p : Fin 2) (g : Fin 4) (d : Fin 128) :
    bothT y (ix5 b s p g d) = y (ix3 b s ⟨512 * p.val + (128 * g.val + d.val), by omega⟩) := by
  refine (shapeCast_apply (extf .f32 y bitsLt_bf16_f32) _ (ix5 b s p g d) (ix3 b s ⟨512 * p.val + (128 * g.val + d.val), by omega⟩) ?_).trans rfl
  rw [Shape.rowMajor_val_three, Shape.rowMajor_val_five]
  show (b.val * 256 + s.val) * 1024 + (512 * p.val + (128 * g.val + d.val)) = (((b.val * 256 + s.val) * 2 + p.val) * 4 + g.val) * 128 + d.val
  omega

theorem kT_apply (y : FVec Ideal S2x256x1024 .bf16) (b : Fin 2) (s : Fin 256) (g : Fin 4) (d : Fin 128) :
    kT y (ix4 b s g d) = y (ix3 b s ⟨128 * g.val + d.val, by omega⟩) := by
  refine (shapeCast_apply _ _ (ix4 b s g d) (ix5 b s 0 g d) ?_).trans ?_
  · rw [Shape.rowMajor_val_four, Shape.rowMajor_val_five]
    show (((b.val * 256 + s.val) * 1 + 0) * 4 + g.val) * 128 + d.val = ((b.val * 256 + s.val) * 4 + g.val) * 128 + d.val
    omega
  · refine Eq.trans (congrArg (bothT y) (?_ : _ = ix5 b s 0 g d)) ((bothT_apply y b s 0 g d).trans ?_)
    · funext a
      apply Fin.ext
      match a with
      | ⟨0, _⟩ => show 0 + b.val = b.val; omega
      | ⟨1, _⟩ => show 0 + s.val = s.val; omega
      | ⟨2, _⟩ => rfl
      | ⟨3, _⟩ => show 0 + g.val = g.val; omega
      | ⟨4, _⟩ => show 0 + d.val = d.val; omega
    · exact congrArg y (congrArg (ix3 b s) (Fin.ext (by simp)))

theorem vT_apply (y : FVec Ideal S2x256x1024 .bf16) (b : Fin 2) (s : Fin 256) (g : Fin 4) (d : Fin 128) :
    vT y (ix4 b s g d) = y (ix3 b s ⟨512 + (128 * g.val + d.val), by omega⟩) := by
  refine (shapeCast_apply _ _ (ix4 b s g d) (ix5 b s 0 g d) ?_).trans ?_
  · rw [Shape.rowMajor_val_four, Shape.rowMajor_val_five]
    show (((b.val * 256 + s.val) * 1 + 0) * 4 + g.val) * 128 + d.val = ((b.val * 256 + s.val) * 4 + g.val) * 128 + d.val
    omega
  · refine Eq.trans (congrArg (bothT y) (?_ : _ = ix5 b s 1 g d)) ((bothT_apply y b s 1 g d).trans ?_)
    · funext a
      apply Fin.ext
      match a with
      | ⟨0, _⟩ => show 0 + b.val = b.val; omega
      | ⟨1, _⟩ => show 0 + s.val = s.val; omega
      | ⟨2, _⟩ => rfl
      | ⟨3, _⟩ => show 0 + g.val = g.val; omega
      | ⟨4, _⟩ => show 0 + d.val = d.val; omega
    · exact congrArg y (congrArg (ix3 b s) (Fin.ext (by simp)))

theorem scoreT_apply (x : FVec Ideal S2x4096x6656 .bf16) (y : FVec Ideal S2x256x1024 .bf16) (b : Fin 2) (g : Fin 4) (r : Fin 4096)
    (s : Fin 256) : scoreT x y (ix4 b g r s) = score x y b g r s := by
  pointwise [scoreT]
  simp only [qT_apply, kT_apply]
  rfl

theorem neg_inf : Ideal.ofBits FTy.f32 4286578688#32 = ⊥ := by
  simp [Ideal.ofBits, Ideal.ieee, -EReal.coe_mul]

/-- A maximum over a row that starts at minus infinity. -/
theorem fold_top {n : ℕ} (x : EReal) (f : Fin n → EReal) (z : ℕ → EReal) (hx : x = ⊥) (hf : ∀ s : Fin n, f s = z s.val) :
    Finset.univ.fold max x f = top z n := by
  rw [hx, ← top_full z n]
  congr 1
  exact funext hf

/-- The largest entry of a row, read off the reduction. -/
theorem red_apply (Z : Sc) (c : FVec Ideal S_ .f32) (b : Fin 2) (g : Fin 4) (r : Fin 4096) :
    Host.reduce FloatOps.maximumf Z c reducesTo_S2x4x4096x256_S2x4x4096_d3 h_S_ (ix3 b g r)
      = Finset.univ.fold max (c (Shape.Idx.first h_S_)) fun s : Fin 256 => Z (ix4 b g r s) := by
  rw [Host.reduce_eq_fold, Shape.ReducesTo.fold_fiber_r4_a3]
  rfl

section
variable (Z : Sc) (b : Fin 2) (g : Fin 4) (r : Fin 4096) (z : ℕ → EReal) (hz : ∀ s : Fin 256, Z (ix4 b g r s) = z s.val)
include hz

theorem row_top : Finset.univ.fold max ((constant (F := Ideal) S_ .f32 0xFF800000#32) (Shape.Idx.first h_S_))
    (fun s : Fin 256 => Z (ix4 b g r s)) = top z 256 :=
  fold_top _ _ z neg_inf hz

theorem red_top : Host.reduce FloatOps.maximumf Z (constant S_ .f32 0xFF800000#32) reducesTo_S2x4x4096x256_S2x4x4096_d3 h_S_ (ix3 b g r) = top z 256 := by
  rw [red_apply Z _ b g r]
  exact row_top Z b g r z hz

theorem topT_apply : topT Z (ix3 b g r) = top z 256 := by
  unfold topT
  rw [maximumf_apply, red_top Z b g r z hz]
  show max (Ideal.ofBits FTy.f32 4286578688#32) _ = _
  rw [neg_inf, max_eq_right bot_le]

theorem wtT_apply (s : Fin 256) : wtT Z (ix4 b g r s) = wt z 256 s.val := by
  pointwise [wtT, alongT]
  rw [hz, topT_apply Z b g r z hz]
  rfl

theorem softT_apply (s : Fin 256) : softT Z (ix4 b g r s) = Ideal.div (wt z 256 s.val) (den z 256) := by
  pointwise [softT, alongT]
  simp only [wtT_apply Z b g r z hz]
  unfold den
  rw [Fin.sum_univ_eq_sum_range (fun s => wt z 256 s) 256]

end

theorem outT_apply (x : FVec Ideal S2x4096x6656 .bf16) (y : FVec Ideal S2x256x1024 .bf16) (hx : RealScores x y)
    (b : Fin 2) (r : Fin 4096) (g : Fin 4) (d : Fin 128) :
    outT x y (ix3 b r ⟨128 * g.val + d.val, by omega⟩) = attnAt x y b r g d := by
  have hz : ∀ s : Fin 256, scoreT x y (ix4 b g r s) = row x y b g r s.val := fun s => by
    rw [scoreT_apply]
    unfold row
    rw [dif_pos s.isLt]
  pointwise [outT]
  unfold attnAt
  rw [← att_split (row_is x y hx b g r) _ (by omega),
    ← Fin.sum_univ_eq_sum_range (fun s => Ideal.div (wt (row x y b g r) 256 s) (den (row x y b g r) 256) * vals y b g d s) 256]
  refine Finset.sum_congr rfl fun s _ => ?_
  rw [softT_apply _ b g r _ hz s, vT_apply, mul_comm]
  unfold vals
  rw [dif_pos s.isLt]

theorem outT_eq (x : FVec Ideal S2x4096x6656 .bf16) (y : FVec Ideal S2x256x1024 .bf16) (hx : RealScores x y) :
    outT x y = attn x y := by
  funext j
  obtain ⟨b, r, c, rfl⟩ : ∃ (b : Fin 2) (r : Fin 4096) (c : Fin 512), j = ix3 b r c := ⟨j 0, j 1, j 2, eq_ix3 j⟩
  obtain ⟨g, d, rfl⟩ : ∃ (g : Fin 4) (d : Fin 128), c = ⟨128 * g.val + d.val, by omega⟩ :=
    ⟨⟨c.val / 128, by omega⟩, ⟨c.val % 128, by omega⟩, Fin.ext (by show c.val = 128 * (c.val / 128) + c.val % 128; omega)⟩
  rw [attn_ix3 x y b r g d _ rfl]
  exact outT_apply x y hx b r g d

end Cert.RecallRefIdeal.Ref
-- ==== Proof.RecallPre.lean ====
/- What the precondition of the memory's attention gives: its queries and keys are real numbers, so every score is. -/
module

public import proofs.«01_k».proof.Proof.Gen.Pre_mem_finite
public import proofs.«01_k».proof.Proof.RecallMath
public import Idealize.ShloMosaic.Lib.WordCmp
public import Idealize.ShloMosaic.Lib.ReduceAll

@[expose] public section

set_option maxRecDepth 16384

noncomputable section

namespace Cert.Pre_mem_finite.Read

open Cert.Pre_mem_finite Cert.Proof.Recall Idealize.ShloMosaic

theorem both_one : ∀ a b : BitVec 1, a &&& b = 1#1 → a = 1#1 ∧ b = 1#1 := by decide

/-- A value whose size is below plus infinity is a real number. -/
theorem real_of_lt (y : EReal)
    (h : BitVec.ofBool (decide (max y (-y) < Ideal.ofBits .f32 2139095040#32)) = 1#1) :
    ∃ t : ℝ, y = (t : EReal) := by
  have h2 : max y (-y) < Ideal.ofBits .f32 2139095040#32 := by
    by_contra hn
    rw [decide_eq_false hn] at h
    exact absurd h (by decide)
  induction y using EReal.rec with
  | bot => exact absurd h2 (by simp [Ideal.ofBits, Ideal.ieee, -EReal.coe_mul])
  | coe t => exact ⟨t, rfl⟩
  | top => exact absurd h2 (by simp [Ideal.ofBits, Ideal.ieee, -EReal.coe_mul])

theorem entry_real (hF : Facts) (x : FVec Ideal S2x4096x6656 .bf16) (y : FVec Ideal S2x256x1024 .bf16) (h : fn x y = fun _ => 1#1) :
    (∀ (b : Fin 2) (r : Fin 4096) (n : Fin 512), ∃ t : ℝ, x (ix3 b r ⟨6144 + n.val, by omega⟩) = (t : EReal))
      ∧ ∀ (b : Fin 2) (s : Fin 256) (n : Fin 512), ∃ t : ℝ, y (ix3 b s ⟨n.val, by omega⟩) = (t : EReal) := by
  have h0 := congrFun h (fun a => a.elim0)
  unfold fn at h0
  haveI : Subsingleton S_.Idx := ⟨fun a b => funext fun i => i.elim0⟩
  obtain ⟨h1, h2⟩ := both_one _ _ h0
  refine ⟨fun b r n => ?_, fun b s n => ?_⟩
  · have e1 := Host.reduce_andi_all _ _ _ _ _ h1 (ix3 b r n)
    revert e1
    pointwise []
    exact fun e1 => real_of_lt _ e1
  · have e2 := Host.reduce_andi_all _ _ _ _ _ h2 (ix3 b s n)
    revert e2
    pointwise []
    exact fun e2 => real_of_lt _ e2

theorem scores_real (hF : Facts) (x : FVec Ideal S2x4096x6656 .bf16) (y : FVec Ideal S2x256x1024 .bf16) (h : fn x y = fun _ => 1#1) :
    RealScores x y := by
  obtain ⟨eq, ek⟩ := entry_real hF x y h
  intro b g r s
  have hq : ∀ d : Fin 128, ∃ t : ℝ, x (ix3 b r ⟨6144 + (128 * g.val + d.val), by omega⟩) = (t : EReal) := fun d =>
    eq b r ⟨128 * g.val + d.val, by omega⟩
  have hk : ∀ d : Fin 128, ∃ t : ℝ, y (ix3 b s ⟨128 * g.val + d.val, by omega⟩) = (t : EReal) := fun d =>
    ek b s ⟨128 * g.val + d.val, by omega⟩
  choose q hq using hq
  choose k hk using hk
  obtain ⟨w, hw⟩ : ∃ w : ℝ, Ideal.ofBits .f32 1035273459#32 = (w : EReal) :=
    ⟨_, (EReal.coe_toReal (by simp [Ideal.ofBits, Ideal.ieee, -EReal.coe_mul]) (by simp [Ideal.ofBits, Ideal.ieee, -EReal.coe_mul])).symm⟩
  refine ⟨(∑ d, q d * k d) * w, ?_⟩
  unfold score
  simp only [hq, hk, hw, ← EReal.coe_mul]
  rw [EReal.coe_mul]
  congr 1

end Cert.Pre_mem_finite.Read
-- ==== Proof.RecallWHead.lean ====
/- One head of the memory's attention at one point, and the four heads side by side in the point's block. -/
module

public import proofs.«01_k».proof.Proof.Gen.RecallWIdeal.Value
public import proofs.«01_k».proof.Proof.FlashMath
public import Idealize.ShloMosaic.Lib.Pointwise
public import Idealize.ShloMosaic.Lib.VecWindow

@[expose] public section

set_option maxRecDepth 16384

noncomputable section

namespace Cert.RecallWIdeal.Head

open Cert.RecallWIdeal Cert.RecallWIdeal.Gen Cert.Proof.Flash Idealize.ShloMosaic

theorem neg_inf : Ideal.ofBits FTy.f32 4286578688#32 = ⊥ := by
  simp [Ideal.ofBits, Ideal.ieee, -EReal.coe_mul]

/-- One head's entry. -/
theorem head_apply (q : Vec Ideal S1x512x128 .bf16) (k v : Vec Ideal S1x256x128 .bf16) (a : Fin 512) (d : Fin 128) (z y : ℕ → EReal)
    (hz : ∀ s : Fin 256, (∑ x, q (ix3 0 a x) * k (ix3 0 s x)) * Ideal.ofBits FTy.f32 1035273459#32 = z s.val)
    (hv : ∀ s : Fin 256, v (ix3 0 s d) = y s.val) :
    k0_pay2 q k v (ix2 a d) = att z y 256 := by
  pointwise [k0_pay2]
  simp only [hz, hv, neg_inf, top_full z 256]
  rw [Fin.sum_univ_eq_sum_range (fun s => Ideal.exp (z s - top z 256) * y s) 256,
    Fin.sum_univ_eq_sum_range (fun s => Ideal.exp (z s - top z 256)) 256]
  rfl

section
variable {F : FTy → Type} [FloatOps F]

theorem second (q : Vec F S1x512x128 .bf16) (k v : Vec F S1x256x128 .bf16) :
    k0_pay6 (k0_pay3 v) (k0_pay4 q k) (k0_pay5 q k) = k0_pay2 q k v := rfl

theorem third (q : Vec F S1x512x128 .bf16) (k v : Vec F S1x256x128 .bf16) : k0_pay7 q k v = k0_pay2 q k v := rfl

/-- Four heads side by side. -/
def beside (x0 x1 x2 x3 : FVec F S512x128 .bf16) : FVec F S1x512x512 .bf16 :=
  shapeCast S1x512x512 (concatenate S512x512 1 [⟨S512x128, x0⟩, ⟨S512x128, x1⟩, ⟨S512x128, x2⟩, ⟨S512x128, x3⟩]
    concatenates_S512x128_S512x128_S512x128_S512x128_S512x512_d1) shapeCasts_S512x512_S1x512x512

theorem fourth (x0 x1 x2 : FVec F S512x128 .bf16) (q : Vec F S1x512x128 .bf16) (k v : Vec F S1x256x128 .bf16) :
    k0_pay1 x0 x1 x2 (k0_pay8 q) (k0_pay9 k) v = beside x0 x1 x2 (k0_pay2 q k v) := rfl

end

theorem beside_apply (x : Fin 4 → FVec Ideal S512x128 .bf16) (a : Fin 512) (h : Fin 4) (d : Fin 128) :
    beside (x 0) (x 1) (x 2) (x 3) (ix3 0 a ⟨128 * h.val + d.val, by omega⟩) = x h (ix2 a d) := by
  pointwise [beside]
  have hd := d.isLt
  match h with
  | 0 =>
    rw [dif_pos (by simp)]
    exact congrArg (x 0) (congrArg (ix2 a) (Fin.ext (by simp)))
  | 1 =>
    rw [dif_neg (by simp), dif_pos (by simp)]
    exact congrArg (x 1) (congrArg (ix2 a) (Fin.ext (by simp)))
  | 2 =>
    rw [dif_neg (by simp; omega), dif_neg (by simp; omega), dif_pos (by simp; omega)]
    exact congrArg (x 2) (congrArg (ix2 a) (Fin.ext (by simp; omega)))
  | 3 =>
    rw [dif_neg (by simp; omega), dif_neg (by simp; omega), dif_neg (by simp; omega)]
    exact congrArg (x 3) (congrArg (ix2 a) (Fin.ext (by simp; omega)))

section
variable {F : FTy → Type} [FloatOps F]

theorem ldq_apply (x : Vec F S1x512x512 .bf16) (off : Fin 3 → ℕ) (inb : ∀ a, off a + S1x512x128.size a ≤ S1x512x512.size a) (o : ℕ)
    (e0 : off 0 = 0) (e1 : off 1 = 0) (e2 : off 2 = o) (a : Fin 512) (d : Fin 128) (hn : o + d.val < 512) :
    View.ld x (Rect.unit (s := S1x512x512) off S1x512x128.size inb) (ix3 0 a d) = x (ix3 0 a ⟨o + d.val, hn⟩) := by
  refine congrArg x (funext fun y => Fin.ext ?_)
  match y with
  | ⟨0, _⟩ => show off 0 + 1 * 0 = 0; omega
  | ⟨1, _⟩ => show off 1 + 1 * a.val = a.val; omega
  | ⟨2, _⟩ => show off 2 + 1 * d.val = o + d.val; omega

theorem ldk_apply (x : Vec F S1x256x1024 .bf16) (off : Fin 3 → ℕ) (inb : ∀ a, off a + S1x256x128.size a ≤ S1x256x1024.size a) (o : ℕ)
    (e0 : off 0 = 0) (e1 : off 1 = 0) (e2 : off 2 = o) (a : Fin 256) (d : Fin 128) (hn : o + d.val < 1024) :
    View.ld x (Rect.unit (s := S1x256x1024) off S1x256x128.size inb) (ix3 0 a d) = x (ix3 0 a ⟨o + d.val, hn⟩) := by
  refine congrArg x (funext fun y => Fin.ext ?_)
  match y with
  | ⟨0, _⟩ => show off 0 + 1 * 0 = 0; omega
  | ⟨1, _⟩ => show off 1 + 1 * a.val = a.val; omega
  | ⟨2, _⟩ => show off 2 + 1 * d.val = o + d.val; omega

/-- A head's queries in the block, its keys and its values. -/
def qs (x : Vec F S1x512x512 .bf16) : Fin 4 → Vec F S1x512x128 .bf16
  | 0 => View.ld x r0_0 | 1 => View.ld x r0_3 | 2 => View.ld x r0_6 | 3 => View.ld x r0_9
def ks (x : Vec F S1x256x1024 .bf16) : Fin 4 → Vec F S1x256x128 .bf16
  | 0 => View.ld x r0_1 | 1 => View.ld x r0_4 | 2 => View.ld x r0_7 | 3 => View.ld x r0_10
def vs (x : Vec F S1x256x1024 .bf16) : Fin 4 → Vec F S1x256x128 .bf16
  | 0 => View.ld x r0_2 | 1 => View.ld x r0_5 | 2 => View.ld x r0_8 | 3 => View.ld x r0_11

theorem qs_apply (x : Vec F S1x512x512 .bf16) (h : Fin 4) (a : Fin 512) (d : Fin 128) :
    qs x h (ix3 0 a d) = x (ix3 0 a ⟨128 * h.val + d.val, by omega⟩) := by
  match h with
  | 0 => exact ldq_apply x _ _ 0 rfl rfl rfl a d (by omega)
  | 1 => exact ldq_apply x _ _ 128 rfl rfl rfl a d (by omega)
  | 2 => exact ldq_apply x _ _ 256 rfl rfl rfl a d (by omega)
  | 3 => exact ldq_apply x _ _ 384 rfl rfl rfl a d (by omega)

theorem ks_apply (x : Vec F S1x256x1024 .bf16) (h : Fin 4) (a : Fin 256) (d : Fin 128) :
    ks x h (ix3 0 a d) = x (ix3 0 a ⟨128 * h.val + d.val, by omega⟩) := by
  match h with
  | 0 => exact ldk_apply x _ _ 0 rfl rfl rfl a d (by omega)
  | 1 => exact ldk_apply x _ _ 128 rfl rfl rfl a d (by omega)
  | 2 => exact ldk_apply x _ _ 256 rfl rfl rfl a d (by omega)
  | 3 => exact ldk_apply x _ _ 384 rfl rfl rfl a d (by omega)

theorem vs_apply (x : Vec F S1x256x1024 .bf16) (h : Fin 4) (a : Fin 256) (d : Fin 128) :
    vs x h (ix3 0 a d) = x (ix3 0 a ⟨512 + (128 * h.val + d.val), by omega⟩) := by
  match h with
  | 0 => exact (ldk_apply x _ _ 512 rfl rfl rfl a d (by omega)).trans (congrArg x (congrArg (ix3 0 a) (Fin.ext (by simp))))
  | 1 => exact (ldk_apply x _ _ 640 rfl rfl rfl a d (by omega)).trans (congrArg x (congrArg (ix3 0 a) (Fin.ext (by simp; omega))))
  | 2 => exact (ldk_apply x _ _ 768 rfl rfl rfl a d (by omega)).trans (congrArg x (congrArg (ix3 0 a) (Fin.ext (by simp; omega))))
  | 3 => exact (ldk_apply x _ _ 896 rfl rfl rfl a d (by omega)).trans (congrArg x (congrArg (ix3 0 a) (Fin.ext (by simp; omega))))

/-- The heads at a point. -/
def heads (x : Vec F S1x512x512 .bf16) (y : Vec F S1x256x1024 .bf16) (h : Fin 4) : FVec F S512x128 .bf16 :=
  k0_pay2 (qs x h) (ks y h) (vs y h)

theorem off3 : (![0, 0, 0] : Fin 3 → Nat) = fun _ => 0 := funext fun a => by fin_cases a <;> rfl

theorem out_eq (x : Vec F S1x512x512 .bf16) (y : Vec F S1x256x1024 .bf16) :
    out0_2 x y = beside (heads x y 0) (heads x y 1) (heads x y 2) (heads x y 3) := by
  unfold out0_2
  rw [View.canon_unit_zero off3, second, third, fourth]
  rfl

end

/-- An entry of a point's block. -/
theorem out_apply (x : Vec Ideal S1x512x512 .bf16) (y : Vec Ideal S1x256x1024 .bf16) (a : Fin 512) (h : Fin 4) (d : Fin 128) (z u : ℕ → EReal)
    (hz : ∀ s : Fin 256, (∑ e : Fin 128, x (ix3 0 a ⟨128 * h.val + e.val, by omega⟩) * y (ix3 0 s ⟨128 * h.val + e.val, by omega⟩))
      * Ideal.ofBits FTy.f32 1035273459#32 = z s.val)
    (hv : ∀ s : Fin 256, y (ix3 0 s ⟨512 + (128 * h.val + d.val), by omega⟩) = u s.val) :
    out0_2 x y (ix3 0 a ⟨128 * h.val + d.val, by omega⟩) = att z u 256 := by
  rw [out_eq]
  refine (beside_apply (heads x y) a h d).trans (head_apply _ _ _ a d z u (fun s => ?_) fun s => ?_)
  · simp only [qs_apply, ks_apply]
    exact hz s
  · rw [vs_apply]
    exact hv s

end Cert.RecallWIdeal.Head
-- ==== Proof.RecallWMath.lean ====
/- The memory's attention as a formula: the scores of a query against the memory's 256 keys, and the result with the four heads
   side by side. -/
module

public import proofs.«01_k».proof.Proof.FlashMath

@[expose] public section

set_option maxRecDepth 16384

noncomputable section

namespace Cert.Proof.RecallW

open Idealize.ShloMosaic Cert.Proof.Flash

abbrev Mix : Type := (⟨3, ![2, 4096, 3072]⟩ : Shape).Idx → EReal
abbrev Pairs : Type := (⟨3, ![2, 256, 1024]⟩ : Shape).Idx → EReal

/-- The scaled score of query `r` and the memory's key `s` in batch `b` and head `h`. -/
def score (x : Mix) (y : Pairs) (b : Fin 2) (h : Fin 4) (r : Fin 4096) (s : Fin 256) : EReal :=
  (∑ d : Fin 128, x (ix3 b r ⟨2560 + (128 * h.val + d.val), by omega⟩) * y (ix3 b s ⟨128 * h.val + d.val, by omega⟩))
    * Ideal.ofBits FTy.f32 1035273459#32

/-- Query `r`'s scores. -/
def row (x : Mix) (y : Pairs) (b : Fin 2) (h : Fin 4) (r : Fin 4096) (s : ℕ) : EReal :=
  if hs : s < 256 then score x y b h r ⟨s, hs⟩ else ⊥

/-- A column of the memory's values. -/
def vals (y : Pairs) (b : Fin 2) (h : Fin 4) (d : Fin 128) (s : ℕ) : EReal :=
  if hs : s < 256 then y (ix3 b ⟨s, hs⟩ ⟨512 + (128 * h.val + d.val), by omega⟩) else 0

/-- Every score is a real number. -/
def RealScores (x : Mix) (y : Pairs) : Prop := ∀ b h r s, ∃ t : ℝ, score x y b h r s = (t : EReal)

theorem row_is (x : Mix) (y : Pairs) (hx : RealScores x y) (b : Fin 2) (h : Fin 4) (r : Fin 4096) : Row (row x y b h r) where
  first := by
    obtain ⟨t, e⟩ := hx b h r ⟨0, by omega⟩
    exact ⟨t, by unfold row; rw [dif_pos (by omega)]; exact e⟩
  each s := by
    unfold row
    by_cases hs : s < 256
    · rw [dif_pos hs]; exact .inr (hx b h r ⟨s, hs⟩)
    · rw [dif_neg hs]; exact .inl rfl

/-- One entry of the attention. -/
def attnAt (x : Mix) (y : Pairs) (b : Fin 2) (r : Fin 4096) (h : Fin 4) (d : Fin 128) : EReal :=
  att (row x y b h r) (vals y b h d) 256

/-- The attention's result, the heads side by side. -/
def attn (x : Mix) (y : Pairs) (j : (⟨3, ![2, 4096, 512]⟩ : Shape).Idx) : EReal :=
  attnAt x y (j 0) (j 1) ⟨(j 2).val / 128, by have : (j 2).val < 512 := (j 2).isLt; omega⟩ ⟨(j 2).val % 128, by omega⟩

theorem attn_ix3 (x : Mix) (y : Pairs) (b : Fin 2) (r : Fin 4096) (h : Fin 4) (d : Fin 128)
    (n : Fin 512) (hn : n.val = 128 * h.val + d.val) : attn x y (ix3 b r n) = attnAt x y b r h d := by
  show attnAt x y b r ⟨n.val / 128, _⟩ ⟨n.val % 128, _⟩ = _
  congr 1 <;> apply Fin.ext <;> simp only [hn] <;> omega

end Cert.Proof.RecallW
-- ==== Proof.RecallWArray.lean ====
/- The result array of the memory attention's launch: each point writes a block of rows with its four heads, and together the
   blocks are the whole array. -/
module

public import proofs.«01_k».proof.Proof.RecallWHead
public import proofs.«01_k».proof.Proof.RecallWMath
public import Idealize.ShloMosaic.Lib.Pipeline.Value

@[expose] public section

set_option maxRecDepth 16384

noncomputable section

namespace Cert.RecallWIdeal.Array

open Cert.RecallWIdeal Cert.RecallWIdeal.Gen Cert.RecallWIdeal.Head Cert.Proof.RecallW Idealize.ShloMosaic
  Idealize.ShloMosaic.TcCoe Idealize.SL.Sem

theorem index0 : ∀ t : Fin grid0.N, win0_0.index t = ![(grid0.coords t 0).val, (grid0.coords t 1).val, 5] := by decide +kernel
theorem index1 : ∀ t : Fin grid0.N, win0_1.index t = ![(grid0.coords t 0).val, 0, 0] := by decide +kernel
theorem index2 : ∀ t : Fin grid0.N, win0_2.index t = ![(grid0.coords t 0).val, (grid0.coords t 1).val, 0] := by decide +kernel

/-- The point that writes block of rows `q` in batch `b`. -/
def pt (b : Fin 2) (q : Fin 8) : Fin grid0.N := ⟨8 * b.val + q.val, by rw [N_0]; omega⟩

theorem point_of : ∀ (b : Fin 2) (q : Fin 8), win0_2.index (pt b q) = ![b.val, q.val, 0] := by decide +kernel

variable (m : (ℓ : Loc nD τ sig) → Buf (Elt Ideal) ℓ)

/-- The projection. -/
abbrev mix (c : Dev nD) : Mix := m ((c : Thread nD τ).loc main_arg0)
/-- The memory's keys and values. -/
abbrev pairs (c : Dev nD) : Pairs := m ((c : Thread nD τ).loc main_arg1)

theorem iblk0_apply (c : Dev nD) (t : Fin cfg0.N) (b : Fin 2) (q : Fin 8) (hb : (grid0.coords t 0).val = b.val)
    (hq : (grid0.coords t 1).val = q.val) (a n : Fin 512) :
    (iblk m c 0 t : Vec Ideal S1x512x512 .bf16) (ix3 0 a n)
      = mix m c (ix3 b ⟨512 * q.val + a.val, by omega⟩ ⟨2560 + n.val, by omega⟩) := by
  unfold iblk
  rw [View.read_apply]
  refine Eq.trans (b := V m c main_arg0 (ix3 b ⟨512 * q.val + a.val, by omega⟩ ⟨2560 + n.val, by omega⟩)) ?_ (congrFun (V_main_arg0 m c) _)
  refine congrArg (V m c main_arg0) ?_
  funext x
  apply Fin.ext
  have e := index0 t
  match x with
  | ⟨0, _⟩ => show win0_0.index t 0 * 1 + 1 * 0 = b.val; rw [e]; show (grid0.coords t 0).val * 1 + 1 * 0 = _; omega
  | ⟨1, _⟩ => show win0_0.index t 1 * 512 + 1 * a.val = _; rw [e]; show (grid0.coords t 1).val * 512 + 1 * a.val = 512 * q.val + a.val; omega
  | ⟨2, _⟩ => show win0_0.index t 2 * 512 + 1 * n.val = _; rw [e]; show 5 * 512 + 1 * n.val = 2560 + n.val; omega

theorem iblk1_apply (c : Dev nD) (t : Fin cfg0.N) (b : Fin 2) (hb : (grid0.coords t 0).val = b.val) (s : Fin 256) (n : Fin 1024) :
    (iblk m c 1 t : Vec Ideal S1x256x1024 .bf16) (ix3 0 s n) = pairs m c (ix3 b s n) := by
  unfold iblk
  rw [View.read_apply]
  refine Eq.trans (b := V m c main_arg1 (ix3 b s n)) ?_ (congrFun (V_main_arg1 m c) _)
  refine congrArg (V m c main_arg1) ?_
  funext x
  apply Fin.ext
  have e := index1 t
  match x with
  | ⟨0, _⟩ => show win0_1.index t 0 * 1 + 1 * 0 = b.val; rw [e]; show (grid0.coords t 0).val * 1 + 1 * 0 = _; omega
  | ⟨1, _⟩ => show win0_1.index t 1 * 256 + 1 * s.val = s.val; rw [e]; show 0 * 256 + 1 * s.val = s.val; omega
  | ⟨2, _⟩ => show win0_1.index t 2 * 1024 + 1 * n.val = n.val; rw [e]; show 0 * 1024 + 1 * n.val = n.val; omega

/-- What a point writes back is the attention's block. -/
theorem flushed_eq (c : Dev nD) (t : Fin cfg0.N) (hf : (cfg0.win 2).flush t = true) :
    (dats m 0 c).flushed 2 t = ((cfg0.win 2).blk t).view.read (Elt Ideal) (attn (mix m c) (pairs m c)) := by
  rw [Value.flushed2]
  obtain ⟨b, hb⟩ : ∃ b : Fin 2, (grid0.coords t 0).val = b.val := ⟨grid0.coords t 0, rfl⟩
  obtain ⟨q, hq⟩ : ∃ q : Fin 8, (grid0.coords t 1).val = q.val := ⟨grid0.coords t 1, rfl⟩
  show (fun j : S1x512x512.Idx => _) = _
  funext j
  obtain ⟨u, a, n, rfl⟩ : ∃ (u : Fin 1) (a n : Fin 512), j = ix3 u a n := ⟨j 0, j 1, j 2, eq_ix3 j⟩
  obtain rfl : u = 0 := Subsingleton.elim _ _
  obtain ⟨h, d, rfl⟩ : ∃ (h : Fin 4) (d : Fin 128), n = ⟨128 * h.val + d.val, by omega⟩ :=
    ⟨⟨n.val / 128, by omega⟩, ⟨n.val % 128, by omega⟩, Fin.ext (by show n.val = 128 * (n.val / 128) + n.val % 128; omega)⟩
  rw [View.read_apply]
  have key := out_apply (iblk m c 0 t) (iblk m c 1 t) a h d (row (mix m c) (pairs m c) b h ⟨512 * q.val + a.val, by omega⟩)
    (vals (pairs m c) b h d) (fun s => by
      rw [Finset.sum_congr rfl fun x _ => by rw [iblk0_apply m c t b q hb hq, iblk1_apply m c t b hb]]
      unfold row
      rw [dif_pos s.isLt]
      rfl) (fun s => by
      rw [iblk1_apply m c t b hb, vals, dif_pos s.isLt])
  refine Eq.trans ?_ (key.trans ?_)
  · rfl
  have e := index2 t
  have ij : ((cfg0.win 2).blk t).view.emb (ix3 0 a ⟨128 * h.val + d.val, by omega⟩)
      = ix3 b ⟨512 * q.val + a.val, by omega⟩ ⟨128 * h.val + d.val, by omega⟩ := by
    funext x
    apply Fin.ext
    match x with
    | ⟨0, _⟩ => show win0_2.index t 0 * 1 + 1 * 0 = b.val; rw [e]; show (grid0.coords t 0).val * 1 + 1 * 0 = _; omega
    | ⟨1, _⟩ => show win0_2.index t 1 * 512 + 1 * a.val = _; rw [e]; show (grid0.coords t 1).val * 512 + 1 * a.val = 512 * q.val + a.val; omega
    | ⟨2, _⟩ => show win0_2.index t 2 * 512 + 1 * (128 * h.val + d.val) = _; rw [e]; show 0 * 512 + 1 * (128 * h.val + d.val) = 128 * h.val + d.val; omega
  rw [ij, attn_ix3 _ _ b _ h d _ rfl]
  rfl

/-- The result array. -/
theorem final_eq (c : Dev nD) : (dats m 0 c).arrAt 2 cfg0.N = attn (mix m c) (pairs m c) :=
  (dats m 0 c).arrAt_eq_of_cover 2 (attn (mix m c) (pairs m c)) (flushed_eq m c) fun i => by
    have h0 : (i 0 : Nat) < 2 := (i 0).isLt
    have h1 : (i 1 : Nat) < 4096 := (i 1).isLt
    have h2 : (i 2 : Nat) < 512 := (i 2).isLt
    have ht := point_of ⟨i 0, h0⟩ ⟨i 1 / 512, by omega⟩
    generalize pt ⟨i 0, h0⟩ ⟨i 1 / 512, by omega⟩ = t at ht
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [ht]; show (i 0 : Nat) * 1 ≤ (i 0 : Nat) ∧ (i 0 : Nat) < (i 0 : Nat) * 1 + 1; omega
    | ⟨1, _⟩ => show win0_2.index t 1 * 512 ≤ (i 1 : Nat) ∧ (i 1 : Nat) < win0_2.index t 1 * 512 + 512
                rw [ht]; show (i 1 : Nat) / 512 * 512 ≤ (i 1 : Nat) ∧ (i 1 : Nat) < (i 1 : Nat) / 512 * 512 + 512; omega
    | ⟨2, _⟩ => show win0_2.index t 2 * 512 ≤ (i 2 : Nat) ∧ (i 2 : Nat) < win0_2.index t 2 * 512 + 512
                rw [ht]; show 0 * 512 ≤ (i 2 : Nat) ∧ (i 2 : Nat) < 0 * 512 + 512; omega

end Cert.RecallWIdeal.Array
-- ==== Proof.RecallWRef.lean ====
/- The reference of the memory's attention, entry by entry: the scores against all of the memory's keys, their softmax along the
   keys, and the weighted values. -/
module

public import proofs.«01_k».proof.Proof.Gen.RecallWRefIdeal.Run
public import proofs.«01_k».proof.Proof.RecallWMath
public import Idealize.ShloMosaic.Lib.Pointwise

@[expose] public section

set_option maxRecDepth 16384

noncomputable section

namespace Cert.RecallWRefIdeal.Ref

open Cert.RecallWRefIdeal Cert.RecallWRefIdeal.Gen Cert.Proof.Flash Cert.Proof.RecallW Idealize.ShloMosaic Idealize.ShloMosaic.TcCoe Idealize.SL.Sem

abbrev Sc : Type := FVec Ideal S2x4x4096x256 .f32

/-- The queries, split into heads. -/
def qT (x : FVec Ideal S2x4096x3072 .bf16) : FVec Ideal S2x4096x4x128 .f32 :=
  shapeCast S2x4096x4x128 (extf .f32 (extractStridedSlice S2x4096x512 ![0, 0, 2560] x slices_S2x4096x3072_S2x4096x512_0_0_2560)
    bitsLt_bf16_f32) shapeCasts_S2x4096x512_S2x4096x4x128

/-- Keys and values together, split into heads. -/
def bothT (y : FVec Ideal S2x256x1024 .bf16) : FVec Ideal S2x256x2x4x128 .f32 :=
  shapeCast S2x256x2x4x128 (extf .f32 y bitsLt_bf16_f32) shapeCasts_S2x256x1024_S2x256x2x4x128

/-- The keys. -/
def kT (y : FVec Ideal S2x256x1024 .bf16) : FVec Ideal S2x256x4x128 .f32 :=
  shapeCast S2x256x4x128 (extractStridedSlice S2x256x1x4x128 ![0, 0, 0, 0, 0] (bothT y) slices_S2x256x2x4x128_S2x256x1x4x128_0_0_0_0_0)
    shapeCasts_S2x256x1x4x128_S2x256x4x128

/-- The values. -/
def vT (y : FVec Ideal S2x256x1024 .bf16) : FVec Ideal S2x256x4x128 .f32 :=
  shapeCast S2x256x4x128 (extractStridedSlice S2x256x1x4x128 ![0, 0, 1, 0, 0] (bothT y) slices_S2x256x2x4x128_S2x256x1x4x128_0_0_1_0_0)
    shapeCasts_S2x256x1x4x128_S2x256x4x128

/-- The scores. -/
def scoreT (x : FVec Ideal S2x4096x3072 .bf16) (y : FVec Ideal S2x256x1024 .bf16) : Sc :=
  mulf (Host.dotGeneral dot_S2x4096x4x128_S2x256x4x128_S2x4x4096x256_3_3_1_1_02_02 none (qT x) (kT y))
    (broadcastInDim S2x4x4096x256 ![] bcast_S_S2x4x4096x256 (constant S_ .f32 0x3DB504F3#32))

/-- A number per row, along the memory's keys. -/
def alongT (x : FVec Ideal S2x4x4096 .f32) : Sc :=
  broadcastInDim S2x4x4096x256 ![0, 1, 2, 3] bcast_S2x4x4096x1_S2x4x4096x256_0_1_2_3
    (broadcastInDim S2x4x4096x1 ![0, 1, 2] bcast_S2x4x4096_S2x4x4096x1_0_1_2 x)

/-- Each row's largest score. -/
def topT (z : Sc) : FVec Ideal S2x4x4096 .f32 :=
  maximumf (broadcastInDim S2x4x4096 ![] bcast_S_S2x4x4096 (constant S_ .f32 0xFF800000#32))
    (Host.reduce FloatOps.maximumf z (constant S_ .f32 0xFF800000#32) reducesTo_S2x4x4096x256_S2x4x4096_d3 h_S_)

/-- The weights before the division. -/
def wtT (z : Sc) : Sc := Host.exp (subf z (alongT (topT z)))

/-- The softmax along the keys. -/
def softT (z : Sc) : Sc :=
  Host.divf (wtT z) (alongT (Host.reduceAdd (wtT z) (constant S_ .f32 0x00000000#32) reducesTo_S2x4x4096x256_S2x4x4096_d3 h_S_))

/-- The result. -/
def outT (x : FVec Ideal S2x4096x3072 .bf16) (y : FVec Ideal S2x256x1024 .bf16) : FVec Ideal S2x4096x512 .bf16 :=
  truncf .bf16 (shapeCast S2x4096x512 (transpose S2x4096x4x128 [0, 3, 1, 2]
    (Host.dotGeneral dot_S2x256x4x128_S2x4x4096x256_S2x4x128x4096_1_3_3_2_02_01 none (vT y) (softT (scoreT x y)))
    transposes_S2x4x128x4096_S2x4096x4x128_0_3_1_2) shapeCasts_S2x4096x4x128_S2x4096x512) bitsLt_bf16_f32

theorem res_eq (m : (ℓ : Loc nD τ sig) → Buf (Elt Ideal) ℓ) (c : Dev nD) :
    Value.res_main_v26 m c = outT (m ((c.tc : Thread nD τ).loc main_arg0)) (m ((c.tc : Thread nD τ).loc main_arg1)) := by
  unfold Value.res_main_v26
  rfl

theorem qT_apply (x : FVec Ideal S2x4096x3072 .bf16) (b : Fin 2) (r : Fin 4096) (g : Fin 4) (d : Fin 128) :
    qT x (ix4 b r g d) = x (ix3 b r ⟨2560 + (128 * g.val + d.val), by omega⟩) := by
  pointwise [qT]
  congr 2
  exact Fin.ext (by simp; omega)

theorem bothT_apply (y : FVec Ideal S2x256x1024 .bf16) (b : Fin 2) (s : Fin 256) (p : Fin 2) (g : Fin 4) (d : Fin 128) :
    bothT y (ix5 b s p g d) = y (ix3 b s ⟨512 * p.val + (128 * g.val + d.val), by omega⟩) := by
  refine (shapeCast_apply (extf .f32 y bitsLt_bf16_f32) _ (ix5 b s p g d) (ix3 b s ⟨512 * p.val + (128 * g.val + d.val), by omega⟩) ?_).trans rfl
  rw [Shape.rowMajor_val_three, Shape.rowMajor_val_five]
  show (b.val * 256 + s.val) * 1024 + (512 * p.val + (128 * g.val + d.val)) = (((b.val * 256 + s.val) * 2 + p.val) * 4 + g.val) * 128 + d.val
  omega

theorem kT_apply (y : FVec Ideal S2x256x1024 .bf16) (b : Fin 2) (s : Fin 256) (g : Fin 4) (d : Fin 128) :
    kT y (ix4 b s g d) = y (ix3 b s ⟨128 * g.val + d.val, by omega⟩) := by
  refine (shapeCast_apply _ _ (ix4 b s g d) (ix5 b s 0 g d) ?_).trans ?_
  · rw [Shape.rowMajor_val_four, Shape.rowMajor_val_five]
    show (((b.val * 256 + s.val) * 1 + 0) * 4 + g.val) * 128 + d.val = ((b.val * 256 + s.val) * 4 + g.val) * 128 + d.val
    omega
  · refine Eq.trans (congrArg (bothT y) (?_ : _ = ix5 b s 0 g d)) ((bothT_apply y b s 0 g d).trans ?_)
    · funext a
      apply Fin.ext
      match a with
      | ⟨0, _⟩ => show 0 + b.val = b.val; omega
      | ⟨1, _⟩ => show 0 + s.val = s.val; omega
      | ⟨2, _⟩ => rfl
      | ⟨3, _⟩ => show 0 + g.val = g.val; omega
      | ⟨4, _⟩ => show 0 + d.val = d.val; omega
    · exact congrArg y (congrArg (ix3 b s) (Fin.ext (by simp)))

theorem vT_apply (y : FVec Ideal S2x256x1024 .bf16) (b : Fin 2) (s : Fin 256) (g : Fin 4) (d : Fin 128) :
    vT y (ix4 b s g d) = y (ix3 b s ⟨512 + (128 * g.val + d.val), by omega⟩) := by
  refine (shapeCast_apply _ _ (ix4 b s g d) (ix5 b s 0 g d) ?_).trans ?_
  · rw [Shape.rowMajor_val_four, Shape.rowMajor_val_five]
    show (((b.val * 256 + s.val) * 1 + 0) * 4 + g.val) * 128 + d.val = ((b.val * 256 + s.val) * 4 + g.val) * 128 + d.val
    omega
  · refine Eq.trans (congrArg (bothT y) (?_ : _ = ix5 b s 1 g d)) ((bothT_apply y b s 1 g d).trans ?_)
    · funext a
      apply Fin.ext
      match a with
      | ⟨0, _⟩ => show 0 + b.val = b.val; omega
      | ⟨1, _⟩ => show 0 + s.val = s.val; omega
      | ⟨2, _⟩ => rfl
      | ⟨3, _⟩ => show 0 + g.val = g.val; omega
      | ⟨4, _⟩ => show 0 + d.val = d.val; omega
    · exact congrArg y (congrArg (ix3 b s) (Fin.ext (by simp)))

theorem scoreT_apply (x : FVec Ideal S2x4096x3072 .bf16) (y : FVec Ideal S2x256x1024 .bf16) (b : Fin 2) (g : Fin 4) (r : Fin 4096)
    (s : Fin 256) : scoreT x y (ix4 b g r s) = score x y b g r s := by
  pointwise [scoreT]
  simp only [qT_apply, kT_apply]
  rfl

theorem neg_inf : Ideal.ofBits FTy.f32 4286578688#32 = ⊥ := by
  simp [Ideal.ofBits, Ideal.ieee, -EReal.coe_mul]

/-- A maximum over a row that starts at minus infinity. -/
theorem fold_top {n : ℕ} (x : EReal) (f : Fin n → EReal) (z : ℕ → EReal) (hx : x = ⊥) (hf : ∀ s : Fin n, f s = z s.val) :
    Finset.univ.fold max x f = top z n := by
  rw [hx, ← top_full z n]
  congr 1
  exact funext hf

/-- The largest entry of a row, read off the reduction. -/
theorem red_apply (Z : Sc) (c : FVec Ideal S_ .f32) (b : Fin 2) (g : Fin 4) (r : Fin 4096) :
    Host.reduce FloatOps.maximumf Z c reducesTo_S2x4x4096x256_S2x4x4096_d3 h_S_ (ix3 b g r)
      = Finset.univ.fold max (c (Shape.Idx.first h_S_)) fun s : Fin 256 => Z (ix4 b g r s) := by
  rw [Host.reduce_eq_fold, Shape.ReducesTo.fold_fiber_r4_a3]
  rfl

section
variable (Z : Sc) (b : Fin 2) (g : Fin 4) (r : Fin 4096) (z : ℕ → EReal) (hz : ∀ s : Fin 256, Z (ix4 b g r s) = z s.val)
include hz

theorem row_top : Finset.univ.fold max ((constant (F := Ideal) S_ .f32 0xFF800000#32) (Shape.Idx.first h_S_))
    (fun s : Fin 256 => Z (ix4 b g r s)) = top z 256 :=
  fold_top _ _ z neg_inf hz

theorem red_top : Host.reduce FloatOps.maximumf Z (constant S_ .f32 0xFF800000#32) reducesTo_S2x4x4096x256_S2x4x4096_d3 h_S_ (ix3 b g r) = top z 256 := by
  rw [red_apply Z _ b g r]
  exact row_top Z b g r z hz

theorem topT_apply : topT Z (ix3 b g r) = top z 256 := by
  unfold topT
  rw [maximumf_apply, red_top Z b g r z hz]
  show max (Ideal.ofBits FTy.f32 4286578688#32) _ = _
  rw [neg_inf, max_eq_right bot_le]

theorem wtT_apply (s : Fin 256) : wtT Z (ix4 b g r s) = wt z 256 s.val := by
  pointwise [wtT, alongT]
  rw [hz, topT_apply Z b g r z hz]
  rfl

theorem softT_apply (s : Fin 256) : softT Z (ix4 b g r s) = Ideal.div (wt z 256 s.val) (den z 256) := by
  pointwise [softT, alongT]
  simp only [wtT_apply Z b g r z hz]
  unfold den
  rw [Fin.sum_univ_eq_sum_range (fun s => wt z 256 s) 256]

end

theorem outT_apply (x : FVec Ideal S2x4096x3072 .bf16) (y : FVec Ideal S2x256x1024 .bf16) (hx : RealScores x y)
    (b : Fin 2) (r : Fin 4096) (g : Fin 4) (d : Fin 128) :
    outT x y (ix3 b r ⟨128 * g.val + d.val, by omega⟩) = attnAt x y b r g d := by
  have hz : ∀ s : Fin 256, scoreT x y (ix4 b g r s) = row x y b g r s.val := fun s => by
    rw [scoreT_apply]
    unfold row
    rw [dif_pos s.isLt]
  pointwise [outT]
  unfold attnAt
  rw [← att_split (row_is x y hx b g r) _ (by omega),
    ← Fin.sum_univ_eq_sum_range (fun s => Ideal.div (wt (row x y b g r) 256 s) (den (row x y b g r) 256) * vals y b g d s) 256]
  refine Finset.sum_congr rfl fun s _ => ?_
  rw [softT_apply _ b g r _ hz s, vT_apply, mul_comm]
  unfold vals
  rw [dif_pos s.isLt]

theorem outT_eq (x : FVec Ideal S2x4096x3072 .bf16) (y : FVec Ideal S2x256x1024 .bf16) (hx : RealScores x y) :
    outT x y = attn x y := by
  funext j
  obtain ⟨b, r, c, rfl⟩ : ∃ (b : Fin 2) (r : Fin 4096) (c : Fin 512), j = ix3 b r c := ⟨j 0, j 1, j 2, eq_ix3 j⟩
  obtain ⟨g, d, rfl⟩ : ∃ (g : Fin 4) (d : Fin 128), c = ⟨128 * g.val + d.val, by omega⟩ :=
    ⟨⟨c.val / 128, by omega⟩, ⟨c.val % 128, by omega⟩, Fin.ext (by show c.val = 128 * (c.val / 128) + c.val % 128; omega)⟩
  rw [attn_ix3 x y b r g d _ rfl]
  exact outT_apply x y hx b r g d

end Cert.RecallWRefIdeal.Ref
-- ==== Proof.RecallWPre.lean ====
/- What the precondition of the memory's attention gives: its queries and keys are real numbers, so every score is. -/
module

public import proofs.«01_k».proof.Proof.Gen.Pre_mem_w_finite
public import proofs.«01_k».proof.Proof.RecallWMath
public import Idealize.ShloMosaic.Lib.WordCmp
public import Idealize.ShloMosaic.Lib.ReduceAll

@[expose] public section

set_option maxRecDepth 16384

noncomputable section

namespace Cert.Pre_mem_w_finite.Read

open Cert.Pre_mem_w_finite Cert.Proof.RecallW Idealize.ShloMosaic

theorem both_one : ∀ a b : BitVec 1, a &&& b = 1#1 → a = 1#1 ∧ b = 1#1 := by decide

/-- A value whose size is below plus infinity is a real number. -/
theorem real_of_lt (y : EReal)
    (h : BitVec.ofBool (decide (max y (-y) < Ideal.ofBits .f32 2139095040#32)) = 1#1) :
    ∃ t : ℝ, y = (t : EReal) := by
  have h2 : max y (-y) < Ideal.ofBits .f32 2139095040#32 := by
    by_contra hn
    rw [decide_eq_false hn] at h
    exact absurd h (by decide)
  induction y using EReal.rec with
  | bot => exact absurd h2 (by simp [Ideal.ofBits, Ideal.ieee, -EReal.coe_mul])
  | coe t => exact ⟨t, rfl⟩
  | top => exact absurd h2 (by simp [Ideal.ofBits, Ideal.ieee, -EReal.coe_mul])

theorem entry_real (hF : Facts) (x : FVec Ideal S2x4096x3072 .bf16) (y : FVec Ideal S2x256x1024 .bf16) (h : fn x y = fun _ => 1#1) :
    (∀ (b : Fin 2) (r : Fin 4096) (n : Fin 512), ∃ t : ℝ, x (ix3 b r ⟨2560 + n.val, by omega⟩) = (t : EReal))
      ∧ ∀ (b : Fin 2) (s : Fin 256) (n : Fin 512), ∃ t : ℝ, y (ix3 b s ⟨n.val, by omega⟩) = (t : EReal) := by
  have h0 := congrFun h (fun a => a.elim0)
  unfold fn at h0
  haveI : Subsingleton S_.Idx := ⟨fun a b => funext fun i => i.elim0⟩
  obtain ⟨h1, h2⟩ := both_one _ _ h0
  refine ⟨fun b r n => ?_, fun b s n => ?_⟩
  · have e1 := Host.reduce_andi_all _ _ _ _ _ h1 (ix3 b r n)
    revert e1
    pointwise []
    exact fun e1 => real_of_lt _ e1
  · have e2 := Host.reduce_andi_all _ _ _ _ _ h2 (ix3 b s n)
    revert e2
    pointwise []
    exact fun e2 => real_of_lt _ e2

theorem scores_real (hF : Facts) (x : FVec Ideal S2x4096x3072 .bf16) (y : FVec Ideal S2x256x1024 .bf16) (h : fn x y = fun _ => 1#1) :
    RealScores x y := by
  obtain ⟨eq, ek⟩ := entry_real hF x y h
  intro b g r s
  have hq : ∀ d : Fin 128, ∃ t : ℝ, x (ix3 b r ⟨2560 + (128 * g.val + d.val), by omega⟩) = (t : EReal) := fun d =>
    eq b r ⟨128 * g.val + d.val, by omega⟩
  have hk : ∀ d : Fin 128, ∃ t : ℝ, y (ix3 b s ⟨128 * g.val + d.val, by omega⟩) = (t : EReal) := fun d =>
    ek b s ⟨128 * g.val + d.val, by omega⟩
  choose q hq using hq
  choose k hk using hk
  obtain ⟨w, hw⟩ : ∃ w : ℝ, Ideal.ofBits .f32 1035273459#32 = (w : EReal) :=
    ⟨_, (EReal.coe_toReal (by simp [Ideal.ofBits, Ideal.ieee, -EReal.coe_mul]) (by simp [Ideal.ofBits, Ideal.ieee, -EReal.coe_mul])).symm⟩
  refine ⟨(∑ d, q d * k d) * w, ?_⟩
  unfold score
  simp only [hq, hk, hw, ← EReal.coe_mul]
  rw [EReal.coe_mul]
  congr 1

end Cert.Pre_mem_w_finite.Read
-- ==== Proof.RecallLHead.lean ====
/- One head of the memory's attention at one point, and the four heads side by side in the point's block. -/
module

public import proofs.«01_k».proof.Proof.Gen.RecallLIdeal.Value
public import proofs.«01_k».proof.Proof.FlashMath
public import Idealize.ShloMosaic.Lib.Pointwise
public import Idealize.ShloMosaic.Lib.VecWindow
public import Idealize.ShloMosaic.Lib.Pipeline.Value

@[expose] public section

set_option maxRecDepth 16384

noncomputable section

namespace Cert.RecallLIdeal.Head

open Cert.RecallLIdeal Cert.RecallLIdeal.Gen Cert.Proof.Flash Idealize.ShloMosaic

theorem neg_inf : Ideal.ofBits FTy.f32 4286578688#32 = ⊥ := by
  simp [Ideal.ofBits, Ideal.ieee, -EReal.coe_mul]

/-- One head's entry. -/
theorem head_apply (q : Vec Ideal S1x512x128 .f32) (k v : Vec Ideal S1x256x128 .bf16) (a : Fin 512) (d : Fin 128) (z y : ℕ → EReal)
    (hz : ∀ s : Fin 256, (∑ x, q (ix3 0 a x) * k (ix3 0 s x)) * Ideal.ofBits FTy.f32 1035273459#32 = z s.val)
    (hv : ∀ s : Fin 256, v (ix3 0 s d) = y s.val) :
    k0_pay2 q k v (ix2 a d) = att z y 256 := by
  pointwise [k0_pay2]
  simp only [hz, hv, neg_inf, top_full z 256]
  rw [Fin.sum_univ_eq_sum_range (fun s => Ideal.exp (z s - top z 256) * y s) 256,
    Fin.sum_univ_eq_sum_range (fun s => Ideal.exp (z s - top z 256)) 256]
  rfl

section
variable {F : FTy → Type} [FloatOps F]

theorem second (q : Vec F S1x512x128 .f32) (k v : Vec F S1x256x128 .bf16) :
    k0_pay5 (k0_pay3 v) (k0_pay4 q k) = k0_pay2 q k v := rfl

theorem third (q : Vec F S1x512x128 .f32) (k v : Vec F S1x256x128 .bf16) : k0_pay6 q k v = k0_pay2 q k v := rfl

/-- Four heads side by side. -/
def beside (x0 x1 x2 x3 : FVec F S512x128 .bf16) : FVec F S1x512x512 .bf16 :=
  shapeCast S1x512x512 (concatenate S512x512 1 [⟨S512x128, x0⟩, ⟨S512x128, x1⟩, ⟨S512x128, x2⟩, ⟨S512x128, x3⟩]
    concatenates_S512x128_S512x128_S512x128_S512x128_S512x512_d1) shapeCasts_S512x512_S1x512x512

theorem fourth (x0 x1 x2 : FVec F S512x128 .bf16) (q : Vec F S1x512x128 .f32) (k v : Vec F S1x256x128 .bf16) :
    k0_pay1 x0 x1 x2 (k0_pay7 q) k v = beside x0 x1 x2 (k0_pay2 q k v) := rfl

end

theorem beside_apply (x : Fin 4 → FVec Ideal S512x128 .bf16) (a : Fin 512) (h : Fin 4) (d : Fin 128) :
    beside (x 0) (x 1) (x 2) (x 3) (ix3 0 a ⟨128 * h.val + d.val, by omega⟩) = x h (ix2 a d) := by
  pointwise [beside]
  have hd := d.isLt
  match h with
  | 0 =>
    rw [dif_pos (by simp)]
    exact congrArg (x 0) (congrArg (ix2 a) (Fin.ext (by simp)))
  | 1 =>
    rw [dif_neg (by simp), dif_pos (by simp)]
    exact congrArg (x 1) (congrArg (ix2 a) (Fin.ext (by simp)))
  | 2 =>
    rw [dif_neg (by simp; omega), dif_neg (by simp; omega), dif_pos (by simp; omega)]
    exact congrArg (x 2) (congrArg (ix2 a) (Fin.ext (by simp; omega)))
  | 3 =>
    rw [dif_neg (by simp; omega), dif_neg (by simp; omega), dif_neg (by simp; omega)]
    exact congrArg (x 3) (congrArg (ix2 a) (Fin.ext (by simp; omega)))

section
variable {F : FTy → Type} [FloatOps F]

theorem ldq_apply (x : Vec F S1x512x512 .f32) (off : Fin 3 → ℕ) (inb : ∀ a, off a + S1x512x128.size a ≤ S1x512x512.size a) (o : ℕ)
    (e0 : off 0 = 0) (e1 : off 1 = 0) (e2 : off 2 = o) (a : Fin 512) (d : Fin 128) (hn : o + d.val < 512) :
    View.ld x (Rect.unit (s := S1x512x512) off S1x512x128.size inb) (ix3 0 a d) = x (ix3 0 a ⟨o + d.val, hn⟩) := by
  refine congrArg x (funext fun y => Fin.ext ?_)
  match y with
  | ⟨0, _⟩ => show off 0 + 1 * 0 = 0; omega
  | ⟨1, _⟩ => show off 1 + 1 * a.val = a.val; omega
  | ⟨2, _⟩ => show off 2 + 1 * d.val = o + d.val; omega

theorem ldk_apply (x : Vec F S1x256x1024 .bf16) (off : Fin 3 → ℕ) (inb : ∀ a, off a + S1x256x128.size a ≤ S1x256x1024.size a) (o : ℕ)
    (e0 : off 0 = 0) (e1 : off 1 = 0) (e2 : off 2 = o) (a : Fin 256) (d : Fin 128) (hn : o + d.val < 1024) :
    View.ld x (Rect.unit (s := S1x256x1024) off S1x256x128.size inb) (ix3 0 a d) = x (ix3 0 a ⟨o + d.val, hn⟩) := by
  refine congrArg x (funext fun y => Fin.ext ?_)
  match y with
  | ⟨0, _⟩ => show off 0 + 1 * 0 = 0; omega
  | ⟨1, _⟩ => show off 1 + 1 * a.val = a.val; omega
  | ⟨2, _⟩ => show off 2 + 1 * d.val = o + d.val; omega

/-- A head's queries in the block, its keys and its values. -/
def qs (x : Vec F S1x512x512 .f32) : Fin 4 → Vec F S1x512x128 .f32
  | 0 => View.ld x (Rect.unit (s := S1x512x512) ![0, 0, 0] S1x512x128.size inb_S1x512x512_S1x512x128_0_0_0)
  | 1 => View.ld x (Rect.unit (s := S1x512x512) ![0, 0, 128] S1x512x128.size inb_S1x512x512_S1x512x128_0_0_128)
  | 2 => View.ld x (Rect.unit (s := S1x512x512) ![0, 0, 256] S1x512x128.size inb_S1x512x512_S1x512x128_0_0_256)
  | 3 => View.ld x (Rect.unit (s := S1x512x512) ![0, 0, 384] S1x512x128.size inb_S1x512x512_S1x512x128_0_0_384)
def ks (x : Vec F S1x256x1024 .bf16) : Fin 4 → Vec F S1x256x128 .bf16
  | 0 => View.ld x (Rect.unit (s := S1x256x1024) ![0, 0, 0] S1x256x128.size inb_S1x256x1024_S1x256x128_0_0_0)
  | 1 => View.ld x (Rect.unit (s := S1x256x1024) ![0, 0, 128] S1x256x128.size inb_S1x256x1024_S1x256x128_0_0_128)
  | 2 => View.ld x (Rect.unit (s := S1x256x1024) ![0, 0, 256] S1x256x128.size inb_S1x256x1024_S1x256x128_0_0_256)
  | 3 => View.ld x (Rect.unit (s := S1x256x1024) ![0, 0, 384] S1x256x128.size inb_S1x256x1024_S1x256x128_0_0_384)
def vs (x : Vec F S1x256x1024 .bf16) : Fin 4 → Vec F S1x256x128 .bf16
  | 0 => View.ld x (Rect.unit (s := S1x256x1024) ![0, 0, 512] S1x256x128.size inb_S1x256x1024_S1x256x128_0_0_512)
  | 1 => View.ld x (Rect.unit (s := S1x256x1024) ![0, 0, 640] S1x256x128.size inb_S1x256x1024_S1x256x128_0_0_640)
  | 2 => View.ld x (Rect.unit (s := S1x256x1024) ![0, 0, 768] S1x256x128.size inb_S1x256x1024_S1x256x128_0_0_768)
  | 3 => View.ld x (Rect.unit (s := S1x256x1024) ![0, 0, 896] S1x256x128.size inb_S1x256x1024_S1x256x128_0_0_896)

theorem qs_apply (x : Vec F S1x512x512 .f32) (h : Fin 4) (a : Fin 512) (d : Fin 128) :
    qs x h (ix3 0 a d) = x (ix3 0 a ⟨128 * h.val + d.val, by omega⟩) := by
  match h with
  | 0 => exact ldq_apply x _ _ 0 rfl rfl rfl a d (by omega)
  | 1 => exact ldq_apply x _ _ 128 rfl rfl rfl a d (by omega)
  | 2 => exact ldq_apply x _ _ 256 rfl rfl rfl a d (by omega)
  | 3 => exact ldq_apply x _ _ 384 rfl rfl rfl a d (by omega)

theorem ks_apply (x : Vec F S1x256x1024 .bf16) (h : Fin 4) (a : Fin 256) (d : Fin 128) :
    ks x h (ix3 0 a d) = x (ix3 0 a ⟨128 * h.val + d.val, by omega⟩) := by
  match h with
  | 0 => exact ldk_apply x _ _ 0 rfl rfl rfl a d (by omega)
  | 1 => exact ldk_apply x _ _ 128 rfl rfl rfl a d (by omega)
  | 2 => exact ldk_apply x _ _ 256 rfl rfl rfl a d (by omega)
  | 3 => exact ldk_apply x _ _ 384 rfl rfl rfl a d (by omega)

theorem vs_apply (x : Vec F S1x256x1024 .bf16) (h : Fin 4) (a : Fin 256) (d : Fin 128) :
    vs x h (ix3 0 a d) = x (ix3 0 a ⟨512 + (128 * h.val + d.val), by omega⟩) := by
  match h with
  | 0 => exact (ldk_apply x _ _ 512 rfl rfl rfl a d (by omega)).trans (congrArg x (congrArg (ix3 0 a) (Fin.ext (by simp))))
  | 1 => exact (ldk_apply x _ _ 640 rfl rfl rfl a d (by omega)).trans (congrArg x (congrArg (ix3 0 a) (Fin.ext (by simp; omega))))
  | 2 => exact (ldk_apply x _ _ 768 rfl rfl rfl a d (by omega)).trans (congrArg x (congrArg (ix3 0 a) (Fin.ext (by simp; omega))))
  | 3 => exact (ldk_apply x _ _ 896 rfl rfl rfl a d (by omega)).trans (congrArg x (congrArg (ix3 0 a) (Fin.ext (by simp; omega))))

/-- The heads at a point. -/
def heads (x : Vec F S1x512x512 .f32) (y : Vec F S1x256x1024 .bf16) (h : Fin 4) : FVec F S512x128 .bf16 :=
  k0_pay2 (qs x h) (ks y h) (vs y h)

theorem off3 : (![0, 0, 0] : Fin 3 → Nat) = fun _ => 0 := funext fun a => by fin_cases a <;> rfl

variable (c : Dev nD) (i : grid0.Coords) (arg2 : Memref sig .tc .vmem S1x512x512 .f32) (harg2 : arg2.IsWhole)
  (arg3 : Memref sig .tc .vmem S1x256x1024 .bf16) (harg3 : arg3.IsWhole) (arg4 : Memref sig .tc .vmem S1x512x512 .bf16) (harg4 : arg4.IsWhole)

/-- What a point leaves in the result's block. -/
def block (x : Vec F S1x512x512 .f32) (y : Vec F S1x256x1024 .bf16) : Vec F S1x512x512 .bf16 :=
  beside (heads x y 0) (heads x y 1) (heads x y 2) (heads x y 3)

theorem out_eq (x : Vec F S1x512x512 .f32) (y : Vec F S1x256x1024 .bf16) :
    out0_A_2 c i arg2 harg2 arg3 harg3 arg4 harg4 x y = block x y := by
  unfold out0_A_2
  rw [View.read_writes_junk_eq_canon]
  unfold kernelRun0_A
  dsimp only
  sl_unfold_words
  rw [View.canon_unit_zero off3]
  simp only [View.readAt_eq_ld, harg2.read_unread, harg3.read_unread]
  rw [second, third, fourth]
  rfl

end

/-- An entry of a point's block. -/
theorem out_apply (x : Vec Ideal S1x512x512 .f32) (y : Vec Ideal S1x256x1024 .bf16) (a : Fin 512) (h : Fin 4) (d : Fin 128) (z u : ℕ → EReal)
    (hz : ∀ s : Fin 256, (∑ e : Fin 128, x (ix3 0 a ⟨128 * h.val + e.val, by omega⟩) * y (ix3 0 s ⟨128 * h.val + e.val, by omega⟩))
      * Ideal.ofBits FTy.f32 1035273459#32 = z s.val)
    (hv : ∀ s : Fin 256, y (ix3 0 s ⟨512 + (128 * h.val + d.val), by omega⟩) = u s.val) :
    block x y (ix3 0 a ⟨128 * h.val + d.val, by omega⟩) = att z u 256 := by
  refine (beside_apply (heads x y) a h d).trans (head_apply _ _ _ a d z u (fun s => ?_) fun s => ?_)
  · simp only [qs_apply, ks_apply]
    exact hz s
  · rw [vs_apply]
    exact hv s

end Cert.RecallLIdeal.Head
-- ==== Proof.RecallLMath.lean ====
/- The memory's attention as a formula: the scores of a query against the memory's 256 keys, and the result with the four heads
   side by side. -/
module

public import proofs.«01_k».proof.Proof.FlashMath

@[expose] public section

set_option maxRecDepth 16384

noncomputable section

namespace Cert.Proof.RecallL

open Idealize.ShloMosaic Cert.Proof.Flash

abbrev Mix : Type := (⟨3, ![2, 4096, 1408]⟩ : Shape).Idx → EReal
abbrev Pairs : Type := (⟨3, ![2, 256, 1024]⟩ : Shape).Idx → EReal

/-- The scaled score of query `r` and the memory's key `s` in batch `b` and head `h`. -/
def score (x : Mix) (y : Pairs) (b : Fin 2) (h : Fin 4) (r : Fin 4096) (s : Fin 256) : EReal :=
  (∑ d : Fin 128, x (ix3 b r ⟨(128 * h.val + d.val), by omega⟩) * y (ix3 b s ⟨128 * h.val + d.val, by omega⟩))
    * Ideal.ofBits FTy.f32 1035273459#32

/-- Query `r`'s scores. -/
def row (x : Mix) (y : Pairs) (b : Fin 2) (h : Fin 4) (r : Fin 4096) (s : ℕ) : EReal :=
  if hs : s < 256 then score x y b h r ⟨s, hs⟩ else ⊥

/-- A column of the memory's values. -/
def vals (y : Pairs) (b : Fin 2) (h : Fin 4) (d : Fin 128) (s : ℕ) : EReal :=
  if hs : s < 256 then y (ix3 b ⟨s, hs⟩ ⟨512 + (128 * h.val + d.val), by omega⟩) else 0

/-- Every score is a real number. -/
def RealScores (x : Mix) (y : Pairs) : Prop := ∀ b h r s, ∃ t : ℝ, score x y b h r s = (t : EReal)

theorem row_is (x : Mix) (y : Pairs) (hx : RealScores x y) (b : Fin 2) (h : Fin 4) (r : Fin 4096) : Row (row x y b h r) where
  first := by
    obtain ⟨t, e⟩ := hx b h r ⟨0, by omega⟩
    exact ⟨t, by unfold row; rw [dif_pos (by omega)]; exact e⟩
  each s := by
    unfold row
    by_cases hs : s < 256
    · rw [dif_pos hs]; exact .inr (hx b h r ⟨s, hs⟩)
    · rw [dif_neg hs]; exact .inl rfl

/-- One entry of the attention. -/
def attnAt (x : Mix) (y : Pairs) (b : Fin 2) (r : Fin 4096) (h : Fin 4) (d : Fin 128) : EReal :=
  att (row x y b h r) (vals y b h d) 256

/-- The attention's result, the heads side by side. -/
def attn (x : Mix) (y : Pairs) (j : (⟨3, ![2, 4096, 512]⟩ : Shape).Idx) : EReal :=
  attnAt x y (j 0) (j 1) ⟨(j 2).val / 128, by have : (j 2).val < 512 := (j 2).isLt; omega⟩ ⟨(j 2).val % 128, by omega⟩

theorem attn_ix3 (x : Mix) (y : Pairs) (b : Fin 2) (r : Fin 4096) (h : Fin 4) (d : Fin 128)
    (n : Fin 512) (hn : n.val = 128 * h.val + d.val) : attn x y (ix3 b r n) = attnAt x y b r h d := by
  show attnAt x y b r ⟨n.val / 128, _⟩ ⟨n.val % 128, _⟩ = _
  congr 1 <;> apply Fin.ext <;> simp only [hn] <;> omega

end Cert.Proof.RecallL
-- ==== Proof.RecallLArray.lean ====
/- The result array of the memory attention's launch: each point writes a block of rows with its four heads, and together the
   blocks are the whole array. -/
module

public import proofs.«01_k».proof.Proof.RecallLHead
public import proofs.«01_k».proof.Proof.RecallLMath
public import Idealize.ShloMosaic.Lib.Pipeline.Value

@[expose] public section

set_option maxRecDepth 16384

noncomputable section

namespace Cert.RecallLIdeal.Array

open Cert.RecallLIdeal Cert.RecallLIdeal.Gen Cert.RecallLIdeal.Head Cert.Proof.RecallL Idealize.ShloMosaic
  Idealize.ShloMosaic.TcCoe Idealize.SL.Sem

theorem index0 : ∀ t : Fin grid0.N, win0_0.index t = ![(grid0.coords t 0).val, (grid0.coords t 1).val, 0] := by decide +kernel
theorem index1 : ∀ t : Fin grid0.N, win0_1.index t = ![(grid0.coords t 0).val, 0, 0] := by decide +kernel
theorem index2 : ∀ t : Fin grid0.N, win0_2.index t = ![(grid0.coords t 0).val, (grid0.coords t 1).val, 0] := by decide +kernel

/-- The point that writes block of rows `q` in batch `b`. -/
def pt (b : Fin 2) (q : Fin 8) : Fin grid0.N := ⟨8 * b.val + q.val, by rw [N_0]; omega⟩

theorem point_of : ∀ (b : Fin 2) (q : Fin 8), win0_2.index (pt b q) = ![b.val, q.val, 0] := by decide +kernel

variable (m : (ℓ : Loc nD τ sig) → Buf (Elt Ideal) ℓ)

/-- The projection. -/
abbrev mix (c : Dev nD) : Mix := m ((c : Thread nD τ).loc main_arg0)
/-- The memory's keys and values. -/
abbrev pairs (c : Dev nD) : Pairs := m ((c : Thread nD τ).loc main_arg1)

theorem iblk0_apply (c : Dev nD) (t : Fin cfg0.N) (b : Fin 2) (q : Fin 8) (hb : (grid0.coords t 0).val = b.val)
    (hq : (grid0.coords t 1).val = q.val) (a n : Fin 512) :
    (X0_0 m c t : Vec Ideal S1x512x512 .f32) (ix3 0 a n) = mix m c (ix3 b ⟨512 * q.val + a.val, by omega⟩ ⟨n.val, by omega⟩) := by
  unfold X0_0 Pipeline.Window.fill
  rw [dif_pos (moved0_0 t _)]
  unfold iblk
  rw [View.read_apply]
  refine Eq.trans (b := V m c main_arg0 (ix3 b ⟨512 * q.val + a.val, by omega⟩ ⟨n.val, by omega⟩)) ?_ (congrFun (V_main_arg0 m c) _)
  refine congrArg (V m c main_arg0) ?_
  funext x
  apply Fin.ext
  have e := index0 t
  match x with
  | ⟨0, _⟩ => show win0_0.index t 0 * 1 + 1 * 0 = b.val; rw [e]; show (grid0.coords t 0).val * 1 + 1 * 0 = _; omega
  | ⟨1, _⟩ => show win0_0.index t 1 * 512 + 1 * a.val = _; rw [e]; show (grid0.coords t 1).val * 512 + 1 * a.val = 512 * q.val + a.val; omega
  | ⟨2, _⟩ => show win0_0.index t 2 * 512 + 1 * n.val = _; rw [e]; show 0 * 512 + 1 * n.val = n.val; omega

theorem iblk1_apply (c : Dev nD) (t : Fin cfg0.N) (b : Fin 2) (hb : (grid0.coords t 0).val = b.val) (s : Fin 256) (n : Fin 1024) :
    (iblk m c 1 t : Vec Ideal S1x256x1024 .bf16) (ix3 0 s n) = pairs m c (ix3 b s n) := by
  unfold iblk
  rw [View.read_apply]
  refine Eq.trans (b := V m c main_arg1 (ix3 b s n)) ?_ (congrFun (V_main_arg1 m c) _)
  refine congrArg (V m c main_arg1) ?_
  funext x
  apply Fin.ext
  have e := index1 t
  match x with
  | ⟨0, _⟩ => show win0_1.index t 0 * 1 + 1 * 0 = b.val; rw [e]; show (grid0.coords t 0).val * 1 + 1 * 0 = _; omega
  | ⟨1, _⟩ => show win0_1.index t 1 * 256 + 1 * s.val = s.val; rw [e]; show 0 * 256 + 1 * s.val = s.val; omega
  | ⟨2, _⟩ => show win0_1.index t 2 * 1024 + 1 * n.val = n.val; rw [e]; show 0 * 1024 + 1 * n.val = n.val; omega

/-- What a point writes back is the attention's block. -/
theorem flushed_eq (c : Dev nD) (t : Fin cfg0.N) (hf : (cfg0.win 2).flush t = true) :
    (dats m 0 c).flushed 2 t = ((cfg0.win 2).blk t).view.read (Elt Ideal) (attn (mix m c) (pairs m c)) := by
  rw [Value.flushed2_A, out_eq]
  obtain ⟨b, hb⟩ : ∃ b : Fin 2, (grid0.coords t 0).val = b.val := ⟨grid0.coords t 0, rfl⟩
  obtain ⟨q, hq⟩ : ∃ q : Fin 8, (grid0.coords t 1).val = q.val := ⟨grid0.coords t 1, rfl⟩
  show (fun j : S1x512x512.Idx => _) = _
  funext j
  obtain ⟨u, a, n, rfl⟩ : ∃ (u : Fin 1) (a n : Fin 512), j = ix3 u a n := ⟨j 0, j 1, j 2, eq_ix3 j⟩
  obtain rfl : u = 0 := Subsingleton.elim _ _
  obtain ⟨h, d, rfl⟩ : ∃ (h : Fin 4) (d : Fin 128), n = ⟨128 * h.val + d.val, by omega⟩ :=
    ⟨⟨n.val / 128, by omega⟩, ⟨n.val % 128, by omega⟩, Fin.ext (by show n.val = 128 * (n.val / 128) + n.val % 128; omega)⟩
  rw [View.read_apply]
  have key := out_apply (X0_0 m c t) (iblk m c 1 t) a h d (row (mix m c) (pairs m c) b h ⟨512 * q.val + a.val, by omega⟩)
    (vals (pairs m c) b h d) (fun s => by
      rw [Finset.sum_congr rfl fun x _ => by rw [iblk0_apply m c t b q hb hq, iblk1_apply m c t b hb]]
      unfold row
      rw [dif_pos s.isLt]
      rfl) (fun s => by
      rw [iblk1_apply m c t b hb, vals, dif_pos s.isLt])
  refine Eq.trans ?_ (key.trans ?_)
  · rfl
  have e := index2 t
  have ij : ((cfg0.win 2).blk t).view.emb (ix3 0 a ⟨128 * h.val + d.val, by omega⟩)
      = ix3 b ⟨512 * q.val + a.val, by omega⟩ ⟨128 * h.val + d.val, by omega⟩ := by
    funext x
    apply Fin.ext
    match x with
    | ⟨0, _⟩ => show win0_2.index t 0 * 1 + 1 * 0 = b.val; rw [e]; show (grid0.coords t 0).val * 1 + 1 * 0 = _; omega
    | ⟨1, _⟩ => show win0_2.index t 1 * 512 + 1 * a.val = _; rw [e]; show (grid0.coords t 1).val * 512 + 1 * a.val = 512 * q.val + a.val; omega
    | ⟨2, _⟩ => show win0_2.index t 2 * 512 + 1 * (128 * h.val + d.val) = _; rw [e]; show 0 * 512 + 1 * (128 * h.val + d.val) = 128 * h.val + d.val; omega
  rw [ij, attn_ix3 _ _ b _ h d _ rfl]
  rfl

/-- The result array. -/
theorem final_eq (c : Dev nD) : (dats m 0 c).arrAt 2 cfg0.N = attn (mix m c) (pairs m c) :=
  (dats m 0 c).arrAt_eq_of_cover 2 (attn (mix m c) (pairs m c)) (flushed_eq m c) fun i => by
    have h0 : (i 0 : Nat) < 2 := (i 0).isLt
    have h1 : (i 1 : Nat) < 4096 := (i 1).isLt
    have h2 : (i 2 : Nat) < 512 := (i 2).isLt
    have ht := point_of ⟨i 0, h0⟩ ⟨i 1 / 512, by omega⟩
    generalize pt ⟨i 0, h0⟩ ⟨i 1 / 512, by omega⟩ = t at ht
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [ht]; show (i 0 : Nat) * 1 ≤ (i 0 : Nat) ∧ (i 0 : Nat) < (i 0 : Nat) * 1 + 1; omega
    | ⟨1, _⟩ => show win0_2.index t 1 * 512 ≤ (i 1 : Nat) ∧ (i 1 : Nat) < win0_2.index t 1 * 512 + 512
                rw [ht]; show (i 1 : Nat) / 512 * 512 ≤ (i 1 : Nat) ∧ (i 1 : Nat) < (i 1 : Nat) / 512 * 512 + 512; omega
    | ⟨2, _⟩ => show win0_2.index t 2 * 512 ≤ (i 2 : Nat) ∧ (i 2 : Nat) < win0_2.index t 2 * 512 + 512
                rw [ht]; show 0 * 512 ≤ (i 2 : Nat) ∧ (i 2 : Nat) < 0 * 512 + 512; omega

end Cert.RecallLIdeal.Array
-- ==== Proof.RecallLRef.lean ====
/- The reference of the memory's attention, entry by entry: the scores against all of the memory's keys, their softmax along the
   keys, and the weighted values. -/
module

public import proofs.«01_k».proof.Proof.Gen.RecallLRefIdeal.Run
public import proofs.«01_k».proof.Proof.RecallLMath
public import Idealize.ShloMosaic.Lib.Pointwise

@[expose] public section

set_option maxRecDepth 16384

noncomputable section

namespace Cert.RecallLRefIdeal.Ref

open Cert.RecallLRefIdeal Cert.RecallLRefIdeal.Gen Cert.Proof.Flash Cert.Proof.RecallL Idealize.ShloMosaic Idealize.ShloMosaic.TcCoe Idealize.SL.Sem

abbrev Sc : Type := FVec Ideal S2x4x4096x256 .f32

/-- The queries, split into heads. -/
def qT (x : FVec Ideal S2x4096x1408 .f32) : FVec Ideal S2x4096x4x128 .f32 :=
  shapeCast S2x4096x4x128 (extractStridedSlice S2x4096x512 ![0, 0, 0] x slices_S2x4096x1408_S2x4096x512_0_0_0) shapeCasts_S2x4096x512_S2x4096x4x128

/-- Keys and values together, split into heads. -/
def bothT (y : FVec Ideal S2x256x1024 .bf16) : FVec Ideal S2x256x2x4x128 .f32 :=
  shapeCast S2x256x2x4x128 (extf .f32 y bitsLt_bf16_f32) shapeCasts_S2x256x1024_S2x256x2x4x128

/-- The keys. -/
def kT (y : FVec Ideal S2x256x1024 .bf16) : FVec Ideal S2x256x4x128 .f32 :=
  shapeCast S2x256x4x128 (extractStridedSlice S2x256x1x4x128 ![0, 0, 0, 0, 0] (bothT y) slices_S2x256x2x4x128_S2x256x1x4x128_0_0_0_0_0)
    shapeCasts_S2x256x1x4x128_S2x256x4x128

/-- The values. -/
def vT (y : FVec Ideal S2x256x1024 .bf16) : FVec Ideal S2x256x4x128 .f32 :=
  shapeCast S2x256x4x128 (extractStridedSlice S2x256x1x4x128 ![0, 0, 1, 0, 0] (bothT y) slices_S2x256x2x4x128_S2x256x1x4x128_0_0_1_0_0)
    shapeCasts_S2x256x1x4x128_S2x256x4x128

/-- The scores. -/
def scoreT (x : FVec Ideal S2x4096x1408 .f32) (y : FVec Ideal S2x256x1024 .bf16) : Sc :=
  mulf (Host.dotGeneral dot_S2x4096x4x128_S2x256x4x128_S2x4x4096x256_3_3_1_1_02_02 none (qT x) (kT y))
    (broadcastInDim S2x4x4096x256 ![] bcast_S_S2x4x4096x256 (constant S_ .f32 0x3DB504F3#32))

/-- A number per row, along the memory's keys. -/
def alongT (x : FVec Ideal S2x4x4096 .f32) : Sc :=
  broadcastInDim S2x4x4096x256 ![0, 1, 2, 3] bcast_S2x4x4096x1_S2x4x4096x256_0_1_2_3
    (broadcastInDim S2x4x4096x1 ![0, 1, 2] bcast_S2x4x4096_S2x4x4096x1_0_1_2 x)

/-- Each row's largest score. -/
def topT (z : Sc) : FVec Ideal S2x4x4096 .f32 :=
  maximumf (broadcastInDim S2x4x4096 ![] bcast_S_S2x4x4096 (constant S_ .f32 0xFF800000#32))
    (Host.reduce FloatOps.maximumf z (constant S_ .f32 0xFF800000#32) reducesTo_S2x4x4096x256_S2x4x4096_d3 h_S_)

/-- The weights before the division. -/
def wtT (z : Sc) : Sc := Host.exp (subf z (alongT (topT z)))

/-- The softmax along the keys. -/
def softT (z : Sc) : Sc :=
  Host.divf (wtT z) (alongT (Host.reduceAdd (wtT z) (constant S_ .f32 0x00000000#32) reducesTo_S2x4x4096x256_S2x4x4096_d3 h_S_))

/-- The result. -/
def outT (x : FVec Ideal S2x4096x1408 .f32) (y : FVec Ideal S2x256x1024 .bf16) : FVec Ideal S2x4096x512 .bf16 :=
  truncf .bf16 (shapeCast S2x4096x512 (transpose S2x4096x4x128 [0, 3, 1, 2]
    (Host.dotGeneral dot_S2x256x4x128_S2x4x4096x256_S2x4x128x4096_1_3_3_2_02_01 none (vT y) (softT (scoreT x y)))
    transposes_S2x4x128x4096_S2x4096x4x128_0_3_1_2) shapeCasts_S2x4096x4x128_S2x4096x512) bitsLt_bf16_f32

theorem res_eq (m : (ℓ : Loc nD τ sig) → Buf (Elt Ideal) ℓ) (c : Dev nD) :
    Value.res_main_v25 m c = outT (m ((c.tc : Thread nD τ).loc main_arg0)) (m ((c.tc : Thread nD τ).loc main_arg1)) := by
  unfold Value.res_main_v25
  rfl

theorem qT_apply (x : FVec Ideal S2x4096x1408 .f32) (b : Fin 2) (r : Fin 4096) (g : Fin 4) (d : Fin 128) :
    qT x (ix4 b r g d) = x (ix3 b r ⟨(128 * g.val + d.val), by omega⟩) := by
  pointwise [qT]
  congr 2
  exact Fin.ext (by simp; omega)

theorem bothT_apply (y : FVec Ideal S2x256x1024 .bf16) (b : Fin 2) (s : Fin 256) (p : Fin 2) (g : Fin 4) (d : Fin 128) :
    bothT y (ix5 b s p g d) = y (ix3 b s ⟨512 * p.val + (128 * g.val + d.val), by omega⟩) := by
  refine (shapeCast_apply (extf .f32 y bitsLt_bf16_f32) _ (ix5 b s p g d) (ix3 b s ⟨512 * p.val + (128 * g.val + d.val), by omega⟩) ?_).trans rfl
  rw [Shape.rowMajor_val_three, Shape.rowMajor_val_five]
  show (b.val * 256 + s.val) * 1024 + (512 * p.val + (128 * g.val + d.val)) = (((b.val * 256 + s.val) * 2 + p.val) * 4 + g.val) * 128 + d.val
  omega

theorem kT_apply (y : FVec Ideal S2x256x1024 .bf16) (b : Fin 2) (s : Fin 256) (g : Fin 4) (d : Fin 128) :
    kT y (ix4 b s g d) = y (ix3 b s ⟨128 * g.val + d.val, by omega⟩) := by
  refine (shapeCast_apply _ _ (ix4 b s g d) (ix5 b s 0 g d) ?_).trans ?_
  · rw [Shape.rowMajor_val_four, Shape.rowMajor_val_five]
    show (((b.val * 256 + s.val) * 1 + 0) * 4 + g.val) * 128 + d.val = ((b.val * 256 + s.val) * 4 + g.val) * 128 + d.val
    omega
  · refine Eq.trans (congrArg (bothT y) (?_ : _ = ix5 b s 0 g d)) ((bothT_apply y b s 0 g d).trans ?_)
    · funext a
      apply Fin.ext
      match a with
      | ⟨0, _⟩ => show 0 + b.val = b.val; omega
      | ⟨1, _⟩ => show 0 + s.val = s.val; omega
      | ⟨2, _⟩ => rfl
      | ⟨3, _⟩ => show 0 + g.val = g.val; omega
      | ⟨4, _⟩ => show 0 + d.val = d.val; omega
    · exact congrArg y (congrArg (ix3 b s) (Fin.ext (by simp)))

theorem vT_apply (y : FVec Ideal S2x256x1024 .bf16) (b : Fin 2) (s : Fin 256) (g : Fin 4) (d : Fin 128) :
    vT y (ix4 b s g d) = y (ix3 b s ⟨512 + (128 * g.val + d.val), by omega⟩) := by
  refine (shapeCast_apply _ _ (ix4 b s g d) (ix5 b s 0 g d) ?_).trans ?_
  · rw [Shape.rowMajor_val_four, Shape.rowMajor_val_five]
    show (((b.val * 256 + s.val) * 1 + 0) * 4 + g.val) * 128 + d.val = ((b.val * 256 + s.val) * 4 + g.val) * 128 + d.val
    omega
  · refine Eq.trans (congrArg (bothT y) (?_ : _ = ix5 b s 1 g d)) ((bothT_apply y b s 1 g d).trans ?_)
    · funext a
      apply Fin.ext
      match a with
      | ⟨0, _⟩ => show 0 + b.val = b.val; omega
      | ⟨1, _⟩ => show 0 + s.val = s.val; omega
      | ⟨2, _⟩ => rfl
      | ⟨3, _⟩ => show 0 + g.val = g.val; omega
      | ⟨4, _⟩ => show 0 + d.val = d.val; omega
    · exact congrArg y (congrArg (ix3 b s) (Fin.ext (by simp)))

theorem scoreT_apply (x : FVec Ideal S2x4096x1408 .f32) (y : FVec Ideal S2x256x1024 .bf16) (b : Fin 2) (g : Fin 4) (r : Fin 4096)
    (s : Fin 256) : scoreT x y (ix4 b g r s) = score x y b g r s := by
  pointwise [scoreT]
  simp only [qT_apply, kT_apply]
  rfl

theorem neg_inf : Ideal.ofBits FTy.f32 4286578688#32 = ⊥ := by
  simp [Ideal.ofBits, Ideal.ieee, -EReal.coe_mul]

/-- A maximum over a row that starts at minus infinity. -/
theorem fold_top {n : ℕ} (x : EReal) (f : Fin n → EReal) (z : ℕ → EReal) (hx : x = ⊥) (hf : ∀ s : Fin n, f s = z s.val) :
    Finset.univ.fold max x f = top z n := by
  rw [hx, ← top_full z n]
  congr 1
  exact funext hf

/-- The largest entry of a row, read off the reduction. -/
theorem red_apply (Z : Sc) (c : FVec Ideal S_ .f32) (b : Fin 2) (g : Fin 4) (r : Fin 4096) :
    Host.reduce FloatOps.maximumf Z c reducesTo_S2x4x4096x256_S2x4x4096_d3 h_S_ (ix3 b g r)
      = Finset.univ.fold max (c (Shape.Idx.first h_S_)) fun s : Fin 256 => Z (ix4 b g r s) := by
  rw [Host.reduce_eq_fold, Shape.ReducesTo.fold_fiber_r4_a3]
  rfl

section
variable (Z : Sc) (b : Fin 2) (g : Fin 4) (r : Fin 4096) (z : ℕ → EReal) (hz : ∀ s : Fin 256, Z (ix4 b g r s) = z s.val)
include hz

theorem row_top : Finset.univ.fold max ((constant (F := Ideal) S_ .f32 0xFF800000#32) (Shape.Idx.first h_S_))
    (fun s : Fin 256 => Z (ix4 b g r s)) = top z 256 :=
  fold_top _ _ z neg_inf hz

theorem red_top : Host.reduce FloatOps.maximumf Z (constant S_ .f32 0xFF800000#32) reducesTo_S2x4x4096x256_S2x4x4096_d3 h_S_ (ix3 b g r) = top z 256 := by
  rw [red_apply Z _ b g r]
  exact row_top Z b g r z hz

theorem topT_apply : topT Z (ix3 b g r) = top z 256 := by
  unfold topT
  rw [maximumf_apply, red_top Z b g r z hz]
  show max (Ideal.ofBits FTy.f32 4286578688#32) _ = _
  rw [neg_inf, max_eq_right bot_le]

theorem wtT_apply (s : Fin 256) : wtT Z (ix4 b g r s) = wt z 256 s.val := by
  pointwise [wtT, alongT]
  rw [hz, topT_apply Z b g r z hz]
  rfl

theorem softT_apply (s : Fin 256) : softT Z (ix4 b g r s) = Ideal.div (wt z 256 s.val) (den z 256) := by
  pointwise [softT, alongT]
  simp only [wtT_apply Z b g r z hz]
  unfold den
  rw [Fin.sum_univ_eq_sum_range (fun s => wt z 256 s) 256]

end

theorem outT_apply (x : FVec Ideal S2x4096x1408 .f32) (y : FVec Ideal S2x256x1024 .bf16) (hx : RealScores x y)
    (b : Fin 2) (r : Fin 4096) (g : Fin 4) (d : Fin 128) :
    outT x y (ix3 b r ⟨128 * g.val + d.val, by omega⟩) = attnAt x y b r g d := by
  have hz : ∀ s : Fin 256, scoreT x y (ix4 b g r s) = row x y b g r s.val := fun s => by
    rw [scoreT_apply]
    unfold row
    rw [dif_pos s.isLt]
  pointwise [outT]
  unfold attnAt
  rw [← att_split (row_is x y hx b g r) _ (by omega),
    ← Fin.sum_univ_eq_sum_range (fun s => Ideal.div (wt (row x y b g r) 256 s) (den (row x y b g r) 256) * vals y b g d s) 256]
  refine Finset.sum_congr rfl fun s _ => ?_
  rw [softT_apply _ b g r _ hz s, vT_apply, mul_comm]
  unfold vals
  rw [dif_pos s.isLt]

theorem outT_eq (x : FVec Ideal S2x4096x1408 .f32) (y : FVec Ideal S2x256x1024 .bf16) (hx : RealScores x y) :
    outT x y = attn x y := by
  funext j
  obtain ⟨b, r, c, rfl⟩ : ∃ (b : Fin 2) (r : Fin 4096) (c : Fin 512), j = ix3 b r c := ⟨j 0, j 1, j 2, eq_ix3 j⟩
  obtain ⟨g, d, rfl⟩ : ∃ (g : Fin 4) (d : Fin 128), c = ⟨128 * g.val + d.val, by omega⟩ :=
    ⟨⟨c.val / 128, by omega⟩, ⟨c.val % 128, by omega⟩, Fin.ext (by show c.val = 128 * (c.val / 128) + c.val % 128; omega)⟩
  rw [attn_ix3 x y b r g d _ rfl]
  exact outT_apply x y hx b r g d

end Cert.RecallLRefIdeal.Ref
-- ==== Proof.RecallLPre.lean ====
/- What the precondition of the memory's attention gives: its queries and keys are real numbers, so every score is. -/
module

public import proofs.«01_k».proof.Proof.Gen.Pre_mem_l_finite
public import proofs.«01_k».proof.Proof.RecallLMath
public import Idealize.ShloMosaic.Lib.WordCmp
public import Idealize.ShloMosaic.Lib.ReduceAll

@[expose] public section

set_option maxRecDepth 16384

noncomputable section

namespace Cert.Pre_mem_l_finite.Read

open Cert.Pre_mem_l_finite Cert.Proof.RecallL Idealize.ShloMosaic

theorem both_one : ∀ a b : BitVec 1, a &&& b = 1#1 → a = 1#1 ∧ b = 1#1 := by decide

/-- A value whose size is below plus infinity is a real number. -/
theorem real_of_lt (y : EReal)
    (h : BitVec.ofBool (decide (max y (-y) < Ideal.ofBits .f32 2139095040#32)) = 1#1) :
    ∃ t : ℝ, y = (t : EReal) := by
  have h2 : max y (-y) < Ideal.ofBits .f32 2139095040#32 := by
    by_contra hn
    rw [decide_eq_false hn] at h
    exact absurd h (by decide)
  induction y using EReal.rec with
  | bot => exact absurd h2 (by simp [Ideal.ofBits, Ideal.ieee, -EReal.coe_mul])
  | coe t => exact ⟨t, rfl⟩
  | top => exact absurd h2 (by simp [Ideal.ofBits, Ideal.ieee, -EReal.coe_mul])

theorem entry_real (hF : Facts) (x : FVec Ideal S2x4096x1408 .f32) (y : FVec Ideal S2x256x1024 .bf16) (h : fn x y = fun _ => 1#1) :
    (∀ (b : Fin 2) (r : Fin 4096) (n : Fin 512), ∃ t : ℝ, x (ix3 b r ⟨n.val, by omega⟩) = (t : EReal))
      ∧ ∀ (b : Fin 2) (s : Fin 256) (n : Fin 512), ∃ t : ℝ, y (ix3 b s ⟨n.val, by omega⟩) = (t : EReal) := by
  have h0 := congrFun h (fun a => a.elim0)
  unfold fn at h0
  haveI : Subsingleton S_.Idx := ⟨fun a b => funext fun i => i.elim0⟩
  obtain ⟨h1, h2⟩ := both_one _ _ h0
  refine ⟨fun b r n => ?_, fun b s n => ?_⟩
  · have e1 := Host.reduce_andi_all _ _ _ _ _ h1 (ix3 b r n)
    revert e1
    pointwise []
    exact fun e1 => real_of_lt _ e1
  · have e2 := Host.reduce_andi_all _ _ _ _ _ h2 (ix3 b s n)
    revert e2
    pointwise []
    exact fun e2 => real_of_lt _ e2

theorem scores_real (hF : Facts) (x : FVec Ideal S2x4096x1408 .f32) (y : FVec Ideal S2x256x1024 .bf16) (h : fn x y = fun _ => 1#1) :
    RealScores x y := by
  obtain ⟨eq, ek⟩ := entry_real hF x y h
  intro b g r s
  have hq : ∀ d : Fin 128, ∃ t : ℝ, x (ix3 b r ⟨(128 * g.val + d.val), by omega⟩) = (t : EReal) := fun d =>
    eq b r ⟨128 * g.val + d.val, by omega⟩
  have hk : ∀ d : Fin 128, ∃ t : ℝ, y (ix3 b s ⟨128 * g.val + d.val, by omega⟩) = (t : EReal) := fun d =>
    ek b s ⟨128 * g.val + d.val, by omega⟩
  choose q hq using hq
  choose k hk using hk
  obtain ⟨w, hw⟩ : ∃ w : ℝ, Ideal.ofBits .f32 1035273459#32 = (w : EReal) :=
    ⟨_, (EReal.coe_toReal (by simp [Ideal.ofBits, Ideal.ieee, -EReal.coe_mul]) (by simp [Ideal.ofBits, Ideal.ieee, -EReal.coe_mul])).symm⟩
  refine ⟨(∑ d, q d * k d) * w, ?_⟩
  unfold score
  simp only [hq, hk, hw, ← EReal.coe_mul]
  rw [EReal.coe_mul]
  congr 1

end Cert.Pre_mem_l_finite.Read
-- ==== Proof.QueryMath.lean ====
/- The latent attention's queries as a formula: a row's 512 columns are normalised and multiplied by the weights of a head, and the
   last 64 of the head's 192 columns are turned by the row's angles; 64 zeros follow. -/
module

public import Idealize.ShloMosaic.Lib.Pointwise

@[expose] public section

set_option maxRecDepth 16384

noncomputable section

namespace Cert.Proof.Query

open Idealize.ShloMosaic

abbrev Mix : Type := (⟨2, ![8192, 1408]⟩ : Shape).Idx → EReal
abbrev Gain : Type := (⟨1, ![512]⟩ : Shape).Idx → EReal
abbrev Wts : Type := (⟨2, ![512, 3072]⟩ : Shape).Idx → EReal
abbrev Turns : Type := (⟨2, ![8192, 128]⟩ : Shape).Idx → EReal

/-- The factor that brings a row to mean square one. -/
def factor (row : Fin 512 → EReal) : EReal :=
  Ideal.rsqrt (Ideal.div (∑ k : Fin 512, row k * row k) (Ideal.ofBits .f32 0x44000000#32) + Ideal.ofBits .f32 0x358637BD#32)

/-- The columns of the projection from which the queries are made. -/
def col (x : Mix) (r : Fin 8192) (k : Fin 512) : EReal := x (ix2 r ⟨512 + k.val, by omega⟩)

/-- They are normalised. -/
def normed (x : Mix) (g : Gain) (r : Fin 8192) (k : Fin 512) : EReal := col x r k * factor (col x r) * g (ix1 k)

/-- Column `j` of head `h` before the turn. -/
def prod (x : Mix) (g : Gain) (w : Wts) (r : Fin 8192) (h : Fin 16) (j : Fin 192) : EReal :=
  ∑ k : Fin 512, normed x g r k * w (ix2 k ⟨192 * h.val + j.val, by omega⟩)

/-- The column with which a turned one is paired: the other half's. -/
def mate (j : Fin 64) : Fin 192 := if h : j.val < 32 then ⟨160 + j.val, by omega⟩ else ⟨96 + j.val, by omega⟩

/-- A turned column. -/
def turned (x : Mix) (g : Gain) (w : Wts) (t : Turns) (r : Fin 8192) (h : Fin 16) (j : Fin 64) : EReal :=
  prod x g w r h ⟨128 + j.val, by omega⟩ * t (ix2 r ⟨j.val, by omega⟩) + prod x g w r h (mate j) * t (ix2 r ⟨64 + j.val, by omega⟩)

/-- A column of a head's 256. -/
def entry (x : Mix) (g : Gain) (w : Wts) (t : Turns) (r : Fin 8192) (h : Fin 16) (j : Fin 256) : EReal :=
  if h1 : j.val < 128 then prod x g w r h ⟨j.val, by omega⟩
  else if h2 : j.val - 128 < 64 then turned x g w t r h ⟨j.val - 128, h2⟩
  else 0

/-- The whole result, heads side by side. -/
def total (x : Mix) (g : Gain) (w : Wts) (t : Turns) (j : (⟨2, ![8192, 4096]⟩ : Shape).Idx) : EReal :=
  entry x g w t (j 0) ⟨(j 1).val / 256, by have : (j 1).val < 4096 := (j 1).isLt; omega⟩ ⟨(j 1).val % 256, by omega⟩

theorem total_ix2 (x : Mix) (g : Gain) (w : Wts) (t : Turns) (r : Fin 8192) (h : Fin 16) (j : Fin 256) (n : Fin 4096)
    (hn : n.val = 256 * h.val + j.val) : total x g w t (ix2 r n) = entry x g w t r h j := by
  show entry x g w t r ⟨n.val / 256, _⟩ ⟨n.val % 256, _⟩ = _
  congr 1 <;> apply Fin.ext <;> simp only [hn] <;> omega

end Cert.Proof.Query
-- ==== Proof.QueryValue.lean ====
/- One point of the launch that makes the latent attention's queries. -/
module

public import proofs.«01_k».proof.Proof.Gen.QueryIdeal.Value
public import proofs.«01_k».proof.Proof.QueryMath
public import Idealize.ShloMosaic.Lib.Pipeline.Value
public import Idealize.ShloMosaic.Lib.Claim
public import Idealize.ShloMosaic.Lib.Pointwise
public import Idealize.ShloMosaic.Lib.VecWindow
public import Idealize.ShloMosaic.Lib.WordCmp
public import Idealize.ShloMosaic.Lib.KernelVsHost
public import Idealize.ShloMosaic.Lib.StableHlo.ReadAt

@[expose] public section

set_option maxRecDepth 16384

noncomputable section

namespace Cert.QueryIdeal.Array

open Cert.QueryIdeal Cert.QueryIdeal.Gen Cert.Proof.Query
open Idealize.ShloMosaic Idealize.ShloMosaic.TcCoe Idealize.SL.Sem

theorem norm_apply (x0 : Vec Ideal S512x512 .f32) (x1 : Vec Ideal S1x512 .f32) (a k : Fin 512) :
    k0_pay1 x0 x1 (ix2 a k) = x0 (ix2 a k) * factor (fun k => x0 (ix2 a k)) * x1 (ix2 0 k) := by
  pointwise [k0_pay1, factor]

section
variable (n : Vec Ideal S512x512 .bf16) (w : Vec Ideal S512x256 .bf16) (u : Vec Ideal S512x128 .f32)

/-- The product of the carried rows with a head's columns. -/
def yT : FVec Ideal S512x256 .f32 :=
  matmul (φ₁ := .bf16) (φ₂ := .bf16) dot_S512x512_S512x256_S512x256_1_0_0_1_n_n none (n : FVec Ideal S512x512 .bf16) (shapeCast S512x256 w shapeCasts_S512x256_S512x256 : FVec Ideal S512x256 .bf16) (constant S512x256 .f32 0x00000000#32)

/-- Its last half times the angles' table. -/
def zT : FVec Ideal S512x128 .f32 := mulf (extractStridedSlice S512x128 ![0, 128] (yT n w) slices_S512x256_o0_128_S512x128) u

theorem yT_apply (a : Fin 512) (j : Fin 256) : yT n w (ix2 a j) = ∑ k : Fin 512, n (ix2 a k) * w (ix2 k j) := by
  pointwise [yT]

theorem zT_apply (a : Fin 512) (l : Fin 128) : zT n w u (ix2 a l) = yT n w (ix2 a ⟨128 + l.val, by omega⟩) * u (ix2 a l) := by
  pointwise [zT]

/-- One point's block from the carried rows, the head's columns and the table. -/
theorem block_apply (a : Fin 512) (j : Fin 256) : k0_pay2 n w u (ix2 a j)
    = if h1 : j.val < 128 then ∑ k : Fin 512, n (ix2 a k) * w (ix2 k j)
      else if h2 : j.val - 128 < 64 then
        (∑ k : Fin 512, n (ix2 a k) * w (ix2 k ⟨128 + (j.val - 128), by omega⟩)) * u (ix2 a ⟨j.val - 128, by omega⟩)
          + (∑ k : Fin 512, n (ix2 a k) * w (ix2 k ⟨192 + (j.val - 128), by omega⟩)) * u (ix2 a ⟨64 + (j.val - 128), by omega⟩)
      else 0 := by
  have e : k0_pay2 n w u = truncf .bf16 (concatenate S512x256 1 [⟨S512x128, extractStridedSlice S512x128 ![0, 0] (yT n w) slices_S512x256_o0_0_S512x128⟩,
      ⟨S512x128, select (cmpi .slt (iota .tc S512x128 32 [1] iota_S512x128_d1_w32) (broadcast S512x128 64#32))
        (addf (zT n w u) (dynamicRotate 1 64#32 none (zT n w u) rotates_S512x128_d1)) (broadcast S512x128 (Scalar.ofBits .f32 0x00000000#32))⟩]
      concatenates_S512x128_S512x128_S512x256_d1) bitsLt_bf16_f32 := rfl
  rw [e]
  pointwise []
  by_cases h1 : j.val < 128
  · rw [dif_pos h1, dif_pos h1, yT_apply]
  have hs : IntOp.cmpi .slt (BitVec.ofNat 32 (j.val - 128)) 64#32 = BitVec.ofBool (decide (j.val - 128 < 64)) :=
    WordCmp.cmpi_slt_ofNat (b := 64) (by omega) (by omega)
  rw [dif_neg h1, dif_neg h1, hs, WordCmp.select_ofBool]
  by_cases h2 : j.val - 128 < 64
  · rw [dif_pos h2, if_pos (decide_eq_true h2), zT_apply, zT_apply, yT_apply, yT_apply]
    have e1 : (⟨(j.val - 128 + 128 - 64) % 128, Nat.mod_lt _ (by omega)⟩ : Fin 128) = ⟨64 + (j.val - 128), by omega⟩ := Fin.ext (by
      show (j.val - 128 + 128 - 64) % 128 = 64 + (j.val - 128); omega)
    have e2 : (⟨128 + (j.val - 128 + 128 - 64) % 128, by omega⟩ : Fin 256) = ⟨192 + (j.val - 128), by omega⟩ := Fin.ext (by
      show 128 + (j.val - 128 + 128 - 64) % 128 = 192 + (j.val - 128); omega)
    simp only [e1, e2]
  · rw [dif_neg h2, if_neg (by rw [decide_eq_false h2]; exact Bool.false_ne_true)]

end

/-! ## The windows -/

theorem index0 : ∀ t : Fin grid0.N, win0_0.index t = ![t.val / 16, 1] := by decide +kernel
theorem index1 : ∀ t : Fin grid0.N, win0_1.index t = ![0, 0] := by decide +kernel
theorem index2 : ∀ t : Fin grid0.N, win0_2.index t = ![0, t.val % 16] := by decide +kernel
theorem index3 : ∀ t : Fin grid0.N, win0_3.index t = ![t.val / 16, 0] := by decide +kernel
theorem index4 : ∀ t : Fin grid0.N, win0_4.index t = ![t.val / 16, t.val % 16] := by decide +kernel

variable (m : (ℓ : Loc nD τ sig) → Buf (Elt Ideal) ℓ)

abbrev mix (c : Dev nD) : Mix := m ((c : Thread nD τ).loc main_arg0)
abbrev gain (c : Dev nD) : Gain := m ((c : Thread nD τ).loc main_arg1)
abbrev wts (c : Dev nD) : Wts := m ((c : Thread nD τ).loc main_arg2)
abbrev turns (c : Dev nD) : Turns := m ((c : Thread nD τ).loc main_arg3)

/-- Row `a` of tile `p`. -/
def rowOf (p : Fin 16) (a : Fin 512) : Fin 8192 := ⟨512 * p.val + a.val, by omega⟩

/-- The column of a head's weights from which each of its 256 columns is made. -/
def source (j : Fin 256) : Fin 192 :=
  if h : j.val < 192 then ⟨j.val, h⟩ else mate ⟨j.val - 192, by omega⟩

/-- The weights, head by head. -/
def split (w : FVec Ideal S512x3072 .f32) : FVec Ideal S512x16x192 .f32 := shapeCast _ w shapeCasts_S512x3072_S512x16x192

theorem split_apply (w : FVec Ideal S512x3072 .f32) (k : Fin 512) (h : Fin 16) (j : Fin 192) :
    split w (ix3 k h j) = w (ix2 k ⟨192 * h.val + j.val, by omega⟩) := by
  refine shapeCast_apply _ _ (ix3 k h j) (ix2 k ⟨192 * h.val + j.val, by omega⟩) ?_
  rw [Shape.rowMajor_val_three, Shape.rowMajor_val_two]
  show k.val * 3072 + (192 * h.val + j.val) = (k.val * 16 + h.val) * 192 + j.val
  omega

/-- The last 64 columns of each head with their halves exchanged. -/
def crossed (v : FVec Ideal S512x16x192 .f32) : FVec Ideal S512x16x64 .f32 :=
  concatenate S512x16x64 2 [⟨S512x16x32, extractStridedSlice S512x16x32 ![0, 0, 32]
      (extractStridedSlice S512x16x64 ![0, 0, 128] v slices_S512x16x192_S512x16x64_0_0_128) slices_S512x16x64_S512x16x32_0_0_32⟩,
    ⟨S512x16x32, extractStridedSlice S512x16x32 ![0, 0, 0]
      (extractStridedSlice S512x16x64 ![0, 0, 128] v slices_S512x16x192_S512x16x64_0_0_128) slices_S512x16x64_S512x16x32_0_0_0⟩]
    concatenates_S512x16x32_S512x16x32_S512x16x64_d2

theorem crossed_apply (v : FVec Ideal S512x16x192 .f32) (k : Fin 512) (h : Fin 16) (j : Fin 64) :
    crossed v (ix3 k h j) = v (ix3 k h (mate j)) := by
  pointwise [crossed]
  unfold mate
  by_cases h1 : j.val < 32
  · rw [dif_pos h1, dif_pos h1]
    exact congrArg v (congrArg (ix3 k h) (Fin.ext (by simp; omega)))
  · rw [dif_neg h1, dif_neg h1]
    exact congrArg v (congrArg (ix3 k h) (Fin.ext (by simp; omega)))

/-- Each head's 192 columns and then the exchanged 64. -/
def joined (w : FVec Ideal S512x3072 .f32) : FVec Ideal S512x16x256 .f32 :=
  concatenate S512x16x256 2 [⟨S512x16x192, split w⟩, ⟨S512x16x64, crossed (split w)⟩]
    concatenates_S512x16x192_S512x16x64_S512x16x256_d2

/-- The weights as the launch gets them. -/
def widened (w : FVec Ideal S512x3072 .f32) : FVec Ideal S512x4096 .bf16 :=
  truncf .bf16 (shapeCast S512x4096 (joined w) shapeCasts_S512x16x256_S512x4096) bitsLt_bf16_f32

theorem widened_apply (w : FVec Ideal S512x3072 .f32) (k : Fin 512) (h : Fin 16) (j : Fin 256) :
    widened w (ix2 k ⟨256 * h.val + j.val, by omega⟩) = w (ix2 k ⟨192 * h.val + (source j).val, by have := (source j).isLt; omega⟩) := by
  show shapeCast S512x4096 (joined w) _ _ = _
  refine (shapeCast_apply (joined w) _ (ix2 k (⟨256 * h.val + j.val, by omega⟩ : Fin 4096)) (ix3 k h j) ?_).trans ?_
  · rw [Shape.rowMajor_val_three, Shape.rowMajor_val_two]
    show (k.val * 16 + h.val) * 256 + j.val = k.val * 4096 + (256 * h.val + j.val)
    omega
  rw [← split_apply w k h (source j)]
  pointwise [joined]
  unfold source
  by_cases h1 : j.val < 192
  · rw [dif_pos h1, dif_pos h1]
  · rw [dif_neg h1, dif_neg h1, crossed_apply]

theorem V_v7 (c : Dev nD) (k : Fin 512) (h : Fin 16) (j : Fin 256) :
    (V m c main_v7 : Vec Ideal S512x4096 .bf16) (ix2 k ⟨256 * h.val + j.val, by omega⟩)
      = wts m c (ix2 k ⟨192 * h.val + (source j).val, by have := (source j).isLt; omega⟩) := by
  entry_read
  exact widened_apply (wts m c) k h j

theorem V_v8 (c : Dev nD) (k : Fin 512) : (V m c main_v8 : Vec Ideal S1x512 .f32) (ix2 0 k) = gain m c (ix1 k) := by
  entry_read
  refine shapeCast_apply (gain m c) _ (ix2 0 k) (ix1 k) ?_
  rw [Shape.rowMajor_val_one, Shape.rowMajor_val_two]
  show k.val = 0 * 512 + k.val
  omega

theorem iblk0_apply (c : Dev nD) (t : Fin cfg0.N) (p : Fin 16) (hp : t.val / 16 = p.val) (a b : Fin 512) :
    (X0_0 m c t : Vec Ideal S512x512 .f32) (ix2 a b) = col (mix m c) (rowOf p a) b := by
  unfold X0_0 Pipeline.Window.fill
  rw [dif_pos (moved0_0 t _)]
  unfold iblk
  rw [View.read_apply]
  refine Eq.trans (b := V m c main_arg0 (ix2 (rowOf p a) ⟨512 + b.val, by omega⟩)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val / 16) * 512 + 1 * a.val = 512 * p.val + a.val; omega
  | ⟨1, _⟩ => show win0_0.index t 1 * 512 + 1 * b.val = 512 + b.val; rw [e]; show 1 * 512 + 1 * b.val = 512 + b.val; omega

theorem iblk1_apply (c : Dev nD) (t : Fin cfg0.N) (b : Fin 512) :
    (iblk m c 1 t : Vec Ideal S1x512 .f32) (ix2 0 b) = gain m c (ix1 b) := by
  rw [iblk, View.read_apply]
  refine Eq.trans (b := V m c main_v8 (ix2 0 b)) ?_ (V_v8 m c _)
  refine congrArg (V m c main_v8) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 512 + 1 * b.val = b.val; rw [e]; show 0 * 512 + 1 * b.val = b.val; omega

theorem iblk2_apply (c : Dev nD) (t : Fin cfg0.N) (q : Fin 16) (hq : t.val % 16 = q.val) (a : Fin 512) (b : Fin 256) :
    (iblk m c 2 t : Vec Ideal S512x256 .bf16) (ix2 a b)
      = wts m c (ix2 a ⟨192 * q.val + (source b).val, by have := (source b).isLt; omega⟩) := by
  rw [iblk, View.read_apply]
  refine Eq.trans (b := V m c main_v7 (ix2 a ⟨256 * q.val + b.val, by omega⟩)) ?_ (V_v7 m c _ _ _)
  refine congrArg (V m c main_v7) ?_
  funext x
  apply Fin.ext
  have e := index2 t
  match x with
  | ⟨0, _⟩ => show win0_2.index t 0 * 512 + 1 * a.val = a.val; rw [e]; show 0 * 512 + 1 * a.val = a.val; omega
  | ⟨1, _⟩ => show win0_2.index t 1 * 256 + 1 * b.val = 256 * q.val + b.val; rw [e]; show (t.val % 16) * 256 + 1 * b.val = 256 * q.val + b.val; omega

theorem iblk3_apply (c : Dev nD) (t : Fin cfg0.N) (p : Fin 16) (hp : t.val / 16 = p.val) (a : Fin 512) (b : Fin 128) :
    (iblk m c 3 t : Vec Ideal S512x128 .f32) (ix2 a b) = turns m c (ix2 (rowOf p a) b) := by
  rw [iblk, View.read_apply]
  refine Eq.trans (b := V m c main_arg3 (ix2 (rowOf p a) b)) ?_ (congrFun (V_main_arg3 m c) _)
  refine congrArg (V m c main_arg3) ?_
  funext x
  apply Fin.ext
  have e := index3 t
  match x with
  | ⟨0, _⟩ => show win0_3.index t 0 * 512 + 1 * a.val = 512 * p.val + a.val; rw [e]; show (t.val / 16) * 512 + 1 * a.val = 512 * p.val + a.val; omega
  | ⟨1, _⟩ => show win0_3.index t 1 * 128 + 1 * b.val = b.val; rw [e]; show 0 * 128 + 1 * b.val = b.val; omega

/-! ## One point's stores -/

section
variable {F : FTy → Type} [FloatOps F]

theorem off2 : (![0, 0] : Fin 2 → ℕ) = fun _ => 0 := by decide

theorem ld_tile (x : Vec F S512x512 .f32) : View.ld x (Rect.unit (s := S512x512) ![0, 0] ![512, 512] inb_S512x512_S512x512_0_0) = x :=
  View.ld_unit_zero off2 _ x
theorem ld_gain (x : Vec F S1x512 .f32) : View.ld x (Rect.unit (s := S1x512) ![0, 0] ![1, 512] inb_S1x512_S1x512_0_0) = x :=
  View.ld_unit_zero off2 _ x
theorem ld_wts (x : Vec F S512x256 .bf16) : View.ld x (Rect.unit (s := S512x256) ![0, 0] ![512, 256] inb_S512x256_S512x256_0_0) = x :=
  View.ld_unit_zero off2 _ x
theorem ld_turns (x : Vec F S512x128 .f32) : View.ld x (Rect.unit (s := S512x128) ![0, 0] ![512, 128] inb_S512x128_S512x128_0_0) = x :=
  View.ld_unit_zero off2 _ x
theorem ld_rows (x : Vec F S512x512 .bf16) : View.ld x (Rect.unit (s := S512x512) ![0, 0] ![512, 512] inb_S512x512_S512x512_0_0) = x :=
  View.ld_unit_zero off2 _ x
theorem idx_rows (x : Vec F S512x512 .bf16) :
    (fun j => x ((Rect.unit (s := S512x512) ![0, 0] ![512, 512] inb_S512x512_S512x512_0_0).idx j)) = x :=
  View.ld_unit_zero off2 _ x
theorem canon_rows (x : Vec F S512x512 .bf16) :
    (View.canon [⟨Rect.unit (s := S512x512) ![0, 0] ![512, 512] inb_S512x512_S512x512_0_0, x⟩] : Vec F S512x512 .bf16) = x :=
  View.canon_unit_zero off2 _ x

variable (c : Dev nD) (i : grid0.Coords) (arg2 : Memref sig .tc .vmem S512x512 .f32) (harg2 : arg2.IsWhole) (arg3 : Memref sig .tc .vmem S1x512 .f32) (harg3 : arg3.IsWhole)
  (arg4 : Memref sig .tc .vmem S512x256 .bf16) (harg4 : arg4.IsWhole) (arg5 : Memref sig .tc .vmem S512x128 .f32) (harg5 : arg5.IsWhole)
  (arg6 : Memref sig .tc .vmem S512x256 .bf16) (harg6 : arg6.IsWhole) (arg7 : Memref sig .tc .vmem S512x512 .bf16) (harg7 : arg7.IsWhole)
  (x0 : Vec F S512x512 .f32) (x1 : Vec F S1x512 .f32) (x2 : Vec F S512x256 .bf16) (x3 : Vec F S512x128 .f32) (xs : Vec F S512x512 .bf16)

theorem rows_A (h : cond0_0 i) : sout0_A_0 c i arg2 harg2 arg3 harg3 arg4 harg4 arg5 harg5 arg6 harg6 arg7 harg7 h x0 x1 x2 x3 = k0_pay1 x0 x1 := by
  unfold sout0_A_0
  rw [View.read_writes_junk_eq_canon]
  unfold kernelRun0_A
  dsimp only
  sl_unfold_words
  simp only [View.readAt_eq_ld, harg2.read_unread, harg3.read_unread, ld_tile, ld_gain, canon_rows]

theorem out_A (h : cond0_0 i) : out0_A_4 c i arg2 harg2 arg3 harg3 arg4 harg4 arg5 harg5 arg6 harg6 arg7 harg7 h x0 x1 x2 x3
    = k0_pay2 (k0_pay1 x0 x1) x2 x3 := by
  unfold out0_A_4
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, harg5.read_unread,
    ld_tile, ld_gain, ld_wts, ld_turns, canon_rows, idx_rows]

theorem rows_B (h : ¬cond0_0 i) : sout0_B_0 c i arg2 harg2 arg3 harg3 arg4 harg4 arg5 harg5 arg6 harg6 arg7 harg7 h x0 x1 x2 x3 xs = xs := rfl

theorem out_B (h : ¬cond0_0 i) : out0_B_4 c i arg2 harg2 arg3 harg3 arg4 harg4 arg5 harg5 arg6 harg6 arg7 harg7 h x0 x1 x2 x3 xs
    = k0_pay2 xs x2 x3 := by
  unfold out0_B_4
  rw [View.read_writes_junk_eq_canon]
  unfold kernelRun0_B
  dsimp only
  sl_unfold_words
  rw [View.canon_unit_zero off2]
  simp only [View.readCov_eq_canon', View.readAt_eq_ld, harg4.read_unread, harg5.read_unread, harg7.read_unread, ld_wts, ld_turns, ld_rows]

end

/-! ## The launch -/

/-- The carried rows are tile `p`'s normalised rows. -/
def Rows (c : Dev nD) (p : Fin 16) (n : Vec Ideal S512x512 .bf16) : Prop :=
  ∀ a k : Fin 512, n (ix2 a k) = normed (mix m c) (gain m c) (rowOf p a) k

theorem rows_point (c : Dev nD) (t : Fin cfg0.N) (p : Fin 16) (hp : t.val / 16 = p.val) :
    Rows m c p (k0_pay1 (X0_0 m c t) (iblk m c 1 t)) := fun a k => by
  refine (norm_apply (X0_0 m c t) (iblk m c 1 t) a k).trans ?_
  rw [iblk1_apply m c t k, normed]
  simp only [iblk0_apply m c t p hp]

theorem carried (c : Dev nD) (p : Fin 16) : ∀ (n : ℕ) (hn : n < cfg0.N), n / 16 = p.val → Rows m c p (outsAt0 m c n hn).2
  | 0, hn, hp => by
    have e : (outsAt0 m c 0 hn).2 = k0_pay1 (X0_0 m c ⟨0, hn⟩) (iblk m c 1 ⟨0, hn⟩) := by
      rw [outsAt0_A m c ⟨0, hn⟩ rfl]
      dsimp only
      rw [rows_A]
    exact e ▸ rows_point m c ⟨0, hn⟩ p hp
  | n + 1, hn, hp => by
    by_cases h0 : (n + 1) % 16 = 0
    · have e : (outsAt0 m c (n + 1) hn).2 = k0_pay1 (X0_0 m c ⟨n + 1, hn⟩) (iblk m c 1 ⟨n + 1, hn⟩) := by
        rw [outsAt0_A m c ⟨n + 1, hn⟩ h0]
        dsimp only
        rw [rows_A]
      exact e ▸ rows_point m c ⟨n + 1, hn⟩ p hp
    · have e : (outsAt0 m c (n + 1) hn).2 = (outsAt0 m c n (Nat.lt_of_succ_lt hn)).2 := by
        rw [outsAt0_B m c ⟨n + 1, hn⟩ h0]
        rfl
      rw [e]
      exact carried c p n (Nat.lt_of_succ_lt hn) (by omega)

/-- A point's block is made of the rows it then carries, its columns and its angles. -/
theorem out_rows (c : Dev nD) (t : Fin cfg0.N) :
    (outsAt0 m c t.val t.isLt).1 = k0_pay2 (outsAt0 m c t.val t.isLt).2 (iblk m c 2 t) (iblk m c 3 t) := by
  by_cases h0 : t.val % 16 = 0
  · rw [outsAt0_A m c t h0]
    dsimp only
    rw [rows_A, out_A]
  · rw [outsAt0_B m c t h0]
    dsimp only
    rw [rows_B, out_B]

/-- A column of the carried rows' product with the block's columns. -/
theorem column (c : Dev nD) (t : Fin cfg0.N) (p : Fin 16) (hp : t.val / 16 = p.val) (q : Fin 16) (hq : t.val % 16 = q.val)
    (a : Fin 512) (j : Fin 256) :
    ∑ k : Fin 512, ((outsAt0 m c t.val t.isLt).2 : Vec Ideal S512x512 .bf16) (ix2 a k) * (iblk m c 2 t : Vec Ideal S512x256 .bf16) (ix2 k j)
      = prod (mix m c) (gain m c) (wts m c) (rowOf p a) q (source j) :=
  Finset.sum_congr rfl fun k _ => by rw [carried m c p t.val t.isLt hp a k, iblk2_apply m c t q hq k j]

theorem out_point (c : Dev nD) (t : Fin cfg0.N) (p : Fin 16) (hp : t.val / 16 = p.val) (q : Fin 16) (hq : t.val % 16 = q.val)
    (a : Fin 512) (j : Fin 256) :
    (outsAt0 m c t.val t.isLt).1 (ix2 a j) = entry (mix m c) (gain m c) (wts m c) (turns m c) (rowOf p a) q j := by
  rw [out_rows]
  refine (block_apply _ (iblk m c 2 t) (iblk m c 3 t) a j).trans ?_
  unfold entry
  by_cases h1 : j.val < 128
  · rw [dif_pos h1, dif_pos h1, column m c t p hp q hq]
    congr 1
    unfold source
    rw [dif_pos (by omega)]
  rw [dif_neg h1, dif_neg h1]
  by_cases h2 : j.val - 128 < 64
  · rw [dif_pos h2, dif_pos h2, column m c t p hp q hq, column m c t p hp q hq, iblk3_apply m c t p hp, iblk3_apply m c t p hp]
    have e1 : source ⟨128 + (j.val - 128), by omega⟩ = ⟨128 + (j.val - 128), by omega⟩ := by
      unfold source
      rw [dif_pos (show 128 + (j.val - 128) < 192 by omega)]
    have e2 : source ⟨192 + (j.val - 128), by omega⟩ = mate ⟨j.val - 128, h2⟩ := by
      unfold source
      rw [dif_neg (show ¬192 + (j.val - 128) < 192 by omega)]
      exact congrArg mate (Fin.ext (show 192 + (j.val - 128) - 192 = j.val - 128 by omega))
    rw [e1, e2]
    rfl
  · rw [dif_neg h2, dif_neg h2]

/-- What the array holds. -/
def whole (c : Dev nD) : (⟨2, ![8192, 4096]⟩ : Shape).Idx → EReal := total (mix m c) (gain m c) (wts m c) (turns m c)

theorem flushed_eq (c : Dev nD) (t : Fin cfg0.N) (hf : (cfg0.win 4).flush t = true) :
    (dats m 0 c).flushed 4 t = ((cfg0.win 4).blk t).view.read (Elt Ideal) (whole m c) := by
  rw [Value.flushed4]
  have hN : t.val < 256 := lt_of_lt_of_eq t.isLt (show cfg0.N = 256 from N_0)
  obtain ⟨p, hp⟩ : ∃ p : Fin 16, t.val / 16 = p.val := ⟨⟨t.val / 16, by omega⟩, rfl⟩
  obtain ⟨q, hq⟩ : ∃ q : Fin 16, t.val % 16 = q.val := ⟨⟨t.val % 16, by omega⟩, rfl⟩
  show (fun j : S512x256.Idx => _) = _
  funext j
  obtain ⟨a, b, rfl⟩ : ∃ (a : Fin 512) (b : Fin 256), j = ix2 a b := ⟨j 0, j 1, eq_ix2 j⟩
  rw [View.read_apply]
  refine (out_point m c t p hp q hq a b).trans ?_
  have e := index4 t
  have ij : ((cfg0.win 4).blk t).view.emb (ix2 a b) = ix2 (rowOf p a) ⟨256 * q.val + b.val, by omega⟩ := by
    funext x
    apply Fin.ext
    match x with
    | ⟨0, _⟩ => show win0_4.index t 0 * 512 + 1 * a.val = 512 * p.val + a.val; rw [e]; show t.val / 16 * 512 + 1 * a.val = 512 * p.val + a.val; omega
    | ⟨1, _⟩ => show win0_4.index t 1 * 256 + 1 * b.val = 256 * q.val + b.val; rw [e]; show t.val % 16 * 256 + 1 * b.val = 256 * q.val + b.val; omega
  rw [ij, whole, total_ix2 _ _ _ _ _ q b _ rfl]
  rfl

theorem final_eq (c : Dev nD) : (dats m 0 c).arrAt 4 cfg0.N = whole m c :=
  (dats m 0 c).arrAt_eq_of_cover 4 (whole m c) (flushed_eq m c) fun i => by
    have h0 : (i 0 : Nat) < 8192 := (i 0).isLt
    have h1 : (i 1 : Nat) < 4096 := (i 1).isLt
    have ht := index4 ⟨16 * (i 0 / 512) + i 1 / 256, by rw [N_0]; omega⟩
    generalize hs : (⟨16 * (i 0 / 512) + i 1 / 256, by rw [N_0]; omega⟩ : Fin grid0.N) = t at ht
    have hv : t.val = 16 * (i 0 / 512) + i 1 / 256 := by rw [← hs]
    refine ⟨t, flush0_4 t, ?_⟩
    show i ∈ ((View.whole main_v9).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [ht]; show t.val / 16 * 512 ≤ (i 0 : Nat) ∧ (i 0 : Nat) < t.val / 16 * 512 + 512; omega
    | ⟨1, _⟩ => show win0_4.index t 1 * 256 ≤ (i 1 : Nat) ∧ (i 1 : Nat) < win0_4.index t 1 * 256 + 256
                rw [ht]; show t.val % 16 * 256 ≤ (i 1 : Nat) ∧ (i 1 : Nat) < t.val % 16 * 256 + 256; omega

end Cert.QueryIdeal.Array
-- ==== Proof.QueryRef.lean ====
/- The reference of the launch that makes the latent attention's queries, entry by entry. -/
module

public import proofs.«01_k».proof.Proof.Gen.QueryRefIdeal.Run
public import proofs.«01_k».proof.Proof.QueryMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.QueryRefIdeal.Ref

open Cert.QueryRefIdeal Cert.QueryRefIdeal.Gen Cert.Proof.Query Idealize.ShloMosaic

/-- The columns the queries are made from. -/
def cut (x : FVec Ideal S8192x1408 .f32) : FVec Ideal S8192x512 .f32 :=
  extractStridedSlice S8192x512 ![0, 512] x slices_S8192x1408_S8192x512_0_512

theorem cut_apply (x : FVec Ideal S8192x1408 .f32) (r : Fin 8192) (k : Fin 512) : cut x (ix2 r k) = col x r k := by
  pointwise [cut, col]

/-- They are normalised. -/
def hidden (y : FVec Ideal S8192x512 .f32) (g : FVec Ideal S512 .f32) : FVec Ideal S8192x512 .f32 :=
  mulf (mulf y (broadcastInDim S8192x512 ![0, 1] bcast_S8192x1_S8192x512_0_1
      (Host.rsqrt (addf (Host.divf (broadcastInDim S8192x1 ![0] bcast_S8192_S8192x1_0
          (Host.reduceAdd (mulf y y) (constant S_ .f32 0x00000000#32) reducesTo_S8192x512_S8192_d1 h_S_))
        (broadcastInDim S8192x1 ![] bcast_S_S8192x1 (constant S_ .f32 0x44000000#32)))
        (broadcastInDim S8192x1 ![] bcast_S_S8192x1 (constant S_ .f32 0x358637BD#32))))))
    (broadcastInDim S8192x512 ![0, 1] bcast_S1x512_S8192x512_0_1 (broadcastInDim S1x512 ![1] bcast_S512_S1x512_1 g))

theorem hidden_apply (x : FVec Ideal S8192x1408 .f32) (g : FVec Ideal S512 .f32) (r : Fin 8192) (k : Fin 512) :
    hidden (cut x) g (ix2 r k) = normed x g r k := by
  pointwise [hidden, normed, factor]
  simp only [cut_apply]

/-- The heads. -/
def heads (x : FVec Ideal S8192x1408 .f32) (g : FVec Ideal S512 .f32) (w : FVec Ideal S512x3072 .f32) : FVec Ideal S8192x16x192 .f32 :=
  shapeCast _ (Host.dotGeneral dot_S8192x512_S512x3072_S8192x3072_1_0_0_1_n_n none (hidden (cut x) g) w) shapeCasts_S8192x3072_S8192x16x192

theorem heads_apply (x : FVec Ideal S8192x1408 .f32) (g : FVec Ideal S512 .f32) (w : FVec Ideal S512x3072 .f32) (r : Fin 8192)
    (h : Fin 16) (j : Fin 192) : heads x g w (ix3 r h j) = prod x g w r h j := by
  refine (shapeCast_apply _ _ (ix3 r h j) (ix2 r ⟨192 * h.val + j.val, by omega⟩) ?_).trans ?_
  · rw [Shape.rowMajor_val_three, Shape.rowMajor_val_two]
    show r.val * 3072 + (192 * h.val + j.val) = (r.val * 16 + h.val) * 192 + j.val
    omega
  pointwise []
  simp only [hidden_apply]
  rfl

/-- The columns to turn. -/
def tail (q : FVec Ideal S8192x16x192 .f32) : FVec Ideal S8192x16x64 .f32 :=
  extractStridedSlice S8192x16x64 ![0, 0, 128] q slices_S8192x16x192_S8192x16x64_0_0_128

/-- Their halves exchanged. -/
def crossed (q : FVec Ideal S8192x16x192 .f32) : FVec Ideal S8192x16x64 .f32 :=
  concatenate S8192x16x64 2 [⟨S8192x16x32, extractStridedSlice S8192x16x32 ![0, 0, 32] (tail q) slices_S8192x16x64_S8192x16x32_0_0_32⟩,
    ⟨S8192x16x32, extractStridedSlice S8192x16x32 ![0, 0, 0] (tail q) slices_S8192x16x64_S8192x16x32_0_0_0⟩]
    concatenates_S8192x16x32_S8192x16x32_S8192x16x64_d2

theorem crossed_apply (q : FVec Ideal S8192x16x192 .f32) (r : Fin 8192) (h : Fin 16) (j : Fin 64) :
    crossed q (ix3 r h j) = q (ix3 r h (mate j)) := by
  pointwise [crossed, tail]
  unfold mate
  by_cases h1 : j.val < 32
  · rw [dif_pos h1, dif_pos h1]
    exact congrArg q (congrArg (ix3 r h) (Fin.ext (by simp; omega)))
  · rw [dif_neg h1, dif_neg h1]
    exact congrArg q (congrArg (ix3 r h) (Fin.ext (by simp; omega)))

/-- The turned columns. -/
def spun (q : FVec Ideal S8192x16x192 .f32) (t : FVec Ideal S8192x128 .f32) : FVec Ideal S8192x16x64 .f32 :=
  addf (mulf (tail q) (broadcastInDim S8192x16x64 ![0, 1, 2] bcast_S8192x1x64_S8192x16x64_0_1_2 (broadcastInDim S8192x1x64 ![0, 2]
      bcast_S8192x64_S8192x1x64_0_2 (extractStridedSlice S8192x64 ![0, 0] t slices_S8192x128_S8192x64_0_0))))
    (mulf (crossed q) (broadcastInDim S8192x16x64 ![0, 1, 2] bcast_S8192x1x64_S8192x16x64_0_1_2 (broadcastInDim S8192x1x64 ![0, 2]
      bcast_S8192x64_S8192x1x64_0_2 (extractStridedSlice S8192x64 ![0, 64] t slices_S8192x128_S8192x64_0_64))))

theorem spun_apply (q : FVec Ideal S8192x16x192 .f32) (t : FVec Ideal S8192x128 .f32) (r : Fin 8192) (h : Fin 16) (j : Fin 64) :
    spun q t (ix3 r h j) = q (ix3 r h ⟨128 + j.val, by omega⟩) * t (ix2 r ⟨j.val, by omega⟩)
      + q (ix3 r h (mate j)) * t (ix2 r ⟨64 + j.val, by omega⟩) := by
  pointwise [spun, tail]
  rw [crossed_apply]

/-- A head's 256 columns. -/
def wide (q : FVec Ideal S8192x16x192 .f32) (t : FVec Ideal S8192x128 .f32) : FVec Ideal S8192x16x256 .f32 :=
  concatenate S8192x16x256 2 [⟨S8192x16x128, extractStridedSlice S8192x16x128 ![0, 0, 0] q slices_S8192x16x192_S8192x16x128_0_0_0⟩,
    ⟨S8192x16x64, spun q t⟩, ⟨S8192x16x64, broadcastInDim S8192x16x64 ![] bcast_S_S8192x16x64 (constant S_ .f32 0x00000000#32)⟩]
    concatenates_S8192x16x128_S8192x16x64_S8192x16x64_S8192x16x256_d2

theorem wide_apply (x : FVec Ideal S8192x1408 .f32) (g : FVec Ideal S512 .f32) (w : FVec Ideal S512x3072 .f32) (t : FVec Ideal S8192x128 .f32)
    (r : Fin 8192) (h : Fin 16) (j : Fin 256) : wide (heads x g w) t (ix3 r h j) = entry x g w t r h j := by
  pointwise [wide]
  unfold entry
  by_cases h1 : j.val < 128
  · rw [dif_pos h1, dif_pos h1, heads_apply]
  rw [dif_neg h1, dif_neg h1]
  by_cases h2 : j.val - 128 < 64
  · rw [dif_pos h2, dif_pos (by omega), spun_apply, heads_apply, heads_apply]
    rfl
  · rw [dif_neg h2, dif_neg (by omega)]

/-- The reference's result, entry by entry. -/
theorem res_eq (x : FVec Ideal S8192x1408 .f32) (g : FVec Ideal S512 .f32) (w : FVec Ideal S512x3072 .f32) (t : FVec Ideal S8192x128 .f32) :
    truncf .bf16 (shapeCast S8192x4096 (wide (heads x g w) t) shapeCasts_S8192x16x256_S8192x4096) bitsLt_bf16_f32 = total x g w t := by
  funext i
  obtain ⟨r, n, rfl⟩ : ∃ (r : Fin 8192) (n : Fin 4096), i = ix2 r n := ⟨i 0, i 1, eq_ix2 i⟩
  have hn : n.val = 256 * (n.val / 256) + n.val % 256 := by omega
  rw [total_ix2 x g w t r ⟨n.val / 256, by omega⟩ ⟨n.val % 256, by omega⟩ n hn]
  refine (shapeCast_apply _ _ (ix2 r n) (ix3 r ⟨n.val / 256, by omega⟩ ⟨n.val % 256, by omega⟩) ?_).trans (wide_apply x g w t r _ _)
  rw [Shape.rowMajor_val_three, Shape.rowMajor_val_two]
  show (r.val * 16 + n.val / 256) * 256 + n.val % 256 = r.val * 4096 + n.val
  omega

end Cert.QueryRefIdeal.Ref
-- ==== Proof.PairMath.lean ====
/- The latent attention's keys and values as formulas: a row's 256 columns are normalised and multiplied by the weights of a head, which
   gives 128 columns of keys and 128 of values; the keys get 64 more, turned by the row's angles and the same for all heads, and 64 zeros. -/
module

public import Idealize.ShloMosaic.Lib.Pointwise

@[expose] public section

set_option maxRecDepth 16384

noncomputable section

namespace Cert.Proof.Pair

open Idealize.ShloMosaic

abbrev Mix : Type := (⟨2, ![8192, 1408]⟩ : Shape).Idx → EReal
abbrev Gain : Type := (⟨1, ![256]⟩ : Shape).Idx → EReal
abbrev Wts : Type := (⟨2, ![256, 4096]⟩ : Shape).Idx → EReal
abbrev Turns : Type := (⟨2, ![8192, 128]⟩ : Shape).Idx → EReal

/-- The factor that brings a row to mean square one. -/
def factor (row : Fin 256 → EReal) : EReal :=
  Ideal.rsqrt (Ideal.div (∑ k : Fin 256, row k * row k) (Ideal.ofBits .f32 0x43800000#32) + Ideal.ofBits .f32 0x358637BD#32)

/-- The columns of the projection from which keys and values are made. -/
def col (x : Mix) (r : Fin 8192) (k : Fin 256) : EReal := x (ix2 r ⟨1024 + k.val, by omega⟩)

/-- They are normalised. -/
def normed (x : Mix) (g : Gain) (r : Fin 8192) (k : Fin 256) : EReal := col x r k * factor (col x r) * g (ix1 k)

/-- Column `j` of head `h`. -/
def prod (x : Mix) (g : Gain) (w : Wts) (r : Fin 8192) (h : Fin 16) (j : Fin 256) : EReal :=
  ∑ k : Fin 256, normed x g r k * w (ix2 k ⟨256 * h.val + j.val, by omega⟩)

/-- A turned column of the shared key. -/
def turned (x : Mix) (t : Turns) (r : Fin 8192) (j : Fin 64) : EReal :=
  x (ix2 r ⟨1280 + j.val, by omega⟩) * t (ix2 r ⟨j.val, by omega⟩) + x (ix2 r ⟨1344 + j.val, by omega⟩) * t (ix2 r ⟨64 + j.val, by omega⟩)

/-- A column of a head's 256 of the keys. -/
def keyAt (x : Mix) (g : Gain) (w : Wts) (t : Turns) (r : Fin 8192) (h : Fin 16) (j : Fin 256) : EReal :=
  if h1 : j.val < 128 then prod x g w r h j
  else if h2 : j.val - 128 < 64 then turned x t r ⟨j.val - 128, h2⟩
  else 0

/-- A column of a head's 128 of the values. -/
def valAt (x : Mix) (g : Gain) (w : Wts) (r : Fin 8192) (h : Fin 16) (j : Fin 128) : EReal := prod x g w r h ⟨128 + j.val, by omega⟩

/-- The keys, heads side by side. -/
def keys (x : Mix) (g : Gain) (w : Wts) (t : Turns) (j : (⟨2, ![8192, 4096]⟩ : Shape).Idx) : EReal :=
  keyAt x g w t (j 0) ⟨(j 1).val / 256, by have : (j 1).val < 4096 := (j 1).isLt; omega⟩ ⟨(j 1).val % 256, by omega⟩

/-- The values, heads side by side. -/
def vals (x : Mix) (g : Gain) (w : Wts) (j : (⟨2, ![8192, 2048]⟩ : Shape).Idx) : EReal :=
  valAt x g w (j 0) ⟨(j 1).val / 128, by have : (j 1).val < 2048 := (j 1).isLt; omega⟩ ⟨(j 1).val % 128, by omega⟩

theorem keys_ix2 (x : Mix) (g : Gain) (w : Wts) (t : Turns) (r : Fin 8192) (h : Fin 16) (j : Fin 256) (n : Fin 4096)
    (hn : n.val = 256 * h.val + j.val) : keys x g w t (ix2 r n) = keyAt x g w t r h j := by
  show keyAt x g w t r ⟨n.val / 256, _⟩ ⟨n.val % 256, _⟩ = _
  congr 1 <;> apply Fin.ext <;> simp only [hn] <;> omega

theorem vals_ix2 (x : Mix) (g : Gain) (w : Wts) (r : Fin 8192) (h : Fin 16) (j : Fin 128) (n : Fin 2048)
    (hn : n.val = 128 * h.val + j.val) : vals x g w (ix2 r n) = valAt x g w r h j := by
  show valAt x g w r ⟨n.val / 128, _⟩ ⟨n.val % 128, _⟩ = _
  congr 1 <;> apply Fin.ext <;> simp only [hn] <;> omega

end Cert.Proof.Pair
-- ==== Proof.PairValue.lean ====
/- The launch that makes the latent attention's keys and values: a tile's rows are normalised and its shared key is turned at the tile's
   first point, and both are carried along the sixteen heads. -/
module

public import proofs.«01_k».proof.Proof.Gen.PairIdeal.Value
public import proofs.«01_k».proof.Proof.PairMath
public import Idealize.ShloMosaic.Lib.Pipeline.Value
public import Idealize.ShloMosaic.Lib.Claim
public import Idealize.ShloMosaic.Lib.Pointwise
public import Idealize.ShloMosaic.Lib.VecWindow
public import Idealize.ShloMosaic.Lib.WordCmp
public import Idealize.ShloMosaic.Lib.KernelVsHost
public import Idealize.ShloMosaic.Lib.StableHlo.ReadAt

@[expose] public section

set_option maxRecDepth 16384

noncomputable section

namespace Cert.PairIdeal.Array

open Cert.PairIdeal Cert.PairIdeal.Gen Cert.Proof.Pair
open Idealize.ShloMosaic Idealize.ShloMosaic.TcCoe Idealize.SL.Sem

theorem norm_apply (x0 : Vec Ideal S512x256 .f32) (x1 : Vec Ideal S1x256 .f32) (a : Fin 512) (k : Fin 256) :
    k0_pay1 x0 x1 (ix2 a k) = x0 (ix2 a k) * factor (fun k => x0 (ix2 a k)) * x1 (ix2 0 k) := by
  pointwise [k0_pay1, factor]

/-- The shared key's block. -/
theorem turn_apply (x u : Vec Ideal S512x128 .f32) (a : Fin 512) (j : Fin 128) : k0_pay2 x u (ix2 a j)
    = if h : j.val < 64 then x (ix2 a j) * u (ix2 a j) + x (ix2 a ⟨64 + j.val, by omega⟩) * u (ix2 a ⟨64 + j.val, by omega⟩) else 0 := by
  pointwise [k0_pay2]
  have hs : IntOp.cmpi .slt (BitVec.ofNat 32 j.val) 64#32 = BitVec.ofBool (decide (j.val < 64)) :=
    WordCmp.cmpi_slt_ofNat (b := 64) (by omega) (by omega)
  rw [hs, WordCmp.select_ofBool]
  by_cases h : j.val < 64
  · rw [dif_pos h, if_pos (decide_eq_true h)]
    have e1 : (⟨(j.val + 128 - 64) % 128, Nat.mod_lt _ (by omega)⟩ : Fin 128) = ⟨64 + j.val, by omega⟩ := Fin.ext (by
      show (j.val + 128 - 64) % 128 = 64 + j.val; omega)
    simp only [e1]
  · rw [dif_neg h, if_neg (by rw [decide_eq_false h]; exact Bool.false_ne_true)]

theorem prod_apply (n : Vec Ideal S512x256 .bf16) (w : Vec Ideal S256x256 .bf16) (a : Fin 512) (j : Fin 256) :
    k0_pay3 n w (ix2 a j) = ∑ k : Fin 256, n (ix2 a k) * w (ix2 k j) := by
  pointwise [k0_pay3]

theorem key_apply (n : Vec Ideal S512x256 .bf16) (w : Vec Ideal S256x256 .bf16) (z : Vec Ideal S512x128 .f32) (a : Fin 512) (j : Fin 256) :
    k0_pay4 n w z (ix2 a j) = if h1 : j.val < 128 then ∑ k : Fin 256, n (ix2 a k) * w (ix2 k j) else z (ix2 a ⟨j.val - 128, by omega⟩) := by
  pointwise [k0_pay4]
  by_cases h1 : j.val < 128
  · rw [dif_pos h1, dif_pos h1, prod_apply]
  · rw [dif_neg h1, dif_neg h1]

theorem val_apply (n : Vec Ideal S512x256 .bf16) (w : Vec Ideal S256x256 .bf16) (a : Fin 512) (j : Fin 128) :
    k0_pay5 n w (ix2 a j) = ∑ k : Fin 256, n (ix2 a k) * w (ix2 k ⟨128 + j.val, by omega⟩) := by
  pointwise [k0_pay5]
  rw [prod_apply]

/-! ## The windows -/

theorem index0 : ∀ t : Fin grid0.N, win0_0.index t = ![t.val / 16, 4] := by decide +kernel
theorem index1 : ∀ t : Fin grid0.N, win0_1.index t = ![0, 0] := by decide +kernel
theorem index2 : ∀ t : Fin grid0.N, win0_2.index t = ![0, t.val % 16] := by decide +kernel
theorem index3 : ∀ t : Fin grid0.N, win0_3.index t = ![t.val / 16, 10] := by decide +kernel
theorem index4 : ∀ t : Fin grid0.N, win0_4.index t = ![t.val / 16, 0] := by decide +kernel
theorem index5 : ∀ t : Fin grid0.N, win0_5.index t = ![t.val / 16, t.val % 16] := by decide +kernel
theorem index6 : ∀ t : Fin grid0.N, win0_6.index t = ![t.val / 16, t.val % 16] := by decide +kernel

variable (m : (ℓ : Loc nD τ sig) → Buf (Elt Ideal) ℓ)

abbrev mix (c : Dev nD) : Mix := m ((c : Thread nD τ).loc main_arg0)
abbrev gain (c : Dev nD) : Gain := m ((c : Thread nD τ).loc main_arg1)
abbrev wts (c : Dev nD) : Wts := m ((c : Thread nD τ).loc main_arg2)
abbrev turns (c : Dev nD) : Turns := m ((c : Thread nD τ).loc main_arg3)

/-- Row `a` of tile `p`. -/
def rowOf (p : Fin 16) (a : Fin 512) : Fin 8192 := ⟨512 * p.val + a.val, by omega⟩

theorem V_v0 (c : Dev nD) (k : Fin 256) (n : Fin 4096) :
    (V m c main_v0 : Vec Ideal S256x4096 .bf16) (ix2 k n) = wts m c (ix2 k n) := by
  entry_read
  pointwise []

theorem V_v1 (c : Dev nD) (k : Fin 256) : (V m c main_v1 : Vec Ideal S1x256 .f32) (ix2 0 k) = gain m c (ix1 k) := by
  entry_read
  refine shapeCast_apply (gain m c) _ (ix2 0 k) (ix1 k) ?_
  rw [Shape.rowMajor_val_one, Shape.rowMajor_val_two]
  show k.val = 0 * 256 + k.val
  omega

theorem iblk0_apply (c : Dev nD) (t : Fin cfg0.N) (p : Fin 16) (hp : t.val / 16 = p.val) (a : Fin 512) (b : Fin 256) :
    (X0_0 m c t : Vec Ideal S512x256 .f32) (ix2 a b) = col (mix m c) (rowOf p a) b := by
  unfold X0_0 Pipeline.Window.fill
  rw [dif_pos (moved0_0 t _)]
  unfold iblk
  rw [View.read_apply]
  refine Eq.trans (b := V m c main_arg0 (ix2 (rowOf p a) ⟨1024 + b.val, by omega⟩)) ?_ (congrFun (V_main_arg0 m c) _)
  refine congrArg (V m c main_arg0) ?_
  funext x
  apply Fin.ext
  have e := index0 t
  match x with
  | ⟨0, _⟩ => show win0_0.index t 0 * 512 + 1 * a.val = 512 * p.val + a.val; rw [e]; show (t.val / 16) * 512 + 1 * a.val = 512 * p.val + a.val; omega
  | ⟨1, _⟩ => show win0_0.index t 1 * 256 + 1 * b.val = 1024 + b.val; rw [e]; show 4 * 256 + 1 * b.val = 1024 + b.val; omega

theorem iblk1_apply (c : Dev nD) (t : Fin cfg0.N) (b : Fin 256) :
    (iblk m c 1 t : Vec Ideal S1x256 .f32) (ix2 0 b) = gain m c (ix1 b) := by
  rw [iblk, View.read_apply]
  refine Eq.trans (b := V m c main_v1 (ix2 0 b)) ?_ (V_v1 m c _)
  refine congrArg (V m c main_v1) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 256 + 1 * b.val = b.val; rw [e]; show 0 * 256 + 1 * b.val = b.val; omega

theorem iblk2_apply (c : Dev nD) (t : Fin cfg0.N) (q : Fin 16) (hq : t.val % 16 = q.val) (a b : Fin 256) :
    (iblk m c 2 t : Vec Ideal S256x256 .bf16) (ix2 a b) = wts m c (ix2 a ⟨256 * q.val + b.val, by omega⟩) := by
  rw [iblk, View.read_apply]
  refine Eq.trans (b := V m c main_v0 (ix2 a ⟨256 * q.val + b.val, by omega⟩)) ?_ (V_v0 m c _ _)
  refine congrArg (V m c main_v0) ?_
  funext x
  apply Fin.ext
  have e := index2 t
  match x with
  | ⟨0, _⟩ => show win0_2.index t 0 * 256 + 1 * a.val = a.val; rw [e]; show 0 * 256 + 1 * a.val = a.val; omega
  | ⟨1, _⟩ => show win0_2.index t 1 * 256 + 1 * b.val = 256 * q.val + b.val; rw [e]; show (t.val % 16) * 256 + 1 * b.val = 256 * q.val + b.val; omega

theorem iblk3_apply (c : Dev nD) (t : Fin cfg0.N) (p : Fin 16) (hp : t.val / 16 = p.val) (a : Fin 512) (b : Fin 128) :
    (iblk m c 3 t : Vec Ideal S512x128 .f32) (ix2 a b) = mix m c (ix2 (rowOf p a) ⟨1280 + b.val, by omega⟩) := by
  rw [iblk, View.read_apply]
  refine Eq.trans (b := V m c main_arg0 (ix2 (rowOf p a) ⟨1280 + b.val, by omega⟩)) ?_ (congrFun (V_main_arg0 m c) _)
  refine congrArg (V m c main_arg0) ?_
  funext x
  apply Fin.ext
  have e := index3 t
  match x with
  | ⟨0, _⟩ => show win0_3.index t 0 * 512 + 1 * a.val = 512 * p.val + a.val; rw [e]; show (t.val / 16) * 512 + 1 * a.val = 512 * p.val + a.val; omega
  | ⟨1, _⟩ => show win0_3.index t 1 * 128 + 1 * b.val = 1280 + b.val; rw [e]; show 10 * 128 + 1 * b.val = 1280 + b.val; omega

theorem iblk4_apply (c : Dev nD) (t : Fin cfg0.N) (p : Fin 16) (hp : t.val / 16 = p.val) (a : Fin 512) (b : Fin 128) :
    (iblk m c 4 t : Vec Ideal S512x128 .f32) (ix2 a b) = turns m c (ix2 (rowOf p a) b) := by
  rw [iblk, View.read_apply]
  refine Eq.trans (b := V m c main_arg3 (ix2 (rowOf p a) b)) ?_ (congrFun (V_main_arg3 m c) _)
  refine congrArg (V m c main_arg3) ?_
  funext x
  apply Fin.ext
  have e := index4 t
  match x with
  | ⟨0, _⟩ => show win0_4.index t 0 * 512 + 1 * a.val = 512 * p.val + a.val; rw [e]; show (t.val / 16) * 512 + 1 * a.val = 512 * p.val + a.val; omega
  | ⟨1, _⟩ => show win0_4.index t 1 * 128 + 1 * b.val = b.val; rw [e]; show 0 * 128 + 1 * b.val = b.val; omega

/-! ## One point's stores -/

section
variable {F : FTy → Type} [FloatOps F]

theorem off2 : (![0, 0] : Fin 2 → ℕ) = fun _ => 0 := by decide

theorem ld_tile (x : Vec F S512x256 .f32) : View.ld x (Rect.unit (s := S512x256) ![0, 0] ![512, 256] inb_S512x256_S512x256_0_0) = x :=
  View.ld_unit_zero off2 _ x
theorem ld_gain (x : Vec F S1x256 .f32) : View.ld x (Rect.unit (s := S1x256) ![0, 0] ![1, 256] inb_S1x256_S1x256_0_0) = x :=
  View.ld_unit_zero off2 _ x
theorem ld_wts (x : Vec F S256x256 .bf16) : View.ld x (Rect.unit (s := S256x256) ![0, 0] ![256, 256] inb_S256x256_S256x256_0_0) = x :=
  View.ld_unit_zero off2 _ x
theorem ld_turns (x : Vec F S512x128 .f32) : View.ld x (Rect.unit (s := S512x128) ![0, 0] ![512, 128] inb_S512x128_S512x128_0_0) = x :=
  View.ld_unit_zero off2 _ x
theorem ld_rows (x : Vec F S512x256 .bf16) : View.ld x (Rect.unit (s := S512x256) ![0, 0] ![512, 256] inb_S512x256_S512x256_0_0) = x :=
  View.ld_unit_zero off2 _ x
theorem idx_rows (x : Vec F S512x256 .bf16) :
    (fun j => x ((Rect.unit (s := S512x256) ![0, 0] ![512, 256] inb_S512x256_S512x256_0_0).idx j)) = x :=
  View.ld_unit_zero off2 _ x
theorem idx_turns (x : Vec F S512x128 .f32) :
    (fun j => x ((Rect.unit (s := S512x128) ![0, 0] ![512, 128] inb_S512x128_S512x128_0_0).idx j)) = x :=
  View.ld_unit_zero off2 _ x
theorem canon_rows (x : Vec F S512x256 .bf16) :
    (View.canon [⟨Rect.unit (s := S512x256) ![0, 0] ![512, 256] inb_S512x256_S512x256_0_0, x⟩] : Vec F S512x256 .bf16) = x :=
  View.canon_unit_zero off2 _ x
theorem canon_turns (x : Vec F S512x128 .f32) :
    (View.canon [⟨Rect.unit (s := S512x128) ![0, 0] ![512, 128] inb_S512x128_S512x128_0_0, x⟩] : Vec F S512x128 .f32) = x :=
  View.canon_unit_zero off2 _ x

variable (c : Dev nD) (i : grid0.Coords) (arg2 : Memref sig .tc .vmem S512x256 .f32) (harg2 : arg2.IsWhole) (arg3 : Memref sig .tc .vmem S1x256 .f32) (harg3 : arg3.IsWhole)
  (arg4 : Memref sig .tc .vmem S256x256 .bf16) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x256 .bf16) (harg7 : arg7.IsWhole)
  (arg8 : Memref sig .tc .vmem S512x128 .bf16) (harg8 : arg8.IsWhole) (arg9 : Memref sig .tc .vmem S512x256 .bf16) (harg9 : arg9.IsWhole)
  (arg10 : Memref sig .tc .vmem S512x128 .f32) (harg10 : arg10.IsWhole)
  (x0 : Vec F S512x256 .f32) (x1 : Vec F S1x256 .f32) (x2 : Vec F S256x256 .bf16) (x3 x4 : Vec F S512x128 .f32)
  (xs : Vec F S512x256 .bf16) (ys : Vec F S512x128 .f32)

theorem rows_A (h : cond0_0 i) : sout0_A_0 c i arg2 harg2 arg3 harg3 arg4 harg4 arg5 harg5 arg6 harg6 arg7 harg7 arg8 harg8 arg9 harg9 arg10 harg10 h x0 x1 x2 x3 x4 = k0_pay1 x0 x1 := by
  unfold sout0_A_0
  rw [View.read_writes_junk_eq_canon]
  unfold kernelRun0_A
  dsimp only
  sl_unfold_words
  simp only [View.readAt_eq_ld, harg2.read_unread, harg3.read_unread, ld_tile, ld_gain, canon_rows]

theorem turn_A (h : cond0_0 i) : sout0_A_1 c i arg2 harg2 arg3 harg3 arg4 harg4 arg5 harg5 arg6 harg6 arg7 harg7 arg8 harg8 arg9 harg9 arg10 harg10 h x0 x1 x2 x3 x4 = k0_pay2 x3 x4 := by
  unfold sout0_A_1
  rw [View.read_writes_junk_eq_canon]
  unfold kernelRun0_A
  dsimp only
  sl_unfold_words
  simp only [View.readAt_eq_ld, harg5.read_unread, harg6.read_unread, ld_turns, canon_turns]

theorem key_A (h : cond0_0 i) : out0_A_5 c i arg2 harg2 arg3 harg3 arg4 harg4 arg5 harg5 arg6 harg6 arg7 harg7 arg8 harg8 arg9 harg9 arg10 harg10 h x0 x1 x2 x3 x4 = k0_pay4 (k0_pay1 x0 x1) x2 (k0_pay2 x3 x4) := by
  unfold out0_A_5
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread, harg5.read_unread,
    harg6.read_unread, ld_tile, ld_gain, ld_wts, ld_turns, canon_rows, canon_turns, idx_rows, idx_turns]

theorem val_A (h : cond0_0 i) : out0_A_6 c i arg2 harg2 arg3 harg3 arg4 harg4 arg5 harg5 arg6 harg6 arg7 harg7 arg8 harg8 arg9 harg9 arg10 harg10 h x0 x1 x2 x3 x4 = k0_pay5 (k0_pay1 x0 x1) x2 := by
  unfold out0_A_6
  rw [View.read_writes_junk_eq_canon]
  unfold kernelRun0_A
  dsimp only
  sl_unfold_words
  rw [View.canon_unit_zero off2]
  simp only [View.readCov_eq_canon', View.readAt_eq_ld, harg2.read_unread, harg3.read_unread, harg4.read_unread,
    ld_tile, ld_gain, ld_wts, canon_rows, idx_rows]

theorem rows_B (h : ¬cond0_0 i) : sout0_B_0 c i arg2 harg2 arg3 harg3 arg4 harg4 arg5 harg5 arg6 harg6 arg7 harg7 arg8 harg8 arg9 harg9 arg10 harg10 h x0 x1 x2 x3 x4 xs ys = xs := rfl
theorem turn_B (h : ¬cond0_0 i) : sout0_B_1 c i arg2 harg2 arg3 harg3 arg4 harg4 arg5 harg5 arg6 harg6 arg7 harg7 arg8 harg8 arg9 harg9 arg10 harg10 h x0 x1 x2 x3 x4 xs ys = ys := rfl

theorem key_B (h : ¬cond0_0 i) : out0_B_5 c i arg2 harg2 arg3 harg3 arg4 harg4 arg5 harg5 arg6 harg6 arg7 harg7 arg8 harg8 arg9 harg9 arg10 harg10 h x0 x1 x2 x3 x4 xs ys = k0_pay4 xs x2 ys := by
  unfold out0_B_5
  rw [View.read_writes_junk_eq_canon]
  unfold kernelRun0_B
  dsimp only
  sl_unfold_words
  rw [View.canon_unit_zero off2]
  simp only [View.readCov_eq_canon', View.readAt_eq_ld, harg4.read_unread, harg9.read_unread, harg10.read_unread, ld_wts, ld_turns, ld_rows]

theorem val_B (h : ¬cond0_0 i) : out0_B_6 c i arg2 harg2 arg3 harg3 arg4 harg4 arg5 harg5 arg6 harg6 arg7 harg7 arg8 harg8 arg9 harg9 arg10 harg10 h x0 x1 x2 x3 x4 xs ys = k0_pay5 xs x2 := by
  unfold out0_B_6
  rw [View.read_writes_junk_eq_canon]
  unfold kernelRun0_B
  dsimp only
  sl_unfold_words
  rw [View.canon_unit_zero off2]
  simp only [View.readCov_eq_canon', View.readAt_eq_ld, harg4.read_unread, harg9.read_unread, ld_wts, ld_rows]

end

/-! ## The launch -/

/-- What is carried: tile `p`'s normalised rows and its turned key. -/
structure Tile (c : Dev nD) (p : Fin 16) (n : Vec Ideal S512x256 .bf16) (z : Vec Ideal S512x128 .f32) : Prop where
  rows : ∀ (a : Fin 512) (k : Fin 256), n (ix2 a k) = normed (mix m c) (gain m c) (rowOf p a) k
  turn : ∀ (a : Fin 512) (j : Fin 128), z (ix2 a j) = if h : j.val < 64 then turned (mix m c) (turns m c) (rowOf p a) ⟨j.val, h⟩ else 0

theorem tile_point (c : Dev nD) (t : Fin cfg0.N) (p : Fin 16) (hp : t.val / 16 = p.val) :
    Tile m c p (k0_pay1 (X0_0 m c t) (iblk m c 1 t)) (k0_pay2 (iblk m c 3 t) (iblk m c 4 t)) where
  rows a k := by
    refine (norm_apply (X0_0 m c t) (iblk m c 1 t) a k).trans ?_
    rw [iblk1_apply m c t k, normed]
    simp only [iblk0_apply m c t p hp]
  turn a j := by
    refine (turn_apply (iblk m c 3 t) (iblk m c 4 t) a j).trans ?_
    by_cases h : j.val < 64
    · rw [dif_pos h, dif_pos h, iblk3_apply m c t p hp, iblk3_apply m c t p hp, iblk4_apply m c t p hp, iblk4_apply m c t p hp, turned]
      have e : (⟨1280 + (64 + j.val), by omega⟩ : Fin 1408) = ⟨1344 + j.val, by omega⟩ := Fin.ext (by
        show 1280 + (64 + j.val) = 1344 + j.val; omega)
      rw [← e]
    · rw [dif_neg h, dif_neg h]

theorem carried (c : Dev nD) (p : Fin 16) : ∀ (n : ℕ) (hn : n < cfg0.N), n / 16 = p.val →
    Tile m c p (outsAt0 m c n hn).2.2.1 (outsAt0 m c n hn).2.2.2
  | 0, hn, hp => by
    have e : (outsAt0 m c 0 hn).2.2 = (k0_pay1 (X0_0 m c ⟨0, hn⟩) (iblk m c 1 ⟨0, hn⟩), k0_pay2 (iblk m c 3 ⟨0, hn⟩) (iblk m c 4 ⟨0, hn⟩)) := by
      rw [outsAt0_A m c ⟨0, hn⟩ rfl]
      dsimp only
      rw [rows_A, turn_A]
    rw [e]
    exact tile_point m c ⟨0, hn⟩ p hp
  | n + 1, hn, hp => by
    by_cases h0 : (n + 1) % 16 = 0
    · have e : (outsAt0 m c (n + 1) hn).2.2
          = (k0_pay1 (X0_0 m c ⟨n + 1, hn⟩) (iblk m c 1 ⟨n + 1, hn⟩), k0_pay2 (iblk m c 3 ⟨n + 1, hn⟩) (iblk m c 4 ⟨n + 1, hn⟩)) := by
        rw [outsAt0_A m c ⟨n + 1, hn⟩ h0]
        dsimp only
        rw [rows_A, turn_A]
      rw [e]
      exact tile_point m c ⟨n + 1, hn⟩ p hp
    · have e : (outsAt0 m c (n + 1) hn).2.2 = (outsAt0 m c n (Nat.lt_of_succ_lt hn)).2.2 := by
        rw [outsAt0_B m c ⟨n + 1, hn⟩ h0]
        rfl
      rw [e]
      exact carried c p n (Nat.lt_of_succ_lt hn) (by omega)

/-- A point's block of keys is made of what it then carries. -/
theorem key_out (c : Dev nD) (t : Fin cfg0.N) : (outsAt0 m c t.val t.isLt).1
    = k0_pay4 (outsAt0 m c t.val t.isLt).2.2.1 (iblk m c 2 t) (outsAt0 m c t.val t.isLt).2.2.2 := by
  by_cases h0 : t.val % 16 = 0
  · rw [outsAt0_A m c t h0]
    dsimp only
    rw [rows_A, turn_A, key_A]
  · rw [outsAt0_B m c t h0]
    dsimp only
    rw [rows_B, turn_B, key_B]

/-- And so is its block of values. -/
theorem val_out (c : Dev nD) (t : Fin cfg0.N) : (outsAt0 m c t.val t.isLt).2.1
    = k0_pay5 (outsAt0 m c t.val t.isLt).2.2.1 (iblk m c 2 t) := by
  by_cases h0 : t.val % 16 = 0
  · rw [outsAt0_A m c t h0]
    dsimp only
    rw [rows_A, val_A]
  · rw [outsAt0_B m c t h0]
    dsimp only
    rw [rows_B, val_B]

theorem column (c : Dev nD) (t : Fin cfg0.N) (p : Fin 16) (hp : t.val / 16 = p.val) (q : Fin 16) (hq : t.val % 16 = q.val)
    (a : Fin 512) (j : Fin 256) :
    ∑ k : Fin 256, ((outsAt0 m c t.val t.isLt).2.2.1 : Vec Ideal S512x256 .bf16) (ix2 a k) * (iblk m c 2 t : Vec Ideal S256x256 .bf16) (ix2 k j)
      = prod (mix m c) (gain m c) (wts m c) (rowOf p a) q j :=
  Finset.sum_congr rfl fun k _ => by rw [(carried m c p t.val t.isLt hp).rows a k, iblk2_apply m c t q hq k j]

theorem key_point (c : Dev nD) (t : Fin cfg0.N) (p : Fin 16) (hp : t.val / 16 = p.val) (q : Fin 16) (hq : t.val % 16 = q.val)
    (a : Fin 512) (j : Fin 256) :
    (outsAt0 m c t.val t.isLt).1 (ix2 a j) = keyAt (mix m c) (gain m c) (wts m c) (turns m c) (rowOf p a) q j := by
  rw [key_out]
  refine (key_apply _ (iblk m c 2 t) _ a j).trans ?_
  unfold keyAt
  by_cases h1 : j.val < 128
  · rw [dif_pos h1, dif_pos h1, column m c t p hp q hq]
  · rw [dif_neg h1, dif_neg h1, (carried m c p t.val t.isLt hp).turn]

theorem val_point (c : Dev nD) (t : Fin cfg0.N) (p : Fin 16) (hp : t.val / 16 = p.val) (q : Fin 16) (hq : t.val % 16 = q.val)
    (a : Fin 512) (j : Fin 128) :
    (outsAt0 m c t.val t.isLt).2.1 (ix2 a j) = valAt (mix m c) (gain m c) (wts m c) (rowOf p a) q j := by
  rw [val_out]
  refine (val_apply _ (iblk m c 2 t) a j).trans ?_
  rw [column m c t p hp q hq]
  rfl

/-- What the arrays hold. -/
def wholeK (c : Dev nD) : (⟨2, ![8192, 4096]⟩ : Shape).Idx → EReal := keys (mix m c) (gain m c) (wts m c) (turns m c)
def wholeV (c : Dev nD) : (⟨2, ![8192, 2048]⟩ : Shape).Idx → EReal := vals (mix m c) (gain m c) (wts m c)

theorem flushedK (c : Dev nD) (t : Fin cfg0.N) (hf : (cfg0.win 5).flush t = true) :
    (dats m 0 c).flushed 5 t = ((cfg0.win 5).blk t).view.read (Elt Ideal) (wholeK m c) := by
  rw [Value.flushed5]
  have hN : t.val < 256 := lt_of_lt_of_eq t.isLt (show cfg0.N = 256 from N_0)
  obtain ⟨p, hp⟩ : ∃ p : Fin 16, t.val / 16 = p.val := ⟨⟨t.val / 16, by omega⟩, rfl⟩
  obtain ⟨q, hq⟩ : ∃ q : Fin 16, t.val % 16 = q.val := ⟨⟨t.val % 16, by omega⟩, rfl⟩
  show (fun j : S512x256.Idx => _) = _
  funext j
  obtain ⟨a, b, rfl⟩ : ∃ (a : Fin 512) (b : Fin 256), j = ix2 a b := ⟨j 0, j 1, eq_ix2 j⟩
  rw [View.read_apply]
  refine (key_point m c t p hp q hq a b).trans ?_
  have e := index5 t
  have ij : ((cfg0.win 5).blk t).view.emb (ix2 a b) = ix2 (rowOf p a) ⟨256 * q.val + b.val, by omega⟩ := by
    funext x
    apply Fin.ext
    match x with
    | ⟨0, _⟩ => show win0_5.index t 0 * 512 + 1 * a.val = 512 * p.val + a.val; rw [e]; show t.val / 16 * 512 + 1 * a.val = 512 * p.val + a.val; omega
    | ⟨1, _⟩ => show win0_5.index t 1 * 256 + 1 * b.val = 256 * q.val + b.val; rw [e]; show t.val % 16 * 256 + 1 * b.val = 256 * q.val + b.val; omega
  rw [ij, wholeK, keys_ix2 _ _ _ _ _ q b _ rfl]
  rfl

theorem finalK (c : Dev nD) : (dats m 0 c).arrAt 5 cfg0.N = wholeK m c :=
  (dats m 0 c).arrAt_eq_of_cover 5 (wholeK m c) (flushedK m c) fun i => by
    have h0 : (i 0 : Nat) < 8192 := (i 0).isLt
    have h1 : (i 1 : Nat) < 4096 := (i 1).isLt
    have ht := index5 ⟨16 * (i 0 / 512) + i 1 / 256, by rw [N_0]; omega⟩
    generalize hs : (⟨16 * (i 0 / 512) + i 1 / 256, by rw [N_0]; omega⟩ : Fin grid0.N) = t at ht
    have hv : t.val = 16 * (i 0 / 512) + i 1 / 256 := by rw [← hs]
    refine ⟨t, flush0_5 t, ?_⟩
    show i ∈ ((View.whole main_v2_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [ht]; show t.val / 16 * 512 ≤ (i 0 : Nat) ∧ (i 0 : Nat) < t.val / 16 * 512 + 512; omega
    | ⟨1, _⟩ => show win0_5.index t 1 * 256 ≤ (i 1 : Nat) ∧ (i 1 : Nat) < win0_5.index t 1 * 256 + 256
                rw [ht]; show t.val % 16 * 256 ≤ (i 1 : Nat) ∧ (i 1 : Nat) < t.val % 16 * 256 + 256; omega

theorem flushedV (c : Dev nD) (t : Fin cfg0.N) (hf : (cfg0.win 6).flush t = true) :
    (dats m 0 c).flushed 6 t = ((cfg0.win 6).blk t).view.read (Elt Ideal) (wholeV m c) := by
  rw [Value.flushed6]
  have hN : t.val < 256 := lt_of_lt_of_eq t.isLt (show cfg0.N = 256 from N_0)
  obtain ⟨p, hp⟩ : ∃ p : Fin 16, t.val / 16 = p.val := ⟨⟨t.val / 16, by omega⟩, rfl⟩
  obtain ⟨q, hq⟩ : ∃ q : Fin 16, t.val % 16 = q.val := ⟨⟨t.val % 16, by omega⟩, rfl⟩
  show (fun j : S512x128.Idx => _) = _
  funext j
  obtain ⟨a, b, rfl⟩ : ∃ (a : Fin 512) (b : Fin 128), j = ix2 a b := ⟨j 0, j 1, eq_ix2 j⟩
  rw [View.read_apply]
  refine (val_point m c t p hp q hq a b).trans ?_
  have e := index6 t
  have ij : ((cfg0.win 6).blk t).view.emb (ix2 a b) = ix2 (rowOf p a) ⟨128 * q.val + b.val, by omega⟩ := by
    funext x
    apply Fin.ext
    match x with
    | ⟨0, _⟩ => show win0_6.index t 0 * 512 + 1 * a.val = 512 * p.val + a.val; rw [e]; show t.val / 16 * 512 + 1 * a.val = 512 * p.val + a.val; omega
    | ⟨1, _⟩ => show win0_6.index t 1 * 128 + 1 * b.val = 128 * q.val + b.val; rw [e]; show t.val % 16 * 128 + 1 * b.val = 128 * q.val + b.val; omega
  rw [ij, wholeV, vals_ix2 _ _ _ _ q b _ rfl]
  rfl

theorem finalV (c : Dev nD) : (dats m 0 c).arrAt 6 cfg0.N = wholeV m c :=
  (dats m 0 c).arrAt_eq_of_cover 6 (wholeV m c) (flushedV m c) fun i => by
    have h0 : (i 0 : Nat) < 8192 := (i 0).isLt
    have h1 : (i 1 : Nat) < 2048 := (i 1).isLt
    have ht := index6 ⟨16 * (i 0 / 512) + i 1 / 128, by rw [N_0]; omega⟩
    generalize hs : (⟨16 * (i 0 / 512) + i 1 / 128, by rw [N_0]; omega⟩ : Fin grid0.N) = t at ht
    have hv : t.val = 16 * (i 0 / 512) + i 1 / 128 := by rw [← hs]
    refine ⟨t, flush0_6 t, ?_⟩
    show i ∈ ((View.whole main_v2_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [ht]; show t.val / 16 * 512 ≤ (i 0 : Nat) ∧ (i 0 : Nat) < t.val / 16 * 512 + 512; omega
    | ⟨1, _⟩ => show win0_6.index t 1 * 128 ≤ (i 1 : Nat) ∧ (i 1 : Nat) < win0_6.index t 1 * 128 + 128
                rw [ht]; show t.val % 16 * 128 ≤ (i 1 : Nat) ∧ (i 1 : Nat) < t.val % 16 * 128 + 128; omega

end Cert.PairIdeal.Array
-- ==== Proof.PairRef.lean ====
/- The reference of the launch that makes the latent attention's keys and values, entry by entry. -/
module

public import proofs.«01_k».proof.Proof.Gen.PairRefIdeal.Run
public import proofs.«01_k».proof.Proof.PairMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt

@[expose] public section

set_option maxRecDepth 16384

noncomputable section

namespace Cert.PairRefIdeal.Ref

open Cert.PairRefIdeal Cert.PairRefIdeal.Gen Cert.Proof.Pair Idealize.ShloMosaic

/-- The columns after the queries'. -/
def rest (x : FVec Ideal S8192x1408 .f32) : FVec Ideal S8192x384 .f32 :=
  extractStridedSlice S8192x384 ![0, 1024] x slices_S8192x1408_S8192x384_0_1024

/-- The columns keys and values are made from. -/
def cut (x : FVec Ideal S8192x1408 .f32) : FVec Ideal S8192x256 .f32 :=
  extractStridedSlice S8192x256 ![0, 0] (rest x) slices_S8192x384_S8192x256_0_0

theorem cut_apply (x : FVec Ideal S8192x1408 .f32) (r : Fin 8192) (k : Fin 256) : cut x (ix2 r k) = col x r k := by
  pointwise [cut, rest, col]

/-- They are normalised. -/
def hidden (y : FVec Ideal S8192x256 .f32) (g : FVec Ideal S256 .f32) : FVec Ideal S8192x256 .f32 :=
  mulf (mulf y (broadcastInDim S8192x256 ![0, 1] bcast_S8192x1_S8192x256_0_1
      (Host.rsqrt (addf (Host.divf (broadcastInDim S8192x1 ![0] bcast_S8192_S8192x1_0
          (Host.reduceAdd (mulf y y) (constant S_ .f32 0x00000000#32) reducesTo_S8192x256_S8192_d1 h_S_))
        (broadcastInDim S8192x1 ![] bcast_S_S8192x1 (constant S_ .f32 0x43800000#32)))
        (broadcastInDim S8192x1 ![] bcast_S_S8192x1 (constant S_ .f32 0x358637BD#32))))))
    (broadcastInDim S8192x256 ![0, 1] bcast_S1x256_S8192x256_0_1 (broadcastInDim S1x256 ![1] bcast_S256_S1x256_1 g))

theorem hidden_apply (x : FVec Ideal S8192x1408 .f32) (g : FVec Ideal S256 .f32) (r : Fin 8192) (k : Fin 256) :
    hidden (cut x) g (ix2 r k) = normed x g r k := by
  pointwise [hidden, normed, factor]
  simp only [cut_apply]

/-- The heads, keys and values beside one another. -/
def heads (x : FVec Ideal S8192x1408 .f32) (g : FVec Ideal S256 .f32) (w : FVec Ideal S256x4096 .f32) : FVec Ideal S8192x16x256 .f32 :=
  shapeCast _ (Host.dotGeneral dot_S8192x256_S256x4096_S8192x4096_1_0_0_1_n_n none (hidden (cut x) g) w) shapeCasts_S8192x4096_S8192x16x256

theorem heads_apply (x : FVec Ideal S8192x1408 .f32) (g : FVec Ideal S256 .f32) (w : FVec Ideal S256x4096 .f32) (r : Fin 8192)
    (h : Fin 16) (j : Fin 256) : heads x g w (ix3 r h j) = prod x g w r h j := by
  refine (shapeCast_apply _ _ (ix3 r h j) (ix2 r ⟨256 * h.val + j.val, by omega⟩) ?_).trans ?_
  · rw [Shape.rowMajor_val_three, Shape.rowMajor_val_two]
    show r.val * 4096 + (256 * h.val + j.val) = (r.val * 16 + h.val) * 256 + j.val
    omega
  pointwise []
  simp only [hidden_apply]
  rfl

/-- The turned columns of the shared key. -/
def spun (x : FVec Ideal S8192x1408 .f32) (t : FVec Ideal S8192x128 .f32) : FVec Ideal S8192x64 .f32 :=
  addf (mulf (extractStridedSlice S8192x64 ![0, 256] (rest x) slices_S8192x384_S8192x64_0_256)
      (extractStridedSlice S8192x64 ![0, 0] t slices_S8192x128_S8192x64_0_0))
    (mulf (extractStridedSlice S8192x64 ![0, 320] (rest x) slices_S8192x384_S8192x64_0_320)
      (extractStridedSlice S8192x64 ![0, 64] t slices_S8192x128_S8192x64_0_64))

theorem spun_apply (x : FVec Ideal S8192x1408 .f32) (t : FVec Ideal S8192x128 .f32) (r : Fin 8192) (j : Fin 64) :
    spun x t (ix2 r j) = turned x t r j := by
  pointwise [spun, rest, turned]
  have e1 : (⟨1024 + (256 + j.val), by omega⟩ : Fin 1408) = ⟨1280 + j.val, by omega⟩ := Fin.ext (by
    show 1024 + (256 + j.val) = 1280 + j.val; omega)
  have e2 : (⟨1024 + (320 + j.val), by omega⟩ : Fin 1408) = ⟨1344 + j.val, by omega⟩ := Fin.ext (by
    show 1024 + (320 + j.val) = 1344 + j.val; omega)
  simp only [e1, e2]

/-- It is put to every head. -/
def shared (y : FVec Ideal S8192x64 .f32) : FVec Ideal S8192x16x64 .f32 :=
  broadcastInDim S8192x16x64 ![0, 1, 2] bcast_S8192x1x64_S8192x16x64_0_1_2 (broadcastInDim S8192x1x64 ![0, 2] bcast_S8192x64_S8192x1x64_0_2 y)

theorem shared_apply (y : FVec Ideal S8192x64 .f32) (r : Fin 8192) (h : Fin 16) (j : Fin 64) : shared y (ix3 r h j) = y (ix2 r j) := by
  pointwise [shared]

/-- A head's 256 columns of keys. -/
def wide (q : FVec Ideal S8192x16x256 .f32) (z : FVec Ideal S8192x16x64 .f32) : FVec Ideal S8192x16x256 .f32 :=
  concatenate S8192x16x256 2 [⟨S8192x16x128, extractStridedSlice S8192x16x128 ![0, 0, 0] q slices_S8192x16x256_S8192x16x128_0_0_0⟩,
    ⟨S8192x16x64, z⟩, ⟨S8192x16x64, broadcastInDim S8192x16x64 ![] bcast_S_S8192x16x64 (constant S_ .f32 0x00000000#32)⟩]
    concatenates_S8192x16x128_S8192x16x64_S8192x16x64_S8192x16x256_d2

theorem wide_apply (x : FVec Ideal S8192x1408 .f32) (g : FVec Ideal S256 .f32) (w : FVec Ideal S256x4096 .f32) (t : FVec Ideal S8192x128 .f32)
    (r : Fin 8192) (h : Fin 16) (j : Fin 256) : wide (heads x g w) (shared (spun x t)) (ix3 r h j) = keyAt x g w t r h j := by
  pointwise [wide]
  unfold keyAt
  by_cases h1 : j.val < 128
  · rw [dif_pos h1, dif_pos h1, heads_apply]
  rw [dif_neg h1, dif_neg h1]
  by_cases h2 : j.val - 128 < 64
  · rw [dif_pos h2, dif_pos (by omega), shared_apply, spun_apply]
  · rw [dif_neg h2, dif_neg (by omega)]

/-- The reference's keys. -/
theorem keys_eq (x : FVec Ideal S8192x1408 .f32) (g : FVec Ideal S256 .f32) (w : FVec Ideal S256x4096 .f32) (t : FVec Ideal S8192x128 .f32) :
    truncf .bf16 (shapeCast S8192x4096 (wide (heads x g w) (shared (spun x t))) shapeCasts_S8192x16x256_S8192x4096) bitsLt_bf16_f32
      = keys x g w t := by
  funext i
  obtain ⟨r, n, rfl⟩ : ∃ (r : Fin 8192) (n : Fin 4096), i = ix2 r n := ⟨i 0, i 1, eq_ix2 i⟩
  have hn : n.val = 256 * (n.val / 256) + n.val % 256 := by omega
  rw [keys_ix2 x g w t r ⟨n.val / 256, by omega⟩ ⟨n.val % 256, by omega⟩ n hn]
  refine (shapeCast_apply _ _ (ix2 r n) (ix3 r ⟨n.val / 256, by omega⟩ ⟨n.val % 256, by omega⟩) ?_).trans (wide_apply x g w t r _ _)
  rw [Shape.rowMajor_val_three, Shape.rowMajor_val_two]
  show (r.val * 16 + n.val / 256) * 256 + n.val % 256 = r.val * 4096 + n.val
  omega

/-- A head's values. -/
def right (q : FVec Ideal S8192x16x256 .f32) : FVec Ideal S8192x16x128 .f32 :=
  extractStridedSlice S8192x16x128 ![0, 0, 128] q slices_S8192x16x256_S8192x16x128_0_0_128

theorem right_apply (x : FVec Ideal S8192x1408 .f32) (g : FVec Ideal S256 .f32) (w : FVec Ideal S256x4096 .f32)
    (r : Fin 8192) (h : Fin 16) (j : Fin 128) : right (heads x g w) (ix3 r h j) = valAt x g w r h j := by
  pointwise [right]
  rw [heads_apply]
  rfl

/-- The reference's values. -/
theorem vals_eq (x : FVec Ideal S8192x1408 .f32) (g : FVec Ideal S256 .f32) (w : FVec Ideal S256x4096 .f32) :
    truncf .bf16 (shapeCast S8192x2048 (right (heads x g w)) shapeCasts_S8192x16x128_S8192x2048) bitsLt_bf16_f32 = vals x g w := by
  funext i
  obtain ⟨r, n, rfl⟩ : ∃ (r : Fin 8192) (n : Fin 2048), i = ix2 r n := ⟨i 0, i 1, eq_ix2 i⟩
  have hn : n.val = 128 * (n.val / 128) + n.val % 128 := by omega
  rw [vals_ix2 x g w r ⟨n.val / 128, by omega⟩ ⟨n.val % 128, by omega⟩ n hn]
  refine (shapeCast_apply _ _ (ix2 r n) (ix3 r ⟨n.val / 128, by omega⟩ ⟨n.val % 128, by omega⟩) ?_).trans (right_apply x g w r _ _)
  rw [Shape.rowMajor_val_three, Shape.rowMajor_val_two]
  show (r.val * 16 + n.val / 128) * 128 + n.val % 128 = r.val * 2048 + n.val
  omega

end Cert.PairRefIdeal.Ref
-- ==== Proof.RopeValue.lean ====
/- The launch that makes the table of the rotation's cosines and sines, and its reference. -/
module

public import proofs.«01_k».proof.Proof.Gen.RopeIdeal.Value
public import proofs.«01_k».proof.Proof.Gen.RopeRefIdeal.Run
public import proofs.«01_k».proof.Proof.UpMath
public import Idealize.ShloMosaic.Lib.Pipeline.Value
public import Idealize.ShloMosaic.Lib.Claim
public import Idealize.ShloMosaic.Lib.Pointwise
public import Idealize.ShloMosaic.Lib.VecWindow
public import Idealize.ShloMosaic.Lib.StableHlo.ReadAt
public import Idealize.ShloMosaic.Lib.WordCmp

@[expose] public section

set_option maxRecDepth 16384

noncomputable section

namespace Cert.Proof.Rope

open Idealize.ShloMosaic Cert.Proof.Up

/-- The angle of position `p` at the frequency `f`. -/
def angle (p : BitVec 32) (f : EReal) : EReal := ((p.toInt : ℝ) : EReal) * f

/-- Lane `l` of a row of the table: two copies of the cosines, the sines negated, the sines. -/
def lane (p : BitVec 32) (f : EReal) (l : Fin 128) : EReal :=
  if l.val < 64 then Ideal.cos (angle p f) else if l.val < 96 then -Ideal.sin (angle p f) else Ideal.sin (angle p f)

/-- The lane's frequency. -/
def fr (l : Fin 128) : Fin 32 := ⟨l.val % 32, Nat.mod_lt _ (by omega)⟩

end Cert.Proof.Rope

namespace Cert.RopeIdeal.Array

open Cert.RopeIdeal Cert.RopeIdeal.Gen Cert.Proof.Up Cert.Proof.Rope
open Idealize.ShloMosaic Idealize.ShloMosaic.TcCoe Idealize.SL.Sem

/-! ## One point -/

section
variable {F : FTy → Type} [FloatOps F]

theorem off2 : (![0, 0] : Fin 2 → ℕ) = fun _ => 0 := by decide

theorem ld_pos (x : Vec F S1024x1 .i32) : View.ld x (Rect.unit (s := S1024x1) ![0, 0] ![1024, 1] inb_S1024x1_S1024x1_0_0) = x :=
  View.ld_unit_zero off2 _ x
theorem ld_freq (x : Vec F S1x128 .f32) : View.ld x (Rect.unit (s := S1x128) ![0, 0] ![1, 128] inb_S1x128_S1x128_0_0) = x :=
  View.ld_unit_zero off2 _ x
theorem out_eq (x0 : Vec F S1024x1 .i32) (x1 : Vec F S1x128 .f32) : out0_2 x0 x1 = k0_pay1 x0 x1 := by
  unfold out0_2
  rw [View.canon_unit_zero off2]
  exact congrArg₂ k0_pay1 (ld_pos x0) (ld_freq x1)

end

theorem lane_apply (x0 : Vec Ideal S1024x1 .i32) (x1 : Vec Ideal S1x128 .f32) (a : Fin 1024) (l : Fin 128) :
    k0_pay1 x0 x1 (ix2 a l) = lane (x0 (ix2 a 0)) (x1 (ix2 0 l)) l := by
  pointwise [k0_pay1]
  have h64 : IntOp.cmpi .slt (BitVec.ofNat 32 l.val) 64#32 = BitVec.ofBool (decide (l.val < 64)) :=
    WordCmp.cmpi_slt_ofNat (b := 64) (by omega) (by omega)
  have h96 : IntOp.cmpi .slt (BitVec.ofNat 32 l.val) 96#32 = BitVec.ofBool (decide (l.val < 96)) :=
    WordCmp.cmpi_slt_ofNat (b := 96) (by omega) (by omega)
  rw [h64, h96, WordCmp.select_ofBool, WordCmp.select_ofBool]
  simp only [lane, angle, decide_eq_true_eq]
  by_cases h : l.val < 64
  · rw [if_pos h, if_pos h]
    rfl
  · rw [if_neg h, if_neg h]
    by_cases h' : l.val < 96
    · rw [if_pos h', if_pos h']
      simp only [zero_sub]
      rfl
    · rw [if_neg h', if_neg h']
      rfl

/-! ## The windows -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

variable (m : (ℓ : Loc nD τ sig) → Buf (Elt Ideal) ℓ)

abbrev pos (c : Dev nD) : (⟨2, ![2, 4096]⟩ : Shape).Idx → BitVec 32 := m ((c : Thread nD τ).loc main_arg0)

/-- The frequencies, as both sides compute them. -/
def freq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- Row `a` of tile `p`. -/
def rowOf (p : Fin 8) (a : Fin 1024) : Fin 8192 := ⟨1024 * p.val + a.val, by omega⟩

/-- The position of a row. -/
def posAt (x : (⟨2, ![2, 4096]⟩ : Shape).Idx → BitVec 32) (r : Fin 8192) : BitVec 32 :=
  x (ix2 (⟨r.val / 4096, by omega⟩ : Fin 2) (⟨r.val % 4096, Nat.mod_lt _ (by omega)⟩ : Fin 4096))

theorem V_v0 (c : Dev nD) (r : Fin 8192) : (V m c main_v0 : Vec Ideal S8192x1 .i32) (ix2 r 0) = posAt (pos m c) r := by
  entry_read
  refine shapeCast_apply (pos m c) _ (ix2 r 0) (ix2 (⟨r.val / 4096, by omega⟩ : Fin 2) (⟨r.val % 4096, Nat.mod_lt _ (by omega)⟩ : Fin 4096)) ?_
  rw [Shape.rowMajor_val_two, Shape.rowMajor_val_two]
  show r.val / 4096 * 4096 + r.val % 4096 = r.val * 1 + 0
  omega

theorem V_v10 (c : Dev nD) (l : Fin 128) : (V m c main_v10 : Vec Ideal S1x128 .f32) (ix2 0 l) = freq (ix1 (fr l)) := by
  entry_read
  show shapeCast S1x128 (shapeCast S128 (broadcastInDim S4x32 ![0, 1] bcast_S1x32_S4x32_0_1 (shapeCast S1x32 freq shapeCasts_S32_S1x32)) shapeCasts_S4x32_S128)
    shapeCasts_S128_S1x128 (ix2 0 l) = _
  refine (shapeCast_apply _ _ (ix2 0 l) (ix1 l) (by
    rw [Shape.rowMajor_val_one, Shape.rowMajor_val_two]; show l.val = 0 * 128 + l.val; omega)).trans ?_
  refine (shapeCast_apply _ _ (ix1 l) (ix2 (⟨l.val / 32, by omega⟩ : Fin 4) (fr l)) (by
    rw [Shape.rowMajor_val_one, Shape.rowMajor_val_two]; show l.val / 32 * 32 + l.val % 32 = l.val; omega)).trans ?_
  pointwise []

theorem iblk0_apply (c : Dev nD) (t : Fin cfg0.N) (p : Fin 8) (hp : t.val = p.val) (a : Fin 1024) :
    (iblk m c 0 t : Vec Ideal S1024x1 .i32) (ix2 a 0) = posAt (pos m c) (rowOf p a) := by
  rw [iblk, View.read_apply]
  refine Eq.trans (b := V m c main_v0 (ix2 (rowOf p a) 0)) ?_ (V_v0 m c _)
  refine congrArg (V m c main_v0) ?_
  funext x
  apply Fin.ext
  have e := index0 t
  match x with
  | ⟨0, _⟩ => show win0_0.index t 0 * 1024 + 1 * a.val = 1024 * p.val + a.val; rw [e]; show (t.val) * 1024 + 1 * a.val = 1024 * p.val + a.val; omega
  | ⟨1, _⟩ => show win0_0.index t 1 * 1 + 1 * 0 = 0; rw [e]; show 0 * 1 + 1 * 0 = 0; omega

theorem iblk1_apply (c : Dev nD) (t : Fin cfg0.N) (b : Fin 128) :
    (iblk m c 1 t : Vec Ideal S1x128 .f32) (ix2 0 b) = freq (ix1 (fr b)) := by
  rw [iblk, View.read_apply]
  refine Eq.trans (b := V m c main_v10 (ix2 0 b)) ?_ (V_v10 m c _)
  refine congrArg (V m c main_v10) ?_
  funext x
  apply Fin.ext
  have e := index1 t
  match x with
  | ⟨0, _⟩ => show win0_1.index t 0 * 1 + 1 * 0 = 0; rw [e]; show 0 * 1 + 1 * 0 = 0; omega
  | ⟨1, _⟩ => show win0_1.index t 1 * 128 + 1 * b.val = b.val; rw [e]; show 0 * 128 + 1 * b.val = b.val; omega

/-- The table's entry. -/
def entry (x : (⟨2, ![2, 4096]⟩ : Shape).Idx → BitVec 32) (r : Fin 8192) (l : Fin 128) : EReal :=
  lane (posAt x r) (freq (ix1 (fr l))) l

/-! ## The launch -/

theorem point (c : Dev nD) (t : Fin cfg0.N) (p : Fin 8) (hp : t.val = p.val) (a : Fin 1024) (b : Fin 128) :
    out0_2 (iblk m c 0 t) (iblk m c 1 t) (ix2 a b) = entry (pos m c) (rowOf p a) b := by
  rw [out_eq]
  refine (lane_apply (iblk m c 0 t) (iblk m c 1 t) a b).trans ?_
  rw [iblk1_apply m c t b, iblk0_apply m c t p hp]
  rfl

/-- What the array holds. -/
def total (c : Dev nD) (j : (⟨2, ![8192, 128]⟩ : Shape).Idx) : EReal := entry (pos m c) (j 0) (j 1)

theorem flushed_eq (c : Dev nD) (t : Fin cfg0.N) (hf : (cfg0.win 2).flush t = true) :
    (dats m 0 c).flushed 2 t = ((cfg0.win 2).blk t).view.read (Elt Ideal) (total m c) := by
  rw [Value.flushed2]
  have hN : t.val < 8 := lt_of_lt_of_eq t.isLt (show cfg0.N = 8 from N_0)
  show (fun j : S1024x128.Idx => _) = _
  funext j
  obtain ⟨a, b, rfl⟩ : ∃ (a : Fin 1024) (b : Fin 128), j = ix2 a b := ⟨j 0, j 1, eq_ix2 j⟩
  rw [View.read_apply]
  refine (point m c t ⟨t.val, hN⟩ rfl a b).trans ?_
  have e := index2 t
  have ij : ((cfg0.win 2).blk t).view.emb (ix2 a b) = ix2 (rowOf ⟨t.val, hN⟩ a) b := by
    funext x
    apply Fin.ext
    match x with
    | ⟨0, _⟩ => show win0_2.index t 0 * 1024 + 1 * a.val = 1024 * t.val + a.val; rw [e]; show t.val * 1024 + 1 * a.val = 1024 * t.val + a.val; omega
    | ⟨1, _⟩ => show win0_2.index t 1 * 128 + 1 * b.val = b.val; rw [e]; show 0 * 128 + 1 * b.val = b.val; omega
  rw [ij]
  rfl

theorem final_eq (c : Dev nD) : (dats m 0 c).arrAt 2 cfg0.N = total m c :=
  (dats m 0 c).arrAt_eq_of_cover 2 (total m c) (flushed_eq m c) fun i => by
    have h0 : (i 0 : Nat) < 8192 := (i 0).isLt
    have h1 : (i 1 : Nat) < 128 := (i 1).isLt
    have ht := index2 ⟨i 0 / 1024, by rw [N_0]; omega⟩
    generalize hs : (⟨i 0 / 1024, by rw [N_0]; omega⟩ : Fin grid0.N) = t at ht
    have hv : t.val = i 0 / 1024 := by rw [← hs]
    refine ⟨t, flush0_2 t, ?_⟩
    show i ∈ ((View.whole main_v11).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [ht]; show t.val * 1024 ≤ (i 0 : Nat) ∧ (i 0 : Nat) < t.val * 1024 + 1024; omega
    | ⟨1, _⟩ => show win0_2.index t 1 * 128 ≤ (i 1 : Nat) ∧ (i 1 : Nat) < win0_2.index t 1 * 128 + 128
                rw [ht]; show 0 * 128 ≤ (i 1 : Nat) ∧ (i 1 : Nat) < 0 * 128 + 128; omega

end Cert.RopeIdeal.Array

namespace Cert.RopeRefIdeal.Ref

open Cert.RopeRefIdeal Cert.RopeRefIdeal.Gen Cert.Proof.Up Cert.Proof.Rope Idealize.ShloMosaic

/-- The reference's angles. -/
def ang (x : IVec S2x4096 32) (f : FVec Ideal S32 .f32) : FVec Ideal S2x4096x32 .f32 :=
  mulf (broadcastInDim S2x4096x32 ![0, 1, 2] bcast_S2x4096x1_S2x4096x32_0_1_2 (broadcastInDim S2x4096x1 ![0, 1] bcast_S2x4096_S2x4096x1_0_1 (sitofp .f32 x)))
    (broadcastInDim S2x4096x32 ![0, 1, 2] bcast_S1x1x32_S2x4096x32_0_1_2 (broadcastInDim S1x1x32 ![2] bcast_S32_S1x1x32_2 f))

theorem ang_apply (x : IVec S2x4096 32) (f : FVec Ideal S32 .f32) (b : Fin 2) (s : Fin 4096) (k : Fin 32) :
    ang x f (ix3 b s k) = angle (x (ix2 b s)) (f (ix1 k)) := by
  pointwise [ang, angle]
  rfl

/-- The reference's four pieces, side by side. -/
def joined (g : FVec Ideal S2x4096x32 .f32) : FVec Ideal S2x4096x128 .f32 :=
  concatenate S2x4096x128 2 [⟨S2x4096x32, Host.cos g⟩, ⟨S2x4096x32, Host.cos g⟩, ⟨S2x4096x32, Host.negf (Host.sin g)⟩, ⟨S2x4096x32, Host.sin g⟩] concatenates_S2x4096x32_S2x4096x32_S2x4096x32_S2x4096x32_S2x4096x128_d2

theorem joined_apply (g : FVec Ideal S2x4096x32 .f32) (b : Fin 2) (s : Fin 4096) (l : Fin 128) :
    joined g (ix3 b s l) = if l.val < 64 then Ideal.cos (g (ix3 b s (fr l))) else if l.val < 96 then -Ideal.sin (g (ix3 b s (fr l))) else Ideal.sin (g (ix3 b s (fr l))) := by
  pointwise [joined]
  by_cases h0 : l.val < 32
  · have e : fr l = ⟨l.val, h0⟩ := Fin.ext (by show l.val % 32 = l.val; omega)
    have n1 : l.val < 64 := by omega
    rw [dif_pos h0, if_pos n1, e]
  rw [dif_neg h0]
  by_cases h1 : l.val - 32 < 32
  · have e : fr l = ⟨l.val - 32, h1⟩ := Fin.ext (by show l.val % 32 = l.val - 32; omega)
    have n1 : l.val < 64 := by omega
    rw [dif_pos h1, if_pos n1, e]
  have n1 : ¬ l.val < 64 := by omega
  rw [dif_neg h1, if_neg n1]
  by_cases h2 : l.val - 32 - 32 < 32
  · have e : fr l = ⟨l.val - 32 - 32, h2⟩ := Fin.ext (by show l.val % 32 = l.val - 32 - 32; omega)
    have n2 : l.val < 96 := by omega
    rw [dif_pos h2, if_pos n2, e]
  have e : fr l = ⟨l.val - 32 - 32 - 32, by omega⟩ := Fin.ext (by show l.val % 32 = l.val - 32 - 32 - 32; omega)
  have n2 : ¬ l.val < 96 := by omega
  rw [dif_neg h2, if_neg n2, e]

/-- The reference's result. -/
theorem res_eq (x : IVec S2x4096 32) : shapeCast S8192x128 (joined (ang x Cert.RopeIdeal.Array.freq)) shapeCasts_S2x4096x128_S8192x128
    = fun j => Cert.RopeIdeal.Array.entry x (j 0) (j 1) := by
  funext j
  obtain ⟨r, l, rfl⟩ : ∃ (r : Fin 8192) (l : Fin 128), j = ix2 r l := ⟨j 0, j 1, eq_ix2 j⟩
  refine (shapeCast_apply _ _ (ix2 r l) (ix3 (⟨r.val / 4096, by omega⟩ : Fin 2) (⟨r.val % 4096, Nat.mod_lt _ (by omega)⟩ : Fin 4096) l) (by
    rw [Shape.rowMajor_val_two, Shape.rowMajor_val_three]
    show (r.val / 4096 * 4096 + r.val % 4096) * 128 + l.val = r.val * 128 + l.val
    omega)).trans ?_
  rw [joined_apply, ang_apply]
  rfl

end Cert.RopeRefIdeal.Ref
-- ==== Proof.lean ====
/- The claims, assembled: each program runs and leaves its arguments as they were, each kernel's idealized form keeps its
   meaning, and each idealized kernel computes what its idealized reference computes. -/
module

public import proofs.«01_k».proof.Defs
public import proofs.«01_k».proof.Proof.Gen.Stick
public import proofs.«01_k».proof.Proof.Gen.Stick.Skeleton
public import proofs.«01_k».proof.Proof.Gen.Stick.Loops
public import proofs.«01_k».proof.Proof.Gen.Stick.Launch
public import proofs.«01_k».proof.Proof.Gen.Stick.Points
public import proofs.«01_k».proof.Proof.Gen.Stick.Frame
public import proofs.«01_k».proof.Proof.Gen.StickIdeal
public import proofs.«01_k».proof.Proof.Gen.StickIdeal.Skeleton
public import proofs.«01_k».proof.Proof.Gen.StickIdeal.Loops
public import proofs.«01_k».proof.Proof.Gen.StickIdeal.Launch
public import proofs.«01_k».proof.Proof.Gen.StickIdeal.Points
public import proofs.«01_k».proof.Proof.Gen.StickIdeal.Frame
public import proofs.«01_k».proof.Proof.Gen.StickRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatRefIdeal
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Key
public import proofs.«01_k».proof.Proof.Gen.Key.Skeleton
public import proofs.«01_k».proof.Proof.Gen.Key.Launch
public import proofs.«01_k».proof.Proof.Gen.Key.Points
public import proofs.«01_k».proof.Proof.Gen.Key.Frame
public import proofs.«01_k».proof.Proof.Gen.KeyIdeal
public import proofs.«01_k».proof.Proof.Gen.KeyIdeal.Skeleton
public import proofs.«01_k».proof.Proof.Gen.KeyIdeal.Launch
public import proofs.«01_k».proof.Proof.Gen.KeyIdeal.Points
public import proofs.«01_k».proof.Proof.Gen.KeyIdeal.Frame
public import proofs.«01_k».proof.Proof.Gen.KeyRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinRefIdeal
public import proofs.«01_k».proof.Proof.Gen.Recall
public import proofs.«01_k».proof.Proof.Gen.Recall.Skeleton
public import proofs.«01_k».proof.Proof.Gen.Recall.Launch
public import proofs.«01_k».proof.Proof.Gen.Recall.Points
public import proofs.«01_k».proof.Proof.Gen.Recall.Frame
public import proofs.«01_k».proof.Proof.Gen.RecallIdeal
public import proofs.«01_k».proof.Proof.Gen.RecallIdeal.Skeleton
public import proofs.«01_k».proof.Proof.Gen.RecallIdeal.Launch
public import proofs.«01_k».proof.Proof.Gen.RecallIdeal.Points
public import proofs.«01_k».proof.Proof.Gen.RecallIdeal.Frame
public import proofs.«01_k».proof.Proof.Gen.RecallRefIdeal
public import proofs.«01_k».proof.Proof.Gen.RecallW
public import proofs.«01_k».proof.Proof.Gen.RecallW.Skeleton
public import proofs.«01_k».proof.Proof.Gen.RecallW.Launch
public import proofs.«01_k».proof.Proof.Gen.RecallW.Points
public import proofs.«01_k».proof.Proof.Gen.RecallW.Frame
public import proofs.«01_k».proof.Proof.Gen.RecallWIdeal
public import proofs.«01_k».proof.Proof.Gen.RecallWIdeal.Skeleton
public import proofs.«01_k».proof.Proof.Gen.RecallWIdeal.Launch
public import proofs.«01_k».proof.Proof.Gen.RecallWIdeal.Points
public import proofs.«01_k».proof.Proof.Gen.RecallWIdeal.Frame
public import proofs.«01_k».proof.Proof.Gen.RecallWRefIdeal
public import proofs.«01_k».proof.Proof.Gen.RecallL
public import proofs.«01_k».proof.Proof.Gen.RecallL.Skeleton
public import proofs.«01_k».proof.Proof.Gen.RecallL.Launch
public import proofs.«01_k».proof.Proof.Gen.RecallL.Points
public import proofs.«01_k».proof.Proof.Gen.RecallL.Frame
public import proofs.«01_k».proof.Proof.Gen.RecallLIdeal
public import proofs.«01_k».proof.Proof.Gen.RecallLIdeal.Skeleton
public import proofs.«01_k».proof.Proof.Gen.RecallLIdeal.Launch
public import proofs.«01_k».proof.Proof.Gen.RecallLIdeal.Points
public import proofs.«01_k».proof.Proof.Gen.RecallLIdeal.Frame
public import proofs.«01_k».proof.Proof.Gen.RecallLRefIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Pre_sb_finite
public import proofs.«01_k».proof.Proof.Gen.Pre_mla_finite
public import proofs.«01_k».proof.Proof.Gen.Pre_fox_finite
public import proofs.«01_k».proof.Proof.Gen.Pre_mem_finite
public import proofs.«01_k».proof.Proof.Gen.Pre_mem_w_finite
public import proofs.«01_k».proof.Proof.Gen.Pre_mem_l_finite
public import proofs.«01_k».proof.Proof.Gen.StickIdeal.Value
public import proofs.«01_k».proof.Proof.Gen.StickRefIdeal.Run
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.Gen.OutIdeal.Value
public import proofs.«01_k».proof.Proof.Gen.OutRefIdeal.Run
public import proofs.«01_k».proof.Proof.Gen.ProjIdeal.Value
public import proofs.«01_k».proof.Proof.Gen.ProjRefIdeal.Run
public import proofs.«01_k».proof.Proof.Gen.SwaIdeal.Value
public import proofs.«01_k».proof.Proof.Gen.SwaRefIdeal.Run
public import proofs.«01_k».proof.Proof.Gen.LatIdeal.Value
public import proofs.«01_k».proof.Proof.Gen.LatRefIdeal.Run
public import proofs.«01_k».proof.Proof.Gen.MlaIdeal.Value
public import proofs.«01_k».proof.Proof.Gen.MlaRefIdeal.Run
public import proofs.«01_k».proof.Proof.Gen.FoxIdeal.Value
public import proofs.«01_k».proof.Proof.Gen.FoxRefIdeal.Run
public import proofs.«01_k».proof.Proof.Gen.KeyIdeal.Value
public import proofs.«01_k».proof.Proof.Gen.KeyRefIdeal.Run
public import proofs.«01_k».proof.Proof.Gen.GateIdeal.Value
public import proofs.«01_k».proof.Proof.Gen.GateRefIdeal.Run
public import proofs.«01_k».proof.Proof.Gen.FinIdeal.Value
public import proofs.«01_k».proof.Proof.Gen.FinRefIdeal.Run
public import proofs.«01_k».proof.Proof.Gen.RecallIdeal.Value
public import proofs.«01_k».proof.Proof.Gen.RecallRefIdeal.Run
public import proofs.«01_k».proof.Proof.Gen.RecallWIdeal.Value
public import proofs.«01_k».proof.Proof.Gen.RecallWRefIdeal.Run
public import proofs.«01_k».proof.Proof.Gen.RecallLIdeal.Value
public import proofs.«01_k».proof.Proof.Gen.RecallLRefIdeal.Run
public import proofs.«01_k».proof.Proof.Gen.QueryIdeal.Value
public import proofs.«01_k».proof.Proof.Gen.QueryRefIdeal.Run
public import proofs.«01_k».proof.Proof.Gen.PairIdeal.Value
public import proofs.«01_k».proof.Proof.Gen.PairRefIdeal.Run
public import proofs.«01_k».proof.Proof.Gen.RopeIdeal.Value
public import proofs.«01_k».proof.Proof.Gen.RopeRefIdeal.Run
public import proofs.«01_k».proof.Proof.StickArray
public import proofs.«01_k».proof.Proof.StickRef
public import proofs.«01_k».proof.Proof.StickPre
public import proofs.«01_k».proof.Proof.UpArray
public import proofs.«01_k».proof.Proof.UpRef
public import proofs.«01_k».proof.Proof.DownValue
public import proofs.«01_k».proof.Proof.OutValue
public import proofs.«01_k».proof.Proof.ProjValue
public import proofs.«01_k».proof.Proof.SwaInValue
public import proofs.«01_k».proof.Proof.LatInValue
public import proofs.«01_k».proof.Proof.MlaArray
public import proofs.«01_k».proof.Proof.MlaRef
public import proofs.«01_k».proof.Proof.MlaPre
public import proofs.«01_k».proof.Proof.FoxArray
public import proofs.«01_k».proof.Proof.FoxRef
public import proofs.«01_k».proof.Proof.FoxPre
public import proofs.«01_k».proof.Proof.KeyValue
public import proofs.«01_k».proof.Proof.GateInValue
public import proofs.«01_k».proof.Proof.FinValue
public import proofs.«01_k».proof.Proof.RecallArray
public import proofs.«01_k».proof.Proof.RecallRef
public import proofs.«01_k».proof.Proof.RecallPre
public import proofs.«01_k».proof.Proof.RecallWArray
public import proofs.«01_k».proof.Proof.RecallWRef
public import proofs.«01_k».proof.Proof.RecallWPre
public import proofs.«01_k».proof.Proof.RecallLArray
public import proofs.«01_k».proof.Proof.RecallLRef
public import proofs.«01_k».proof.Proof.RecallLPre
public import proofs.«01_k».proof.Proof.QueryValue
public import proofs.«01_k».proof.Proof.QueryRef
public import proofs.«01_k».proof.Proof.PairValue
public import proofs.«01_k».proof.Proof.PairRef
public import proofs.«01_k».proof.Proof.RopeValue
public import Idealize.ShloMosaic.Adequacy
public import Idealize.ShloMosaic.Init

@[expose] public section

noncomputable section

namespace Cert.Proof

open Idealize.ShloMosaic Idealize.SL.Sem Cert.Stick

/-! The stick-breaking attention. -/

/-- The kernel ends with the attention of the projection in its result. -/
theorem stick_run (m : (ℓ : Loc Cert.StickIdeal.nD Cert.StickIdeal.τ Cert.StickIdeal.sig) → Buf (Elt Ideal) ℓ)
    (ρ : Dev Cert.StickIdeal.nD → PrngReg) (h : ∀ c, Cert.Proof.Stick.RealScores (Cert.StickIdeal.Array.proj m c)) :
    θ_run (Cert.StickIdeal.defs (F := Ideal)) (onTc (τ := Cert.StickIdeal.τ) (Cert.StickIdeal.main (F := Ideal)))
      ⟨m, fun _ => 0, ρ⟩ (fun r => ∀ c : Dev Cert.StickIdeal.nD,
        r.2.mem ((c.tc : Thread Cert.StickIdeal.nD Cert.StickIdeal.τ).loc Cert.StickIdeal.main_v0)
          = Cert.Proof.Stick.attn (Cert.StickIdeal.Array.proj m c)
        ∧ r.2.mem ((c.tc : Thread Cert.StickIdeal.nD Cert.StickIdeal.τ).loc Cert.StickIdeal.main_arg0)
          = m ((c.tc : Thread Cert.StickIdeal.nD Cert.StickIdeal.τ).loc Cert.StickIdeal.main_arg0)) :=
  (θ_run _ _ _).mono (fun _ q c => ⟨(q c).1.trans (Cert.StickIdeal.Array.final_eq m c (h c)), (q c).2⟩)
    (Cert.StickIdeal.Value.run_blocks m ρ)

theorem stickRef_frame (m : (ℓ : Loc Cert.StickRefIdeal.nD Cert.StickRefIdeal.τ Cert.StickRefIdeal.sig) → Buf (Elt Ideal) ℓ)
    (ρ : Dev Cert.StickRefIdeal.nD → PrngReg) :
    θ_run (Cert.StickRefIdeal.defs (F := Ideal)) (onTc (τ := Cert.StickRefIdeal.τ) (Cert.StickRefIdeal.main (F := Ideal)))
      ⟨m, fun _ => 0, ρ⟩ (fun r => (∀ c : Dev Cert.StickRefIdeal.nD,
        r.2.mem ((c.tc : Thread Cert.StickRefIdeal.nD Cert.StickRefIdeal.τ).loc Cert.StickRefIdeal.main_arg0)
          = m ((c.tc : Thread Cert.StickRefIdeal.nD Cert.StickRefIdeal.τ).loc Cert.StickRefIdeal.main_arg0))
        ∧ r.2.sem = fun _ => 0) :=
  (θ_run _ _ _).mono (fun r q => ⟨fun c => (q c).2, Idealize.ShloMosaic.sem_eq_zero_of_no_sems (by decide) r.2⟩)
    (Cert.StickRefIdeal.Value.run m ρ)

theorem stick_algebraic [hP : Cert.Pre_sb_finite.Facts] : Cert.algebraic_StickIdeal_StickRefIdeal_pre_sb_finite
    (hStickIdeal := Cert.StickIdeal.Gen.facts) (hStickRefIdeal := Cert.StickRefIdeal.Gen.facts) (hPre_sb_finite := hP) :=
  fun m ρ m' ρ' hpre hag =>
    have hr : ∀ c, Cert.Proof.Stick.RealScores (Cert.StickIdeal.Array.proj m c) := fun c =>
      Cert.Pre_sb_finite.Read.scores_real hP _ (hpre c)
    ⟨fun c => Cert.Proof.Stick.attn (Cert.StickIdeal.Array.proj m c), stick_run m ρ hr,
      (θ_run _ _ _).mono (fun _ q c => ⟨(q c).1.trans ((Cert.StickRefIdeal.Ref.res_eq m' c).trans
        ((congrArg Cert.StickRefIdeal.Ref.outT (hag c)).trans (Cert.StickRefIdeal.Ref.outT_eq _ (hr c)))), (q c).2⟩)
        (Cert.StickRefIdeal.Value.run m' ρ')⟩

/-! The second product of the gated network. -/

theorem downRef_frame (m : (ℓ : Loc Cert.DownRefIdeal.nD Cert.DownRefIdeal.τ Cert.DownRefIdeal.sig) → Buf (Elt Ideal) ℓ)
    (ρ : Dev Cert.DownRefIdeal.nD → PrngReg) :
    θ_run (Cert.DownRefIdeal.defs (F := Ideal)) (onTc (τ := Cert.DownRefIdeal.τ) (Cert.DownRefIdeal.main (F := Ideal)))
      ⟨m, fun _ => 0, ρ⟩ (fun r => (∀ c : Dev Cert.DownRefIdeal.nD,
        r.2.mem ((c.tc : Thread Cert.DownRefIdeal.nD Cert.DownRefIdeal.τ).loc Cert.DownRefIdeal.main_arg0)
          = m ((c.tc : Thread Cert.DownRefIdeal.nD Cert.DownRefIdeal.τ).loc Cert.DownRefIdeal.main_arg0)
        ∧ r.2.mem ((c.tc : Thread Cert.DownRefIdeal.nD Cert.DownRefIdeal.τ).loc Cert.DownRefIdeal.main_arg1)
          = m ((c.tc : Thread Cert.DownRefIdeal.nD Cert.DownRefIdeal.τ).loc Cert.DownRefIdeal.main_arg1)
        ∧ r.2.mem ((c.tc : Thread Cert.DownRefIdeal.nD Cert.DownRefIdeal.τ).loc Cert.DownRefIdeal.main_arg2)
          = m ((c.tc : Thread Cert.DownRefIdeal.nD Cert.DownRefIdeal.τ).loc Cert.DownRefIdeal.main_arg2))
        ∧ r.2.sem = fun _ => 0) :=
  (θ_run _ _ _).mono (fun r q => ⟨fun c => (q c).2, Idealize.ShloMosaic.sem_eq_zero_of_no_sems (by decide) r.2⟩)
    (Cert.DownRefIdeal.Value.run m ρ)

theorem down_algebraic : Cert.algebraic_DownIdeal_DownRefIdeal (hDownIdeal := Cert.DownIdeal.Gen.facts)
    (hDownRefIdeal := Cert.DownRefIdeal.Gen.facts) :=
  fun m ρ m' ρ' _ hag =>
    ⟨fun c => Cert.Proof.Down.entry (Cert.DownIdeal.Array.lhs m c) (Cert.DownIdeal.Array.rhs m c) (Cert.DownIdeal.Array.res m c),
      (θ_run _ _ _).mono (fun _ q c => ⟨(q c).1.trans (Cert.DownIdeal.Array.final_eq m c), (q c).2⟩) (Cert.DownIdeal.Value.run_blocks m ρ),
      (θ_run _ _ _).mono (fun _ q c => ⟨(q c).1.trans (by
        obtain ⟨h0, h1, h2⟩ := hag c
        rw [h0, h1, h2]
        exact Cert.DownRefIdeal.Ref.out_eq _ _ _), (q c).2⟩) (Cert.DownRefIdeal.Value.run m' ρ')⟩

/-! The product that leaves the token mixer. -/

theorem outRef_frame (m : (ℓ : Loc Cert.OutRefIdeal.nD Cert.OutRefIdeal.τ Cert.OutRefIdeal.sig) → Buf (Elt Ideal) ℓ)
    (ρ : Dev Cert.OutRefIdeal.nD → PrngReg) :
    θ_run (Cert.OutRefIdeal.defs (F := Ideal)) (onTc (τ := Cert.OutRefIdeal.τ) (Cert.OutRefIdeal.main (F := Ideal)))
      ⟨m, fun _ => 0, ρ⟩ (fun r => (∀ c : Dev Cert.OutRefIdeal.nD,
        r.2.mem ((c.tc : Thread Cert.OutRefIdeal.nD Cert.OutRefIdeal.τ).loc Cert.OutRefIdeal.main_arg0)
          = m ((c.tc : Thread Cert.OutRefIdeal.nD Cert.OutRefIdeal.τ).loc Cert.OutRefIdeal.main_arg0)
        ∧ r.2.mem ((c.tc : Thread Cert.OutRefIdeal.nD Cert.OutRefIdeal.τ).loc Cert.OutRefIdeal.main_arg1)
          = m ((c.tc : Thread Cert.OutRefIdeal.nD Cert.OutRefIdeal.τ).loc Cert.OutRefIdeal.main_arg1)
        ∧ r.2.mem ((c.tc : Thread Cert.OutRefIdeal.nD Cert.OutRefIdeal.τ).loc Cert.OutRefIdeal.main_arg2)
          = m ((c.tc : Thread Cert.OutRefIdeal.nD Cert.OutRefIdeal.τ).loc Cert.OutRefIdeal.main_arg2)
        ∧ r.2.mem ((c.tc : Thread Cert.OutRefIdeal.nD Cert.OutRefIdeal.τ).loc Cert.OutRefIdeal.main_arg3)
          = m ((c.tc : Thread Cert.OutRefIdeal.nD Cert.OutRefIdeal.τ).loc Cert.OutRefIdeal.main_arg3))
        ∧ r.2.sem = fun _ => 0) :=
  (θ_run _ _ _).mono (fun r q => ⟨fun c => (q c).2, Idealize.ShloMosaic.sem_eq_zero_of_no_sems (by decide) r.2⟩)
    (Cert.OutRefIdeal.Value.run m ρ)

theorem out_algebraic : Cert.algebraic_OutIdeal_OutRefIdeal (hOutIdeal := Cert.OutIdeal.Gen.facts)
    (hOutRefIdeal := Cert.OutRefIdeal.Gen.facts) :=
  fun m ρ m' ρ' _ hag =>
    ⟨fun c => Cert.OutIdeal.Array.total m c,
      (θ_run _ _ _).mono (fun _ q c => ⟨(q c).1.trans (Cert.OutIdeal.Array.final_eq m c), (q c).2⟩) (Cert.OutIdeal.Value.run_blocks m ρ),
      (θ_run _ _ _).mono (fun _ q c => ⟨(q c).1.trans (by
        obtain ⟨h0, h1, h2, h3⟩ := hag c
        rw [h0, h1, h2, h3]
        funext j
        obtain ⟨r, n, rfl⟩ : ∃ (r : Fin 8192) (n : Fin 2048), j = ix2 r n := ⟨j 0, j 1, eq_ix2 j⟩
        exact Cert.OutRefIdeal.Ref.res_eq _ _ _ _ r n), (q c).2⟩) (Cert.OutRefIdeal.Value.run m' ρ')⟩

/-! The first product of the gated network, with its convolution and its gate. -/

theorem upRef_frame (m : (ℓ : Loc Cert.UpRefIdeal.nD Cert.UpRefIdeal.τ Cert.UpRefIdeal.sig) → Buf (Elt Ideal) ℓ)
    (ρ : Dev Cert.UpRefIdeal.nD → PrngReg) :
    θ_run (Cert.UpRefIdeal.defs (F := Ideal)) (onTc (τ := Cert.UpRefIdeal.τ) (Cert.UpRefIdeal.main (F := Ideal)))
      ⟨m, fun _ => 0, ρ⟩ (fun r => (∀ c : Dev Cert.UpRefIdeal.nD,
        r.2.mem ((c.tc : Thread Cert.UpRefIdeal.nD Cert.UpRefIdeal.τ).loc Cert.UpRefIdeal.main_arg0)
          = m ((c.tc : Thread Cert.UpRefIdeal.nD Cert.UpRefIdeal.τ).loc Cert.UpRefIdeal.main_arg0)
        ∧ r.2.mem ((c.tc : Thread Cert.UpRefIdeal.nD Cert.UpRefIdeal.τ).loc Cert.UpRefIdeal.main_arg1)
          = m ((c.tc : Thread Cert.UpRefIdeal.nD Cert.UpRefIdeal.τ).loc Cert.UpRefIdeal.main_arg1)
        ∧ r.2.mem ((c.tc : Thread Cert.UpRefIdeal.nD Cert.UpRefIdeal.τ).loc Cert.UpRefIdeal.main_arg2)
          = m ((c.tc : Thread Cert.UpRefIdeal.nD Cert.UpRefIdeal.τ).loc Cert.UpRefIdeal.main_arg2)
        ∧ r.2.mem ((c.tc : Thread Cert.UpRefIdeal.nD Cert.UpRefIdeal.τ).loc Cert.UpRefIdeal.main_arg3)
          = m ((c.tc : Thread Cert.UpRefIdeal.nD Cert.UpRefIdeal.τ).loc Cert.UpRefIdeal.main_arg3)
        ∧ r.2.mem ((c.tc : Thread Cert.UpRefIdeal.nD Cert.UpRefIdeal.τ).loc Cert.UpRefIdeal.main_arg4)
          = m ((c.tc : Thread Cert.UpRefIdeal.nD Cert.UpRefIdeal.τ).loc Cert.UpRefIdeal.main_arg4))
        ∧ r.2.sem = fun _ => 0) :=
  (θ_run _ _ _).mono (fun r q => ⟨fun c => (q c).2, Idealize.ShloMosaic.sem_eq_zero_of_no_sems (by decide) r.2⟩)
    (Cert.UpRefIdeal.Value.run m ρ)

theorem up_algebraic : Cert.algebraic_UpIdeal_UpRefIdeal (hUpIdeal := Cert.UpIdeal.Gen.facts)
    (hUpRefIdeal := Cert.UpRefIdeal.Gen.facts) :=
  fun m ρ m' ρ' _ hag =>
    ⟨fun c => Cert.UpIdeal.Array.total m c,
      (θ_run _ _ _).mono (fun _ q c => ⟨(q c).1.trans (Cert.UpIdeal.Array.final_eq m c), (q c).2⟩) (Cert.UpIdeal.Value.run_blocks m ρ),
      (θ_run _ _ _).mono (fun _ q c => ⟨(q c).1.trans (by
        obtain ⟨h0, h1, h2, h3, h4⟩ := hag c
        rw [Cert.UpRefIdeal.Ref.res_eq, h0, h1, h2, h3, h4]
        funext j
        obtain ⟨r, n, rfl⟩ : ∃ (r : Fin 8192) (n : Fin 5632), j = ix2 r n := ⟨j 0, j 1, eq_ix2 j⟩
        exact Cert.UpRefIdeal.Ref.whole_apply _ _ _ _ _ r n), (q c).2⟩) (Cert.UpRefIdeal.Value.run m' ρ')⟩

/-! The norm and the product that enter the token mixer. -/

theorem projRef_frame (m : (ℓ : Loc Cert.ProjRefIdeal.nD Cert.ProjRefIdeal.τ Cert.ProjRefIdeal.sig) → Buf (Elt Ideal) ℓ)
    (ρ : Dev Cert.ProjRefIdeal.nD → PrngReg) :
    θ_run (Cert.ProjRefIdeal.defs (F := Ideal)) (onTc (τ := Cert.ProjRefIdeal.τ) (Cert.ProjRefIdeal.main (F := Ideal)))
      ⟨m, fun _ => 0, ρ⟩ (fun r => (∀ c : Dev Cert.ProjRefIdeal.nD,
        r.2.mem ((c.tc : Thread Cert.ProjRefIdeal.nD Cert.ProjRefIdeal.τ).loc Cert.ProjRefIdeal.main_arg0)
          = m ((c.tc : Thread Cert.ProjRefIdeal.nD Cert.ProjRefIdeal.τ).loc Cert.ProjRefIdeal.main_arg0)
        ∧ r.2.mem ((c.tc : Thread Cert.ProjRefIdeal.nD Cert.ProjRefIdeal.τ).loc Cert.ProjRefIdeal.main_arg1)
          = m ((c.tc : Thread Cert.ProjRefIdeal.nD Cert.ProjRefIdeal.τ).loc Cert.ProjRefIdeal.main_arg1)
        ∧ r.2.mem ((c.tc : Thread Cert.ProjRefIdeal.nD Cert.ProjRefIdeal.τ).loc Cert.ProjRefIdeal.main_arg2)
          = m ((c.tc : Thread Cert.ProjRefIdeal.nD Cert.ProjRefIdeal.τ).loc Cert.ProjRefIdeal.main_arg2))
        ∧ r.2.sem = fun _ => 0) :=
  (θ_run _ _ _).mono (fun r q => ⟨fun c => (q c).2, Idealize.ShloMosaic.sem_eq_zero_of_no_sems (by decide) r.2⟩)
    (Cert.ProjRefIdeal.Value.run m ρ)

theorem proj_algebraic : Cert.algebraic_ProjIdeal_ProjRefIdeal (hProjIdeal := Cert.ProjIdeal.Gen.facts)
    (hProjRefIdeal := Cert.ProjRefIdeal.Gen.facts) :=
  fun m ρ m' ρ' _ hag =>
    ⟨fun c => Cert.ProjIdeal.Array.total m c,
      (θ_run _ _ _).mono (fun _ q c => ⟨(q c).1.trans (Cert.ProjIdeal.Array.final_eq m c), (q c).2⟩) (Cert.ProjIdeal.Value.run_blocks m ρ),
      (θ_run _ _ _).mono (fun _ q c => ⟨(q c).1.trans (by
        obtain ⟨h0, h1, h2⟩ := hag c
        rw [h0, h1, h2]
        funext j
        obtain ⟨r, n, rfl⟩ : ∃ (r : Fin 8192) (n : Fin 6656), j = ix2 r n := ⟨j 0, j 1, eq_ix2 j⟩
        exact Cert.ProjRefIdeal.Ref.res_eq _ _ _ r n), (q c).2⟩) (Cert.ProjRefIdeal.Value.run m' ρ')⟩

/-! The norm and the product that enter the windowed mixer. -/

theorem swaRef_frame (m : (ℓ : Loc Cert.SwaRefIdeal.nD Cert.SwaRefIdeal.τ Cert.SwaRefIdeal.sig) → Buf (Elt Ideal) ℓ)
    (ρ : Dev Cert.SwaRefIdeal.nD → PrngReg) :
    θ_run (Cert.SwaRefIdeal.defs (F := Ideal)) (onTc (τ := Cert.SwaRefIdeal.τ) (Cert.SwaRefIdeal.main (F := Ideal)))
      ⟨m, fun _ => 0, ρ⟩ (fun r => (∀ c : Dev Cert.SwaRefIdeal.nD,
        r.2.mem ((c.tc : Thread Cert.SwaRefIdeal.nD Cert.SwaRefIdeal.τ).loc Cert.SwaRefIdeal.main_arg0)
          = m ((c.tc : Thread Cert.SwaRefIdeal.nD Cert.SwaRefIdeal.τ).loc Cert.SwaRefIdeal.main_arg0)
        ∧ r.2.mem ((c.tc : Thread Cert.SwaRefIdeal.nD Cert.SwaRefIdeal.τ).loc Cert.SwaRefIdeal.main_arg1)
          = m ((c.tc : Thread Cert.SwaRefIdeal.nD Cert.SwaRefIdeal.τ).loc Cert.SwaRefIdeal.main_arg1)
        ∧ r.2.mem ((c.tc : Thread Cert.SwaRefIdeal.nD Cert.SwaRefIdeal.τ).loc Cert.SwaRefIdeal.main_arg2)
          = m ((c.tc : Thread Cert.SwaRefIdeal.nD Cert.SwaRefIdeal.τ).loc Cert.SwaRefIdeal.main_arg2))
        ∧ r.2.sem = fun _ => 0) :=
  (θ_run _ _ _).mono (fun r q => ⟨fun c => (q c).2, Idealize.ShloMosaic.sem_eq_zero_of_no_sems (by decide) r.2⟩)
    (Cert.SwaRefIdeal.Value.run m ρ)

theorem swa_algebraic : Cert.algebraic_SwaIdeal_SwaRefIdeal (hSwaIdeal := Cert.SwaIdeal.Gen.facts)
    (hSwaRefIdeal := Cert.SwaRefIdeal.Gen.facts) :=
  fun m ρ m' ρ' _ hag =>
    ⟨fun c => Cert.SwaIdeal.Array.total m c,
      (θ_run _ _ _).mono (fun _ q c => ⟨(q c).1.trans (Cert.SwaIdeal.Array.final_eq m c), (q c).2⟩) (Cert.SwaIdeal.Value.run_blocks m ρ),
      (θ_run _ _ _).mono (fun _ q c => ⟨(q c).1.trans (by
        obtain ⟨h0, h1, h2⟩ := hag c
        rw [h0, h1, h2]
        funext j
        obtain ⟨r, n, rfl⟩ : ∃ (r : Fin 8192) (n : Fin 3072), j = ix2 r n := ⟨j 0, j 1, eq_ix2 j⟩
        exact Cert.SwaRefIdeal.Ref.res_eq _ _ _ r n), (q c).2⟩) (Cert.SwaRefIdeal.Value.run m' ρ')⟩

/-! The norm and the product that make the memory's keys and values. -/

theorem keyRef_frame (m : (ℓ : Loc Cert.KeyRefIdeal.nD Cert.KeyRefIdeal.τ Cert.KeyRefIdeal.sig) → Buf (Elt Ideal) ℓ)
    (ρ : Dev Cert.KeyRefIdeal.nD → PrngReg) :
    θ_run (Cert.KeyRefIdeal.defs (F := Ideal)) (onTc (τ := Cert.KeyRefIdeal.τ) (Cert.KeyRefIdeal.main (F := Ideal)))
      ⟨m, fun _ => 0, ρ⟩ (fun r => (∀ c : Dev Cert.KeyRefIdeal.nD,
        r.2.mem ((c.tc : Thread Cert.KeyRefIdeal.nD Cert.KeyRefIdeal.τ).loc Cert.KeyRefIdeal.main_arg0)
          = m ((c.tc : Thread Cert.KeyRefIdeal.nD Cert.KeyRefIdeal.τ).loc Cert.KeyRefIdeal.main_arg0)
        ∧ r.2.mem ((c.tc : Thread Cert.KeyRefIdeal.nD Cert.KeyRefIdeal.τ).loc Cert.KeyRefIdeal.main_arg1)
          = m ((c.tc : Thread Cert.KeyRefIdeal.nD Cert.KeyRefIdeal.τ).loc Cert.KeyRefIdeal.main_arg1)
        ∧ r.2.mem ((c.tc : Thread Cert.KeyRefIdeal.nD Cert.KeyRefIdeal.τ).loc Cert.KeyRefIdeal.main_arg2)
          = m ((c.tc : Thread Cert.KeyRefIdeal.nD Cert.KeyRefIdeal.τ).loc Cert.KeyRefIdeal.main_arg2))
        ∧ r.2.sem = fun _ => 0) :=
  (θ_run _ _ _).mono (fun r q => ⟨fun c => (q c).2, Idealize.ShloMosaic.sem_eq_zero_of_no_sems (by decide) r.2⟩)
    (Cert.KeyRefIdeal.Value.run m ρ)

theorem key_algebraic : Cert.algebraic_KeyIdeal_KeyRefIdeal (hKeyIdeal := Cert.KeyIdeal.Gen.facts)
    (hKeyRefIdeal := Cert.KeyRefIdeal.Gen.facts) :=
  fun m ρ m' ρ' _ hag =>
    ⟨fun c => Cert.KeyIdeal.Array.total m c,
      (θ_run _ _ _).mono (fun _ q c => ⟨(q c).1.trans (Cert.KeyIdeal.Array.final_eq m c), (q c).2⟩) (Cert.KeyIdeal.Value.run_blocks m ρ),
      (θ_run _ _ _).mono (fun _ q c => ⟨(q c).1.trans (by
        obtain ⟨h0, h1, h2⟩ := hag c
        rw [h0, h1, h2]
        funext j
        obtain ⟨r, n, rfl⟩ : ∃ (r : Fin 512) (n : Fin 1024), j = ix2 r n := ⟨j 0, j 1, eq_ix2 j⟩
        exact Cert.KeyRefIdeal.Ref.res_eq _ _ _ r n), (q c).2⟩) (Cert.KeyRefIdeal.Value.run m' ρ')⟩

/-! The norm and the product that make the forgetting mixer's gates. -/

theorem gateRef_frame (m : (ℓ : Loc Cert.GateRefIdeal.nD Cert.GateRefIdeal.τ Cert.GateRefIdeal.sig) → Buf (Elt Ideal) ℓ)
    (ρ : Dev Cert.GateRefIdeal.nD → PrngReg) :
    θ_run (Cert.GateRefIdeal.defs (F := Ideal)) (onTc (τ := Cert.GateRefIdeal.τ) (Cert.GateRefIdeal.main (F := Ideal)))
      ⟨m, fun _ => 0, ρ⟩ (fun r => (∀ c : Dev Cert.GateRefIdeal.nD,
        r.2.mem ((c.tc : Thread Cert.GateRefIdeal.nD Cert.GateRefIdeal.τ).loc Cert.GateRefIdeal.main_arg0)
          = m ((c.tc : Thread Cert.GateRefIdeal.nD Cert.GateRefIdeal.τ).loc Cert.GateRefIdeal.main_arg0)
        ∧ r.2.mem ((c.tc : Thread Cert.GateRefIdeal.nD Cert.GateRefIdeal.τ).loc Cert.GateRefIdeal.main_arg1)
          = m ((c.tc : Thread Cert.GateRefIdeal.nD Cert.GateRefIdeal.τ).loc Cert.GateRefIdeal.main_arg1)
        ∧ r.2.mem ((c.tc : Thread Cert.GateRefIdeal.nD Cert.GateRefIdeal.τ).loc Cert.GateRefIdeal.main_arg2)
          = m ((c.tc : Thread Cert.GateRefIdeal.nD Cert.GateRefIdeal.τ).loc Cert.GateRefIdeal.main_arg2))
        ∧ r.2.sem = fun _ => 0) :=
  (θ_run _ _ _).mono (fun r q => ⟨fun c => (q c).2, Idealize.ShloMosaic.sem_eq_zero_of_no_sems (by decide) r.2⟩)
    (Cert.GateRefIdeal.Value.run m ρ)

theorem gate_algebraic : Cert.algebraic_GateIdeal_GateRefIdeal (hGateIdeal := Cert.GateIdeal.Gen.facts)
    (hGateRefIdeal := Cert.GateRefIdeal.Gen.facts) :=
  fun m ρ m' ρ' _ hag =>
    ⟨fun c => Cert.GateIdeal.Array.total m c,
      (θ_run _ _ _).mono (fun _ q c => ⟨(q c).1.trans (Cert.GateIdeal.Array.final_eq m c), (q c).2⟩) (Cert.GateIdeal.Value.run_blocks m ρ),
      (θ_run _ _ _).mono (fun _ q c => ⟨(q c).1.trans (by
        obtain ⟨h0, h1, h2⟩ := hag c
        rw [h0, h1, h2]
        funext j
        obtain ⟨r, n, rfl⟩ : ∃ (r : Fin 8192) (n : Fin 128), j = ix2 r n := ⟨j 0, j 1, eq_ix2 j⟩
        exact Cert.GateRefIdeal.Ref.res_eq _ _ _ r n), (q c).2⟩) (Cert.GateRefIdeal.Value.run m' ρ')⟩

/-! The norm after the last layer. -/

theorem finRef_frame (m : (ℓ : Loc Cert.FinRefIdeal.nD Cert.FinRefIdeal.τ Cert.FinRefIdeal.sig) → Buf (Elt Ideal) ℓ)
    (ρ : Dev Cert.FinRefIdeal.nD → PrngReg) :
    θ_run (Cert.FinRefIdeal.defs (F := Ideal)) (onTc (τ := Cert.FinRefIdeal.τ) (Cert.FinRefIdeal.main (F := Ideal)))
      ⟨m, fun _ => 0, ρ⟩ (fun r => (∀ c : Dev Cert.FinRefIdeal.nD,
        r.2.mem ((c.tc : Thread Cert.FinRefIdeal.nD Cert.FinRefIdeal.τ).loc Cert.FinRefIdeal.main_arg0)
          = m ((c.tc : Thread Cert.FinRefIdeal.nD Cert.FinRefIdeal.τ).loc Cert.FinRefIdeal.main_arg0)
        ∧ r.2.mem ((c.tc : Thread Cert.FinRefIdeal.nD Cert.FinRefIdeal.τ).loc Cert.FinRefIdeal.main_arg1)
          = m ((c.tc : Thread Cert.FinRefIdeal.nD Cert.FinRefIdeal.τ).loc Cert.FinRefIdeal.main_arg1))
        ∧ r.2.sem = fun _ => 0) :=
  (θ_run _ _ _).mono (fun r q => ⟨fun c => (q c).2, Idealize.ShloMosaic.sem_eq_zero_of_no_sems (by decide) r.2⟩)
    (Cert.FinRefIdeal.Value.run m ρ)

theorem fin_algebraic : Cert.algebraic_FinIdeal_FinRefIdeal (hFinIdeal := Cert.FinIdeal.Gen.facts)
    (hFinRefIdeal := Cert.FinRefIdeal.Gen.facts) :=
  fun m ρ m' ρ' _ hag =>
    ⟨fun c => Cert.FinIdeal.Array.total m c,
      (θ_run _ _ _).mono (fun _ q c => ⟨(q c).1.trans (Cert.FinIdeal.Array.final_eq m c), (q c).2⟩) (Cert.FinIdeal.Value.run_blocks m ρ),
      (θ_run _ _ _).mono (fun _ q c => ⟨(q c).1.trans (by
        obtain ⟨h0, h1⟩ := hag c
        rw [h0, h1]
        funext j
        obtain ⟨r, n, rfl⟩ : ∃ (r : Fin 8192) (n : Fin 2048), j = ix2 r n := ⟨j 0, j 1, eq_ix2 j⟩
        exact Cert.FinRefIdeal.Ref.res_eq _ _ r n), (q c).2⟩) (Cert.FinRefIdeal.Value.run m' ρ')⟩

/-! The norm and the product that enter the latent mixer. -/

theorem latRef_frame (m : (ℓ : Loc Cert.LatRefIdeal.nD Cert.LatRefIdeal.τ Cert.LatRefIdeal.sig) → Buf (Elt Ideal) ℓ)
    (ρ : Dev Cert.LatRefIdeal.nD → PrngReg) :
    θ_run (Cert.LatRefIdeal.defs (F := Ideal)) (onTc (τ := Cert.LatRefIdeal.τ) (Cert.LatRefIdeal.main (F := Ideal)))
      ⟨m, fun _ => 0, ρ⟩ (fun r => (∀ c : Dev Cert.LatRefIdeal.nD,
        r.2.mem ((c.tc : Thread Cert.LatRefIdeal.nD Cert.LatRefIdeal.τ).loc Cert.LatRefIdeal.main_arg0)
          = m ((c.tc : Thread Cert.LatRefIdeal.nD Cert.LatRefIdeal.τ).loc Cert.LatRefIdeal.main_arg0)
        ∧ r.2.mem ((c.tc : Thread Cert.LatRefIdeal.nD Cert.LatRefIdeal.τ).loc Cert.LatRefIdeal.main_arg1)
          = m ((c.tc : Thread Cert.LatRefIdeal.nD Cert.LatRefIdeal.τ).loc Cert.LatRefIdeal.main_arg1)
        ∧ r.2.mem ((c.tc : Thread Cert.LatRefIdeal.nD Cert.LatRefIdeal.τ).loc Cert.LatRefIdeal.main_arg2)
          = m ((c.tc : Thread Cert.LatRefIdeal.nD Cert.LatRefIdeal.τ).loc Cert.LatRefIdeal.main_arg2))
        ∧ r.2.sem = fun _ => 0) :=
  (θ_run _ _ _).mono (fun r q => ⟨fun c => (q c).2, Idealize.ShloMosaic.sem_eq_zero_of_no_sems (by decide) r.2⟩)
    (Cert.LatRefIdeal.Value.run m ρ)

theorem lat_algebraic : Cert.algebraic_LatIdeal_LatRefIdeal (hLatIdeal := Cert.LatIdeal.Gen.facts)
    (hLatRefIdeal := Cert.LatRefIdeal.Gen.facts) :=
  fun m ρ m' ρ' _ hag =>
    ⟨fun c => Cert.LatIdeal.Array.total m c,
      (θ_run _ _ _).mono (fun _ q c => ⟨(q c).1.trans (Cert.LatIdeal.Array.final_eq m c), (q c).2⟩) (Cert.LatIdeal.Value.run_blocks m ρ),
      (θ_run _ _ _).mono (fun _ q c => ⟨(q c).1.trans (by
        obtain ⟨h0, h1, h2⟩ := hag c
        rw [h0, h1, h2]
        funext j
        obtain ⟨r, n, rfl⟩ : ∃ (r : Fin 8192) (n : Fin 1408), j = ix2 r n := ⟨j 0, j 1, eq_ix2 j⟩
        exact Cert.LatRefIdeal.Ref.res_eq _ _ _ r n), (q c).2⟩) (Cert.LatRefIdeal.Value.run m' ρ')⟩

/-! The latent attention. -/

theorem mla_run (m : (ℓ : Loc Cert.MlaIdeal.nD Cert.MlaIdeal.τ Cert.MlaIdeal.sig) → Buf (Elt Ideal) ℓ)
    (ρ : Dev Cert.MlaIdeal.nD → PrngReg)
    (h : ∀ c, Cert.Proof.Mla.RealScores (Cert.MlaIdeal.Array.qs m c) (Cert.MlaIdeal.Array.ks m c)) :
    θ_run (Cert.MlaIdeal.defs (F := Ideal)) (onTc (τ := Cert.MlaIdeal.τ) (Cert.MlaIdeal.main (F := Ideal)))
      ⟨m, fun _ => 0, ρ⟩ (fun r => ∀ c : Dev Cert.MlaIdeal.nD,
        r.2.mem ((c.tc : Thread Cert.MlaIdeal.nD Cert.MlaIdeal.τ).loc Cert.MlaIdeal.main_v0)
          = Cert.Proof.Mla.attn (Cert.MlaIdeal.Array.qs m c) (Cert.MlaIdeal.Array.ks m c) (Cert.MlaIdeal.Array.vs m c)
        ∧ r.2.mem ((c.tc : Thread Cert.MlaIdeal.nD Cert.MlaIdeal.τ).loc Cert.MlaIdeal.main_arg0)
          = m ((c.tc : Thread Cert.MlaIdeal.nD Cert.MlaIdeal.τ).loc Cert.MlaIdeal.main_arg0)
        ∧ r.2.mem ((c.tc : Thread Cert.MlaIdeal.nD Cert.MlaIdeal.τ).loc Cert.MlaIdeal.main_arg1)
          = m ((c.tc : Thread Cert.MlaIdeal.nD Cert.MlaIdeal.τ).loc Cert.MlaIdeal.main_arg1)
        ∧ r.2.mem ((c.tc : Thread Cert.MlaIdeal.nD Cert.MlaIdeal.τ).loc Cert.MlaIdeal.main_arg2)
          = m ((c.tc : Thread Cert.MlaIdeal.nD Cert.MlaIdeal.τ).loc Cert.MlaIdeal.main_arg2)) :=
  (θ_run _ _ _).mono (fun _ q c => ⟨(q c).1.trans (Cert.MlaIdeal.Array.final_eq m c (h c)), (q c).2⟩)
    (Cert.MlaIdeal.Value.run_blocks m ρ)

theorem mlaRef_frame (m : (ℓ : Loc Cert.MlaRefIdeal.nD Cert.MlaRefIdeal.τ Cert.MlaRefIdeal.sig) → Buf (Elt Ideal) ℓ)
    (ρ : Dev Cert.MlaRefIdeal.nD → PrngReg) :
    θ_run (Cert.MlaRefIdeal.defs (F := Ideal)) (onTc (τ := Cert.MlaRefIdeal.τ) (Cert.MlaRefIdeal.main (F := Ideal)))
      ⟨m, fun _ => 0, ρ⟩ (fun r => (∀ c : Dev Cert.MlaRefIdeal.nD,
        r.2.mem ((c.tc : Thread Cert.MlaRefIdeal.nD Cert.MlaRefIdeal.τ).loc Cert.MlaRefIdeal.main_arg0)
          = m ((c.tc : Thread Cert.MlaRefIdeal.nD Cert.MlaRefIdeal.τ).loc Cert.MlaRefIdeal.main_arg0)
        ∧ r.2.mem ((c.tc : Thread Cert.MlaRefIdeal.nD Cert.MlaRefIdeal.τ).loc Cert.MlaRefIdeal.main_arg1)
          = m ((c.tc : Thread Cert.MlaRefIdeal.nD Cert.MlaRefIdeal.τ).loc Cert.MlaRefIdeal.main_arg1)
        ∧ r.2.mem ((c.tc : Thread Cert.MlaRefIdeal.nD Cert.MlaRefIdeal.τ).loc Cert.MlaRefIdeal.main_arg2)
          = m ((c.tc : Thread Cert.MlaRefIdeal.nD Cert.MlaRefIdeal.τ).loc Cert.MlaRefIdeal.main_arg2))
        ∧ r.2.sem = fun _ => 0) :=
  (θ_run _ _ _).mono (fun r q => ⟨fun c => (q c).2, Idealize.ShloMosaic.sem_eq_zero_of_no_sems (by decide) r.2⟩)
    (Cert.MlaRefIdeal.Value.run m ρ)

theorem mla_algebraic [hP : Cert.Pre_mla_finite.Facts] : Cert.algebraic_MlaIdeal_MlaRefIdeal_pre_mla_finite
    (hMlaIdeal := Cert.MlaIdeal.Gen.facts) (hMlaRefIdeal := Cert.MlaRefIdeal.Gen.facts) (hPre_mla_finite := hP) :=
  fun m ρ m' ρ' hpre hag =>
    have hr : ∀ c, Cert.Proof.Mla.RealScores (Cert.MlaIdeal.Array.qs m c) (Cert.MlaIdeal.Array.ks m c) := fun c =>
      Cert.Pre_mla_finite.Read.scores_real hP _ _ _ (hpre c)
    ⟨fun c => Cert.Proof.Mla.attn (Cert.MlaIdeal.Array.qs m c) (Cert.MlaIdeal.Array.ks m c) (Cert.MlaIdeal.Array.vs m c),
      mla_run m ρ hr,
      (θ_run _ _ _).mono (fun _ q c => ⟨(q c).1.trans ((Cert.MlaRefIdeal.Ref.res_eq m' c).trans (by
        obtain ⟨h0, h1, h2⟩ := hag c
        rw [h0, h1, h2]
        exact Cert.MlaRefIdeal.Ref.outT_eq _ _ _ (hr c))), (q c).2⟩)
        (Cert.MlaRefIdeal.Value.run m' ρ')⟩

/-! The forgetting attention. -/

theorem fox_run (m : (ℓ : Loc Cert.FoxIdeal.nD Cert.FoxIdeal.τ Cert.FoxIdeal.sig) → Buf (Elt Ideal) ℓ)
    (ρ : Dev Cert.FoxIdeal.nD → PrngReg)
    (h : ∀ c, Cert.Proof.Fox.RealScores (Cert.FoxIdeal.Array.mix m c) (Cert.FoxIdeal.Array.gates m c)) :
    θ_run (Cert.FoxIdeal.defs (F := Ideal)) (onTc (τ := Cert.FoxIdeal.τ) (Cert.FoxIdeal.main (F := Ideal)))
      ⟨m, fun _ => 0, ρ⟩ (fun r => ∀ c : Dev Cert.FoxIdeal.nD,
        r.2.mem ((c.tc : Thread Cert.FoxIdeal.nD Cert.FoxIdeal.τ).loc Cert.FoxIdeal.main_v1)
          = Cert.Proof.Fox.attn (Cert.FoxIdeal.Array.mix m c) (Cert.FoxIdeal.Array.gates m c)
        ∧ r.2.mem ((c.tc : Thread Cert.FoxIdeal.nD Cert.FoxIdeal.τ).loc Cert.FoxIdeal.main_arg0)
          = m ((c.tc : Thread Cert.FoxIdeal.nD Cert.FoxIdeal.τ).loc Cert.FoxIdeal.main_arg0)
        ∧ r.2.mem ((c.tc : Thread Cert.FoxIdeal.nD Cert.FoxIdeal.τ).loc Cert.FoxIdeal.main_arg1)
          = m ((c.tc : Thread Cert.FoxIdeal.nD Cert.FoxIdeal.τ).loc Cert.FoxIdeal.main_arg1)) :=
  (θ_run _ _ _).mono (fun _ q c => ⟨(q c).1.trans (Cert.FoxIdeal.Array.final_eq m c (h c)), (q c).2⟩)
    (Cert.FoxIdeal.Value.run_blocks m ρ)

theorem foxRef_frame (m : (ℓ : Loc Cert.FoxRefIdeal.nD Cert.FoxRefIdeal.τ Cert.FoxRefIdeal.sig) → Buf (Elt Ideal) ℓ)
    (ρ : Dev Cert.FoxRefIdeal.nD → PrngReg) :
    θ_run (Cert.FoxRefIdeal.defs (F := Ideal)) (onTc (τ := Cert.FoxRefIdeal.τ) (Cert.FoxRefIdeal.main (F := Ideal)))
      ⟨m, fun _ => 0, ρ⟩ (fun r => (∀ c : Dev Cert.FoxRefIdeal.nD,
        r.2.mem ((c.tc : Thread Cert.FoxRefIdeal.nD Cert.FoxRefIdeal.τ).loc Cert.FoxRefIdeal.main_arg0)
          = m ((c.tc : Thread Cert.FoxRefIdeal.nD Cert.FoxRefIdeal.τ).loc Cert.FoxRefIdeal.main_arg0)
        ∧ r.2.mem ((c.tc : Thread Cert.FoxRefIdeal.nD Cert.FoxRefIdeal.τ).loc Cert.FoxRefIdeal.main_arg1)
          = m ((c.tc : Thread Cert.FoxRefIdeal.nD Cert.FoxRefIdeal.τ).loc Cert.FoxRefIdeal.main_arg1))
        ∧ r.2.sem = fun _ => 0) :=
  (θ_run _ _ _).mono (fun r q => ⟨fun c => (q c).2, Idealize.ShloMosaic.sem_eq_zero_of_no_sems (by decide) r.2⟩)
    (Cert.FoxRefIdeal.Value.run m ρ)

theorem fox_algebraic [hP : Cert.Pre_fox_finite.Facts] : Cert.algebraic_FoxIdeal_FoxRefIdeal_pre_fox_finite
    (hFoxIdeal := Cert.FoxIdeal.Gen.facts) (hFoxRefIdeal := Cert.FoxRefIdeal.Gen.facts) (hPre_fox_finite := hP) :=
  fun m ρ m' ρ' hpre hag =>
    have hr : ∀ c, Cert.Proof.Fox.RealScores (Cert.FoxIdeal.Array.mix m c) (Cert.FoxIdeal.Array.gates m c) := fun c =>
      Cert.Pre_fox_finite.Read.scores_real hP _ _ (hpre c)
    ⟨fun c => Cert.Proof.Fox.attn (Cert.FoxIdeal.Array.mix m c) (Cert.FoxIdeal.Array.gates m c),
      fox_run m ρ hr,
      (θ_run _ _ _).mono (fun _ q c => ⟨(q c).1.trans ((Cert.FoxRefIdeal.Ref.res_eq m' c).trans (by
        obtain ⟨h0, h1⟩ := hag c
        rw [h0, h1]
        exact Cert.FoxRefIdeal.Ref.outT_eq _ _ (hr c))), (q c).2⟩)
        (Cert.FoxRefIdeal.Value.run m' ρ')⟩

/-! The memory's attention. -/

theorem recall_run (m : (ℓ : Loc Cert.RecallIdeal.nD Cert.RecallIdeal.τ Cert.RecallIdeal.sig) → Buf (Elt Ideal) ℓ)
    (ρ : Dev Cert.RecallIdeal.nD → PrngReg) :
    θ_run (Cert.RecallIdeal.defs (F := Ideal)) (onTc (τ := Cert.RecallIdeal.τ) (Cert.RecallIdeal.main (F := Ideal)))
      ⟨m, fun _ => 0, ρ⟩ (fun r => ∀ c : Dev Cert.RecallIdeal.nD,
        r.2.mem ((c.tc : Thread Cert.RecallIdeal.nD Cert.RecallIdeal.τ).loc Cert.RecallIdeal.main_v0)
          = Cert.Proof.Recall.attn (Cert.RecallIdeal.Array.mix m c) (Cert.RecallIdeal.Array.pairs m c)
        ∧ r.2.mem ((c.tc : Thread Cert.RecallIdeal.nD Cert.RecallIdeal.τ).loc Cert.RecallIdeal.main_arg0)
          = m ((c.tc : Thread Cert.RecallIdeal.nD Cert.RecallIdeal.τ).loc Cert.RecallIdeal.main_arg0)
        ∧ r.2.mem ((c.tc : Thread Cert.RecallIdeal.nD Cert.RecallIdeal.τ).loc Cert.RecallIdeal.main_arg1)
          = m ((c.tc : Thread Cert.RecallIdeal.nD Cert.RecallIdeal.τ).loc Cert.RecallIdeal.main_arg1)) :=
  (θ_run _ _ _).mono (fun _ q c => ⟨(q c).1.trans (Cert.RecallIdeal.Array.final_eq m c), (q c).2⟩)
    (Cert.RecallIdeal.Value.run_blocks m ρ)

theorem recallRef_frame (m : (ℓ : Loc Cert.RecallRefIdeal.nD Cert.RecallRefIdeal.τ Cert.RecallRefIdeal.sig) → Buf (Elt Ideal) ℓ)
    (ρ : Dev Cert.RecallRefIdeal.nD → PrngReg) :
    θ_run (Cert.RecallRefIdeal.defs (F := Ideal)) (onTc (τ := Cert.RecallRefIdeal.τ) (Cert.RecallRefIdeal.main (F := Ideal)))
      ⟨m, fun _ => 0, ρ⟩ (fun r => (∀ c : Dev Cert.RecallRefIdeal.nD,
        r.2.mem ((c.tc : Thread Cert.RecallRefIdeal.nD Cert.RecallRefIdeal.τ).loc Cert.RecallRefIdeal.main_arg0)
          = m ((c.tc : Thread Cert.RecallRefIdeal.nD Cert.RecallRefIdeal.τ).loc Cert.RecallRefIdeal.main_arg0)
        ∧ r.2.mem ((c.tc : Thread Cert.RecallRefIdeal.nD Cert.RecallRefIdeal.τ).loc Cert.RecallRefIdeal.main_arg1)
          = m ((c.tc : Thread Cert.RecallRefIdeal.nD Cert.RecallRefIdeal.τ).loc Cert.RecallRefIdeal.main_arg1))
        ∧ r.2.sem = fun _ => 0) :=
  (θ_run _ _ _).mono (fun r q => ⟨fun c => (q c).2, Idealize.ShloMosaic.sem_eq_zero_of_no_sems (by decide) r.2⟩)
    (Cert.RecallRefIdeal.Value.run m ρ)

theorem recall_algebraic [hP : Cert.Pre_mem_finite.Facts] : Cert.algebraic_RecallIdeal_RecallRefIdeal_pre_mem_finite
    (hRecallIdeal := Cert.RecallIdeal.Gen.facts) (hRecallRefIdeal := Cert.RecallRefIdeal.Gen.facts) (hPre_mem_finite := hP) :=
  fun m ρ m' ρ' hpre hag =>
    have hr : ∀ c, Cert.Proof.Recall.RealScores (Cert.RecallIdeal.Array.mix m c) (Cert.RecallIdeal.Array.pairs m c) := fun c =>
      Cert.Pre_mem_finite.Read.scores_real hP _ _ (hpre c)
    ⟨fun c => Cert.Proof.Recall.attn (Cert.RecallIdeal.Array.mix m c) (Cert.RecallIdeal.Array.pairs m c),
      recall_run m ρ,
      (θ_run _ _ _).mono (fun _ q c => ⟨(q c).1.trans ((Cert.RecallRefIdeal.Ref.res_eq m' c).trans (by
        obtain ⟨h0, h1⟩ := hag c
        rw [h0, h1]
        exact Cert.RecallRefIdeal.Ref.outT_eq _ _ (hr c))), (q c).2⟩)
        (Cert.RecallRefIdeal.Value.run m' ρ')⟩

/-! The memory's attention. -/

theorem recallw_run (m : (ℓ : Loc Cert.RecallWIdeal.nD Cert.RecallWIdeal.τ Cert.RecallWIdeal.sig) → Buf (Elt Ideal) ℓ)
    (ρ : Dev Cert.RecallWIdeal.nD → PrngReg) :
    θ_run (Cert.RecallWIdeal.defs (F := Ideal)) (onTc (τ := Cert.RecallWIdeal.τ) (Cert.RecallWIdeal.main (F := Ideal)))
      ⟨m, fun _ => 0, ρ⟩ (fun r => ∀ c : Dev Cert.RecallWIdeal.nD,
        r.2.mem ((c.tc : Thread Cert.RecallWIdeal.nD Cert.RecallWIdeal.τ).loc Cert.RecallWIdeal.main_v0)
          = Cert.Proof.RecallW.attn (Cert.RecallWIdeal.Array.mix m c) (Cert.RecallWIdeal.Array.pairs m c)
        ∧ r.2.mem ((c.tc : Thread Cert.RecallWIdeal.nD Cert.RecallWIdeal.τ).loc Cert.RecallWIdeal.main_arg0)
          = m ((c.tc : Thread Cert.RecallWIdeal.nD Cert.RecallWIdeal.τ).loc Cert.RecallWIdeal.main_arg0)
        ∧ r.2.mem ((c.tc : Thread Cert.RecallWIdeal.nD Cert.RecallWIdeal.τ).loc Cert.RecallWIdeal.main_arg1)
          = m ((c.tc : Thread Cert.RecallWIdeal.nD Cert.RecallWIdeal.τ).loc Cert.RecallWIdeal.main_arg1)) :=
  (θ_run _ _ _).mono (fun _ q c => ⟨(q c).1.trans (Cert.RecallWIdeal.Array.final_eq m c), (q c).2⟩)
    (Cert.RecallWIdeal.Value.run_blocks m ρ)

theorem recallwRef_frame (m : (ℓ : Loc Cert.RecallWRefIdeal.nD Cert.RecallWRefIdeal.τ Cert.RecallWRefIdeal.sig) → Buf (Elt Ideal) ℓ)
    (ρ : Dev Cert.RecallWRefIdeal.nD → PrngReg) :
    θ_run (Cert.RecallWRefIdeal.defs (F := Ideal)) (onTc (τ := Cert.RecallWRefIdeal.τ) (Cert.RecallWRefIdeal.main (F := Ideal)))
      ⟨m, fun _ => 0, ρ⟩ (fun r => (∀ c : Dev Cert.RecallWRefIdeal.nD,
        r.2.mem ((c.tc : Thread Cert.RecallWRefIdeal.nD Cert.RecallWRefIdeal.τ).loc Cert.RecallWRefIdeal.main_arg0)
          = m ((c.tc : Thread Cert.RecallWRefIdeal.nD Cert.RecallWRefIdeal.τ).loc Cert.RecallWRefIdeal.main_arg0)
        ∧ r.2.mem ((c.tc : Thread Cert.RecallWRefIdeal.nD Cert.RecallWRefIdeal.τ).loc Cert.RecallWRefIdeal.main_arg1)
          = m ((c.tc : Thread Cert.RecallWRefIdeal.nD Cert.RecallWRefIdeal.τ).loc Cert.RecallWRefIdeal.main_arg1))
        ∧ r.2.sem = fun _ => 0) :=
  (θ_run _ _ _).mono (fun r q => ⟨fun c => (q c).2, Idealize.ShloMosaic.sem_eq_zero_of_no_sems (by decide) r.2⟩)
    (Cert.RecallWRefIdeal.Value.run m ρ)

theorem recallw_algebraic [hP : Cert.Pre_mem_w_finite.Facts] : Cert.algebraic_RecallWIdeal_RecallWRefIdeal_pre_mem_w_finite
    (hRecallWIdeal := Cert.RecallWIdeal.Gen.facts) (hRecallWRefIdeal := Cert.RecallWRefIdeal.Gen.facts) (hPre_mem_w_finite := hP) :=
  fun m ρ m' ρ' hpre hag =>
    have hr : ∀ c, Cert.Proof.RecallW.RealScores (Cert.RecallWIdeal.Array.mix m c) (Cert.RecallWIdeal.Array.pairs m c) := fun c =>
      Cert.Pre_mem_w_finite.Read.scores_real hP _ _ (hpre c)
    ⟨fun c => Cert.Proof.RecallW.attn (Cert.RecallWIdeal.Array.mix m c) (Cert.RecallWIdeal.Array.pairs m c),
      recallw_run m ρ,
      (θ_run _ _ _).mono (fun _ q c => ⟨(q c).1.trans ((Cert.RecallWRefIdeal.Ref.res_eq m' c).trans (by
        obtain ⟨h0, h1⟩ := hag c
        rw [h0, h1]
        exact Cert.RecallWRefIdeal.Ref.outT_eq _ _ (hr c))), (q c).2⟩)
        (Cert.RecallWRefIdeal.Value.run m' ρ')⟩

/-! The memory's attention. -/

theorem recalll_run (m : (ℓ : Loc Cert.RecallLIdeal.nD Cert.RecallLIdeal.τ Cert.RecallLIdeal.sig) → Buf (Elt Ideal) ℓ)
    (ρ : Dev Cert.RecallLIdeal.nD → PrngReg) :
    θ_run (Cert.RecallLIdeal.defs (F := Ideal)) (onTc (τ := Cert.RecallLIdeal.τ) (Cert.RecallLIdeal.main (F := Ideal)))
      ⟨m, fun _ => 0, ρ⟩ (fun r => ∀ c : Dev Cert.RecallLIdeal.nD,
        r.2.mem ((c.tc : Thread Cert.RecallLIdeal.nD Cert.RecallLIdeal.τ).loc Cert.RecallLIdeal.main_v0)
          = Cert.Proof.RecallL.attn (Cert.RecallLIdeal.Array.mix m c) (Cert.RecallLIdeal.Array.pairs m c)
        ∧ r.2.mem ((c.tc : Thread Cert.RecallLIdeal.nD Cert.RecallLIdeal.τ).loc Cert.RecallLIdeal.main_arg0)
          = m ((c.tc : Thread Cert.RecallLIdeal.nD Cert.RecallLIdeal.τ).loc Cert.RecallLIdeal.main_arg0)
        ∧ r.2.mem ((c.tc : Thread Cert.RecallLIdeal.nD Cert.RecallLIdeal.τ).loc Cert.RecallLIdeal.main_arg1)
          = m ((c.tc : Thread Cert.RecallLIdeal.nD Cert.RecallLIdeal.τ).loc Cert.RecallLIdeal.main_arg1)) :=
  (θ_run _ _ _).mono (fun _ q c => ⟨(q c).1.trans (Cert.RecallLIdeal.Array.final_eq m c), (q c).2⟩)
    (Cert.RecallLIdeal.Value.run_blocks m ρ)

theorem recalllRef_frame (m : (ℓ : Loc Cert.RecallLRefIdeal.nD Cert.RecallLRefIdeal.τ Cert.RecallLRefIdeal.sig) → Buf (Elt Ideal) ℓ)
    (ρ : Dev Cert.RecallLRefIdeal.nD → PrngReg) :
    θ_run (Cert.RecallLRefIdeal.defs (F := Ideal)) (onTc (τ := Cert.RecallLRefIdeal.τ) (Cert.RecallLRefIdeal.main (F := Ideal)))
      ⟨m, fun _ => 0, ρ⟩ (fun r => (∀ c : Dev Cert.RecallLRefIdeal.nD,
        r.2.mem ((c.tc : Thread Cert.RecallLRefIdeal.nD Cert.RecallLRefIdeal.τ).loc Cert.RecallLRefIdeal.main_arg0)
          = m ((c.tc : Thread Cert.RecallLRefIdeal.nD Cert.RecallLRefIdeal.τ).loc Cert.RecallLRefIdeal.main_arg0)
        ∧ r.2.mem ((c.tc : Thread Cert.RecallLRefIdeal.nD Cert.RecallLRefIdeal.τ).loc Cert.RecallLRefIdeal.main_arg1)
          = m ((c.tc : Thread Cert.RecallLRefIdeal.nD Cert.RecallLRefIdeal.τ).loc Cert.RecallLRefIdeal.main_arg1))
        ∧ r.2.sem = fun _ => 0) :=
  (θ_run _ _ _).mono (fun r q => ⟨fun c => (q c).2, Idealize.ShloMosaic.sem_eq_zero_of_no_sems (by decide) r.2⟩)
    (Cert.RecallLRefIdeal.Value.run m ρ)

theorem recalll_algebraic [hP : Cert.Pre_mem_l_finite.Facts] : Cert.algebraic_RecallLIdeal_RecallLRefIdeal_pre_mem_l_finite
    (hRecallLIdeal := Cert.RecallLIdeal.Gen.facts) (hRecallLRefIdeal := Cert.RecallLRefIdeal.Gen.facts) (hPre_mem_l_finite := hP) :=
  fun m ρ m' ρ' hpre hag =>
    have hr : ∀ c, Cert.Proof.RecallL.RealScores (Cert.RecallLIdeal.Array.mix m c) (Cert.RecallLIdeal.Array.pairs m c) := fun c =>
      Cert.Pre_mem_l_finite.Read.scores_real hP _ _ (hpre c)
    ⟨fun c => Cert.Proof.RecallL.attn (Cert.RecallLIdeal.Array.mix m c) (Cert.RecallLIdeal.Array.pairs m c),
      recalll_run m ρ,
      (θ_run _ _ _).mono (fun _ q c => ⟨(q c).1.trans ((Cert.RecallLRefIdeal.Ref.res_eq m' c).trans (by
        obtain ⟨h0, h1⟩ := hag c
        rw [h0, h1]
        exact Cert.RecallLRefIdeal.Ref.outT_eq _ _ (hr c))), (q c).2⟩)
        (Cert.RecallLRefIdeal.Value.run m' ρ')⟩

/-! The latent attention's queries. -/

theorem queryRef_frame (m : (ℓ : Loc Cert.QueryRefIdeal.nD Cert.QueryRefIdeal.τ Cert.QueryRefIdeal.sig) → Buf (Elt Ideal) ℓ)
    (ρ : Dev Cert.QueryRefIdeal.nD → PrngReg) :
    θ_run (Cert.QueryRefIdeal.defs (F := Ideal)) (onTc (τ := Cert.QueryRefIdeal.τ) (Cert.QueryRefIdeal.main (F := Ideal)))
      ⟨m, fun _ => 0, ρ⟩ (fun r => (∀ c : Dev Cert.QueryRefIdeal.nD,
        r.2.mem ((c.tc : Thread Cert.QueryRefIdeal.nD Cert.QueryRefIdeal.τ).loc Cert.QueryRefIdeal.main_arg0)
          = m ((c.tc : Thread Cert.QueryRefIdeal.nD Cert.QueryRefIdeal.τ).loc Cert.QueryRefIdeal.main_arg0)
        ∧ r.2.mem ((c.tc : Thread Cert.QueryRefIdeal.nD Cert.QueryRefIdeal.τ).loc Cert.QueryRefIdeal.main_arg1)
          = m ((c.tc : Thread Cert.QueryRefIdeal.nD Cert.QueryRefIdeal.τ).loc Cert.QueryRefIdeal.main_arg1)
        ∧ r.2.mem ((c.tc : Thread Cert.QueryRefIdeal.nD Cert.QueryRefIdeal.τ).loc Cert.QueryRefIdeal.main_arg2)
          = m ((c.tc : Thread Cert.QueryRefIdeal.nD Cert.QueryRefIdeal.τ).loc Cert.QueryRefIdeal.main_arg2)
        ∧ r.2.mem ((c.tc : Thread Cert.QueryRefIdeal.nD Cert.QueryRefIdeal.τ).loc Cert.QueryRefIdeal.main_arg3)
          = m ((c.tc : Thread Cert.QueryRefIdeal.nD Cert.QueryRefIdeal.τ).loc Cert.QueryRefIdeal.main_arg3))
        ∧ r.2.sem = fun _ => 0) :=
  (θ_run _ _ _).mono (fun r q => ⟨fun c => (q c).2, Idealize.ShloMosaic.sem_eq_zero_of_no_sems (by decide) r.2⟩)
    (Cert.QueryRefIdeal.Value.run m ρ)

theorem query_algebraic : Cert.algebraic_QueryIdeal_QueryRefIdeal (hQueryIdeal := Cert.QueryIdeal.Gen.facts)
    (hQueryRefIdeal := Cert.QueryRefIdeal.Gen.facts) :=
  fun m ρ m' ρ' _ hag =>
    ⟨fun c => Cert.QueryIdeal.Array.whole m c,
      (θ_run _ _ _).mono (fun _ q c => ⟨(q c).1.trans (Cert.QueryIdeal.Array.final_eq m c), (q c).2⟩) (Cert.QueryIdeal.Value.run_blocks m ρ),
      (θ_run _ _ _).mono (fun _ q c => ⟨(q c).1.trans (by
        obtain ⟨h0, h1, h2, h3⟩ := hag c
        unfold Cert.QueryRefIdeal.Value.res_main_v33
        rw [h0, h1, h2, h3]
        exact Cert.QueryRefIdeal.Ref.res_eq _ _ _ _), (q c).2⟩) (Cert.QueryRefIdeal.Value.run m' ρ')⟩

/-! The latent attention's keys and values. -/

theorem pairRef_frame (m : (ℓ : Loc Cert.PairRefIdeal.nD Cert.PairRefIdeal.τ Cert.PairRefIdeal.sig) → Buf (Elt Ideal) ℓ)
    (ρ : Dev Cert.PairRefIdeal.nD → PrngReg) :
    θ_run (Cert.PairRefIdeal.defs (F := Ideal)) (onTc (τ := Cert.PairRefIdeal.τ) (Cert.PairRefIdeal.main (F := Ideal)))
      ⟨m, fun _ => 0, ρ⟩ (fun r => (∀ c : Dev Cert.PairRefIdeal.nD,
        r.2.mem ((c.tc : Thread Cert.PairRefIdeal.nD Cert.PairRefIdeal.τ).loc Cert.PairRefIdeal.main_arg0)
          = m ((c.tc : Thread Cert.PairRefIdeal.nD Cert.PairRefIdeal.τ).loc Cert.PairRefIdeal.main_arg0)
        ∧ r.2.mem ((c.tc : Thread Cert.PairRefIdeal.nD Cert.PairRefIdeal.τ).loc Cert.PairRefIdeal.main_arg1)
          = m ((c.tc : Thread Cert.PairRefIdeal.nD Cert.PairRefIdeal.τ).loc Cert.PairRefIdeal.main_arg1)
        ∧ r.2.mem ((c.tc : Thread Cert.PairRefIdeal.nD Cert.PairRefIdeal.τ).loc Cert.PairRefIdeal.main_arg2)
          = m ((c.tc : Thread Cert.PairRefIdeal.nD Cert.PairRefIdeal.τ).loc Cert.PairRefIdeal.main_arg2)
        ∧ r.2.mem ((c.tc : Thread Cert.PairRefIdeal.nD Cert.PairRefIdeal.τ).loc Cert.PairRefIdeal.main_arg3)
          = m ((c.tc : Thread Cert.PairRefIdeal.nD Cert.PairRefIdeal.τ).loc Cert.PairRefIdeal.main_arg3))
        ∧ r.2.sem = fun _ => 0) :=
  (θ_run _ _ _).mono (fun r q => ⟨fun c => (q c).2.2, Idealize.ShloMosaic.sem_eq_zero_of_no_sems (by decide) r.2⟩)
    (Cert.PairRefIdeal.Value.run m ρ)

theorem pair_algebraic : Cert.algebraic_PairIdeal_PairRefIdeal (hPairIdeal := Cert.PairIdeal.Gen.facts)
    (hPairRefIdeal := Cert.PairRefIdeal.Gen.facts) :=
  fun m ρ m' ρ' _ hag =>
    ⟨fun c => Cert.PairIdeal.Array.wholeK m c, fun c => Cert.PairIdeal.Array.wholeV m c,
      (θ_run _ _ _).mono (fun _ q c => ⟨(q c).1.trans (Cert.PairIdeal.Array.finalK m c),
        (q c).2.1.trans (Cert.PairIdeal.Array.finalV m c), (q c).2.2⟩) (Cert.PairIdeal.Value.run_blocks m ρ),
      (θ_run _ _ _).mono (fun _ q c => ⟨(q c).1.trans (by
        obtain ⟨h0, h1, h2, h3⟩ := hag c
        rw [h0, h1, h2, h3]
        exact Cert.PairRefIdeal.Ref.keys_eq _ _ _ _), (q c).2.1.trans (by
        obtain ⟨h0, h1, h2, h3⟩ := hag c
        rw [h0, h1, h2]
        exact Cert.PairRefIdeal.Ref.vals_eq _ _ _), (q c).2.2⟩) (Cert.PairRefIdeal.Value.run m' ρ')⟩

/-! The table of the rotation's angles. -/

theorem ropeRef_frame (m : (ℓ : Loc Cert.RopeRefIdeal.nD Cert.RopeRefIdeal.τ Cert.RopeRefIdeal.sig) → Buf (Elt Ideal) ℓ)
    (ρ : Dev Cert.RopeRefIdeal.nD → PrngReg) :
    θ_run (Cert.RopeRefIdeal.defs (F := Ideal)) (onTc (τ := Cert.RopeRefIdeal.τ) (Cert.RopeRefIdeal.main (F := Ideal)))
      ⟨m, fun _ => 0, ρ⟩ (fun r => (∀ c : Dev Cert.RopeRefIdeal.nD,
        r.2.mem ((c.tc : Thread Cert.RopeRefIdeal.nD Cert.RopeRefIdeal.τ).loc Cert.RopeRefIdeal.main_arg0)
          = m ((c.tc : Thread Cert.RopeRefIdeal.nD Cert.RopeRefIdeal.τ).loc Cert.RopeRefIdeal.main_arg0))
        ∧ r.2.sem = fun _ => 0) :=
  (θ_run _ _ _).mono (fun r q => ⟨fun c => (q c).2, Idealize.ShloMosaic.sem_eq_zero_of_no_sems (by decide) r.2⟩)
    (Cert.RopeRefIdeal.Value.run m ρ)

theorem rope_algebraic : Cert.algebraic_RopeIdeal_RopeRefIdeal (hRopeIdeal := Cert.RopeIdeal.Gen.facts)
    (hRopeRefIdeal := Cert.RopeRefIdeal.Gen.facts) :=
  fun m ρ m' ρ' _ hag =>
    ⟨fun c => Cert.RopeIdeal.Array.total m c,
      (θ_run _ _ _).mono (fun _ q c => ⟨(q c).1.trans (Cert.RopeIdeal.Array.final_eq m c), (q c).2⟩) (Cert.RopeIdeal.Value.run_blocks m ρ),
      (θ_run _ _ _).mono (fun _ q c => ⟨(q c).1.trans (by
        have h0 := hag c
        rw [h0]
        exact Cert.RopeRefIdeal.Ref.res_eq _), (q c).2⟩) (Cert.RopeRefIdeal.Value.run m' ρ')⟩

theorem claim : Cert.Claim := ⟨Cert.Stick.Gen.facts, Cert.StickIdeal.Gen.facts, Cert.StickRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.Proj.Gen.facts, Cert.ProjIdeal.Gen.facts, Cert.ProjRefIdeal.Gen.facts,
  Cert.Swa.Gen.facts, Cert.SwaIdeal.Gen.facts, Cert.SwaRefIdeal.Gen.facts,
  Cert.Lat.Gen.facts, Cert.LatIdeal.Gen.facts, Cert.LatRefIdeal.Gen.facts,
  Cert.Mla.Gen.facts, Cert.MlaIdeal.Gen.facts, Cert.MlaRefIdeal.Gen.facts,
  Cert.Fox.Gen.facts, Cert.FoxIdeal.Gen.facts, Cert.FoxRefIdeal.Gen.facts,
  Cert.Key.Gen.facts, Cert.KeyIdeal.Gen.facts, Cert.KeyRefIdeal.Gen.facts,
  Cert.Gate.Gen.facts, Cert.GateIdeal.Gen.facts, Cert.GateRefIdeal.Gen.facts,
  Cert.Fin.Gen.facts, Cert.FinIdeal.Gen.facts, Cert.FinRefIdeal.Gen.facts,
  Cert.Recall.Gen.facts, Cert.RecallIdeal.Gen.facts, Cert.RecallRefIdeal.Gen.facts,
  Cert.RecallW.Gen.facts, Cert.RecallWIdeal.Gen.facts, Cert.RecallWRefIdeal.Gen.facts,
  Cert.RecallL.Gen.facts, Cert.RecallLIdeal.Gen.facts, Cert.RecallLRefIdeal.Gen.facts,
  Cert.Query.Gen.facts, Cert.QueryIdeal.Gen.facts, Cert.QueryRefIdeal.Gen.facts,
  Cert.Pair.Gen.facts, Cert.PairIdeal.Gen.facts, Cert.PairRefIdeal.Gen.facts,
  Cert.Rope.Gen.facts, Cert.RopeIdeal.Gen.facts, Cert.RopeRefIdeal.Gen.facts,
  Cert.Pre_sb_finite.Gen.facts, Cert.Pre_mla_finite.Gen.facts, Cert.Pre_fox_finite.Gen.facts,
  Cert.Pre_mem_finite.Gen.facts, Cert.Pre_mem_w_finite.Gen.facts, Cert.Pre_mem_l_finite.Gen.facts,
  fun m ρ _ => Cert.Stick.Gen.frame m ρ,
  fun m ρ _ => Cert.StickIdeal.Gen.frame m ρ,
  fun m ρ _ => Cert.StickIdeal.Gen.frame m ρ,
  fun m ρ _ => stickRef_frame m ρ,
  fun m ρ _ => stickRef_frame m ρ,
  fun m ρ _ => Cert.Up.Gen.frame m ρ,
  fun m ρ _ => Cert.UpIdeal.Gen.frame m ρ,
  fun m ρ _ => upRef_frame m ρ,
  fun m ρ _ => Cert.Down.Gen.frame m ρ,
  fun m ρ _ => Cert.DownIdeal.Gen.frame m ρ,
  fun m ρ _ => downRef_frame m ρ,
  fun m ρ _ => Cert.Out.Gen.frame m ρ,
  fun m ρ _ => Cert.OutIdeal.Gen.frame m ρ,
  fun m ρ _ => outRef_frame m ρ,
  fun m ρ _ => Cert.Proj.Gen.frame m ρ,
  fun m ρ _ => Cert.ProjIdeal.Gen.frame m ρ,
  fun m ρ _ => projRef_frame m ρ,
  fun m ρ _ => Cert.Swa.Gen.frame m ρ,
  fun m ρ _ => Cert.SwaIdeal.Gen.frame m ρ,
  fun m ρ _ => swaRef_frame m ρ,
  fun m ρ _ => Cert.Lat.Gen.frame m ρ,
  fun m ρ _ => Cert.LatIdeal.Gen.frame m ρ,
  fun m ρ _ => latRef_frame m ρ,
  fun m ρ _ => Cert.Mla.Gen.frame m ρ,
  fun m ρ _ => Cert.MlaIdeal.Gen.frame m ρ,
  fun m ρ _ => Cert.MlaIdeal.Gen.frame m ρ,
  fun m ρ _ => mlaRef_frame m ρ,
  fun m ρ _ => mlaRef_frame m ρ,
  fun m ρ _ => Cert.Fox.Gen.frame m ρ,
  fun m ρ _ => Cert.FoxIdeal.Gen.frame m ρ,
  fun m ρ _ => Cert.FoxIdeal.Gen.frame m ρ,
  fun m ρ _ => foxRef_frame m ρ,
  fun m ρ _ => foxRef_frame m ρ,
  fun m ρ _ => Cert.Key.Gen.frame m ρ,
  fun m ρ _ => Cert.KeyIdeal.Gen.frame m ρ,
  fun m ρ _ => keyRef_frame m ρ,
  fun m ρ _ => Cert.Gate.Gen.frame m ρ,
  fun m ρ _ => Cert.GateIdeal.Gen.frame m ρ,
  fun m ρ _ => gateRef_frame m ρ,
  fun m ρ _ => Cert.Fin.Gen.frame m ρ,
  fun m ρ _ => Cert.FinIdeal.Gen.frame m ρ,
  fun m ρ _ => finRef_frame m ρ,
  fun m ρ _ => Cert.Recall.Gen.frame m ρ,
  fun m ρ _ => Cert.RecallIdeal.Gen.frame m ρ,
  fun m ρ _ => Cert.RecallIdeal.Gen.frame m ρ,
  fun m ρ _ => recallRef_frame m ρ,
  fun m ρ _ => recallRef_frame m ρ,
  fun m ρ _ => Cert.RecallW.Gen.frame m ρ,
  fun m ρ _ => Cert.RecallWIdeal.Gen.frame m ρ,
  fun m ρ _ => Cert.RecallWIdeal.Gen.frame m ρ,
  fun m ρ _ => recallwRef_frame m ρ,
  fun m ρ _ => recallwRef_frame m ρ,
  fun m ρ _ => Cert.RecallL.Gen.frame m ρ,
  fun m ρ _ => Cert.RecallLIdeal.Gen.frame m ρ,
  fun m ρ _ => Cert.RecallLIdeal.Gen.frame m ρ,
  fun m ρ _ => recalllRef_frame m ρ,
  fun m ρ _ => recalllRef_frame m ρ,
  fun m ρ _ => Cert.Query.Gen.frame m ρ,
  fun m ρ _ => Cert.QueryIdeal.Gen.frame m ρ,
  fun m ρ _ => queryRef_frame m ρ,
  fun m ρ _ => Cert.Pair.Gen.frame m ρ,
  fun m ρ _ => Cert.PairIdeal.Gen.frame m ρ,
  fun m ρ _ => pairRef_frame m ρ,
  fun m ρ _ => Cert.Rope.Gen.frame m ρ,
  fun m ρ _ => Cert.RopeIdeal.Gen.frame m ρ,
  fun m ρ _ => ropeRef_frame m ρ,
  trivial,
  stick_algebraic,
  trivial,
  up_algebraic,
  trivial,
  down_algebraic,
  trivial,
  out_algebraic,
  trivial,
  proj_algebraic,
  trivial,
  swa_algebraic,
  trivial,
  lat_algebraic,
  trivial,
  mla_algebraic,
  trivial,
  fox_algebraic,
  trivial,
  key_algebraic,
  trivial,
  gate_algebraic,
  trivial,
  fin_algebraic,
  trivial,
  recall_algebraic,
  trivial,
  recallw_algebraic,
  trivial,
  recalll_algebraic,
  trivial,
  query_algebraic,
  trivial,
  pair_algebraic,
  trivial,
  rope_algebraic⟩

end Cert.Proof

end
